-- ==== Defs.lean ====
def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilIdeal_finite [hPre_finite : Cert.Pre_finite.Facts] (m : (ℓ : Loc Cert.DilIdeal.nD Cert.DilIdeal.τ Cert.DilIdeal.sig) → Buf (Elt Ideal) ℓ) : Prop :=
  ∀ c : Dev Cert.DilIdeal.nD,
    (Cert.Pre_finite.fn (F := Ideal) (m ((c.tc : Thread Cert.DilIdeal.nD Cert.DilIdeal.τ).loc Cert.DilIdeal.main_arg0))) = (fun _ => 1#1)

def Pre_DilRefIdeal (m : (ℓ : Loc Cert.DilRefIdeal.nD Cert.DilRefIdeal.τ Cert.DilRefIdeal.sig) → Buf (Elt Ideal) ℓ) : Prop :=
  True

def Pre_DilRefIdeal_finite [hPre_finite : Cert.Pre_finite.Facts] (m : (ℓ : Loc Cert.DilRefIdeal.nD Cert.DilRefIdeal.τ Cert.DilRefIdeal.sig) → Buf (Elt Ideal) ℓ) : Prop :=
  ∀ c : Dev Cert.DilRefIdeal.nD,
    (Cert.Pre_finite.fn (F := Ideal) (m ((c.tc : Thread Cert.DilRefIdeal.nD Cert.DilRefIdeal.τ).loc Cert.DilRefIdeal.main_arg0))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Vals (m : (ℓ : Loc Cert.Vals.nD Cert.Vals.τ Cert.Vals.sig) → Buf (Elt Bits) ℓ) : Prop :=
  True

def Pre_ValsIdeal (m : (ℓ : Loc Cert.ValsIdeal.nD Cert.ValsIdeal.τ Cert.ValsIdeal.sig) → Buf (Elt Ideal) ℓ) : Prop :=
  True

def Pre_ValsRefIdeal (m : (ℓ : Loc Cert.ValsRefIdeal.nD Cert.ValsRefIdeal.τ Cert.ValsRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_Idx (m : (ℓ : Loc Cert.Idx.nD Cert.Idx.τ Cert.Idx.sig) → Buf (Elt Bits) ℓ) : Prop :=
  True

def Pre_IdxIdeal (m : (ℓ : Loc Cert.IdxIdeal.nD Cert.IdxIdeal.τ Cert.IdxIdeal.sig) → Buf (Elt Ideal) ℓ) : Prop :=
  True

def Pre_IdxRefIdeal (m : (ℓ : Loc Cert.IdxRefIdeal.nD Cert.IdxRefIdeal.τ Cert.IdxRefIdeal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_Qkv1RefIdeal (m : (ℓ : Loc Cert.Qkv1RefIdeal.nD Cert.Qkv1RefIdeal.τ Cert.Qkv1RefIdeal.sig) → Buf (Elt Ideal) ℓ) : Prop :=
  True

def Pre_Qkv4 (m : (ℓ : Loc Cert.Qkv4.nD Cert.Qkv4.τ Cert.Qkv4.sig) → Buf (Elt Bits) ℓ) : Prop :=
  True

def Pre_Qkv4Ideal (m : (ℓ : Loc Cert.Qkv4Ideal.nD Cert.Qkv4Ideal.τ Cert.Qkv4Ideal.sig) → Buf (Elt Ideal) ℓ) : Prop :=
  True

def Pre_Qkv4RefIdeal (m : (ℓ : Loc Cert.Qkv4RefIdeal.nD Cert.Qkv4RefIdeal.τ Cert.Qkv4RefIdeal.sig) → Buf (Elt Ideal) ℓ) : Prop :=
  True

def Pre_Qkv16 (m : (ℓ : Loc Cert.Qkv16.nD Cert.Qkv16.τ Cert.Qkv16.sig) → Buf (Elt Bits) ℓ) : Prop :=
  True

def Pre_Qkv16Ideal (m : (ℓ : Loc Cert.Qkv16Ideal.nD Cert.Qkv16Ideal.τ Cert.Qkv16Ideal.sig) → Buf (Elt Ideal) ℓ) : Prop :=
  True

def Pre_Qkv16RefIdeal (m : (ℓ : Loc Cert.Qkv16RefIdeal.nD Cert.Qkv16RefIdeal.τ Cert.Qkv16RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dil4 (m : (ℓ : Loc Cert.Dil4.nD Cert.Dil4.τ Cert.Dil4.sig) → Buf (Elt Bits) ℓ) : Prop :=
  True

def Pre_Dil4Ideal (m : (ℓ : Loc Cert.Dil4Ideal.nD Cert.Dil4Ideal.τ Cert.Dil4Ideal.sig) → Buf (Elt Ideal) ℓ) : Prop :=
  True

def Pre_Dil4Ideal_finite4 [hPre_finite4 : Cert.Pre_finite4.Facts] (m : (ℓ : Loc Cert.Dil4Ideal.nD Cert.Dil4Ideal.τ Cert.Dil4Ideal.sig) → Buf (Elt Ideal) ℓ) : Prop :=
  ∀ c : Dev Cert.Dil4Ideal.nD,
    (Cert.Pre_finite4.fn (F := Ideal) (m ((c.tc : Thread Cert.Dil4Ideal.nD Cert.Dil4Ideal.τ).loc Cert.Dil4Ideal.main_arg0))) = (fun _ => 1#1)

def Pre_Dil4RefIdeal (m : (ℓ : Loc Cert.Dil4RefIdeal.nD Cert.Dil4RefIdeal.τ Cert.Dil4RefIdeal.sig) → Buf (Elt Ideal) ℓ) : Prop :=
  True

def Pre_Dil4RefIdeal_finite4 [hPre_finite4 : Cert.Pre_finite4.Facts] (m : (ℓ : Loc Cert.Dil4RefIdeal.nD Cert.Dil4RefIdeal.τ Cert.Dil4RefIdeal.sig) → Buf (Elt Ideal) ℓ) : Prop :=
  ∀ c : Dev Cert.Dil4RefIdeal.nD,
    (Cert.Pre_finite4.fn (F := Ideal) (m ((c.tc : Thread Cert.Dil4RefIdeal.nD Cert.Dil4RefIdeal.τ).loc Cert.Dil4RefIdeal.main_arg0))) = (fun _ => 1#1)

def Pre_Dil1 (m : (ℓ : Loc Cert.Dil1.nD Cert.Dil1.τ Cert.Dil1.sig) → Buf (Elt Bits) ℓ) : Prop :=
  True

def Pre_Dil1Ideal (m : (ℓ : Loc Cert.Dil1Ideal.nD Cert.Dil1Ideal.τ Cert.Dil1Ideal.sig) → Buf (Elt Ideal) ℓ) : Prop :=
  True

def Pre_Dil1Ideal_finite1 [hPre_finite1 : Cert.Pre_finite1.Facts] (m : (ℓ : Loc Cert.Dil1Ideal.nD Cert.Dil1Ideal.τ Cert.Dil1Ideal.sig) → Buf (Elt Ideal) ℓ) : Prop :=
  ∀ c : Dev Cert.Dil1Ideal.nD,
    (Cert.Pre_finite1.fn (F := Ideal) (m ((c.tc : Thread Cert.Dil1Ideal.nD Cert.Dil1Ideal.τ).loc Cert.Dil1Ideal.main_arg0))) = (fun _ => 1#1)

def Pre_Dil1RefIdeal (m : (ℓ : Loc Cert.Dil1RefIdeal.nD Cert.Dil1RefIdeal.τ Cert.Dil1RefIdeal.sig) → Buf (Elt Ideal) ℓ) : Prop :=
  True

def Pre_Dil1RefIdeal_finite1 [hPre_finite1 : Cert.Pre_finite1.Facts] (m : (ℓ : Loc Cert.Dil1RefIdeal.nD Cert.Dil1RefIdeal.τ Cert.Dil1RefIdeal.sig) → Buf (Elt Ideal) ℓ) : Prop :=
  ∀ c : Dev Cert.Dil1RefIdeal.nD,
    (Cert.Pre_finite1.fn (F := Ideal) (m ((c.tc : Thread Cert.Dil1RefIdeal.nD Cert.Dil1RefIdeal.τ).loc Cert.Dil1RefIdeal.main_arg0))) = (fun _ => 1#1)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0))
      ∧ r.2.sem = fun _ => 0)

def quiescent_DilIdeal_pre_finite [hDilIdeal : Cert.DilIdeal.Facts] [hPre_finite : Cert.Pre_finite.Facts] : Prop :=
  ∀ (m : (ℓ : Loc Cert.DilIdeal.nD Cert.DilIdeal.τ Cert.DilIdeal.sig) → Buf (Elt Ideal) ℓ) (g : Dev Cert.DilIdeal.nD → PrngReg), Pre_DilIdeal_finite m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0))
      ∧ r.2.sem = fun _ => 0)

def quiescent_DilRefIdeal [hDilRefIdeal : Cert.DilRefIdeal.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0))
      ∧ r.2.sem = fun _ => 0)

def quiescent_DilRefIdeal_pre_finite [hDilRefIdeal : Cert.DilRefIdeal.Facts] [hPre_finite : Cert.Pre_finite.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal_finite m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Vals [hVals : Cert.Vals.Facts] : Prop :=
  ∀ (m : (ℓ : Loc Cert.Vals.nD Cert.Vals.τ Cert.Vals.sig) → Buf (Elt Bits) ℓ) (g : Dev Cert.Vals.nD → PrngReg), Pre_Vals m →
    θ_run (Cert.Vals.defs (F := Bits)) (onTc (τ := Cert.Vals.τ) (Cert.Vals.main (F := Bits))) ⟨m, fun _ => 0, g⟩ (fun r => (∀ c : Dev Cert.Vals.nD,
      r.2.mem ((c.tc : Thread Cert.Vals.nD Cert.Vals.τ).loc Cert.Vals.main_arg0) = m ((c.tc : Thread Cert.Vals.nD Cert.Vals.τ).loc Cert.Vals.main_arg0)
      ∧ r.2.mem ((c.tc : Thread Cert.Vals.nD Cert.Vals.τ).loc Cert.Vals.main_arg1) = m ((c.tc : Thread Cert.Vals.nD Cert.Vals.τ).loc Cert.Vals.main_arg1))
      ∧ r.2.sem = fun _ => 0)

def quiescent_ValsIdeal [hValsIdeal : Cert.ValsIdeal.Facts] : Prop :=
  ∀ (m : (ℓ : Loc Cert.ValsIdeal.nD Cert.ValsIdeal.τ Cert.ValsIdeal.sig) → Buf (Elt Ideal) ℓ) (g : Dev Cert.ValsIdeal.nD → PrngReg), Pre_ValsIdeal m →
    θ_run (Cert.ValsIdeal.defs (F := Ideal)) (onTc (τ := Cert.ValsIdeal.τ) (Cert.ValsIdeal.main (F := Ideal))) ⟨m, fun _ => 0, g⟩ (fun r => (∀ c : Dev Cert.ValsIdeal.nD,
      r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
      ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1))
      ∧ r.2.sem = fun _ => 0)

def quiescent_ValsRefIdeal [hValsRefIdeal : Cert.ValsRefIdeal.Facts] : Prop :=
  ∀ (m : (ℓ : Loc Cert.ValsRefIdeal.nD Cert.ValsRefIdeal.τ Cert.ValsRefIdeal.sig) → Buf (Elt Ideal) ℓ) (g : Dev Cert.ValsRefIdeal.nD → PrngReg), Pre_ValsRefIdeal m →
    θ_run (Cert.ValsRefIdeal.defs (F := Ideal)) (onTc (τ := Cert.ValsRefIdeal.τ) (Cert.ValsRefIdeal.main (F := Ideal))) ⟨m, fun _ => 0, g⟩ (fun r => (∀ c : Dev Cert.ValsRefIdeal.nD,
      r.2.mem ((c.tc : Thread Cert.ValsRefIdeal.nD Cert.ValsRefIdeal.τ).loc Cert.ValsRefIdeal.main_arg0) = m ((c.tc : Thread Cert.ValsRefIdeal.nD Cert.ValsRefIdeal.τ).loc Cert.ValsRefIdeal.main_arg0)
      ∧ r.2.mem ((c.tc : Thread Cert.ValsRefIdeal.nD Cert.ValsRefIdeal.τ).loc Cert.ValsRefIdeal.main_arg1) = m ((c.tc : Thread Cert.ValsRefIdeal.nD Cert.ValsRefIdeal.τ).loc Cert.ValsRefIdeal.main_arg1))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1))
      ∧ r.2.sem = fun _ => 0)

def quiescent_Idx [hIdx : Cert.Idx.Facts] : Prop :=
  ∀ (m : (ℓ : Loc Cert.Idx.nD Cert.Idx.τ Cert.Idx.sig) → Buf (Elt Bits) ℓ) (g : Dev Cert.Idx.nD → PrngReg), Pre_Idx m →
    θ_run (Cert.Idx.defs (F := Bits)) (onTc (τ := Cert.Idx.τ) (Cert.Idx.main (F := Bits))) ⟨m, fun _ => 0, g⟩ (fun r => (∀ c : Dev Cert.Idx.nD,
      r.2.mem ((c.tc : Thread Cert.Idx.nD Cert.Idx.τ).loc Cert.Idx.main_arg0) = m ((c.tc : Thread Cert.Idx.nD Cert.Idx.τ).loc Cert.Idx.main_arg0)
      ∧ r.2.mem ((c.tc : Thread Cert.Idx.nD Cert.Idx.τ).loc Cert.Idx.main_arg1) = m ((c.tc : Thread Cert.Idx.nD Cert.Idx.τ).loc Cert.Idx.main_arg1))
      ∧ r.2.sem = fun _ => 0)

def quiescent_IdxIdeal [hIdxIdeal : Cert.IdxIdeal.Facts] : Prop :=
  ∀ (m : (ℓ : Loc Cert.IdxIdeal.nD Cert.IdxIdeal.τ Cert.IdxIdeal.sig) → Buf (Elt Ideal) ℓ) (g : Dev Cert.IdxIdeal.nD → PrngReg), Pre_IdxIdeal m →
    θ_run (Cert.IdxIdeal.defs (F := Ideal)) (onTc (τ := Cert.IdxIdeal.τ) (Cert.IdxIdeal.main (F := Ideal))) ⟨m, fun _ => 0, g⟩ (fun r => (∀ c : Dev Cert.IdxIdeal.nD,
      r.2.mem ((c.tc : Thread Cert.IdxIdeal.nD Cert.IdxIdeal.τ).loc Cert.IdxIdeal.main_arg0) = m ((c.tc : Thread Cert.IdxIdeal.nD Cert.IdxIdeal.τ).loc Cert.IdxIdeal.main_arg0)
      ∧ r.2.mem ((c.tc : Thread Cert.IdxIdeal.nD Cert.IdxIdeal.τ).loc Cert.IdxIdeal.main_arg1) = m ((c.tc : Thread Cert.IdxIdeal.nD Cert.IdxIdeal.τ).loc Cert.IdxIdeal.main_arg1))
      ∧ r.2.sem = fun _ => 0)

def quiescent_IdxRefIdeal [hIdxRefIdeal : Cert.IdxRefIdeal.Facts] : Prop :=
  ∀ (m : (ℓ : Loc Cert.IdxRefIdeal.nD Cert.IdxRefIdeal.τ Cert.IdxRefIdeal.sig) → Buf (Elt Ideal) ℓ) (g : Dev Cert.IdxRefIdeal.nD → PrngReg), Pre_IdxRefIdeal m →
    θ_run (Cert.IdxRefIdeal.defs (F := Ideal)) (onTc (τ := Cert.IdxRefIdeal.τ) (Cert.IdxRefIdeal.main (F := Ideal))) ⟨m, fun _ => 0, g⟩ (fun r => (∀ c : Dev Cert.IdxRefIdeal.nD,
      r.2.mem ((c.tc : Thread Cert.IdxRefIdeal.nD Cert.IdxRefIdeal.τ).loc Cert.IdxRefIdeal.main_arg0) = m ((c.tc : Thread Cert.IdxRefIdeal.nD Cert.IdxRefIdeal.τ).loc Cert.IdxRefIdeal.main_arg0)
      ∧ r.2.mem ((c.tc : Thread Cert.IdxRefIdeal.nD Cert.IdxRefIdeal.τ).loc Cert.IdxRefIdeal.main_arg1) = m ((c.tc : Thread Cert.IdxRefIdeal.nD Cert.IdxRefIdeal.τ).loc Cert.IdxRefIdeal.main_arg1))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ r.2.sem = fun _ => 0)

def quiescent_Qkv1RefIdeal [hQkv1RefIdeal : Cert.Qkv1RefIdeal.Facts] : Prop :=
  ∀ (m : (ℓ : Loc Cert.Qkv1RefIdeal.nD Cert.Qkv1RefIdeal.τ Cert.Qkv1RefIdeal.sig) → Buf (Elt Ideal) ℓ) (g : Dev Cert.Qkv1RefIdeal.nD → PrngReg), Pre_Qkv1RefIdeal m →
    θ_run (Cert.Qkv1RefIdeal.defs (F := Ideal)) (onTc (τ := Cert.Qkv1RefIdeal.τ) (Cert.Qkv1RefIdeal.main (F := Ideal))) ⟨m, fun _ => 0, g⟩ (fun r => (∀ c : Dev Cert.Qkv1RefIdeal.nD,
      r.2.mem ((c.tc : Thread Cert.Qkv1RefIdeal.nD Cert.Qkv1RefIdeal.τ).loc Cert.Qkv1RefIdeal.main_arg0) = m ((c.tc : Thread Cert.Qkv1RefIdeal.nD Cert.Qkv1RefIdeal.τ).loc Cert.Qkv1RefIdeal.main_arg0)
      ∧ r.2.mem ((c.tc : Thread Cert.Qkv1RefIdeal.nD Cert.Qkv1RefIdeal.τ).loc Cert.Qkv1RefIdeal.main_arg1) = m ((c.tc : Thread Cert.Qkv1RefIdeal.nD Cert.Qkv1RefIdeal.τ).loc Cert.Qkv1RefIdeal.main_arg1))
      ∧ r.2.sem = fun _ => 0)

def quiescent_Qkv4 [hQkv4 : Cert.Qkv4.Facts] : Prop :=
  ∀ (m : (ℓ : Loc Cert.Qkv4.nD Cert.Qkv4.τ Cert.Qkv4.sig) → Buf (Elt Bits) ℓ) (g : Dev Cert.Qkv4.nD → PrngReg), Pre_Qkv4 m →
    θ_run (Cert.Qkv4.defs (F := Bits)) (onTc (τ := Cert.Qkv4.τ) (Cert.Qkv4.main (F := Bits))) ⟨m, fun _ => 0, g⟩ (fun r => (∀ c : Dev Cert.Qkv4.nD,
      r.2.mem ((c.tc : Thread Cert.Qkv4.nD Cert.Qkv4.τ).loc Cert.Qkv4.main_arg0) = m ((c.tc : Thread Cert.Qkv4.nD Cert.Qkv4.τ).loc Cert.Qkv4.main_arg0)
      ∧ r.2.mem ((c.tc : Thread Cert.Qkv4.nD Cert.Qkv4.τ).loc Cert.Qkv4.main_arg1) = m ((c.tc : Thread Cert.Qkv4.nD Cert.Qkv4.τ).loc Cert.Qkv4.main_arg1))
      ∧ r.2.sem = fun _ => 0)

def quiescent_Qkv4Ideal [hQkv4Ideal : Cert.Qkv4Ideal.Facts] : Prop :=
  ∀ (m : (ℓ : Loc Cert.Qkv4Ideal.nD Cert.Qkv4Ideal.τ Cert.Qkv4Ideal.sig) → Buf (Elt Ideal) ℓ) (g : Dev Cert.Qkv4Ideal.nD → PrngReg), Pre_Qkv4Ideal m →
    θ_run (Cert.Qkv4Ideal.defs (F := Ideal)) (onTc (τ := Cert.Qkv4Ideal.τ) (Cert.Qkv4Ideal.main (F := Ideal))) ⟨m, fun _ => 0, g⟩ (fun r => (∀ c : Dev Cert.Qkv4Ideal.nD,
      r.2.mem ((c.tc : Thread Cert.Qkv4Ideal.nD Cert.Qkv4Ideal.τ).loc Cert.Qkv4Ideal.main_arg0) = m ((c.tc : Thread Cert.Qkv4Ideal.nD Cert.Qkv4Ideal.τ).loc Cert.Qkv4Ideal.main_arg0)
      ∧ r.2.mem ((c.tc : Thread Cert.Qkv4Ideal.nD Cert.Qkv4Ideal.τ).loc Cert.Qkv4Ideal.main_arg1) = m ((c.tc : Thread Cert.Qkv4Ideal.nD Cert.Qkv4Ideal.τ).loc Cert.Qkv4Ideal.main_arg1))
      ∧ r.2.sem = fun _ => 0)

def quiescent_Qkv4RefIdeal [hQkv4RefIdeal : Cert.Qkv4RefIdeal.Facts] : Prop :=
  ∀ (m : (ℓ : Loc Cert.Qkv4RefIdeal.nD Cert.Qkv4RefIdeal.τ Cert.Qkv4RefIdeal.sig) → Buf (Elt Ideal) ℓ) (g : Dev Cert.Qkv4RefIdeal.nD → PrngReg), Pre_Qkv4RefIdeal m →
    θ_run (Cert.Qkv4RefIdeal.defs (F := Ideal)) (onTc (τ := Cert.Qkv4RefIdeal.τ) (Cert.Qkv4RefIdeal.main (F := Ideal))) ⟨m, fun _ => 0, g⟩ (fun r => (∀ c : Dev Cert.Qkv4RefIdeal.nD,
      r.2.mem ((c.tc : Thread Cert.Qkv4RefIdeal.nD Cert.Qkv4RefIdeal.τ).loc Cert.Qkv4RefIdeal.main_arg0) = m ((c.tc : Thread Cert.Qkv4RefIdeal.nD Cert.Qkv4RefIdeal.τ).loc Cert.Qkv4RefIdeal.main_arg0)
      ∧ r.2.mem ((c.tc : Thread Cert.Qkv4RefIdeal.nD Cert.Qkv4RefIdeal.τ).loc Cert.Qkv4RefIdeal.main_arg1) = m ((c.tc : Thread Cert.Qkv4RefIdeal.nD Cert.Qkv4RefIdeal.τ).loc Cert.Qkv4RefIdeal.main_arg1))
      ∧ r.2.sem = fun _ => 0)

def quiescent_Qkv16 [hQkv16 : Cert.Qkv16.Facts] : Prop :=
  ∀ (m : (ℓ : Loc Cert.Qkv16.nD Cert.Qkv16.τ Cert.Qkv16.sig) → Buf (Elt Bits) ℓ) (g : Dev Cert.Qkv16.nD → PrngReg), Pre_Qkv16 m →
    θ_run (Cert.Qkv16.defs (F := Bits)) (onTc (τ := Cert.Qkv16.τ) (Cert.Qkv16.main (F := Bits))) ⟨m, fun _ => 0, g⟩ (fun r => (∀ c : Dev Cert.Qkv16.nD,
      r.2.mem ((c.tc : Thread Cert.Qkv16.nD Cert.Qkv16.τ).loc Cert.Qkv16.main_arg0) = m ((c.tc : Thread Cert.Qkv16.nD Cert.Qkv16.τ).loc Cert.Qkv16.main_arg0)
      ∧ r.2.mem ((c.tc : Thread Cert.Qkv16.nD Cert.Qkv16.τ).loc Cert.Qkv16.main_arg1) = m ((c.tc : Thread Cert.Qkv16.nD Cert.Qkv16.τ).loc Cert.Qkv16.main_arg1))
      ∧ r.2.sem = fun _ => 0)

def quiescent_Qkv16Ideal [hQkv16Ideal : Cert.Qkv16Ideal.Facts] : Prop :=
  ∀ (m : (ℓ : Loc Cert.Qkv16Ideal.nD Cert.Qkv16Ideal.τ Cert.Qkv16Ideal.sig) → Buf (Elt Ideal) ℓ) (g : Dev Cert.Qkv16Ideal.nD → PrngReg), Pre_Qkv16Ideal m →
    θ_run (Cert.Qkv16Ideal.defs (F := Ideal)) (onTc (τ := Cert.Qkv16Ideal.τ) (Cert.Qkv16Ideal.main (F := Ideal))) ⟨m, fun _ => 0, g⟩ (fun r => (∀ c : Dev Cert.Qkv16Ideal.nD,
      r.2.mem ((c.tc : Thread Cert.Qkv16Ideal.nD Cert.Qkv16Ideal.τ).loc Cert.Qkv16Ideal.main_arg0) = m ((c.tc : Thread Cert.Qkv16Ideal.nD Cert.Qkv16Ideal.τ).loc Cert.Qkv16Ideal.main_arg0)
      ∧ r.2.mem ((c.tc : Thread Cert.Qkv16Ideal.nD Cert.Qkv16Ideal.τ).loc Cert.Qkv16Ideal.main_arg1) = m ((c.tc : Thread Cert.Qkv16Ideal.nD Cert.Qkv16Ideal.τ).loc Cert.Qkv16Ideal.main_arg1))
      ∧ r.2.sem = fun _ => 0)

def quiescent_Qkv16RefIdeal [hQkv16RefIdeal : Cert.Qkv16RefIdeal.Facts] : Prop :=
  ∀ (m : (ℓ : Loc Cert.Qkv16RefIdeal.nD Cert.Qkv16RefIdeal.τ Cert.Qkv16RefIdeal.sig) → Buf (Elt Ideal) ℓ) (g : Dev Cert.Qkv16RefIdeal.nD → PrngReg), Pre_Qkv16RefIdeal m →
    θ_run (Cert.Qkv16RefIdeal.defs (F := Ideal)) (onTc (τ := Cert.Qkv16RefIdeal.τ) (Cert.Qkv16RefIdeal.main (F := Ideal))) ⟨m, fun _ => 0, g⟩ (fun r => (∀ c : Dev Cert.Qkv16RefIdeal.nD,
      r.2.mem ((c.tc : Thread Cert.Qkv16RefIdeal.nD Cert.Qkv16RefIdeal.τ).loc Cert.Qkv16RefIdeal.main_arg0) = m ((c.tc : Thread Cert.Qkv16RefIdeal.nD Cert.Qkv16RefIdeal.τ).loc Cert.Qkv16RefIdeal.main_arg0)
      ∧ r.2.mem ((c.tc : Thread Cert.Qkv16RefIdeal.nD Cert.Qkv16RefIdeal.τ).loc Cert.Qkv16RefIdeal.main_arg1) = m ((c.tc : Thread Cert.Qkv16RefIdeal.nD Cert.Qkv16RefIdeal.τ).loc Cert.Qkv16RefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Dil4 [hDil4 : Cert.Dil4.Facts] : Prop :=
  ∀ (m : (ℓ : Loc Cert.Dil4.nD Cert.Dil4.τ Cert.Dil4.sig) → Buf (Elt Bits) ℓ) (g : Dev Cert.Dil4.nD → PrngReg), Pre_Dil4 m →
    θ_run (Cert.Dil4.defs (F := Bits)) (onTc (τ := Cert.Dil4.τ) (Cert.Dil4.main (F := Bits))) ⟨m, fun _ => 0, g⟩ (fun r => (∀ c : Dev Cert.Dil4.nD,
      r.2.mem ((c.tc : Thread Cert.Dil4.nD Cert.Dil4.τ).loc Cert.Dil4.main_arg0) = m ((c.tc : Thread Cert.Dil4.nD Cert.Dil4.τ).loc Cert.Dil4.main_arg0))
      ∧ r.2.sem = fun _ => 0)

def quiescent_Dil4Ideal [hDil4Ideal : Cert.Dil4Ideal.Facts] : Prop :=
  ∀ (m : (ℓ : Loc Cert.Dil4Ideal.nD Cert.Dil4Ideal.τ Cert.Dil4Ideal.sig) → Buf (Elt Ideal) ℓ) (g : Dev Cert.Dil4Ideal.nD → PrngReg), Pre_Dil4Ideal m →
    θ_run (Cert.Dil4Ideal.defs (F := Ideal)) (onTc (τ := Cert.Dil4Ideal.τ) (Cert.Dil4Ideal.main (F := Ideal))) ⟨m, fun _ => 0, g⟩ (fun r => (∀ c : Dev Cert.Dil4Ideal.nD,
      r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0))
      ∧ r.2.sem = fun _ => 0)

def quiescent_Dil4Ideal_pre_finite4 [hDil4Ideal : Cert.Dil4Ideal.Facts] [hPre_finite4 : Cert.Pre_finite4.Facts] : Prop :=
  ∀ (m : (ℓ : Loc Cert.Dil4Ideal.nD Cert.Dil4Ideal.τ Cert.Dil4Ideal.sig) → Buf (Elt Ideal) ℓ) (g : Dev Cert.Dil4Ideal.nD → PrngReg), Pre_Dil4Ideal_finite4 m →
    θ_run (Cert.Dil4Ideal.defs (F := Ideal)) (onTc (τ := Cert.Dil4Ideal.τ) (Cert.Dil4Ideal.main (F := Ideal))) ⟨m, fun _ => 0, g⟩ (fun r => (∀ c : Dev Cert.Dil4Ideal.nD,
      r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0))
      ∧ r.2.sem = fun _ => 0)

def quiescent_Dil4RefIdeal [hDil4RefIdeal : Cert.Dil4RefIdeal.Facts] : Prop :=
  ∀ (m : (ℓ : Loc Cert.Dil4RefIdeal.nD Cert.Dil4RefIdeal.τ Cert.Dil4RefIdeal.sig) → Buf (Elt Ideal) ℓ) (g : Dev Cert.Dil4RefIdeal.nD → PrngReg), Pre_Dil4RefIdeal m →
    θ_run (Cert.Dil4RefIdeal.defs (F := Ideal)) (onTc (τ := Cert.Dil4RefIdeal.τ) (Cert.Dil4RefIdeal.main (F := Ideal))) ⟨m, fun _ => 0, g⟩ (fun r => (∀ c : Dev Cert.Dil4RefIdeal.nD,
      r.2.mem ((c.tc : Thread Cert.Dil4RefIdeal.nD Cert.Dil4RefIdeal.τ).loc Cert.Dil4RefIdeal.main_arg0) = m ((c.tc : Thread Cert.Dil4RefIdeal.nD Cert.Dil4RefIdeal.τ).loc Cert.Dil4RefIdeal.main_arg0))
      ∧ r.2.sem = fun _ => 0)

def quiescent_Dil4RefIdeal_pre_finite4 [hDil4RefIdeal : Cert.Dil4RefIdeal.Facts] [hPre_finite4 : Cert.Pre_finite4.Facts] : Prop :=
  ∀ (m : (ℓ : Loc Cert.Dil4RefIdeal.nD Cert.Dil4RefIdeal.τ Cert.Dil4RefIdeal.sig) → Buf (Elt Ideal) ℓ) (g : Dev Cert.Dil4RefIdeal.nD → PrngReg), Pre_Dil4RefIdeal_finite4 m →
    θ_run (Cert.Dil4RefIdeal.defs (F := Ideal)) (onTc (τ := Cert.Dil4RefIdeal.τ) (Cert.Dil4RefIdeal.main (F := Ideal))) ⟨m, fun _ => 0, g⟩ (fun r => (∀ c : Dev Cert.Dil4RefIdeal.nD,
      r.2.mem ((c.tc : Thread Cert.Dil4RefIdeal.nD Cert.Dil4RefIdeal.τ).loc Cert.Dil4RefIdeal.main_arg0) = m ((c.tc : Thread Cert.Dil4RefIdeal.nD Cert.Dil4RefIdeal.τ).loc Cert.Dil4RefIdeal.main_arg0))
      ∧ r.2.sem = fun _ => 0)

def quiescent_Dil1 [hDil1 : Cert.Dil1.Facts] : Prop :=
  ∀ (m : (ℓ : Loc Cert.Dil1.nD Cert.Dil1.τ Cert.Dil1.sig) → Buf (Elt Bits) ℓ) (g : Dev Cert.Dil1.nD → PrngReg), Pre_Dil1 m →
    θ_run (Cert.Dil1.defs (F := Bits)) (onTc (τ := Cert.Dil1.τ) (Cert.Dil1.main (F := Bits))) ⟨m, fun _ => 0, g⟩ (fun r => (∀ c : Dev Cert.Dil1.nD,
      r.2.mem ((c.tc : Thread Cert.Dil1.nD Cert.Dil1.τ).loc Cert.Dil1.main_arg0) = m ((c.tc : Thread Cert.Dil1.nD Cert.Dil1.τ).loc Cert.Dil1.main_arg0))
      ∧ r.2.sem = fun _ => 0)

def quiescent_Dil1Ideal [hDil1Ideal : Cert.Dil1Ideal.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0))
      ∧ r.2.sem = fun _ => 0)

def quiescent_Dil1Ideal_pre_finite1 [hDil1Ideal : Cert.Dil1Ideal.Facts] [hPre_finite1 : Cert.Pre_finite1.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal_finite1 m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0))
      ∧ r.2.sem = fun _ => 0)

def quiescent_Dil1RefIdeal [hDil1RefIdeal : Cert.Dil1RefIdeal.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0))
      ∧ r.2.sem = fun _ => 0)

def quiescent_Dil1RefIdeal_pre_finite1 [hDil1RefIdeal : Cert.Dil1RefIdeal.Facts] [hPre_finite1 : Cert.Pre_finite1.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal_finite1 m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0))
      ∧ r.2.sem = fun _ => 0)

def preserves_Dil_DilIdeal : Prop :=
  IdealRules.named_const.Statement Cert.DilIdeal.κ "log2e" .f32 0x3FB8AA3B#32 (((Real.log 2)⁻¹ : ℝ) : EReal)

def algebraic_DilIdeal_DilRefIdeal_pre_finite [hDilIdeal : Cert.DilIdeal.Facts] [hDilRefIdeal : Cert.DilRefIdeal.Facts] [hPre_finite : Cert.Pre_finite.Facts] : Prop :=
  ∀ (m : (ℓ : Loc Cert.DilIdeal.nD Cert.DilIdeal.τ Cert.DilIdeal.sig) → Buf (Elt Ideal) ℓ) (g : Dev Cert.DilIdeal.nD → PrngReg)
    (m' : (ℓ : Loc Cert.DilRefIdeal.nD Cert.DilRefIdeal.τ Cert.DilRefIdeal.sig) → Buf (Elt Ideal) ℓ) (g' : Dev Cert.DilRefIdeal.nD → PrngReg), Pre_DilIdeal_finite m →
    (∀ c : Dev Cert.DilIdeal.nD,
      m' ((c.tc : Thread Cert.DilRefIdeal.nD Cert.DilRefIdeal.τ).loc Cert.DilRefIdeal.main_arg0) = m ((c.tc : Thread Cert.DilIdeal.nD Cert.DilIdeal.τ).loc Cert.DilIdeal.main_arg0)) →
    ∃ (v0 : (c : Dev Cert.DilIdeal.nD) → Buf (Elt Ideal) ((c.tc : Thread Cert.DilIdeal.nD Cert.DilIdeal.τ).loc Cert.DilIdeal.main_v51_0)) (v1 : (c : Dev Cert.DilIdeal.nD) → Buf (Elt Ideal) ((c.tc : Thread Cert.DilIdeal.nD Cert.DilIdeal.τ).loc Cert.DilIdeal.main_v51_1)),
      θ_run (Cert.DilIdeal.defs (F := Ideal)) (onTc (τ := Cert.DilIdeal.τ) (Cert.DilIdeal.main (F := Ideal))) ⟨m, fun _ => 0, g⟩ (fun r => ∀ c : Dev Cert.DilIdeal.nD,
          r.2.mem ((c.tc : Thread Cert.DilIdeal.nD Cert.DilIdeal.τ).loc Cert.DilIdeal.main_v51_0) = v0 c
          ∧ r.2.mem ((c.tc : Thread Cert.DilIdeal.nD Cert.DilIdeal.τ).loc Cert.DilIdeal.main_v51_1) = v1 c
          ∧ r.2.mem ((c.tc : Thread Cert.DilIdeal.nD Cert.DilIdeal.τ).loc Cert.DilIdeal.main_arg0) = m ((c.tc : Thread Cert.DilIdeal.nD Cert.DilIdeal.τ).loc Cert.DilIdeal.main_arg0))
      ∧ θ_run (Cert.DilRefIdeal.defs (F := Ideal)) (onTc (τ := Cert.DilRefIdeal.τ) (Cert.DilRefIdeal.main (F := Ideal))) ⟨m', fun _ => 0, g'⟩ (fun r => ∀ c : Dev Cert.DilRefIdeal.nD,
          r.2.mem ((c.tc : Thread Cert.DilRefIdeal.nD Cert.DilRefIdeal.τ).loc Cert.DilRefIdeal.main_v98) = v0 c
          ∧ r.2.mem ((c.tc : Thread Cert.DilRefIdeal.nD Cert.DilRefIdeal.τ).loc Cert.DilRefIdeal.main_v106) = v1 c
          ∧ r.2.mem ((c.tc : Thread Cert.DilRefIdeal.nD Cert.DilRefIdeal.τ).loc Cert.DilRefIdeal.main_arg0) = m' ((c.tc : Thread Cert.DilRefIdeal.nD Cert.DilRefIdeal.τ).loc Cert.DilRefIdeal.main_arg0))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v28) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v8) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Query_QueryIdeal : Prop :=
  IdealRules.named_const.Statement Cert.QueryIdeal.κ "query_scale" .f32 0x3E0293EE#32 ((((Real.log 2) * (Real.sqrt 128))⁻¹ : ℝ) : EReal)

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v1) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v10) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Vals_ValsIdeal : Prop :=
  True

def algebraic_ValsIdeal_ValsRefIdeal [hValsIdeal : Cert.ValsIdeal.Facts] [hValsRefIdeal : Cert.ValsRefIdeal.Facts] : Prop :=
  ∀ (m : (ℓ : Loc Cert.ValsIdeal.nD Cert.ValsIdeal.τ Cert.ValsIdeal.sig) → Buf (Elt Ideal) ℓ) (g : Dev Cert.ValsIdeal.nD → PrngReg)
    (m' : (ℓ : Loc Cert.ValsRefIdeal.nD Cert.ValsRefIdeal.τ Cert.ValsRefIdeal.sig) → Buf (Elt Ideal) ℓ) (g' : Dev Cert.ValsRefIdeal.nD → PrngReg), Pre_ValsIdeal m →
    (∀ c : Dev Cert.ValsIdeal.nD,
      m' ((c.tc : Thread Cert.ValsRefIdeal.nD Cert.ValsRefIdeal.τ).loc Cert.ValsRefIdeal.main_arg0) = m ((c.tc : Thread Cert.ValsIdeal.nD Cert.ValsIdeal.τ).loc Cert.ValsIdeal.main_arg0)
      ∧ m' ((c.tc : Thread Cert.ValsRefIdeal.nD Cert.ValsRefIdeal.τ).loc Cert.ValsRefIdeal.main_arg1) = m ((c.tc : Thread Cert.ValsIdeal.nD Cert.ValsIdeal.τ).loc Cert.ValsIdeal.main_arg1)) →
    ∃ (v0 : (c : Dev Cert.ValsIdeal.nD) → Buf (Elt Ideal) ((c.tc : Thread Cert.ValsIdeal.nD Cert.ValsIdeal.τ).loc Cert.ValsIdeal.main_v1)),
      θ_run (Cert.ValsIdeal.defs (F := Ideal)) (onTc (τ := Cert.ValsIdeal.τ) (Cert.ValsIdeal.main (F := Ideal))) ⟨m, fun _ => 0, g⟩ (fun r => ∀ c : Dev Cert.ValsIdeal.nD,
          r.2.mem ((c.tc : Thread Cert.ValsIdeal.nD Cert.ValsIdeal.τ).loc Cert.ValsIdeal.main_v1) = v0 c
          ∧ r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
          ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1))
      ∧ θ_run (Cert.ValsRefIdeal.defs (F := Ideal)) (onTc (τ := Cert.ValsRefIdeal.τ) (Cert.ValsRefIdeal.main (F := Ideal))) ⟨m', fun _ => 0, g'⟩ (fun r => ∀ c : Dev Cert.ValsRefIdeal.nD,
          r.2.mem ((c.tc : Thread Cert.ValsRefIdeal.nD Cert.ValsRefIdeal.τ).loc Cert.ValsRefIdeal.main_v4) = v0 c
          ∧ r.2.mem ((c.tc : Thread Cert.ValsRefIdeal.nD Cert.ValsRefIdeal.τ).loc Cert.ValsRefIdeal.main_arg0) = m' ((c.tc : Thread Cert.ValsRefIdeal.nD Cert.ValsRefIdeal.τ).loc Cert.ValsRefIdeal.main_arg0)
          ∧ r.2.mem ((c.tc : Thread Cert.ValsRefIdeal.nD Cert.ValsRefIdeal.τ).loc Cert.ValsRefIdeal.main_arg1) = m' ((c.tc : Thread Cert.ValsRefIdeal.nD Cert.ValsRefIdeal.τ).loc Cert.ValsRefIdeal.main_arg1))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v1_0)) (v1 : (c : Dev Cert.KeysIdeal.nD) → Buf (Elt Ideal) ((c.tc : Thread Cert.KeysIdeal.nD Cert.KeysIdeal.τ).loc Cert.KeysIdeal.main_v1_1)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v1_0) = v0 c
          ∧ r.2.mem ((c.tc : Thread Cert.KeysIdeal.nD Cert.KeysIdeal.τ).loc Cert.KeysIdeal.main_v1_1) = v1 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v2) = v0 c
          ∧ r.2.mem ((c.tc : Thread Cert.KeysRefIdeal.nD Cert.KeysRefIdeal.τ).loc Cert.KeysRefIdeal.main_v3) = v1 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1))

def preserves_Idx_IdxIdeal : Prop :=
  True

def algebraic_IdxIdeal_IdxRefIdeal [hIdxIdeal : Cert.IdxIdeal.Facts] [hIdxRefIdeal : Cert.IdxRefIdeal.Facts] : Prop :=
  ∀ (m : (ℓ : Loc Cert.IdxIdeal.nD Cert.IdxIdeal.τ Cert.IdxIdeal.sig) → Buf (Elt Ideal) ℓ) (g : Dev Cert.IdxIdeal.nD → PrngReg)
    (m' : (ℓ : Loc Cert.IdxRefIdeal.nD Cert.IdxRefIdeal.τ Cert.IdxRefIdeal.sig) → Buf (Elt Ideal) ℓ) (g' : Dev Cert.IdxRefIdeal.nD → PrngReg), Pre_IdxIdeal m →
    (∀ c : Dev Cert.IdxIdeal.nD,
      m' ((c.tc : Thread Cert.IdxRefIdeal.nD Cert.IdxRefIdeal.τ).loc Cert.IdxRefIdeal.main_arg0) = m ((c.tc : Thread Cert.IdxIdeal.nD Cert.IdxIdeal.τ).loc Cert.IdxIdeal.main_arg0)
      ∧ m' ((c.tc : Thread Cert.IdxRefIdeal.nD Cert.IdxRefIdeal.τ).loc Cert.IdxRefIdeal.main_arg1) = m ((c.tc : Thread Cert.IdxIdeal.nD Cert.IdxIdeal.τ).loc Cert.IdxIdeal.main_arg1)) →
    ∃ (v0 : (c : Dev Cert.IdxIdeal.nD) → Buf (Elt Ideal) ((c.tc : Thread Cert.IdxIdeal.nD Cert.IdxIdeal.τ).loc Cert.IdxIdeal.main_v1_0)) (v1 : (c : Dev Cert.IdxIdeal.nD) → Buf (Elt Ideal) ((c.tc : Thread Cert.IdxIdeal.nD Cert.IdxIdeal.τ).loc Cert.IdxIdeal.main_v1_1)) (v2 : (c : Dev Cert.IdxIdeal.nD) → Buf (Elt Ideal) ((c.tc : Thread Cert.IdxIdeal.nD Cert.IdxIdeal.τ).loc Cert.IdxIdeal.main_v1_2)),
      θ_run (Cert.IdxIdeal.defs (F := Ideal)) (onTc (τ := Cert.IdxIdeal.τ) (Cert.IdxIdeal.main (F := Ideal))) ⟨m, fun _ => 0, g⟩ (fun r => ∀ c : Dev Cert.IdxIdeal.nD,
          r.2.mem ((c.tc : Thread Cert.IdxIdeal.nD Cert.IdxIdeal.τ).loc Cert.IdxIdeal.main_v1_0) = v0 c
          ∧ r.2.mem ((c.tc : Thread Cert.IdxIdeal.nD Cert.IdxIdeal.τ).loc Cert.IdxIdeal.main_v1_1) = v1 c
          ∧ r.2.mem ((c.tc : Thread Cert.IdxIdeal.nD Cert.IdxIdeal.τ).loc Cert.IdxIdeal.main_v1_2) = v2 c
          ∧ r.2.mem ((c.tc : Thread Cert.IdxIdeal.nD Cert.IdxIdeal.τ).loc Cert.IdxIdeal.main_arg0) = m ((c.tc : Thread Cert.IdxIdeal.nD Cert.IdxIdeal.τ).loc Cert.IdxIdeal.main_arg0)
          ∧ r.2.mem ((c.tc : Thread Cert.IdxIdeal.nD Cert.IdxIdeal.τ).loc Cert.IdxIdeal.main_arg1) = m ((c.tc : Thread Cert.IdxIdeal.nD Cert.IdxIdeal.τ).loc Cert.IdxIdeal.main_arg1))
      ∧ θ_run (Cert.IdxRefIdeal.defs (F := Ideal)) (onTc (τ := Cert.IdxRefIdeal.τ) (Cert.IdxRefIdeal.main (F := Ideal))) ⟨m', fun _ => 0, g'⟩ (fun r => ∀ c : Dev Cert.IdxRefIdeal.nD,
          r.2.mem ((c.tc : Thread Cert.IdxRefIdeal.nD Cert.IdxRefIdeal.τ).loc Cert.IdxRefIdeal.main_v7) = v0 c
          ∧ r.2.mem ((c.tc : Thread Cert.IdxRefIdeal.nD Cert.IdxRefIdeal.τ).loc Cert.IdxRefIdeal.main_v8) = v1 c
          ∧ r.2.mem ((c.tc : Thread Cert.IdxRefIdeal.nD Cert.IdxRefIdeal.τ).loc Cert.IdxRefIdeal.main_v11) = v2 c
          ∧ r.2.mem ((c.tc : Thread Cert.IdxRefIdeal.nD Cert.IdxRefIdeal.τ).loc Cert.IdxRefIdeal.main_arg0) = m' ((c.tc : Thread Cert.IdxRefIdeal.nD Cert.IdxRefIdeal.τ).loc Cert.IdxRefIdeal.main_arg0)
          ∧ r.2.mem ((c.tc : Thread Cert.IdxRefIdeal.nD Cert.IdxRefIdeal.τ).loc Cert.IdxRefIdeal.main_arg1) = m' ((c.tc : Thread Cert.IdxRefIdeal.nD Cert.IdxRefIdeal.τ).loc Cert.IdxRefIdeal.main_arg1))

def preserves_Qkv1_Qkv1Ideal : Prop :=
  IdealRules.named_const.Statement Cert.Qkv1Ideal.κ "query_scale" .f32 0x3E0293EE#32 ((((Real.log 2) * (Real.sqrt 128))⁻¹ : ℝ) : EReal)

def algebraic_Qkv1Ideal_Qkv1RefIdeal [hQkv1Ideal : Cert.Qkv1Ideal.Facts] [hQkv1RefIdeal : Cert.Qkv1RefIdeal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.Qkv1RefIdeal.nD Cert.Qkv1RefIdeal.τ Cert.Qkv1RefIdeal.sig) → Buf (Elt Ideal) ℓ) (g' : Dev Cert.Qkv1RefIdeal.nD → PrngReg), Pre_Qkv1Ideal m →
    (∀ c : Dev Cert.Qkv1Ideal.nD,
      m' ((c.tc : Thread Cert.Qkv1RefIdeal.nD Cert.Qkv1RefIdeal.τ).loc Cert.Qkv1RefIdeal.main_arg0) = m ((c.tc : Thread Cert.Qkv1Ideal.nD Cert.Qkv1Ideal.τ).loc Cert.Qkv1Ideal.main_arg0)
      ∧ m' ((c.tc : Thread Cert.Qkv1RefIdeal.nD Cert.Qkv1RefIdeal.τ).loc Cert.Qkv1RefIdeal.main_arg1) = m ((c.tc : Thread Cert.Qkv1Ideal.nD Cert.Qkv1Ideal.τ).loc Cert.Qkv1Ideal.main_arg1)) →
    ∃ (v0 : (c : Dev Cert.Qkv1Ideal.nD) → Buf (Elt Ideal) ((c.tc : Thread Cert.Qkv1Ideal.nD Cert.Qkv1Ideal.τ).loc Cert.Qkv1Ideal.main_v1)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v1) = v0 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ θ_run (Cert.Qkv1RefIdeal.defs (F := Ideal)) (onTc (τ := Cert.Qkv1RefIdeal.τ) (Cert.Qkv1RefIdeal.main (F := Ideal))) ⟨m', fun _ => 0, g'⟩ (fun r => ∀ c : Dev Cert.Qkv1RefIdeal.nD,
          r.2.mem ((c.tc : Thread Cert.Qkv1RefIdeal.nD Cert.Qkv1RefIdeal.τ).loc Cert.Qkv1RefIdeal.main_v17) = v0 c
          ∧ r.2.mem ((c.tc : Thread Cert.Qkv1RefIdeal.nD Cert.Qkv1RefIdeal.τ).loc Cert.Qkv1RefIdeal.main_arg0) = m' ((c.tc : Thread Cert.Qkv1RefIdeal.nD Cert.Qkv1RefIdeal.τ).loc Cert.Qkv1RefIdeal.main_arg0)
          ∧ r.2.mem ((c.tc : Thread Cert.Qkv1RefIdeal.nD Cert.Qkv1RefIdeal.τ).loc Cert.Qkv1RefIdeal.main_arg1) = m' ((c.tc : Thread Cert.Qkv1RefIdeal.nD Cert.Qkv1RefIdeal.τ).loc Cert.Qkv1RefIdeal.main_arg1))

def preserves_Qkv4_Qkv4Ideal : Prop :=
  IdealRules.named_const.Statement Cert.Qkv4Ideal.κ "query_scale" .f32 0x3E0293EE#32 ((((Real.log 2) * (Real.sqrt 128))⁻¹ : ℝ) : EReal)

def algebraic_Qkv4Ideal_Qkv4RefIdeal [hQkv4Ideal : Cert.Qkv4Ideal.Facts] [hQkv4RefIdeal : Cert.Qkv4RefIdeal.Facts] : Prop :=
  ∀ (m : (ℓ : Loc Cert.Qkv4Ideal.nD Cert.Qkv4Ideal.τ Cert.Qkv4Ideal.sig) → Buf (Elt Ideal) ℓ) (g : Dev Cert.Qkv4Ideal.nD → PrngReg)
    (m' : (ℓ : Loc Cert.Qkv4RefIdeal.nD Cert.Qkv4RefIdeal.τ Cert.Qkv4RefIdeal.sig) → Buf (Elt Ideal) ℓ) (g' : Dev Cert.Qkv4RefIdeal.nD → PrngReg), Pre_Qkv4Ideal m →
    (∀ c : Dev Cert.Qkv4Ideal.nD,
      m' ((c.tc : Thread Cert.Qkv4RefIdeal.nD Cert.Qkv4RefIdeal.τ).loc Cert.Qkv4RefIdeal.main_arg0) = m ((c.tc : Thread Cert.Qkv4Ideal.nD Cert.Qkv4Ideal.τ).loc Cert.Qkv4Ideal.main_arg0)
      ∧ m' ((c.tc : Thread Cert.Qkv4RefIdeal.nD Cert.Qkv4RefIdeal.τ).loc Cert.Qkv4RefIdeal.main_arg1) = m ((c.tc : Thread Cert.Qkv4Ideal.nD Cert.Qkv4Ideal.τ).loc Cert.Qkv4Ideal.main_arg1)) →
    ∃ (v0 : (c : Dev Cert.Qkv4Ideal.nD) → Buf (Elt Ideal) ((c.tc : Thread Cert.Qkv4Ideal.nD Cert.Qkv4Ideal.τ).loc Cert.Qkv4Ideal.main_v1)),
      θ_run (Cert.Qkv4Ideal.defs (F := Ideal)) (onTc (τ := Cert.Qkv4Ideal.τ) (Cert.Qkv4Ideal.main (F := Ideal))) ⟨m, fun _ => 0, g⟩ (fun r => ∀ c : Dev Cert.Qkv4Ideal.nD,
          r.2.mem ((c.tc : Thread Cert.Qkv4Ideal.nD Cert.Qkv4Ideal.τ).loc Cert.Qkv4Ideal.main_v1) = v0 c
          ∧ r.2.mem ((c.tc : Thread Cert.Qkv4Ideal.nD Cert.Qkv4Ideal.τ).loc Cert.Qkv4Ideal.main_arg0) = m ((c.tc : Thread Cert.Qkv4Ideal.nD Cert.Qkv4Ideal.τ).loc Cert.Qkv4Ideal.main_arg0)
          ∧ r.2.mem ((c.tc : Thread Cert.Qkv4Ideal.nD Cert.Qkv4Ideal.τ).loc Cert.Qkv4Ideal.main_arg1) = m ((c.tc : Thread Cert.Qkv4Ideal.nD Cert.Qkv4Ideal.τ).loc Cert.Qkv4Ideal.main_arg1))
      ∧ θ_run (Cert.Qkv4RefIdeal.defs (F := Ideal)) (onTc (τ := Cert.Qkv4RefIdeal.τ) (Cert.Qkv4RefIdeal.main (F := Ideal))) ⟨m', fun _ => 0, g'⟩ (fun r => ∀ c : Dev Cert.Qkv4RefIdeal.nD,
          r.2.mem ((c.tc : Thread Cert.Qkv4RefIdeal.nD Cert.Qkv4RefIdeal.τ).loc Cert.Qkv4RefIdeal.main_v17) = v0 c
          ∧ r.2.mem ((c.tc : Thread Cert.Qkv4RefIdeal.nD Cert.Qkv4RefIdeal.τ).loc Cert.Qkv4RefIdeal.main_arg0) = m' ((c.tc : Thread Cert.Qkv4RefIdeal.nD Cert.Qkv4RefIdeal.τ).loc Cert.Qkv4RefIdeal.main_arg0)
          ∧ r.2.mem ((c.tc : Thread Cert.Qkv4RefIdeal.nD Cert.Qkv4RefIdeal.τ).loc Cert.Qkv4RefIdeal.main_arg1) = m' ((c.tc : Thread Cert.Qkv4RefIdeal.nD Cert.Qkv4RefIdeal.τ).loc Cert.Qkv4RefIdeal.main_arg1))

def preserves_Qkv16_Qkv16Ideal : Prop :=
  IdealRules.named_const.Statement Cert.Qkv16Ideal.κ "query_scale" .f32 0x3E0293EE#32 ((((Real.log 2) * (Real.sqrt 128))⁻¹ : ℝ) : EReal)

def algebraic_Qkv16Ideal_Qkv16RefIdeal [hQkv16Ideal : Cert.Qkv16Ideal.Facts] [hQkv16RefIdeal : Cert.Qkv16RefIdeal.Facts] : Prop :=
  ∀ (m : (ℓ : Loc Cert.Qkv16Ideal.nD Cert.Qkv16Ideal.τ Cert.Qkv16Ideal.sig) → Buf (Elt Ideal) ℓ) (g : Dev Cert.Qkv16Ideal.nD → PrngReg)
    (m' : (ℓ : Loc Cert.Qkv16RefIdeal.nD Cert.Qkv16RefIdeal.τ Cert.Qkv16RefIdeal.sig) → Buf (Elt Ideal) ℓ) (g' : Dev Cert.Qkv16RefIdeal.nD → PrngReg), Pre_Qkv16Ideal m →
    (∀ c : Dev Cert.Qkv16Ideal.nD,
      m' ((c.tc : Thread Cert.Qkv16RefIdeal.nD Cert.Qkv16RefIdeal.τ).loc Cert.Qkv16RefIdeal.main_arg0) = m ((c.tc : Thread Cert.Qkv16Ideal.nD Cert.Qkv16Ideal.τ).loc Cert.Qkv16Ideal.main_arg0)
      ∧ m' ((c.tc : Thread Cert.Qkv16RefIdeal.nD Cert.Qkv16RefIdeal.τ).loc Cert.Qkv16RefIdeal.main_arg1) = m ((c.tc : Thread Cert.Qkv16Ideal.nD Cert.Qkv16Ideal.τ).loc Cert.Qkv16Ideal.main_arg1)) →
    ∃ (v0 : (c : Dev Cert.Qkv16Ideal.nD) → Buf (Elt Ideal) ((c.tc : Thread Cert.Qkv16Ideal.nD Cert.Qkv16Ideal.τ).loc Cert.Qkv16Ideal.main_v1)),
      θ_run (Cert.Qkv16Ideal.defs (F := Ideal)) (onTc (τ := Cert.Qkv16Ideal.τ) (Cert.Qkv16Ideal.main (F := Ideal))) ⟨m, fun _ => 0, g⟩ (fun r => ∀ c : Dev Cert.Qkv16Ideal.nD,
          r.2.mem ((c.tc : Thread Cert.Qkv16Ideal.nD Cert.Qkv16Ideal.τ).loc Cert.Qkv16Ideal.main_v1) = v0 c
          ∧ r.2.mem ((c.tc : Thread Cert.Qkv16Ideal.nD Cert.Qkv16Ideal.τ).loc Cert.Qkv16Ideal.main_arg0) = m ((c.tc : Thread Cert.Qkv16Ideal.nD Cert.Qkv16Ideal.τ).loc Cert.Qkv16Ideal.main_arg0)
          ∧ r.2.mem ((c.tc : Thread Cert.Qkv16Ideal.nD Cert.Qkv16Ideal.τ).loc Cert.Qkv16Ideal.main_arg1) = m ((c.tc : Thread Cert.Qkv16Ideal.nD Cert.Qkv16Ideal.τ).loc Cert.Qkv16Ideal.main_arg1))
      ∧ θ_run (Cert.Qkv16RefIdeal.defs (F := Ideal)) (onTc (τ := Cert.Qkv16RefIdeal.τ) (Cert.Qkv16RefIdeal.main (F := Ideal))) ⟨m', fun _ => 0, g'⟩ (fun r => ∀ c : Dev Cert.Qkv16RefIdeal.nD,
          r.2.mem ((c.tc : Thread Cert.Qkv16RefIdeal.nD Cert.Qkv16RefIdeal.τ).loc Cert.Qkv16RefIdeal.main_v17) = v0 c
          ∧ r.2.mem ((c.tc : Thread Cert.Qkv16RefIdeal.nD Cert.Qkv16RefIdeal.τ).loc Cert.Qkv16RefIdeal.main_arg0) = m' ((c.tc : Thread Cert.Qkv16RefIdeal.nD Cert.Qkv16RefIdeal.τ).loc Cert.Qkv16RefIdeal.main_arg0)
          ∧ r.2.mem ((c.tc : Thread Cert.Qkv16RefIdeal.nD Cert.Qkv16RefIdeal.τ).loc Cert.Qkv16RefIdeal.main_arg1) = m' ((c.tc : Thread Cert.Qkv16RefIdeal.nD Cert.Qkv16RefIdeal.τ).loc Cert.Qkv16RefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v69) = v0 c
          ∧ r.2.mem ((c.tc : Thread Cert.MergeRefIdeal.nD Cert.MergeRefIdeal.τ).loc Cert.MergeRefIdeal.main_v70) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Dil4_Dil4Ideal : Prop :=
  IdealRules.named_const.Statement Cert.Dil4Ideal.κ "log2e" .f32 0x3FB8AA3B#32 (((Real.log 2)⁻¹ : ℝ) : EReal)

def algebraic_Dil4Ideal_Dil4RefIdeal_pre_finite4 [hDil4Ideal : Cert.Dil4Ideal.Facts] [hDil4RefIdeal : Cert.Dil4RefIdeal.Facts] [hPre_finite4 : Cert.Pre_finite4.Facts] : Prop :=
  ∀ (m : (ℓ : Loc Cert.Dil4Ideal.nD Cert.Dil4Ideal.τ Cert.Dil4Ideal.sig) → Buf (Elt Ideal) ℓ) (g : Dev Cert.Dil4Ideal.nD → PrngReg)
    (m' : (ℓ : Loc Cert.Dil4RefIdeal.nD Cert.Dil4RefIdeal.τ Cert.Dil4RefIdeal.sig) → Buf (Elt Ideal) ℓ) (g' : Dev Cert.Dil4RefIdeal.nD → PrngReg), Pre_Dil4Ideal_finite4 m →
    (∀ c : Dev Cert.Dil4Ideal.nD,
      m' ((c.tc : Thread Cert.Dil4RefIdeal.nD Cert.Dil4RefIdeal.τ).loc Cert.Dil4RefIdeal.main_arg0) = m ((c.tc : Thread Cert.Dil4Ideal.nD Cert.Dil4Ideal.τ).loc Cert.Dil4Ideal.main_arg0)) →
    ∃ (v0 : (c : Dev Cert.Dil4Ideal.nD) → Buf (Elt Ideal) ((c.tc : Thread Cert.Dil4Ideal.nD Cert.Dil4Ideal.τ).loc Cert.Dil4Ideal.main_v51_0)) (v1 : (c : Dev Cert.Dil4Ideal.nD) → Buf (Elt Ideal) ((c.tc : Thread Cert.Dil4Ideal.nD Cert.Dil4Ideal.τ).loc Cert.Dil4Ideal.main_v51_1)),
      θ_run (Cert.Dil4Ideal.defs (F := Ideal)) (onTc (τ := Cert.Dil4Ideal.τ) (Cert.Dil4Ideal.main (F := Ideal))) ⟨m, fun _ => 0, g⟩ (fun r => ∀ c : Dev Cert.Dil4Ideal.nD,
          r.2.mem ((c.tc : Thread Cert.Dil4Ideal.nD Cert.Dil4Ideal.τ).loc Cert.Dil4Ideal.main_v51_0) = v0 c
          ∧ r.2.mem ((c.tc : Thread Cert.Dil4Ideal.nD Cert.Dil4Ideal.τ).loc Cert.Dil4Ideal.main_v51_1) = v1 c
          ∧ r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0))
      ∧ θ_run (Cert.Dil4RefIdeal.defs (F := Ideal)) (onTc (τ := Cert.Dil4RefIdeal.τ) (Cert.Dil4RefIdeal.main (F := Ideal))) ⟨m', fun _ => 0, g'⟩ (fun r => ∀ c : Dev Cert.Dil4RefIdeal.nD,
          r.2.mem ((c.tc : Thread Cert.Dil4RefIdeal.nD Cert.Dil4RefIdeal.τ).loc Cert.Dil4RefIdeal.main_v98) = v0 c
          ∧ r.2.mem ((c.tc : Thread Cert.Dil4RefIdeal.nD Cert.Dil4RefIdeal.τ).loc Cert.Dil4RefIdeal.main_v106) = v1 c
          ∧ r.2.mem ((c.tc : Thread Cert.Dil4RefIdeal.nD Cert.Dil4RefIdeal.τ).loc Cert.Dil4RefIdeal.main_arg0) = m' ((c.tc : Thread Cert.Dil4RefIdeal.nD Cert.Dil4RefIdeal.τ).loc Cert.Dil4RefIdeal.main_arg0))

def preserves_Dil1_Dil1Ideal : Prop :=
  IdealRules.named_const.Statement Cert.Dil1Ideal.κ "log2e" .f32 0x3FB8AA3B#32 (((Real.log 2)⁻¹ : ℝ) : EReal)

def algebraic_Dil1Ideal_Dil1RefIdeal_pre_finite1 [hDil1Ideal : Cert.Dil1Ideal.Facts] [hDil1RefIdeal : Cert.Dil1RefIdeal.Facts] [hPre_finite1 : Cert.Pre_finite1.Facts] : Prop :=
  ∀ (m : (ℓ : Loc Cert.Dil1Ideal.nD Cert.Dil1Ideal.τ Cert.Dil1Ideal.sig) → Buf (Elt Ideal) ℓ) (g : Dev Cert.Dil1Ideal.nD → PrngReg)
    (m' : (ℓ : Loc Cert.Dil1RefIdeal.nD Cert.Dil1RefIdeal.τ Cert.Dil1RefIdeal.sig) → Buf (Elt Ideal) ℓ) (g' : Dev Cert.Dil1RefIdeal.nD → PrngReg), Pre_Dil1Ideal_finite1 m →
    (∀ c : Dev Cert.Dil1Ideal.nD,
      m' ((c.tc : Thread Cert.Dil1RefIdeal.nD Cert.Dil1RefIdeal.τ).loc Cert.Dil1RefIdeal.main_arg0) = m ((c.tc : Thread Cert.Dil1Ideal.nD Cert.Dil1Ideal.τ).loc Cert.Dil1Ideal.main_arg0)) →
    ∃ (v0 : (c : Dev Cert.Dil1Ideal.nD) → Buf (Elt Ideal) ((c.tc : Thread Cert.Dil1Ideal.nD Cert.Dil1Ideal.τ).loc Cert.Dil1Ideal.main_v51_0)) (v1 : (c : Dev Cert.Dil1Ideal.nD) → Buf (Elt Ideal) ((c.tc : Thread Cert.Dil1Ideal.nD Cert.Dil1Ideal.τ).loc Cert.Dil1Ideal.main_v51_1)),
      θ_run (Cert.Dil1Ideal.defs (F := Ideal)) (onTc (τ := Cert.Dil1Ideal.τ) (Cert.Dil1Ideal.main (F := Ideal))) ⟨m, fun _ => 0, g⟩ (fun r => ∀ c : Dev Cert.Dil1Ideal.nD,
          r.2.mem ((c.tc : Thread Cert.Dil1Ideal.nD Cert.Dil1Ideal.τ).loc Cert.Dil1Ideal.main_v51_0) = v0 c
          ∧ r.2.mem ((c.tc : Thread Cert.Dil1Ideal.nD Cert.Dil1Ideal.τ).loc Cert.Dil1Ideal.main_v51_1) = v1 c
          ∧ r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0))
      ∧ θ_run (Cert.Dil1RefIdeal.defs (F := Ideal)) (onTc (τ := Cert.Dil1RefIdeal.τ) (Cert.Dil1RefIdeal.main (F := Ideal))) ⟨m', fun _ => 0, g'⟩ (fun r => ∀ c : Dev Cert.Dil1RefIdeal.nD,
          r.2.mem ((c.tc : Thread Cert.Dil1RefIdeal.nD Cert.Dil1RefIdeal.τ).loc Cert.Dil1RefIdeal.main_v98) = v0 c
          ∧ r.2.mem ((c.tc : Thread Cert.Dil1RefIdeal.nD Cert.Dil1RefIdeal.τ).loc Cert.Dil1RefIdeal.main_v106) = v1 c
          ∧ r.2.mem ((c.tc : Thread Cert.Dil1RefIdeal.nD Cert.Dil1RefIdeal.τ).loc Cert.Dil1RefIdeal.main_arg0) = m' ((c.tc : Thread Cert.Dil1RefIdeal.nD Cert.Dil1RefIdeal.τ).loc Cert.Dil1RefIdeal.main_arg0))

def Claim : Prop :=
  ∃ (hDil : Cert.Dil.Facts) (hDilIdeal : Cert.DilIdeal.Facts) (hDilRefIdeal : Cert.DilRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hGates : Cert.Gates.Facts) (hGatesIdeal : Cert.GatesIdeal.Facts) (hGatesRefIdeal : Cert.GatesRefIdeal.Facts) (hQuery : Cert.Query.Facts) (hQueryIdeal : Cert.QueryIdeal.Facts) (hQueryRefIdeal : Cert.QueryRefIdeal.Facts) (hVals : Cert.Vals.Facts) (hValsIdeal : Cert.ValsIdeal.Facts) (hValsRefIdeal : Cert.ValsRefIdeal.Facts) (hKeys : Cert.Keys.Facts) (hKeysIdeal : Cert.KeysIdeal.Facts) (hKeysRefIdeal : Cert.KeysRefIdeal.Facts) (hIdx : Cert.Idx.Facts) (hIdxIdeal : Cert.IdxIdeal.Facts) (hIdxRefIdeal : Cert.IdxRefIdeal.Facts) (hQkv1 : Cert.Qkv1.Facts) (hQkv1Ideal : Cert.Qkv1Ideal.Facts) (hQkv1RefIdeal : Cert.Qkv1RefIdeal.Facts) (hQkv4 : Cert.Qkv4.Facts) (hQkv4Ideal : Cert.Qkv4Ideal.Facts) (hQkv4RefIdeal : Cert.Qkv4RefIdeal.Facts) (hQkv16 : Cert.Qkv16.Facts) (hQkv16Ideal : Cert.Qkv16Ideal.Facts) (hQkv16RefIdeal : Cert.Qkv16RefIdeal.Facts) (hMerge : Cert.Merge.Facts) (hMergeIdeal : Cert.MergeIdeal.Facts) (hMergeRefIdeal : Cert.MergeRefIdeal.Facts) (hDil4 : Cert.Dil4.Facts) (hDil4Ideal : Cert.Dil4Ideal.Facts) (hDil4RefIdeal : Cert.Dil4RefIdeal.Facts) (hDil1 : Cert.Dil1.Facts) (hDil1Ideal : Cert.Dil1Ideal.Facts) (hDil1RefIdeal : Cert.Dil1RefIdeal.Facts) (hPre_finite : Cert.Pre_finite.Facts) (hPre_finite4 : Cert.Pre_finite4.Facts) (hPre_finite1 : Cert.Pre_finite1.Facts),
    quiescent_Dil (hDil := hDil)
    ∧ quiescent_DilIdeal (hDilIdeal := hDilIdeal)
    ∧ quiescent_DilIdeal_pre_finite (hDilIdeal := hDilIdeal) (hPre_finite := hPre_finite)
    ∧ quiescent_DilRefIdeal (hDilRefIdeal := hDilRefIdeal)
    ∧ quiescent_DilRefIdeal_pre_finite (hDilRefIdeal := hDilRefIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Gates (hGates := hGates)
    ∧ quiescent_GatesIdeal (hGatesIdeal := hGatesIdeal)
    ∧ quiescent_GatesRefIdeal (hGatesRefIdeal := hGatesRefIdeal)
    ∧ quiescent_Query (hQuery := hQuery)
    ∧ quiescent_QueryIdeal (hQueryIdeal := hQueryIdeal)
    ∧ quiescent_QueryRefIdeal (hQueryRefIdeal := hQueryRefIdeal)
    ∧ quiescent_Vals (hVals := hVals)
    ∧ quiescent_ValsIdeal (hValsIdeal := hValsIdeal)
    ∧ quiescent_ValsRefIdeal (hValsRefIdeal := hValsRefIdeal)
    ∧ quiescent_Keys (hKeys := hKeys)
    ∧ quiescent_KeysIdeal (hKeysIdeal := hKeysIdeal)
    ∧ quiescent_KeysRefIdeal (hKeysRefIdeal := hKeysRefIdeal)
    ∧ quiescent_Idx (hIdx := hIdx)
    ∧ quiescent_IdxIdeal (hIdxIdeal := hIdxIdeal)
    ∧ quiescent_IdxRefIdeal (hIdxRefIdeal := hIdxRefIdeal)
    ∧ quiescent_Qkv1 (hQkv1 := hQkv1)
    ∧ quiescent_Qkv1Ideal (hQkv1Ideal := hQkv1Ideal)
    ∧ quiescent_Qkv1RefIdeal (hQkv1RefIdeal := hQkv1RefIdeal)
    ∧ quiescent_Qkv4 (hQkv4 := hQkv4)
    ∧ quiescent_Qkv4Ideal (hQkv4Ideal := hQkv4Ideal)
    ∧ quiescent_Qkv4RefIdeal (hQkv4RefIdeal := hQkv4RefIdeal)
    ∧ quiescent_Qkv16 (hQkv16 := hQkv16)
    ∧ quiescent_Qkv16Ideal (hQkv16Ideal := hQkv16Ideal)
    ∧ quiescent_Qkv16RefIdeal (hQkv16RefIdeal := hQkv16RefIdeal)
    ∧ quiescent_Merge (hMerge := hMerge)
    ∧ quiescent_MergeIdeal (hMergeIdeal := hMergeIdeal)
    ∧ quiescent_MergeRefIdeal (hMergeRefIdeal := hMergeRefIdeal)
    ∧ quiescent_Dil4 (hDil4 := hDil4)
    ∧ quiescent_Dil4Ideal (hDil4Ideal := hDil4Ideal)
    ∧ quiescent_Dil4Ideal_pre_finite4 (hDil4Ideal := hDil4Ideal) (hPre_finite4 := hPre_finite4)
    ∧ quiescent_Dil4RefIdeal (hDil4RefIdeal := hDil4RefIdeal)
    ∧ quiescent_Dil4RefIdeal_pre_finite4 (hDil4RefIdeal := hDil4RefIdeal) (hPre_finite4 := hPre_finite4)
    ∧ quiescent_Dil1 (hDil1 := hDil1)
    ∧ quiescent_Dil1Ideal (hDil1Ideal := hDil1Ideal)
    ∧ quiescent_Dil1Ideal_pre_finite1 (hDil1Ideal := hDil1Ideal) (hPre_finite1 := hPre_finite1)
    ∧ quiescent_Dil1RefIdeal (hDil1RefIdeal := hDil1RefIdeal)
    ∧ quiescent_Dil1RefIdeal_pre_finite1 (hDil1RefIdeal := hDil1RefIdeal) (hPre_finite1 := hPre_finite1)
    ∧ preserves_Dil_DilIdeal
    ∧ algebraic_DilIdeal_DilRefIdeal_pre_finite (hDilIdeal := hDilIdeal) (hDilRefIdeal := hDilRefIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Gates_GatesIdeal
    ∧ algebraic_GatesIdeal_GatesRefIdeal (hGatesIdeal := hGatesIdeal) (hGatesRefIdeal := hGatesRefIdeal)
    ∧ preserves_Query_QueryIdeal
    ∧ algebraic_QueryIdeal_QueryRefIdeal (hQueryIdeal := hQueryIdeal) (hQueryRefIdeal := hQueryRefIdeal)
    ∧ preserves_Vals_ValsIdeal
    ∧ algebraic_ValsIdeal_ValsRefIdeal (hValsIdeal := hValsIdeal) (hValsRefIdeal := hValsRefIdeal)
    ∧ preserves_Keys_KeysIdeal
    ∧ algebraic_KeysIdeal_KeysRefIdeal (hKeysIdeal := hKeysIdeal) (hKeysRefIdeal := hKeysRefIdeal)
    ∧ preserves_Idx_IdxIdeal
    ∧ algebraic_IdxIdeal_IdxRefIdeal (hIdxIdeal := hIdxIdeal) (hIdxRefIdeal := hIdxRefIdeal)
    ∧ preserves_Qkv1_Qkv1Ideal
    ∧ algebraic_Qkv1Ideal_Qkv1RefIdeal (hQkv1Ideal := hQkv1Ideal) (hQkv1RefIdeal := hQkv1RefIdeal)
    ∧ preserves_Qkv4_Qkv4Ideal
    ∧ algebraic_Qkv4Ideal_Qkv4RefIdeal (hQkv4Ideal := hQkv4Ideal) (hQkv4RefIdeal := hQkv4RefIdeal)
    ∧ preserves_Qkv16_Qkv16Ideal
    ∧ algebraic_Qkv16Ideal_Qkv16RefIdeal (hQkv16Ideal := hQkv16Ideal) (hQkv16RefIdeal := hQkv16RefIdeal)
    ∧ preserves_Merge_MergeIdeal
    ∧ algebraic_MergeIdeal_MergeRefIdeal (hMergeIdeal := hMergeIdeal) (hMergeRefIdeal := hMergeRefIdeal)
    ∧ preserves_Dil4_Dil4Ideal
    ∧ algebraic_Dil4Ideal_Dil4RefIdeal_pre_finite4 (hDil4Ideal := hDil4Ideal) (hDil4RefIdeal := hDil4RefIdeal) (hPre_finite4 := hPre_finite4)
    ∧ preserves_Dil1_Dil1Ideal
    ∧ algebraic_Dil1Ideal_Dil1RefIdeal_pre_finite1 (hDil1Ideal := hDil1Ideal) (hDil1RefIdeal := hDil1RefIdeal) (hPre_finite1 := hPre_finite1)
-- ==== Pre_finite.lean ====
abbrev S3x16x512x512 : Shape := ⟨4, ![3, 16, 512, 512]⟩
abbrev S2x16x512x512 : Shape := ⟨4, ![2, 16, 512, 512]⟩
abbrev S_ : Shape := ⟨0, ![]⟩

class Facts : Prop where
  slices_S3x16x512x512_S2x16x512x512_0_0_0_0 : S3x16x512x512.Slices ![0, 0, 0, 0] S2x16x512x512
  bitsLt_bf16_f32 : FTy.bits .bf16 < FTy.bits .f32
  bcast_S_S2x16x512x512 : S_.BroadcastsInDim S2x16x512x512 (![] : Fin 0 → Fin S2x16x512x512.rank)
  reducesTo_S2x16x512x512_S_d0_1_2_3 : S2x16x512x512.ReducesTo [0, 1, 2, 3] S_
  h_S_ : 0 < S_.numel

variable [Facts]

def fn {F : FTy → Type} [FloatOps F] (main_arg0 : FVec F S3x16x512x512 .bf16) : IVec S_ 1 :=
  let main_v0 : FVec F S2x16x512x512 .bf16 := (extractStridedSlice S2x16x512x512 ![0, 0, 0, 0] · slices_S3x16x512x512_S2x16x512x512_0_0_0_0) main_arg0
  let main_v1 : FVec F S2x16x512x512 .f32 := (extf .f32 · bitsLt_bf16_f32) main_v0
  let main_v2 : FVec F S2x16x512x512 .f32 := Host.absf main_v1
  let main_cst : FVec F S_ .f32 := constant S_ .f32 0x7F800000#32
  let main_v3 : FVec F S2x16x512x512 .f32 := broadcastInDim S2x16x512x512 ![] bcast_S_S2x16x512x512 main_cst
  let main_v4 : IVec S2x16x512x512 1 := cmpf .olt main_v2 main_v3
  let main_c : IVec S_ 1 := constantI S_ 1 1#1
  let main_v5 : IVec S_ 1 := (fun x v => Host.reduce IntOp.andi x v reducesTo_S2x16x512x512_S_d0_1_2_3 h_S_) main_v4 main_c
  main_v5
-- ==== Pre_finite1.lean ====
abbrev S3x1x8192x512 : Shape := ⟨4, ![3, 1, 8192, 512]⟩
abbrev S2x1x8192x512 : Shape := ⟨4, ![2, 1, 8192, 512]⟩
abbrev S_ : Shape := ⟨0, ![]⟩

class Facts : Prop where
  slices_S3x1x8192x512_S2x1x8192x512_0_0_0_0 : S3x1x8192x512.Slices ![0, 0, 0, 0] S2x1x8192x512
  bitsLt_bf16_f32 : FTy.bits .bf16 < FTy.bits .f32
  bcast_S_S2x1x8192x512 : S_.BroadcastsInDim S2x1x8192x512 (![] : Fin 0 → Fin S2x1x8192x512.rank)
  reducesTo_S2x1x8192x512_S_d0_1_2_3 : S2x1x8192x512.ReducesTo [0, 1, 2, 3] S_
  h_S_ : 0 < S_.numel

variable [Facts]

def fn {F : FTy → Type} [FloatOps F] (main_arg0 : FVec F S3x1x8192x512 .bf16) : IVec S_ 1 :=
  let main_v0 : FVec F S2x1x8192x512 .bf16 := (extractStridedSlice S2x1x8192x512 ![0, 0, 0, 0] · slices_S3x1x8192x512_S2x1x8192x512_0_0_0_0) main_arg0
  let main_v1 : FVec F S2x1x8192x512 .f32 := (extf .f32 · bitsLt_bf16_f32) main_v0
  let main_v2 : FVec F S2x1x8192x512 .f32 := Host.absf main_v1
  let main_cst : FVec F S_ .f32 := constant S_ .f32 0x7F800000#32
  let main_v3 : FVec F S2x1x8192x512 .f32 := broadcastInDim S2x1x8192x512 ![] bcast_S_S2x1x8192x512 main_cst
  let main_v4 : IVec S2x1x8192x512 1 := cmpf .olt main_v2 main_v3
  let main_c : IVec S_ 1 := constantI S_ 1 1#1
  let main_v5 : IVec S_ 1 := (fun x v => Host.reduce IntOp.andi x v reducesTo_S2x1x8192x512_S_d0_1_2_3 h_S_) main_v4 main_c
  main_v5
-- ==== Pre_finite4.lean ====
abbrev S3x4x2048x512 : Shape := ⟨4, ![3, 4, 2048, 512]⟩
abbrev S2x4x2048x512 : Shape := ⟨4, ![2, 4, 2048, 512]⟩
abbrev S_ : Shape := ⟨0, ![]⟩

class Facts : Prop where
  slices_S3x4x2048x512_S2x4x2048x512_0_0_0_0 : S3x4x2048x512.Slices ![0, 0, 0, 0] S2x4x2048x512
  bitsLt_bf16_f32 : FTy.bits .bf16 < FTy.bits .f32
  bcast_S_S2x4x2048x512 : S_.BroadcastsInDim S2x4x2048x512 (![] : Fin 0 → Fin S2x4x2048x512.rank)
  reducesTo_S2x4x2048x512_S_d0_1_2_3 : S2x4x2048x512.ReducesTo [0, 1, 2, 3] S_
  h_S_ : 0 < S_.numel

variable [Facts]

def fn {F : FTy → Type} [FloatOps F] (main_arg0 : FVec F S3x4x2048x512 .bf16) : IVec S_ 1 :=
  let main_v0 : FVec F S2x4x2048x512 .bf16 := (extractStridedSlice S2x4x2048x512 ![0, 0, 0, 0] · slices_S3x4x2048x512_S2x4x2048x512_0_0_0_0) main_arg0
  let main_v1 : FVec F S2x4x2048x512 .f32 := (extf .f32 · bitsLt_bf16_f32) main_v0
  let main_v2 : FVec F S2x4x2048x512 .f32 := Host.absf main_v1
  let main_cst : FVec F S_ .f32 := constant S_ .f32 0x7F800000#32
  let main_v3 : FVec F S2x4x2048x512 .f32 := broadcastInDim S2x4x2048x512 ![] bcast_S_S2x4x2048x512 main_cst
  let main_v4 : IVec S2x4x2048x512 1 := cmpf .olt main_v2 main_v3
  let main_c : IVec S_ 1 := constantI S_ 1 1#1
  let main_v5 : IVec S_ 1 := (fun x v => Host.reduce IntOp.andi x v reducesTo_S2x4x2048x512_S_d0_1_2_3 h_S_) main_v4 main_c
  main_v5
-- ==== Dil.lean ====
abbrev S3x16x512x512 : Shape := ⟨4, ![3, 16, 512, 512]⟩
abbrev S20 : Shape := ⟨1, ![20]⟩
abbrev S_ : Shape := ⟨0, ![]⟩
abbrev S4 : Shape := ⟨1, ![4]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S2x128x256 : Shape := ⟨3, ![2, 128, 256]⟩
abbrev S1x4x1x1 : Shape := ⟨4, ![1, 4, 1, 1]⟩
abbrev S1x1x128x256 : Shape := ⟨4, ![1, 1, 128, 256]⟩
abbrev S1x4x128x256 : Shape := ⟨4, ![1, 4, 128, 256]⟩
abbrev S2x1x128x256 : Shape := ⟨4, ![2, 1, 128, 256]⟩
abbrev S2x4x128x256 : Shape := ⟨4, ![2, 4, 128, 256]⟩
abbrev S16x512x512 : Shape := ⟨3, ![16, 512, 512]⟩
abbrev S1x1x512x512 : Shape := ⟨4, ![1, 1, 512, 512]⟩
abbrev S1x1x128x512 : Shape := ⟨4, ![1, 1, 128, 512]⟩
abbrev S1x512x512 : Shape := ⟨3, ![1, 512, 512]⟩
abbrev S1x1x128x128 : Shape := ⟨4, ![1, 1, 128, 128]⟩
abbrev S128x128 : Shape := ⟨2, ![128, 128]⟩
abbrev S256x128 : Shape := ⟨2, ![256, 128]⟩
abbrev S1x128x128 : Shape := ⟨3, ![1, 128, 128]⟩

abbrev nBuf : Space → Nat
  | .hbm => 70
  | .vmem => 15
  | .smem => 0
  | _ => 0

abbrev bufTy : (tb : Table) → Fin (tcTables nBuf tb) → BufTy
  | .hbm, ⟨0, _⟩ => ⟨S3x16x512x512, .bf16⟩
  | .hbm, ⟨1, _⟩ => ⟨S20, .f32⟩
  | .hbm, ⟨2, _⟩ => ⟨S_, .f32⟩
  | .hbm, ⟨3, _⟩ => ⟨S20, .f32⟩
  | .hbm, ⟨4, _⟩ => ⟨S20, .f32⟩
  | .hbm, ⟨5, _⟩ => ⟨S_, .f32⟩
  | .hbm, ⟨6, _⟩ => ⟨S20, .f32⟩
  | .hbm, ⟨7, _⟩ => ⟨S20, .f32⟩
  | .hbm, ⟨8, _⟩ => ⟨S_, .f32⟩
  | .hbm, ⟨9, _⟩ => ⟨S20, .f32⟩
  | .hbm, ⟨10, _⟩ => ⟨S20, .f32⟩
  | .hbm, ⟨11, _⟩ => ⟨S_, .f32⟩
  | .hbm, ⟨12, _⟩ => ⟨S20, .f32⟩
  | .hbm, ⟨13, _⟩ => ⟨S20, .f32⟩
  | .hbm, ⟨14, _⟩ => ⟨S20, .f32⟩
  | .hbm, ⟨15, _⟩ => ⟨S4, .f32⟩
  | .hbm, ⟨16, _⟩ => ⟨S_, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S128, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S256, .i32⟩
  | .hbm, ⟨26, _⟩ => ⟨S1x256, .i32⟩
  | .hbm, ⟨27, _⟩ => ⟨S128x256, .i32⟩
  | .hbm, ⟨28, _⟩ => ⟨S128x256, .i32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S128x256, .i1⟩
  | .hbm, ⟨37, _⟩ => ⟨S_, .i1⟩
  | .hbm, ⟨38, _⟩ => ⟨S128x256, .i1⟩
  | .hbm, ⟨39, _⟩ => ⟨S256, .i32⟩
  | .hbm, ⟨40, _⟩ => ⟨S1x256, .i32⟩
  | .hbm, ⟨41, _⟩ => ⟨S_, .i32⟩
  | .hbm, ⟨42, _⟩ => ⟨S1x256, .i32⟩
  | .hbm, ⟨43, _⟩ => ⟨S1x256, .i1⟩
  | .hbm, ⟨44, _⟩ => ⟨S128x256, .i1⟩
  | .hbm, ⟨45, _⟩ => ⟨S1x128x256, .i1⟩
  | .hbm, ⟨46, _⟩ => ⟨S1x128x256, .i1⟩
  | .hbm, ⟨47, _⟩ => ⟨S2x128x256, .i1⟩
  | .hbm, ⟨48, _⟩ => ⟨S_, .i32⟩
  | .hbm, ⟨49, _⟩ => ⟨S128x256, .i32⟩
  | .hbm, ⟨50, _⟩ => ⟨S128x256, .i32⟩
  | .hbm, ⟨51, _⟩ => ⟨S128x256, .f32⟩
  | .hbm, ⟨52, _⟩ => ⟨S1x4x1x1, .f32⟩
  | .hbm, ⟨53, _⟩ => ⟨S1x4x1x1, .f32⟩
  | .hbm, ⟨54, _⟩ => ⟨S1x1x128x256, .f32⟩
  | .hbm, ⟨55, _⟩ => ⟨S1x4x128x256, .f32⟩
  | .hbm, ⟨56, _⟩ => ⟨S1x4x128x256, .f32⟩
  | .hbm, ⟨57, _⟩ => ⟨S1x4x128x256, .f32⟩
  | .hbm, ⟨58, _⟩ => ⟨S1x128x256, .i1⟩
  | .hbm, ⟨59, _⟩ => ⟨S2x128x256, .i1⟩
  | .hbm, ⟨60, _⟩ => ⟨S2x128x256, .i1⟩
  | .hbm, ⟨61, _⟩ => ⟨S2x1x128x256, .i1⟩
  | .hbm, ⟨62, _⟩ => ⟨S_, .f32⟩
  | .hbm, ⟨63, _⟩ => ⟨S_, .f32⟩
  | .hbm, ⟨64, _⟩ => ⟨S2x4x128x256, .i1⟩
  | .hbm, ⟨65, _⟩ => ⟨S2x4x128x256, .f32⟩
  | .hbm, ⟨66, _⟩ => ⟨S2x4x128x256, .f32⟩
  | .hbm, ⟨67, _⟩ => ⟨S2x4x128x256, .f32⟩
  | .hbm, ⟨68, _⟩ => ⟨S16x512x512, .f32⟩
  | .hbm, ⟨69, _⟩ => ⟨S16x512x512, .f32⟩
  | .local _ .vmem, ⟨0, _⟩ => ⟨S2x4x128x256, .f32⟩
  | .local _ .vmem, ⟨1, _⟩ => ⟨S1x1x512x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1x1x512x512, .bf16⟩
  | .local _ .vmem, ⟨5, _⟩ => ⟨S1x1x128x512, .bf16⟩
  | .local _ .vmem, ⟨6, _⟩ => ⟨S1x1x128x512, .bf16⟩
  | .local _ .vmem, ⟨7, _⟩ => ⟨S1x1x512x512, .bf16⟩
  | .local _ .vmem, ⟨8, _⟩ => ⟨S1x1x512x512, .bf16⟩
  | .local _ .vmem, ⟨9, _⟩ => ⟨S1x1x128x512, .bf16⟩
  | .local _ .vmem, ⟨10, _⟩ => ⟨S1x1x128x512, .bf16⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | _, _ => ⟨S3x16x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 1], ![false, false]⟩

def k0_off1 (i : grid0.Coords) : Fin 4 → Nat :=
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v14 : Index := Scalar.indexCast v1
  let c0_20 : Index := 0#32
  let c0_21 : Index := 0#32
  let c0_22 : Index := 0#32
  ![v14.toNat, 0, 0, 0]
def k0_off2 (i : grid0.Coords) : Fin 4 → Nat :=
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v54 : Index := Scalar.indexCast v1
  let c1 : Index := 1#32
  let c0_52 : Index := 0#32
  let c0_53 : Index := 0#32
  ![v54.toNat, 1, 0, 0]
def k0_off3 (i : grid0.Coords) : Fin 4 → Nat :=
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v94 : Index := Scalar.indexCast v1
  let c2 : Index := 2#32
  let c0_84 : Index := 0#32
  let c0_85 : Index := 0#32
  ![v94.toNat, 2, 0, 0]
def k0_off4 (i : grid0.Coords) : Fin 4 → Nat :=
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v134 : Index := Scalar.indexCast v1
  let c3 : Index := 3#32
  let c0_116 : Index := 0#32
  let c0_117 : Index := 0#32
  ![v134.toNat, 3, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  let c0_i32_2 : BitVec 32 := 0#32
  ![c1_i32_0.toNat, arg0.toNat, v2.toNat, c0_i32_1.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  ![c2_i32.toNat, arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x4x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DilIdeal.lean ====
variable {F : FTy → Type} [FloatOps F] [Named F]
def κ : String → Option EReal := fun
  | "log2e" => some (((Real.log 2)⁻¹ : ℝ) : EReal)
  | _ => none
-- ==== DilRefIdeal.lean ====
abbrev S3x16x512x512 : Shape := ⟨4, ![3, 16, 512, 512]⟩
abbrev S20 : Shape := ⟨1, ![20]⟩
abbrev S_ : Shape := ⟨0, ![]⟩
abbrev S4 : Shape := ⟨1, ![4]⟩
abbrev S3x16x512x4x128 : Shape := ⟨5, ![3, 16, 512, 4, 128]⟩
abbrev S3x512x16x4x128 : Shape := ⟨5, ![3, 512, 16, 4, 128]⟩
abbrev S3x1x8192x4x128 : Shape := ⟨5, ![3, 1, 8192, 4, 128]⟩
abbrev S1x1x8192x4x128 : Shape := ⟨5, ![1, 1, 8192, 4, 128]⟩
abbrev S1x8192x4x128 : Shape := ⟨4, ![1, 8192, 4, 128]⟩
abbrev S1x512x16x4x128 : Shape := ⟨5, ![1, 512, 16, 4, 128]⟩
abbrev S1x16x512x4x128 : Shape := ⟨5, ![1, 16, 512, 4, 128]⟩
abbrev S16x4x128x4x128 : Shape := ⟨5, ![16, 4, 128, 4, 128]⟩
abbrev S16x5x128x4x128 : Shape := ⟨5, ![16, 5, 128, 4, 128]⟩
abbrev S16x4x256x4x128 : Shape := ⟨5, ![16, 4, 256, 4, 128]⟩
abbrev S16x4x4x128x256 : Shape := ⟨5, ![16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x1 : Shape := ⟨2, ![4, 1]⟩
abbrev S4x256 : Shape := ⟨2, ![4, 256]⟩
abbrev S1x128x256 : Shape := ⟨3, ![1, 128, 256]⟩
abbrev S4x1x256 : Shape := ⟨3, ![4, 1, 256]⟩
abbrev S4x128x256 : Shape := ⟨3, ![4, 128, 256]⟩
abbrev S1x4x1x1x1 : Shape := ⟨5, ![1, 4, 1, 1, 1]⟩
abbrev S1x1x1x128x256 : Shape := ⟨5, ![1, 1, 1, 128, 256]⟩
abbrev S1x4x1x128x256 : Shape := ⟨5, ![1, 4, 1, 128, 256]⟩
abbrev S1x1x4x128x256 : Shape := ⟨5, ![1, 1, 4, 128, 256]⟩
abbrev S16x4x4x128 : Shape := ⟨4, ![16, 4, 4, 128]⟩
abbrev S16x4x4x128x1 : Shape := ⟨5, ![16, 4, 4, 128, 1]⟩
abbrev S16x4x4x128x128 : Shape := ⟨5, ![16, 4, 4, 128, 128]⟩
abbrev S16x512x512 : Shape := ⟨3, ![16, 512, 512]⟩
abbrev S16x4x128x4 : Shape := ⟨4, ![16, 4, 128, 4]⟩
abbrev S16x512x4 : Shape := ⟨3, ![16, 512, 4]⟩
abbrev S16x512x4x1 : Shape := ⟨4, ![16, 512, 4, 1]⟩
abbrev S16x512x4x128 : Shape := ⟨4, ![16, 512, 4, 128]⟩

abbrev nBuf : Space → Nat
  | .hbm => 131
  | .vmem => 0
  | .smem => 0
  | _ => 0

abbrev hbmTy0_0 (i : Nat) : BufTy := match i % 128 with
  | 0 => ⟨S3x16x512x512, .bf16⟩
  | 1 => ⟨S20, .f32⟩
  | 2 => ⟨S_, .f32⟩
  | 3 => ⟨S20, .f32⟩
  | 4 => ⟨S20, .f32⟩
  | 5 => ⟨S_, .f32⟩
  | 6 => ⟨S20, .f32⟩
  | 7 => ⟨S20, .f32⟩
  | 8 => ⟨S_, .f32⟩
  | 9 => ⟨S20, .f32⟩
  | 10 => ⟨S20, .f32⟩
  | 11 => ⟨S_, .f32⟩
  | 12 => ⟨S20, .f32⟩
  | 13 => ⟨S20, .f32⟩
  | 14 => ⟨S20, .f32⟩
  | 15 => ⟨S4, .f32⟩
  | 16 => ⟨S3x16x512x512, .f32⟩
  | 17 => ⟨S3x16x512x4x128, .f32⟩
  | 18 => ⟨S3x512x16x4x128, .f32⟩
  | 19 => ⟨S3x1x8192x4x128, .f32⟩
  | 20 => ⟨S1x1x8192x4x128, .f32⟩
  | 21 => ⟨S1x8192x4x128, .f32⟩
  | 22 => ⟨S1x1x8192x4x128, .f32⟩
  | 23 => ⟨S1x8192x4x128, .f32⟩
  | 24 => ⟨S1x1x8192x4x128, .f32⟩
  | 25 => ⟨S1x8192x4x128, .f32⟩
  | 26 => ⟨S1x512x16x4x128, .f32⟩
  | 27 => ⟨S1x16x512x4x128, .f32⟩
  | 28 => ⟨S16x4x128x4x128, .f32⟩
  | 29 => ⟨S1x512x16x4x128, .f32⟩
  | 30 => ⟨S1x16x512x4x128, .f32⟩
  | 31 => ⟨S16x4x128x4x128, .f32⟩
  | 32 => ⟨S1x512x16x4x128, .f32⟩
  | 33 => ⟨S1x16x512x4x128, .f32⟩
  | 34 => ⟨S16x4x128x4x128, .f32⟩
  | 35 => ⟨S_, .i32⟩
  | 36 => ⟨S_, .f32⟩
  | 37 => ⟨S16x5x128x4x128, .f32⟩
  | 38 => ⟨S16x4x128x4x128, .f32⟩
  | 39 => ⟨S16x4x256x4x128, .f32⟩
  | 40 => ⟨S_, .i32⟩
  | 41 => ⟨S_, .f32⟩
  | 42 => ⟨S16x5x128x4x128, .f32⟩
  | 43 => ⟨S16x4x128x4x128, .f32⟩
  | 44 => ⟨S16x4x256x4x128, .f32⟩
  | 45 => ⟨S16x4x4x128x256, .f32⟩
  | 46 => ⟨S_, .f32⟩
  | 47 => ⟨S_, .f32⟩
  | 48 => ⟨S16x4x4x128x256, .f32⟩
  | 49 => ⟨S16x4x4x128x256, .f32⟩
  | 50 => ⟨S128, .i32⟩
  | 51 => ⟨S128x1, .i32⟩
  | 52 => ⟨S_, .i32⟩
  | 53 => ⟨S128x1, .i32⟩
  | 54 => ⟨S128x1, .i32⟩
  | 55 => ⟨S256, .i32⟩
  | 56 => ⟨S1x256, .i32⟩
  | 57 => ⟨S128x256, .i32⟩
  | 58 => ⟨S128x256, .i32⟩
  | 59 => ⟨S128x256, .i32⟩
  | 60 => ⟨S4, .i32⟩
  | 61 => ⟨S4x1, .i32⟩
  | 62 => ⟨S_, .i32⟩
  | 63 => ⟨S4x1, .i32⟩
  | 64 => ⟨S4x1, .i32⟩
  | 65 => ⟨S_, .i32⟩
  | 66 => ⟨S4x1, .i32⟩
  | 67 => ⟨S4x1, .i32⟩
  | 68 => ⟨S256, .i32⟩
  | 69 => ⟨S1x256, .i32⟩
  | 70 => ⟨S4x256, .i32⟩
  | 71 => ⟨S4x256, .i32⟩
  | 72 => ⟨S4x256, .i32⟩
  | 73 => ⟨S_, .i32⟩
  | 74 => ⟨S128x256, .i32⟩
  | 75 => ⟨S128x256, .i1⟩
  | 76 => ⟨S_, .i32⟩
  | 77 => ⟨S128x256, .i32⟩
  | 78 => ⟨S128x256, .i1⟩
  | 79 => ⟨S128x256, .i1⟩
  | 80 => ⟨S1x128x256, .i1⟩
  | 81 => ⟨S_, .i32⟩
  | 82 => ⟨S4x256, .i32⟩
  | 83 => ⟨S4x256, .i1⟩
  | 84 => ⟨S4x1x256, .i1⟩
  | 85 => ⟨S4x128x256, .i1⟩
  | 86 => ⟨S4x128x256, .i1⟩
  | 87 => ⟨S4x128x256, .i1⟩
  | 88 => ⟨S1x4x1x1x1, .f32⟩
  | 89 => ⟨S_, .i32⟩
  | 90 => ⟨S128x256, .i32⟩
  | 91 => ⟨S128x256, .i32⟩
  | 92 => ⟨S128x256, .f32⟩
  | 93 => ⟨S1x1x1x128x256, .f32⟩
  | 94 => ⟨S1x4x1x128x256, .f32⟩
  | 95 => ⟨S1x4x1x128x256, .f32⟩
  | 96 => ⟨S1x4x1x128x256, .f32⟩
  | 97 => ⟨S16x4x4x128x256, .f32⟩
  | 98 => ⟨S16x4x4x128x256, .f32⟩
  | 99 => ⟨S1x1x4x128x256, .i1⟩
  | 100 => ⟨S_, .f32⟩
  | 101 => ⟨S_, .f32⟩
  | 102 => ⟨S16x4x4x128x256, .i1⟩
  | 103 => ⟨S16x4x4x128x256, .f32⟩
  | 104 => ⟨S16x4x4x128x256, .f32⟩
  | 105 => ⟨S_, .f32⟩
  | 106 => ⟨S16x4x4x128, .f32⟩
  | 107 => ⟨S16x4x4x128x1, .f32⟩
  | 108 => ⟨S16x4x4x128x256, .f32⟩
  | 109 => ⟨S16x4x4x128x256, .f32⟩
  | 110 => ⟨S16x4x4x128x256, .f32⟩
  | 111 => ⟨S_, .f32⟩
  | 112 => ⟨S16x4x4x128, .f32⟩
  | 113 => ⟨S16x4x4x128, .f32⟩
  | 114 => ⟨S16x4x4x128, .f32⟩
  | 115 => ⟨S16x4x4x128x1, .f32⟩
  | 116 => ⟨S16x4x4x128x256, .f32⟩
  | 117 => ⟨S16x4x4x128x256, .f32⟩
  | 118 => ⟨S16x4x4x128x256, .f32⟩
  | 119 => ⟨S16x4x4x128x128, .f32⟩
  | 120 => ⟨S16x4x128x4x128, .f32⟩
  | 121 => ⟨S16x512x512, .f32⟩
  | 122 => ⟨S16x4x128x4, .f32⟩
  | 123 => ⟨S16x512x4, .f32⟩
  | 124 => ⟨S_, .f32⟩
  | 125 => ⟨S_, .f32⟩
  | 126 => ⟨S16x512x4, .f32⟩
  | 127 => ⟨S16x512x4, .f32⟩
  | _ => ⟨S3x16x512x512, .bf16⟩

abbrev hbmTy0_1 (i : Nat) : BufTy := match i % 128 with
  | 0 => ⟨S16x512x4x1, .f32⟩
  | 1 => ⟨S16x512x4x128, .f32⟩
  | 2 => ⟨S16x512x512, .f32⟩
  | _ => ⟨S3x16x512x512, .bf16⟩

abbrev hbmTy (i : Nat) : BufTy := match i / 128 with
  | 0 => hbmTy0_0 i
  | 1 => hbmTy0_1 i
  | _ => ⟨S3x16x512x512, .bf16⟩

abbrev bufTy : (tb : Table) → Fin (tcTables nBuf tb) → BufTy
  | .hbm, ⟨i, _⟩ => hbmTy i
  | _, _ => ⟨S3x16x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c : Ref sig .tc := ⟨.hbm, 35, rfl⟩
abbrev main_call0_v0 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_3 : Ref sig .tc := ⟨.hbm, 40, rfl⟩
abbrev main_call1_v0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_6 : Ref sig .tc := ⟨.hbm, 62, rfl⟩
abbrev main_v51 : Ref sig .tc := ⟨.hbm, 63, rfl⟩
abbrev main_v52 : Ref sig .tc := ⟨.hbm, 64, rfl⟩
abbrev main_c_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c_8 : Ref sig .tc := ⟨.hbm, 73, rfl⟩
abbrev main_v60 : Ref sig .tc := ⟨.hbm, 74, rfl⟩
abbrev main_v61 : Ref sig .tc := ⟨.hbm, 75, rfl⟩
abbrev main_c_9 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_10 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_c_11 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_12 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_14 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_15 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩

abbrev nD : Nat := 1
abbrev τ : Topo := Topo.v7x

variable {F : FTy → Type} [FloatOps F]
-- ==== Up.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Down.lean ====
abbrev S8192x5632 : Shape := ⟨2, ![8192, 5632]⟩
abbrev S8192x2048 : Shape := ⟨2, ![8192, 2048]⟩
abbrev S5632x2048 : Shape := ⟨2, ![5632, 2048]⟩
abbrev S2048 : Shape := ⟨1, ![2048]⟩
abbrev S1x2048 : Shape := ⟨2, ![1, 2048]⟩
abbrev S1024x5632 : Shape := ⟨2, ![1024, 5632]⟩
abbrev S5632x256 : Shape := ⟨2, ![5632, 256]⟩
abbrev S1024x2048 : Shape := ⟨2, ![1024, 2048]⟩
abbrev S_ : Shape := ⟨0, ![]⟩
abbrev S1024x256 : Shape := ⟨2, ![1024, 256]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S5632x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S1024x5632, .bf16⟩
  | .local _ .vmem, ⟨1, _⟩ => ⟨S5632x256, .f32⟩
  | .local _ .vmem, ⟨2, _⟩ => ⟨S5632x256, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_6 : BitVec 32 := 0#32
  ![v1.toNat, 0]
def k0_mult2 (i : grid0.Coords) : BitVec 32 :=
  let arg1 : BitVec 32 := BitVec.ofNat 32 (i 1).val
  let c256_i32 : BitVec 32 := 256#32
  let v5 : BitVec 32 := Scalar.muli arg1 c256_i32
  v5
def k0_off2 (i : grid0.Coords) : Fin 2 → Nat :=
  let c0_4 : Index := 0#32
  let arg1 : BitVec 32 := BitVec.ofNat 32 (i 1).val
  let c256_i32 : BitVec 32 := 256#32
  let v5 : BitVec 32 := Scalar.muli arg1 c256_i32
  let v6 : BitVec 32 := v5
  let v11 : Index := Scalar.indexCast v6
  ![0, v11.toNat]
def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_5 : BitVec 32 := 0#32
  let v15 : BitVec 1 := Scalar.cmpi .ne v14 c0_i32_5
  v15

def k0_off3 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_6 : BitVec 32 := 0#32
  ![v1.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S5632x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DownRefIdeal.lean ====
abbrev S8192x5632 : Shape := ⟨2, ![8192, 5632]⟩
abbrev S8192x2048 : Shape := ⟨2, ![8192, 2048]⟩
abbrev S5632x2048 : Shape := ⟨2, ![5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S5632x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x5632, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Gates.lean ====
abbrev S8192x2048 : Shape := ⟨2, ![8192, 2048]⟩
abbrev S2048x12880 : Shape := ⟨2, ![2048, 12880]⟩
abbrev S12880x2048 : Shape := ⟨2, ![12880, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S12880x2048, .f32⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c8784_i32 : BitVec 32 := 8784#32
  let arg1 : BitVec 32 := BitVec.ofNat 32 (i 1).val
  let c1024_i32 : BitVec 32 := 1024#32
  let v0 : BitVec 32 := Scalar.muli arg1 c1024_i32
  let v1 : BitVec 32 := Scalar.addi c8784_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c8784_i32 : BitVec 32 := 8784#32
  let v1 : BitVec 32 := Scalar.addi c8784_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8192x2048 : Shape := ⟨2, ![8192, 2048]⟩
abbrev S2048x12880 : Shape := ⟨2, ![2048, 12880]⟩
abbrev S8192x12880 : Shape := ⟨2, ![8192, 12880]⟩
abbrev S8192x4096 : Shape := ⟨2, ![8192, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S8192x2048, .f32⟩
  | .hbm, ⟨3, _⟩ => ⟨S8192x12880, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Query.lean ====
abbrev S8192x2048 : Shape := ⟨2, ![8192, 2048]⟩
abbrev S2048x12880 : Shape := ⟨2, ![2048, 12880]⟩
abbrev S12880x2048 : Shape := ⟨2, ![12880, 2048]⟩
abbrev S1024x8192 : Shape := ⟨2, ![1024, 8192]⟩
abbrev S1024x2048 : Shape := ⟨2, ![1024, 2048]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S12880x2048, .f32⟩
  | .hbm, ⟨3, _⟩ => ⟨S1024x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryIdeal.lean ====
variable {F : FTy → Type} [FloatOps F] [Named F]
def κ : String → Option EReal := fun
  | "query_scale" => some ((((Real.log 2) * (Real.sqrt 128))⁻¹ : ℝ) : EReal)
  | _ => none
-- ==== QueryRefIdeal.lean ====
abbrev S8192x2048 : Shape := ⟨2, ![8192, 2048]⟩
abbrev S2048x12880 : Shape := ⟨2, ![2048, 12880]⟩
abbrev S8192x12880 : Shape := ⟨2, ![8192, 12880]⟩
abbrev S8192x1024 : Shape := ⟨2, ![8192, 1024]⟩
abbrev S_ : Shape := ⟨0, ![]⟩
abbrev S1024x8192 : Shape := ⟨2, ![1024, 8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S8192x2048, .f32⟩
  | .hbm, ⟨3, _⟩ => ⟨S8192x12880, .f32⟩
  | .hbm, ⟨4, _⟩ => ⟨S8192x1024, .f32⟩
  | .hbm, ⟨5, _⟩ => ⟨S_, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x8192, .f32⟩
  | .hbm, ⟨14, _⟩ => ⟨S1024x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Vals.lean ====
abbrev S8192x2048 : Shape := ⟨2, ![8192, 2048]⟩
abbrev S2048x12880 : Shape := ⟨2, ![2048, 12880]⟩
abbrev S12880x2048 : Shape := ⟨2, ![12880, 2048]⟩
abbrev S1024x8192 : Shape := ⟨2, ![1024, 8192]⟩
abbrev S1024x2048 : Shape := ⟨2, ![1024, 2048]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S12880x2048, .f32⟩
  | .hbm, ⟨3, _⟩ => ⟨S1024x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let c2048_i32 : BitVec 32 := 2048#32
  let arg1 : BitVec 32 := BitVec.ofNat 32 (i 1).val
  let c1024_i32 : BitVec 32 := 1024#32
  let v0 : BitVec 32 := Scalar.muli arg1 c1024_i32
  let v1 : BitVec 32 := Scalar.addi c2048_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.addi c2048_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValsRefIdeal.lean ====
abbrev S8192x2048 : Shape := ⟨2, ![8192, 2048]⟩
abbrev S2048x12880 : Shape := ⟨2, ![2048, 12880]⟩
abbrev S8192x12880 : Shape := ⟨2, ![8192, 12880]⟩
abbrev S8192x1024 : Shape := ⟨2, ![8192, 1024]⟩
abbrev S1024x8192 : Shape := ⟨2, ![1024, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S8192x2048, .f32⟩
  | .hbm, ⟨3, _⟩ => ⟨S8192x12880, .f32⟩
  | .hbm, ⟨4, _⟩ => ⟨S8192x1024, .f32⟩
  | .hbm, ⟨5, _⟩ => ⟨S1024x8192, .f32⟩
  | .hbm, ⟨6, _⟩ => ⟨S1024x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Keys.lean ====
abbrev S8192x2048 : Shape := ⟨2, ![8192, 2048]⟩
abbrev S2048x12880 : Shape := ⟨2, ![2048, 12880]⟩
abbrev S12880x2048 : Shape := ⟨2, ![12880, 2048]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x12880, .f32⟩
  | .hbm, ⟨2, _⟩ => ⟨S12880x2048, .f32⟩
  | .hbm, ⟨3, _⟩ => ⟨S8192x1024, .bf16⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x1024, .bf16⟩
  | .local _ .vmem, ⟨4, _⟩ => ⟨S1024x1024, .bf16⟩
  | .local _ .vmem, ⟨5, _⟩ => ⟨S1024x2048, .bf16⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_mult1 : BitVec 32 :=
  let c1024_i32 : BitVec 32 := 1024#32
  c1024_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := c1024_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KeysRefIdeal.lean ====
abbrev S8192x2048 : Shape := ⟨2, ![8192, 2048]⟩
abbrev S2048x12880 : Shape := ⟨2, ![2048, 12880]⟩
abbrev S8192x12880 : Shape := ⟨2, ![8192, 12880]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x12880, .f32⟩
  | .hbm, ⟨2, _⟩ => ⟨S8192x12880, .f32⟩
  | .hbm, ⟨3, _⟩ => ⟨S8192x1024, .f32⟩
  | .hbm, ⟨4, _⟩ => ⟨S8192x1024, .bf16⟩
  | .hbm, ⟨5, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Idx.lean ====
abbrev S8192x2048 : Shape := ⟨2, ![8192, 2048]⟩
abbrev S2048x12880 : Shape := ⟨2, ![2048, 12880]⟩
abbrev S12880x2048 : Shape := ⟨2, ![12880, 2048]⟩
abbrev S1024x8192 : Shape := ⟨2, ![1024, 8192]⟩
abbrev S8192x128 : Shape := ⟨2, ![8192, 128]⟩
abbrev S128x8192 : Shape := ⟨2, ![128, 8192]⟩
abbrev S1024x2048 : Shape := ⟨2, ![1024, 2048]⟩
abbrev S128x2048 : Shape := ⟨2, ![128, 2048]⟩
abbrev S1024x1024 : Shape := ⟨2, ![1024, 1024]⟩
abbrev S1024x128 : Shape := ⟨2, ![1024, 128]⟩
abbrev S128x1024 : Shape := ⟨2, ![128, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S12880x2048, .f32⟩
  | .hbm, ⟨3, _⟩ => ⟨S1024x8192, .bf16⟩
  | .hbm, ⟨4, _⟩ => ⟨S8192x128, .bf16⟩
  | .hbm, ⟨5, _⟩ => ⟨S128x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S128x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S1024x128, .bf16⟩
  | .local _ .vmem, ⟨8, _⟩ => ⟨S128x1024, .f32⟩
  | .local _ .vmem, ⟨9, _⟩ => ⟨S128x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def k0_mult1 : BitVec 32 :=
  let c3072_i32 : BitVec 32 := 3072#32
  c3072_i32
def k0_mult2 : BitVec 32 :=
  let c4096_i32 : BitVec 32 := 4096#32
  c4096_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3072_i32 : BitVec 32 := 3072#32
  let v0 : BitVec 32 := c3072_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := c4096_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== IdxRefIdeal.lean ====
abbrev S8192x2048 : Shape := ⟨2, ![8192, 2048]⟩
abbrev S2048x12880 : Shape := ⟨2, ![2048, 12880]⟩
abbrev S8192x12880 : Shape := ⟨2, ![8192, 12880]⟩
abbrev S8192x1024 : Shape := ⟨2, ![8192, 1024]⟩
abbrev S8192x128 : Shape := ⟨2, ![8192, 128]⟩
abbrev S_ : Shape := ⟨0, ![]⟩
abbrev S1024x8192 : Shape := ⟨2, ![1024, 8192]⟩
abbrev S128x8192 : Shape := ⟨2, ![128, 8192]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S8192x2048, .f32⟩
  | .hbm, ⟨3, _⟩ => ⟨S8192x12880, .f32⟩
  | .hbm, ⟨4, _⟩ => ⟨S8192x1024, .f32⟩
  | .hbm, ⟨5, _⟩ => ⟨S8192x128, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S1024x8192, .f32⟩
  | .hbm, ⟨10, _⟩ => ⟨S1024x8192, .bf16⟩
  | .hbm, ⟨11, _⟩ => ⟨S8192x128, .bf16⟩
  | .hbm, ⟨12, _⟩ => ⟨S_, .f32⟩
  | .hbm, ⟨13, _⟩ => ⟨S8192x128, .f32⟩
  | .hbm, ⟨14, _⟩ => ⟨S8192x128, .f32⟩
  | .hbm, ⟨15, _⟩ => ⟨S128x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Qkv1.lean ====
abbrev S8192x2048 : Shape := ⟨2, ![8192, 2048]⟩
abbrev S2048x12880 : Shape := ⟨2, ![2048, 12880]⟩
abbrev S12880x2048 : Shape := ⟨2, ![12880, 2048]⟩
abbrev S3x1x8192x512 : Shape := ⟨4, ![3, 1, 8192, 512]⟩
abbrev S1024x2048 : Shape := ⟨2, ![1024, 2048]⟩
abbrev S512x2048 : Shape := ⟨2, ![512, 2048]⟩
abbrev S3x1x1024x512 : Shape := ⟨4, ![3, 1, 1024, 512]⟩
abbrev S3x4x1024x128 : Shape := ⟨4, ![3, 4, 1024, 128]⟩
abbrev S1024x512 : Shape := ⟨2, ![1024, 512]⟩
abbrev S1x1x1024x512 : Shape := ⟨4, ![1, 1, 1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S12880x2048, .f32⟩
  | .hbm, ⟨3, _⟩ => ⟨S3x1x8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S3x1x1024x512, .bf16⟩
  | .local _ .vmem, ⟨6, _⟩ => ⟨S3x1x1024x512, .bf16⟩
  | .local _ .vmem, ⟨7, _⟩ => ⟨S3x4x1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 1], ![false, false]⟩

def k0_mult1 : BitVec 32 :=
  let c4176_i32 : BitVec 32 := 4176#32
  c4176_i32
def k0_mult2 : BitVec 32 :=
  let c5712_i32 : BitVec 32 := 5712#32
  c5712_i32
def k0_mult3 : BitVec 32 :=
  let c7248_i32 : BitVec 32 := 7248#32
  c7248_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4176_i32 : BitVec 32 := 4176#32
  let v0 : BitVec 32 := c4176_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c5712_i32 : BitVec 32 := 5712#32
  let v0 : BitVec 32 := c5712_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c7248_i32 : BitVec 32 := 7248#32
  let v0 : BitVec 32 := c7248_i32
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S3x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Qkv1Ideal.lean ====
variable {F : FTy → Type} [FloatOps F] [Named F]
def κ : String → Option EReal := fun
  | "query_scale" => some ((((Real.log 2) * (Real.sqrt 128))⁻¹ : ℝ) : EReal)
  | _ => none
-- ==== Qkv1RefIdeal.lean ====
abbrev S8192x2048 : Shape := ⟨2, ![8192, 2048]⟩
abbrev S2048x12880 : Shape := ⟨2, ![2048, 12880]⟩
abbrev S8192x12880 : Shape := ⟨2, ![8192, 12880]⟩
abbrev S8192x512 : Shape := ⟨2, ![8192, 512]⟩
abbrev S_ : Shape := ⟨0, ![]⟩
abbrev S1x8192x512 : Shape := ⟨3, ![1, 8192, 512]⟩
abbrev S3x8192x512 : Shape := ⟨3, ![3, 8192, 512]⟩
abbrev S3x8192x1x512 : Shape := ⟨4, ![3, 8192, 1, 512]⟩
abbrev S3x1x8192x512 : Shape := ⟨4, ![3, 1, 8192, 512]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S8192x2048, .f32⟩
  | .hbm, ⟨3, _⟩ => ⟨S8192x12880, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S1x8192x512, .f32⟩
  | .hbm, ⟨16, _⟩ => ⟨S1x8192x512, .f32⟩
  | .hbm, ⟨17, _⟩ => ⟨S1x8192x512, .f32⟩
  | .hbm, ⟨18, _⟩ => ⟨S3x8192x512, .f32⟩
  | .hbm, ⟨19, _⟩ => ⟨S3x8192x1x512, .f32⟩
  | .hbm, ⟨20, _⟩ => ⟨S3x1x8192x512, .f32⟩
  | .hbm, ⟨21, _⟩ => ⟨S3x1x8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Qkv4.lean ====
abbrev S8192x2048 : Shape := ⟨2, ![8192, 2048]⟩
abbrev S2048x12880 : Shape := ⟨2, ![2048, 12880]⟩
abbrev S12880x2048 : Shape := ⟨2, ![12880, 2048]⟩
abbrev S3x4x2048x512 : Shape := ⟨4, ![3, 4, 2048, 512]⟩
abbrev S1024x2048 : Shape := ⟨2, ![1024, 2048]⟩
abbrev S512x2048 : Shape := ⟨2, ![512, 2048]⟩
abbrev S3x4x256x512 : Shape := ⟨4, ![3, 4, 256, 512]⟩
abbrev S3x4x1024x128 : Shape := ⟨4, ![3, 4, 1024, 128]⟩
abbrev S1024x512 : Shape := ⟨2, ![1024, 512]⟩
abbrev S1024x128 : Shape := ⟨2, ![1024, 128]⟩
abbrev S1x1x1024x128 : Shape := ⟨4, ![1, 1, 1024, 128]⟩
abbrev S1x1x256x128 : Shape := ⟨4, ![1, 1, 256, 128]⟩
abbrev S256x128 : Shape := ⟨2, ![256, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S12880x2048, .f32⟩
  | .hbm, ⟨3, _⟩ => ⟨S3x4x2048x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S3x4x256x512, .bf16⟩
  | .local _ .vmem, ⟨6, _⟩ => ⟨S3x4x256x512, .bf16⟩
  | .local _ .vmem, ⟨7, _⟩ => ⟨S3x4x1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 1], ![false, false]⟩

def k0_mult1 : BitVec 32 :=
  let c4688_i32 : BitVec 32 := 4688#32
  c4688_i32
def k0_mult2 : BitVec 32 :=
  let c6224_i32 : BitVec 32 := 6224#32
  c6224_i32
def k0_mult3 : BitVec 32 :=
  let c7760_i32 : BitVec 32 := 7760#32
  c7760_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4688_i32 : BitVec 32 := 4688#32
  let v0 : BitVec 32 := c4688_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c6224_i32 : BitVec 32 := 6224#32
  let v0 : BitVec 32 := c6224_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c7760_i32 : BitVec 32 := 7760#32
  let v0 : BitVec 32 := c7760_i32
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S3x4x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Qkv4Ideal.lean ====
variable {F : FTy → Type} [FloatOps F] [Named F]
def κ : String → Option EReal := fun
  | "query_scale" => some ((((Real.log 2) * (Real.sqrt 128))⁻¹ : ℝ) : EReal)
  | _ => none
-- ==== Qkv4RefIdeal.lean ====
abbrev S8192x2048 : Shape := ⟨2, ![8192, 2048]⟩
abbrev S2048x12880 : Shape := ⟨2, ![2048, 12880]⟩
abbrev S8192x12880 : Shape := ⟨2, ![8192, 12880]⟩
abbrev S8192x512 : Shape := ⟨2, ![8192, 512]⟩
abbrev S_ : Shape := ⟨0, ![]⟩
abbrev S1x8192x512 : Shape := ⟨3, ![1, 8192, 512]⟩
abbrev S3x8192x512 : Shape := ⟨3, ![3, 8192, 512]⟩
abbrev S3x2048x4x512 : Shape := ⟨4, ![3, 2048, 4, 512]⟩
abbrev S3x4x2048x512 : Shape := ⟨4, ![3, 4, 2048, 512]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S8192x2048, .f32⟩
  | .hbm, ⟨3, _⟩ => ⟨S8192x12880, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S1x8192x512, .f32⟩
  | .hbm, ⟨16, _⟩ => ⟨S1x8192x512, .f32⟩
  | .hbm, ⟨17, _⟩ => ⟨S1x8192x512, .f32⟩
  | .hbm, ⟨18, _⟩ => ⟨S3x8192x512, .f32⟩
  | .hbm, ⟨19, _⟩ => ⟨S3x2048x4x512, .f32⟩
  | .hbm, ⟨20, _⟩ => ⟨S3x4x2048x512, .f32⟩
  | .hbm, ⟨21, _⟩ => ⟨S3x4x2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Qkv16.lean ====
abbrev S8192x2048 : Shape := ⟨2, ![8192, 2048]⟩
abbrev S2048x12880 : Shape := ⟨2, ![2048, 12880]⟩
abbrev S12880x2048 : Shape := ⟨2, ![12880, 2048]⟩
abbrev S3x16x512x512 : Shape := ⟨4, ![3, 16, 512, 512]⟩
abbrev S1024x2048 : Shape := ⟨2, ![1024, 2048]⟩
abbrev S512x2048 : Shape := ⟨2, ![512, 2048]⟩
abbrev S3x16x64x512 : Shape := ⟨4, ![3, 16, 64, 512]⟩
abbrev S3x4x1024x128 : Shape := ⟨4, ![3, 4, 1024, 128]⟩
abbrev S1024x512 : Shape := ⟨2, ![1024, 512]⟩
abbrev S1024x128 : Shape := ⟨2, ![1024, 128]⟩
abbrev S1x1x1024x128 : Shape := ⟨4, ![1, 1, 1024, 128]⟩
abbrev S1x1x64x128 : Shape := ⟨4, ![1, 1, 64, 128]⟩
abbrev S64x128 : Shape := ⟨2, ![64, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S12880x2048, .f32⟩
  | .hbm, ⟨3, _⟩ => ⟨S3x16x512x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S3x16x64x512, .bf16⟩
  | .local _ .vmem, ⟨6, _⟩ => ⟨S3x16x64x512, .bf16⟩
  | .local _ .vmem, ⟨7, _⟩ => ⟨S3x4x1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 1], ![false, false]⟩

def k0_mult1 : BitVec 32 :=
  let c5200_i32 : BitVec 32 := 5200#32
  c5200_i32
def k0_mult2 : BitVec 32 :=
  let c6736_i32 : BitVec 32 := 6736#32
  c6736_i32
def k0_mult3 : BitVec 32 :=
  let c8272_i32 : BitVec 32 := 8272#32
  c8272_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c5200_i32 : BitVec 32 := 5200#32
  let v0 : BitVec 32 := c5200_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c6736_i32 : BitVec 32 := 6736#32
  let v0 : BitVec 32 := c6736_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8272_i32 : BitVec 32 := 8272#32
  let v0 : BitVec 32 := c8272_i32
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S3x16x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Qkv16Ideal.lean ====
variable {F : FTy → Type} [FloatOps F] [Named F]
def κ : String → Option EReal := fun
  | "query_scale" => some ((((Real.log 2) * (Real.sqrt 128))⁻¹ : ℝ) : EReal)
  | _ => none
-- ==== Qkv16RefIdeal.lean ====
abbrev S8192x2048 : Shape := ⟨2, ![8192, 2048]⟩
abbrev S2048x12880 : Shape := ⟨2, ![2048, 12880]⟩
abbrev S8192x12880 : Shape := ⟨2, ![8192, 12880]⟩
abbrev S8192x512 : Shape := ⟨2, ![8192, 512]⟩
abbrev S_ : Shape := ⟨0, ![]⟩
abbrev S1x8192x512 : Shape := ⟨3, ![1, 8192, 512]⟩
abbrev S3x8192x512 : Shape := ⟨3, ![3, 8192, 512]⟩
abbrev S3x512x16x512 : Shape := ⟨4, ![3, 512, 16, 512]⟩
abbrev S3x16x512x512 : Shape := ⟨4, ![3, 16, 512, 512]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12880, .f32⟩
  | .hbm, ⟨2, _⟩ => ⟨S8192x2048, .f32⟩
  | .hbm, ⟨3, _⟩ => ⟨S8192x12880, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S1x8192x512, .f32⟩
  | .hbm, ⟨16, _⟩ => ⟨S1x8192x512, .f32⟩
  | .hbm, ⟨17, _⟩ => ⟨S1x8192x512, .f32⟩
  | .hbm, ⟨18, _⟩ => ⟨S3x8192x512, .f32⟩
  | .hbm, ⟨19, _⟩ => ⟨S3x512x16x512, .f32⟩
  | .hbm, ⟨20, _⟩ => ⟨S3x16x512x512, .f32⟩
  | .hbm, ⟨21, _⟩ => ⟨S3x16x512x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Merge.lean ====
abbrev S8192x1024 : Shape := ⟨2, ![8192, 1024]⟩
abbrev S1x8192x512 : Shape := ⟨3, ![1, 8192, 512]⟩
abbrev S4x2048x512 : Shape := ⟨3, ![4, 2048, 512]⟩
abbrev S16x512x512 : Shape := ⟨3, ![16, 512, 512]⟩
abbrev S8192x4096 : Shape := ⟨2, ![8192, 4096]⟩
abbrev S8192x2048 : Shape := ⟨2, ![8192, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩
abbrev S256x1024 : Shape := ⟨2, ![256, 1024]⟩
abbrev S1x256x512 : Shape := ⟨3, ![1, 256, 512]⟩
abbrev S4x64x512 : Shape := ⟨3, ![4, 64, 512]⟩
abbrev S16x16x512 : Shape := ⟨3, ![16, 16, 512]⟩
abbrev S256x2048 : Shape := ⟨2, ![256, 2048]⟩
abbrev S6x4x256x128 : Shape := ⟨4, ![6, 4, 256, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩
abbrev S1x1x64x128 : Shape := ⟨4, ![1, 1, 64, 128]⟩
abbrev S1x1x256x128 : Shape := ⟨4, ![1, 1, 256, 128]⟩
abbrev S1x16x128 : Shape := ⟨3, ![1, 16, 128]⟩
abbrev S16x128 : Shape := ⟨2, ![16, 128]⟩
abbrev S1x1x16x128 : Shape := ⟨4, ![1, 1, 16, 128]⟩
abbrev S256x512 : Shape := ⟨2, ![256, 512]⟩
abbrev S256 : Shape := ⟨1, ![256]⟩
abbrev S256x1 : Shape := ⟨2, ![256, 1]⟩

abbrev nBuf : Space → Nat
  | .hbm => 21
  | .vmem => 30
  | .smem => 0
  | _ => 0

abbrev bufTy : (tb : Table) → Fin (tcTables nBuf tb) → BufTy
  | .hbm, ⟨0, _⟩ => ⟨S8192x1024, .bf16⟩
  | .hbm, ⟨1, _⟩ => ⟨S1x8192x512, .f32⟩
  | .hbm, ⟨2, _⟩ => ⟨S1x8192x512, .f32⟩
  | .hbm, ⟨3, _⟩ => ⟨S4x2048x512, .f32⟩
  | .hbm, ⟨4, _⟩ => ⟨S4x2048x512, .f32⟩
  | .hbm, ⟨5, _⟩ => ⟨S16x512x512, .f32⟩
  | .hbm, ⟨6, _⟩ => ⟨S16x512x512, .f32⟩
  | .hbm, ⟨7, _⟩ => ⟨S8192x4096, .f32⟩
  | .hbm, ⟨8, _⟩ => ⟨S8192x2048, .f32⟩
  | .hbm, ⟨9, _⟩ => ⟨S1024x2048, .f32⟩
  | .hbm, ⟨10, _⟩ => ⟨S512x2048, .f32⟩
  | .hbm, ⟨11, _⟩ => ⟨S2048x2048, .f32⟩
  | .hbm, ⟨12, _⟩ => ⟨S2048, .f32⟩
  | .hbm, ⟨13, _⟩ => ⟨S2048, .f32⟩
  | .hbm, ⟨14, _⟩ => ⟨S1024x2048, .bf16⟩
  | .hbm, ⟨15, _⟩ => ⟨S512x2048, .bf16⟩
  | .hbm, ⟨16, _⟩ => ⟨S2048x2048, .bf16⟩
  | .hbm, ⟨17, _⟩ => ⟨S1x2048, .f32⟩
  | .hbm, ⟨18, _⟩ => ⟨S1x2048, .f32⟩
  | .hbm, ⟨19, _⟩ => ⟨S8192x2048, .f32⟩
  | .hbm, ⟨20, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S1x256x512, .f32⟩
  | .local _ .vmem, ⟨3, _⟩ => ⟨S1x256x512, .f32⟩
  | .local _ .vmem, ⟨4, _⟩ => ⟨S4x64x512, .f32⟩
  | .local _ .vmem, ⟨5, _⟩ => ⟨S4x64x512, .f32⟩
  | .local _ .vmem, ⟨6, _⟩ => ⟨S16x16x512, .f32⟩
  | .local _ .vmem, ⟨7, _⟩ => ⟨S16x16x512, .f32⟩
  | .local _ .vmem, ⟨8, _⟩ => ⟨S1x256x512, .f32⟩
  | .local _ .vmem, ⟨9, _⟩ => ⟨S1x256x512, .f32⟩
  | .local _ .vmem, ⟨10, _⟩ => ⟨S4x64x512, .f32⟩
  | .local _ .vmem, ⟨11, _⟩ => ⟨S4x64x512, .f32⟩
  | .local _ .vmem, ⟨12, _⟩ => ⟨S16x16x512, .f32⟩
  | .local _ .vmem, ⟨13, _⟩ => ⟨S16x16x512, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S1024x2048, .bf16⟩
  | .local _ .vmem, ⟨21, _⟩ => ⟨S512x2048, .bf16⟩
  | .local _ .vmem, ⟨22, _⟩ => ⟨S2048x2048, .bf16⟩
  | .local _ .vmem, ⟨23, _⟩ => ⟨S1x2048, .f32⟩
  | .local _ .vmem, ⟨24, _⟩ => ⟨S1x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | .local _ .vmem, ⟨28, _⟩ => ⟨S256x2048, .bf16⟩
  | .local _ .vmem, ⟨29, _⟩ => ⟨S6x4x256x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S8192x1024 : Shape := ⟨2, ![8192, 1024]⟩
abbrev S1x8192x512 : Shape := ⟨3, ![1, 8192, 512]⟩
abbrev S4x2048x512 : Shape := ⟨3, ![4, 2048, 512]⟩
abbrev S16x512x512 : Shape := ⟨3, ![16, 512, 512]⟩
abbrev S8192x4096 : Shape := ⟨2, ![8192, 4096]⟩
abbrev S8192x2048 : Shape := ⟨2, ![8192, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S8192x1x512 : Shape := ⟨3, ![8192, 1, 512]⟩
abbrev S8192x512 : Shape := ⟨2, ![8192, 512]⟩
abbrev S2048x4x512 : Shape := ⟨3, ![2048, 4, 512]⟩
abbrev S512x16x512 : Shape := ⟨3, ![512, 16, 512]⟩
abbrev S3x8192x512 : Shape := ⟨3, ![3, 8192, 512]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x8192x512, .f32⟩
  | .hbm, ⟨2, _⟩ => ⟨S1x8192x512, .f32⟩
  | .hbm, ⟨3, _⟩ => ⟨S4x2048x512, .f32⟩
  | .hbm, ⟨4, _⟩ => ⟨S4x2048x512, .f32⟩
  | .hbm, ⟨5, _⟩ => ⟨S16x512x512, .f32⟩
  | .hbm, ⟨6, _⟩ => ⟨S16x512x512, .f32⟩
  | .hbm, ⟨7, _⟩ => ⟨S8192x4096, .f32⟩
  | .hbm, ⟨8, _⟩ => ⟨S8192x2048, .f32⟩
  | .hbm, ⟨9, _⟩ => ⟨S1024x2048, .f32⟩
  | .hbm, ⟨10, _⟩ => ⟨S512x2048, .f32⟩
  | .hbm, ⟨11, _⟩ => ⟨S2048x2048, .f32⟩
  | .hbm, ⟨12, _⟩ => ⟨S2048, .f32⟩
  | .hbm, ⟨13, _⟩ => ⟨S2048, .f32⟩
  | .hbm, ⟨14, _⟩ => ⟨S8192x1x512, .f32⟩
  | .hbm, ⟨15, _⟩ => ⟨S8192x512, .f32⟩
  | .hbm, ⟨16, _⟩ => ⟨S2048x4x512, .f32⟩
  | .hbm, ⟨17, _⟩ => ⟨S8192x512, .f32⟩
  | .hbm, ⟨18, _⟩ => ⟨S512x16x512, .f32⟩
  | .hbm, ⟨19, _⟩ => ⟨S8192x512, .f32⟩
  | .hbm, ⟨20, _⟩ => ⟨S1x8192x512, .f32⟩
  | .hbm, ⟨21, _⟩ => ⟨S1x8192x512, .f32⟩
  | .hbm, ⟨22, _⟩ => ⟨S1x8192x512, .f32⟩
  | .hbm, ⟨23, _⟩ => ⟨S3x8192x512, .f32⟩
  | .hbm, ⟨24, _⟩ => ⟨S_, .f32⟩
  | .hbm, ⟨25, _⟩ => ⟨S_, .f32⟩
  | .hbm, ⟨26, _⟩ => ⟨S3x8192x512, .f32⟩
  | .hbm, ⟨27, _⟩ => ⟨S3x8192x512, .f32⟩
  | .hbm, ⟨28, _⟩ => ⟨S_, .f32⟩
  | .hbm, ⟨29, _⟩ => ⟨S8192x512, .f32⟩
  | .hbm, ⟨30, _⟩ => ⟨S1x8192x512, .f32⟩
  | .hbm, ⟨31, _⟩ => ⟨S3x8192x512, .f32⟩
  | .hbm, ⟨32, _⟩ => ⟨S3x8192x512, .f32⟩
  | .hbm, ⟨33, _⟩ => ⟨S3x8192x512, .f32⟩
  | .hbm, ⟨34, _⟩ => ⟨S_, .f32⟩
  | .hbm, ⟨35, _⟩ => ⟨S8192x512, .f32⟩
  | .hbm, ⟨36, _⟩ => ⟨S1x8192x512, .f32⟩
  | .hbm, ⟨37, _⟩ => ⟨S3x8192x512, .f32⟩
  | .hbm, ⟨38, _⟩ => ⟨S3x8192x512, .f32⟩
  | .hbm, ⟨39, _⟩ => ⟨S8192x1x512, .f32⟩
  | .hbm, ⟨40, _⟩ => ⟨S8192x512, .f32⟩
  | .hbm, ⟨41, _⟩ => ⟨S2048x4x512, .f32⟩
  | .hbm, ⟨42, _⟩ => ⟨S8192x512, .f32⟩
  | .hbm, ⟨43, _⟩ => ⟨S512x16x512, .f32⟩
  | .hbm, ⟨44, _⟩ => ⟨S8192x512, .f32⟩
  | .hbm, ⟨45, _⟩ => ⟨S1x8192x512, .f32⟩
  | .hbm, ⟨46, _⟩ => ⟨S1x8192x512, .f32⟩
  | .hbm, ⟨47, _⟩ => ⟨S1x8192x512, .f32⟩
  | .hbm, ⟨48, _⟩ => ⟨S3x8192x512, .f32⟩
  | .hbm, ⟨49, _⟩ => ⟨S3x8192x512, .f32⟩
  | .hbm, ⟨50, _⟩ => ⟨S_, .f32⟩
  | .hbm, ⟨51, _⟩ => ⟨S8192x512, .f32⟩
  | .hbm, ⟨52, _⟩ => ⟨S8192x2048, .f32⟩
  | .hbm, ⟨53, _⟩ => ⟨S8192x1024, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S8192x1, .f32⟩
  | .hbm, ⟨86, _⟩ => ⟨S8192x2048, .f32⟩
  | .hbm, ⟨87, _⟩ => ⟨S8192x2048, .f32⟩
  | .hbm, ⟨88, _⟩ => ⟨S1x2048, .f32⟩
  | .hbm, ⟨89, _⟩ => ⟨S8192x2048, .f32⟩
  | .hbm, ⟨90, _⟩ => ⟨S8192x2048, .f32⟩
  | .hbm, ⟨91, _⟩ => ⟨S1x2048, .f32⟩
  | .hbm, ⟨92, _⟩ => ⟨S8192x2048, .f32⟩
  | .hbm, ⟨93, _⟩ => ⟨S8192x2048, .f32⟩
  | .hbm, ⟨94, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Dil4.lean ====
abbrev S3x4x2048x512 : Shape := ⟨4, ![3, 4, 2048, 512]⟩
abbrev S20 : Shape := ⟨1, ![20]⟩
abbrev S_ : Shape := ⟨0, ![]⟩
abbrev S4 : Shape := ⟨1, ![4]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S2x128x256 : Shape := ⟨3, ![2, 128, 256]⟩
abbrev S1x4x1x1 : Shape := ⟨4, ![1, 4, 1, 1]⟩
abbrev S1x1x128x256 : Shape := ⟨4, ![1, 1, 128, 256]⟩
abbrev S1x4x128x256 : Shape := ⟨4, ![1, 4, 128, 256]⟩
abbrev S2x1x128x256 : Shape := ⟨4, ![2, 1, 128, 256]⟩
abbrev S2x4x128x256 : Shape := ⟨4, ![2, 4, 128, 256]⟩
abbrev S4x2048x512 : Shape := ⟨3, ![4, 2048, 512]⟩
abbrev S1x1x2048x512 : Shape := ⟨4, ![1, 1, 2048, 512]⟩
abbrev S1x1x128x512 : Shape := ⟨4, ![1, 1, 128, 512]⟩
abbrev S1x2048x512 : Shape := ⟨3, ![1, 2048, 512]⟩
abbrev S1x1x128x128 : Shape := ⟨4, ![1, 1, 128, 128]⟩
abbrev S128x128 : Shape := ⟨2, ![128, 128]⟩
abbrev S256x128 : Shape := ⟨2, ![256, 128]⟩
abbrev S1x128x128 : Shape := ⟨3, ![1, 128, 128]⟩

abbrev nBuf : Space → Nat
  | .hbm => 70
  | .vmem => 15
  | .smem => 0
  | _ => 0

abbrev bufTy : (tb : Table) → Fin (tcTables nBuf tb) → BufTy
  | .hbm, ⟨0, _⟩ => ⟨S3x4x2048x512, .bf16⟩
  | .hbm, ⟨1, _⟩ => ⟨S20, .f32⟩
  | .hbm, ⟨2, _⟩ => ⟨S_, .f32⟩
  | .hbm, ⟨3, _⟩ => ⟨S20, .f32⟩
  | .hbm, ⟨4, _⟩ => ⟨S20, .f32⟩
  | .hbm, ⟨5, _⟩ => ⟨S_, .f32⟩
  | .hbm, ⟨6, _⟩ => ⟨S20, .f32⟩
  | .hbm, ⟨7, _⟩ => ⟨S20, .f32⟩
  | .hbm, ⟨8, _⟩ => ⟨S_, .f32⟩
  | .hbm, ⟨9, _⟩ => ⟨S20, .f32⟩
  | .hbm, ⟨10, _⟩ => ⟨S20, .f32⟩
  | .hbm, ⟨11, _⟩ => ⟨S_, .f32⟩
  | .hbm, ⟨12, _⟩ => ⟨S20, .f32⟩
  | .hbm, ⟨13, _⟩ => ⟨S20, .f32⟩
  | .hbm, ⟨14, _⟩ => ⟨S20, .f32⟩
  | .hbm, ⟨15, _⟩ => ⟨S4, .f32⟩
  | .hbm, ⟨16, _⟩ => ⟨S_, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S128, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S256, .i32⟩
  | .hbm, ⟨26, _⟩ => ⟨S1x256, .i32⟩
  | .hbm, ⟨27, _⟩ => ⟨S128x256, .i32⟩
  | .hbm, ⟨28, _⟩ => ⟨S128x256, .i32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S128x256, .i1⟩
  | .hbm, ⟨37, _⟩ => ⟨S_, .i1⟩
  | .hbm, ⟨38, _⟩ => ⟨S128x256, .i1⟩
  | .hbm, ⟨39, _⟩ => ⟨S256, .i32⟩
  | .hbm, ⟨40, _⟩ => ⟨S1x256, .i32⟩
  | .hbm, ⟨41, _⟩ => ⟨S_, .i32⟩
  | .hbm, ⟨42, _⟩ => ⟨S1x256, .i32⟩
  | .hbm, ⟨43, _⟩ => ⟨S1x256, .i1⟩
  | .hbm, ⟨44, _⟩ => ⟨S128x256, .i1⟩
  | .hbm, ⟨45, _⟩ => ⟨S1x128x256, .i1⟩
  | .hbm, ⟨46, _⟩ => ⟨S1x128x256, .i1⟩
  | .hbm, ⟨47, _⟩ => ⟨S2x128x256, .i1⟩
  | .hbm, ⟨48, _⟩ => ⟨S_, .i32⟩
  | .hbm, ⟨49, _⟩ => ⟨S128x256, .i32⟩
  | .hbm, ⟨50, _⟩ => ⟨S128x256, .i32⟩
  | .hbm, ⟨51, _⟩ => ⟨S128x256, .f32⟩
  | .hbm, ⟨52, _⟩ => ⟨S1x4x1x1, .f32⟩
  | .hbm, ⟨53, _⟩ => ⟨S1x4x1x1, .f32⟩
  | .hbm, ⟨54, _⟩ => ⟨S1x1x128x256, .f32⟩
  | .hbm, ⟨55, _⟩ => ⟨S1x4x128x256, .f32⟩
  | .hbm, ⟨56, _⟩ => ⟨S1x4x128x256, .f32⟩
  | .hbm, ⟨57, _⟩ => ⟨S1x4x128x256, .f32⟩
  | .hbm, ⟨58, _⟩ => ⟨S1x128x256, .i1⟩
  | .hbm, ⟨59, _⟩ => ⟨S2x128x256, .i1⟩
  | .hbm, ⟨60, _⟩ => ⟨S2x128x256, .i1⟩
  | .hbm, ⟨61, _⟩ => ⟨S2x1x128x256, .i1⟩
  | .hbm, ⟨62, _⟩ => ⟨S_, .f32⟩
  | .hbm, ⟨63, _⟩ => ⟨S_, .f32⟩
  | .hbm, ⟨64, _⟩ => ⟨S2x4x128x256, .i1⟩
  | .hbm, ⟨65, _⟩ => ⟨S2x4x128x256, .f32⟩
  | .hbm, ⟨66, _⟩ => ⟨S2x4x128x256, .f32⟩
  | .hbm, ⟨67, _⟩ => ⟨S2x4x128x256, .f32⟩
  | .hbm, ⟨68, _⟩ => ⟨S4x2048x512, .f32⟩
  | .hbm, ⟨69, _⟩ => ⟨S4x2048x512, .f32⟩
  | .local _ .vmem, ⟨0, _⟩ => ⟨S2x4x128x256, .f32⟩
  | .local _ .vmem, ⟨1, _⟩ => ⟨S1x1x2048x512, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x128x512, .bf16⟩
  | .local _ .vmem, ⟨6, _⟩ => ⟨S1x1x128x512, .bf16⟩
  | .local _ .vmem, ⟨7, _⟩ => ⟨S1x1x2048x512, .bf16⟩
  | .local _ .vmem, ⟨8, _⟩ => ⟨S1x1x2048x512, .bf16⟩
  | .local _ .vmem, ⟨9, _⟩ => ⟨S1x1x128x512, .bf16⟩
  | .local _ .vmem, ⟨10, _⟩ => ⟨S1x1x128x512, .bf16⟩
  | .local _ .vmem, ⟨11, _⟩ => ⟨S1x2048x512, .f32⟩
  | .local _ .vmem, ⟨12, _⟩ => ⟨S1x2048x512, .f32⟩
  | .local _ .vmem, ⟨13, _⟩ => ⟨S1x2048x512, .f32⟩
  | .local _ .vmem, ⟨14, _⟩ => ⟨S1x2048x512, .f32⟩
  | _, _ => ⟨S3x4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 1], ![false, false]⟩

def k0_off1 (i : grid0.Coords) : Fin 4 → Nat :=
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v14 : Index := Scalar.indexCast v1
  let c0_20 : Index := 0#32
  let c0_21 : Index := 0#32
  let c0_22 : Index := 0#32
  ![v14.toNat, 0, 0, 0]
def k0_off2 (i : grid0.Coords) : Fin 4 → Nat :=
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v54 : Index := Scalar.indexCast v1
  let c1 : Index := 1#32
  let c0_52 : Index := 0#32
  let c0_53 : Index := 0#32
  ![v54.toNat, 1, 0, 0]
def k0_off3 (i : grid0.Coords) : Fin 4 → Nat :=
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v94 : Index := Scalar.indexCast v1
  let c2 : Index := 2#32
  let c0_84 : Index := 0#32
  let c0_85 : Index := 0#32
  ![v94.toNat, 2, 0, 0]
def k0_off4 (i : grid0.Coords) : Fin 4 → Nat :=
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v134 : Index := Scalar.indexCast v1
  let c3 : Index := 3#32
  let c0_116 : Index := 0#32
  let c0_117 : Index := 0#32
  ![v134.toNat, 3, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  let c0_i32_2 : BitVec 32 := 0#32
  ![c1_i32_0.toNat, arg0.toNat, v2.toNat, c0_i32_1.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  ![c2_i32.toNat, arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x4x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Dil4Ideal.lean ====
variable {F : FTy → Type} [FloatOps F] [Named F]
def κ : String → Option EReal := fun
  | "log2e" => some (((Real.log 2)⁻¹ : ℝ) : EReal)
  | _ => none
-- ==== Dil4RefIdeal.lean ====
abbrev S3x4x2048x512 : Shape := ⟨4, ![3, 4, 2048, 512]⟩
abbrev S20 : Shape := ⟨1, ![20]⟩
abbrev S_ : Shape := ⟨0, ![]⟩
abbrev S4 : Shape := ⟨1, ![4]⟩
abbrev S3x4x2048x4x128 : Shape := ⟨5, ![3, 4, 2048, 4, 128]⟩
abbrev S3x2048x4x4x128 : Shape := ⟨5, ![3, 2048, 4, 4, 128]⟩
abbrev S3x1x8192x4x128 : Shape := ⟨5, ![3, 1, 8192, 4, 128]⟩
abbrev S1x1x8192x4x128 : Shape := ⟨5, ![1, 1, 8192, 4, 128]⟩
abbrev S1x8192x4x128 : Shape := ⟨4, ![1, 8192, 4, 128]⟩
abbrev S1x2048x4x4x128 : Shape := ⟨5, ![1, 2048, 4, 4, 128]⟩
abbrev S1x4x2048x4x128 : Shape := ⟨5, ![1, 4, 2048, 4, 128]⟩
abbrev S4x16x128x4x128 : Shape := ⟨5, ![4, 16, 128, 4, 128]⟩
abbrev S4x17x128x4x128 : Shape := ⟨5, ![4, 17, 128, 4, 128]⟩
abbrev S4x16x256x4x128 : Shape := ⟨5, ![4, 16, 256, 4, 128]⟩
abbrev S4x4x16x128x256 : Shape := ⟨5, ![4, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S1x4x1x1x1 : Shape := ⟨5, ![1, 4, 1, 1, 1]⟩
abbrev S1x1x1x128x256 : Shape := ⟨5, ![1, 1, 1, 128, 256]⟩
abbrev S1x4x1x128x256 : Shape := ⟨5, ![1, 4, 1, 128, 256]⟩
abbrev S1x1x16x128x256 : Shape := ⟨5, ![1, 1, 16, 128, 256]⟩
abbrev S4x4x16x128 : Shape := ⟨4, ![4, 4, 16, 128]⟩
abbrev S4x4x16x128x1 : Shape := ⟨5, ![4, 4, 16, 128, 1]⟩
abbrev S4x16x4x128x128 : Shape := ⟨5, ![4, 16, 4, 128, 128]⟩
abbrev S4x2048x512 : Shape := ⟨3, ![4, 2048, 512]⟩
abbrev S4x16x128x4 : Shape := ⟨4, ![4, 16, 128, 4]⟩
abbrev S4x2048x4 : Shape := ⟨3, ![4, 2048, 4]⟩
abbrev S4x2048x4x1 : Shape := ⟨4, ![4, 2048, 4, 1]⟩
abbrev S4x2048x4x128 : Shape := ⟨4, ![4, 2048, 4, 128]⟩

abbrev nBuf : Space → Nat
  | .hbm => 131
  | .vmem => 0
  | .smem => 0
  | _ => 0

abbrev hbmTy0_0 (i : Nat) : BufTy := match i % 128 with
  | 0 => ⟨S3x4x2048x512, .bf16⟩
  | 1 => ⟨S20, .f32⟩
  | 2 => ⟨S_, .f32⟩
  | 3 => ⟨S20, .f32⟩
  | 4 => ⟨S20, .f32⟩
  | 5 => ⟨S_, .f32⟩
  | 6 => ⟨S20, .f32⟩
  | 7 => ⟨S20, .f32⟩
  | 8 => ⟨S_, .f32⟩
  | 9 => ⟨S20, .f32⟩
  | 10 => ⟨S20, .f32⟩
  | 11 => ⟨S_, .f32⟩
  | 12 => ⟨S20, .f32⟩
  | 13 => ⟨S20, .f32⟩
  | 14 => ⟨S20, .f32⟩
  | 15 => ⟨S4, .f32⟩
  | 16 => ⟨S3x4x2048x512, .f32⟩
  | 17 => ⟨S3x4x2048x4x128, .f32⟩
  | 18 => ⟨S3x2048x4x4x128, .f32⟩
  | 19 => ⟨S3x1x8192x4x128, .f32⟩
  | 20 => ⟨S1x1x8192x4x128, .f32⟩
  | 21 => ⟨S1x8192x4x128, .f32⟩
  | 22 => ⟨S1x1x8192x4x128, .f32⟩
  | 23 => ⟨S1x8192x4x128, .f32⟩
  | 24 => ⟨S1x1x8192x4x128, .f32⟩
  | 25 => ⟨S1x8192x4x128, .f32⟩
  | 26 => ⟨S1x2048x4x4x128, .f32⟩
  | 27 => ⟨S1x4x2048x4x128, .f32⟩
  | 28 => ⟨S4x16x128x4x128, .f32⟩
  | 29 => ⟨S1x2048x4x4x128, .f32⟩
  | 30 => ⟨S1x4x2048x4x128, .f32⟩
  | 31 => ⟨S4x16x128x4x128, .f32⟩
  | 32 => ⟨S1x2048x4x4x128, .f32⟩
  | 33 => ⟨S1x4x2048x4x128, .f32⟩
  | 34 => ⟨S4x16x128x4x128, .f32⟩
  | 35 => ⟨S_, .i32⟩
  | 36 => ⟨S_, .f32⟩
  | 37 => ⟨S4x17x128x4x128, .f32⟩
  | 38 => ⟨S4x16x128x4x128, .f32⟩
  | 39 => ⟨S4x16x256x4x128, .f32⟩
  | 40 => ⟨S_, .i32⟩
  | 41 => ⟨S_, .f32⟩
  | 42 => ⟨S4x17x128x4x128, .f32⟩
  | 43 => ⟨S4x16x128x4x128, .f32⟩
  | 44 => ⟨S4x16x256x4x128, .f32⟩
  | 45 => ⟨S4x4x16x128x256, .f32⟩
  | 46 => ⟨S_, .f32⟩
  | 47 => ⟨S_, .f32⟩
  | 48 => ⟨S4x4x16x128x256, .f32⟩
  | 49 => ⟨S4x4x16x128x256, .f32⟩
  | 50 => ⟨S128, .i32⟩
  | 51 => ⟨S128x1, .i32⟩
  | 52 => ⟨S_, .i32⟩
  | 53 => ⟨S128x1, .i32⟩
  | 54 => ⟨S128x1, .i32⟩
  | 55 => ⟨S256, .i32⟩
  | 56 => ⟨S1x256, .i32⟩
  | 57 => ⟨S128x256, .i32⟩
  | 58 => ⟨S128x256, .i32⟩
  | 59 => ⟨S128x256, .i32⟩
  | 60 => ⟨S16, .i32⟩
  | 61 => ⟨S16x1, .i32⟩
  | 62 => ⟨S_, .i32⟩
  | 63 => ⟨S16x1, .i32⟩
  | 64 => ⟨S16x1, .i32⟩
  | 65 => ⟨S_, .i32⟩
  | 66 => ⟨S16x1, .i32⟩
  | 67 => ⟨S16x1, .i32⟩
  | 68 => ⟨S256, .i32⟩
  | 69 => ⟨S1x256, .i32⟩
  | 70 => ⟨S16x256, .i32⟩
  | 71 => ⟨S16x256, .i32⟩
  | 72 => ⟨S16x256, .i32⟩
  | 73 => ⟨S_, .i32⟩
  | 74 => ⟨S128x256, .i32⟩
  | 75 => ⟨S128x256, .i1⟩
  | 76 => ⟨S_, .i32⟩
  | 77 => ⟨S128x256, .i32⟩
  | 78 => ⟨S128x256, .i1⟩
  | 79 => ⟨S128x256, .i1⟩
  | 80 => ⟨S1x128x256, .i1⟩
  | 81 => ⟨S_, .i32⟩
  | 82 => ⟨S16x256, .i32⟩
  | 83 => ⟨S16x256, .i1⟩
  | 84 => ⟨S16x1x256, .i1⟩
  | 85 => ⟨S16x128x256, .i1⟩
  | 86 => ⟨S16x128x256, .i1⟩
  | 87 => ⟨S16x128x256, .i1⟩
  | 88 => ⟨S1x4x1x1x1, .f32⟩
  | 89 => ⟨S_, .i32⟩
  | 90 => ⟨S128x256, .i32⟩
  | 91 => ⟨S128x256, .i32⟩
  | 92 => ⟨S128x256, .f32⟩
  | 93 => ⟨S1x1x1x128x256, .f32⟩
  | 94 => ⟨S1x4x1x128x256, .f32⟩
  | 95 => ⟨S1x4x1x128x256, .f32⟩
  | 96 => ⟨S1x4x1x128x256, .f32⟩
  | 97 => ⟨S4x4x16x128x256, .f32⟩
  | 98 => ⟨S4x4x16x128x256, .f32⟩
  | 99 => ⟨S1x1x16x128x256, .i1⟩
  | 100 => ⟨S_, .f32⟩
  | 101 => ⟨S_, .f32⟩
  | 102 => ⟨S4x4x16x128x256, .i1⟩
  | 103 => ⟨S4x4x16x128x256, .f32⟩
  | 104 => ⟨S4x4x16x128x256, .f32⟩
  | 105 => ⟨S_, .f32⟩
  | 106 => ⟨S4x4x16x128, .f32⟩
  | 107 => ⟨S4x4x16x128x1, .f32⟩
  | 108 => ⟨S4x4x16x128x256, .f32⟩
  | 109 => ⟨S4x4x16x128x256, .f32⟩
  | 110 => ⟨S4x4x16x128x256, .f32⟩
  | 111 => ⟨S_, .f32⟩
  | 112 => ⟨S4x4x16x128, .f32⟩
  | 113 => ⟨S4x4x16x128, .f32⟩
  | 114 => ⟨S4x4x16x128, .f32⟩
  | 115 => ⟨S4x4x16x128x1, .f32⟩
  | 116 => ⟨S4x4x16x128x256, .f32⟩
  | 117 => ⟨S4x4x16x128x256, .f32⟩
  | 118 => ⟨S4x4x16x128x256, .f32⟩
  | 119 => ⟨S4x16x4x128x128, .f32⟩
  | 120 => ⟨S4x16x128x4x128, .f32⟩
  | 121 => ⟨S4x2048x512, .f32⟩
  | 122 => ⟨S4x16x128x4, .f32⟩
  | 123 => ⟨S4x2048x4, .f32⟩
  | 124 => ⟨S_, .f32⟩
  | 125 => ⟨S_, .f32⟩
  | 126 => ⟨S4x2048x4, .f32⟩
  | 127 => ⟨S4x2048x4, .f32⟩
  | _ => ⟨S3x4x2048x512, .bf16⟩

abbrev hbmTy0_1 (i : Nat) : BufTy := match i % 128 with
  | 0 => ⟨S4x2048x4x1, .f32⟩
  | 1 => ⟨S4x2048x4x128, .f32⟩
  | 2 => ⟨S4x2048x512, .f32⟩
  | _ => ⟨S3x4x2048x512, .bf16⟩

abbrev hbmTy (i : Nat) : BufTy := match i / 128 with
  | 0 => hbmTy0_0 i
  | 1 => hbmTy0_1 i
  | _ => ⟨S3x4x2048x512, .bf16⟩

abbrev bufTy : (tb : Table) → Fin (tcTables nBuf tb) → BufTy
  | .hbm, ⟨i, _⟩ => hbmTy i
  | _, _ => ⟨S3x4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c : Ref sig .tc := ⟨.hbm, 35, rfl⟩
abbrev main_call0_v0 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_3 : Ref sig .tc := ⟨.hbm, 40, rfl⟩
abbrev main_call1_v0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_6 : Ref sig .tc := ⟨.hbm, 62, rfl⟩
abbrev main_v51 : Ref sig .tc := ⟨.hbm, 63, rfl⟩
abbrev main_v52 : Ref sig .tc := ⟨.hbm, 64, rfl⟩
abbrev main_c_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c_8 : Ref sig .tc := ⟨.hbm, 73, rfl⟩
abbrev main_v60 : Ref sig .tc := ⟨.hbm, 74, rfl⟩
abbrev main_v61 : Ref sig .tc := ⟨.hbm, 75, rfl⟩
abbrev main_c_9 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_10 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_c_11 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_12 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_14 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_15 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩

abbrev nD : Nat := 1
abbrev τ : Topo := Topo.v7x

variable {F : FTy → Type} [FloatOps F]
-- ==== Dil1.lean ====
abbrev S3x1x8192x512 : Shape := ⟨4, ![3, 1, 8192, 512]⟩
abbrev S20 : Shape := ⟨1, ![20]⟩
abbrev S_ : Shape := ⟨0, ![]⟩
abbrev S4 : Shape := ⟨1, ![4]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S2x128x256 : Shape := ⟨3, ![2, 128, 256]⟩
abbrev S1x4x1x1 : Shape := ⟨4, ![1, 4, 1, 1]⟩
abbrev S1x1x128x256 : Shape := ⟨4, ![1, 1, 128, 256]⟩
abbrev S1x4x128x256 : Shape := ⟨4, ![1, 4, 128, 256]⟩
abbrev S2x1x128x256 : Shape := ⟨4, ![2, 1, 128, 256]⟩
abbrev S2x4x128x256 : Shape := ⟨4, ![2, 4, 128, 256]⟩
abbrev S1x8192x512 : Shape := ⟨3, ![1, 8192, 512]⟩
abbrev S1x1x2048x512 : Shape := ⟨4, ![1, 1, 2048, 512]⟩
abbrev S1x1x128x512 : Shape := ⟨4, ![1, 1, 128, 512]⟩
abbrev S1x2048x512 : Shape := ⟨3, ![1, 2048, 512]⟩
abbrev S1x1x128x128 : Shape := ⟨4, ![1, 1, 128, 128]⟩
abbrev S128x128 : Shape := ⟨2, ![128, 128]⟩
abbrev S256x128 : Shape := ⟨2, ![256, 128]⟩
abbrev S1x128x128 : Shape := ⟨3, ![1, 128, 128]⟩

abbrev nBuf : Space → Nat
  | .hbm => 70
  | .vmem => 15
  | .smem => 0
  | _ => 0

abbrev bufTy : (tb : Table) → Fin (tcTables nBuf tb) → BufTy
  | .hbm, ⟨0, _⟩ => ⟨S3x1x8192x512, .bf16⟩
  | .hbm, ⟨1, _⟩ => ⟨S20, .f32⟩
  | .hbm, ⟨2, _⟩ => ⟨S_, .f32⟩
  | .hbm, ⟨3, _⟩ => ⟨S20, .f32⟩
  | .hbm, ⟨4, _⟩ => ⟨S20, .f32⟩
  | .hbm, ⟨5, _⟩ => ⟨S_, .f32⟩
  | .hbm, ⟨6, _⟩ => ⟨S20, .f32⟩
  | .hbm, ⟨7, _⟩ => ⟨S20, .f32⟩
  | .hbm, ⟨8, _⟩ => ⟨S_, .f32⟩
  | .hbm, ⟨9, _⟩ => ⟨S20, .f32⟩
  | .hbm, ⟨10, _⟩ => ⟨S20, .f32⟩
  | .hbm, ⟨11, _⟩ => ⟨S_, .f32⟩
  | .hbm, ⟨12, _⟩ => ⟨S20, .f32⟩
  | .hbm, ⟨13, _⟩ => ⟨S20, .f32⟩
  | .hbm, ⟨14, _⟩ => ⟨S20, .f32⟩
  | .hbm, ⟨15, _⟩ => ⟨S4, .f32⟩
  | .hbm, ⟨16, _⟩ => ⟨S_, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S128, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S256, .i32⟩
  | .hbm, ⟨26, _⟩ => ⟨S1x256, .i32⟩
  | .hbm, ⟨27, _⟩ => ⟨S128x256, .i32⟩
  | .hbm, ⟨28, _⟩ => ⟨S128x256, .i32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S128x256, .i1⟩
  | .hbm, ⟨37, _⟩ => ⟨S_, .i1⟩
  | .hbm, ⟨38, _⟩ => ⟨S128x256, .i1⟩
  | .hbm, ⟨39, _⟩ => ⟨S256, .i32⟩
  | .hbm, ⟨40, _⟩ => ⟨S1x256, .i32⟩
  | .hbm, ⟨41, _⟩ => ⟨S_, .i32⟩
  | .hbm, ⟨42, _⟩ => ⟨S1x256, .i32⟩
  | .hbm, ⟨43, _⟩ => ⟨S1x256, .i1⟩
  | .hbm, ⟨44, _⟩ => ⟨S128x256, .i1⟩
  | .hbm, ⟨45, _⟩ => ⟨S1x128x256, .i1⟩
  | .hbm, ⟨46, _⟩ => ⟨S1x128x256, .i1⟩
  | .hbm, ⟨47, _⟩ => ⟨S2x128x256, .i1⟩
  | .hbm, ⟨48, _⟩ => ⟨S_, .i32⟩
  | .hbm, ⟨49, _⟩ => ⟨S128x256, .i32⟩
  | .hbm, ⟨50, _⟩ => ⟨S128x256, .i32⟩
  | .hbm, ⟨51, _⟩ => ⟨S128x256, .f32⟩
  | .hbm, ⟨52, _⟩ => ⟨S1x4x1x1, .f32⟩
  | .hbm, ⟨53, _⟩ => ⟨S1x4x1x1, .f32⟩
  | .hbm, ⟨54, _⟩ => ⟨S1x1x128x256, .f32⟩
  | .hbm, ⟨55, _⟩ => ⟨S1x4x128x256, .f32⟩
  | .hbm, ⟨56, _⟩ => ⟨S1x4x128x256, .f32⟩
  | .hbm, ⟨57, _⟩ => ⟨S1x4x128x256, .f32⟩
  | .hbm, ⟨58, _⟩ => ⟨S1x128x256, .i1⟩
  | .hbm, ⟨59, _⟩ => ⟨S2x128x256, .i1⟩
  | .hbm, ⟨60, _⟩ => ⟨S2x128x256, .i1⟩
  | .hbm, ⟨61, _⟩ => ⟨S2x1x128x256, .i1⟩
  | .hbm, ⟨62, _⟩ => ⟨S_, .f32⟩
  | .hbm, ⟨63, _⟩ => ⟨S_, .f32⟩
  | .hbm, ⟨64, _⟩ => ⟨S2x4x128x256, .i1⟩
  | .hbm, ⟨65, _⟩ => ⟨S2x4x128x256, .f32⟩
  | .hbm, ⟨66, _⟩ => ⟨S2x4x128x256, .f32⟩
  | .hbm, ⟨67, _⟩ => ⟨S2x4x128x256, .f32⟩
  | .hbm, ⟨68, _⟩ => ⟨S1x8192x512, .f32⟩
  | .hbm, ⟨69, _⟩ => ⟨S1x8192x512, .f32⟩
  | .local _ .vmem, ⟨0, _⟩ => ⟨S2x4x128x256, .f32⟩
  | .local _ .vmem, ⟨1, _⟩ => ⟨S1x1x2048x512, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x128x512, .bf16⟩
  | .local _ .vmem, ⟨6, _⟩ => ⟨S1x1x128x512, .bf16⟩
  | .local _ .vmem, ⟨7, _⟩ => ⟨S1x1x2048x512, .bf16⟩
  | .local _ .vmem, ⟨8, _⟩ => ⟨S1x1x2048x512, .bf16⟩
  | .local _ .vmem, ⟨9, _⟩ => ⟨S1x1x128x512, .bf16⟩
  | .local _ .vmem, ⟨10, _⟩ => ⟨S1x1x128x512, .bf16⟩
  | .local _ .vmem, ⟨11, _⟩ => ⟨S1x2048x512, .f32⟩
  | .local _ .vmem, ⟨12, _⟩ => ⟨S1x2048x512, .f32⟩
  | .local _ .vmem, ⟨13, _⟩ => ⟨S1x2048x512, .f32⟩
  | .local _ .vmem, ⟨14, _⟩ => ⟨S1x2048x512, .f32⟩
  | _, _ => ⟨S3x1x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 4], ![false, false]⟩

def k0_off1 (i : grid0.Coords) : Fin 4 → Nat :=
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v14 : Index := Scalar.indexCast v1
  let c0_20 : Index := 0#32
  let c0_21 : Index := 0#32
  let c0_22 : Index := 0#32
  ![v14.toNat, 0, 0, 0]
def k0_off2 (i : grid0.Coords) : Fin 4 → Nat :=
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v54 : Index := Scalar.indexCast v1
  let c1 : Index := 1#32
  let c0_52 : Index := 0#32
  let c0_53 : Index := 0#32
  ![v54.toNat, 1, 0, 0]
def k0_off3 (i : grid0.Coords) : Fin 4 → Nat :=
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v94 : Index := Scalar.indexCast v1
  let c2 : Index := 2#32
  let c0_84 : Index := 0#32
  let c0_85 : Index := 0#32
  ![v94.toNat, 2, 0, 0]
def k0_off4 (i : grid0.Coords) : Fin 4 → Nat :=
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v134 : Index := Scalar.indexCast v1
  let c3 : Index := 3#32
  let c0_116 : Index := 0#32
  let c0_117 : Index := 0#32
  ![v134.toNat, 3, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  let c0_i32_2 : BitVec 32 := 0#32
  ![c1_i32_0.toNat, arg0.toNat, v2.toNat, c0_i32_1.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  ![c2_i32.toNat, arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x4x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Dil1Ideal.lean ====
variable {F : FTy → Type} [FloatOps F] [Named F]
def κ : String → Option EReal := fun
  | "log2e" => some (((Real.log 2)⁻¹ : ℝ) : EReal)
  | _ => none
-- ==== Dil1RefIdeal.lean ====
abbrev S3x1x8192x512 : Shape := ⟨4, ![3, 1, 8192, 512]⟩
abbrev S20 : Shape := ⟨1, ![20]⟩
abbrev S_ : Shape := ⟨0, ![]⟩
abbrev S4 : Shape := ⟨1, ![4]⟩
abbrev S3x1x8192x4x128 : Shape := ⟨5, ![3, 1, 8192, 4, 128]⟩
abbrev S3x8192x1x4x128 : Shape := ⟨5, ![3, 8192, 1, 4, 128]⟩
abbrev S1x1x8192x4x128 : Shape := ⟨5, ![1, 1, 8192, 4, 128]⟩
abbrev S1x8192x4x128 : Shape := ⟨4, ![1, 8192, 4, 128]⟩
abbrev S1x8192x1x4x128 : Shape := ⟨5, ![1, 8192, 1, 4, 128]⟩
abbrev S1x64x128x4x128 : Shape := ⟨5, ![1, 64, 128, 4, 128]⟩
abbrev S1x65x128x4x128 : Shape := ⟨5, ![1, 65, 128, 4, 128]⟩
abbrev S1x64x256x4x128 : Shape := ⟨5, ![1, 64, 256, 4, 128]⟩
abbrev S1x4x64x128x256 : Shape := ⟨5, ![1, 4, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x4x1x1x1 : Shape := ⟨5, ![1, 4, 1, 1, 1]⟩
abbrev S1x1x1x128x256 : Shape := ⟨5, ![1, 1, 1, 128, 256]⟩
abbrev S1x4x1x128x256 : Shape := ⟨5, ![1, 4, 1, 128, 256]⟩
abbrev S1x1x64x128x256 : Shape := ⟨5, ![1, 1, 64, 128, 256]⟩
abbrev S1x4x64x128 : Shape := ⟨4, ![1, 4, 64, 128]⟩
abbrev S1x4x64x128x1 : Shape := ⟨5, ![1, 4, 64, 128, 1]⟩
abbrev S1x64x4x128x128 : Shape := ⟨5, ![1, 64, 4, 128, 128]⟩
abbrev S1x8192x512 : Shape := ⟨3, ![1, 8192, 512]⟩
abbrev S1x64x128x4 : Shape := ⟨4, ![1, 64, 128, 4]⟩
abbrev S1x8192x4 : Shape := ⟨3, ![1, 8192, 4]⟩
abbrev S1x8192x4x1 : Shape := ⟨4, ![1, 8192, 4, 1]⟩

abbrev nBuf : Space → Nat
  | .hbm => 131
  | .vmem => 0
  | .smem => 0
  | _ => 0

abbrev hbmTy0_0 (i : Nat) : BufTy := match i % 128 with
  | 0 => ⟨S3x1x8192x512, .bf16⟩
  | 1 => ⟨S20, .f32⟩
  | 2 => ⟨S_, .f32⟩
  | 3 => ⟨S20, .f32⟩
  | 4 => ⟨S20, .f32⟩
  | 5 => ⟨S_, .f32⟩
  | 6 => ⟨S20, .f32⟩
  | 7 => ⟨S20, .f32⟩
  | 8 => ⟨S_, .f32⟩
  | 9 => ⟨S20, .f32⟩
  | 10 => ⟨S20, .f32⟩
  | 11 => ⟨S_, .f32⟩
  | 12 => ⟨S20, .f32⟩
  | 13 => ⟨S20, .f32⟩
  | 14 => ⟨S20, .f32⟩
  | 15 => ⟨S4, .f32⟩
  | 16 => ⟨S3x1x8192x512, .f32⟩
  | 17 => ⟨S3x1x8192x4x128, .f32⟩
  | 18 => ⟨S3x8192x1x4x128, .f32⟩
  | 19 => ⟨S3x1x8192x4x128, .f32⟩
  | 20 => ⟨S1x1x8192x4x128, .f32⟩
  | 21 => ⟨S1x8192x4x128, .f32⟩
  | 22 => ⟨S1x1x8192x4x128, .f32⟩
  | 23 => ⟨S1x8192x4x128, .f32⟩
  | 24 => ⟨S1x1x8192x4x128, .f32⟩
  | 25 => ⟨S1x8192x4x128, .f32⟩
  | 26 => ⟨S1x8192x1x4x128, .f32⟩
  | 27 => ⟨S1x1x8192x4x128, .f32⟩
  | 28 => ⟨S1x64x128x4x128, .f32⟩
  | 29 => ⟨S1x8192x1x4x128, .f32⟩
  | 30 => ⟨S1x1x8192x4x128, .f32⟩
  | 31 => ⟨S1x64x128x4x128, .f32⟩
  | 32 => ⟨S1x8192x1x4x128, .f32⟩
  | 33 => ⟨S1x1x8192x4x128, .f32⟩
  | 34 => ⟨S1x64x128x4x128, .f32⟩
  | 35 => ⟨S_, .i32⟩
  | 36 => ⟨S_, .f32⟩
  | 37 => ⟨S1x65x128x4x128, .f32⟩
  | 38 => ⟨S1x64x128x4x128, .f32⟩
  | 39 => ⟨S1x64x256x4x128, .f32⟩
  | 40 => ⟨S_, .i32⟩
  | 41 => ⟨S_, .f32⟩
  | 42 => ⟨S1x65x128x4x128, .f32⟩
  | 43 => ⟨S1x64x128x4x128, .f32⟩
  | 44 => ⟨S1x64x256x4x128, .f32⟩
  | 45 => ⟨S1x4x64x128x256, .f32⟩
  | 46 => ⟨S_, .f32⟩
  | 47 => ⟨S_, .f32⟩
  | 48 => ⟨S1x4x64x128x256, .f32⟩
  | 49 => ⟨S1x4x64x128x256, .f32⟩
  | 50 => ⟨S128, .i32⟩
  | 51 => ⟨S128x1, .i32⟩
  | 52 => ⟨S_, .i32⟩
  | 53 => ⟨S128x1, .i32⟩
  | 54 => ⟨S128x1, .i32⟩
  | 55 => ⟨S256, .i32⟩
  | 56 => ⟨S1x256, .i32⟩
  | 57 => ⟨S128x256, .i32⟩
  | 58 => ⟨S128x256, .i32⟩
  | 59 => ⟨S128x256, .i32⟩
  | 60 => ⟨S64, .i32⟩
  | 61 => ⟨S64x1, .i32⟩
  | 62 => ⟨S_, .i32⟩
  | 63 => ⟨S64x1, .i32⟩
  | 64 => ⟨S64x1, .i32⟩
  | 65 => ⟨S_, .i32⟩
  | 66 => ⟨S64x1, .i32⟩
  | 67 => ⟨S64x1, .i32⟩
  | 68 => ⟨S256, .i32⟩
  | 69 => ⟨S1x256, .i32⟩
  | 70 => ⟨S64x256, .i32⟩
  | 71 => ⟨S64x256, .i32⟩
  | 72 => ⟨S64x256, .i32⟩
  | 73 => ⟨S_, .i32⟩
  | 74 => ⟨S128x256, .i32⟩
  | 75 => ⟨S128x256, .i1⟩
  | 76 => ⟨S_, .i32⟩
  | 77 => ⟨S128x256, .i32⟩
  | 78 => ⟨S128x256, .i1⟩
  | 79 => ⟨S128x256, .i1⟩
  | 80 => ⟨S1x128x256, .i1⟩
  | 81 => ⟨S_, .i32⟩
  | 82 => ⟨S64x256, .i32⟩
  | 83 => ⟨S64x256, .i1⟩
  | 84 => ⟨S64x1x256, .i1⟩
  | 85 => ⟨S64x128x256, .i1⟩
  | 86 => ⟨S64x128x256, .i1⟩
  | 87 => ⟨S64x128x256, .i1⟩
  | 88 => ⟨S1x4x1x1x1, .f32⟩
  | 89 => ⟨S_, .i32⟩
  | 90 => ⟨S128x256, .i32⟩
  | 91 => ⟨S128x256, .i32⟩
  | 92 => ⟨S128x256, .f32⟩
  | 93 => ⟨S1x1x1x128x256, .f32⟩
  | 94 => ⟨S1x4x1x128x256, .f32⟩
  | 95 => ⟨S1x4x1x128x256, .f32⟩
  | 96 => ⟨S1x4x1x128x256, .f32⟩
  | 97 => ⟨S1x4x64x128x256, .f32⟩
  | 98 => ⟨S1x4x64x128x256, .f32⟩
  | 99 => ⟨S1x1x64x128x256, .i1⟩
  | 100 => ⟨S_, .f32⟩
  | 101 => ⟨S_, .f32⟩
  | 102 => ⟨S1x4x64x128x256, .i1⟩
  | 103 => ⟨S1x4x64x128x256, .f32⟩
  | 104 => ⟨S1x4x64x128x256, .f32⟩
  | 105 => ⟨S_, .f32⟩
  | 106 => ⟨S1x4x64x128, .f32⟩
  | 107 => ⟨S1x4x64x128x1, .f32⟩
  | 108 => ⟨S1x4x64x128x256, .f32⟩
  | 109 => ⟨S1x4x64x128x256, .f32⟩
  | 110 => ⟨S1x4x64x128x256, .f32⟩
  | 111 => ⟨S_, .f32⟩
  | 112 => ⟨S1x4x64x128, .f32⟩
  | 113 => ⟨S1x4x64x128, .f32⟩
  | 114 => ⟨S1x4x64x128, .f32⟩
  | 115 => ⟨S1x4x64x128x1, .f32⟩
  | 116 => ⟨S1x4x64x128x256, .f32⟩
  | 117 => ⟨S1x4x64x128x256, .f32⟩
  | 118 => ⟨S1x4x64x128x256, .f32⟩
  | 119 => ⟨S1x64x4x128x128, .f32⟩
  | 120 => ⟨S1x64x128x4x128, .f32⟩
  | 121 => ⟨S1x8192x512, .f32⟩
  | 122 => ⟨S1x64x128x4, .f32⟩
  | 123 => ⟨S1x8192x4, .f32⟩
  | 124 => ⟨S_, .f32⟩
  | 125 => ⟨S_, .f32⟩
  | 126 => ⟨S1x8192x4, .f32⟩
  | 127 => ⟨S1x8192x4, .f32⟩
  | _ => ⟨S3x1x8192x512, .bf16⟩

abbrev hbmTy0_1 (i : Nat) : BufTy := match i % 128 with
  | 0 => ⟨S1x8192x4x1, .f32⟩
  | 1 => ⟨S1x8192x4x128, .f32⟩
  | 2 => ⟨S1x8192x512, .f32⟩
  | _ => ⟨S3x1x8192x512, .bf16⟩

abbrev hbmTy (i : Nat) : BufTy := match i / 128 with
  | 0 => hbmTy0_0 i
  | 1 => hbmTy0_1 i
  | _ => ⟨S3x1x8192x512, .bf16⟩

abbrev bufTy : (tb : Table) → Fin (tcTables nBuf tb) → BufTy
  | .hbm, ⟨i, _⟩ => hbmTy i
  | _, _ => ⟨S3x1x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c : Ref sig .tc := ⟨.hbm, 35, rfl⟩
abbrev main_call0_v0 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_3 : Ref sig .tc := ⟨.hbm, 40, rfl⟩
abbrev main_call1_v0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_6 : Ref sig .tc := ⟨.hbm, 62, rfl⟩
abbrev main_v51 : Ref sig .tc := ⟨.hbm, 63, rfl⟩
abbrev main_v52 : Ref sig .tc := ⟨.hbm, 64, rfl⟩
abbrev main_c_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c_8 : Ref sig .tc := ⟨.hbm, 73, rfl⟩
abbrev main_v60 : Ref sig .tc := ⟨.hbm, 74, rfl⟩
abbrev main_v61 : Ref sig .tc := ⟨.hbm, 75, rfl⟩
abbrev main_c_9 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_10 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_c_11 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_12 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_14 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_15 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩

abbrev nD : Nat := 1
abbrev τ : Topo := Topo.v7x

variable {F : FTy → Type} [FloatOps F]
-- ==== Proof.DilKernel.lean ====
module

public import proofs.«01_k».proof.Proof.Gen.DilIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DilIdeal.AttValue

open Cert.DilIdeal Cert.DilIdeal.Gen

/-! ## One block's attention as a function of the queries, keys, values and biases it reads -/

/-- Row `a` of block `b` of a residue's rows. -/
def row (b : Fin 4) (a : Fin 128) : Fin 512 := ⟨b.val * 128 + a.val, by omega⟩

/-- Lane `e` of head `h`. -/
def col (h : Fin 4) (e : Fin 128) : Fin 512 := ⟨h.val * 128 + e.val, by omega⟩

/-- Row `j` of the block before block `b`. Block 0 has none, and its own row stands there (its bias hides it). -/
def prevRow (b : Fin 4) (j : Fin 128) : Fin 512 := ⟨(b.val - 1) * 128 + j.val, by omega⟩

/-- The row that key `j` of block `b` is read at: the 256 keys are the block before and the block itself. -/
def keyRow (b : Fin 4) (j : Fin 256) : Fin 512 :=
  if h : j.val < 128 then prevRow b ⟨j.val, h⟩ else row b ⟨j.val - 128, by omega⟩

/-- The first 128 keys of a block are the block before. -/
theorem keyRow_lo (b : Fin 4) (j : Fin 128) : keyRow b ⟨j.val, by omega⟩ = prevRow b j := dif_pos j.isLt

/-- The others are the block itself. -/
theorem keyRow_hi (b : Fin 4) (j : Fin 128) : keyRow b ⟨128 + j.val, by omega⟩ = row b j := by
  refine (dif_neg (by simp)).trans (congrArg (row b) (Fin.ext ?_))
  show 128 + j.val - 128 = j.val
  omega

/-- Which of the two bias tables block `b` adds: the one that hides the keys before the start, at block 0. -/
def tab (b : Fin 4) : Fin 2 := if b.val = 0 then 1 else 0

/-- The score of query `a` at key `j`, in units of log 2: the product over the head's lanes, and the bias. -/
def score (X : S3x16x512x512.Idx → EReal) (B : S2x4x128x256.Idx → EReal) (r : Fin 16) (b h : Fin 4) (a : Fin 128)
    (j : Fin 256) : EReal :=
  (∑ e : Fin 128, X (ix4 0 r (row b a) (col h e)) * X (ix4 1 r (keyRow b j) (col h e))) + B (ix4 (tab b) h a j)

/-- The largest of a row of scores. -/
def top (s : Fin 256 → EReal) : EReal := Finset.univ.fold max (Ideal.ofBits .f32 0xFF800000#32) s

/-- The sum of the powers of two of a row of scores less the largest. -/
def mass (s : Fin 256 → EReal) : EReal := ∑ j, Ideal.exp2 (s j - top s)

/-- The softmax (base two) of a row of scores, applied to a column of values. -/
def attend (s v : Fin 256 → EReal) : EReal := Ideal.div (∑ j, Ideal.exp2 (s j - top s) * v j) (mass s)

/-- The logarithm (base two) of the softmax's denominator. -/
def lse2 (s : Fin 256 → EReal) : EReal := top s + Ideal.log (mass s) * (((Real.log 2)⁻¹ : ℝ) : EReal)

section Tile

variable (q kp vp kc vc : Vec Ideal S1x1x128x128 .bf16) (bs : Vec Ideal S1x1x128x256 .f32)

/-- The first head's payload of the scores, at an index. -/
theorem score_at (a : Fin 128) (j : Fin 256) : k0_pay3 q kp kc bs (ix2 a j)
    = (∑ e, q (ix4 0 0 a e) * if h : j.val < 128 then kp (ix4 0 0 ⟨j.val, h⟩ e) else kc (ix4 0 0 ⟨j.val - 128, by omega⟩ e))
      + bs (ix4 0 0 a j) := by
  pointwise [k0_pay3]

/-- The largest score, at an index. -/
theorem top_at (s : Fin 128 → Fin 256 → EReal) (hs : ∀ a j, k0_pay3 q kp kc bs (ix2 a j) = s a j) (a : Fin 128) :
    k0_pay4 q kp kc bs (ix2 a 0) = top (s a) := by
  pointwise [k0_pay4]
  unfold top
  congr 1
  funext j
  exact hs a j

/-- The powers of two, at an index. -/
theorem pow_at (s : Fin 128 → Fin 256 → EReal) (hs : ∀ a j, k0_pay3 q kp kc bs (ix2 a j) = s a j) (a : Fin 128)
    (j : Fin 256) : k0_pay5 q kp kc bs (ix2 a j) = Ideal.exp2 (s a j - top (s a)) := by
  pointwise [k0_pay5]
  rw [hs, top_at q kp kc bs s hs]
  rfl

/-- Their sum, at an index. -/
theorem mass_at (s : Fin 128 → Fin 256 → EReal) (hs : ∀ a j, k0_pay3 q kp kc bs (ix2 a j) = s a j) (a : Fin 128) :
    k0_pay6 q kp kc bs (ix2 a 0) = mass (s a) := by
  pointwise [k0_pay6]
  exact Finset.sum_congr rfl fun j _ => pow_at q kp kc bs s hs a j

/-- A sum over 256 keys is the sum over the first 128 and the sum over the last 128. -/
theorem sum_halves (f : Fin 256 → EReal) :
    ∑ j, f j = (∑ x : Fin 128, f ⟨x.val, by omega⟩) + ∑ x : Fin 128, f ⟨128 + x.val, by omega⟩ :=
  Fin.sum_univ_two_halves 128 128 rfl f

/-- What the body stores of the attention's output, at an index. -/
theorem out_at (s : Fin 128 → Fin 256 → EReal) (v : Fin 256 → Fin 128 → EReal)
    (hs : ∀ a j, k0_pay3 q kp kc bs (ix2 a j) = s a j)
    (hp : ∀ (j e : Fin 128), vp (ix4 0 0 j e) = v ⟨j.val, by omega⟩ e)
    (hc : ∀ (j e : Fin 128), vc (ix4 0 0 j e) = v ⟨128 + j.val, by omega⟩ e) (a e : Fin 128) :
    k0_pay8 (k0_pay6 q kp kc bs) (k0_pay7 q kp vp kc vc bs) (ix3 0 a e) = attend (s a) fun j => v j e := by
  pointwise [k0_pay8, k0_pay7]
  unfold attend
  rw [mass_at q kp kc bs s hs, sum_halves]
  simp only [pow_at q kp kc bs s hs, hp, hc]

/-- What the body stores of the denominator's logarithm, at an index. -/
theorem lse_at (s : Fin 128 → Fin 256 → EReal) (hs : ∀ a j, k0_pay3 q kp kc bs (ix2 a j) = s a j) (a e : Fin 128) :
    k0_pay9 (k0_pay4 q kp kc bs) (k0_pay6 q kp kc bs) (ix3 0 a e) = lse2 (s a) := by
  pointwise [k0_pay9]
  rw [mass_at q kp kc bs s hs, top_at q kp kc bs s hs]
  rfl

variable (X : S3x16x512x512.Idx → EReal) (B : S2x4x128x256.Idx → EReal) (r : Fin 16) (b h : Fin 4)

/-- The scores of a tile whose operands are the array's block `b`, head `h`. -/
theorem score_tile (hq : ∀ a e : Fin 128, q (ix4 0 0 a e) = X (ix4 0 r (row b a) (col h e)))
    (hkp : ∀ j e : Fin 128, kp (ix4 0 0 j e) = X (ix4 1 r (prevRow b j) (col h e)))
    (hkc : ∀ j e : Fin 128, kc (ix4 0 0 j e) = X (ix4 1 r (row b j) (col h e)))
    (hbs : ∀ (a : Fin 128) (j : Fin 256), bs (ix4 0 0 a j) = B (ix4 (tab b) h a j)) (a : Fin 128) (j : Fin 256) :
    k0_pay3 q kp kc bs (ix2 a j) = score X B r b h a j := by
  rw [score_at, hbs]
  unfold score
  congr 1
  refine Finset.sum_congr rfl fun e _ => ?_
  rw [hq]
  congr 1
  unfold keyRow
  split
  · rw [hkp]
  · rw [hkc]

/-- The tile's output at index `x`. -/
theorem out_tile (hq : ∀ a e : Fin 128, q (ix4 0 0 a e) = X (ix4 0 r (row b a) (col h e)))
    (hkp : ∀ j e : Fin 128, kp (ix4 0 0 j e) = X (ix4 1 r (prevRow b j) (col h e)))
    (hkc : ∀ j e : Fin 128, kc (ix4 0 0 j e) = X (ix4 1 r (row b j) (col h e)))
    (hvp : ∀ j e : Fin 128, vp (ix4 0 0 j e) = X (ix4 2 r (prevRow b j) (col h e)))
    (hvc : ∀ j e : Fin 128, vc (ix4 0 0 j e) = X (ix4 2 r (row b j) (col h e)))
    (hbs : ∀ (a : Fin 128) (j : Fin 256), bs (ix4 0 0 a j) = B (ix4 (tab b) h a j)) (x : S1x128x128.Idx) :
    k0_pay8 (k0_pay6 q kp kc bs) (k0_pay7 q kp vp kc vc bs) x
      = attend (score X B r b h (x 1)) fun j => X (ix4 2 r (keyRow b j) (col h (x 2))) := by
  idx_vars x
  obtain rfl : x0 = 0 := Subsingleton.elim _ _
  exact out_at q kp vp kc vc bs _ (fun j e => X (ix4 2 r (keyRow b j) (col h e)))
    (score_tile q kp kc bs X B r b h hq hkp hkc hbs)
    (fun j e => by rw [hvp, keyRow_lo]) (fun j e => by rw [hvc, keyRow_hi]) x1 x2

/-- The tile's denominator at index `x`. -/
theorem lse_tile (hq : ∀ a e : Fin 128, q (ix4 0 0 a e) = X (ix4 0 r (row b a) (col h e)))
    (hkp : ∀ j e : Fin 128, kp (ix4 0 0 j e) = X (ix4 1 r (prevRow b j) (col h e)))
    (hkc : ∀ j e : Fin 128, kc (ix4 0 0 j e) = X (ix4 1 r (row b j) (col h e)))
    (hbs : ∀ (a : Fin 128) (j : Fin 256), bs (ix4 0 0 a j) = B (ix4 (tab b) h a j)) (x : S1x128x128.Idx) :
    k0_pay9 (k0_pay4 q kp kc bs) (k0_pay6 q kp kc bs) x = lse2 (score X B r b h (x 1)) := by
  idx_vars x
  obtain rfl : x0 = 0 := Subsingleton.elim _ _
  exact lse_at q kp kc bs _ (score_tile q kp kc bs X B r b h hq hkp hkc hbs) x1 x2

end Tile

/-! ## The two result arrays -/

variable (m : (ℓ : Loc nD τ sig) → Buf (Elt Ideal) ℓ)

/-- Which block each window holds at each point, and which bias table block 0 of a residue reads. -/
theorem idx : ∀ t : Fin grid0.N, win0_0.index t = ![0, 0, 0, 0] ∧ win0_1.index t = ![0, t.val, 0, 0] ∧ win0_2.index t = ![1, t.val, 0, 0]
    ∧ win0_3.index t = ![1, t.val, 0, 0] ∧ win0_4.index t = ![2, t.val, 0, 0] ∧ win0_5.index t = ![2, t.val, 0, 0]
    ∧ win0_6.index t = ![t.val, 0, 0] ∧ win0_7.index t = ![t.val, 0, 0] ∧ k0_off1 (grid0.coords t) = ![1, 0, 0, 0]
    ∧ k0_off2 (grid0.coords t) = ![1, 1, 0, 0] ∧ k0_off3 (grid0.coords t) = ![1, 2, 0, 0]
    ∧ k0_off4 (grid0.coords t) = ![1, 3, 0, 0] := by
  decide +kernel

/-- The array of queries, keys and values. -/
abbrev qkv (c : Dev nD) : S3x16x512x512.Idx → EReal := m (c.tc.loc main_arg0)

/-- The table of biases, as the launch finds it. -/
abbrev bias (c : Dev nD) : S2x4x128x256.Idx → EReal := V m c main_v50

/-- The attention's output, at an index. -/
def out (c : Dev nD) (i : S16x512x512.Idx) : EReal :=
  attend (score (qkv m c) (bias m c) (i 0) ⟨(i 1).val / 128, by have : (i 1).val < 512 := (i 1).isLt; omega⟩
      ⟨(i 2).val / 128, by have : (i 2).val < 512 := (i 2).isLt; omega⟩ ⟨(i 1).val % 128, by omega⟩)
    fun j => qkv m c (ix4 2 (i 0) (keyRow ⟨(i 1).val / 128, by have : (i 1).val < 512 := (i 1).isLt; omega⟩ j) (i 2))

/-- The denominator's logarithm, at an index. -/
def lse (c : Dev nD) (i : S16x512x512.Idx) : EReal :=
  lse2 (score (qkv m c) (bias m c) (i 0) ⟨(i 1).val / 128, by have : (i 1).val < 512 := (i 1).isLt; omega⟩
      ⟨(i 2).val / 128, by have : (i 2).val < 512 := (i 2).isLt; omega⟩ ⟨(i 1).val % 128, by omega⟩)

/-- The outputs at an index given by its residue, block, head, row and lane. -/
theorem out_eq (c : Dev nD) (i : S16x512x512.Idx) (r : Fin 16) (b h : Fin 4) (a e : Fin 128) (h0 : (i 0).val = r.val)
    (h1 : (i 1).val = b.val * 128 + a.val) (h2 : (i 2).val = h.val * 128 + e.val) :
    out m c i = attend (score (qkv m c) (bias m c) r b h a) fun j => qkv m c (ix4 2 r (keyRow b j) (col h e)) := by
  have e0 : i 0 = r := Fin.ext h0
  have e1 : (i 1).val / 128 = b.val := by omega
  have e2 : (i 2).val / 128 = h.val := by omega
  have e3 : (i 1).val % 128 = a.val := by omega
  have e4 : i 2 = col h e := Fin.ext h2
  unfold out
  have e5 : ∀ w j, (ix4 w r (keyRow b j) (i 2) : S3x16x512x512.Idx) = ix4 w r (keyRow b j) (col h e) := fun w j => by rw [e4]
  simp only [e0, e1, e2, e3]
  simp only [e5]

/-- As `out_eq`, of the denominator's logarithm. -/
theorem lse_eq (c : Dev nD) (i : S16x512x512.Idx) (r : Fin 16) (b h : Fin 4) (a e : Fin 128) (h0 : (i 0).val = r.val)
    (h1 : (i 1).val = b.val * 128 + a.val) (h2 : (i 2).val = h.val * 128 + e.val) :
    lse m c i = lse2 (score (qkv m c) (bias m c) r b h a) := by
  have e0 : i 0 = r := Fin.ext h0
  have e1 : (i 1).val / 128 = b.val := by omega
  have e2 : (i 2).val / 128 = h.val := by omega
  have e3 : (i 1).val % 128 = a.val := by omega
  unfold lse
  simp only [e0, e1, e2, e3]

/-- A load of 128 rows and 128 lanes of the block of queries. -/
theorem q_load (c : Dev nD) (t : Fin grid0.N) (b h : Fin 4) (off : Fin 4 → Nat) (inb)
    (ho : off = ![0, 0, b.val * 128, h.val * 128]) (a e : Fin 128) :
    View.ld (iblk m c 1 t) (Rect.unit (s := S1x1x512x512) off ![1, 1, 128, 128] inb) (ix4 0 0 a e) = qkv m c (ix4 0 t (row b a) (col h e)) := by
  subst ho
  pointwise
  blk_ext [iblk, V, idx t, row, col]

/-- … of the block of keys. -/
theorem k_load (c : Dev nD) (t : Fin grid0.N) (b h : Fin 4) (off : Fin 4 → Nat) (inb)
    (ho : off = ![0, 0, b.val * 128, h.val * 128]) (a e : Fin 128) :
    View.ld (iblk m c 2 t) (Rect.unit (s := S1x1x512x512) off ![1, 1, 128, 128] inb) (ix4 0 0 a e) = qkv m c (ix4 1 t (row b a) (col h e)) := by
  subst ho
  pointwise
  blk_ext [iblk, V, idx t, row, col]

/-- … of the block of values. -/
theorem v_load (c : Dev nD) (t : Fin grid0.N) (b h : Fin 4) (off : Fin 4 → Nat) (inb)
    (ho : off = ![0, 0, b.val * 128, h.val * 128]) (a e : Fin 128) :
    View.ld (iblk m c 4 t) (Rect.unit (s := S1x1x512x512) off ![1, 1, 128, 128] inb) (ix4 0 0 a e) = qkv m c (ix4 2 t (row b a) (col h e)) := by
  subst ho
  pointwise
  blk_ext [iblk, V, idx t, row, col]

/-- … of the keys of the block before, inside the rows held. -/
theorem kp_load (c : Dev nD) (t : Fin grid0.N) (b h : Fin 4) (off : Fin 4 → Nat) (inb)
    (ho : off = ![0, 0, (b.val - 1) * 128, h.val * 128]) (a e : Fin 128) :
    View.ld (iblk m c 2 t) (Rect.unit (s := S1x1x512x512) off ![1, 1, 128, 128] inb) (ix4 0 0 a e) = qkv m c (ix4 1 t (prevRow b a) (col h e)) := by
  subst ho
  pointwise
  blk_ext [iblk, V, idx t, prevRow, col]

/-- … of the values of the block before, inside the rows held. -/
theorem vp_load (c : Dev nD) (t : Fin grid0.N) (b h : Fin 4) (off : Fin 4 → Nat) (inb)
    (ho : off = ![0, 0, (b.val - 1) * 128, h.val * 128]) (a e : Fin 128) :
    View.ld (iblk m c 4 t) (Rect.unit (s := S1x1x512x512) off ![1, 1, 128, 128] inb) (ix4 0 0 a e) = qkv m c (ix4 2 t (prevRow b a) (col h e)) := by
  subst ho
  pointwise
  blk_ext [iblk, V, idx t, prevRow, col]

/-- … of the keys that stand before the rows held (the window of the previous rows). -/
theorem kp_load0 (c : Dev nD) (t : Fin grid0.N) (h : Fin 4) (off : Fin 4 → Nat) (inb)
    (ho : off = ![0, 0, 0, h.val * 128]) (a e : Fin 128) :
    View.ld (iblk m c 3 t) (Rect.unit (s := S1x1x128x512) off ![1, 1, 128, 128] inb) (ix4 0 0 a e) = qkv m c (ix4 1 t (prevRow 0 a) (col h e)) := by
  subst ho
  pointwise
  blk_ext [iblk, V, idx t, prevRow, col]

/-- … of the values that stand before the rows held. -/
theorem vp_load0 (c : Dev nD) (t : Fin grid0.N) (h : Fin 4) (off : Fin 4 → Nat) (inb)
    (ho : off = ![0, 0, 0, h.val * 128]) (a e : Fin 128) :
    View.ld (iblk m c 5 t) (Rect.unit (s := S1x1x128x512) off ![1, 1, 128, 128] inb) (ix4 0 0 a e) = qkv m c (ix4 2 t (prevRow 0 a) (col h e)) := by
  subst ho
  pointwise
  blk_ext [iblk, V, idx t, prevRow, col]

/-- … of a head's biases. -/
theorem b_load (c : Dev nD) (t : Fin grid0.N) (b h : Fin 4) (off : Fin 4 → Nat) (inb)
    (ho : off = ![(tab b).val, h.val, 0, 0]) (a : Fin 128) (j : Fin 256) :
    View.ld (iblk m c 0 t) (Rect.unit (s := S2x4x128x256) off ![1, 1, 128, 256] inb) (ix4 0 0 a j) = bias m c (ix4 (tab b) h a j) := by
  subst ho
  unfold bias
  pointwise
  blk_ext [iblk, idx t]

/-- Where the write-back of point `t` puts element `y` of its block, `out` read there. -/
theorem out_put (c : Dev nD) (t : Fin grid0.N) (b h : Fin 4) (x : S1x128x128.Idx) (y : S1x512x512.Idx)
    (h1 : (y 1).val = b.val * 128 + (x 1).val) (h2 : (y 2).val = h.val * 128 + (x 2).val) :
    out m c (((View.whole main_v51_0).slice (win0_6.rect t)).emb y)
      = attend (score (qkv m c) (bias m c) t b h (x 1)) fun j => qkv m c (ix4 2 t (keyRow b j) (col h (x 2))) := by
  have h0 : (y 0).val < 1 := (y 0).isLt
  refine out_eq m c _ t b h (x 1) (x 2) ?_ ?_ ?_
  · blk_simp [idx t]
  · blk_simp [idx t]
    omega
  · blk_simp [idx t]
    omega

/-- Where the write-back of point `t` puts element `y` of its block, `lse` read there. -/
theorem lse_put (c : Dev nD) (t : Fin grid0.N) (b h : Fin 4) (x : S1x128x128.Idx) (y : S1x512x512.Idx)
    (h1 : (y 1).val = b.val * 128 + (x 1).val) (h2 : (y 2).val = h.val * 128 + (x 2).val) :
    lse m c (((View.whole main_v51_1).slice (win0_7.rect t)).emb y)
      = lse2 (score (qkv m c) (bias m c) t b h (x 1)) := by
  have h0 : (y 0).val < 1 := (y 0).isLt
  refine lse_eq m c _ t b h (x 1) (x 2) ?_ ?_ ?_
  · blk_simp [idx t]
  · blk_simp [idx t]
    omega
  · blk_simp [idx t]
    omega

set_option maxHeartbeats 1600000 in
/-- The first result array after the run. -/
theorem arr6 (c : Dev nD) : (dats m 0 c).arrAt 6 cfg0.N = out m c := by
  refine (dats m 0 c).arrAt_eq_of_covers 6 _ (by decide +kernel) fun t hf y => ?_
  blk_simp
  rw [after0_6]
  unfold outsAt0
  dsimp only
  frame_out
  canon_tiles x h
  case piece0 =>
    exact (out_tile _ _ _ _ _ _ (qkv m c) (bias m c) t 3 3 (q_load m c t 3 3 _ _ rfl) (kp_load m c t 3 3 _ _ rfl) (k_load m c t 3 3 _ _ rfl)
      (vp_load m c t 3 3 _ _ rfl) (v_load m c t 3 3 _ _ rfl) (b_load m c t 3 3 _ _ rfl) x).trans
      (out_put m c t 3 3 x y (by omega) (by omega)).symm
  case piece1 =>
    exact (out_tile _ _ _ _ _ _ (qkv m c) (bias m c) t 3 2 (q_load m c t 3 2 _ _ rfl) (kp_load m c t 3 2 _ _ rfl) (k_load m c t 3 2 _ _ rfl)
      (vp_load m c t 3 2 _ _ rfl) (v_load m c t 3 2 _ _ rfl) (b_load m c t 3 2 _ _ rfl) x).trans
      (out_put m c t 3 2 x y (by omega) (by omega)).symm
  case piece2 =>
    exact (out_tile _ _ _ _ _ _ (qkv m c) (bias m c) t 3 1 (q_load m c t 3 1 _ _ rfl) (kp_load m c t 3 1 _ _ rfl) (k_load m c t 3 1 _ _ rfl)
      (vp_load m c t 3 1 _ _ rfl) (v_load m c t 3 1 _ _ rfl) (b_load m c t 3 1 _ _ rfl) x).trans
      (out_put m c t 3 1 x y (by omega) (by omega)).symm
  case piece3 =>
    exact (out_tile _ _ _ _ _ _ (qkv m c) (bias m c) t 3 0 (q_load m c t 3 0 _ _ rfl) (kp_load m c t 3 0 _ _ rfl) (k_load m c t 3 0 _ _ rfl)
      (vp_load m c t 3 0 _ _ rfl) (v_load m c t 3 0 _ _ rfl) (b_load m c t 3 0 _ _ rfl) x).trans
      (out_put m c t 3 0 x y (by omega) (by omega)).symm
  case piece4 =>
    exact (out_tile _ _ _ _ _ _ (qkv m c) (bias m c) t 2 3 (q_load m c t 2 3 _ _ rfl) (kp_load m c t 2 3 _ _ rfl) (k_load m c t 2 3 _ _ rfl)
      (vp_load m c t 2 3 _ _ rfl) (v_load m c t 2 3 _ _ rfl) (b_load m c t 2 3 _ _ rfl) x).trans
      (out_put m c t 2 3 x y (by omega) (by omega)).symm
  case piece5 =>
    exact (out_tile _ _ _ _ _ _ (qkv m c) (bias m c) t 2 2 (q_load m c t 2 2 _ _ rfl) (kp_load m c t 2 2 _ _ rfl) (k_load m c t 2 2 _ _ rfl)
      (vp_load m c t 2 2 _ _ rfl) (v_load m c t 2 2 _ _ rfl) (b_load m c t 2 2 _ _ rfl) x).trans
      (out_put m c t 2 2 x y (by omega) (by omega)).symm
  case piece6 =>
    exact (out_tile _ _ _ _ _ _ (qkv m c) (bias m c) t 2 1 (q_load m c t 2 1 _ _ rfl) (kp_load m c t 2 1 _ _ rfl) (k_load m c t 2 1 _ _ rfl)
      (vp_load m c t 2 1 _ _ rfl) (v_load m c t 2 1 _ _ rfl) (b_load m c t 2 1 _ _ rfl) x).trans
      (out_put m c t 2 1 x y (by omega) (by omega)).symm
  case piece7 =>
    exact (out_tile _ _ _ _ _ _ (qkv m c) (bias m c) t 2 0 (q_load m c t 2 0 _ _ rfl) (kp_load m c t 2 0 _ _ rfl) (k_load m c t 2 0 _ _ rfl)
      (vp_load m c t 2 0 _ _ rfl) (v_load m c t 2 0 _ _ rfl) (b_load m c t 2 0 _ _ rfl) x).trans
      (out_put m c t 2 0 x y (by omega) (by omega)).symm
  case piece8 =>
    exact (out_tile _ _ _ _ _ _ (qkv m c) (bias m c) t 1 3 (q_load m c t 1 3 _ _ rfl) (kp_load m c t 1 3 _ _ rfl) (k_load m c t 1 3 _ _ rfl)
      (vp_load m c t 1 3 _ _ rfl) (v_load m c t 1 3 _ _ rfl) (b_load m c t 1 3 _ _ rfl) x).trans
      (out_put m c t 1 3 x y (by omega) (by omega)).symm
  case piece9 =>
    exact (out_tile _ _ _ _ _ _ (qkv m c) (bias m c) t 1 2 (q_load m c t 1 2 _ _ rfl) (kp_load m c t 1 2 _ _ rfl) (k_load m c t 1 2 _ _ rfl)
      (vp_load m c t 1 2 _ _ rfl) (v_load m c t 1 2 _ _ rfl) (b_load m c t 1 2 _ _ rfl) x).trans
      (out_put m c t 1 2 x y (by omega) (by omega)).symm
  case piece10 =>
    exact (out_tile _ _ _ _ _ _ (qkv m c) (bias m c) t 1 1 (q_load m c t 1 1 _ _ rfl) (kp_load m c t 1 1 _ _ rfl) (k_load m c t 1 1 _ _ rfl)
      (vp_load m c t 1 1 _ _ rfl) (v_load m c t 1 1 _ _ rfl) (b_load m c t 1 1 _ _ rfl) x).trans
      (out_put m c t 1 1 x y (by omega) (by omega)).symm
  case piece11 =>
    exact (out_tile _ _ _ _ _ _ (qkv m c) (bias m c) t 1 0 (q_load m c t 1 0 _ _ rfl) (kp_load m c t 1 0 _ _ rfl) (k_load m c t 1 0 _ _ rfl)
      (vp_load m c t 1 0 _ _ rfl) (v_load m c t 1 0 _ _ rfl) (b_load m c t 1 0 _ _ rfl) x).trans
      (out_put m c t 1 0 x y (by omega) (by omega)).symm
  case piece12 =>
    exact (out_tile _ _ _ _ _ _ (qkv m c) (bias m c) t 0 3 (q_load m c t 0 3 _ _ rfl) (kp_load0 m c t 3 _ _ rfl) (k_load m c t 0 3 _ _ rfl)
      (vp_load0 m c t 3 _ _ rfl) (v_load m c t 0 3 _ _ rfl) (b_load m c t 0 3 _ _ (idx t).2.2.2.2.2.2.2.2.2.2.2) x).trans
      (out_put m c t 0 3 x y (by omega) (by omega)).symm
  case piece13 =>
    exact (out_tile _ _ _ _ _ _ (qkv m c) (bias m c) t 0 2 (q_load m c t 0 2 _ _ rfl) (kp_load0 m c t 2 _ _ rfl) (k_load m c t 0 2 _ _ rfl)
      (vp_load0 m c t 2 _ _ rfl) (v_load m c t 0 2 _ _ rfl) (b_load m c t 0 2 _ _ (idx t).2.2.2.2.2.2.2.2.2.2.1) x).trans
      (out_put m c t 0 2 x y (by omega) (by omega)).symm
  case piece14 =>
    exact (out_tile _ _ _ _ _ _ (qkv m c) (bias m c) t 0 1 (q_load m c t 0 1 _ _ rfl) (kp_load0 m c t 1 _ _ rfl) (k_load m c t 0 1 _ _ rfl)
      (vp_load0 m c t 1 _ _ rfl) (v_load m c t 0 1 _ _ rfl) (b_load m c t 0 1 _ _ (idx t).2.2.2.2.2.2.2.2.2.1) x).trans
      (out_put m c t 0 1 x y (by omega) (by omega)).symm
  case piece15 =>
    exact (out_tile _ _ _ _ _ _ (qkv m c) (bias m c) t 0 0 (q_load m c t 0 0 _ _ rfl) (kp_load0 m c t 0 _ _ rfl) (k_load m c t 0 0 _ _ rfl)
      (vp_load0 m c t 0 _ _ rfl) (v_load m c t 0 0 _ _ rfl) (b_load m c t 0 0 _ _ (idx t).2.2.2.2.2.2.2.2.1) x).trans
      (out_put m c t 0 0 x y (by omega) (by omega)).symm

set_option maxHeartbeats 1600000 in
/-- The second result array after the run. -/
theorem arr7 (c : Dev nD) : (dats m 0 c).arrAt 7 cfg0.N = lse m c := by
  refine (dats m 0 c).arrAt_eq_of_covers 7 _ (by decide +kernel) fun t hf y => ?_
  blk_simp
  rw [after0_7]
  unfold outsAt0
  dsimp only
  frame_out
  canon_tiles x h
  case piece0 =>
    exact (lse_tile _ _ _ _ (qkv m c) (bias m c) t 3 3 (q_load m c t 3 3 _ _ rfl) (kp_load m c t 3 3 _ _ rfl) (k_load m c t 3 3 _ _ rfl)
      (b_load m c t 3 3 _ _ rfl) x).trans
      (lse_put m c t 3 3 x y (by omega) (by omega)).symm
  case piece1 =>
    exact (lse_tile _ _ _ _ (qkv m c) (bias m c) t 3 2 (q_load m c t 3 2 _ _ rfl) (kp_load m c t 3 2 _ _ rfl) (k_load m c t 3 2 _ _ rfl)
      (b_load m c t 3 2 _ _ rfl) x).trans
      (lse_put m c t 3 2 x y (by omega) (by omega)).symm
  case piece2 =>
    exact (lse_tile _ _ _ _ (qkv m c) (bias m c) t 3 1 (q_load m c t 3 1 _ _ rfl) (kp_load m c t 3 1 _ _ rfl) (k_load m c t 3 1 _ _ rfl)
      (b_load m c t 3 1 _ _ rfl) x).trans
      (lse_put m c t 3 1 x y (by omega) (by omega)).symm
  case piece3 =>
    exact (lse_tile _ _ _ _ (qkv m c) (bias m c) t 3 0 (q_load m c t 3 0 _ _ rfl) (kp_load m c t 3 0 _ _ rfl) (k_load m c t 3 0 _ _ rfl)
      (b_load m c t 3 0 _ _ rfl) x).trans
      (lse_put m c t 3 0 x y (by omega) (by omega)).symm
  case piece4 =>
    exact (lse_tile _ _ _ _ (qkv m c) (bias m c) t 2 3 (q_load m c t 2 3 _ _ rfl) (kp_load m c t 2 3 _ _ rfl) (k_load m c t 2 3 _ _ rfl)
      (b_load m c t 2 3 _ _ rfl) x).trans
      (lse_put m c t 2 3 x y (by omega) (by omega)).symm
  case piece5 =>
    exact (lse_tile _ _ _ _ (qkv m c) (bias m c) t 2 2 (q_load m c t 2 2 _ _ rfl) (kp_load m c t 2 2 _ _ rfl) (k_load m c t 2 2 _ _ rfl)
      (b_load m c t 2 2 _ _ rfl) x).trans
      (lse_put m c t 2 2 x y (by omega) (by omega)).symm
  case piece6 =>
    exact (lse_tile _ _ _ _ (qkv m c) (bias m c) t 2 1 (q_load m c t 2 1 _ _ rfl) (kp_load m c t 2 1 _ _ rfl) (k_load m c t 2 1 _ _ rfl)
      (b_load m c t 2 1 _ _ rfl) x).trans
      (lse_put m c t 2 1 x y (by omega) (by omega)).symm
  case piece7 =>
    exact (lse_tile _ _ _ _ (qkv m c) (bias m c) t 2 0 (q_load m c t 2 0 _ _ rfl) (kp_load m c t 2 0 _ _ rfl) (k_load m c t 2 0 _ _ rfl)
      (b_load m c t 2 0 _ _ rfl) x).trans
      (lse_put m c t 2 0 x y (by omega) (by omega)).symm
  case piece8 =>
    exact (lse_tile _ _ _ _ (qkv m c) (bias m c) t 1 3 (q_load m c t 1 3 _ _ rfl) (kp_load m c t 1 3 _ _ rfl) (k_load m c t 1 3 _ _ rfl)
      (b_load m c t 1 3 _ _ rfl) x).trans
      (lse_put m c t 1 3 x y (by omega) (by omega)).symm
  case piece9 =>
    exact (lse_tile _ _ _ _ (qkv m c) (bias m c) t 1 2 (q_load m c t 1 2 _ _ rfl) (kp_load m c t 1 2 _ _ rfl) (k_load m c t 1 2 _ _ rfl)
      (b_load m c t 1 2 _ _ rfl) x).trans
      (lse_put m c t 1 2 x y (by omega) (by omega)).symm
  case piece10 =>
    exact (lse_tile _ _ _ _ (qkv m c) (bias m c) t 1 1 (q_load m c t 1 1 _ _ rfl) (kp_load m c t 1 1 _ _ rfl) (k_load m c t 1 1 _ _ rfl)
      (b_load m c t 1 1 _ _ rfl) x).trans
      (lse_put m c t 1 1 x y (by omega) (by omega)).symm
  case piece11 =>
    exact (lse_tile _ _ _ _ (qkv m c) (bias m c) t 1 0 (q_load m c t 1 0 _ _ rfl) (kp_load m c t 1 0 _ _ rfl) (k_load m c t 1 0 _ _ rfl)
      (b_load m c t 1 0 _ _ rfl) x).trans
      (lse_put m c t 1 0 x y (by omega) (by omega)).symm
  case piece12 =>
    exact (lse_tile _ _ _ _ (qkv m c) (bias m c) t 0 3 (q_load m c t 0 3 _ _ rfl) (kp_load0 m c t 3 _ _ rfl) (k_load m c t 0 3 _ _ rfl)
      (b_load m c t 0 3 _ _ (idx t).2.2.2.2.2.2.2.2.2.2.2) x).trans
      (lse_put m c t 0 3 x y (by omega) (by omega)).symm
  case piece13 =>
    exact (lse_tile _ _ _ _ (qkv m c) (bias m c) t 0 2 (q_load m c t 0 2 _ _ rfl) (kp_load0 m c t 2 _ _ rfl) (k_load m c t 0 2 _ _ rfl)
      (b_load m c t 0 2 _ _ (idx t).2.2.2.2.2.2.2.2.2.2.1) x).trans
      (lse_put m c t 0 2 x y (by omega) (by omega)).symm
  case piece14 =>
    exact (lse_tile _ _ _ _ (qkv m c) (bias m c) t 0 1 (q_load m c t 0 1 _ _ rfl) (kp_load0 m c t 1 _ _ rfl) (k_load m c t 0 1 _ _ rfl)
      (b_load m c t 0 1 _ _ (idx t).2.2.2.2.2.2.2.2.2.1) x).trans
      (lse_put m c t 0 1 x y (by omega) (by omega)).symm
  case piece15 =>
    exact (lse_tile _ _ _ _ (qkv m c) (bias m c) t 0 0 (q_load m c t 0 0 _ _ rfl) (kp_load0 m c t 0 _ _ rfl) (k_load m c t 0 0 _ _ rfl)
      (b_load m c t 0 0 _ _ (idx t).2.2.2.2.2.2.2.2.1) x).trans
      (lse_put m c t 0 0 x y (by omega) (by omega)).symm

end Cert.DilIdeal.AttValue
end
-- ==== Proof.DilBias.lean ====
module

public import proofs.«01_k».proof.Proof.DilKernel
public import Idealize.ShloMosaic.Lib.Claim
public import Idealize.ShloMosaic.Lib.Tactic.CleanTypes
public import Idealize.ShloMosaic.Lib.StableHlo.ReadAt

@[expose] public section

/-!
# The bias table that the kernel's host code prepares

A bias is a head's slope times the distance to the key, less than nothing where the query does not see the key.
-/

set_option maxRecDepth 16384
noncomputable section

open Idealize.ShloMosaic Idealize.ShloMosaic.TcCoe Idealize.SL.Sem

namespace Cert.DilIdeal.AttValue
open Cert.DilIdeal Cert.DilIdeal.Gen

/-- The word of how many steps key `j` lies behind query `a`. -/
def stepWord (a : Fin 128) (j : Fin 256) : BitVec 32 :=
  IntOp.subi (IntOp.addi (128#32) (BitVec.ofNat 32 a.val)) (BitVec.ofNat 32 j.val)

/-- The distance from query `a` to key `j`, in positions of the whole sequence. -/
def gap (a : Fin 128) (j : Fin 256) : EReal := FloatOps.sitofp (F := Ideal) .f32 (IntOp.muli (stepWord a j) 16#32)

/-- The slope of head `h`. -/
def slope (h : Fin 4) : EReal :=
  Ideal.exp (Ideal.ofBits .f32 1060205080#32 * Ideal.div (Ideal.ofBits .f32 3238002688#32
    * (FloatOps.sitofp (F := Ideal) .f32 (BitVec.ofNat 32 (8 + h.val)) + 1)) (Ideal.ofBits .f32 1101004800#32))

/-- Whether query `a` of block `b` sees key `j`. -/
def seen (b : Fin 4) (a : Fin 128) (j : Fin 256) : BitVec 1 :=
  IntOp.andi (IntOp.andi (IntOp.cmpi CmpIPredicate.sge (stepWord a j) 0#32) (IntOp.cmpi CmpIPredicate.sle (stepWord a j) 128#32))
    (IntOp.cmpi CmpIPredicate.sge
      (IntOp.addi (IntOp.subi (IntOp.muli (BitVec.ofNat 32 b.val) 128#32) 128#32) (BitVec.ofNat 32 j.val)) 0#32)

/-- The key that is the query itself is seen. -/
theorem seen_self : ∀ (b : Fin 4) (a : Fin 128), seen b a ⟨128 + a.val, by omega⟩ = 1#1 := by
  decide +kernel

/-- The first block's queries see no key before the start. -/
theorem not_seen : ∀ (a : Fin 128) (j : Fin 128), seen 0 a ⟨j.val, by omega⟩ = 0#1 := by
  decide +kernel

/-- The bias table of a block hides the keys before the start exactly as the reference's test does. -/
theorem start_word : ∀ (b : Fin 4) (j : Fin 256),
    (if (tab b).val < 1 then 1#1 else IntOp.cmpi CmpIPredicate.sge (BitVec.ofNat 32 j.val) 128#32)
      = IntOp.cmpi CmpIPredicate.sge
          (IntOp.addi (IntOp.subi (IntOp.muli (BitVec.ofNat 32 b.val) 128#32) 128#32) (BitVec.ofNat 32 j.val)) 0#32 := by
  decide +kernel

set_option maxHeartbeats 4000000 in
/-- The bias a block adds, at an index. -/
theorem bias_at (m : (ℓ : Loc nD τ sig) → Buf (Elt Ideal) ℓ) (c : Dev nD) (b : Fin 4) (h : Fin 4) (a : Fin 128) (j : Fin 256) :
    bias m c (ix4 (tab b) h a j) = Scalar.select (seen b a j)
      (-Ideal.div (slope h) (Ideal.log (Ideal.ofBits .f32 1073741824#32)) * gap a j) (Ideal.ofBits .f32 4286578688#32) := by
  unfold seen
  rw [← start_word b j]
  unfold bias V
  simp only [hostOps0, hostOps0_1, List.flatten_cons, List.flatten_nil, List.cons_append, List.nil_append, List.append_nil]
  after_reads_at
  after_reads_at
  rfl

end Cert.DilIdeal.AttValue
end
-- ==== Proof.DilRef.lean ====
module

public import proofs.«01_k».proof.Proof.DilBias
public import proofs.«01_k».proof.Proof.Gen.DilRefIdeal.Run
public import Idealize.ShloMosaic.Lib.Claim
public import Idealize.ShloMosaic.Lib.Pointwise
public import Idealize.ShloMosaic.Lib.Tactic.CleanTypes

@[expose] public section

/-!
# The reference's block attention, read entry by entry

The reference computes its logits once and uses them four times. Each stage gets a name here; the two results are
these stages by definition, and each stage is read at an index from the stage before it.
-/

set_option maxRecDepth 16384
noncomputable section

open Idealize.ShloMosaic Idealize.ShloMosaic.TcCoe Idealize.SL.Sem

namespace Cert.DilRefIdeal.AttValue
open Cert.DilRefIdeal Cert.DilRefIdeal.Gen

/-- The argument in its natural order: `[3, 1, 8192, 4, 128]`. -/
def nat (X : FVec Ideal S3x16x512x512 .bf16) : FVec Ideal S3x1x8192x4x128 .f32 :=
  shapeCast _ (transpose S3x512x16x4x128 [0, 2, 1, 3, 4]
    (shapeCast _ (extf .f32 X bitsLt_bf16_f32) shapeCasts_S3x16x512x512_S3x16x512x4x128)
    transposes_S3x16x512x4x128_S3x512x16x4x128_0_2_1_3_4) shapeCasts_S3x512x16x4x128_S3x1x8192x4x128

/-- One of queries, keys, values as dilated subsequences in blocks of 128. -/
def sub (y : FVec Ideal S1x1x8192x4x128 .f32) : FVec Ideal S16x4x128x4x128 .f32 :=
  shapeCast _ (transpose S1x16x512x4x128 [0, 2, 1, 3, 4]
    (shapeCast _ (shapeCast _ y shapeCasts_S1x1x8192x4x128_S1x8192x4x128) shapeCasts_S1x8192x4x128_S1x512x16x4x128)
    transposes_S1x512x16x4x128_S1x16x512x4x128_0_2_1_3_4) shapeCasts_S1x16x512x4x128_S16x4x128x4x128

/-- Each block with the block before it in front (zeros before the first). -/
def withPrev (y : FVec Ideal S16x4x128x4x128 .f32) : FVec Ideal S16x4x256x4x128 .f32 :=
  concatenate S16x4x256x4x128 2
    [⟨S16x4x128x4x128, extractStridedSlice S16x4x128x4x128 ![0, 0, 0, 0, 0]
      (pad S16x5x128x4x128 ![0, 1, 0, 0, 0] ![0, 0, 0, 0, 0] ![0, 0, 0, 0, 0] y (sitofp .f32 (constantI S_ 32 0#32))
        pads_S16x4x128x4x128_S16x5x128x4x128_000_100_000_000_000 h_S_) slices_S16x5x128x4x128_S16x4x128x4x128_0_0_0_0_0⟩,
     ⟨S16x4x128x4x128, y⟩] concatenates_S16x4x128x4x128_S16x4x128x4x128_S16x4x256x4x128_d2

/-- The queries. -/
def qs (X : FVec Ideal S3x16x512x512 .bf16) := sub (extractStridedSlice S1x1x8192x4x128 ![0, 0, 0, 0, 0] (nat X) slices_S3x1x8192x4x128_S1x1x8192x4x128_0_0_0_0_0)
/-- The keys a block sees. -/
def ks (X : FVec Ideal S3x16x512x512 .bf16) := withPrev (sub (extractStridedSlice S1x1x8192x4x128 ![1, 0, 0, 0, 0] (nat X) slices_S3x1x8192x4x128_S1x1x8192x4x128_1_0_0_0_0))
/-- The values a block sees. -/
def vs (X : FVec Ideal S3x16x512x512 .bf16) := withPrev (sub (extractStridedSlice S1x1x8192x4x128 ![2, 0, 0, 0, 0] (nat X) slices_S3x1x8192x4x128_S1x1x8192x4x128_2_0_0_0_0))

/-- How many steps of the subsequence a key lies behind its query. -/
def steps : IVec S128x256 32 :=
  subi (broadcastInDim S128x256 ![0, 1] bcast_S128x1_S128x256_0_1
      (addi (broadcastInDim S128x1 ![] bcast_S_S128x1 (constantI S_ 32 128#32)) (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

/-- The slopes of the four heads. -/
def slopes : FVec Ideal S4 .f32 :=
  extractStridedSlice S4 ![8] (Host.exp (mulf (broadcastInDim S20 ![] bcast_S_S20 (constant S_ .f32 0x3F317218#32))
    (Host.divf (mulf (broadcastInDim S20 ![] bcast_S_S20 (constant S_ .f32 0xC1000000#32))
        (addf (broadcastInDim S20 ![] bcast_S_S20 (constant S_ .f32 0x3F800000#32)) (sitofp .f32 (iotaInDim S20 32 0))))
      (broadcastInDim S20 ![] bcast_S_S20 (constant S_ .f32 0x41A00000#32))))) slices_S20_S4_8

/-- Which keys a query sees. -/
def keep : IVec S4x128x256 1 :=
  andi (broadcastInDim S4x128x256 ![0, 1, 2] bcast_S1x128x256_S4x128x256_0_1_2 (broadcastInDim S1x128x256 ![1, 2] bcast_S128x256_S1x128x256_1_2
      (andi (cmpi .sge steps (broadcastInDim S128x256 ![] bcast_S_S128x256 (constantI S_ 32 0#32)))
        (cmpi .sle steps (broadcastInDim S128x256 ![] bcast_S_S128x256 (constantI S_ 32 128#32))))))
    (broadcastInDim S4x128x256 ![0, 1, 2] bcast_S4x1x256_S4x128x256_0_1_2 (broadcastInDim S4x1x256 ![0, 2] bcast_S4x256_S4x1x256_0_2
      (cmpi .sge (addi (broadcastInDim S4x256 ![0, 1] bcast_S4x1_S4x256_0_1
          (subi (muli (broadcastInDim S4x1 ![0] bcast_S4_S4x1_0 (iotaInDim S4 32 0)) (broadcastInDim S4x1 ![] bcast_S_S4x1 (constantI S_ 32 128#32)))
            (broadcastInDim S4x1 ![] bcast_S_S4x1 (constantI S_ 32 128#32))))
          (broadcastInDim S4x256 ![0, 1] bcast_S1x256_S4x256_0_1 (broadcastInDim S1x256 ![1] bcast_S256_S1x256_1 (iotaInDim S256 32 0))))
        (broadcastInDim S4x256 ![] bcast_S_S4x256 (constantI S_ 32 0#32)))))

/-- The masked logits `[r, h, b, a, j]` from the queries and the keys. -/
def logitsOf (Q : FVec Ideal S16x4x128x4x128 .f32) (K : FVec Ideal S16x4x256x4x128 .f32) : FVec Ideal S16x4x4x128x256 .f32 :=
  select (broadcastInDim S16x4x4x128x256 ![0, 1, 2, 3, 4] bcast_S1x1x4x128x256_S16x4x4x128x256_0_1_2_3_4
      (broadcastInDim S1x1x4x128x256 ![2, 3, 4] bcast_S4x128x256_S1x1x4x128x256_2_3_4 keep))
    (subf (mulf (Host.dotGeneral dot_S16x4x128x4x128_S16x4x256x4x128_S16x4x4x128x256_4_4_2_2_031_031 none Q K)
        (broadcastInDim S16x4x4x128x256 ![] bcast_S_S16x4x4x128x256 (Host.log (constant S_ .f32 0x40000000#32))))
      (broadcastInDim S16x4x4x128x256 ![0, 1, 2, 3, 4] bcast_S1x4x1x128x256_S16x4x4x128x256_0_1_2_3_4
        (mulf (broadcastInDim S1x4x1x128x256 ![0, 1, 2, 3, 4] bcast_S1x4x1x1x1_S1x4x1x128x256_0_1_2_3_4
            (broadcastInDim S1x4x1x1x1 ![1] bcast_S4_S1x4x1x1x1_1 slopes))
          (broadcastInDim S1x4x1x128x256 ![0, 1, 2, 3, 4] bcast_S1x1x1x128x256_S1x4x1x128x256_0_1_2_3_4
            (broadcastInDim S1x1x1x128x256 ![3, 4] bcast_S128x256_S1x1x1x128x256_3_4
              (sitofp .f32 (muli steps (broadcastInDim S128x256 ![] bcast_S_S128x256 (constantI S_ 32 16#32)))))))))
    (broadcastInDim S16x4x4x128x256 ![] bcast_S_S16x4x4x128x256 (id (constant S_ .f32 0xFF800000#32)))

/-- The masked logits. -/
def logits (X : FVec Ideal S3x16x512x512 .bf16) : FVec Ideal S16x4x4x128x256 .f32 := logitsOf (qs X) (ks X)

/-- A value per query repeated over the keys. -/
def perQuery (y : FVec Ideal S16x4x4x128 .f32) : FVec Ideal S16x4x4x128x256 .f32 :=
  broadcastInDim S16x4x4x128x256 ![0, 1, 2, 3, 4] bcast_S16x4x4x128x1_S16x4x4x128x256_0_1_2_3_4
    (broadcastInDim S16x4x4x128x1 ![0, 1, 2, 3] bcast_S16x4x4x128_S16x4x4x128x1_0_1_2_3 y)

/-- The largest logit of each query. -/
def best (L : FVec Ideal S16x4x4x128x256 .f32) : FVec Ideal S16x4x4x128 .f32 :=
  Host.reduce FloatOps.maximumf L (constant S_ .f32 0xFF800000#32) reducesTo_S16x4x4x128x256_S16x4x4x128_d4 h_S_

/-- The sum over the keys. -/
def total (L : FVec Ideal S16x4x4x128x256 .f32) : FVec Ideal S16x4x4x128 .f32 :=
  Host.reduceAdd L (constant S_ .f32 0x00000000#32) reducesTo_S16x4x4x128x256_S16x4x4x128_d4 h_S_

/-- The logarithm of each query's sum of exponentials. -/
def logSum (L : FVec Ideal S16x4x4x128x256 .f32) : FVec Ideal S16x4x4x128 .f32 :=
  addf (best L) (Host.log (total (Host.exp (subf L (perQuery (best L))))))

/-- The first result from the logits and the values. -/
def outOf (L : FVec Ideal S16x4x4x128x256 .f32) (v : FVec Ideal S16x4x256x4x128 .f32) : FVec Ideal S16x512x512 .f32 :=
  shapeCast _ (transpose S16x4x128x4x128 [0, 1, 4, 2, 3]
    (Host.dotGeneral dot_S16x4x256x4x128_S16x4x4x128x256_S16x4x4x128x128_2_4_4_3_013_021 none v
      (Host.exp (subf L (perQuery (logSum L)))))
    transposes_S16x4x4x128x128_S16x4x128x4x128_0_1_4_2_3) shapeCasts_S16x4x128x4x128_S16x512x512

/-- The second result from the logits. -/
def lseOf (L : FVec Ideal S16x4x4x128x256 .f32) : FVec Ideal S16x512x512 .f32 :=
  shapeCast _ (broadcastInDim S16x512x4x128 ![0, 1, 2, 3] bcast_S16x512x4x1_S16x512x4x128_0_1_2_3
    (broadcastInDim S16x512x4x1 ![0, 1, 2] bcast_S16x512x4_S16x512x4x1_0_1_2
      (Host.divf (shapeCast _ (transpose S16x4x128x4 [0, 2, 3, 1] (logSum L) transposes_S16x4x4x128_S16x4x128x4_0_2_3_1)
          shapeCasts_S16x4x128x4_S16x512x4)
        (broadcastInDim S16x512x4 ![] bcast_S_S16x512x4 (Host.log (constant S_ .f32 0x40000000#32))))))
    shapeCasts_S16x512x4x128_S16x512x512

/-- The first result is its stages. -/
theorem out_stages (m : (ℓ : Loc nD τ sig) → Buf (Elt Ideal) ℓ) (c : Dev nD) :
    Value.res_out0 m c = outOf (logits (m ((c.tc : Thread nD τ).loc main_arg0))) (vs (m ((c.tc : Thread nD τ).loc main_arg0))) := rfl

/-- The second result is its stages. -/
theorem lse_stages (m : (ℓ : Loc nD τ sig) → Buf (Elt Ideal) ℓ) (c : Dev nD) :
    Value.res_out1 m c = lseOf (logits (m ((c.tc : Thread nD τ).loc main_arg0))) := rfl

open Cert.DilIdeal.AttValue (row col prevRow keyRow keyRow_lo keyRow_hi stepWord gap slope seen not_seen)

/-- The natural order read back at a step of a subsequence. -/
theorem nat_at (X : FVec Ideal S3x16x512x512 .bf16) (w : Fin 3) (r : Fin 16) (n : Fin 512) (k : Fin 8192) (h : Fin 4) (e : Fin 128)
    (hk : k.val = n.val * 16 + r.val) : nat X (ix5 w 0 k h e) = X (ix4 w r n (col h e)) := by
  unfold nat
  pointwise
  exact congrArg₂ (fun x y => X (ix4 w x y (col h e))) (Fin.ext (by show k.val % 16 = r.val; omega))
    (Fin.ext (by show k.val / 16 = n.val; omega))

/-- A blocked subsequence at an index. -/
theorem sub_at (y : FVec Ideal S1x1x8192x4x128 .f32) (r : Fin 16) (b : Fin 4) (a : Fin 128) (h : Fin 4) (e : Fin 128) (k : Fin 8192)
    (hk : k.val = (b.val * 128 + a.val) * 16 + r.val) : sub y (ix5 r b a h e) = y (ix5 0 0 k h e) := by
  unfold sub
  pointwise
  exact congrArg (fun x => y (ix5 0 0 x h e)) (Fin.ext hk.symm)

/-- A block with its predecessor at an index. -/
theorem withPrev_at (y : FVec Ideal S16x4x128x4x128 .f32) (r : Fin 16) (b : Fin 4) (j : Fin 256) (h : Fin 4) (e : Fin 128) :
    withPrev y (ix5 r b j h e) = if h1 : j.val < 128 then
        if h2 : 1 ≤ b.val then y (ix5 r ⟨b.val - 1, by omega⟩ ⟨j.val, h1⟩ h e) else FloatOps.sitofp (F := Ideal) .f32 0#32
      else y (ix5 r b ⟨j.val - 128, by omega⟩ h e) := by
  unfold withPrev
  pointwise
  by_cases h1 : j.val < 128
  · rw [dif_pos h1, dif_pos h1]
    by_cases h2 : 1 ≤ b.val
    · rw [dif_pos ⟨⟨h2, by omega⟩, h1⟩, dif_pos h2]
    · rw [dif_neg (fun t => h2 t.1.1), dif_neg h2]
  · rw [dif_neg h1, dif_neg h1]

/-- A query at an index. -/
theorem qs_at (X : FVec Ideal S3x16x512x512 .bf16) (r : Fin 16) (b : Fin 4) (a : Fin 128) (h : Fin 4) (e : Fin 128) :
    qs X (ix5 r b a h e) = X (ix4 0 r (row b a) (col h e)) := by
  unfold qs
  rw [sub_at _ r b a h e ⟨(b.val * 128 + a.val) * 16 + r.val, by omega⟩ rfl]
  pointwise
  exact nat_at X 0 r (row b a) _ h e rfl

/-- Keys or values `w` that a block reads: at a key it has, the argument's row. -/
theorem keys_at (X : FVec Ideal S3x16x512x512 .bf16) (w : Fin 3) (y : FVec Ideal S1x1x8192x4x128 .f32)
    (hy : ∀ k h e, y (ix5 0 0 k h e) = nat X (ix5 w 0 k h e)) (r : Fin 16) (b : Fin 4) (j : Fin 256) (h : Fin 4) (e : Fin 128)
    (hj : 1 ≤ b.val ∨ 128 ≤ j.val) :
    withPrev (sub y) (ix5 r b j h e) = X (ix4 w r (keyRow b j) (col h e)) := by
  rw [withPrev_at]
  by_cases h1 : j.val < 128
  · have h2 : 1 ≤ b.val := by omega
    rw [dif_pos h1, dif_pos h2, sub_at _ r ⟨b.val - 1, by omega⟩ ⟨j.val, h1⟩ h e
      ⟨((b.val - 1) * 128 + j.val) * 16 + r.val, by omega⟩ rfl, hy, nat_at X w r (keyRow b j) _ h e]
    rw [show keyRow b j = prevRow b ⟨j.val, h1⟩ from dif_pos h1]
    rfl
  · rw [dif_neg h1, sub_at _ r b ⟨j.val - 128, by omega⟩ h e ⟨(b.val * 128 + (j.val - 128)) * 16 + r.val, by omega⟩ rfl, hy,
      nat_at X w r (keyRow b j) _ h e]
    rw [show keyRow b j = row b ⟨j.val - 128, by omega⟩ from dif_neg h1]
    rfl

/-- A key at an index. -/
theorem ks_at (X : FVec Ideal S3x16x512x512 .bf16) (r : Fin 16) (b : Fin 4) (j : Fin 256) (h : Fin 4) (e : Fin 128)
    (hj : 1 ≤ b.val ∨ 128 ≤ j.val) : ks X (ix5 r b j h e) = X (ix4 1 r (keyRow b j) (col h e)) :=
  keys_at X 1 _ (fun k h e => by pointwise) r b j h e hj

/-- A value at an index. -/
theorem vs_at (X : FVec Ideal S3x16x512x512 .bf16) (r : Fin 16) (b : Fin 4) (j : Fin 256) (h : Fin 4) (e : Fin 128)
    (hj : 1 ≤ b.val ∨ 128 ≤ j.val) : vs X (ix5 r b j h e) = X (ix4 2 r (keyRow b j) (col h e)) :=
  keys_at X 2 _ (fun k h e => by pointwise) r b j h e hj

/-- A key that is seen is one the block has. -/
theorem has_of_seen {b : Fin 4} {a : Fin 128} {j : Fin 256} (hs : seen b a j = 1#1) : 1 ≤ b.val ∨ 128 ≤ j.val := by
  by_contra hn
  obtain ⟨h0, h1⟩ := not_or.1 hn
  have hb : b = 0 := Fin.ext (by show b.val = 0; omega)
  subst hb
  rw [not_seen a ⟨j.val, by omega⟩] at hs
  exact absurd hs (by decide)

end Cert.DilRefIdeal.AttValue
end
-- ==== Proof.DilRefAt.lean ====
module

public import proofs.«01_k».proof.Proof.DilRef
public import proofs.«01_k».proof.Proof.Gen.DilRefIdeal.Run
public import Idealize.ShloMosaic.Lib.Claim
public import Idealize.ShloMosaic.Lib.Pointwise
public import Idealize.ShloMosaic.Lib.Tactic.CleanTypes

@[expose] public section

set_option maxRecDepth 16384
noncomputable section

open Idealize.ShloMosaic Idealize.ShloMosaic.TcCoe Idealize.SL.Sem

namespace Cert.DilRefIdeal.AttValue
open Cert.DilRefIdeal Cert.DilRefIdeal.Gen

open Cert.DilIdeal.AttValue (row col prevRow keyRow keyRow_lo keyRow_hi stepWord gap slope seen not_seen)

/-- The logits of one query. -/
def logit (X : S3x16x512x512.Idx → EReal) (r : Fin 16) (b h : Fin 4) (a : Fin 128) (j : Fin 256) : EReal :=
  Scalar.select (seen b a j)
    ((∑ e : Fin 128, X (ix4 0 r (row b a) (col h e)) * X (ix4 1 r (keyRow b j) (col h e)))
        * Ideal.log (Ideal.ofBits .f32 1073741824#32) - slope h * gap a j) (Ideal.ofBits .f32 4286578688#32)

/-- A selection by a bit that is zero. -/
theorem select_zero (x y : EReal) : Scalar.select 0#1 x y = y := rfl

/-- The masked logits at an index, from the queries and keys. -/
theorem logitsOf_at (Q : FVec Ideal S16x4x128x4x128 .f32) (K : FVec Ideal S16x4x256x4x128 .f32) (r : Fin 16) (h b : Fin 4)
    (a : Fin 128) (j : Fin 256) : logitsOf Q K (ix5 r h b a j) = Scalar.select (seen b a j)
      ((∑ e, Q (ix5 r b a h e) * K (ix5 r b j h e)) * Ideal.log (Ideal.ofBits .f32 1073741824#32) - slope h * gap a j)
      (Ideal.ofBits .f32 4286578688#32) := by
  unfold logitsOf
  pointwise [keep, steps, slopes]
  rw [add_comm (1 : EReal)]
  rfl

/-- The logits at an index. -/
theorem logits_at (X : FVec Ideal S3x16x512x512 .bf16) (r : Fin 16) (h b : Fin 4) (a : Fin 128) (j : Fin 256) :
    logits X (ix5 r h b a j) = logit X r b h a j := by
  unfold logits
  rw [logitsOf_at]
  unfold logit
  by_cases hs : seen b a j = 1#1
  · rw [Finset.sum_congr rfl fun e _ => by rw [qs_at X r b a h e, ks_at X r b j h e (has_of_seen hs)]]
  · have h0 : seen b a j = 0#1 := by
      generalize seen b a j = w at hs ⊢
      revert w; decide
    rw [h0, select_zero, select_zero]

/-- The largest logit at an index. -/
theorem best_at (L : FVec Ideal S16x4x4x128x256 .f32) (r : Fin 16) (h b : Fin 4) (a : Fin 128) :
    best L (ix4 r h b a) = Finset.univ.fold max (Ideal.ofBits .f32 0xFF800000#32) fun j => L (ix5 r h b a j) := by
  unfold best
  pointwise

/-- The sum over the keys at an index. -/
theorem total_at (L : FVec Ideal S16x4x4x128x256 .f32) (r : Fin 16) (h b : Fin 4) (a : Fin 128) :
    total L (ix4 r h b a) = ∑ j, L (ix5 r h b a j) := by
  unfold total
  pointwise

/-- A sum of two arrays of which the second is a logarithm, at an index. -/
theorem addLog_at (B T : FVec Ideal S16x4x4x128 .f32) (i : S16x4x4x128.Idx) : addf B (Host.log T) i = B i + Ideal.log (T i) := rfl

/-- The exponentials of the logits less a value per query, at an index. -/
theorem expSub_at (L : FVec Ideal S16x4x4x128x256 .f32) (B : FVec Ideal S16x4x4x128 .f32) (r : Fin 16) (h b : Fin 4) (a : Fin 128)
    (j : Fin 256) : Host.exp (subf L (perQuery B)) (ix5 r h b a j) = Ideal.exp (L (ix5 r h b a j) - B (ix4 r h b a)) := by
  pointwise [perQuery]

/-- The logarithm of the sum of exponentials at an index. -/
theorem logSum_at (L : FVec Ideal S16x4x4x128x256 .f32) (r : Fin 16) (h b : Fin 4) (a : Fin 128) :
    logSum L (ix4 r h b a) = best L (ix4 r h b a) + Ideal.log (∑ j, Ideal.exp (L (ix5 r h b a j) - best L (ix4 r h b a))) := by
  rw [logSum, addLog_at, total_at]
  simp only [expSub_at]

/-- The first result at an index. -/
theorem outOf_at (L : FVec Ideal S16x4x4x128x256 .f32) (v : FVec Ideal S16x4x256x4x128 .f32) (r : Fin 16) (b h : Fin 4) (a e : Fin 128) :
    outOf L v (ix3 r (row b a) (col h e)) = ∑ j, v (ix5 r b j h e) * Ideal.exp (L (ix5 r h b a j) - logSum L (ix4 r h b a)) := by
  unfold outOf
  generalize logSum L = B
  pointwise [perQuery]
  have e1 : (⟨(row b a).val / 128, by omega⟩ : Fin 4) = b := Fin.ext (by show (b.val * 128 + a.val) / 128 = b.val; omega)
  have e2 : (⟨(col h e).val / 128, by omega⟩ : Fin 4) = h := Fin.ext (by show (h.val * 128 + e.val) / 128 = h.val; omega)
  have e3 : (⟨(row b a).val % 128, by omega⟩ : Fin 128) = a := Fin.ext (by show (b.val * 128 + a.val) % 128 = a.val; omega)
  have e4 : (⟨(col h e).val % 128, by omega⟩ : Fin 128) = e := Fin.ext (by show (h.val * 128 + e.val) % 128 = e.val; omega)
  simp only [e1, e2, e3, e4]

/-- The second result at an index. -/
theorem lseOf_at (L : FVec Ideal S16x4x4x128x256 .f32) (r : Fin 16) (b h : Fin 4) (a e : Fin 128) :
    lseOf L (ix3 r (row b a) (col h e)) = Ideal.div (logSum L (ix4 r h b a)) (Ideal.log (Ideal.ofBits .f32 1073741824#32)) := by
  unfold lseOf
  generalize logSum L = B
  pointwise
  have e1 : (⟨(row b a).val / 128, by omega⟩ : Fin 4) = b := Fin.ext (by show (b.val * 128 + a.val) / 128 = b.val; omega)
  have e2 : (⟨(col h e).val / 128, by omega⟩ : Fin 4) = h := Fin.ext (by show (h.val * 128 + e.val) / 128 = h.val; omega)
  have e3 : (⟨(row b a).val % 128, by omega⟩ : Fin 128) = a := Fin.ext (by show (b.val * 128 + a.val) % 128 = a.val; omega)
  simp only [e1, e2, e3]

end Cert.DilRefIdeal.AttValue
end
-- ==== Proof.Softmax.lean ====
module

public import proofs.«01_k».proof.Proof.DilKernel
public import Mathlib.Analysis.SpecialFunctions.Pow.Real

@[expose] public section

/-!
# A softmax in powers of two is the softmax in powers of e

The kernel keeps its scores in units of log 2 and takes powers of two; the reference takes exponentials. Scores are real
numbers, or nothing (`⊥`) where the key is hidden; at least one is real.
-/

noncomputable section

open Idealize.ShloMosaic

namespace Cert.DilIdeal.AttValue

/-- The natural logarithm of two. -/
abbrev ln2 : ℝ := Real.log 2

/-- It is positive. -/
theorem ln2_pos : 0 < ln2 := Real.log_pos (by norm_num)

/-- The f32 pattern of minus infinity. -/
theorem bits_bot : Ideal.ofBits .f32 4286578688#32 = ⊥ := by simp [Ideal.ofBits, Ideal.ieee]

/-- The f32 pattern of two. -/
theorem bits_two : Ideal.ofBits .f32 1073741824#32 = ((2 : ℝ) : EReal) := by
  simp [Ideal.ofBits, Ideal.ieee, -EReal.coe_mul]; norm_num

/-- The logarithm of the pattern of two. -/
theorem log_two : Ideal.log (Ideal.ofBits .f32 1073741824#32) = ((ln2 : ℝ) : EReal) := by
  rw [bits_two, Ideal.log_coe, if_neg (by norm_num)]

/-- A hidden score has power zero whatever is subtracted. -/
theorem exp2_bot_sub (x : EReal) : Ideal.exp2 (⊥ - x) = 0 := by rw [EReal.bot_sub]; rfl

/-- The same for the exponential. -/
theorem exp_bot_sub (x : EReal) : Ideal.exp (⊥ - x) = 0 := by rw [EReal.bot_sub]; rfl

/-- A score and a logit that belong together: both hidden, or both real and a factor log 2 apart. -/
def Tied (s l : EReal) : Prop := (s = ⊥ ∧ l = ⊥) ∨ ∃ x : ℝ, s = (x : EReal) ∧ l = ((ln2 * x : ℝ) : EReal)

/-- The larger of two scores and the larger of their logits belong together. -/
theorem Tied.max {s l s' l' : EReal} (h : Tied s l) (h' : Tied s' l') : Tied (Max.max s s') (Max.max l l') := by
  rcases h with ⟨rfl, rfl⟩ | ⟨x, rfl, rfl⟩
  · simpa using h'
  rcases h' with ⟨rfl, rfl⟩ | ⟨y, rfl, rfl⟩
  · rw [max_eq_left bot_le, max_eq_left bot_le]
    exact Or.inr ⟨x, rfl, rfl⟩
  right
  rcases le_total x y with hxy | hxy
  · exact ⟨y, max_eq_right (EReal.coe_le_coe_iff.2 hxy),
      max_eq_right (EReal.coe_le_coe_iff.2 (mul_le_mul_of_nonneg_left hxy ln2_pos.le))⟩
  · exact ⟨x, max_eq_left (EReal.coe_le_coe_iff.2 hxy),
      max_eq_left (EReal.coe_le_coe_iff.2 (mul_le_mul_of_nonneg_left hxy ln2_pos.le))⟩

/-- The sum of real numbers, as extended reals. -/
theorem coe_sum {n : ℕ} (f : Fin n → ℝ) : ((∑ j, f j : ℝ) : EReal) = ∑ j, (f j : EReal) :=
  map_sum (⟨⟨fun x : ℝ => (x : EReal), EReal.coe_zero⟩, EReal.coe_add⟩ : ℝ →+ EReal) f Finset.univ

/-- The largest scores belong together. -/
theorem tied_fold {n : ℕ} (s l : Fin n → EReal) (h : ∀ j, Tied (s j) (l j)) (t : Finset (Fin n)) :
    Tied (t.fold max ⊥ s) (t.fold max ⊥ l) := by
  classical
  induction t using Finset.induction_on with
  | empty => exact Or.inl ⟨rfl, rfl⟩
  | insert a t ha ih => rw [Finset.fold_insert ha, Finset.fold_insert ha]; exact (h a).max ih

/-- The largest score is real where one is. -/
theorem fold_real {n : ℕ} (s l : Fin n → EReal) (h : ∀ j, Tied (s j) (l j)) (j : Fin n) (hj : s j ≠ ⊥) :
    ∃ M : ℝ, Finset.univ.fold max ⊥ s = (M : EReal) ∧ Finset.univ.fold max ⊥ l = ((ln2 * M : ℝ) : EReal) := by
  rcases tied_fold s l h Finset.univ with ⟨h1, -⟩ | h1
  · refine absurd ?_ hj
    have : s j ≤ Finset.univ.fold max ⊥ s := (Finset.le_fold_max _).2 (Or.inr ⟨j, Finset.mem_univ j, le_rfl⟩)
    rw [h1] at this
    exact le_bot_iff.1 this
  · exact h1

/-- A power of two is an exponential. -/
theorem pow_two (x : ℝ) : Real.rpow 2 x = Real.exp (ln2 * x) := Real.rpow_def_of_pos (by norm_num) x

/-- Tied scores have the same power of two as exponential. -/
theorem Tied.pow {s l : EReal} (h : Tied s l) (M : ℝ) :
    ∃ p : ℝ, 0 ≤ p ∧ (s ≠ ⊥ → 0 < p) ∧ Ideal.exp2 (s - M) = (p : EReal) ∧ Ideal.exp (l - ((ln2 * M : ℝ) : EReal)) = (p : EReal)
      ∧ ∀ q : ℝ, 0 < q → Ideal.exp (l - ((ln2 * M + Real.log q : ℝ) : EReal)) = ((p * (1 / q) : ℝ) : EReal) := by
  rcases h with ⟨rfl, rfl⟩ | ⟨x, rfl, rfl⟩
  · exact ⟨0, le_rfl, fun h => absurd rfl h, by rw [exp2_bot_sub]; rfl, by rw [exp_bot_sub]; rfl,
      fun q _ => by rw [exp_bot_sub, zero_mul]; rfl⟩
  · refine ⟨Real.exp (ln2 * (x - M)), (Real.exp_pos _).le, fun _ => Real.exp_pos _, ?_, ?_, fun q hq => ?_⟩
    · rw [← EReal.coe_sub, Ideal.exp2_coe, pow_two]
    · rw [← EReal.coe_sub, Ideal.exp_coe, mul_sub]
    · rw [← EReal.coe_sub, Ideal.exp_coe]
      congr 1
      rw [show ln2 * x - (ln2 * M + Real.log q) = ln2 * (x - M) - Real.log q by ring, Real.exp_sub, Real.exp_log hq]
      ring

/-- A positive real factor moves into a sum of extended reals. -/
theorem sum_mul_real {n : ℕ} (f : Fin n → EReal) (k : ℝ) (hk : 0 ≤ k) : (∑ j, f j) * (k : EReal) = ∑ j, f j * (k : EReal) := by
  have hadd : ∀ x y : EReal, (x + y) * (k : EReal) = x * (k : EReal) + y * (k : EReal) := fun x y => by
    rw [mul_comm, EReal.left_distrib_of_nonneg_of_ne_top (EReal.coe_nonneg.2 hk) (EReal.coe_ne_top k), mul_comm x, mul_comm y]
  exact map_sum (⟨⟨fun x => x * (k : EReal), zero_mul _⟩, hadd⟩ : EReal →+ EReal) f Finset.univ

/-- What the reference makes of its logits: the softmax applied to values. -/
def attendE (l v : Fin 256 → EReal) : EReal :=
  ∑ j, v j * Ideal.exp (l j - (Finset.univ.fold max (Ideal.ofBits .f32 0xFF800000#32) l
    + Ideal.log (∑ i, Ideal.exp (l i - Finset.univ.fold max (Ideal.ofBits .f32 0xFF800000#32) l))))

/-- What the reference makes of its logits: the logarithm of the sum of exponentials, in units of log 2. -/
def lseE (l : Fin 256 → EReal) : EReal :=
  Ideal.div (Finset.univ.fold max (Ideal.ofBits .f32 0xFF800000#32) l
    + Ideal.log (∑ i, Ideal.exp (l i - Finset.univ.fold max (Ideal.ofBits .f32 0xFF800000#32) l)))
    (Ideal.log (Ideal.ofBits .f32 1073741824#32))

/-- What the two softmaxes have in common: a real largest score, a positive sum, and the powers. -/
theorem common (s l : Fin 256 → EReal) (h : ∀ j, Tied (s j) (l j)) (j₀ : Fin 256) (hj : s j₀ ≠ ⊥) :
    ∃ (M q : ℝ) (p : Fin 256 → ℝ), 0 < q ∧ top s = (M : EReal) ∧ mass s = (q : EReal)
      ∧ (∀ j, Ideal.exp2 (s j - top s) = (p j : EReal)) ∧ (∀ j, l j = ⊥ → p j = 0)
      ∧ Finset.univ.fold max (Ideal.ofBits .f32 0xFF800000#32) l
          + Ideal.log (∑ i, Ideal.exp (l i - Finset.univ.fold max (Ideal.ofBits .f32 0xFF800000#32) l))
        = ((ln2 * M + Real.log q : ℝ) : EReal)
      ∧ ∀ j, Ideal.exp (l j - ((ln2 * M + Real.log q : ℝ) : EReal)) = ((p j * (1 / q) : ℝ) : EReal) := by
  obtain ⟨M, hM, hM'⟩ := fold_real s l h j₀ hj
  choose p hp0 hp1 hp2 hp3 hp4 using fun j => (h j).pow M
  have htop : top s = (M : EReal) := by unfold top; rw [bits_bot]; exact hM
  have hq : 0 < ∑ j, p j := Finset.sum_pos' (fun j _ => hp0 j) ⟨j₀, Finset.mem_univ _, hp1 j₀ hj⟩
  have hmass : mass s = ((∑ j, p j : ℝ) : EReal) := by
    unfold mass; rw [htop, coe_sum]; exact Finset.sum_congr rfl fun j _ => hp2 j
  refine ⟨M, ∑ j, p j, p, hq, htop, hmass, fun j => by rw [htop]; exact hp2 j, fun j hl => ?_, ?_, fun j => hp4 j _ hq⟩
  · have := hp3 j
    rw [hl, exp_bot_sub] at this
    exact_mod_cast this.symm
  · rw [bits_bot, hM']
    have : (∑ i, Ideal.exp (l i - ((ln2 * M : ℝ) : EReal))) = ((∑ j, p j : ℝ) : EReal) := by
      rw [coe_sum]; exact Finset.sum_congr rfl fun j _ => hp3 j
    rw [this, Ideal.log_coe, if_neg (not_le.2 hq), ← EReal.coe_add]

/-- The two softmaxes applied to values that agree where the key is not hidden are equal. -/
theorem attend_eq (s l v v' : Fin 256 → EReal) (h : ∀ j, Tied (s j) (l j)) (j₀ : Fin 256) (hj : s j₀ ≠ ⊥)
    (hv : ∀ j, l j ≠ ⊥ → v j = v' j) : attend s v = attendE l v' := by
  obtain ⟨M, q, p, hq, -, hmass, hp, hz, hl, he⟩ := common s l h j₀ hj
  unfold attend attendE
  rw [hl, hmass, Ideal.div_coe hq.ne', sum_mul_real _ _ (by positivity)]
  refine Finset.sum_congr rfl fun j _ => ?_
  rw [hp, he]
  by_cases hb : l j = ⊥
  · rw [hz j hb]; simp
  · rw [hv j hb, mul_comm (p j : EReal), mul_assoc, EReal.coe_mul]

/-- The two logarithms of the sums are equal. -/
theorem lse_ofs (s l : Fin 256 → EReal) (h : ∀ j, Tied (s j) (l j)) (j₀ : Fin 256) (hj : s j₀ ≠ ⊥) : lse2 s = lseE l := by
  obtain ⟨M, q, p, hq, htop, hmass, hp, hz, hl, he⟩ := common s l h j₀ hj
  unfold lse2 lseE
  rw [hl, htop, hmass, log_two, Ideal.log_coe, if_neg (not_le.2 hq), Ideal.div_coe ln2_pos.ne', ← EReal.coe_mul, ← EReal.coe_mul,
    ← EReal.coe_add]
  congr 1
  have := ln2_pos.ne'
  show M + Real.log q * ln2⁻¹ = _
  field_simp

end Cert.DilIdeal.AttValue
end
-- ==== Proof.Dil.lean ====
module

public import proofs.«01_k».proof.Defs
public import proofs.«01_k».proof.Proof.DilBias
public import proofs.«01_k».proof.Proof.DilRefAt
public import proofs.«01_k».proof.Proof.Softmax
public import proofs.«01_k».proof.Proof.Gen.Dil.Frame
public import proofs.«01_k».proof.Proof.Gen.Pre_finite
public import Idealize.ShloMosaic.Lib.ReduceAll

@[expose] public section

/-!
# The dilated attention: the kernel against the reference

Under the precondition queries and keys are real numbers. Then a score of the kernel and the reference's logit of the same
query and key are both hidden, or both real and a factor log 2 apart, and the two softmaxes are equal.
-/

set_option maxRecDepth 16384
noncomputable section

open Idealize.ShloMosaic Idealize.ShloMosaic.TcCoe Idealize.SL.Sem

namespace Cert.DilIdeal.AttValue
open Cert.DilIdeal Cert.DilIdeal.Gen

/-! ## The precondition -/

instance : Subsingleton Cert.Pre_finite.S_.Idx := ⟨fun a b => funext fun i => i.elim0⟩

/-- An absolute value below infinity is a real number's. -/
theorem real_of_abs (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

set_option maxHeartbeats 1000000 in
/-- Under the precondition every query and key is a real number. -/
theorem real_of_pre (X : FVec Ideal S3x16x512x512 .bf16) (h : Cert.Pre_finite.fn (F := Ideal) X = fun _ => 1#1) (w : Fin 2)
    (r : Fin 16) (n k : Fin 512) : ∃ x : ℝ, X (ix4 ⟨w.val, by omega⟩ r n k) = (x : EReal) := by
  have h1 := congrFun h ix0
  unfold Cert.Pre_finite.fn at h1
  dsimp only at h1
  have h2 := Host.reduce_andi_all _ _ _ _ _ h1 (ix4 w r n k)
  pointwise at h2
  refine real_of_abs _ (Eq.trans ?_ h2)
  rfl

/-! ## The scores and the logits -/

/-- Division by the logarithm of two. -/
theorem div_log_two (x : ℝ) : Ideal.div (x : EReal) (Ideal.log (Ideal.ofBits .f32 1073741824#32)) = ((x * (1 / ln2) : ℝ) : EReal) := by
  rw [log_two, Ideal.div_coe ln2_pos.ne', ← EReal.coe_mul]

/-- A slope is a real number. -/
theorem slope_real (h : Fin 4) : ∃ σ : ℝ, slope h = (σ : EReal) := by
  have e1 : ∃ x : ℝ, Ideal.ofBits .f32 1060205080#32 = (x : EReal) := by
    simp only [Ideal.ofBits, Ideal.ieee]
    rw [if_neg (by decide), if_neg (by decide)]
    exact ⟨_, rfl⟩
  have e2 : ∃ x : ℝ, Ideal.ofBits .f32 3238002688#32 = (x : EReal) := by
    simp only [Ideal.ofBits, Ideal.ieee]
    rw [if_neg (by decide), if_neg (by decide)]
    exact ⟨_, rfl⟩
  have e3 : Ideal.ofBits .f32 1101004800#32 = ((20 : ℝ) : EReal) := by
    simp [Ideal.ofBits, Ideal.ieee, -EReal.coe_mul]; norm_num
  obtain ⟨x, hx⟩ := e1
  obtain ⟨y, hy⟩ := e2
  refine ⟨Real.exp (x * (y * (((BitVec.ofNat 32 (8 + h.val)).toInt : ℝ) + 1) * (1 / 20))), ?_⟩
  unfold slope
  rw [hx, hy, e3, Ideal.div_coe (by norm_num)]
  show Ideal.exp ((x : EReal) * ((y : EReal) * ((((BitVec.ofNat 32 (8 + h.val)).toInt : ℝ) : EReal) + ((1 : ℝ) : EReal)) * ((1 / 20 : ℝ) : EReal))) = _
  rw [← EReal.coe_add, ← EReal.coe_mul, ← EReal.coe_mul, ← EReal.coe_mul, Ideal.exp_coe]

/-- A selection by a bit that is one. -/
theorem select_one (x y : EReal) : Scalar.select 1#1 x y = x := rfl

/-- A selection by a bit that is zero. -/
theorem select_zero (x y : EReal) : Scalar.select 0#1 x y = y := rfl

variable (m : (ℓ : Loc nD τ sig) → Buf (Elt Ideal) ℓ) (c : Dev nD)

/-- A product of a query and a key is a real number. -/
theorem dot_real (hX : ∀ (w : Fin 2) (r : Fin 16) (n k : Fin 512), ∃ x : ℝ, qkv m c (ix4 ⟨w.val, by omega⟩ r n k) = (x : EReal))
    (r : Fin 16) (n n' : Fin 512) (h : Fin 4) :
    ∃ d : ℝ, (∑ e : Fin 128, qkv m c (ix4 0 r n (col h e)) * qkv m c (ix4 1 r n' (col h e))) = (d : EReal) := by
  choose q hq using fun e => hX 0 r n (col h e)
  choose k hk using fun e => hX 1 r n' (col h e)
  refine ⟨∑ e, q e * k e, ?_⟩
  rw [coe_sum]
  refine Finset.sum_congr rfl fun e _ => ?_
  rw [EReal.coe_mul, ← hq, ← hk]
  rfl

open Cert.DilRefIdeal.AttValue (logit) in
/-- A score and its logit belong together, and the score of a key that is seen is not hidden. -/
theorem tied_at (hX : ∀ (w : Fin 2) (r : Fin 16) (n k : Fin 512), ∃ x : ℝ, qkv m c (ix4 ⟨w.val, by omega⟩ r n k) = (x : EReal))
    (r : Fin 16) (b h : Fin 4) (a : Fin 128) (j : Fin 256) :
    Tied (score (qkv m c) (bias m c) r b h a j) (logit (qkv m c) r b h a j)
      ∧ (seen b a j = 1#1 → score (qkv m c) (bias m c) r b h a j ≠ ⊥) ∧ (seen b a j ≠ 1#1 → logit (qkv m c) r b h a j = ⊥) := by
  obtain ⟨d, hd⟩ := dot_real m c hX r (row b a) (keyRow b j) h
  obtain ⟨σ, hσ⟩ := slope_real h
  have hg : gap a j = (((IntOp.muli (stepWord a j) 16#32).toInt : ℝ) : EReal) := rfl
  generalize ((IntOp.muli (stepWord a j) 16#32).toInt : ℝ) = g at hg
  unfold score logit
  rw [bias_at, hd, log_two, hg]
  by_cases hs : seen b a j = 1#1
  · rw [hs, select_one, select_one]
    rw [← log_two, hσ, div_log_two, log_two, ← EReal.coe_neg, ← EReal.coe_mul, ← EReal.coe_add, ← EReal.coe_mul, ← EReal.coe_mul,
      ← EReal.coe_sub]
    refine ⟨Or.inr ⟨_, rfl, congrArg _ ?_⟩, fun _ => EReal.coe_ne_bot _, fun hn => absurd rfl hn⟩
    have := ln2_pos.ne'
    field_simp
    ring
  · have h0 : seen b a j = 0#1 := by
      generalize seen b a j = w at hs ⊢
      revert w; decide
    rw [h0, select_zero, select_zero, bits_bot, EReal.add_bot]
    exact ⟨Or.inl ⟨rfl, rfl⟩, fun hn => absurd hn (by decide), fun _ => rfl⟩

/-! ## The results -/

section Results

open Cert.DilRefIdeal.AttValue

variable (hX : ∀ (w : Fin 2) (r : Fin 16) (n k : Fin 512), ∃ x : ℝ, qkv m c (ix4 ⟨w.val, by omega⟩ r n k) = (x : EReal))

include hX

omit hX in
/-- Two arrays equal at every residue, block, query, head and lane are equal. -/
theorem by_rows (f g : S16x512x512.Idx → EReal)
    (hfg : ∀ (r : Fin 16) (b h : Fin 4) (a e : Fin 128), f (ix3 r (row b a) (col h e)) = g (ix3 r (row b a) (col h e))) : f = g := by
  funext i
  idx_vars i
  have := hfg i0 ⟨i1.val / 128, by omega⟩ ⟨i2.val / 128, by omega⟩ ⟨i1.val % 128, by omega⟩ ⟨i2.val % 128, by omega⟩
  have e1 : row ⟨i1.val / 128, by omega⟩ ⟨i1.val % 128, by omega⟩ = i1 :=
    Fin.ext (by show i1.val / 128 * 128 + i1.val % 128 = i1.val; omega)
  have e2 : col ⟨i2.val / 128, by omega⟩ ⟨i2.val % 128, by omega⟩ = i2 :=
    Fin.ext (by show i2.val / 128 * 128 + i2.val % 128 = i2.val; omega)
  rwa [e1, e2] at this

/-- The reference's first result is the kernel's. -/
theorem out_ref : outOf (logits (qkv m c)) (vs (qkv m c)) = out m c := by
  refine by_rows _ _ fun r b h a e => ?_
  rw [out_eq m c (ix3 r (row b a) (col h e)) r b h a e rfl rfl rfl, outOf_at, logSum_at, best_at]
  simp only [logits_at]
  symm
  refine (attend_eq _ (logit (qkv m c) r b h a) _ (fun j => vs (qkv m c) (ix5 r b j h e)) (fun j => (tied_at m c hX r b h a j).1)
    ⟨128 + a.val, by omega⟩ ((tied_at m c hX r b h a _).2.1 (seen_self b a)) fun j hj => ?_).trans rfl
  by_cases hs : seen b a j = 1#1
  · exact (vs_at (qkv m c) r b j h e (has_of_seen hs)).symm
  · exact absurd ((tied_at m c hX r b h a j).2.2 hs) hj

/-- The reference's second result is the kernel's. -/
theorem lse_ref : lseOf (logits (qkv m c)) = lse m c := by
  refine by_rows _ _ fun r b h a e => ?_
  rw [lse_eq m c (ix3 r (row b a) (col h e)) r b h a e rfl rfl rfl, lseOf_at, logSum_at, best_at]
  simp only [logits_at]
  symm
  exact (lse_ofs _ (logit (qkv m c) r b h a) (fun j => (tied_at m c hX r b h a j).1)
    ⟨128 + a.val, by omega⟩ ((tied_at m c hX r b h a _).2.1 (seen_self b a))).trans rfl

end Results

end Cert.DilIdeal.AttValue

namespace Cert.DilClaims

/-- The kernel runs, and leaves its arguments and its semaphores. -/
theorem frame_p : Cert.quiescent_Dil := fun m ρ _ => Cert.Dil.Gen.frame m ρ

/-- So does its idealization. -/
theorem frame_pi : Cert.quiescent_DilIdeal := fun m ρ _ => Cert.DilIdeal.Gen.frame m ρ

/-- And under the precondition. -/
theorem frame_pi_pre : Cert.quiescent_DilIdeal_pre_finite := fun m ρ _ => Cert.DilIdeal.Gen.frame m ρ

/-- The reference's run leaves its argument and has no semaphore. -/
theorem frame_ref (m : (ℓ : Loc Cert.DilRefIdeal.nD Cert.DilRefIdeal.τ Cert.DilRefIdeal.sig) → Buf (Elt Ideal) ℓ) (ρ) :
    θ_run Cert.DilRefIdeal.defs (onTc (τ := Cert.DilRefIdeal.τ) (Cert.DilRefIdeal.main (F := Ideal))) ⟨m, fun _ => 0, ρ⟩ (fun r =>
      (∀ c : Dev Cert.DilRefIdeal.nD, r.2.mem ((c.tc : Thread Cert.DilRefIdeal.nD Cert.DilRefIdeal.τ).loc Cert.DilRefIdeal.main_arg0)
        = m ((c.tc : Thread Cert.DilRefIdeal.nD Cert.DilRefIdeal.τ).loc Cert.DilRefIdeal.main_arg0)) ∧ r.2.sem = fun _ => 0) :=
  (θ_run Cert.DilRefIdeal.defs _ _).mono (fun r h => ⟨fun c => (h c).2.2, sem_eq_zero_of_no_sems (by decide) r.2⟩)
    (Cert.DilRefIdeal.Value.run (F := Ideal) m ρ)

/-- So does the reference. -/
theorem frame_ri : Cert.quiescent_DilRefIdeal := fun m ρ _ => frame_ref m ρ

/-- And under the precondition. -/
theorem frame_ri_pre : Cert.quiescent_DilRefIdeal_pre_finite := fun m ρ _ => frame_ref m ρ

/-- The named constant is the reciprocal of the logarithm of two. -/
theorem preserves : Cert.preserves_Dil_DilIdeal :=
  IdealRules.named_const.statement Cert.DilIdeal.κ "log2e" .f32 0x3FB8AA3B#32 (((Real.log 2)⁻¹ : ℝ) : EReal) rfl

/-- Kernel and reference end with the same two arrays. -/
theorem algebraic : Cert.algebraic_DilIdeal_DilRefIdeal_pre_finite := fun m ρ m' ρ' hp hag => by
  have hX := fun c => Cert.DilIdeal.AttValue.real_of_pre _ (hp c)
  refine ⟨fun c => Cert.DilIdeal.AttValue.out m c, fun c => Cert.DilIdeal.AttValue.lse m c, ?_, ?_⟩
  · exact (θ_run Cert.DilIdeal.defs _ _).mono (fun r h c => ⟨(h c).1.trans (Cert.DilIdeal.AttValue.arr6 m c),
      (h c).2.1.trans (Cert.DilIdeal.AttValue.arr7 m c), (h c).2.2⟩) (Cert.DilIdeal.Value.run_blocks m ρ)
  · refine (θ_run Cert.DilRefIdeal.defs _ _).mono (fun r h c => ⟨(h c).1.trans ?_, (h c).2.1.trans ?_, (h c).2.2⟩)
      (Cert.DilRefIdeal.Value.run m' ρ')
    · refine (Cert.DilRefIdeal.AttValue.out_stages m' c).trans ?_
      rw [hag c]
      exact Cert.DilIdeal.AttValue.out_ref m c (hX c)
    · refine (Cert.DilRefIdeal.AttValue.lse_stages m' c).trans ?_
      rw [hag c]
      exact Cert.DilIdeal.AttValue.lse_ref m c (hX c)

end Cert.DilClaims
end
-- ==== Proof.Up.lean ====
module

public import proofs.«01_k».proof.Defs
public import proofs.«01_k».proof.Proof.Gen.Up.Frame
public import proofs.«01_k».proof.Proof.Gen.UpIdeal.Value
public import proofs.«01_k».proof.Proof.Gen.UpRefIdeal.Run
public import Idealize.ShloMosaic.Lib.Pipeline.ValueKit
public import Idealize.ShloMosaic.Lib.Pointwise

@[expose] public section

/-!
# The gated first half of the feed-forward layer

Grid point (i, j) holds 1024 rows of the activations and 512 columns of both weight matrices, whole along the summed axis. So each
element it writes is the reference's: the gate times its logistic times the up projection.
-/

set_option maxRecDepth 16384
noncomputable section

open Idealize.ShloMosaic Idealize.ShloMosaic.TcCoe Idealize.SL.Sem
open Idealize.ShloMosaic.Pipeline (Dat)

namespace Cert.UpIdeal.UpValue
open Cert.UpIdeal Cert.UpIdeal.Gen

/-- The block that each window holds at each grid point. -/
theorem idx : ∀ t : Fin grid0.N, win0_0.index t = ![t.val / 11, 0] ∧ win0_1.index t = ![0, t.val % 11]
    ∧ win0_2.index t = ![0, t.val % 11] ∧ win0_3.index t = ![t.val / 11, t.val % 11] := by
  decide +kernel

/-- The product of a row of the activations and a column of a weight matrix. -/
def prod (H : S8192x2048.Idx → EReal) (W : S2048x5632.Idx → EReal) (a : Fin 8192) (b : Fin 5632) : EReal :=
  ∑ e : Fin 2048, H (ix2 a e) * W (ix2 e b)

/-- The gated activation of the feed-forward layer, at an index. -/
def gated (H : S8192x2048.Idx → EReal) (G U : S2048x5632.Idx → EReal) (i : S8192x5632.Idx) : EReal :=
  prod H G (i 0) (i 1) * Ideal.logistic (prod H G (i 0) (i 1)) * prod H U (i 0) (i 1)

/-- What the body stores, at an index of its tile. -/
theorem pay_at (h : Vec Ideal S1024x2048 .bf16) (g u : Vec Ideal S2048x512 .f32) (a : Fin 1024) (b : Fin 512) :
    k0_pay1 h g u (ix2 a b) = (∑ e, h (ix2 a e) * g (ix2 e b)) * Ideal.logistic (∑ e, h (ix2 a e) * g (ix2 e b))
      * ∑ e, h (ix2 a e) * u (ix2 e b) := by
  pointwise [k0_pay1]

/-- What the body stores, where its blocks are read at the arrays' places for result index `i`. -/
theorem tile_eq (h : Vec Ideal S1024x2048 .bf16) (g u : Vec Ideal S2048x512 .f32) (H : S8192x2048.Idx → EReal)
    (G U : S2048x5632.Idx → EReal) (a : Fin 1024) (b : Fin 512) (i : S8192x5632.Idx) (hH : ∀ e, h (ix2 a e) = H (ix2 (i 0) e))
    (hG : ∀ e, g (ix2 e b) = G (ix2 e (i 1))) (hU : ∀ e, u (ix2 e b) = U (ix2 e (i 1))) :
    k0_pay1 h g u (ix2 a b) = gated H G U i := by
  rw [pay_at]
  simp only [hH, hG, hU]
  rfl

variable (m : (ℓ : Loc nD τ sig) → Buf (Elt Ideal) ℓ)

/-- The result array after the run. -/
theorem arr3 (c : Dev nD) : (dats m 0 c).arrAt 3 cfg0.N
    = gated (m (c.tc.loc main_arg0)) (m (c.tc.loc main_arg1)) (m (c.tc.loc main_arg2)) := by
  refine (dats m 0 c).arrAt_eq_of_covers 3 _ (by decide +kernel) fun t hf y => ?_
  blk_simp
  rw [after0_3]
  frame_out
  idx_vars y
  refine tile_eq _ _ _ _ _ _ _ _ _ (fun e => ?_) (fun e => ?_) (fun e => ?_)
  · blk_ext [iblk, V, idx t]
  · blk_ext [iblk, V, idx t]
  · blk_ext [iblk, V, idx t]

end Cert.UpIdeal.UpValue

namespace Cert.UpRefIdeal.UpValue
open Cert.UpRefIdeal Cert.UpRefIdeal.Gen

/-- The reference's product, at an index. -/
theorem dot_at (x : FVec Ideal S8192x2048 .bf16) (w : FVec Ideal S2048x5632 .f32) (a : Fin 8192) (b : Fin 5632) :
    Host.dotGeneral (F := Ideal) dot_S8192x2048_S2048x5632_S8192x5632_1_0_0_1_n_n none (extf .f32 x bitsLt_bf16_f32) w (ix2 a b)
      = UpIdeal.UpValue.prod x w a b := by
  pointwise
  rfl

/-- The reference's gated activation of two products. -/
def gate (g u : FVec Ideal S8192x5632 .f32) : FVec Ideal S8192x5632 .bf16 :=
  truncf .bf16 (mulf (mulf g (Host.divf (broadcastInDim S8192x5632 ![] bcast_S_S8192x5632 (constant S_ .f32 0x3F800000#32))
    (addf (broadcastInDim S8192x5632 ![] bcast_S_S8192x5632 (constant S_ .f32 0x3F800000#32)) (Host.exp (Host.negf g))))) u) bitsLt_bf16_f32

/-- `gate` at an index. -/
theorem gate_at (g u : FVec Ideal S8192x5632 .f32) (i : S8192x5632.Idx) : gate g u i = g i * Ideal.logistic (g i) * u i := by
  idx_vars i
  unfold gate
  pointwise
  rfl

/-- The reference's result is the gated activation. -/
theorem ref_eq (x : FVec Ideal S8192x2048 .bf16) (w u : FVec Ideal S2048x5632 .f32) :
    gate (Host.dotGeneral (F := Ideal) dot_S8192x2048_S2048x5632_S8192x5632_1_0_0_1_n_n none (extf .f32 x bitsLt_bf16_f32) w)
      (Host.dotGeneral (F := Ideal) dot_S8192x2048_S2048x5632_S8192x5632_1_0_0_1_n_n none (extf .f32 x bitsLt_bf16_f32) u)
      = UpIdeal.UpValue.gated x w u := by
  funext i
  idx_vars i
  rw [gate_at, dot_at, dot_at]
  rfl

end Cert.UpRefIdeal.UpValue

namespace Cert.UpClaims

/-- The kernel runs, and leaves its arguments and its semaphores. -/
theorem frame_p : Cert.quiescent_Up := fun m ρ _ => Cert.Up.Gen.frame m ρ

/-- So does its idealization. -/
theorem frame_pi : Cert.quiescent_UpIdeal := fun m ρ _ => Cert.UpIdeal.Gen.frame m ρ

/-- So does the reference. -/
theorem frame_ri : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The idealization renames no constant. -/
theorem preserves : Cert.preserves_Up_UpIdeal := trivial

/-- Kernel and reference end with the same array. -/
theorem algebraic : Cert.algebraic_UpIdeal_UpRefIdeal := fun m ρ m' ρ' _ hag => by
  refine ⟨fun c => Cert.UpIdeal.UpValue.gated (m (c.tc.loc Cert.UpIdeal.main_arg0)) (m (c.tc.loc Cert.UpIdeal.main_arg1))
    (m (c.tc.loc Cert.UpIdeal.main_arg2)), ?_, ?_⟩
  · exact (θ_run Cert.UpIdeal.defs _ _).mono (fun r h c => ⟨(h c).1.trans (Cert.UpIdeal.UpValue.arr3 m c), (h c).2⟩)
      (Cert.UpIdeal.Value.run_blocks m ρ)
  · refine (θ_run Cert.UpRefIdeal.defs _ _).mono (fun r h c => ⟨(h c).1.trans ?_, (h c).2⟩) (Cert.UpRefIdeal.Value.run m' ρ')
    rw [(hag c).1, (hag c).2.1, (hag c).2.2]
    exact Cert.UpRefIdeal.UpValue.ref_eq _ _ _

end Cert.UpClaims
end
-- ==== Proof.DownIdealFrame.lean ====
/- How the feed-forward output kernel runs: a row tile's residual rows are copied to the scratch while the eight column
   tiles of the product are stored in the result's buffer; the last column tile waits for the copy and normalises. -/
module

public import proofs.«01_k».proof.Defs
public import proofs.«01_k».proof.Proof.Gen.DownIdeal.Frame
public import proofs.«01_k».proof.Proof.Gen.DownIdeal.Skeleton
public import Idealize.ShloMosaic.Lib.Pipeline.DatRel
public import Idealize.ShloMosaic.Lib.Pipeline.ArrRel
public import Idealize.ShloMosaic.Lib.WritesUnit
public import Idealize.ShloMosaic.Lib.VecWindow
public import Idealize.ShloMosaic.Lib.ValueIdx

@[expose] public section

set_option maxRecDepth 16384

noncomputable section

namespace Cert.DownIdeal.Carry

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- The row tile of point `t`. -/
def row (t : Fin cfg0.N) : Fin 8 := ⟨t.val / 8, by have h : t.val < 64 := t.isLt; omega⟩

/-- Row tile `r` of the residual array, as the kernel's copies address it. -/
def tile (r : Fin 8) : Memref sig .tc .hbm S1024x2048 .f32 :=
  (Memref.whole main_arg1).slice (Rect.unit (s := S8192x2048) ![r.val * 1024, 0] S1024x2048.size
    (by have := r.isLt; intro a; fin_cases a
        · show r.val * 1024 + 1024 ≤ 8192; omega
        · show 0 + 2048 ≤ 2048; omega)) (fun _ => rfl)

/-- The copy is issued from the rows of the point's row tile. -/
theorem off1_at : ∀ t : Fin cfg0.N, k0_off1 (grid0.coords t) = ![(row t).val * 1024, 0] := by decide +kernel
/-- The wait names the same rows. -/
theorem off3_at : ∀ t : Fin cfg0.N, k0_off3 (grid0.coords t) = ![(row t).val * 1024, 0] := by decide +kernel
/-- The product is stored at the point's column tile. -/
theorem off2_at : ∀ t : Fin cfg0.N, k0_off2 (grid0.coords t) = ![0, t.val % 8 * 256] := by decide +kernel
/-- The copy is issued at the first column tile. -/
theorem cond1_at : ∀ t : Fin cfg0.N, k0_cond1 (grid0.coords t) = 1#1 ↔ t.val % 8 = 0 := by decide +kernel
/-- The wait comes at the last column tile. -/
theorem cond2_at : ∀ t : Fin cfg0.N, k0_cond2 (grid0.coords t) = 1#1 ↔ t.val % 8 = 7 := by decide +kernel

/-- The issued slice is the row tile. -/
@[sl_canon] theorem tile1 (t : Fin cfg0.N) (hh hs) :
    (Memref.whole main_arg1).slice (Rect.unit (s := S8192x2048) (k0_off1 (grid0.coords t)) S1024x2048.size hh) hs = tile (row t) :=
  Memref.slice_unit_congr _ (off1_at t) _ _ hs (fun _ => rfl)
/-- The awaited slice is the row tile. -/
@[sl_canon] theorem tile3 (t : Fin cfg0.N) (hh hs) :
    (Memref.whole main_arg1).slice (Rect.unit (s := S8192x2048) (k0_off3 (grid0.coords t)) S1024x2048.size hh) hs = tile (row t) :=
  Memref.slice_unit_congr _ (off3_at t) _ _ hs (fun _ => rfl)

/-- The column tile at point `t` of the staged result replaced by `w`. -/
def put (t : Fin cfg0.N) (Y : Vec F S1024x2048 .f32) (w : Vec F S1024x256 .f32) : Vec F S1024x2048 .f32 := fun y =>
  if (y 1).val / 256 = t.val % 8 then w (ix2 (y 0) ⟨(y 1).val % 256, Nat.mod_lt _ (by decide)⟩) else Y y

/-- A store at the column tile, read back. -/
theorem read_put (t : Fin cfg0.N) (m : Memref sig .tc .vmem S1024x2048 .f32) (g : m.view.ty.Contents (Elt F)) (w : Vec F S1024x256 .f32) (inb) :
    m.view.read (Elt F) (m.view.writes (Elt F) g [⟨Rect.unit (s := S1024x2048) (k0_off2 (grid0.coords t)) S1024x256.size inb, w⟩])
      = put t (m.view.read (Elt F) g) w := by
  funext y
  have hy : (y 1).val < 2048 := (y 1).isLt
  unfold put
  by_cases h : (y 1).val / 256 = t.val % 8
  · rw [if_pos h]
    refine View.read_writes_cons_unit_of_mem _ _ inb w [] y (ix2 (y 0) ⟨(y 1).val % 256, Nat.mod_lt _ (by decide)⟩) (off2_at t) fun a => ?_
    fin_cases a
    · show (y 0).val = 0 + (y 0).val; omega
    · show (y 1).val = t.val % 8 * 256 + (y 1).val % 256; omega
  · rw [if_neg h]
    refine (View.read_writes_cons_unit_of_not_mem _ _ inb w [] y (off2_at t) 1 ?_).trans rfl
    show (y 1).val < t.val % 8 * 256 ∨ t.val % 8 * 256 + 256 ≤ (y 1).val
    omega

/-- The scratch, once the copy has filled it, reads what was copied. -/
theorem landed_read (w : Vec F S1024x2048 .f32) (inb) :
    (Memref.whole (κ := .tc) (sig := sig) cc0_scratch0).view.readCov (Val := Elt F) [⟨Rect.whole S1024x2048, w⟩] (Rect.unit (s := S1024x2048) ![0, 0] S1024x2048.size inb).toLoadRect = w := by
  unfold View.readCov
  exact (View.readAt_full (s := S1024x2048) (e := .f32) _ _ inb).trans (View.read_writes_whole (s := S1024x2048) (e := .f32) _ _ _)

section Run
variable (c : Dev nD) (XH : Buf (Elt F) ((c : Thread nD τ).loc main_arg1))

/-- The scratch that receives the residual rows. -/
abbrev scrM : Memref sig .tc .vmem S1024x2048 .f32 := Memref.whole cc0_scratch0
/-- Row tile `r` of the residual array held in place. -/
abbrev home (r : Fin 8) : sProp 𝕄 := (tile r).view.loc (c : Thread nD τ) ↦[(tile r).view.set]{fullShare} XH
/-- The scratch as the copy of row tile `r` leaves it. -/
abbrev landed (r : Fin 8) (f : Buf (Elt F) (scrM.view.loc (c : Thread nD τ))) : Buf (Elt F) (scrM.view.loc (c : Thread nD τ)) :=
  scrM.view.writes (Elt F) f [⟨Rect.whole S1024x2048, ReadAs.same.apply ((tile r).view.read (Elt F) XH)⟩]
/-- The scratch held at `f`. -/
abbrev slot (f : Buf (Elt F) (scrM.view.loc (c : Thread nD τ))) : sProp 𝕄 := scrM.view.loc (c : Thread nD τ) ↦[scrM.view.set]{fullShare} f
/-- The copy semaphore at zero. -/
abbrev cell : sProp 𝕄 := semVal ((c : Thread nD τ), SemLoc.dma cc0_scratch1.sem) 0
/-- Row tile `r` on its way to the scratch. -/
abbrev flight (r : Fin 8) (f : Buf (Elt F) (scrM.view.loc (c : Thread nD τ))) : sProp 𝕄 :=
  Transfers.Flight countersEmb (c : Thread nD τ) (SemLoc.dma cc0_scratch1.sem) () 262144
    iprop(slot c (landed c XH r f) ∗ home c XH r)

set_option maxHeartbeats 1000000 in
/-- The first column tile: the copy is issued and the product stored. -/
theorem run_first (t : Fin cfg0.N) (h1 : k0_cond1 (grid0.coords t) = 1#1) (h2 : ¬ k0_cond2 (grid0.coords t) = 1#1)
    (arg2 : Memref sig .tc .vmem S1024x5632 .bf16) (harg2 : arg2.IsWhole)
    (arg4 : Memref sig .tc .vmem S5632x256 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S1024x2048 .f32) (harg7 : arg7.IsWhole)
    (x0 : Vec F S1024x5632 .bf16) (x1 : Vec F S5632x256 .f32) (Y : Vec F S1024x2048 .f32) (f : Buf (Elt F) (scrM.view.loc (c : Thread nD τ)))
    (K : PUnit → sProp 𝕄) :
    iprop(owns (c : Thread nD τ) arg2 fullShare x0 ∗ owns (c : Thread nD τ) arg4 fullShare x1 ∗ owns (c : Thread nD τ) arg7 fullShare Y ∗ slot c f ∗ cell c ∗ home c XH (row t)
        ∗ (iprop(owns (c : Thread nD τ) arg2 fullShare x0 ∗ owns (c : Thread nD τ) arg4 fullShare x1 ∗ owns (c : Thread nD τ) arg7 fullShare (put t Y (k0_pay1 x0 x1)) ∗ flight c XH (row t) f) -∗ K ⟨⟩))
      ⊢ wp Idealize.ShloMosaic.frame (wpE (defs₀ (F := F)) Variants.none c none) Set.univ (cc0_ffn_down_ln (grid0.coords t) arg2 harg2 (Memref.whole main_arg1) (Memref.isWhole_whole _) arg4 harg4 arg5 harg5 arg6 harg6 arg7 harg7 (Memref.whole cc0_scratch0) (Memref.isWhole_whole _) cc0_scratch1) K := by
  simp only [cc0_ffn_down_ln_eq_skeleton]; unfold cc0_ffn_down_ln_skel
  unfold owns
  iintro ⟨⟨%f0, %hf0, H0⟩, ⟨%f1, %hf1, H1⟩, ⟨%f4, %hf4, H4⟩, Hs, Hc, Hh, Hk⟩
  obtain rfl := harg2.eq_unread hf0; obtain rfl := harg4.eq_unread hf1; obtain rfl := harg7.eq_unread hf4
  sl_exec
  sl_step
  iapply Hk
  isplitl [H0]
  · iexists _; isplitr; · ipureintro; exact hf0
    · iexact H0
  isplitl [H1]
  · iexists _; isplitr; · ipureintro; exact hf1
    · iexact H1
  isplitl [H4]
  · iexists _; isplitr; swap; · iexact H4
    · ipureintro; rw [read_put, hf4, View.readAt_full, View.readAt_full, hf0, hf1]
  iexact Hc
set_option maxHeartbeats 1000000 in
/-- A middle column tile: the product is stored. -/
theorem run_mid (t : Fin cfg0.N) (h1 : ¬ k0_cond1 (grid0.coords t) = 1#1) (h2 : ¬ k0_cond2 (grid0.coords t) = 1#1)
    (arg2 : Memref sig .tc .vmem S1024x5632 .bf16) (harg2 : arg2.IsWhole)
    (arg4 : Memref sig .tc .vmem S5632x256 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S1024x2048 .f32) (harg7 : arg7.IsWhole)
    (x0 : Vec F S1024x5632 .bf16) (x1 : Vec F S5632x256 .f32) (Y : Vec F S1024x2048 .f32)
    (K : PUnit → sProp 𝕄) :
    iprop(owns (c : Thread nD τ) arg2 fullShare x0 ∗ owns (c : Thread nD τ) arg4 fullShare x1 ∗ owns (c : Thread nD τ) arg7 fullShare Y
        ∗ (iprop(owns (c : Thread nD τ) arg2 fullShare x0 ∗ owns (c : Thread nD τ) arg4 fullShare x1 ∗ owns (c : Thread nD τ) arg7 fullShare (put t Y (k0_pay1 x0 x1))) -∗ K ⟨⟩))
      ⊢ wp Idealize.ShloMosaic.frame (wpE (defs₀ (F := F)) Variants.none c none) Set.univ (cc0_ffn_down_ln (grid0.coords t) arg2 harg2 (Memref.whole main_arg1) (Memref.isWhole_whole _) arg4 harg4 arg5 harg5 arg6 harg6 arg7 harg7 (Memref.whole cc0_scratch0) (Memref.isWhole_whole _) cc0_scratch1) K := by
  simp only [cc0_ffn_down_ln_eq_skeleton]; unfold cc0_ffn_down_ln_skel
  unfold owns
  iintro ⟨⟨%f0, %hf0, H0⟩, ⟨%f1, %hf1, H1⟩, ⟨%f4, %hf4, H4⟩, Hk⟩
  obtain rfl := harg2.eq_unread hf0; obtain rfl := harg4.eq_unread hf1; obtain rfl := harg7.eq_unread hf4
  sl_exec
  sl_step
  iapply Hk
  isplitl [H0]
  · iexists _; isplitr; · ipureintro; exact hf0
    · iexact H0
  isplitl [H1]
  · iexists _; isplitr; · ipureintro; exact hf1
    · iexact H1
  · iexists _; isplitr; swap; · iexact H4
    · ipureintro; rw [read_put, hf4, View.readAt_full, View.readAt_full, hf0, hf1]
set_option maxHeartbeats 1000000 in
/-- The last column tile: the product is stored, the copy awaited and the row tile normalised. -/
theorem run_last (t : Fin cfg0.N) (h1 : ¬ k0_cond1 (grid0.coords t) = 1#1) (h2 : k0_cond2 (grid0.coords t) = 1#1)
    (arg2 : Memref sig .tc .vmem S1024x5632 .bf16) (harg2 : arg2.IsWhole)
    (arg4 : Memref sig .tc .vmem S5632x256 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S1024x2048 .f32) (harg7 : arg7.IsWhole)
    (x0 : Vec F S1024x5632 .bf16) (x1 : Vec F S5632x256 .f32) (x2 x3 : Vec F S1x2048 .f32) (Y : Vec F S1024x2048 .f32) (f : Buf (Elt F) (scrM.view.loc (c : Thread nD τ)))
    (K : PUnit → sProp 𝕄) :
    iprop(owns (c : Thread nD τ) arg2 fullShare x0 ∗ owns (c : Thread nD τ) arg4 fullShare x1 ∗ owns (c : Thread nD τ) arg7 fullShare Y ∗ owns (c : Thread nD τ) arg5 fullShare x2 ∗ owns (c : Thread nD τ) arg6 fullShare x3 ∗ flight c XH (row t) f ∗ (∃ W, owes (c : Thread nD τ) 0 W)
        ∗ (iprop(owns (c : Thread nD τ) arg2 fullShare x0 ∗ owns (c : Thread nD τ) arg4 fullShare x1 ∗ owns (c : Thread nD τ) arg7 fullShare (k0_pay2 ((tile (row t)).view.read (Elt F) XH) (put t Y (k0_pay1 x0 x1)) x2 x3) ∗ owns (c : Thread nD τ) arg5 fullShare x2 ∗ owns (c : Thread nD τ) arg6 fullShare x3 ∗ slot c (landed c XH (row t) f) ∗ cell c ∗ home c XH (row t) ∗ (∃ W, owes (c : Thread nD τ) 0 W)) -∗ K ⟨⟩))
      ⊢ wp Idealize.ShloMosaic.frame (wpE (defs₀ (F := F)) Variants.none c none) Set.univ (cc0_ffn_down_ln (grid0.coords t) arg2 harg2 (Memref.whole main_arg1) (Memref.isWhole_whole _) arg4 harg4 arg5 harg5 arg6 harg6 arg7 harg7 (Memref.whole cc0_scratch0) (Memref.isWhole_whole _) cc0_scratch1) K := by
  simp only [cc0_ffn_down_ln_eq_skeleton]; unfold cc0_ffn_down_ln_skel
  unfold owns
  iintro ⟨⟨%f0, %hf0, H0⟩, ⟨%f1, %hf1, H1⟩, ⟨%f4, %hf4, H4⟩, ⟨%f2, %hf2, H2⟩, ⟨%f3, %hf3, H3⟩, Hc, ⟨%W, HW⟩, Hk⟩
  obtain rfl := harg2.eq_unread hf0; obtain rfl := harg4.eq_unread hf1; obtain rfl := harg7.eq_unread hf4
  obtain rfl := harg5.eq_unread hf2; obtain rfl := harg6.eq_unread hf3
  sl_exec
  sl_step
  iapply Hk
  isplitl [H0]
  · iexists _; isplitr; · ipureintro; exact hf0
    · iexact H0
  isplitl [H1]
  · iexists _; isplitr; · ipureintro; exact hf1
    · iexact H1
  isplitl [H4]
  · iexists _; isplitr; swap; · iexact H4
    · ipureintro
      rw [View.read_writes_full, View.readAt_full, View.readAt_full, View.readAt_full, hf2, hf3]
      unfold run_last.sl.v17 run_last.sl.H4_1
      rw [read_put, hf4, View.readAt_full, View.readAt_full, hf0, hf1]
      exact congrArg (fun z => k0_pay2 z _ x2 x3) (landed_read _ _)
  isplitl [H2]
  · iexists _; isplitr; · ipureintro; exact hf2
    · iexact H2
  isplitl [H3]
  · iexists _; isplitr; · ipureintro; exact hf3
    · iexact H3
  isplitl [Hc_dst]; · iexact Hc_dst
  isplitl [Hc]; · iexact Hc
  isplitl [Hc_src]; · iexact Hc_src
  iexists _; iexact HW

end Run

/-! ## What is held between points, and what each point finds and leaves -/

section Data
variable (m : (ℓ : Loc nD τ sig) → Buf (Elt F) ℓ) (ρ : Dev nD → PrngReg) (c : Dev nD)

/-- The point of row tile `r` and column tile `j`. -/
def pt (r j : Fin 8) : Fin cfg0.N := ⟨8 * r.val + j.val, by have := r.isLt; have := j.isLt; show 8 * r.val + j.val < 64; omega⟩

/-- The product of row tile `r` of the activations with the whole weight, column tile by column tile. -/
def prodAt (r : Fin 8) : Vec F S1024x2048 .f32 := fun y =>
  let j : Fin 8 := ⟨(y 1).val / 256, by have : (y 1).val < 2048 := (y 1).isLt; omega⟩
  k0_pay1 (F := F) (iblk m c 0 (pt r j)) (iblk m c 1 (pt r j)) (ix2 (y 0) ⟨(y 1).val % 256, Nat.mod_lt _ (by decide)⟩)

/-- What point `t` finds in the result's staging buffer: the column tiles of the points before it in its row tile. -/
def Found (t : Fin cfg0.N) (Y : Vec F S1024x2048 .f32) : Prop := ∀ y, (y 1).val / 256 < t.val % 8 → Y y = prodAt m c (row t) y

/-- What point `t` leaves there: the normalised row tile at the last column tile, the column tiles so far before it. -/
def Left (t : Fin cfg0.N) (X : Vec F S1024x2048 .f32) : Prop :=
  (t.val % 8 = 7 → X = k0_pay2 (F := F) ((tile (row t)).view.read (Elt F) (V m c main_arg1)) (prodAt m c (row t)) (iblk m c 2 t) (iblk m c 3 t))
  ∧ (t.val % 8 ≠ 7 → ∀ y, (y 1).val / 256 < t.val % 8 + 1 → X y = prodAt m c (row t) y)

/-- A point is found again from its row and column tile. -/
theorem pt_row (t : Fin cfg0.N) (j : Fin 8) (h : j.val = t.val % 8) : pt (row t) j = t := by
  apply Fin.ext; show 8 * (t.val / 8) + j.val = t.val; omega

/-- The column tile stored at a point is the product's, and the earlier ones stay. -/
theorem put_found (t : Fin cfg0.N) (Y : Vec F S1024x2048 .f32) (hY : Found m c t Y) (y : S1024x2048.Idx) (hy : (y 1).val / 256 < t.val % 8 + 1) :
    put t Y (k0_pay1 (F := F) (iblk m c 0 t) (iblk m c 1 t)) y = prodAt m c (row t) y := by
  unfold put
  by_cases h : (y 1).val / 256 = t.val % 8
  · rw [if_pos h]; unfold prodAt; dsimp only
    rw [pt_row t _ h]
  · rw [if_neg h]; exact hY y (by omega)

/-- Between row tiles: the scratch and the residual array at rest, no copy in flight. -/
def idle : sProp 𝕄 := iprop((∃ f, slot c f) ∗ cell c ∗ (((c : Thread nD τ).loc main_arg1) ↦{fullShare} V m c main_arg1) ∗ (∃ r, prngReg c r))
/-- The rest of the residual array while row tile `r` is being copied. -/
abbrev away (r : Fin 8) : sProp 𝕄 := (tile r).view.loc (c : Thread nD τ) ↦[Finset.univ \ (tile r).view.set]{fullShare} V m c main_arg1
/-- Within row tile `r`: its residual rows in flight to the scratch. -/
def busy (r : Fin 8) : sProp 𝕄 := iprop((∃ f, flight c (V m c main_arg1) r f) ∗ away m c r ∗ (∃ r, prngReg c r))

/-- The residual array is row tile `r` and the rest. -/
theorem home_split (r : Fin 8) : ((((c : Thread nD τ).loc main_arg1) ↦{fullShare} V m c main_arg1) : sProp 𝕄) ⊣⊢ iprop(home c (V m c main_arg1) r ∗ away m c r) :=
  pointsTo_split_subset (Finset.subset_univ _)

/-- What is held before point `t`. -/
def carried (t : ℕ) : sProp 𝕄 := if t % 8 = 0 then idle m c else busy m c ⟨t / 8 % 8, Nat.mod_lt _ (by decide)⟩

/-- Before a row tile nothing is in flight. -/
theorem carried_idle (t : ℕ) (h : t % 8 = 0) : carried m c t = idle m c := if_pos h
/-- Within a row tile its copy is in flight. -/
theorem carried_busy (t : ℕ) (r : Fin 8) (h : t % 8 ≠ 0) (hr : t / 8 = r.val) : carried m c t = busy m c r := by
  unfold carried; rw [if_neg h]; congr 1; apply Fin.ext; show t / 8 % 8 = r.val; have := r.isLt; omega

/-- The five staging buffers at point `t`, the result's at `Y`. -/
abbrev held (t : Fin cfg0.N) (Y : Vec F S1024x2048 .f32) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare Y)

set_option maxHeartbeats 1000000 in
/-- One point: from what is held and found to what is held next and left. -/
theorem body_at (t : Fin cfg0.N) (Y : Vec F S1024x2048 .f32) (hY : Found m c t Y) :
    iprop(carried m c t.val ∗ (∃ W, owes (c : Thread nD τ) 0 W) ∗ held m c t Y)
      ⊢ wp Idealize.ShloMosaic.frame (wpE (defs₀ (F := F)) Variants.none c none) Set.univ (bodyAt0 t)
          (fun _ => iprop(carried m c (t.val + 1) ∗ (∃ W, owes (c : Thread nD τ) 0 W) ∗ (∃ X, ⌜Left m c t X⌝ ∗ held m c t X))) := by
  have hN : t.val < 64 := t.isLt
  by_cases h0 : t.val % 8 = 0
  · have h1 := (cond1_at t).mpr h0
    have h2 : ¬ k0_cond2 (grid0.coords t) = 1#1 := fun h => by have := (cond2_at t).mp h; omega
    rw [carried_idle m c _ h0, carried_busy m c (t.val + 1) (row t) (by omega) (by show (t.val + 1) / 8 = t.val / 8; omega)]
    unfold idle busy
    iintro ⟨⟨⟨%f, Hs⟩, Hc, Hh, Hp⟩, Ho, H0, H1, H2, H3, H4⟩
    ihave Hh' := (home_split m c (row t)).1 $$ Hh
    icases Hh' with ⟨Hh, Ha⟩
    iapply (run_first c (V m c main_arg1) t h1 h2 _ _ _ _ _ _ _ _ _ _ (iblk m c 0 t) (iblk m c 1 t) Y f _)
    isplitl [H0]; · iexact H0
    isplitl [H1]; · iexact H1
    isplitl [H4]; · iexact H4
    isplitl [Hs]; · iexact Hs
    isplitl [Hc]; · iexact Hc
    isplitl [Hh]; · iexact Hh
    iintro ⟨H0, H1, H4, Hf⟩
    isplitl [Hf Ha Hp]
    · isplitl [Hf]; · iexists f; iexact Hf
      isplitl [Ha]; · iexact Ha
      iexact Hp
    isplitl [Ho]; · iexact Ho
    iexists (put t Y (k0_pay1 (F := F) (iblk m c 0 t) (iblk m c 1 t)))
    isplitr
    · ipureintro; exact ⟨fun h => absurd h (by omega), fun _ y hy => put_found m c t Y hY y hy⟩
    isplitl [H0]; · iexact H0
    isplitl [H1]; · iexact H1
    isplitl [H2]; · iexact H2
    isplitl [H3]; · iexact H3
    iexact H4
  by_cases h7 : t.val % 8 = 7
  · have h1 : ¬ k0_cond1 (grid0.coords t) = 1#1 := fun h => h0 ((cond1_at t).mp h)
    have h2 := (cond2_at t).mpr h7
    rw [carried_busy m c t.val (row t) h0 rfl, carried_idle m c (t.val + 1) (by omega)]
    unfold idle busy
    iintro ⟨⟨⟨%f, Hf⟩, Ha, Hp⟩, Ho, H0, H1, H2, H3, H4⟩
    iapply (run_last c (V m c main_arg1) t h1 h2 _ _ _ _ _ _ _ _ _ _ (iblk m c 0 t) (iblk m c 1 t) (iblk m c 2 t) (iblk m c 3 t) Y f _)
    isplitl [H0]; · iexact H0
    isplitl [H1]; · iexact H1
    isplitl [H4]; · iexact H4
    isplitl [H2]; · iexact H2
    isplitl [H3]; · iexact H3
    isplitl [Hf]; · iexact Hf
    isplitl [Ho]; · iexact Ho
    iintro ⟨H0, H1, H4, H2, H3, Hs, Hc, Hh, Ho⟩
    isplitl [Hs Hc Hh Ha Hp]
    · isplitl [Hs]; · iexists _; iexact Hs
      isplitl [Hc]; · iexact Hc
      isplitl [Hh Ha]
      · iapply (home_split m c (row t)).2; isplitl [Hh]; · iexact Hh
        iexact Ha
      iexact Hp
    isplitl [Ho]; · iexact Ho
    iexists _
    isplitr; swap
    · isplitl [H0]; · iexact H0
      isplitl [H1]; · iexact H1
      isplitl [H2]; · iexact H2
      isplitl [H3]; · iexact H3
      iexact H4
    · ipureintro
      refine ⟨fun _ => ?_, fun h => absurd h7 h⟩
      rw [show put t Y (k0_pay1 (F := F) (iblk m c 0 t) (iblk m c 1 t)) = prodAt m c (row t) from
        funext fun y => put_found m c t Y hY y (by have : (y 1).val < 2048 := (y 1).isLt; omega)]
  · have h1 : ¬ k0_cond1 (grid0.coords t) = 1#1 := fun h => h0 ((cond1_at t).mp h)
    have h2 : ¬ k0_cond2 (grid0.coords t) = 1#1 := fun h => h7 ((cond2_at t).mp h)
    rw [carried_busy m c t.val (row t) h0 rfl, carried_busy m c (t.val + 1) (row t) (by omega) (by show (t.val + 1) / 8 = t.val / 8; omega)]
    iintro ⟨Hb, Ho, H0, H1, H2, H3, H4⟩
    iapply (run_mid c t h1 h2 _ _ _ _ _ _ _ _ _ _ (iblk m c 0 t) (iblk m c 1 t) Y _)
    isplitl [H0]; · iexact H0
    isplitl [H1]; · iexact H1
    isplitl [H4]; · iexact H4
    iintro ⟨H0, H1, H4⟩
    isplitl [Hb]; · iexact Hb
    isplitl [Ho]; · iexact Ho
    iexists (put t Y (k0_pay1 (F := F) (iblk m c 0 t) (iblk m c 1 t)))
    isplitr
    · ipureintro; exact ⟨fun h => absurd h h7, fun _ y hy => put_found m c t Y hY y hy⟩
    isplitl [H0]; · iexact H0
    isplitl [H1]; · iexact H1
    isplitl [H2]; · iexact H2
    isplitl [H3]; · iexact H3
    iexact H4

/-- The proof data: the inputs at their blocks throughout; of the result's buffer only `Left` is said. -/
def dat : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prodAt m c (row t)
  Φ t := carried m c t.val
  q _ := fullShare
  owed _ := 0

/-- The windows described by a relation: the result's. -/
def loose : Fin cfg0.W → Bool
  | ⟨4, _⟩ => true
  | _ => false

/-- What is said of the result's buffer. -/
def rel : (w : Fin cfg0.W) → Fin cfg0.N → ((cfg0.win w).block.Idx → Elt F (cfg0.win w).elt) → Prop
  | ⟨4, _⟩ => fun t X => Left m c t X
  | ⟨0, _⟩ => fun _ _ => True
  | ⟨1, _⟩ => fun _ _ => True
  | ⟨2, _⟩ => fun _ _ => True
  | ⟨3, _⟩ => fun _ _ => True

/-- The arrays are those the loop is entered with. -/
theorem A_eq (w : Fin cfg0.W) : (dat m c).A w = V m c (Pipeline.arrRef spec0 w) := by dsimp only [dat]
/-- The body leaves input 0 as it was. -/
theorem after_0 (t : Fin cfg0.N) : (dat m c).after 0 t = iblk m c 0 t := by dsimp only [dat]
/-- The body leaves input 1 as it was. -/
theorem after_1 (t : Fin cfg0.N) : (dat m c).after 1 t = iblk m c 1 t := by dsimp only [dat]
/-- The body leaves input 2 as it was. -/
theorem after_2 (t : Fin cfg0.N) : (dat m c).after 2 t = iblk m c 2 t := by dsimp only [dat]
/-- The body leaves input 3 as it was. -/
theorem after_3 (t : Fin cfg0.N) : (dat m c).after 3 t = iblk m c 3 t := by dsimp only [dat]

/-- Input 0 is at its block at every point. -/
theorem before_0 (t : Fin cfg0.N) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input 1 is at its block at every point. -/
theorem before_1 (t : Fin cfg0.N) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input 2 is at its block at every point. -/
theorem before_2 (t : Fin cfg0.N) (d) : (dat m c).before 2 t d = iblk m c 2 t :=
  ((dat m c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input 3 is at its block at every point. -/
theorem before_3 (t : Fin cfg0.N) (d) : (dat m c).before 3 t d = iblk m c 3 t :=
  ((dat m c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the loop may hand the body in the result's buffer has the earlier column tiles in place. -/
theorem found_of_finds (t : Fin cfg0.N) (Y : Vec F S1024x2048 .f32) (h : ((dat m c).toRRel loose (rel m c)).Finds 4 t Y) : Found m c t Y := by
  intro y hy
  have hN : t.val < 64 := t.isLt
  have ht : t.val ≠ 0 := by omega
  have h' := (Pipeline.RDat.finds_of_pos (w := (4 : Fin cfg0.W)) _ rfl ht Y).mp h
  rcases h' with h' | h'
  · have := (flush0_4 _).mp h'
    have e : (t.val - 1) % 8 = 7 := this
    omega
  · have l : Left m c ⟨t.val - 1, _⟩ Y := (dat m c).toRRel_leaves (w := (4 : Fin cfg0.W)) rfl h'
    have hr : row ⟨t.val - 1, by show t.val - 1 < 64; omega⟩ = row t := by apply Fin.ext; show (t.val - 1) / 8 = t.val / 8; omega
    have := l.2 (by show (t.val - 1) % 8 ≠ 7; omega) y (by show (y 1).val / 256 < (t.val - 1) % 8 + 1; omega)
    rw [hr] at this; exact this

/-- The body the loop calls at a point. -/
theorem defs₀_row (t : Fin cfg0.N) : defs₀ (F := F) .tc cfg0.body (cfg0.bodyArgs t (cfg0.slots t)) = bodyAt0 t := by
  unfold defs₀; rw [Defs.onTc_tc]

/-- What the loop asks of the body, at every point. -/
theorem obligation : Pipeline.BodyObligationRel (dat m c) (defs₀ (F := F)) Variants.none () Set.univ loose (rel m c) := fun t => by
  rw [bigSep_W0, bigSep_W0, defs₀_row]
  have pre : iprop(carried m c t.val ∗ (dat m c).owesAt () t.castSucc
        ∗ (∃ d, owns (c : Thread nD τ) (st0_0 t) fullShare ((dat m c).before 0 t d)) ∗ (∃ d, owns (c : Thread nD τ) (st0_1 t) fullShare ((dat m c).before 1 t d))
        ∗ (∃ d, owns (c : Thread nD τ) (st0_2 t) fullShare ((dat m c).before 2 t d)) ∗ (∃ d, owns (c : Thread nD τ) (st0_3 t) fullShare ((dat m c).before 3 t d))
        ∗ (∃ Y, ⌜((dat m c).toRRel loose (rel m c)).Finds 4 t Y⌝ ∗ owns (c : Thread nD τ) (st0_4 t) fullShare Y))
      ⊢ (iprop(∃ Y : Vec F S1024x2048 .f32, ⌜Found m c t Y⌝ ∗ (carried m c t.val ∗ (∃ W, owes (c : Thread nD τ) 0 W) ∗ held m c t Y)) : sProp 𝕄) := by
    simp only [before_0, before_1, before_2, before_3]
    iintro ⟨HΦ, ⟨%W, %hW, Ho⟩, ⟨%d0, H0⟩, ⟨%d1, H1⟩, ⟨%d2, H2⟩, ⟨%d3, H3⟩, ⟨%Y, %hY, H4⟩⟩
    iexists Y
    isplitr; · ipureintro; exact found_of_finds m c t Y hY
    isplitl [HΦ]; · iexact HΦ
    isplitl [Ho]; · iexists W; iexact Ho
    isplitl [H0]; · iexact H0
    isplitl [H1]; · iexact H1
    isplitl [H2]; · iexact H2
    isplitl [H3]; · iexact H3
    iexact H4
  have post : (iprop(carried m c (t.val + 1) ∗ (∃ W, owes (c : Thread nD τ) 0 W) ∗ (∃ X, ⌜Left m c t X⌝ ∗ held m c t X)) : sProp 𝕄)
      ⊢ iprop(carried m c t.succ.val ∗ (dat m c).owesAt () t.succ
        ∗ owns (c : Thread nD τ) (st0_0 t) fullShare ((dat m c).after 0 t) ∗ owns (c : Thread nD τ) (st0_1 t) fullShare ((dat m c).after 1 t)
        ∗ owns (c : Thread nD τ) (st0_2 t) fullShare ((dat m c).after 2 t) ∗ owns (c : Thread nD τ) (st0_3 t) fullShare ((dat m c).after 3 t)
        ∗ (∃ X, ⌜rel m c 4 t X⌝ ∗ owns (c : Thread nD τ) (st0_4 t) fullShare X)) := by
    rw [after_0, after_1, after_2, after_3]
    iintro ⟨HΦ, ⟨%W, Ho⟩, ⟨%X, %hX, H0, H1, H2, H3, H4⟩⟩
    isplitl [HΦ]; · iexact HΦ
    isplitl [Ho]
    · iexists W; isplitr; · ipureintro; exact fun _ _ => Or.inl trivial
      iexact Ho
    isplitl [H0]; · iexact H0
    isplitl [H1]; · iexact H1
    isplitl [H2]; · iexact H2
    isplitl [H3]; · iexact H3
    iexists X; isplitr; · ipureintro; exact hX
    iexact H4
  have mid : (iprop(∃ Y : Vec F S1024x2048 .f32, ⌜Found m c t Y⌝ ∗ (carried m c t.val ∗ (∃ W, owes (c : Thread nD τ) 0 W) ∗ held m c t Y)) : sProp 𝕄)
      ⊢ wp Idealize.ShloMosaic.frame (wpE (defs₀ (F := F)) Variants.none c none) Set.univ (bodyAt0 t)
          (fun _ => iprop(carried m c (t.val + 1) ∗ (∃ W, owes (c : Thread nD τ) 0 W) ∗ (∃ X, ⌜Left m c t X⌝ ∗ held m c t X))) := by
    iintro ⟨%Y, %hY, H⟩
    iapply (body_at m c t Y hY)
    iexact H
  exact (pre.trans mid).trans (wp_mono _ _ _ fun _ => post)

/-- The kernel's own copy semaphore. -/
abbrev copySem : Unit → SemLoc sig := fun _ => SemLoc.dma cc0_scratch1.sem

/-- What the loop is entered with is what the first point is handed. -/
theorem enter : Pipeline.ΦD copySem spec0 {main_arg1} (V m) c ⊢ (carried m c 0 : sProp 𝕄) := by
  rw [Pipeline.ΦD_eq, scopedRest0_eq, carried_idle m c 0 rfl]
  unfold idle Pipeline.ownSems0
  rw [Idealize.SL.BI.bigSep_singleton, show (Finset.univ : Finset Unit) = {()} from rfl, Idealize.SL.BI.bigSep_singleton]
  iintro ⟨⟨%f, Hs⟩, Hp, Hc, Hh⟩
  isplitl [Hs]
  · iexists f; unfold slot; rw [View.set_whole]; iexact Hs
  isplitl [Hc]; · iexact Hc
  isplitl [Hh]; · iexact Hh
  iexact Hp

/-- What the last point hands back is what the loop is left with. -/
theorem leave : (carried m c 64 : sProp 𝕄) ⊢ Pipeline.ΦD copySem spec0 {main_arg1} (V m) c := by
  rw [Pipeline.ΦD_eq, scopedRest0_eq, carried_idle m c 64 rfl]
  unfold idle Pipeline.ownSems0
  rw [Idealize.SL.BI.bigSep_singleton, show (Finset.univ : Finset Unit) = {()} from rfl, Idealize.SL.BI.bigSep_singleton]
  iintro ⟨⟨%f, Hs⟩, Hc, Hh, Hp⟩
  isplitl [Hs]
  · iexists f; unfold slot; rw [View.set_whole]; iexact Hs
  isplitl [Hp]; · iexact Hp
  isplitl [Hc]; · iexact Hc
  iexact Hh

omit c in
set_option maxHeartbeats 800000 in
/-- The host operations before the loop give the contents `V`. -/
theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- The proof data as the loop takes them. -/
abbrev rdat (c : Dev nD) : Pipeline.RDat τ (Elt F) Unit ℕ (Pipeline.UD sig nD τ) ℕ cfg0 c := (dat m c).toRRel loose (rel m c)

omit c in
set_option backward.isDefEq.respectTransparency.types false in
set_option maxHeartbeats 800000 in
/-- The whole program runs, ends with every counter at zero, and leaves the arrays as the data say. -/
theorem run : θ_run defs (onTc (τ := τ) (main (F := F))) (s₀ m ρ) (fun r => Pipeline.RDat.FramePost cfg0 (rdat m) (V m) r ∧ r.2.sem = fun _ => 0) :=
  Pipeline.RDat.θ_run_frame_dma (Q' := _) cfgs (0 : Fin 1) launch0 copySem defs₀ Variants.none (rdat m) (by decide) {main_arg1} (by decide) m ρ main
    (hbody := fun c => (obligation m c).toRRel) (hshare := fun c => (dat m c).share_full fun _ => rfl) (howed := fun _ _ => rfl)
    (V := V m) (hmain := hmainD m) (hA := fun c w => A_eq m c w) (hin := fun c => enter m c) (hout := fun c => leave m c)

omit c in
/-- Every execution ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r (h : _ ∧ _) => ⟨fun c =>
     ⟨(h.1.arr_in c 0 rfl).trans ((A_eq m c 0).trans (V_main_arg0 m c)),
      ((h.1 c).2 main_arg1 (Pipeline.mem_restRefs_of main_arg1 (by decide) (by decide))).trans (V_main_arg1 m c),
      (h.1.arr_in c 1 rfl).trans ((A_eq m c 1).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run m ρ)

end Data
end Cert.DownIdeal.Carry
end
-- ==== Proof.Down.lean ====
module

public import proofs.«01_k».proof.Defs
public import proofs.«01_k».proof.Proof.DownFrame
public import proofs.«01_k».proof.Proof.DownIdealFrame
public import proofs.«01_k».proof.Proof.Gen.DownRefIdeal.Run
public import Idealize.ShloMosaic.Lib.Pipeline.ValueKit
public import Idealize.ShloMosaic.Lib.Pointwise

@[expose] public section

/-!
# The second half of the feed-forward layer and the layer norm

A row tile of the result is the layer norm of a constant times the residual rows plus the product of the activations' rows and the
whole weight. The product comes column tile by column tile; each holds the summed axis whole.
-/

set_option maxRecDepth 16384
noncomputable section

open Idealize.ShloMosaic Idealize.ShloMosaic.TcCoe Idealize.SL.Sem
open Idealize.ShloMosaic.Pipeline (Dat)

namespace Cert.DownIdeal.NormValue
open Cert.DownIdeal Cert.DownIdeal.Gen Cert.DownIdeal.Carry

/-- The block that each window holds at each grid point. -/
theorem idx : ∀ t : Fin grid0.N, win0_0.index t = ![t.val / 8, 0] ∧ win0_1.index t = ![0, t.val % 8]
    ∧ win0_2.index t = ![0, 0] ∧ win0_3.index t = ![0, 0] ∧ win0_4.index t = ![t.val / 8, 0] := by
  decide +kernel

/-- The mean of a row. -/
def mean (f : Fin 2048 → EReal) : EReal := Ideal.div (∑ e, f e) (Ideal.ofBits .f32 0x45000000#32)

/-- The layer norm of a row, at column `k`, with scale `g` and shift `b` there. -/
def norm (f : Fin 2048 → EReal) (g b : EReal) (k : Fin 2048) : EReal :=
  (f k - mean f) * Ideal.rsqrt (mean (fun e => (f e - mean f) * (f e - mean f)) + Ideal.ofBits .f32 0x3727C5AC#32) * g + b

/-- The product of the activations and the weight, at an index. -/
def dotAt (A : S8192x5632.Idx → EReal) (W : S5632x2048.Idx → EReal) (a : Fin 8192) (k : Fin 2048) : EReal := ∑ e, A (ix2 a e) * W (ix2 e k)

/-- A row before the norm: the scaled residual plus the product of the activations' row and the weight. -/
def pre (A : S8192x5632.Idx → EReal) (H : S8192x2048.Idx → EReal) (W : S5632x2048.Idx → EReal) (a : Fin 8192) (k : Fin 2048) : EReal :=
  Ideal.ofBits .f32 0x3F9837F0#32 * H (ix2 a k) + dotAt A W a k

/-- The result, at an index. -/
def result (A : S8192x5632.Idx → EReal) (H : S8192x2048.Idx → EReal) (W : S5632x2048.Idx → EReal) (g b : S2048.Idx → EReal)
    (i : S8192x2048.Idx) : EReal := norm (pre A H W (i 0)) (g (ix1 (i 1))) (b (ix1 (i 1))) (i 1)

/-- The product stored at a point, at an index of its tile. -/
theorem pay1_at (x : Vec Ideal S1024x5632 .bf16) (w : Vec Ideal S5632x256 .f32) (a : Fin 1024) (b : Fin 256) :
    k0_pay1 x w (ix2 a b) = ∑ e, x (ix2 a e) * w (ix2 e b) := by
  pointwise [k0_pay1]

/-- The normalised row tile, at an index. -/
theorem pay2_at (h x : Vec Ideal S1024x2048 .f32) (g b : Vec Ideal S1x2048 .f32) (a : Fin 1024) (k : Fin 2048) :
    k0_pay2 h x g b (ix2 a k) = norm (fun e => Ideal.ofBits .f32 0x3F9837F0#32 * h (ix2 a e) + x (ix2 a e)) (g (ix2 0 k)) (b (ix2 0 k)) k := by
  pointwise [k0_pay2]
  rfl

/-- The normalised row tile, where its operands are read at the arrays' places for result index `i`. -/
theorem tile_eq (h x : Vec Ideal S1024x2048 .f32) (g b : Vec Ideal S1x2048 .f32) (A : S8192x5632.Idx → EReal) (H : S8192x2048.Idx → EReal)
    (W : S5632x2048.Idx → EReal) (G B : S2048.Idx → EReal) (a : Fin 1024) (k : Fin 2048) (i : S8192x2048.Idx)
    (hH : ∀ e, h (ix2 a e) = H (ix2 (i 0) e)) (hX : ∀ e, x (ix2 a e) = dotAt A W (i 0) e)
    (hG : g (ix2 0 k) = G (ix1 (i 1))) (hB : b (ix2 0 k) = B (ix1 (i 1))) (hk : k = i 1) :
    k0_pay2 h x g b (ix2 a k) = result A H W G B i := by
  rw [pay2_at]
  simp only [hH, hX, hG, hB]
  subst hk
  rfl

variable (m : (ℓ : Loc nD τ sig) → Buf (Elt Ideal) ℓ)

/-- The kernel's third operand is the scale as one row. -/
theorem scale_at (c : Dev nD) (k : Fin 2048) :
    V m c main_v0 (ix2 0 k) = (m (c.tc.loc main_arg3) : S2048.Idx → EReal) (ix1 k) := by
  entry_read
  pointwise

/-- The kernel's fourth operand is the shift as one row. -/
theorem shift_at (c : Dev nD) (k : Fin 2048) :
    V m c main_v1 (ix2 0 k) = (m (c.tc.loc main_arg4) : S2048.Idx → EReal) (ix1 k) := by
  entry_read
  pointwise

/-- A row of row tile `r` in the whole array. -/
def rowOf (r : Fin 8) (a : Fin 1024) : Fin 8192 := ⟨r.val * 1024 + a.val, by omega⟩

/-- What the copy of row tile `r` reads. -/
theorem tile_at (c : Dev nD) (r : Fin 8) (a : Fin 1024) (e : Fin 2048) :
    (tile r).view.read (Elt Ideal) (V m c main_arg1) (ix2 a e) = (m (c.tc.loc main_arg1) : S8192x2048.Idx → EReal) (ix2 (rowOf r a) e) := by
  rw [V_main_arg1]
  refine congrArg (m (c.tc.loc main_arg1) : S8192x2048.Idx → EReal) (funext fun q => Fin.ext ?_)
  fin_cases q
  · show r.val * 1024 + 1 * a.val = r.val * 1024 + a.val; omega
  · show 0 + 1 * e.val = e.val; omega

/-- The activations' block at a point of row tile `r`. -/
theorem act_at (c : Dev nD) (r j : Fin 8) (a : Fin 1024) (e : Fin 5632) :
    iblk m c 0 (pt r j) (ix2 a e) = (m (c.tc.loc main_arg0) : S8192x5632.Idx → EReal) (ix2 (rowOf r a) e) := by
  have hv : (pt r j).val / 8 = r.val := by show (8 * r.val + j.val) / 8 = r.val; omega
  have hi := idx (pt r j)
  rw [hv] at hi
  blk_ext [iblk, V, hi, rowOf]

/-- The weight's block at a point of column tile `j`. -/
theorem weight_at (c : Dev nD) (r j : Fin 8) (e : Fin 5632) (b : Fin 256) :
    iblk m c 1 (pt r j) (ix2 e b) = (m (c.tc.loc main_arg2) : S5632x2048.Idx → EReal) (ix2 e ⟨j.val * 256 + b.val, by omega⟩) := by
  have hv : (pt r j).val % 8 = j.val := by show (8 * r.val + j.val) % 8 = j.val; omega
  have hi := idx (pt r j)
  rw [hv] at hi
  blk_ext [iblk, V, hi]

/-- The row tile's product, at an index. -/
theorem prod_at (c : Dev nD) (r : Fin 8) (a : Fin 1024) (k : Fin 2048) :
    prodAt m c r (ix2 a k) = dotAt (m (c.tc.loc main_arg0)) (m (c.tc.loc main_arg2)) (rowOf r a) k := by
  refine (pay1_at _ _ _ _).trans (Finset.sum_congr rfl fun e _ => ?_)
  refine congrArg₂ (fun p q : EReal => p * q) (act_at m c r _ a e) ((weight_at m c r _ e _).trans ?_)
  refine congrArg (fun z => (m (c.tc.loc main_arg2) : S5632x2048.Idx → EReal) (ix2 e z)) (Fin.ext ?_)
  show k.val / 256 * 256 + k.val % 256 = k.val
  omega

/-- The scale's block at any point. -/
theorem scaleBlk_at (c : Dev nD) (t : Fin cfg0.N) (k : Fin 2048) : iblk m c 2 t (ix2 0 k) = (m (c.tc.loc main_arg3) : S2048.Idx → EReal) (ix1 k) := by
  rw [← scale_at m c k]
  blk_ext [iblk, idx t]

/-- The shift's block at any point. -/
theorem shiftBlk_at (c : Dev nD) (t : Fin cfg0.N) (k : Fin 2048) : iblk m c 3 t (ix2 0 k) = (m (c.tc.loc main_arg4) : S2048.Idx → EReal) (ix1 k) := by
  rw [← shift_at m c k]
  blk_ext [iblk, idx t]

/-- The place in the result of an index of the window's block. -/
theorem out_at (t : Fin cfg0.N) (a : Fin 1024) (k : Fin 2048) :
    (((View.whole main_v2).slice (win0_4.rect t)).emb (ix2 a k) : S8192x2048.Idx) = ix2 (rowOf (row t) a) k := by
  blk_ext [idx t, rowOf, row]

/-- The result array after a run. -/
theorem arr4 (c : Dev nD) (r : PUnit × MemSt nD τ sig (Elt Ideal)) (h : Pipeline.RDat.FramePost cfg0 (rdat m) (V m) r) :
    r.2.mem (c.tc.loc main_v2) = result (m (c.tc.loc main_arg0)) (m (c.tc.loc main_arg1)) (m (c.tc.loc main_arg2))
      (m (c.tc.loc main_arg3)) (m (c.tc.loc main_arg4)) := by
  obtain ⟨after, hL, hA⟩ := h.exists_exact c
  refine (hA 4).trans (((rdat m c).withAfter after).arrAt_eq_of_covers 4 _ (by decide +kernel) fun t hf y => ?_)
  have hN : t.val < 64 := t.isLt
  have hl : Left m c t (after 4 t) := (dat m c).toRRel_leaves (w := (4 : Fin cfg0.W)) rfl (hL 4 t hf)
  have e := hl.1 ((flush0_4 t).mp hf)
  blk_simp
  rw [Pipeline.RDat.withAfter_after, e]
  idx_vars y
  rw [out_at t y0 y1]
  refine tile_eq _ _ _ _ _ _ _ _ _ y0 y1 (ix2 (rowOf (row t) y0) y1) (fun e => ?_) (fun e => ?_) ?_ ?_ rfl
  · exact tile_at m c (row t) y0 e
  · exact prod_at m c (row t) y0 e
  · exact scaleBlk_at m c t y1
  · exact shiftBlk_at m c t y1

end Cert.DownIdeal.NormValue

namespace Cert.DownRefIdeal.NormValue
open Cert.DownRefIdeal Cert.DownRefIdeal.Gen
open Cert.DownIdeal.NormValue (result norm pre)

/-- The reference's product, at an index. -/
theorem dot_at (x : FVec Ideal S8192x5632 .bf16) (w : FVec Ideal S5632x2048 .f32) (a : Fin 8192) (b : Fin 2048) :
    Host.dotGeneral (F := Ideal) dot_S8192x5632_S5632x2048_S8192x2048_1_0_0_1_n_n none (extf .f32 x bitsLt_bf16_f32) w (ix2 a b)
      = ∑ e : Fin 5632, x (ix2 a e) * w (ix2 e b) := by
  pointwise

/-- The scaled residual plus the product. -/
def sum (h p : FVec Ideal S8192x2048 .f32) : FVec Ideal S8192x2048 .f32 :=
  addf (mulf (broadcastInDim S8192x2048 ![] bcast_S_S8192x2048 (constant S_ .f32 0x3F9837F0#32)) h) p

/-- `sum` at an index. -/
theorem sum_at (h p : FVec Ideal S8192x2048 .f32) (i : S8192x2048.Idx) : sum h p i = Ideal.ofBits .f32 0x3F9837F0#32 * h i + p i := by
  unfold sum
  pointwise

/-- The mean of each row. -/
def mean (x : FVec Ideal S8192x2048 .f32) : FVec Ideal S8192x1 .f32 :=
  Host.divf (broadcastInDim S8192x1 ![0] bcast_S8192_S8192x1_0 (Host.reduceAdd x (constant S_ .f32 0x00000000#32) reducesTo_S8192x2048_S8192_d1 h_S_))
    (broadcastInDim S8192x1 ![] bcast_S_S8192x1 (constant S_ .f32 0x45000000#32))

/-- `mean` at a row. -/
theorem mean_at (x : FVec Ideal S8192x2048 .f32) (a : Fin 8192) : mean x (ix2 a 0) = DownIdeal.NormValue.mean (fun e => x (ix2 a e)) := by
  unfold mean
  pointwise
  rfl

/-- Each row less a number of its own. -/
def less (x : FVec Ideal S8192x2048 .f32) (u : FVec Ideal S8192x1 .f32) : FVec Ideal S8192x2048 .f32 :=
  subf x (broadcastInDim S8192x2048 ![0, 1] bcast_S8192x1_S8192x2048_0_1 u)

/-- `less` at an index. -/
theorem less_at (x : FVec Ideal S8192x2048 .f32) (u : FVec Ideal S8192x1 .f32) (a : Fin 8192) (k : Fin 2048) : less x u (ix2 a k) = x (ix2 a k) - u (ix2 a 0) := by
  unfold less
  pointwise

/-- The norm from the centred rows and their variances. -/
def tail (d : FVec Ideal S8192x2048 .f32) (v : FVec Ideal S8192x1 .f32) (g b : FVec Ideal S2048 .f32) : FVec Ideal S8192x2048 .f32 :=
  addf (mulf (mulf d (broadcastInDim S8192x2048 ![0, 1] bcast_S8192x1_S8192x2048_0_1 (Host.rsqrt (addf v (broadcastInDim S8192x1 ![] bcast_S_S8192x1 (constant S_ .f32 0x3727C5AC#32))))))
    (broadcastInDim S8192x2048 ![0, 1] bcast_S1x2048_S8192x2048_0_1 (broadcastInDim S1x2048 ![1] bcast_S2048_S1x2048_1 g)))
    (broadcastInDim S8192x2048 ![0, 1] bcast_S1x2048_S8192x2048_0_1 (broadcastInDim S1x2048 ![1] bcast_S2048_S1x2048_1 b))

/-- `tail` at an index. -/
theorem tail_at (d : FVec Ideal S8192x2048 .f32) (v : FVec Ideal S8192x1 .f32) (g b : FVec Ideal S2048 .f32) (a : Fin 8192) (k : Fin 2048) :
    tail d v g b (ix2 a k) = d (ix2 a k) * Ideal.rsqrt (v (ix2 a 0) + Ideal.ofBits .f32 0x3727C5AC#32) * g (ix1 k) + b (ix1 k) := by
  unfold tail
  pointwise

/-- The reference's result from the rows before the norm. -/
def whole (x : FVec Ideal S8192x2048 .f32) (g b : FVec Ideal S2048 .f32) : FVec Ideal S8192x2048 .f32 :=
  tail (less x (mean x)) (mean (mulf (less x (mean x)) (less x (mean x)))) g b

/-- `whole` is the layer norm of each row. -/
theorem whole_at (x : FVec Ideal S8192x2048 .f32) (g b : FVec Ideal S2048 .f32) (a : Fin 8192) (k : Fin 2048) :
    whole x g b (ix2 a k) = norm (fun e => x (ix2 a e)) (g (ix1 k)) (b (ix1 k)) k := by
  unfold whole
  rw [tail_at, mean_at, less_at, mean_at]
  simp only [mulf_apply, less_at, mean_at]
  rfl

/-- The reference's result. -/
theorem ref_eq (x : FVec Ideal S8192x5632 .bf16) (h : FVec Ideal S8192x2048 .f32) (w : FVec Ideal S5632x2048 .f32) (g b : FVec Ideal S2048 .f32) :
    whole (sum h (Host.dotGeneral (F := Ideal) dot_S8192x5632_S5632x2048_S8192x2048_1_0_0_1_n_n none (extf .f32 x bitsLt_bf16_f32) w)) g b
      = result x h w g b := by
  funext i
  idx_vars i
  rw [whole_at]
  simp only [sum_at, dot_at]
  rfl

end Cert.DownRefIdeal.NormValue

namespace Cert.DownClaims

/-- The kernel runs, and leaves its arguments and its semaphores. -/
theorem frame_p : Cert.quiescent_Down := fun m ρ _ => Cert.Down.Carry.frame m ρ

/-- So does its idealization. -/
theorem frame_pi : Cert.quiescent_DownIdeal := fun m ρ _ => Cert.DownIdeal.Carry.frame m ρ

/-- So does the reference. -/
theorem frame_ri : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The idealization renames no constant. -/
theorem preserves : Cert.preserves_Down_DownIdeal := trivial

/-- Kernel and reference end with the same array. -/
theorem algebraic : Cert.algebraic_DownIdeal_DownRefIdeal := fun m ρ m' ρ' _ hag => by
  refine ⟨fun c => Cert.DownIdeal.NormValue.result (m (c.tc.loc Cert.DownIdeal.main_arg0)) (m (c.tc.loc Cert.DownIdeal.main_arg1))
    (m (c.tc.loc Cert.DownIdeal.main_arg2)) (m (c.tc.loc Cert.DownIdeal.main_arg3)) (m (c.tc.loc Cert.DownIdeal.main_arg4)), ?_, ?_⟩
  · refine (θ_run Cert.DownIdeal.defs _ _).mono (fun r h c => ⟨Cert.DownIdeal.NormValue.arr4 m c r h.1.1, h.2.1 c⟩)
      (θ_run_and (Cert.DownIdeal.Carry.run m ρ) (Cert.DownIdeal.Carry.frame m ρ))
  · refine (θ_run Cert.DownRefIdeal.defs _ _).mono (fun r h c => ⟨(h c).1.trans ?_, (h c).2⟩) (Cert.DownRefIdeal.Value.run m' ρ')
    rw [(hag c).1, (hag c).2.1, (hag c).2.2.1, (hag c).2.2.2.1, (hag c).2.2.2.2]
    exact Cert.DownRefIdeal.NormValue.ref_eq _ _ _ _ _

end Cert.DownClaims
end
-- ==== Proof.Gates.lean ====
module

public import proofs.«01_k».proof.Defs
public import proofs.«01_k».proof.Proof.Gen.Gates.Frame
public import proofs.«01_k».proof.Proof.Gen.GatesIdeal.Value
public import proofs.«01_k».proof.Proof.Gen.GatesRefIdeal.Run
public import Idealize.ShloMosaic.Lib.Pipeline.ValueKit
public import Idealize.ShloMosaic.Lib.Pointwise

@[expose] public section

/-!
# The gate projections

Each element of the result is the logistic of one product of a row of the activations and a column of the weights. A grid point
holds both whole along the summed axis; the weights are transposed before the launch.
-/

set_option maxRecDepth 16384
noncomputable section

open Idealize.ShloMosaic Idealize.ShloMosaic.TcCoe Idealize.SL.Sem
open Idealize.ShloMosaic.Pipeline (Dat)

namespace Cert.GatesIdeal.ProjValue
open Cert.GatesIdeal Cert.GatesIdeal.Gen

/-- The block that each window holds at each grid point. The weights' window starts at a row, not at a multiple of its height. -/
theorem idx : ∀ t : Fin grid0.N, win0_0.index t = ![t.val / 4, 0] ∧ win0_1.index t = ![8784 + t.val % 4 * 1024, 0]
    ∧ win0_2.index t = ![t.val / 4, t.val % 4] := by
  decide +kernel

/-- The result, at an index: the logistic of the product of a row of the activations and a column of the weights. -/
def result (X : S8192x2048.Idx → EReal) (W : S2048x12880.Idx → EReal) (i : S8192x4096.Idx) : EReal :=
  Ideal.logistic (∑ e : Fin 2048, X (ix2 (i 0) e) * W (ix2 e ⟨8784 + (i 1).val, by have : (i 1).val < 4096 := (i 1).isLt; omega⟩))

/-- What the body stores, at an index of its tile. -/
theorem pay_at (x : Vec Ideal S1024x2048 .bf16) (w : Vec Ideal S1024x2048 .f32) (a b : Fin 1024) :
    k0_pay1 x w (ix2 a b) = Ideal.logistic (∑ e, x (ix2 a e) * w (ix2 b e)) := by
  pointwise [k0_pay1]

/-- What the body stores, where its blocks are read at the arrays' places for result index `i`. -/
theorem tile_eq (x : Vec Ideal S1024x2048 .bf16) (w : Vec Ideal S1024x2048 .f32) (X : S8192x2048.Idx → EReal)
    (W : S2048x12880.Idx → EReal) (a b : Fin 1024) (i : S8192x4096.Idx) (hX : ∀ e, x (ix2 a e) = X (ix2 (i 0) e))
    (hW : ∀ e, w (ix2 b e) = W (ix2 e ⟨8784 + (i 1).val, by have : (i 1).val < 4096 := (i 1).isLt; omega⟩)) : k0_pay1 x w (ix2 a b) = result X W i := by
  rw [pay_at]
  simp only [hX, hW]
  rfl

variable (m : (ℓ : Loc nD τ sig) → Buf (Elt Ideal) ℓ)

/-- The kernel's second operand is the transpose of the weights. -/
theorem weights_at (c : Dev nD) (a : Fin 12880) (b : Fin 2048) :
    V m c main_v0 (ix2 a b) = (m (c.tc.loc main_arg1) : S2048x12880.Idx → EReal) (ix2 b a) := by
  entry_read
  pointwise

/-- The result array after the run. -/
theorem arr2 (c : Dev nD) : (dats m 0 c).arrAt 2 cfg0.N = result (m (c.tc.loc main_arg0)) (m (c.tc.loc main_arg1)) := by
  refine (dats m 0 c).arrAt_eq_of_covers 2 _ (by decide +kernel) fun t hf y => ?_
  blk_simp
  rw [after0_2]
  frame_out
  idx_vars y
  refine tile_eq _ _ _ _ _ _ _ (fun e => ?_) (fun e => ?_)
  · blk_ext [iblk, V, idx t]
  · refine Eq.trans ?_ (weights_at m c _ e)
    blk_ext [iblk, idx t]
    · exact ((win0_1.rect_emb_val_off t (ix2 y1 e) 0).trans (congrArg (· + y1.val) (congrFun (idx t).2.1 0))).trans (by simp; try omega)
    · exact ((win0_1.rect_emb_val_off t (ix2 y1 e) 1).trans (congrArg (· + e.val) (congrFun (idx t).2.1 1))).trans (by simp)

end Cert.GatesIdeal.ProjValue

namespace Cert.GatesRefIdeal.ProjValue
open Cert.GatesRefIdeal Cert.GatesRefIdeal.Gen

/-- The reference's projection, at an index. -/
theorem dot_at (x : FVec Ideal S8192x2048 .bf16) (w : FVec Ideal S2048x12880 .f32) (a : Fin 8192) (b : Fin 12880) :
    Host.dotGeneral (F := Ideal) dot_S8192x2048_S2048x12880_S8192x12880_1_0_0_1_n_n none (extf .f32 x bitsLt_bf16_f32) w (ix2 a b)
      = ∑ e : Fin 2048, x (ix2 a e) * w (ix2 e b) := by
  pointwise

/-- What the reference does to the projection: the gates' columns, and their logistic. -/
def tail (p : FVec Ideal S8192x12880 .f32) : FVec Ideal S8192x4096 .f32 :=
  Host.divf (broadcastInDim S8192x4096 ![] bcast_S_S8192x4096 (constant S_ .f32 0x3F800000#32))
    (addf (broadcastInDim S8192x4096 ![] bcast_S_S8192x4096 (constant S_ .f32 0x3F800000#32))
      (Host.exp (Host.negf (extractStridedSlice S8192x4096 ![0, 8784] p slices_S8192x12880_S8192x4096_0_8784))))

/-- `tail` at an index. -/
theorem tail_at (p : FVec Ideal S8192x12880 .f32) (a : Fin 8192) (b : Fin 4096) :
    tail p (ix2 a b) = Ideal.logistic (p (ix2 a ⟨8784 + b.val, by omega⟩)) := by
  unfold tail
  pointwise
  rfl

/-- The reference's result. -/
theorem ref_eq (x : FVec Ideal S8192x2048 .bf16) (w : FVec Ideal S2048x12880 .f32) :
    tail (Host.dotGeneral (F := Ideal) dot_S8192x2048_S2048x12880_S8192x12880_1_0_0_1_n_n none (extf .f32 x bitsLt_bf16_f32) w)
      = GatesIdeal.ProjValue.result x w := by
  funext i
  idx_vars i
  rw [tail_at, dot_at]
  rfl

end Cert.GatesRefIdeal.ProjValue

namespace Cert.GatesClaims

/-- The kernel runs, and leaves its arguments and its semaphores. -/
theorem frame_p : Cert.quiescent_Gates := fun m ρ _ => Cert.Gates.Gen.frame m ρ

/-- So does its idealization. -/
theorem frame_pi : Cert.quiescent_GatesIdeal := fun m ρ _ => Cert.GatesIdeal.Gen.frame m ρ

/-- So does the reference. -/
theorem frame_ri : Cert.quiescent_GatesRefIdeal := fun m ρ _ =>
  (θ_run Cert.GatesRefIdeal.defs _ _).mono (fun r h => ⟨fun c => (h c).2, sem_eq_zero_of_no_sems (by decide) r.2⟩)
    (Cert.GatesRefIdeal.Value.run (F := Ideal) m ρ)

/-- The idealization renames no constant. -/
theorem preserves : Cert.preserves_Gates_GatesIdeal := trivial

/-- Kernel and reference end with the same array. -/
theorem algebraic : Cert.algebraic_GatesIdeal_GatesRefIdeal := fun m ρ m' ρ' _ hag => by
  refine ⟨fun c => Cert.GatesIdeal.ProjValue.result (m (c.tc.loc Cert.GatesIdeal.main_arg0)) (m (c.tc.loc Cert.GatesIdeal.main_arg1)), ?_, ?_⟩
  · exact (θ_run Cert.GatesIdeal.defs _ _).mono (fun r h c => ⟨(h c).1.trans (Cert.GatesIdeal.ProjValue.arr2 m c), (h c).2⟩)
      (Cert.GatesIdeal.Value.run_blocks m ρ)
  · refine (θ_run Cert.GatesRefIdeal.defs _ _).mono (fun r h c => ⟨(h c).1.trans ?_, (h c).2⟩) (Cert.GatesRefIdeal.Value.run m' ρ')
    rw [(hag c).1, (hag c).2]
    exact Cert.GatesRefIdeal.ProjValue.ref_eq _ _

end Cert.GatesClaims
end
-- ==== Proof.Query.lean ====
module

public import proofs.«01_k».proof.Defs
public import proofs.«01_k».proof.Proof.Gen.Query.Frame
public import proofs.«01_k».proof.Proof.Gen.QueryIdeal.Value
public import proofs.«01_k».proof.Proof.Gen.QueryRefIdeal.Run
public import Idealize.ShloMosaic.Lib.Pipeline.ValueKit
public import Idealize.ShloMosaic.Lib.Pointwise
public import proofs.«01_k».proof.Proof.Softmax

@[expose] public section

/-!
# The queries' projection

Each element of the result is one product of a row of the activations and a column of the weights, scaled; the result is transposed.
A grid point holds both whole along the summed axis; the weights are transposed before the launch.
-/

set_option maxRecDepth 16384
noncomputable section

open Idealize.ShloMosaic Idealize.ShloMosaic.TcCoe Idealize.SL.Sem
open Idealize.ShloMosaic.Pipeline (Dat)

namespace Cert.QueryIdeal.ProjValue
open Cert.QueryIdeal Cert.QueryIdeal.Gen

/-- The block that each window holds at each grid point. The weights' window starts at a row, not at a multiple of its height. -/
theorem idx : ∀ t : Fin grid0.N, win0_0.index t = ![t.val, 0] ∧ win0_1.index t = ![0, 0] ∧ win0_2.index t = ![0, t.val] := by
  decide +kernel

/-- The result, at an index: the scaled product of a row of the activations and a column of the weights. -/
def result (X : S8192x2048.Idx → EReal) (W : S2048x12880.Idx → EReal) (i : S1024x8192.Idx) : EReal :=
  (∑ e : Fin 2048, X (ix2 (i 1) e) * W (ix2 e ⟨(i 0).val, by have : (i 0).val < 1024 := (i 0).isLt; omega⟩)) * (((Real.log 2 * Real.sqrt 128)⁻¹ : ℝ) : EReal)

/-- What the body stores, at an index of its tile. -/
theorem pay_at (x : Vec Ideal S1024x2048 .bf16) (w : Vec Ideal S1024x2048 .f32) (a b : Fin 1024) :
    k0_pay1 x w (ix2 a b) = (∑ e, x (ix2 b e) * w (ix2 a e)) * (((Real.log 2 * Real.sqrt 128)⁻¹ : ℝ) : EReal) := by
  pointwise [k0_pay1]
  rfl

/-- What the body stores, where its blocks are read at the arrays' places for result index `i`. -/
theorem tile_eq (x : Vec Ideal S1024x2048 .bf16) (w : Vec Ideal S1024x2048 .f32) (X : S8192x2048.Idx → EReal)
    (W : S2048x12880.Idx → EReal) (a b : Fin 1024) (i : S1024x8192.Idx) (hX : ∀ e, x (ix2 b e) = X (ix2 (i 1) e))
    (hW : ∀ e, w (ix2 a e) = W (ix2 e ⟨(i 0).val, by have : (i 0).val < 1024 := (i 0).isLt; omega⟩)) : k0_pay1 x w (ix2 a b) = result X W i := by
  rw [pay_at]
  simp only [hX, hW]
  rfl

variable (m : (ℓ : Loc nD τ sig) → Buf (Elt Ideal) ℓ)

/-- The kernel's second operand is the transpose of the weights. -/
theorem weights_at (c : Dev nD) (a : Fin 12880) (b : Fin 2048) :
    V m c main_v0 (ix2 a b) = (m (c.tc.loc main_arg1) : S2048x12880.Idx → EReal) (ix2 b a) := by
  entry_read
  pointwise

/-- The result array after the run. -/
theorem arr2 (c : Dev nD) : (dats m 0 c).arrAt 2 cfg0.N = result (m (c.tc.loc main_arg0)) (m (c.tc.loc main_arg1)) := by
  refine (dats m 0 c).arrAt_eq_of_covers 2 _ (by decide +kernel) fun t hf y => ?_
  blk_simp
  rw [after0_2]
  frame_out
  idx_vars y
  refine tile_eq _ _ _ _ _ _ _ (fun e => ?_) (fun e => ?_)
  · blk_ext [iblk, V, idx t]
  · refine Eq.trans ?_ (weights_at m c _ e)
    blk_ext [iblk, idx t]
    · exact ((win0_1.rect_emb_val_off t (ix2 y0 e) 0).trans (congrArg (· + y0.val) (congrFun (idx t).2.1 0))).trans (by simp; try omega)
    · exact ((win0_1.rect_emb_val_off t (ix2 y0 e) 1).trans (congrArg (· + e.val) (congrFun (idx t).2.1 1))).trans (by simp)

end Cert.QueryIdeal.ProjValue

namespace Cert.QueryRefIdeal.ProjValue
open Cert.QueryRefIdeal Cert.QueryRefIdeal.Gen

/-- The reference's projection, at an index. -/
theorem dot_at (x : FVec Ideal S8192x2048 .bf16) (w : FVec Ideal S2048x12880 .f32) (a : Fin 8192) (b : Fin 12880) :
    Host.dotGeneral (F := Ideal) dot_S8192x2048_S2048x12880_S8192x12880_1_0_0_1_n_n none (extf .f32 x bitsLt_bf16_f32) w (ix2 a b)
      = ∑ e : Fin 2048, x (ix2 a e) * w (ix2 e b) := by
  pointwise

/-- What the reference does to the projection: the queries' columns over √128 and over log 2, transposed. -/
def tail (p : FVec Ideal S8192x12880 .f32) : FVec Ideal S1024x8192 .bf16 :=
  truncf .bf16 (transpose S1024x8192 [1, 0] (Host.divf (Host.divf (extractStridedSlice S8192x1024 ![0, 0] p slices_S8192x12880_S8192x1024_0_0)
    (broadcastInDim S8192x1024 ![] bcast_S_S8192x1024 (Host.sqrt (constant S_ .f32 0x43000000#32))))
    (broadcastInDim S8192x1024 ![] bcast_S_S8192x1024 (Host.log (constant S_ .f32 0x40000000#32))))
    transposes_S8192x1024_S1024x8192_1_0) bitsLt_bf16_f32

/-- The f32 pattern of 128. -/
theorem bits_128 : Ideal.ofBits .f32 1124073472#32 = ((128 : ℝ) : EReal) := by
  simp [Ideal.ofBits, Ideal.ieee, -EReal.coe_mul]; norm_num

/-- Over √128 and over log 2 is times the reciprocal of the product of the two. -/
theorem scaled (x : EReal) : Ideal.div (Ideal.div x (Ideal.sqrt (Ideal.ofBits .f32 1124073472#32))) (Ideal.log (Ideal.ofBits .f32 1073741824#32))
    = x * (((Real.log 2 * Real.sqrt 128)⁻¹ : ℝ) : EReal) := by
  rw [bits_128, Ideal.sqrt_coe, if_neg (by norm_num), DilIdeal.AttValue.log_two, Ideal.div_coe DilIdeal.AttValue.ln2_pos.ne',
    Ideal.div_coe (y := √128) (by positivity), mul_assoc, ← EReal.coe_mul, one_div, one_div, mul_comm (√128)⁻¹, ← mul_inv]

/-- `tail` at an index. -/
theorem tail_at (p : FVec Ideal S8192x12880 .f32) (a : Fin 1024) (b : Fin 8192) :
    tail p (ix2 a b) = p (ix2 b ⟨a.val, by omega⟩) * (((Real.log 2 * Real.sqrt 128)⁻¹ : ℝ) : EReal) := by
  unfold tail
  pointwise
  exact scaled _

/-- The reference's result. -/
theorem ref_eq (x : FVec Ideal S8192x2048 .bf16) (w : FVec Ideal S2048x12880 .f32) :
    tail (Host.dotGeneral (F := Ideal) dot_S8192x2048_S2048x12880_S8192x12880_1_0_0_1_n_n none (extf .f32 x bitsLt_bf16_f32) w)
      = QueryIdeal.ProjValue.result x w := by
  funext i
  idx_vars i
  rw [tail_at, dot_at]
  rfl

end Cert.QueryRefIdeal.ProjValue

namespace Cert.QueryClaims

/-- The kernel runs, and leaves its arguments and its semaphores. -/
theorem frame_p : Cert.quiescent_Query := fun m ρ _ => Cert.Query.Gen.frame m ρ

/-- So does its idealization. -/
theorem frame_pi : Cert.quiescent_QueryIdeal := fun m ρ _ => Cert.QueryIdeal.Gen.frame m ρ

/-- So does the reference. -/
theorem frame_ri : Cert.quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

/-- The named constant is the reciprocal of the product of log 2 and √128. -/
theorem preserves : Cert.preserves_Query_QueryIdeal :=
  IdealRules.named_const.statement Cert.QueryIdeal.κ "query_scale" .f32 0x3E0293EE#32 (((Real.log 2 * Real.sqrt 128)⁻¹ : ℝ) : EReal) rfl

/-- Kernel and reference end with the same array. -/
theorem algebraic : Cert.algebraic_QueryIdeal_QueryRefIdeal := fun m ρ m' ρ' _ hag => by
  refine ⟨fun c => Cert.QueryIdeal.ProjValue.result (m (c.tc.loc Cert.QueryIdeal.main_arg0)) (m (c.tc.loc Cert.QueryIdeal.main_arg1)), ?_, ?_⟩
  · exact (θ_run Cert.QueryIdeal.defs _ _).mono (fun r h c => ⟨(h c).1.trans (Cert.QueryIdeal.ProjValue.arr2 m c), (h c).2⟩)
      (Cert.QueryIdeal.Value.run_blocks m ρ)
  · refine (θ_run Cert.QueryRefIdeal.defs _ _).mono (fun r h c => ⟨(h c).1.trans ?_, (h c).2⟩) (Cert.QueryRefIdeal.Value.run m' ρ')
    rw [(hag c).1, (hag c).2]
    exact Cert.QueryRefIdeal.ProjValue.ref_eq _ _

end Cert.QueryClaims
end
-- ==== Proof.Vals.lean ====
module

public import proofs.«01_k».proof.Defs
public import proofs.«01_k».proof.Proof.Gen.Vals.Frame
public import proofs.«01_k».proof.Proof.Gen.ValsIdeal.Value
public import proofs.«01_k».proof.Proof.Gen.ValsRefIdeal.Run
public import Idealize.ShloMosaic.Lib.Pipeline.ValueKit
public import Idealize.ShloMosaic.Lib.Pointwise

@[expose] public section

/-!
# The values' projection

Each element of the result is one product of a row of the activations and a column of the weights; the result is transposed. A grid
point holds both whole along the summed axis; the weights are transposed before the launch.
-/

set_option maxRecDepth 16384
noncomputable section

open Idealize.ShloMosaic Idealize.ShloMosaic.TcCoe Idealize.SL.Sem
open Idealize.ShloMosaic.Pipeline (Dat)

namespace Cert.ValsIdeal.ProjValue
open Cert.ValsIdeal Cert.ValsIdeal.Gen

/-- The block that each window holds at each grid point. The weights' window starts at a row, not at a multiple of its height. -/
theorem idx : ∀ t : Fin grid0.N, win0_0.index t = ![t.val, 0] ∧ win0_1.index t = ![2048, 0] ∧ win0_2.index t = ![0, t.val] := by
  decide +kernel

/-- The result, at an index: the product of a row of the activations and a column of the weights. -/
def result (X : S8192x2048.Idx → EReal) (W : S2048x12880.Idx → EReal) (i : S1024x8192.Idx) : EReal :=
  ∑ e : Fin 2048, X (ix2 (i 1) e) * W (ix2 e ⟨2048 + (i 0).val, by have : (i 0).val < 1024 := (i 0).isLt; omega⟩)

/-- What the body stores, at an index of its tile. -/
theorem pay_at (x : Vec Ideal S1024x2048 .bf16) (w : Vec Ideal S1024x2048 .f32) (a b : Fin 1024) :
    k0_pay1 x w (ix2 a b) = ∑ e, x (ix2 b e) * w (ix2 a e) := by
  pointwise [k0_pay1]

/-- What the body stores, where its blocks are read at the arrays' places for result index `i`. -/
theorem tile_eq (x : Vec Ideal S1024x2048 .bf16) (w : Vec Ideal S1024x2048 .f32) (X : S8192x2048.Idx → EReal)
    (W : S2048x12880.Idx → EReal) (a b : Fin 1024) (i : S1024x8192.Idx) (hX : ∀ e, x (ix2 b e) = X (ix2 (i 1) e))
    (hW : ∀ e, w (ix2 a e) = W (ix2 e ⟨2048 + (i 0).val, by have : (i 0).val < 1024 := (i 0).isLt; omega⟩)) : k0_pay1 x w (ix2 a b) = result X W i := by
  rw [pay_at]
  simp only [hX, hW]
  rfl

variable (m : (ℓ : Loc nD τ sig) → Buf (Elt Ideal) ℓ)

/-- The kernel's second operand is the transpose of the weights. -/
theorem weights_at (c : Dev nD) (a : Fin 12880) (b : Fin 2048) :
    V m c main_v0 (ix2 a b) = (m (c.tc.loc main_arg1) : S2048x12880.Idx → EReal) (ix2 b a) := by
  entry_read
  pointwise

/-- The result array after the run. -/
theorem arr2 (c : Dev nD) : (dats m 0 c).arrAt 2 cfg0.N = result (m (c.tc.loc main_arg0)) (m (c.tc.loc main_arg1)) := by
  refine (dats m 0 c).arrAt_eq_of_covers 2 _ (by decide +kernel) fun t hf y => ?_
  blk_simp
  rw [after0_2]
  frame_out
  idx_vars y
  refine tile_eq _ _ _ _ _ _ _ (fun e => ?_) (fun e => ?_)
  · blk_ext [iblk, V, idx t]
  · refine Eq.trans ?_ (weights_at m c _ e)
    blk_ext [iblk, idx t]
    · exact ((win0_1.rect_emb_val_off t (ix2 y0 e) 0).trans (congrArg (· + y0.val) (congrFun (idx t).2.1 0))).trans (by simp; try omega)
    · exact ((win0_1.rect_emb_val_off t (ix2 y0 e) 1).trans (congrArg (· + e.val) (congrFun (idx t).2.1 1))).trans (by simp)

end Cert.ValsIdeal.ProjValue

namespace Cert.ValsRefIdeal.ProjValue
open Cert.ValsRefIdeal Cert.ValsRefIdeal.Gen

/-- The reference's projection, at an index. -/
theorem dot_at (x : FVec Ideal S8192x2048 .bf16) (w : FVec Ideal S2048x12880 .f32) (a : Fin 8192) (b : Fin 12880) :
    Host.dotGeneral (F := Ideal) dot_S8192x2048_S2048x12880_S8192x12880_1_0_0_1_n_n none (extf .f32 x bitsLt_bf16_f32) w (ix2 a b)
      = ∑ e : Fin 2048, x (ix2 a e) * w (ix2 e b) := by
  pointwise

/-- What the reference does to the projection: the values' columns, transposed. -/
def tail (p : FVec Ideal S8192x12880 .f32) : FVec Ideal S1024x8192 .bf16 :=
  truncf .bf16 (transpose S1024x8192 [1, 0] (extractStridedSlice S8192x1024 ![0, 2048] p slices_S8192x12880_S8192x1024_0_2048)
    transposes_S8192x1024_S1024x8192_1_0) bitsLt_bf16_f32

/-- `tail` at an index. -/
theorem tail_at (p : FVec Ideal S8192x12880 .f32) (a : Fin 1024) (b : Fin 8192) :
    tail p (ix2 a b) = p (ix2 b ⟨2048 + a.val, by omega⟩) := by
  unfold tail
  pointwise

/-- The reference's result. -/
theorem ref_eq (x : FVec Ideal S8192x2048 .bf16) (w : FVec Ideal S2048x12880 .f32) :
    tail (Host.dotGeneral (F := Ideal) dot_S8192x2048_S2048x12880_S8192x12880_1_0_0_1_n_n none (extf .f32 x bitsLt_bf16_f32) w)
      = ValsIdeal.ProjValue.result x w := by
  funext i
  idx_vars i
  rw [tail_at, dot_at]
  rfl

end Cert.ValsRefIdeal.ProjValue

namespace Cert.ValsClaims

/-- The kernel runs, and leaves its arguments and its semaphores. -/
theorem frame_p : Cert.quiescent_Vals := fun m ρ _ => Cert.Vals.Gen.frame m ρ

/-- So does its idealization. -/
theorem frame_pi : Cert.quiescent_ValsIdeal := fun m ρ _ => Cert.ValsIdeal.Gen.frame m ρ

/-- So does the reference. -/
theorem frame_ri : Cert.quiescent_ValsRefIdeal := fun m ρ _ =>
  (θ_run Cert.ValsRefIdeal.defs _ _).mono (fun r h => ⟨fun c => (h c).2, sem_eq_zero_of_no_sems (by decide) r.2⟩)
    (Cert.ValsRefIdeal.Value.run (F := Ideal) m ρ)

/-- The idealization renames no constant. -/
theorem preserves : Cert.preserves_Vals_ValsIdeal := trivial

/-- Kernel and reference end with the same array. -/
theorem algebraic : Cert.algebraic_ValsIdeal_ValsRefIdeal := fun m ρ m' ρ' _ hag => by
  refine ⟨fun c => Cert.ValsIdeal.ProjValue.result (m (c.tc.loc Cert.ValsIdeal.main_arg0)) (m (c.tc.loc Cert.ValsIdeal.main_arg1)), ?_, ?_⟩
  · exact (θ_run Cert.ValsIdeal.defs _ _).mono (fun r h c => ⟨(h c).1.trans (Cert.ValsIdeal.ProjValue.arr2 m c), (h c).2⟩)
      (Cert.ValsIdeal.Value.run_blocks m ρ)
  · refine (θ_run Cert.ValsRefIdeal.defs _ _).mono (fun r h c => ⟨(h c).1.trans ?_, (h c).2⟩) (Cert.ValsRefIdeal.Value.run m' ρ')
    rw [(hag c).1, (hag c).2]
    exact Cert.ValsRefIdeal.ProjValue.ref_eq _ _

end Cert.ValsClaims
end
-- ==== Proof.Keys.lean ====
module

public import proofs.«01_k».proof.Defs
public import proofs.«01_k».proof.Proof.Gen.Keys.Frame
public import proofs.«01_k».proof.Proof.Gen.KeysIdeal.Value
public import proofs.«01_k».proof.Proof.Gen.KeysRefIdeal.Run
public import Idealize.ShloMosaic.Lib.Pipeline.ValueKit
public import Idealize.ShloMosaic.Lib.Pointwise

@[expose] public section

/-!
# The keys' projection

Each element of the first result is one product of a row of the activations and a column of the weights. A grid point holds both whole
along the summed axis; the weights are transposed before the launch. The second result is the activations in bf16, which the body
stores first and multiplies from there.
-/

set_option maxRecDepth 16384
noncomputable section

open Idealize.ShloMosaic Idealize.ShloMosaic.TcCoe Idealize.SL.Sem
open Idealize.ShloMosaic.Pipeline (Dat)

namespace Cert.KeysIdeal.ProjValue
open Cert.KeysIdeal Cert.KeysIdeal.Gen

/-- The block that each window holds at each grid point. The weights' window starts at a row, not at a multiple of its height. -/
theorem idx : ∀ t : Fin grid0.N, win0_0.index t = ![t.val, 0] ∧ win0_1.index t = ![1024, 0] ∧ win0_2.index t = ![t.val, 0]
    ∧ win0_3.index t = ![t.val, 0] := by
  decide +kernel

/-- The keys, at an index: the product of a row of the activations and a column of the weights. -/
def result (X : S8192x2048.Idx → EReal) (W : S2048x12880.Idx → EReal) (i : S8192x1024.Idx) : EReal :=
  ∑ e : Fin 2048, X (ix2 (i 0) e) * W (ix2 e ⟨1024 + (i 1).val, by have : (i 1).val < 1024 := (i 1).isLt; omega⟩)

/-- What the body stores of the activations. -/
theorem cast_at (x : Vec Ideal S1024x2048 .f32) (a : Fin 1024) (b : Fin 2048) : k0_pay1 x (ix2 a b) = x (ix2 a b) := by
  pointwise [k0_pay1]

/-- What the body stores of the keys, at an index of its tile. -/
theorem pay_at (x : Vec Ideal S1024x2048 .bf16) (w : Vec Ideal S1024x2048 .f32) (a b : Fin 1024) :
    k0_pay2 x w (ix2 a b) = ∑ e, x (ix2 a e) * w (ix2 b e) := by
  pointwise [k0_pay2]

/-- What the body stores of the keys, where its blocks are read at the arrays' places for result index `i`. -/
theorem tile_eq (x : Vec Ideal S1024x2048 .f32) (w : Vec Ideal S1024x2048 .f32) (X : S8192x2048.Idx → EReal)
    (W : S2048x12880.Idx → EReal) (a b : Fin 1024) (i : S8192x1024.Idx) (hX : ∀ e, x (ix2 a e) = X (ix2 (i 0) e))
    (hW : ∀ e, w (ix2 b e) = W (ix2 e ⟨1024 + (i 1).val, by have : (i 1).val < 1024 := (i 1).isLt; omega⟩)) :
    k0_pay2 (k0_pay1 x) w (ix2 a b) = result X W i := by
  rw [pay_at]
  simp only [cast_at, hX, hW]
  rfl

variable (m : (ℓ : Loc nD τ sig) → Buf (Elt Ideal) ℓ)

/-- The kernel's second operand is the transpose of the weights. -/
theorem weights_at (c : Dev nD) (a : Fin 12880) (b : Fin 2048) :
    V m c main_v0 (ix2 a b) = (m (c.tc.loc main_arg1) : S2048x12880.Idx → EReal) (ix2 b a) := by
  entry_read
  pointwise

/-- The keys after the run. -/
theorem arr2 (c : Dev nD) : (dats m 0 c).arrAt 2 cfg0.N = result (m (c.tc.loc main_arg0)) (m (c.tc.loc main_arg1)) := by
  refine (dats m 0 c).arrAt_eq_of_covers 2 _ (by decide +kernel) fun t hf y => ?_
  blk_simp
  rw [after0_2]
  unfold outsAt0
  dsimp only
  frame_out
  idx_vars y
  refine tile_eq _ _ _ _ _ _ _ (fun e => ?_) (fun e => ?_)
  · blk_ext [iblk, V, idx t]
  · refine Eq.trans ?_ (weights_at m c _ e)
    blk_ext [iblk, idx t]
    · exact ((win0_1.rect_emb_val_off t (ix2 y1 e) 0).trans (congrArg (· + y1.val) (congrFun (idx t).2.1 0))).trans (by simp; try omega)
    · exact ((win0_1.rect_emb_val_off t (ix2 y1 e) 1).trans (congrArg (· + e.val) (congrFun (idx t).2.1 1))).trans (by simp)

/-- The activations' copy after the run. -/
theorem arr3 (c : Dev nD) : (dats m 0 c).arrAt 3 cfg0.N = (m (c.tc.loc main_arg0) : S8192x2048.Idx → EReal) := by
  refine (dats m 0 c).arrAt_eq_of_covers 3 _ (by decide +kernel) fun t hf y => ?_
  blk_simp
  rw [after0_3]
  unfold outsAt0
  dsimp only
  frame_out
  idx_vars y
  refine (cast_at _ _ _).trans ?_
  blk_ext [iblk, V, idx t]

end Cert.KeysIdeal.ProjValue

namespace Cert.KeysRefIdeal.ProjValue
open Cert.KeysRefIdeal Cert.KeysRefIdeal.Gen

/-- The reference's projection, at an index. -/
theorem dot_at (x : FVec Ideal S8192x2048 .f32) (w : FVec Ideal S2048x12880 .f32) (a : Fin 8192) (b : Fin 12880) :
    Host.dotGeneral (F := Ideal) dot_S8192x2048_S2048x12880_S8192x12880_1_0_0_1_n_n none x w (ix2 a b)
      = ∑ e : Fin 2048, x (ix2 a e) * w (ix2 e b) := by
  pointwise

/-- What the reference does to the projection: the keys' columns. -/
def tail (p : FVec Ideal S8192x12880 .f32) : FVec Ideal S8192x1024 .bf16 :=
  truncf .bf16 (extractStridedSlice S8192x1024 ![0, 1024] p slices_S8192x12880_S8192x1024_0_1024) bitsLt_bf16_f32

/-- `tail` at an index. -/
theorem tail_at (p : FVec Ideal S8192x12880 .f32) (a : Fin 8192) (b : Fin 1024) :
    tail p (ix2 a b) = p (ix2 a ⟨1024 + b.val, by omega⟩) := by
  unfold tail
  pointwise

/-- The reference's keys. -/
theorem ref_eq (x : FVec Ideal S8192x2048 .f32) (w : FVec Ideal S2048x12880 .f32) :
    tail (Host.dotGeneral (F := Ideal) dot_S8192x2048_S2048x12880_S8192x12880_1_0_0_1_n_n none x w) = KeysIdeal.ProjValue.result x w := by
  funext i
  idx_vars i
  rw [tail_at, dot_at]
  rfl

/-- The reference's copy of the activations. -/
theorem copy_eq (x : FVec Ideal S8192x2048 .f32) : truncf .bf16 x bitsLt_bf16_f32 = (x : S8192x2048.Idx → EReal) := by
  funext i
  idx_vars i
  pointwise

end Cert.KeysRefIdeal.ProjValue

namespace Cert.KeysClaims

/-- The kernel runs, and leaves its arguments and its semaphores. -/
theorem frame_p : Cert.quiescent_Keys := fun m ρ _ => Cert.Keys.Gen.frame m ρ

/-- So does its idealization. -/
theorem frame_pi : Cert.quiescent_KeysIdeal := fun m ρ _ => Cert.KeysIdeal.Gen.frame m ρ

/-- So does the reference. -/
theorem frame_ri : Cert.quiescent_KeysRefIdeal := fun m ρ _ =>
  (θ_run Cert.KeysRefIdeal.defs _ _).mono (fun r h => ⟨fun c => (h c).2.2, sem_eq_zero_of_no_sems (by decide) r.2⟩)
    (Cert.KeysRefIdeal.Value.run (F := Ideal) m ρ)

/-- The idealization renames no constant. -/
theorem preserves : Cert.preserves_Keys_KeysIdeal := trivial

/-- Kernel and reference end with the same two arrays. -/
theorem algebraic : Cert.algebraic_KeysIdeal_KeysRefIdeal := fun m ρ m' ρ' _ hag => by
  refine ⟨fun c => Cert.KeysIdeal.ProjValue.result (m (c.tc.loc Cert.KeysIdeal.main_arg0)) (m (c.tc.loc Cert.KeysIdeal.main_arg1)),
    fun c => (m (c.tc.loc Cert.KeysIdeal.main_arg0) : Cert.KeysIdeal.S8192x2048.Idx → EReal), ?_, ?_⟩
  · exact (θ_run Cert.KeysIdeal.defs _ _).mono (fun r h c => ⟨(h c).1.trans (Cert.KeysIdeal.ProjValue.arr2 m c),
      (h c).2.1.trans (Cert.KeysIdeal.ProjValue.arr3 m c), (h c).2.2⟩) (Cert.KeysIdeal.Value.run_blocks m ρ)
  · refine (θ_run Cert.KeysRefIdeal.defs _ _).mono (fun r h c => ⟨(h c).1.trans ?_, (h c).2.1.trans ?_, (h c).2.2⟩)
      (Cert.KeysRefIdeal.Value.run m' ρ')
    · rw [(hag c).1, (hag c).2]
      exact Cert.KeysRefIdeal.ProjValue.ref_eq _ _
    · rw [(hag c).1]
      exact Cert.KeysRefIdeal.ProjValue.copy_eq _

end Cert.KeysClaims
end
-- ==== Proof.Idx.lean ====
module

public import proofs.«01_k».proof.Defs
public import proofs.«01_k».proof.Proof.Gen.Idx.Frame
public import proofs.«01_k».proof.Proof.Gen.IdxIdeal.Value
public import proofs.«01_k».proof.Proof.Gen.IdxRefIdeal.Run
public import Idealize.ShloMosaic.Lib.Pipeline.ValueKit
public import Idealize.ShloMosaic.Lib.Pointwise

@[expose] public section

/-!
# The indexer's projections

Each element of each result is one product of a row of the activations and a column of the weights, scaled or not. A grid point holds
both whole along the summed axis; the weights are transposed before the launch. The second and third results come of the same columns:
the one as it is, the other scaled and transposed.
-/

set_option maxRecDepth 16384
noncomputable section

open Idealize.ShloMosaic Idealize.ShloMosaic.TcCoe Idealize.SL.Sem
open Idealize.ShloMosaic.Pipeline (Dat)

namespace Cert.IdxIdeal.ProjValue
open Cert.IdxIdeal Cert.IdxIdeal.Gen

/-- The block that each window holds at each grid point. The weights' windows start at a row, not at a multiple of their height. -/
theorem idx : ∀ t : Fin grid0.N, win0_0.index t = ![t.val, 0] ∧ win0_1.index t = ![3072, 0] ∧ win0_2.index t = ![4096, 0]
    ∧ win0_3.index t = ![0, t.val] ∧ win0_4.index t = ![t.val, 0] ∧ win0_5.index t = ![0, t.val] := by
  decide +kernel

/-- The projection, at a row and a column. -/
def dotAt (X : S8192x2048.Idx → EReal) (W : S2048x12880.Idx → EReal) (a : Fin 8192) (k : Fin 12880) : EReal :=
  ∑ e : Fin 2048, X (ix2 a e) * W (ix2 e k)

/-- The indexer's queries, at an index. -/
def queries (X : S8192x2048.Idx → EReal) (W : S2048x12880.Idx → EReal) (i : S1024x8192.Idx) : EReal :=
  dotAt X W (i 1) ⟨3072 + (i 0).val, by have : (i 0).val < 1024 := (i 0).isLt; omega⟩ * Ideal.ofBits .f32 0x3E000000#32

/-- The indexer's keys and unscaled weights, at an index. -/
def keys (X : S8192x2048.Idx → EReal) (W : S2048x12880.Idx → EReal) (i : S8192x128.Idx) : EReal :=
  dotAt X W (i 0) ⟨4096 + (i 1).val, by have : (i 1).val < 128 := (i 1).isLt; omega⟩

/-- The same columns scaled and transposed, at an index. -/
def weights (X : S8192x2048.Idx → EReal) (W : S2048x12880.Idx → EReal) (i : S128x8192.Idx) : EReal :=
  dotAt X W (i 1) ⟨4096 + (i 0).val, by have : (i 0).val < 128 := (i 0).isLt; omega⟩ * Ideal.ofBits .f32 0x3E800000#32

/-- What the body stores of the queries, at an index of its tile. -/
theorem queries_at (x : Vec Ideal S1024x2048 .bf16) (w : Vec Ideal S1024x2048 .f32) (a b : Fin 1024) :
    k0_pay1 x w (ix2 a b) = (∑ e, x (ix2 b e) * w (ix2 a e)) * Ideal.ofBits .f32 0x3E000000#32 := by
  pointwise [k0_pay1]

/-- The product both other results come of, at an index. -/
theorem both_at (x : Vec Ideal S1024x2048 .bf16) (w : Vec Ideal S128x2048 .f32) (a : Fin 1024) (b : Fin 128) :
    k0_pay2 x w (ix2 a b) = ∑ e, x (ix2 a e) * w (ix2 b e) := by
  pointwise [k0_pay2]

/-- What the body stores of the keys, at an index of its tile. -/
theorem keys_at (x : Vec Ideal S1024x2048 .bf16) (w : Vec Ideal S128x2048 .f32) (a : Fin 1024) (b : Fin 128) :
    k0_pay3 x w (ix2 a b) = ∑ e, x (ix2 a e) * w (ix2 b e) := by
  refine Eq.trans ?_ (both_at x w a b)
  pointwise [k0_pay3]

/-- What the body stores of the weights, at an index of its tile. -/
theorem weights_at (x : Vec Ideal S1024x2048 .bf16) (w : Vec Ideal S128x2048 .f32) (a : Fin 128) (b : Fin 1024) :
    k0_pay4 x w (ix2 a b) = (∑ e, x (ix2 b e) * w (ix2 a e)) * Ideal.ofBits .f32 0x3E800000#32 := by
  rw [← both_at x w b a]
  pointwise [k0_pay4]

variable (m : (ℓ : Loc nD τ sig) → Buf (Elt Ideal) ℓ)

/-- The kernel's second operand is the transpose of the weights. -/
theorem turned_at (c : Dev nD) (a : Fin 12880) (b : Fin 2048) :
    V m c main_v0 (ix2 a b) = (m (c.tc.loc main_arg1) : S2048x12880.Idx → EReal) (ix2 b a) := by
  entry_read
  pointwise

/-- The activations' block at a point. -/
theorem act_at (c : Dev nD) (t : Fin cfg0.N) (a : Fin 1024) (e : Fin 2048) :
    iblk m c 0 t (ix2 a e) = (m (c.tc.loc main_arg0) : S8192x2048.Idx → EReal)
      (ix2 ⟨t.val * 1024 + a.val, by have : t.val < 8 := t.isLt; omega⟩ e) := by
  blk_ext [iblk, V, idx t]

/-- The queries' weights at a point. -/
theorem wq_at (c : Dev nD) (t : Fin cfg0.N) (b : Fin 1024) (e : Fin 2048) :
    iblk m c 1 t (ix2 b e) = (m (c.tc.loc main_arg1) : S2048x12880.Idx → EReal) (ix2 e ⟨3072 + b.val, by omega⟩) := by
  refine Eq.trans ?_ (turned_at m c _ e)
  blk_ext [iblk, idx t]
  · exact ((win0_1.rect_emb_val_off t (ix2 b e) 0).trans (congrArg (· + b.val) (congrFun (idx t).2.1 0))).trans (by simp; try omega)
  · exact ((win0_1.rect_emb_val_off t (ix2 b e) 1).trans (congrArg (· + e.val) (congrFun (idx t).2.1 1))).trans (by simp)

/-- The other columns' weights at a point. -/
theorem wk_at (c : Dev nD) (t : Fin cfg0.N) (b : Fin 128) (e : Fin 2048) :
    iblk m c 2 t (ix2 b e) = (m (c.tc.loc main_arg1) : S2048x12880.Idx → EReal) (ix2 e ⟨4096 + b.val, by omega⟩) := by
  refine Eq.trans ?_ (turned_at m c _ e)
  blk_ext [iblk, idx t]
  · exact ((win0_2.rect_emb_val_off t (ix2 b e) 0).trans (congrArg (· + b.val) (congrFun (idx t).2.2.1 0))).trans (by simp; try omega)
  · exact ((win0_2.rect_emb_val_off t (ix2 b e) 1).trans (congrArg (· + e.val) (congrFun (idx t).2.2.1 1))).trans (by simp)

/-- A product of blocks at a point, as a projection's element. -/
theorem queriesDot (c : Dev nD) (t : Fin cfg0.N) (a b : Fin 1024) :
    k0_pay1 (iblk m c 0 t) (iblk m c 1 t) (ix2 a b) = queries (m (c.tc.loc main_arg0)) (m (c.tc.loc main_arg1))
      (ix2 a ⟨t.val * 1024 + b.val, by have : t.val < 8 := t.isLt; omega⟩) := by
  refine (queries_at _ _ a b).trans (congrArg (· * Ideal.ofBits .f32 0x3E000000#32) (Finset.sum_congr rfl fun e _ => ?_))
  exact congrArg₂ (fun p q : EReal => p * q) (act_at m c t b e) (wq_at m c t a e)

/-- The keys' products of blocks at a point. -/
theorem keysDot (c : Dev nD) (t : Fin cfg0.N) (a : Fin 1024) (b : Fin 128) :
    k0_pay3 (iblk m c 0 t) (iblk m c 2 t) (ix2 a b) = keys (m (c.tc.loc main_arg0)) (m (c.tc.loc main_arg1))
      (ix2 ⟨t.val * 1024 + a.val, by have : t.val < 8 := t.isLt; omega⟩ b) := by
  refine (keys_at _ _ a b).trans ?_
  unfold keys dotAt
  refine Finset.sum_congr rfl fun e _ => ?_
  exact congrArg₂ (fun p q : EReal => p * q) (act_at m c t a e) (wk_at m c t b e)

/-- The weights' products of blocks at a point. -/
theorem weightsDot (c : Dev nD) (t : Fin cfg0.N) (a : Fin 128) (b : Fin 1024) :
    k0_pay4 (iblk m c 0 t) (iblk m c 2 t) (ix2 a b) = weights (m (c.tc.loc main_arg0)) (m (c.tc.loc main_arg1))
      (ix2 a ⟨t.val * 1024 + b.val, by have : t.val < 8 := t.isLt; omega⟩) := by
  refine (weights_at _ _ a b).trans (congrArg (· * Ideal.ofBits .f32 0x3E800000#32) (Finset.sum_congr rfl fun e _ => ?_))
  exact congrArg₂ (fun p q : EReal => p * q) (act_at m c t b e) (wk_at m c t a e)

/-- The queries after the run. -/
theorem arr3 (c : Dev nD) : (dats m 0 c).arrAt 3 cfg0.N = queries (m (c.tc.loc main_arg0)) (m (c.tc.loc main_arg1)) := by
  refine (dats m 0 c).arrAt_eq_of_covers 3 _ (by decide +kernel) fun t hf y => ?_
  blk_simp
  rw [after0_3]
  frame_out
  idx_vars y
  refine (queriesDot m c t y0 y1).trans (congrArg (queries _ _) ?_)
  blk_ext [idx t]

/-- The keys after the run. -/
theorem arr4 (c : Dev nD) : (dats m 0 c).arrAt 4 cfg0.N = keys (m (c.tc.loc main_arg0)) (m (c.tc.loc main_arg1)) := by
  refine (dats m 0 c).arrAt_eq_of_covers 4 _ (by decide +kernel) fun t hf y => ?_
  blk_simp
  rw [after0_4]
  frame_out
  idx_vars y
  refine (keysDot m c t y0 y1).trans (congrArg (keys _ _) ?_)
  blk_ext [idx t]

/-- The weights after the run. -/
theorem arr5 (c : Dev nD) : (dats m 0 c).arrAt 5 cfg0.N = weights (m (c.tc.loc main_arg0)) (m (c.tc.loc main_arg1)) := by
  refine (dats m 0 c).arrAt_eq_of_covers 5 _ (by decide +kernel) fun t hf y => ?_
  blk_simp
  rw [after0_5]
  frame_out
  idx_vars y
  refine (weightsDot m c t y0 y1).trans (congrArg (weights _ _) ?_)
  blk_ext [idx t]

end Cert.IdxIdeal.ProjValue

namespace Cert.IdxRefIdeal.ProjValue
open Cert.IdxRefIdeal Cert.IdxRefIdeal.Gen
open Cert.IdxIdeal.ProjValue (dotAt)

/-- The reference's projection. -/
def proj (x : FVec Ideal S8192x2048 .bf16) (w : FVec Ideal S2048x12880 .f32) : FVec Ideal S8192x12880 .f32 :=
  Host.dotGeneral (F := Ideal) dot_S8192x2048_S2048x12880_S8192x12880_1_0_0_1_n_n none (extf .f32 x bitsLt_bf16_f32) w

/-- The reference's projection, at an index. -/
theorem proj_at (x : FVec Ideal S8192x2048 .bf16) (w : FVec Ideal S2048x12880 .f32) (a : Fin 8192) (b : Fin 12880) :
    proj x w (ix2 a b) = dotAt x w a b := by
  unfold proj dotAt
  pointwise

/-- The reference's queries of the projection. -/
def queries (p : FVec Ideal S8192x12880 .f32) : FVec Ideal S1024x8192 .bf16 :=
  truncf .bf16 (transpose S1024x8192 [1, 0] (mulf (extractStridedSlice S8192x1024 ![0, 3072] p slices_S8192x12880_S8192x1024_0_3072)
    (broadcastInDim S8192x1024 ![] bcast_S_S8192x1024 (constant S_ .f32 0x3E000000#32))) transposes_S8192x1024_S1024x8192_1_0) bitsLt_bf16_f32

/-- `queries` at an index. -/
theorem queries_at (p : FVec Ideal S8192x12880 .f32) (a : Fin 1024) (b : Fin 8192) :
    queries p (ix2 a b) = p (ix2 b ⟨3072 + a.val, by omega⟩) * Ideal.ofBits .f32 0x3E000000#32 := by
  unfold queries
  pointwise

/-- The reference's keys of the projection. -/
def keys (p : FVec Ideal S8192x12880 .f32) : FVec Ideal S8192x128 .bf16 :=
  truncf .bf16 (extractStridedSlice S8192x128 ![0, 4096] p slices_S8192x12880_S8192x128_0_4096) bitsLt_bf16_f32

/-- `keys` at an index. -/
theorem keys_at (p : FVec Ideal S8192x12880 .f32) (a : Fin 8192) (b : Fin 128) :
    keys p (ix2 a b) = p (ix2 a ⟨4096 + b.val, by omega⟩) := by
  unfold keys
  pointwise

/-- The reference's weights of the projection. -/
def weights (p : FVec Ideal S8192x12880 .f32) : FVec Ideal S128x8192 .f32 :=
  transpose S128x8192 [1, 0] (mulf (extractStridedSlice S8192x128 ![0, 4096] p slices_S8192x12880_S8192x128_0_4096)
    (broadcastInDim S8192x128 ![] bcast_S_S8192x128 (constant S_ .f32 0x3E800000#32))) transposes_S8192x128_S128x8192_1_0

/-- `weights` at an index. -/
theorem weights_at (p : FVec Ideal S8192x12880 .f32) (a : Fin 128) (b : Fin 8192) :
    weights p (ix2 a b) = p (ix2 b ⟨4096 + a.val, by omega⟩) * Ideal.ofBits .f32 0x3E800000#32 := by
  unfold weights
  pointwise

/-- The reference's queries. -/
theorem queries_eq (x : FVec Ideal S8192x2048 .bf16) (w : FVec Ideal S2048x12880 .f32) :
    queries (proj x w) = IdxIdeal.ProjValue.queries x w := by
  funext i
  idx_vars i
  rw [queries_at, proj_at]
  rfl

/-- The reference's keys. -/
theorem keys_eq (x : FVec Ideal S8192x2048 .bf16) (w : FVec Ideal S2048x12880 .f32) :
    keys (proj x w) = IdxIdeal.ProjValue.keys x w := by
  funext i
  idx_vars i
  rw [keys_at, proj_at]
  rfl

/-- The reference's weights. -/
theorem weights_eq (x : FVec Ideal S8192x2048 .bf16) (w : FVec Ideal S2048x12880 .f32) :
    weights (proj x w) = IdxIdeal.ProjValue.weights x w := by
  funext i
  idx_vars i
  rw [weights_at, proj_at]
  rfl

end Cert.IdxRefIdeal.ProjValue

namespace Cert.IdxClaims

/-- The kernel runs, and leaves its arguments and its semaphores. -/
theorem frame_p : Cert.quiescent_Idx := fun m ρ _ => Cert.Idx.Gen.frame m ρ

/-- So does its idealization. -/
theorem frame_pi : Cert.quiescent_IdxIdeal := fun m ρ _ => Cert.IdxIdeal.Gen.frame m ρ

/-- So does the reference. -/
theorem frame_ri : Cert.quiescent_IdxRefIdeal := fun m ρ _ =>
  (θ_run Cert.IdxRefIdeal.defs _ _).mono (fun r h => ⟨fun c => (h c).2.2.2, sem_eq_zero_of_no_sems (by decide) r.2⟩)
    (Cert.IdxRefIdeal.Value.run (F := Ideal) m ρ)

/-- The idealization renames no constant. -/
theorem preserves : Cert.preserves_Idx_IdxIdeal := trivial

/-- Kernel and reference end with the same three arrays. -/
theorem algebraic : Cert.algebraic_IdxIdeal_IdxRefIdeal := fun m ρ m' ρ' _ hag => by
  refine ⟨fun c => Cert.IdxIdeal.ProjValue.queries (m (c.tc.loc Cert.IdxIdeal.main_arg0)) (m (c.tc.loc Cert.IdxIdeal.main_arg1)),
    fun c => Cert.IdxIdeal.ProjValue.keys (m (c.tc.loc Cert.IdxIdeal.main_arg0)) (m (c.tc.loc Cert.IdxIdeal.main_arg1)),
    fun c => Cert.IdxIdeal.ProjValue.weights (m (c.tc.loc Cert.IdxIdeal.main_arg0)) (m (c.tc.loc Cert.IdxIdeal.main_arg1)), ?_, ?_⟩
  · exact (θ_run Cert.IdxIdeal.defs _ _).mono (fun r h c => ⟨(h c).1.trans (Cert.IdxIdeal.ProjValue.arr3 m c),
      (h c).2.1.trans (Cert.IdxIdeal.ProjValue.arr4 m c), (h c).2.2.1.trans (Cert.IdxIdeal.ProjValue.arr5 m c), (h c).2.2.2⟩)
      (Cert.IdxIdeal.Value.run_blocks m ρ)
  · refine (θ_run Cert.IdxRefIdeal.defs _ _).mono (fun r h c => ⟨(h c).1.trans ?_, (h c).2.1.trans ?_, (h c).2.2.1.trans ?_, (h c).2.2.2⟩)
      (Cert.IdxRefIdeal.Value.run m' ρ')
    · rw [(hag c).1, (hag c).2]
      exact Cert.IdxRefIdeal.ProjValue.queries_eq _ _
    · rw [(hag c).1, (hag c).2]
      exact Cert.IdxRefIdeal.ProjValue.keys_eq _ _
    · rw [(hag c).1, (hag c).2]
      exact Cert.IdxRefIdeal.ProjValue.weights_eq _ _

end Cert.IdxClaims
end
-- ==== Proof.Qkv1.lean ====
module

public import proofs.«01_k».proof.Defs
public import proofs.«01_k».proof.Proof.Query
public import proofs.«01_k».proof.Proof.Gen.Qkv1.Frame
public import proofs.«01_k».proof.Proof.Gen.Qkv1Ideal.Value
public import proofs.«01_k».proof.Proof.Gen.Qkv1RefIdeal.Run
public import Idealize.ShloMosaic.Lib.Pipeline.ValueKit
public import Idealize.ShloMosaic.Lib.Pointwise

@[expose] public section

/-!
# The projections of the dilated attention, every 1-th row together

Each element of the result is one product of a row of the activations and a column of the weights; a row of the result is named by its
remainder over 1 and its quotient. The first third of the result, the queries, is scaled.
-/

set_option maxRecDepth 16384
noncomputable section

open Idealize.ShloMosaic Idealize.ShloMosaic.TcCoe Idealize.SL.Sem
open Idealize.ShloMosaic.Pipeline (Dat)

namespace Cert.Qkv1Ideal.ProjValue
open Cert.Qkv1Ideal Cert.Qkv1Ideal.Gen

/-- The block that each window holds at each grid point. The weights' windows start at a row, not at a multiple of their height. -/
theorem idx : ∀ t : Fin grid0.N, win0_0.index t = ![t.val, 0] ∧ win0_1.index t = ![4176, 0] ∧ win0_2.index t = ![5712, 0]
    ∧ win0_3.index t = ![7248, 0] ∧ win0_4.index t = ![0, 0, t.val, 0] := by
  decide +kernel

/-- The projection, at a row and a column. -/
def dotAt (X : S8192x2048.Idx → EReal) (W : S2048x12880.Idx → EReal) (a : Fin 8192) (k : Fin 12880) : EReal :=
  ∑ e : Fin 2048, X (ix2 a e) * W (ix2 e k)

/-- The reciprocal of log 2 times √128. -/
def scale : EReal := (((Real.log 2 * Real.sqrt 128)⁻¹ : ℝ) : EReal)

/-- A value as the result holds it: the first third is scaled. -/
def third (w : ℕ) (v : EReal) : EReal := if w = 0 then v * scale else v

/-- The result, at an index: queries, keys and values, by remainder, quotient and column. -/
def result (X : S8192x2048.Idx → EReal) (W : S2048x12880.Idx → EReal) (i : S3x1x8192x512.Idx) : EReal :=
  third (i 0).val (dotAt X W ⟨(i 2).val * 1 + (i 1).val, by
      have h1 : (i 1).val < 1 := (i 1).isLt
      have h2 : (i 2).val < 8192 := (i 2).isLt
      omega⟩
    ⟨4176 + 1536 * (i 0).val + (i 3).val, by
      have h0 : (i 0).val < 3 := (i 0).isLt
      have h3 : (i 3).val < 512 := (i 3).isLt
      omega⟩)

/-- The product of the blocks of a point. -/
def acc (x : FVec Ideal S1024x2048 .bf16) (w : FVec Ideal S512x2048 .f32) : FVec Ideal S1024x512 .f32 :=
  matmul (F := Ideal) (φ₁ := .bf16) dot_S1024x2048_S512x2048_S1024x512_1_1_0_0_n_n none x (truncf .bf16 (shapeCast S512x2048 w shapeCasts_S512x2048_S512x2048)
    bitsLt_bf16_f32) (constant S1024x512 .f32 0x00000000#32)

/-- That product, at an index. -/
theorem acc_at (x : Vec Ideal S1024x2048 .bf16) (w : Vec Ideal S512x2048 .f32) (a : Fin 1024) (b : Fin 512) :
    acc x w (ix2 a b) = ∑ e, x (ix2 a e) * w (ix2 b e) := by
  pointwise [acc]

/-- That product, scaled as the queries are. -/
def scaledAcc (x : Vec Ideal S1024x2048 .bf16) (w : Vec Ideal S512x2048 .f32) : FVec Ideal S1024x512 .f32 :=
  mulf (acc x w) (broadcast S1024x512 (Named.named κ "query_scale" 0x3E0293EE#32))

/-- The scaled product, at an index. -/
theorem scaledAcc_at (x : Vec Ideal S1024x2048 .bf16) (w : Vec Ideal S512x2048 .f32) (a : Fin 1024) (b : Fin 512) :
    scaledAcc x w (ix2 a b) = acc x w (ix2 a b) * scale := by
  generalize h : acc x w = A
  unfold scaledAcc
  rw [h]
  pointwise
  rfl

variable (m : (ℓ : Loc nD τ sig) → Buf (Elt Ideal) ℓ)

/-- The result of the arguments, at a place of a grid point's block. -/
def tile (c : Dev nD) (t : Fin cfg0.N) (y : S3x1x1024x512.Idx) : EReal :=
  result (m (c.tc.loc main_arg0)) (m (c.tc.loc main_arg1)) (ix4 (y 0) (y 1) ⟨t.val * 1024 + (y 2).val, by
    have h : t.val < 8 := t.isLt
    have h2 : (y 2).val < 1024 := (y 2).isLt
    omega⟩ (y 3))

/-- The kernel's second operand is the transpose of the weights. -/
theorem turned_at (c : Dev nD) (a : Fin 12880) (b : Fin 2048) :
    V m c main_v0 (ix2 a b) = (m (c.tc.loc main_arg1) : S2048x12880.Idx → EReal) (ix2 b a) := by
  entry_read
  pointwise

/-- The activations' block at a point. -/
theorem act_at (c : Dev nD) (t : Fin cfg0.N) (a : Fin 1024) (e : Fin 2048) :
    iblk m c 0 t (ix2 a e) = (m (c.tc.loc main_arg0) : S8192x2048.Idx → EReal)
      (ix2 ⟨t.val * 1024 + a.val, by have : t.val < 8 := t.isLt; omega⟩ e) := by
  blk_ext [iblk, V, idx t]

/-- The queries' weights at a point. -/
theorem wq_at (c : Dev nD) (t : Fin cfg0.N) (b : Fin 512) (e : Fin 2048) :
    iblk m c 1 t (ix2 b e) = (m (c.tc.loc main_arg1) : S2048x12880.Idx → EReal) (ix2 e ⟨4176 + b.val, by omega⟩) := by
  refine Eq.trans ?_ (turned_at m c _ e)
  blk_ext [iblk, idx t]
  · exact ((win0_1.rect_emb_val_off t (ix2 b e) 0).trans (congrArg (· + b.val) (congrFun (idx t).2.1 0))).trans (by simp; try omega)
  · exact ((win0_1.rect_emb_val_off t (ix2 b e) 1).trans (congrArg (· + e.val) (congrFun (idx t).2.1 1))).trans (by simp)

/-- The queries' products of blocks at a point. -/
theorem qDot (c : Dev nD) (t : Fin cfg0.N) (a : Fin 1024) (b : Fin 512) :
    acc (iblk m c 0 t) (iblk m c 1 t) (ix2 a b) = dotAt (m (c.tc.loc main_arg0)) (m (c.tc.loc main_arg1))
      ⟨t.val * 1024 + a.val, by have : t.val < 8 := t.isLt; omega⟩ ⟨4176 + b.val, by omega⟩ := by
  refine (acc_at _ _ a b).trans (Finset.sum_congr rfl fun e _ => ?_)
  exact congrArg₂ (fun p q : EReal => p * q) (act_at m c t a e) (wq_at m c t b e)

/-- The keys' weights at a point. -/
theorem wk_at (c : Dev nD) (t : Fin cfg0.N) (b : Fin 512) (e : Fin 2048) :
    iblk m c 2 t (ix2 b e) = (m (c.tc.loc main_arg1) : S2048x12880.Idx → EReal) (ix2 e ⟨5712 + b.val, by omega⟩) := by
  refine Eq.trans ?_ (turned_at m c _ e)
  blk_ext [iblk, idx t]
  · exact ((win0_2.rect_emb_val_off t (ix2 b e) 0).trans (congrArg (· + b.val) (congrFun (idx t).2.2.1 0))).trans (by simp; try omega)
  · exact ((win0_2.rect_emb_val_off t (ix2 b e) 1).trans (congrArg (· + e.val) (congrFun (idx t).2.2.1 1))).trans (by simp)

/-- The keys' products of blocks at a point. -/
theorem kDot (c : Dev nD) (t : Fin cfg0.N) (a : Fin 1024) (b : Fin 512) :
    acc (iblk m c 0 t) (iblk m c 2 t) (ix2 a b) = dotAt (m (c.tc.loc main_arg0)) (m (c.tc.loc main_arg1))
      ⟨t.val * 1024 + a.val, by have : t.val < 8 := t.isLt; omega⟩ ⟨5712 + b.val, by omega⟩ := by
  refine (acc_at _ _ a b).trans (Finset.sum_congr rfl fun e _ => ?_)
  exact congrArg₂ (fun p q : EReal => p * q) (act_at m c t a e) (wk_at m c t b e)

/-- The values' weights at a point. -/
theorem wv_at (c : Dev nD) (t : Fin cfg0.N) (b : Fin 512) (e : Fin 2048) :
    iblk m c 3 t (ix2 b e) = (m (c.tc.loc main_arg1) : S2048x12880.Idx → EReal) (ix2 e ⟨7248 + b.val, by omega⟩) := by
  refine Eq.trans ?_ (turned_at m c _ e)
  blk_ext [iblk, idx t]
  · exact ((win0_3.rect_emb_val_off t (ix2 b e) 0).trans (congrArg (· + b.val) (congrFun (idx t).2.2.2.1 0))).trans (by simp; try omega)
  · exact ((win0_3.rect_emb_val_off t (ix2 b e) 1).trans (congrArg (· + e.val) (congrFun (idx t).2.2.2.1 1))).trans (by simp)

/-- The values' products of blocks at a point. -/
theorem vDot (c : Dev nD) (t : Fin cfg0.N) (a : Fin 1024) (b : Fin 512) :
    acc (iblk m c 0 t) (iblk m c 3 t) (ix2 a b) = dotAt (m (c.tc.loc main_arg0)) (m (c.tc.loc main_arg1))
      ⟨t.val * 1024 + a.val, by have : t.val < 8 := t.isLt; omega⟩ ⟨7248 + b.val, by omega⟩ := by
  refine (acc_at _ _ a b).trans (Finset.sum_congr rfl fun e _ => ?_)
  exact congrArg₂ (fun p q : EReal => p * q) (act_at m c t a e) (wv_at m c t b e)

/-- The queries, as the body stores them. -/
theorem q_at (x : Vec Ideal S1024x2048 .bf16) (w : Vec Ideal S512x2048 .f32) (i : S1x1x1024x512.Idx) :
    k0_pay2 x w i = scaledAcc x w (ix2 (i 2) (i 3)) := by
  show shapeCast S1x1x1024x512 (truncf .bf16 (scaledAcc x w) bitsLt_bf16_f32) shapeCasts_S1024x512_S1x1x1024x512 i = _
  generalize scaledAcc x w = A
  idx_vars i
  pointwise

/-- The keys, as the body stores them. -/
theorem k_at (x : Vec Ideal S1024x2048 .bf16) (w : Vec Ideal S512x2048 .f32) (i : S1x1x1024x512.Idx) :
    k0_pay3 x w i = acc x w (ix2 (i 2) (i 3)) := by
  show shapeCast S1x1x1024x512 (truncf .bf16 (acc x w) bitsLt_bf16_f32) shapeCasts_S1024x512_S1x1x1024x512 i = _
  generalize acc x w = A
  idx_vars i
  pointwise

/-- The values, as the body stores them. -/
theorem v_at (x : Vec Ideal S1024x2048 .bf16) (w : Vec Ideal S512x2048 .f32) (i : S1x1x1024x512.Idx) :
    k0_pay1 (k0_pay4 x w) i = acc x w (ix2 (i 2) (i 3)) := k_at x w i

/-- A third of the tile, at a place: an element of the projection. -/
theorem tile_at (c : Dev nD) (t : Fin cfg0.N) (y : S3x1x1024x512.Idx) (w : ℕ) (a : Fin 1024) (b : Fin 512) (h0 : (y 0).val = w)
    (h2 : (y 2).val = a.val) (h3 : (y 3).val = b.val) (k : Fin 12880) (hk : k.val = 4176 + 1536 * w + b.val) :
    third w (dotAt (m (c.tc.loc main_arg0)) (m (c.tc.loc main_arg1)) ⟨t.val * 1024 + a.val, by have : t.val < 8 := t.isLt; omega⟩ k)
      = tile m c t y := by
  have l1 : (y 1).val < 1 := (y 1).isLt
  unfold tile result
  refine (congrArg (fun k => third k _) h0.symm).trans (congrArg (third _) ?_)
  refine congrArg₂ (dotAt _ _) (Fin.ext ?_) (Fin.ext ?_)
  · show t.val * 1024 + a.val = (t.val * 1024 + (y 2).val) * 1 + (y 1).val
    omega
  · show k.val = 4176 + 1536 * (y 0).val + (y 3).val
    omega

/-- The result after the run. -/
theorem arr4 (c : Dev nD) : (dats m 0 c).arrAt 4 cfg0.N = result (m (c.tc.loc main_arg0)) (m (c.tc.loc main_arg1)) := by
  refine (dats m 0 c).arrAt_eq_of_covers 4 _ (by decide +kernel) fun t hf y => ?_
  blk_simp
  rw [after0_4]
  refine Eq.trans (b := tile m c t y) ?_ (congrArg (result _ _) ?_)
  · unfold outsAt0
    frame_out
    canon_tiles x h
    case piece0 =>
      refine (v_at _ _ x).trans ((vDot m c t (x 2) (x 3)).trans ?_)
      exact (if_neg (by decide)).symm.trans (tile_at m c t y 2 (x 2) (x 3) (by omega) (by omega) (by omega) _ rfl)
    case piece1 =>
      refine (k_at _ _ x).trans ((kDot m c t (x 2) (x 3)).trans ?_)
      exact (if_neg (by decide)).symm.trans (tile_at m c t y 1 (x 2) (x 3) (by omega) (by omega) (by omega) _ rfl)
    case piece2 =>
      refine (q_at _ _ x).trans ((scaledAcc_at _ _ (x 2) (x 3)).trans ((congrArg (· * scale) (qDot m c t (x 2) (x 3))).trans ?_))
      exact (if_pos rfl).symm.trans (tile_at m c t y 0 (x 2) (x 3) (by omega) (by omega) (by omega) _ rfl)
  · blk_ext [idx t]

end Cert.Qkv1Ideal.ProjValue

namespace Cert.Qkv1RefIdeal.ProjValue
open Cert.Qkv1RefIdeal Cert.Qkv1RefIdeal.Gen
open Cert.Qkv1Ideal.ProjValue (dotAt third scale)

/-- The reference's projection. -/
def proj (x : FVec Ideal S8192x2048 .bf16) (w : FVec Ideal S2048x12880 .f32) : FVec Ideal S8192x12880 .f32 :=
  Host.dotGeneral (F := Ideal) dot_S8192x2048_S2048x12880_S8192x12880_1_0_0_1_n_n none (extf .f32 x bitsLt_bf16_f32) w

/-- The reference's projection, at an index. -/
theorem proj_at (x : FVec Ideal S8192x2048 .bf16) (w : FVec Ideal S2048x12880 .f32) (a : Fin 8192) (b : Fin 12880) :
    proj x w (ix2 a b) = dotAt x w a b := by
  unfold proj dotAt
  pointwise

/-- The queries', the keys' and the values' columns of the projection, the first scaled. -/
def stack (p : FVec Ideal S8192x12880 .f32) : FVec Ideal S3x8192x512 .f32 :=
  concatenate S3x8192x512 0 [⟨S1x8192x512, ((broadcastInDim S1x8192x512 ![1, 2] bcast_S8192x512_S1x8192x512_1_2
      (Host.divf (Host.divf (extractStridedSlice S8192x512 ![0, 4176] p slices_S8192x12880_S8192x512_0_4176)
        (broadcastInDim S8192x512 ![] bcast_S_S8192x512 (Host.sqrt (constant S_ .f32 0x43000000#32))))
        (broadcastInDim S8192x512 ![] bcast_S_S8192x512 (Host.log (constant S_ .f32 0x40000000#32))))) : (⟨S1x8192x512, .f32⟩ : BufTy).Contents (Elt Ideal))⟩,
    ⟨S1x8192x512, ((broadcastInDim S1x8192x512 ![1, 2] bcast_S8192x512_S1x8192x512_1_2
      (extractStridedSlice S8192x512 ![0, 5712] p slices_S8192x12880_S8192x512_0_5712)) : (⟨S1x8192x512, .f32⟩ : BufTy).Contents (Elt Ideal))⟩,
    ⟨S1x8192x512, ((broadcastInDim S1x8192x512 ![1, 2] bcast_S8192x512_S1x8192x512_1_2
      (extractStridedSlice S8192x512 ![0, 7248] p slices_S8192x12880_S8192x512_0_7248)) : (⟨S1x8192x512, .f32⟩ : BufTy).Contents (Elt Ideal))⟩]
    concatenates_S1x8192x512_S1x8192x512_S1x8192x512_S3x8192x512_d0

/-- `stack` at an index of the queries. -/
theorem stack0 (p : FVec Ideal S8192x12880 .f32) (a : Fin 8192) (b : Fin 512) :
    stack p (ix3 0 a b) = third 0 (p (ix2 a ⟨4176 + b.val, by omega⟩)) := by
  unfold stack
  pointwise
  exact QueryRefIdeal.ProjValue.scaled _

/-- `stack` at an index of the keys. -/
theorem stack1 (p : FVec Ideal S8192x12880 .f32) (a : Fin 8192) (b : Fin 512) :
    stack p (ix3 1 a b) = third 1 (p (ix2 a ⟨5712 + b.val, by omega⟩)) := by
  unfold stack
  pointwise
  rfl

/-- `stack` at an index of the values. -/
theorem stack2 (p : FVec Ideal S8192x12880 .f32) (a : Fin 8192) (b : Fin 512) :
    stack p (ix3 2 a b) = third 2 (p (ix2 a ⟨7248 + b.val, by omega⟩)) := by
  unfold stack
  pointwise
  rfl

/-- `stack` at an index. -/
theorem stack_at (p : FVec Ideal S8192x12880 .f32) (w : Fin 3) (a : Fin 8192) (b : Fin 512) :
    stack p (ix3 w a b) = third w.val (p (ix2 a ⟨4176 + 1536 * w.val + b.val, by omega⟩)) := by
  fin_cases w
  · exact stack0 p a b
  · exact stack1 p a b
  · exact stack2 p a b

/-- The stack by remainder over 1. -/
def turned (s : FVec Ideal S3x8192x512 .f32) : FVec Ideal S3x1x8192x512 .bf16 :=
  truncf .bf16 (transpose S3x1x8192x512 [0, 2, 1, 3] (shapeCast S3x8192x1x512 s shapeCasts_S3x8192x512_S3x8192x1x512)
    transposes_S3x8192x1x512_S3x1x8192x512_0_2_1_3) bitsLt_bf16_f32

/-- `turned` at an index. -/
theorem turned_at (s : FVec Ideal S3x8192x512 .f32) (w : Fin 3) (r : Fin 1) (q : Fin 8192) (b : Fin 512) :
    turned s (ix4 w r q b) = s (ix3 w ⟨q.val * 1 + r.val, by omega⟩ b) := by
  unfold turned
  pointwise

/-- The reference's result. -/
theorem ref_eq (x : FVec Ideal S8192x2048 .bf16) (w : FVec Ideal S2048x12880 .f32) :
    turned (stack (proj x w)) = Qkv1Ideal.ProjValue.result x w := by
  funext i
  idx_vars i
  rw [turned_at, stack_at, proj_at]
  rfl

end Cert.Qkv1RefIdeal.ProjValue

namespace Cert.Qkv1Claims

/-- The kernel runs, and leaves its arguments and its semaphores. -/
theorem frame_p : Cert.quiescent_Qkv1 := fun m ρ _ => Cert.Qkv1.Gen.frame m ρ

/-- So does its idealization. -/
theorem frame_pi : Cert.quiescent_Qkv1Ideal := fun m ρ _ => Cert.Qkv1Ideal.Gen.frame m ρ

/-- So does the reference. -/
theorem frame_ri : Cert.quiescent_Qkv1RefIdeal := fun m ρ _ =>
  (θ_run Cert.Qkv1RefIdeal.defs _ _).mono (fun r h => ⟨fun c => (h c).2, sem_eq_zero_of_no_sems (by decide) r.2⟩)
    (Cert.Qkv1RefIdeal.Value.run (F := Ideal) m ρ)

/-- The named constant is the reciprocal of the product of log 2 and √128. -/
theorem preserves : Cert.preserves_Qkv1_Qkv1Ideal :=
  IdealRules.named_const.statement Cert.Qkv1Ideal.κ "query_scale" .f32 0x3E0293EE#32 (((Real.log 2 * Real.sqrt 128)⁻¹ : ℝ) : EReal) rfl

/-- Kernel and reference end with the same array. -/
theorem algebraic : Cert.algebraic_Qkv1Ideal_Qkv1RefIdeal := fun m ρ m' ρ' _ hag => by
  refine ⟨fun c => Cert.Qkv1Ideal.ProjValue.result (m (c.tc.loc Cert.Qkv1Ideal.main_arg0)) (m (c.tc.loc Cert.Qkv1Ideal.main_arg1)), ?_, ?_⟩
  · exact (θ_run Cert.Qkv1Ideal.defs _ _).mono (fun r h c => ⟨(h c).1.trans (Cert.Qkv1Ideal.ProjValue.arr4 m c), (h c).2⟩)
      (Cert.Qkv1Ideal.Value.run_blocks m ρ)
  · refine (θ_run Cert.Qkv1RefIdeal.defs _ _).mono (fun r h c => ⟨(h c).1.trans ?_, (h c).2⟩) (Cert.Qkv1RefIdeal.Value.run m' ρ')
    rw [(hag c).1, (hag c).2]
    exact Cert.Qkv1RefIdeal.ProjValue.ref_eq _ _

end Cert.Qkv1Claims
end
-- ==== Proof.Qkv4.lean ====
module

public import proofs.«01_k».proof.Defs
public import proofs.«01_k».proof.Proof.Query
public import proofs.«01_k».proof.Proof.Gen.Qkv4.Frame
public import proofs.«01_k».proof.Proof.Gen.Qkv4Ideal.Value
public import proofs.«01_k».proof.Proof.Gen.Qkv4RefIdeal.Run
public import Idealize.ShloMosaic.Lib.Pipeline.ValueKit
public import Idealize.ShloMosaic.Lib.Pointwise

@[expose] public section

/-!
# The projections of the dilated attention, every 4-th row together

Each element of the result is one product of a row of the activations and a column of the weights; a row of the result is named by its
remainder over 4 and its quotient. The first third of the result, the queries, is scaled. The body lays each product into a scratch in four
slabs of columns, and reads every 4-th row of a slab back.
-/

set_option maxRecDepth 16384
noncomputable section

open Idealize.ShloMosaic Idealize.ShloMosaic.TcCoe Idealize.SL.Sem
open Idealize.ShloMosaic.Pipeline (Dat)

namespace Cert.Qkv4Ideal.ProjValue
open Cert.Qkv4Ideal Cert.Qkv4Ideal.Gen

/-- The block that each window holds at each grid point. The weights' windows start at a row, not at a multiple of their height. -/
theorem idx : ∀ t : Fin grid0.N, win0_0.index t = ![t.val, 0] ∧ win0_1.index t = ![4688, 0] ∧ win0_2.index t = ![6224, 0]
    ∧ win0_3.index t = ![7760, 0] ∧ win0_4.index t = ![0, 0, t.val, 0] := by
  decide +kernel

/-- The projection, at a row and a column. -/
def dotAt (X : S8192x2048.Idx → EReal) (W : S2048x12880.Idx → EReal) (a : Fin 8192) (k : Fin 12880) : EReal :=
  ∑ e : Fin 2048, X (ix2 a e) * W (ix2 e k)

/-- The reciprocal of log 2 times √128. -/
def scale : EReal := (((Real.log 2 * Real.sqrt 128)⁻¹ : ℝ) : EReal)

/-- A value as the result holds it: the first third is scaled. -/
def third (w : ℕ) (v : EReal) : EReal := if w = 0 then v * scale else v

/-- The result, at an index: queries, keys and values, by remainder, quotient and column. -/
def result (X : S8192x2048.Idx → EReal) (W : S2048x12880.Idx → EReal) (i : S3x4x2048x512.Idx) : EReal :=
  third (i 0).val (dotAt X W ⟨(i 2).val * 4 + (i 1).val, by
      have h1 : (i 1).val < 4 := (i 1).isLt
      have h2 : (i 2).val < 2048 := (i 2).isLt
      omega⟩
    ⟨4688 + 1536 * (i 0).val + (i 3).val, by
      have h0 : (i 0).val < 3 := (i 0).isLt
      have h3 : (i 3).val < 512 := (i 3).isLt
      omega⟩)

/-- The product of the blocks of a point. -/
def acc (x : FVec Ideal S1024x2048 .bf16) (w : FVec Ideal S512x2048 .f32) : FVec Ideal S1024x512 .f32 :=
  matmul (F := Ideal) (φ₁ := .bf16) dot_S1024x2048_S512x2048_S1024x512_1_1_0_0_n_n none x (truncf .bf16 (shapeCast S512x2048 w shapeCasts_S512x2048_S512x2048)
    bitsLt_bf16_f32) (constant S1024x512 .f32 0x00000000#32)

/-- That product, at an index. -/
theorem acc_at (x : Vec Ideal S1024x2048 .bf16) (w : Vec Ideal S512x2048 .f32) (a : Fin 1024) (b : Fin 512) :
    acc x w (ix2 a b) = ∑ e, x (ix2 a e) * w (ix2 b e) := by
  pointwise [acc]

/-- That product, scaled as the queries are. -/
def scaledAcc (x : Vec Ideal S1024x2048 .bf16) (w : Vec Ideal S512x2048 .f32) : FVec Ideal S1024x512 .f32 :=
  mulf (acc x w) (broadcast S1024x512 (Named.named κ "query_scale" 0x3E0293EE#32))

/-- The scaled product, at an index. -/
theorem scaledAcc_at (x : Vec Ideal S1024x2048 .bf16) (w : Vec Ideal S512x2048 .f32) (a : Fin 1024) (b : Fin 512) :
    scaledAcc x w (ix2 a b) = acc x w (ix2 a b) * scale := by
  generalize h : acc x w = A
  unfold scaledAcc
  rw [h]
  pointwise
  rfl

variable (m : (ℓ : Loc nD τ sig) → Buf (Elt Ideal) ℓ)

/-- The result of the arguments, at a place of a grid point's block. -/
def tile (c : Dev nD) (t : Fin cfg0.N) (y : S3x4x256x512.Idx) : EReal :=
  result (m (c.tc.loc main_arg0)) (m (c.tc.loc main_arg1)) (ix4 (y 0) (y 1) ⟨t.val * 256 + (y 2).val, by
    have h : t.val < 8 := t.isLt
    have h2 : (y 2).val < 256 := (y 2).isLt
    omega⟩ (y 3))

/-- The kernel's second operand is the transpose of the weights. -/
theorem turned_at (c : Dev nD) (a : Fin 12880) (b : Fin 2048) :
    V m c main_v0 (ix2 a b) = (m (c.tc.loc main_arg1) : S2048x12880.Idx → EReal) (ix2 b a) := by
  entry_read
  pointwise

/-- The activations' block at a point. -/
theorem act_at (c : Dev nD) (t : Fin cfg0.N) (a : Fin 1024) (e : Fin 2048) :
    iblk m c 0 t (ix2 a e) = (m (c.tc.loc main_arg0) : S8192x2048.Idx → EReal)
      (ix2 ⟨t.val * 1024 + a.val, by have : t.val < 8 := t.isLt; omega⟩ e) := by
  blk_ext [iblk, V, idx t]

/-- The queries' weights at a point. -/
theorem wq_at (c : Dev nD) (t : Fin cfg0.N) (b : Fin 512) (e : Fin 2048) :
    iblk m c 1 t (ix2 b e) = (m (c.tc.loc main_arg1) : S2048x12880.Idx → EReal) (ix2 e ⟨4688 + b.val, by omega⟩) := by
  refine Eq.trans ?_ (turned_at m c _ e)
  blk_ext [iblk, idx t]
  · exact ((win0_1.rect_emb_val_off t (ix2 b e) 0).trans (congrArg (· + b.val) (congrFun (idx t).2.1 0))).trans (by simp; try omega)
  · exact ((win0_1.rect_emb_val_off t (ix2 b e) 1).trans (congrArg (· + e.val) (congrFun (idx t).2.1 1))).trans (by simp)

/-- The queries' products of blocks at a point. -/
theorem qDot (c : Dev nD) (t : Fin cfg0.N) (a : Fin 1024) (b : Fin 512) :
    acc (iblk m c 0 t) (iblk m c 1 t) (ix2 a b) = dotAt (m (c.tc.loc main_arg0)) (m (c.tc.loc main_arg1))
      ⟨t.val * 1024 + a.val, by have : t.val < 8 := t.isLt; omega⟩ ⟨4688 + b.val, by omega⟩ := by
  refine (acc_at _ _ a b).trans (Finset.sum_congr rfl fun e _ => ?_)
  exact congrArg₂ (fun p q : EReal => p * q) (act_at m c t a e) (wq_at m c t b e)

/-- The keys' weights at a point. -/
theorem wk_at (c : Dev nD) (t : Fin cfg0.N) (b : Fin 512) (e : Fin 2048) :
    iblk m c 2 t (ix2 b e) = (m (c.tc.loc main_arg1) : S2048x12880.Idx → EReal) (ix2 e ⟨6224 + b.val, by omega⟩) := by
  refine Eq.trans ?_ (turned_at m c _ e)
  blk_ext [iblk, idx t]
  · exact ((win0_2.rect_emb_val_off t (ix2 b e) 0).trans (congrArg (· + b.val) (congrFun (idx t).2.2.1 0))).trans (by simp; try omega)
  · exact ((win0_2.rect_emb_val_off t (ix2 b e) 1).trans (congrArg (· + e.val) (congrFun (idx t).2.2.1 1))).trans (by simp)

/-- The keys' products of blocks at a point. -/
theorem kDot (c : Dev nD) (t : Fin cfg0.N) (a : Fin 1024) (b : Fin 512) :
    acc (iblk m c 0 t) (iblk m c 2 t) (ix2 a b) = dotAt (m (c.tc.loc main_arg0)) (m (c.tc.loc main_arg1))
      ⟨t.val * 1024 + a.val, by have : t.val < 8 := t.isLt; omega⟩ ⟨6224 + b.val, by omega⟩ := by
  refine (acc_at _ _ a b).trans (Finset.sum_congr rfl fun e _ => ?_)
  exact congrArg₂ (fun p q : EReal => p * q) (act_at m c t a e) (wk_at m c t b e)

/-- The values' weights at a point. -/
theorem wv_at (c : Dev nD) (t : Fin cfg0.N) (b : Fin 512) (e : Fin 2048) :
    iblk m c 3 t (ix2 b e) = (m (c.tc.loc main_arg1) : S2048x12880.Idx → EReal) (ix2 e ⟨7760 + b.val, by omega⟩) := by
  refine Eq.trans ?_ (turned_at m c _ e)
  blk_ext [iblk, idx t]
  · exact ((win0_3.rect_emb_val_off t (ix2 b e) 0).trans (congrArg (· + b.val) (congrFun (idx t).2.2.2.1 0))).trans (by simp; try omega)
  · exact ((win0_3.rect_emb_val_off t (ix2 b e) 1).trans (congrArg (· + e.val) (congrFun (idx t).2.2.2.1 1))).trans (by simp)

/-- The values' products of blocks at a point. -/
theorem vDot (c : Dev nD) (t : Fin cfg0.N) (a : Fin 1024) (b : Fin 512) :
    acc (iblk m c 0 t) (iblk m c 3 t) (ix2 a b) = dotAt (m (c.tc.loc main_arg0)) (m (c.tc.loc main_arg1))
      ⟨t.val * 1024 + a.val, by have : t.val < 8 := t.isLt; omega⟩ ⟨7760 + b.val, by omega⟩ := by
  refine (acc_at _ _ a b).trans (Finset.sum_congr rfl fun e _ => ?_)
  exact congrArg₂ (fun p q : EReal => p * q) (act_at m c t a e) (wv_at m c t b e)

/-- A slab of 128 columns of a product, as the scratch holds it. -/
theorem slab_at (G : FVec Ideal S1024x512 .f32) (o : ℕ) (ho : o + 128 ≤ 512) (h : S1024x512.Slices ![0, o] S1024x128)
    (h' : S1024x128.ShapeCasts S1x1x1024x128) (i : S1x1x1024x128.Idx) :
    shapeCast S1x1x1024x128 (extractStridedSlice S1024x128 ![0, o] G h) h' i
      = G (ix2 (i 2) ⟨o + (i 3).val, by have : (i 3).val < 128 := (i 3).isLt; omega⟩) := by
  idx_vars i
  pointwise

/-- The latest of a list of stores decides where it holds the index, the earlier ones where it does not. -/
theorem latest (z : S3x4x1024x128.Idx) (v : EReal) (off size : Fin 4 → ℕ) (inb) (P : (⟨4, size⟩ : Shape).Idx → EReal)
    (L : List (Idealize.ShloMosaic.View.Piece (Elt Ideal) S3x4x1024x128 .f32))
    (hit : ∀ i : (⟨4, size⟩ : Shape).Idx, (∀ a, (z a).val = off a + (i a).val) → P i = v)
    (miss : (¬ ∀ a, off a ≤ (z a).val ∧ (z a).val < off a + size a) → View.canon L z = v) :
    View.canon (⟨Rect.unit off size inb, P⟩ :: L) z = v := by
  by_cases hz : z ∈ (Rect.unit off size inb : Rect S3x4x1024x128).set
  · obtain ⟨i, rfl⟩ := (Rect.unit off size inb : Rect S3x4x1024x128).exists_idx_of_mem hz
    refine (View.canon_cons_emb (Rect.unit off size inb) P L i).trans (hit i fun a => ?_)
    exact ((Rect.unit off size inb : Rect S3x4x1024x128).emb_apply i a).trans (by show off a + 1 * (i a).val = _; omega)
  · exact (View.canon_cons_of_not_mem _ _ hz).trans (miss fun h => hz (Rect.mem_set_unit.mpr h))

/-- Where the slabs of one third are stored last of all, the scratch holds the product they are of. -/
theorem held_at (w s : ℕ) (G : FVec Ideal S1024x512 .f32) (P0 P1 P2 P3 : (⟨4, ![1, 1, 1024, 128]⟩ : Shape).Idx → EReal) (i0 i1 i2 i3)
    (T : List (Idealize.ShloMosaic.View.Piece (Elt Ideal) S3x4x1024x128 .f32)) (z : S3x4x1024x128.Idx) (a : Fin 1024) (b : Fin 512)
    (h0 : ∀ i, P0 i = G (ix2 (i 2) ⟨0 + (i 3).val, by have : (i 3).val < 128 := (i 3).isLt; omega⟩))
    (h1 : ∀ i, P1 i = G (ix2 (i 2) ⟨128 + (i 3).val, by have : (i 3).val < 128 := (i 3).isLt; omega⟩))
    (h2 : ∀ i, P2 i = G (ix2 (i 2) ⟨256 + (i 3).val, by have : (i 3).val < 128 := (i 3).isLt; omega⟩))
    (h3 : ∀ i, P3 i = G (ix2 (i 2) ⟨384 + (i 3).val, by have : (i 3).val < 128 := (i 3).isLt; omega⟩))
    (z0 : (z 0).val = w) (z1 : (z 1).val = s) (z2 : (z 2).val = a.val) (hb : b.val = 128 * s + (z 3).val) :
    View.canon (⟨Rect.unit ![w, 3, 0, 0] ![1, 1, 1024, 128] i3, P3⟩ :: ⟨Rect.unit ![w, 2, 0, 0] ![1, 1, 1024, 128] i2, P2⟩
        :: ⟨Rect.unit ![w, 1, 0, 0] ![1, 1, 1024, 128] i1, P1⟩ :: ⟨Rect.unit ![w, 0, 0, 0] ![1, 1, 1024, 128] i0, P0⟩ :: T) z
      = G (ix2 a b) := by
  have hit : ∀ (o k : ℕ) (i : (⟨4, ![1, 1, 1024, 128]⟩ : Shape).Idx) (hi : k + (i 3).val < 512) (_ : k = 128 * o)
      (_ : ∀ k, (z k).val = ![w, o, 0, 0] k + (i k).val), G (ix2 (i 2) ⟨k + (i 3).val, hi⟩) = G (ix2 a b) := by
    intro o k i hi hk h
    have e1 : (z 1).val = o + (i 1).val := h 1
    have e2 : (z 2).val = 0 + (i 2).val := h 2
    have e3 : (z 3).val = 0 + (i 3).val := h 3
    have l1 : (i 1).val < 1 := (i 1).isLt
    exact congrArg G (congrArg₂ (ix2 (n0 := 1024) (n1 := 512)) (Fin.ext (by omega)) (Fin.ext (by show k + (i 3).val = b.val; omega)))
  have cases : ∀ o : ℕ, (¬ ∀ k, ![w, o, 0, 0] k ≤ (z k).val ∧ (z k).val < ![w, o, 0, 0] k + ![1, 1, 1024, 128] k) → s ≠ o := by
    intro o h e
    have l2 : (z 2).val < 1024 := (z 2).isLt
    have l3 : (z 3).val < 128 := (z 3).isLt
    refine h (Fin.forall_fin_succ.mpr ⟨?_, Fin.forall_fin_succ.mpr ⟨?_, Fin.forall_fin_succ.mpr ⟨?_, Fin.forall_fin_one.mpr ?_⟩⟩⟩)
    · exact ⟨z0.ge, by show (z 0).val < w + 1; omega⟩
    · exact ⟨by show o ≤ (z 1).val; omega, by show (z 1).val < o + 1; omega⟩
    · exact ⟨Nat.zero_le _, by show (z 2).val < 0 + 1024; omega⟩
    · exact ⟨Nat.zero_le _, by show (z 3).val < 0 + 128; omega⟩
  have hs : s < 4 := z1.symm.trans_lt (z 1).isLt
  refine latest z _ _ _ _ _ _ (fun i h => (h3 i).trans (hit 3 384 i _ rfl h)) fun n3 => ?_
  refine latest z _ _ _ _ _ _ (fun i h => (h2 i).trans (hit 2 256 i _ rfl h)) fun n2 => ?_
  refine latest z _ _ _ _ _ _ (fun i h => (h1 i).trans (hit 1 128 i _ rfl h)) fun n1 => ?_
  refine latest z _ _ _ _ _ _ (fun i h => (h0 i).trans (hit 0 0 i _ rfl h)) fun n0 => ?_
  exact absurd hs (by have := cases 0 n0; have := cases 1 n1; have := cases 2 n2; have := cases 3 n3; omega)

/-- A strided load, of whatever was stored, at an index. -/
theorem load_at (w s r : ℕ) (L : List (Idealize.ShloMosaic.View.Piece (Elt Ideal) S3x4x1024x128 .f32)) (inb) (x : S1x1x256x128.Idx)
    (v : EReal) (h : ∀ z : S3x4x1024x128.Idx, (z 0).val = w → (z 1).val = s → (z 2).val = r + 4 * (x 2).val → (z 3).val = (x 3).val →
      View.canon L z = v) :
    (View.whole cc0_scratch0).readCov (Val := Elt Ideal) L
      { off := ![w, s, r, 0], size := ![1, 1, 256, 128], stride := ![1, 1, 4, 1], inb := inb } x = v := by
  have l0 : (x 0).val < 1 := (x 0).isLt
  have l1 : (x 1).val < 1 := (x 1).isLt
  refine (congrFun (View.readCov_eq_canon' (View.whole cc0_scratch0) L
    { off := ![w, s, r, 0], size := ![1, 1, 256, 128], stride := ![1, 1, 4, 1], inb := inb }) x).trans (h _ ?_ ?_ ?_ ?_)
  · show w + 1 * (x 0).val = w
    omega
  · show s + 1 * (x 1).val = s
    omega
  · rfl
  · show 0 + 1 * (x 3).val = _
    omega

/-- What is stored of a load: the load. -/
theorem stored_at (R : FVec Ideal S1x1x256x128 .f32) (h : S1x1x256x128.ShapeCasts S256x128) (h') (h'' : S256x128.ShapeCasts S1x1x256x128)
    (x : S1x1x256x128.Idx) : shapeCast S1x1x256x128 (truncf .bf16 (shapeCast S256x128 R h) h') h'' x = R x := by
  idx_vars x
  obtain rfl : x0 = 0 := Subsingleton.elim _ _
  obtain rfl : x1 = 0 := Subsingleton.elim _ _
  pointwise

/-- One store of the body, at a place of its rectangle, where the product it reads from holds the result's elements. -/
theorem piece (w s r : ℕ) (G : FVec Ideal S1024x512 .f32) (c : Dev nD) (t : Fin cfg0.N) (y : S3x4x256x512.Idx)
    (hG : ∀ (a : Fin 1024) (b : Fin 512), G (ix2 a b) = third w (dotAt (m (c.tc.loc main_arg0)) (m (c.tc.loc main_arg1))
      ⟨t.val * 1024 + a.val, by have : t.val < 8 := t.isLt; omega⟩ ⟨4688 + 1536 * (y 0).val + b.val, by
        have : (y 0).val < 3 := (y 0).isLt
        omega⟩))
    (P0 P1 P2 P3 : (⟨4, ![1, 1, 1024, 128]⟩ : Shape).Idx → EReal) (i0 i1 i2 i3)
    (T : List (Idealize.ShloMosaic.View.Piece (Elt Ideal) S3x4x1024x128 .f32)) (inb) (x : S1x1x256x128.Idx)
    (p : S1x1x256x128.ShapeCasts S256x128) (p' : FTy.bf16.bits < FTy.f32.bits) (p'' : S256x128.ShapeCasts S1x1x256x128)
    (h0 : ∀ i, P0 i = G (ix2 (i 2) ⟨0 + (i 3).val, by have : (i 3).val < 128 := (i 3).isLt; omega⟩))
    (h1 : ∀ i, P1 i = G (ix2 (i 2) ⟨128 + (i 3).val, by have : (i 3).val < 128 := (i 3).isLt; omega⟩))
    (h2 : ∀ i, P2 i = G (ix2 (i 2) ⟨256 + (i 3).val, by have : (i 3).val < 128 := (i 3).isLt; omega⟩))
    (h3 : ∀ i, P3 i = G (ix2 (i 2) ⟨384 + (i 3).val, by have : (i 3).val < 128 := (i 3).isLt; omega⟩))
    (y0 : (y 0).val = w) (y1 : (y 1).val = r) (y2 : (y 2).val = (x 2).val) (y3 : (y 3).val = 128 * s + (x 3).val) :
    shapeCast S1x1x256x128 (truncf (F := Ideal) .bf16 (shapeCast S256x128 ((View.whole cc0_scratch0).readCov (Val := Elt Ideal)
      (⟨Rect.unit ![w, 3, 0, 0] ![1, 1, 1024, 128] i3, P3⟩ :: ⟨Rect.unit ![w, 2, 0, 0] ![1, 1, 1024, 128] i2, P2⟩
        :: ⟨Rect.unit ![w, 1, 0, 0] ![1, 1, 1024, 128] i1, P1⟩ :: ⟨Rect.unit ![w, 0, 0, 0] ![1, 1, 1024, 128] i0, P0⟩ :: T)
      { off := ![w, s, r, 0], size := ![1, 1, 256, 128], stride := ![1, 1, 4, 1], inb := inb } : FVec Ideal S1x1x256x128 .f32) p) p') p'' x = tile m c t y := by
  have l1 : (y 1).val < 4 := (y 1).isLt
  have l2 : (x 2).val < 256 := (x 2).isLt
  have l3 : (y 3).val < 512 := (y 3).isLt
  refine (stored_at _ _ _ _ x).trans ((load_at w s r _ inb x (G (ix2 ⟨r + 4 * (x 2).val, by omega⟩ (y 3))) fun z z0 z1 z2 z3 =>
    held_at w s G P0 P1 P2 P3 i0 i1 i2 i3 T z ⟨r + 4 * (x 2).val, by omega⟩ (y 3) h0 h1 h2 h3 z0 z1 z2 (by omega)).trans ((hG _ _).trans ?_))
  unfold tile result
  refine (congrArg (fun k => third k _) y0.symm).trans (congrArg (third _) ?_)
  refine congrArg₂ (dotAt _ _) (Fin.ext ?_) (Fin.ext ?_)
  · show t.val * 1024 + (r + 4 * (x 2).val) = (t.val * 256 + (y 2).val) * 4 + (y 1).val
    omega
  · rfl

/-- The stores of the queries. -/
theorem hq (c : Dev nD) (t : Fin cfg0.N) (y : S3x4x256x512.Idx) (y0 : (y 0).val = 0) (a : Fin 1024) (b : Fin 512) :
    scaledAcc (iblk m c 0 t) (iblk m c 1 t) (ix2 a b) = third 0 (dotAt (m (c.tc.loc main_arg0)) (m (c.tc.loc main_arg1))
      ⟨t.val * 1024 + a.val, by have : t.val < 8 := t.isLt; omega⟩ ⟨4688 + 1536 * (y 0).val + b.val, by
        have : (y 0).val < 3 := (y 0).isLt
        omega⟩) := by
  refine (scaledAcc_at _ _ a b).trans ((congrArg (· * scale) (qDot m c t a b)).trans ?_)
  exact (if_pos rfl).symm.trans (congrArg (fun k => third 0 (dotAt _ _ _ k)) (Fin.ext (by show 4688 + b.val = 4688 + 1536 * (y 0).val + b.val; omega)))

/-- The stores of the keys. -/
theorem hk (c : Dev nD) (t : Fin cfg0.N) (y : S3x4x256x512.Idx) (y0 : (y 0).val = 1) (a : Fin 1024) (b : Fin 512) :
    acc (iblk m c 0 t) (iblk m c 2 t) (ix2 a b) = third 1 (dotAt (m (c.tc.loc main_arg0)) (m (c.tc.loc main_arg1))
      ⟨t.val * 1024 + a.val, by have : t.val < 8 := t.isLt; omega⟩ ⟨4688 + 1536 * (y 0).val + b.val, by
        have : (y 0).val < 3 := (y 0).isLt
        omega⟩) := by
  refine (kDot m c t a b).trans ?_
  exact (if_neg (by decide)).symm.trans (congrArg (fun k => third 1 (dotAt _ _ _ k)) (Fin.ext (by show 6224 + b.val = 4688 + 1536 * (y 0).val + b.val; omega)))

/-- The stores of the values. -/
theorem hv (c : Dev nD) (t : Fin cfg0.N) (y : S3x4x256x512.Idx) (y0 : (y 0).val = 2) (a : Fin 1024) (b : Fin 512) :
    acc (iblk m c 0 t) (iblk m c 3 t) (ix2 a b) = third 2 (dotAt (m (c.tc.loc main_arg0)) (m (c.tc.loc main_arg1))
      ⟨t.val * 1024 + a.val, by have : t.val < 8 := t.isLt; omega⟩ ⟨4688 + 1536 * (y 0).val + b.val, by
        have : (y 0).val < 3 := (y 0).isLt
        omega⟩) := by
  refine (vDot m c t a b).trans ?_
  exact (if_neg (by decide)).symm.trans (congrArg (fun k => third 2 (dotAt _ _ _ k)) (Fin.ext (by show 7760 + b.val = 4688 + 1536 * (y 0).val + b.val; omega)))

/-- The result after the run. -/
theorem arr4 (c : Dev nD) : (dats m 0 c).arrAt 4 cfg0.N = result (m (c.tc.loc main_arg0)) (m (c.tc.loc main_arg1)) := by
  refine (dats m 0 c).arrAt_eq_of_covers 4 _ (by decide +kernel) fun t hf y => ?_
  blk_simp
  rw [after0_4]
  refine Eq.trans (b := tile m c t y) ?_ (congrArg (result _ _) ?_)
  · unfold outsAt0
    frame_out
    canon_tiles x h
    all_goals
      first
      | (have e : (y 0).val = 0 := by omega); exact piece m 0 _ _ _ c t y (hq m c t y e) _ _ _ _ _ _ _ _ _ _ x _ _ _ (slab_at (scaledAcc (iblk m c 0 t) (iblk m c 1 t)) 0 (by decide) slices_S1024x512_o0_0_S1024x128 shapeCasts_S1024x128_S1x1x1024x128) (slab_at (scaledAcc (iblk m c 0 t) (iblk m c 1 t)) 128 (by decide) slices_S1024x512_o0_128_S1024x128 shapeCasts_S1024x128_S1x1x1024x128) (slab_at (scaledAcc (iblk m c 0 t) (iblk m c 1 t)) 256 (by decide) slices_S1024x512_o0_256_S1024x128 shapeCasts_S1024x128_S1x1x1024x128) (slab_at (scaledAcc (iblk m c 0 t) (iblk m c 1 t)) 384 (by decide) slices_S1024x512_o0_384_S1024x128 shapeCasts_S1024x128_S1x1x1024x128) e (by omega) (by omega) (by omega)
      | (have e : (y 0).val = 1 := by omega); exact piece m 1 _ _ _ c t y (hk m c t y e) _ _ _ _ _ _ _ _ _ _ x _ _ _ (slab_at (acc (iblk m c 0 t) (iblk m c 2 t)) 0 (by decide) slices_S1024x512_o0_0_S1024x128 shapeCasts_S1024x128_S1x1x1024x128) (slab_at (acc (iblk m c 0 t) (iblk m c 2 t)) 128 (by decide) slices_S1024x512_o0_128_S1024x128 shapeCasts_S1024x128_S1x1x1024x128) (slab_at (acc (iblk m c 0 t) (iblk m c 2 t)) 256 (by decide) slices_S1024x512_o0_256_S1024x128 shapeCasts_S1024x128_S1x1x1024x128) (slab_at (acc (iblk m c 0 t) (iblk m c 2 t)) 384 (by decide) slices_S1024x512_o0_384_S1024x128 shapeCasts_S1024x128_S1x1x1024x128) e (by omega) (by omega) (by omega)
      | (have e : (y 0).val = 2 := by omega); exact piece m 2 _ _ _ c t y (hv m c t y e) _ _ _ _ _ _ _ _ _ _ x _ _ _ (slab_at (acc (iblk m c 0 t) (iblk m c 3 t)) 0 (by decide) slices_S1024x512_o0_0_S1024x128 shapeCasts_S1024x128_S1x1x1024x128) (slab_at (acc (iblk m c 0 t) (iblk m c 3 t)) 128 (by decide) slices_S1024x512_o0_128_S1024x128 shapeCasts_S1024x128_S1x1x1024x128) (slab_at (acc (iblk m c 0 t) (iblk m c 3 t)) 256 (by decide) slices_S1024x512_o0_256_S1024x128 shapeCasts_S1024x128_S1x1x1024x128) (slab_at (acc (iblk m c 0 t) (iblk m c 3 t)) 384 (by decide) slices_S1024x512_o0_384_S1024x128 shapeCasts_S1024x128_S1x1x1024x128) e (by omega) (by omega) (by omega)
  · blk_ext [idx t]

end Cert.Qkv4Ideal.ProjValue

namespace Cert.Qkv4RefIdeal.ProjValue
open Cert.Qkv4RefIdeal Cert.Qkv4RefIdeal.Gen
open Cert.Qkv4Ideal.ProjValue (dotAt third scale)

/-- The reference's projection. -/
def proj (x : FVec Ideal S8192x2048 .bf16) (w : FVec Ideal S2048x12880 .f32) : FVec Ideal S8192x12880 .f32 :=
  Host.dotGeneral (F := Ideal) dot_S8192x2048_S2048x12880_S8192x12880_1_0_0_1_n_n none (extf .f32 x bitsLt_bf16_f32) w

/-- The reference's projection, at an index. -/
theorem proj_at (x : FVec Ideal S8192x2048 .bf16) (w : FVec Ideal S2048x12880 .f32) (a : Fin 8192) (b : Fin 12880) :
    proj x w (ix2 a b) = dotAt x w a b := by
  unfold proj dotAt
  pointwise

/-- The queries', the keys' and the values' columns of the projection, the first scaled. -/
def stack (p : FVec Ideal S8192x12880 .f32) : FVec Ideal S3x8192x512 .f32 :=
  concatenate S3x8192x512 0 [⟨S1x8192x512, ((broadcastInDim S1x8192x512 ![1, 2] bcast_S8192x512_S1x8192x512_1_2
      (Host.divf (Host.divf (extractStridedSlice S8192x512 ![0, 4688] p slices_S8192x12880_S8192x512_0_4688)
        (broadcastInDim S8192x512 ![] bcast_S_S8192x512 (Host.sqrt (constant S_ .f32 0x43000000#32))))
        (broadcastInDim S8192x512 ![] bcast_S_S8192x512 (Host.log (constant S_ .f32 0x40000000#32))))) : (⟨S1x8192x512, .f32⟩ : BufTy).Contents (Elt Ideal))⟩,
    ⟨S1x8192x512, ((broadcastInDim S1x8192x512 ![1, 2] bcast_S8192x512_S1x8192x512_1_2
      (extractStridedSlice S8192x512 ![0, 6224] p slices_S8192x12880_S8192x512_0_6224)) : (⟨S1x8192x512, .f32⟩ : BufTy).Contents (Elt Ideal))⟩,
    ⟨S1x8192x512, ((broadcastInDim S1x8192x512 ![1, 2] bcast_S8192x512_S1x8192x512_1_2
      (extractStridedSlice S8192x512 ![0, 7760] p slices_S8192x12880_S8192x512_0_7760)) : (⟨S1x8192x512, .f32⟩ : BufTy).Contents (Elt Ideal))⟩]
    concatenates_S1x8192x512_S1x8192x512_S1x8192x512_S3x8192x512_d0

/-- `stack` at an index of the queries. -/
theorem stack0 (p : FVec Ideal S8192x12880 .f32) (a : Fin 8192) (b : Fin 512) :
    stack p (ix3 0 a b) = third 0 (p (ix2 a ⟨4688 + b.val, by omega⟩)) := by
  unfold stack
  pointwise
  exact QueryRefIdeal.ProjValue.scaled _

/-- `stack` at an index of the keys. -/
theorem stack1 (p : FVec Ideal S8192x12880 .f32) (a : Fin 8192) (b : Fin 512) :
    stack p (ix3 1 a b) = third 1 (p (ix2 a ⟨6224 + b.val, by omega⟩)) := by
  unfold stack
  pointwise
  rfl

/-- `stack` at an index of the values. -/
theorem stack2 (p : FVec Ideal S8192x12880 .f32) (a : Fin 8192) (b : Fin 512) :
    stack p (ix3 2 a b) = third 2 (p (ix2 a ⟨7760 + b.val, by omega⟩)) := by
  unfold stack
  pointwise
  rfl

/-- `stack` at an index. -/
theorem stack_at (p : FVec Ideal S8192x12880 .f32) (w : Fin 3) (a : Fin 8192) (b : Fin 512) :
    stack p (ix3 w a b) = third w.val (p (ix2 a ⟨4688 + 1536 * w.val + b.val, by omega⟩)) := by
  fin_cases w
  · exact stack0 p a b
  · exact stack1 p a b
  · exact stack2 p a b

/-- The stack by remainder over 4. -/
def turned (s : FVec Ideal S3x8192x512 .f32) : FVec Ideal S3x4x2048x512 .bf16 :=
  truncf .bf16 (transpose S3x4x2048x512 [0, 2, 1, 3] (shapeCast S3x2048x4x512 s shapeCasts_S3x8192x512_S3x2048x4x512)
    transposes_S3x2048x4x512_S3x4x2048x512_0_2_1_3) bitsLt_bf16_f32

/-- `turned` at an index. -/
theorem turned_at (s : FVec Ideal S3x8192x512 .f32) (w : Fin 3) (r : Fin 4) (q : Fin 2048) (b : Fin 512) :
    turned s (ix4 w r q b) = s (ix3 w ⟨q.val * 4 + r.val, by omega⟩ b) := by
  unfold turned
  pointwise

/-- The reference's result. -/
theorem ref_eq (x : FVec Ideal S8192x2048 .bf16) (w : FVec Ideal S2048x12880 .f32) :
    turned (stack (proj x w)) = Qkv4Ideal.ProjValue.result x w := by
  funext i
  idx_vars i
  rw [turned_at, stack_at, proj_at]
  rfl

end Cert.Qkv4RefIdeal.ProjValue

namespace Cert.Qkv4Claims

/-- The kernel runs, and leaves its arguments and its semaphores. -/
theorem frame_p : Cert.quiescent_Qkv4 := fun m ρ _ => Cert.Qkv4.Gen.frame m ρ

/-- So does its idealization. -/
theorem frame_pi : Cert.quiescent_Qkv4Ideal := fun m ρ _ => Cert.Qkv4Ideal.Gen.frame m ρ

/-- So does the reference. -/
theorem frame_ri : Cert.quiescent_Qkv4RefIdeal := fun m ρ _ =>
  (θ_run Cert.Qkv4RefIdeal.defs _ _).mono (fun r h => ⟨fun c => (h c).2, sem_eq_zero_of_no_sems (by decide) r.2⟩)
    (Cert.Qkv4RefIdeal.Value.run (F := Ideal) m ρ)

/-- The named constant is the reciprocal of the product of log 2 and √128. -/
theorem preserves : Cert.preserves_Qkv4_Qkv4Ideal :=
  IdealRules.named_const.statement Cert.Qkv4Ideal.κ "query_scale" .f32 0x3E0293EE#32 (((Real.log 2 * Real.sqrt 128)⁻¹ : ℝ) : EReal) rfl

/-- Kernel and reference end with the same array. -/
theorem algebraic : Cert.algebraic_Qkv4Ideal_Qkv4RefIdeal := fun m ρ m' ρ' _ hag => by
  refine ⟨fun c => Cert.Qkv4Ideal.ProjValue.result (m (c.tc.loc Cert.Qkv4Ideal.main_arg0)) (m (c.tc.loc Cert.Qkv4Ideal.main_arg1)), ?_, ?_⟩
  · exact (θ_run Cert.Qkv4Ideal.defs _ _).mono (fun r h c => ⟨(h c).1.trans (Cert.Qkv4Ideal.ProjValue.arr4 m c), (h c).2⟩)
      (Cert.Qkv4Ideal.Value.run_blocks m ρ)
  · refine (θ_run Cert.Qkv4RefIdeal.defs _ _).mono (fun r h c => ⟨(h c).1.trans ?_, (h c).2⟩) (Cert.Qkv4RefIdeal.Value.run m' ρ')
    rw [(hag c).1, (hag c).2]
    exact Cert.Qkv4RefIdeal.ProjValue.ref_eq _ _

end Cert.Qkv4Claims
end
-- ==== Proof.Qkv16.lean ====
module

public import proofs.«01_k».proof.Defs
public import proofs.«01_k».proof.Proof.Query
public import proofs.«01_k».proof.Proof.Gen.Qkv16.Frame
public import proofs.«01_k».proof.Proof.Gen.Qkv16Ideal.Value
public import proofs.«01_k».proof.Proof.Gen.Qkv16RefIdeal.Run
public import Idealize.ShloMosaic.Lib.Pipeline.ValueKit
public import Idealize.ShloMosaic.Lib.Pointwise

@[expose] public section

/-!
# The projections of the dilated attention, every 16-th row together

Each element of the result is one product of a row of the activations and a column of the weights; a row of the result is named by its
remainder over 16 and its quotient. The first third of the result, the queries, is scaled. The body lays each product into a scratch in four
slabs of columns, and reads every 16-th row of a slab back.
-/

set_option maxRecDepth 16384
noncomputable section

open Idealize.ShloMosaic Idealize.ShloMosaic.TcCoe Idealize.SL.Sem
open Idealize.ShloMosaic.Pipeline (Dat)

namespace Cert.Qkv16Ideal.ProjValue
open Cert.Qkv16Ideal Cert.Qkv16Ideal.Gen

/-- The block that each window holds at each grid point. The weights' windows start at a row, not at a multiple of their height. -/
theorem idx : ∀ t : Fin grid0.N, win0_0.index t = ![t.val, 0] ∧ win0_1.index t = ![5200, 0] ∧ win0_2.index t = ![6736, 0]
    ∧ win0_3.index t = ![8272, 0] ∧ win0_4.index t = ![0, 0, t.val, 0] := by
  decide +kernel

/-- The projection, at a row and a column. -/
def dotAt (X : S8192x2048.Idx → EReal) (W : S2048x12880.Idx → EReal) (a : Fin 8192) (k : Fin 12880) : EReal :=
  ∑ e : Fin 2048, X (ix2 a e) * W (ix2 e k)

/-- The reciprocal of log 2 times √128. -/
def scale : EReal := (((Real.log 2 * Real.sqrt 128)⁻¹ : ℝ) : EReal)

/-- A value as the result holds it: the first third is scaled. -/
def third (w : ℕ) (v : EReal) : EReal := if w = 0 then v * scale else v

/-- The result, at an index: queries, keys and values, by remainder, quotient and column. -/
def result (X : S8192x2048.Idx → EReal) (W : S2048x12880.Idx → EReal) (i : S3x16x512x512.Idx) : EReal :=
  third (i 0).val (dotAt X W ⟨(i 2).val * 16 + (i 1).val, by
      have h1 : (i 1).val < 16 := (i 1).isLt
      have h2 : (i 2).val < 512 := (i 2).isLt
      omega⟩
    ⟨5200 + 1536 * (i 0).val + (i 3).val, by
      have h0 : (i 0).val < 3 := (i 0).isLt
      have h3 : (i 3).val < 512 := (i 3).isLt
      omega⟩)

/-- The product of the blocks of a point. -/
def acc (x : FVec Ideal S1024x2048 .bf16) (w : FVec Ideal S512x2048 .f32) : FVec Ideal S1024x512 .f32 :=
  matmul (F := Ideal) (φ₁ := .bf16) dot_S1024x2048_S512x2048_S1024x512_1_1_0_0_n_n none x (truncf .bf16 (shapeCast S512x2048 w shapeCasts_S512x2048_S512x2048)
    bitsLt_bf16_f32) (constant S1024x512 .f32 0x00000000#32)

/-- That product, at an index. -/
theorem acc_at (x : Vec Ideal S1024x2048 .bf16) (w : Vec Ideal S512x2048 .f32) (a : Fin 1024) (b : Fin 512) :
    acc x w (ix2 a b) = ∑ e, x (ix2 a e) * w (ix2 b e) := by
  pointwise [acc]

/-- That product, scaled as the queries are. -/
def scaledAcc (x : Vec Ideal S1024x2048 .bf16) (w : Vec Ideal S512x2048 .f32) : FVec Ideal S1024x512 .f32 :=
  mulf (acc x w) (broadcast S1024x512 (Named.named κ "query_scale" 0x3E0293EE#32))

/-- The scaled product, at an index. -/
theorem scaledAcc_at (x : Vec Ideal S1024x2048 .bf16) (w : Vec Ideal S512x2048 .f32) (a : Fin 1024) (b : Fin 512) :
    scaledAcc x w (ix2 a b) = acc x w (ix2 a b) * scale := by
  generalize h : acc x w = A
  unfold scaledAcc
  rw [h]
  pointwise
  rfl

variable (m : (ℓ : Loc nD τ sig) → Buf (Elt Ideal) ℓ)

/-- The result of the arguments, at a place of a grid point's block. -/
def tile (c : Dev nD) (t : Fin cfg0.N) (y : S3x16x64x512.Idx) : EReal :=
  result (m (c.tc.loc main_arg0)) (m (c.tc.loc main_arg1)) (ix4 (y 0) (y 1) ⟨t.val * 64 + (y 2).val, by
    have h : t.val < 8 := t.isLt
    have h2 : (y 2).val < 64 := (y 2).isLt
    omega⟩ (y 3))

/-- The kernel's second operand is the transpose of the weights. -/
theorem turned_at (c : Dev nD) (a : Fin 12880) (b : Fin 2048) :
    V m c main_v0 (ix2 a b) = (m (c.tc.loc main_arg1) : S2048x12880.Idx → EReal) (ix2 b a) := by
  entry_read
  pointwise

/-- The activations' block at a point. -/
theorem act_at (c : Dev nD) (t : Fin cfg0.N) (a : Fin 1024) (e : Fin 2048) :
    iblk m c 0 t (ix2 a e) = (m (c.tc.loc main_arg0) : S8192x2048.Idx → EReal)
      (ix2 ⟨t.val * 1024 + a.val, by have : t.val < 8 := t.isLt; omega⟩ e) := by
  blk_ext [iblk, V, idx t]

/-- The queries' weights at a point. -/
theorem wq_at (c : Dev nD) (t : Fin cfg0.N) (b : Fin 512) (e : Fin 2048) :
    iblk m c 1 t (ix2 b e) = (m (c.tc.loc main_arg1) : S2048x12880.Idx → EReal) (ix2 e ⟨5200 + b.val, by omega⟩) := by
  refine Eq.trans ?_ (turned_at m c _ e)
  blk_ext [iblk, idx t]
  · exact ((win0_1.rect_emb_val_off t (ix2 b e) 0).trans (congrArg (· + b.val) (congrFun (idx t).2.1 0))).trans (by simp; try omega)
  · exact ((win0_1.rect_emb_val_off t (ix2 b e) 1).trans (congrArg (· + e.val) (congrFun (idx t).2.1 1))).trans (by simp)

/-- The queries' products of blocks at a point. -/
theorem qDot (c : Dev nD) (t : Fin cfg0.N) (a : Fin 1024) (b : Fin 512) :
    acc (iblk m c 0 t) (iblk m c 1 t) (ix2 a b) = dotAt (m (c.tc.loc main_arg0)) (m (c.tc.loc main_arg1))
      ⟨t.val * 1024 + a.val, by have : t.val < 8 := t.isLt; omega⟩ ⟨5200 + b.val, by omega⟩ := by
  refine (acc_at _ _ a b).trans (Finset.sum_congr rfl fun e _ => ?_)
  exact congrArg₂ (fun p q : EReal => p * q) (act_at m c t a e) (wq_at m c t b e)

/-- The keys' weights at a point. -/
theorem wk_at (c : Dev nD) (t : Fin cfg0.N) (b : Fin 512) (e : Fin 2048) :
    iblk m c 2 t (ix2 b e) = (m (c.tc.loc main_arg1) : S2048x12880.Idx → EReal) (ix2 e ⟨6736 + b.val, by omega⟩) := by
  refine Eq.trans ?_ (turned_at m c _ e)
  blk_ext [iblk, idx t]
  · exact ((win0_2.rect_emb_val_off t (ix2 b e) 0).trans (congrArg (· + b.val) (congrFun (idx t).2.2.1 0))).trans (by simp; try omega)
  · exact ((win0_2.rect_emb_val_off t (ix2 b e) 1).trans (congrArg (· + e.val) (congrFun (idx t).2.2.1 1))).trans (by simp)

/-- The keys' products of blocks at a point. -/
theorem kDot (c : Dev nD) (t : Fin cfg0.N) (a : Fin 1024) (b : Fin 512) :
    acc (iblk m c 0 t) (iblk m c 2 t) (ix2 a b) = dotAt (m (c.tc.loc main_arg0)) (m (c.tc.loc main_arg1))
      ⟨t.val * 1024 + a.val, by have : t.val < 8 := t.isLt; omega⟩ ⟨6736 + b.val, by omega⟩ := by
  refine (acc_at _ _ a b).trans (Finset.sum_congr rfl fun e _ => ?_)
  exact congrArg₂ (fun p q : EReal => p * q) (act_at m c t a e) (wk_at m c t b e)

/-- The values' weights at a point. -/
theorem wv_at (c : Dev nD) (t : Fin cfg0.N) (b : Fin 512) (e : Fin 2048) :
    iblk m c 3 t (ix2 b e) = (m (c.tc.loc main_arg1) : S2048x12880.Idx → EReal) (ix2 e ⟨8272 + b.val, by omega⟩) := by
  refine Eq.trans ?_ (turned_at m c _ e)
  blk_ext [iblk, idx t]
  · exact ((win0_3.rect_emb_val_off t (ix2 b e) 0).trans (congrArg (· + b.val) (congrFun (idx t).2.2.2.1 0))).trans (by simp; try omega)
  · exact ((win0_3.rect_emb_val_off t (ix2 b e) 1).trans (congrArg (· + e.val) (congrFun (idx t).2.2.2.1 1))).trans (by simp)

/-- The values' products of blocks at a point. -/
theorem vDot (c : Dev nD) (t : Fin cfg0.N) (a : Fin 1024) (b : Fin 512) :
    acc (iblk m c 0 t) (iblk m c 3 t) (ix2 a b) = dotAt (m (c.tc.loc main_arg0)) (m (c.tc.loc main_arg1))
      ⟨t.val * 1024 + a.val, by have : t.val < 8 := t.isLt; omega⟩ ⟨8272 + b.val, by omega⟩ := by
  refine (acc_at _ _ a b).trans (Finset.sum_congr rfl fun e _ => ?_)
  exact congrArg₂ (fun p q : EReal => p * q) (act_at m c t a e) (wv_at m c t b e)

/-- A slab of 128 columns of a product, as the scratch holds it. -/
theorem slab_at (G : FVec Ideal S1024x512 .f32) (o : ℕ) (ho : o + 128 ≤ 512) (h : S1024x512.Slices ![0, o] S1024x128)
    (h' : S1024x128.ShapeCasts S1x1x1024x128) (i : S1x1x1024x128.Idx) :
    shapeCast S1x1x1024x128 (extractStridedSlice S1024x128 ![0, o] G h) h' i
      = G (ix2 (i 2) ⟨o + (i 3).val, by have : (i 3).val < 128 := (i 3).isLt; omega⟩) := by
  idx_vars i
  pointwise

/-- The latest of a list of stores decides where it holds the index, the earlier ones where it does not. -/
theorem latest (z : S3x4x1024x128.Idx) (v : EReal) (off size : Fin 4 → ℕ) (inb) (P : (⟨4, size⟩ : Shape).Idx → EReal)
    (L : List (Idealize.ShloMosaic.View.Piece (Elt Ideal) S3x4x1024x128 .f32))
    (hit : ∀ i : (⟨4, size⟩ : Shape).Idx, (∀ a, (z a).val = off a + (i a).val) → P i = v)
    (miss : (¬ ∀ a, off a ≤ (z a).val ∧ (z a).val < off a + size a) → View.canon L z = v) :
    View.canon (⟨Rect.unit off size inb, P⟩ :: L) z = v := by
  by_cases hz : z ∈ (Rect.unit off size inb : Rect S3x4x1024x128).set
  · obtain ⟨i, rfl⟩ := (Rect.unit off size inb : Rect S3x4x1024x128).exists_idx_of_mem hz
    refine (View.canon_cons_emb (Rect.unit off size inb) P L i).trans (hit i fun a => ?_)
    exact ((Rect.unit off size inb : Rect S3x4x1024x128).emb_apply i a).trans (by show off a + 1 * (i a).val = _; omega)
  · exact (View.canon_cons_of_not_mem _ _ hz).trans (miss fun h => hz (Rect.mem_set_unit.mpr h))

/-- Where the slabs of one third are stored last of all, the scratch holds the product they are of. -/
theorem held_at (w s : ℕ) (G : FVec Ideal S1024x512 .f32) (P0 P1 P2 P3 : (⟨4, ![1, 1, 1024, 128]⟩ : Shape).Idx → EReal) (i0 i1 i2 i3)
    (T : List (Idealize.ShloMosaic.View.Piece (Elt Ideal) S3x4x1024x128 .f32)) (z : S3x4x1024x128.Idx) (a : Fin 1024) (b : Fin 512)
    (h0 : ∀ i, P0 i = G (ix2 (i 2) ⟨0 + (i 3).val, by have : (i 3).val < 128 := (i 3).isLt; omega⟩))
    (h1 : ∀ i, P1 i = G (ix2 (i 2) ⟨128 + (i 3).val, by have : (i 3).val < 128 := (i 3).isLt; omega⟩))
    (h2 : ∀ i, P2 i = G (ix2 (i 2) ⟨256 + (i 3).val, by have : (i 3).val < 128 := (i 3).isLt; omega⟩))
    (h3 : ∀ i, P3 i = G (ix2 (i 2) ⟨384 + (i 3).val, by have : (i 3).val < 128 := (i 3).isLt; omega⟩))
    (z0 : (z 0).val = w) (z1 : (z 1).val = s) (z2 : (z 2).val = a.val) (hb : b.val = 128 * s + (z 3).val) :
    View.canon (⟨Rect.unit ![w, 3, 0, 0] ![1, 1, 1024, 128] i3, P3⟩ :: ⟨Rect.unit ![w, 2, 0, 0] ![1, 1, 1024, 128] i2, P2⟩
        :: ⟨Rect.unit ![w, 1, 0, 0] ![1, 1, 1024, 128] i1, P1⟩ :: ⟨Rect.unit ![w, 0, 0, 0] ![1, 1, 1024, 128] i0, P0⟩ :: T) z
      = G (ix2 a b) := by
  have hit : ∀ (o k : ℕ) (i : (⟨4, ![1, 1, 1024, 128]⟩ : Shape).Idx) (hi : k + (i 3).val < 512) (_ : k = 128 * o)
      (_ : ∀ k, (z k).val = ![w, o, 0, 0] k + (i k).val), G (ix2 (i 2) ⟨k + (i 3).val, hi⟩) = G (ix2 a b) := by
    intro o k i hi hk h
    have e1 : (z 1).val = o + (i 1).val := h 1
    have e2 : (z 2).val = 0 + (i 2).val := h 2
    have e3 : (z 3).val = 0 + (i 3).val := h 3
    have l1 : (i 1).val < 1 := (i 1).isLt
    exact congrArg G (congrArg₂ (ix2 (n0 := 1024) (n1 := 512)) (Fin.ext (by omega)) (Fin.ext (by show k + (i 3).val = b.val; omega)))
  have cases : ∀ o : ℕ, (¬ ∀ k, ![w, o, 0, 0] k ≤ (z k).val ∧ (z k).val < ![w, o, 0, 0] k + ![1, 1, 1024, 128] k) → s ≠ o := by
    intro o h e
    have l2 : (z 2).val < 1024 := (z 2).isLt
    have l3 : (z 3).val < 128 := (z 3).isLt
    refine h (Fin.forall_fin_succ.mpr ⟨?_, Fin.forall_fin_succ.mpr ⟨?_, Fin.forall_fin_succ.mpr ⟨?_, Fin.forall_fin_one.mpr ?_⟩⟩⟩)
    · exact ⟨z0.ge, by show (z 0).val < w + 1; omega⟩
    · exact ⟨by show o ≤ (z 1).val; omega, by show (z 1).val < o + 1; omega⟩
    · exact ⟨Nat.zero_le _, by show (z 2).val < 0 + 1024; omega⟩
    · exact ⟨Nat.zero_le _, by show (z 3).val < 0 + 128; omega⟩
  have hs : s < 4 := z1.symm.trans_lt (z 1).isLt
  refine latest z _ _ _ _ _ _ (fun i h => (h3 i).trans (hit 3 384 i _ rfl h)) fun n3 => ?_
  refine latest z _ _ _ _ _ _ (fun i h => (h2 i).trans (hit 2 256 i _ rfl h)) fun n2 => ?_
  refine latest z _ _ _ _ _ _ (fun i h => (h1 i).trans (hit 1 128 i _ rfl h)) fun n1 => ?_
  refine latest z _ _ _ _ _ _ (fun i h => (h0 i).trans (hit 0 0 i _ rfl h)) fun n0 => ?_
  exact absurd hs (by have := cases 0 n0; have := cases 1 n1; have := cases 2 n2; have := cases 3 n3; omega)

/-- A strided load, of whatever was stored, at an index. -/
theorem load_at (w s r : ℕ) (L : List (Idealize.ShloMosaic.View.Piece (Elt Ideal) S3x4x1024x128 .f32)) (inb) (x : S1x1x64x128.Idx)
    (v : EReal) (h : ∀ z : S3x4x1024x128.Idx, (z 0).val = w → (z 1).val = s → (z 2).val = r + 16 * (x 2).val → (z 3).val = (x 3).val →
      View.canon L z = v) :
    (View.whole cc0_scratch0).readCov (Val := Elt Ideal) L
      { off := ![w, s, r, 0], size := ![1, 1, 64, 128], stride := ![1, 1, 16, 1], inb := inb } x = v := by
  have l0 : (x 0).val < 1 := (x 0).isLt
  have l1 : (x 1).val < 1 := (x 1).isLt
  refine (congrFun (View.readCov_eq_canon' (View.whole cc0_scratch0) L
    { off := ![w, s, r, 0], size := ![1, 1, 64, 128], stride := ![1, 1, 16, 1], inb := inb }) x).trans (h _ ?_ ?_ ?_ ?_)
  · show w + 1 * (x 0).val = w
    omega
  · show s + 1 * (x 1).val = s
    omega
  · rfl
  · show 0 + 1 * (x 3).val = _
    omega

/-- What is stored of a load: the load. -/
theorem stored_at (R : FVec Ideal S1x1x64x128 .f32) (h : S1x1x64x128.ShapeCasts S64x128) (h') (h'' : S64x128.ShapeCasts S1x1x64x128)
    (x : S1x1x64x128.Idx) : shapeCast S1x1x64x128 (truncf .bf16 (shapeCast S64x128 R h) h') h'' x = R x := by
  idx_vars x
  obtain rfl : x0 = 0 := Subsingleton.elim _ _
  obtain rfl : x1 = 0 := Subsingleton.elim _ _
  pointwise

/-- One store of the body, at a place of its rectangle, where the product it reads from holds the result's elements. -/
theorem piece (w s r : ℕ) (G : FVec Ideal S1024x512 .f32) (c : Dev nD) (t : Fin cfg0.N) (y : S3x16x64x512.Idx)
    (hG : ∀ (a : Fin 1024) (b : Fin 512), G (ix2 a b) = third w (dotAt (m (c.tc.loc main_arg0)) (m (c.tc.loc main_arg1))
      ⟨t.val * 1024 + a.val, by have : t.val < 8 := t.isLt; omega⟩ ⟨5200 + 1536 * (y 0).val + b.val, by
        have : (y 0).val < 3 := (y 0).isLt
        omega⟩))
    (P0 P1 P2 P3 : (⟨4, ![1, 1, 1024, 128]⟩ : Shape).Idx → EReal) (i0 i1 i2 i3)
    (T : List (Idealize.ShloMosaic.View.Piece (Elt Ideal) S3x4x1024x128 .f32)) (inb) (x : S1x1x64x128.Idx)
    (p : S1x1x64x128.ShapeCasts S64x128) (p' : FTy.bf16.bits < FTy.f32.bits) (p'' : S64x128.ShapeCasts S1x1x64x128)
    (h0 : ∀ i, P0 i = G (ix2 (i 2) ⟨0 + (i 3).val, by have : (i 3).val < 128 := (i 3).isLt; omega⟩))
    (h1 : ∀ i, P1 i = G (ix2 (i 2) ⟨128 + (i 3).val, by have : (i 3).val < 128 := (i 3).isLt; omega⟩))
    (h2 : ∀ i, P2 i = G (ix2 (i 2) ⟨256 + (i 3).val, by have : (i 3).val < 128 := (i 3).isLt; omega⟩))
    (h3 : ∀ i, P3 i = G (ix2 (i 2) ⟨384 + (i 3).val, by have : (i 3).val < 128 := (i 3).isLt; omega⟩))
    (y0 : (y 0).val = w) (y1 : (y 1).val = r) (y2 : (y 2).val = (x 2).val) (y3 : (y 3).val = 128 * s + (x 3).val) :
    shapeCast S1x1x64x128 (truncf (F := Ideal) .bf16 (shapeCast S64x128 ((View.whole cc0_scratch0).readCov (Val := Elt Ideal)
      (⟨Rect.unit ![w, 3, 0, 0] ![1, 1, 1024, 128] i3, P3⟩ :: ⟨Rect.unit ![w, 2, 0, 0] ![1, 1, 1024, 128] i2, P2⟩
        :: ⟨Rect.unit ![w, 1, 0, 0] ![1, 1, 1024, 128] i1, P1⟩ :: ⟨Rect.unit ![w, 0, 0, 0] ![1, 1, 1024, 128] i0, P0⟩ :: T)
      { off := ![w, s, r, 0], size := ![1, 1, 64, 128], stride := ![1, 1, 16, 1], inb := inb } : FVec Ideal S1x1x64x128 .f32) p) p') p'' x = tile m c t y := by
  have l1 : (y 1).val < 16 := (y 1).isLt
  have l2 : (x 2).val < 64 := (x 2).isLt
  have l3 : (y 3).val < 512 := (y 3).isLt
  refine (stored_at _ _ _ _ x).trans ((load_at w s r _ inb x (G (ix2 ⟨r + 16 * (x 2).val, by omega⟩ (y 3))) fun z z0 z1 z2 z3 =>
    held_at w s G P0 P1 P2 P3 i0 i1 i2 i3 T z ⟨r + 16 * (x 2).val, by omega⟩ (y 3) h0 h1 h2 h3 z0 z1 z2 (by omega)).trans ((hG _ _).trans ?_))
  unfold tile result
  refine (congrArg (fun k => third k _) y0.symm).trans (congrArg (third _) ?_)
  refine congrArg₂ (dotAt _ _) (Fin.ext ?_) (Fin.ext ?_)
  · show t.val * 1024 + (r + 16 * (x 2).val) = (t.val * 64 + (y 2).val) * 16 + (y 1).val
    omega
  · rfl

/-- The stores of the queries. -/
theorem hq (c : Dev nD) (t : Fin cfg0.N) (y : S3x16x64x512.Idx) (y0 : (y 0).val = 0) (a : Fin 1024) (b : Fin 512) :
    scaledAcc (iblk m c 0 t) (iblk m c 1 t) (ix2 a b) = third 0 (dotAt (m (c.tc.loc main_arg0)) (m (c.tc.loc main_arg1))
      ⟨t.val * 1024 + a.val, by have : t.val < 8 := t.isLt; omega⟩ ⟨5200 + 1536 * (y 0).val + b.val, by
        have : (y 0).val < 3 := (y 0).isLt
        omega⟩) := by
  refine (scaledAcc_at _ _ a b).trans ((congrArg (· * scale) (qDot m c t a b)).trans ?_)
  exact (if_pos rfl).symm.trans (congrArg (fun k => third 0 (dotAt _ _ _ k)) (Fin.ext (by show 5200 + b.val = 5200 + 1536 * (y 0).val + b.val; omega)))

/-- The stores of the keys. -/
theorem hk (c : Dev nD) (t : Fin cfg0.N) (y : S3x16x64x512.Idx) (y0 : (y 0).val = 1) (a : Fin 1024) (b : Fin 512) :
    acc (iblk m c 0 t) (iblk m c 2 t) (ix2 a b) = third 1 (dotAt (m (c.tc.loc main_arg0)) (m (c.tc.loc main_arg1))
      ⟨t.val * 1024 + a.val, by have : t.val < 8 := t.isLt; omega⟩ ⟨5200 + 1536 * (y 0).val + b.val, by
        have : (y 0).val < 3 := (y 0).isLt
        omega⟩) := by
  refine (kDot m c t a b).trans ?_
  exact (if_neg (by decide)).symm.trans (congrArg (fun k => third 1 (dotAt _ _ _ k)) (Fin.ext (by show 6736 + b.val = 5200 + 1536 * (y 0).val + b.val; omega)))

/-- The stores of the values. -/
theorem hv (c : Dev nD) (t : Fin cfg0.N) (y : S3x16x64x512.Idx) (y0 : (y 0).val = 2) (a : Fin 1024) (b : Fin 512) :
    acc (iblk m c 0 t) (iblk m c 3 t) (ix2 a b) = third 2 (dotAt (m (c.tc.loc main_arg0)) (m (c.tc.loc main_arg1))
      ⟨t.val * 1024 + a.val, by have : t.val < 8 := t.isLt; omega⟩ ⟨5200 + 1536 * (y 0).val + b.val, by
        have : (y 0).val < 3 := (y 0).isLt
        omega⟩) := by
  refine (vDot m c t a b).trans ?_
  exact (if_neg (by decide)).symm.trans (congrArg (fun k => third 2 (dotAt _ _ _ k)) (Fin.ext (by show 8272 + b.val = 5200 + 1536 * (y 0).val + b.val; omega)))

set_option maxHeartbeats 8000000 in
/-- The result after the run. -/
theorem arr4 (c : Dev nD) : (dats m 0 c).arrAt 4 cfg0.N = result (m (c.tc.loc main_arg0)) (m (c.tc.loc main_arg1)) := by
  refine (dats m 0 c).arrAt_eq_of_covers 4 _ (by decide +kernel) fun t hf y => ?_
  blk_simp
  rw [after0_4]
  refine Eq.trans (b := tile m c t y) ?_ (congrArg (result _ _) ?_)
  · unfold outsAt0
    frame_out
    canon_tiles x h
    all_goals
      first
      | (have e : (y 0).val = 0 := by omega); exact piece m 0 _ _ _ c t y (hq m c t y e) _ _ _ _ _ _ _ _ _ _ x _ _ _ (slab_at (scaledAcc (iblk m c 0 t) (iblk m c 1 t)) 0 (by decide) slices_S1024x512_o0_0_S1024x128 shapeCasts_S1024x128_S1x1x1024x128) (slab_at (scaledAcc (iblk m c 0 t) (iblk m c 1 t)) 128 (by decide) slices_S1024x512_o0_128_S1024x128 shapeCasts_S1024x128_S1x1x1024x128) (slab_at (scaledAcc (iblk m c 0 t) (iblk m c 1 t)) 256 (by decide) slices_S1024x512_o0_256_S1024x128 shapeCasts_S1024x128_S1x1x1024x128) (slab_at (scaledAcc (iblk m c 0 t) (iblk m c 1 t)) 384 (by decide) slices_S1024x512_o0_384_S1024x128 shapeCasts_S1024x128_S1x1x1024x128) e (by omega) (by omega) (by omega)
      | (have e : (y 0).val = 1 := by omega); exact piece m 1 _ _ _ c t y (hk m c t y e) _ _ _ _ _ _ _ _ _ _ x _ _ _ (slab_at (acc (iblk m c 0 t) (iblk m c 2 t)) 0 (by decide) slices_S1024x512_o0_0_S1024x128 shapeCasts_S1024x128_S1x1x1024x128) (slab_at (acc (iblk m c 0 t) (iblk m c 2 t)) 128 (by decide) slices_S1024x512_o0_128_S1024x128 shapeCasts_S1024x128_S1x1x1024x128) (slab_at (acc (iblk m c 0 t) (iblk m c 2 t)) 256 (by decide) slices_S1024x512_o0_256_S1024x128 shapeCasts_S1024x128_S1x1x1024x128) (slab_at (acc (iblk m c 0 t) (iblk m c 2 t)) 384 (by decide) slices_S1024x512_o0_384_S1024x128 shapeCasts_S1024x128_S1x1x1024x128) e (by omega) (by omega) (by omega)
      | (have e : (y 0).val = 2 := by omega); exact piece m 2 _ _ _ c t y (hv m c t y e) _ _ _ _ _ _ _ _ _ _ x _ _ _ (slab_at (acc (iblk m c 0 t) (iblk m c 3 t)) 0 (by decide) slices_S1024x512_o0_0_S1024x128 shapeCasts_S1024x128_S1x1x1024x128) (slab_at (acc (iblk m c 0 t) (iblk m c 3 t)) 128 (by decide) slices_S1024x512_o0_128_S1024x128 shapeCasts_S1024x128_S1x1x1024x128) (slab_at (acc (iblk m c 0 t) (iblk m c 3 t)) 256 (by decide) slices_S1024x512_o0_256_S1024x128 shapeCasts_S1024x128_S1x1x1024x128) (slab_at (acc (iblk m c 0 t) (iblk m c 3 t)) 384 (by decide) slices_S1024x512_o0_384_S1024x128 shapeCasts_S1024x128_S1x1x1024x128) e (by omega) (by omega) (by omega)
  · blk_ext [idx t]

end Cert.Qkv16Ideal.ProjValue

namespace Cert.Qkv16RefIdeal.ProjValue
open Cert.Qkv16RefIdeal Cert.Qkv16RefIdeal.Gen
open Cert.Qkv16Ideal.ProjValue (dotAt third scale)

/-- The reference's projection. -/
def proj (x : FVec Ideal S8192x2048 .bf16) (w : FVec Ideal S2048x12880 .f32) : FVec Ideal S8192x12880 .f32 :=
  Host.dotGeneral (F := Ideal) dot_S8192x2048_S2048x12880_S8192x12880_1_0_0_1_n_n none (extf .f32 x bitsLt_bf16_f32) w

/-- The reference's projection, at an index. -/
theorem proj_at (x : FVec Ideal S8192x2048 .bf16) (w : FVec Ideal S2048x12880 .f32) (a : Fin 8192) (b : Fin 12880) :
    proj x w (ix2 a b) = dotAt x w a b := by
  unfold proj dotAt
  pointwise

/-- The queries', the keys' and the values' columns of the projection, the first scaled. -/
def stack (p : FVec Ideal S8192x12880 .f32) : FVec Ideal S3x8192x512 .f32 :=
  concatenate S3x8192x512 0 [⟨S1x8192x512, ((broadcastInDim S1x8192x512 ![1, 2] bcast_S8192x512_S1x8192x512_1_2
      (Host.divf (Host.divf (extractStridedSlice S8192x512 ![0, 5200] p slices_S8192x12880_S8192x512_0_5200)
        (broadcastInDim S8192x512 ![] bcast_S_S8192x512 (Host.sqrt (constant S_ .f32 0x43000000#32))))
        (broadcastInDim S8192x512 ![] bcast_S_S8192x512 (Host.log (constant S_ .f32 0x40000000#32))))) : (⟨S1x8192x512, .f32⟩ : BufTy).Contents (Elt Ideal))⟩,
    ⟨S1x8192x512, ((broadcastInDim S1x8192x512 ![1, 2] bcast_S8192x512_S1x8192x512_1_2
      (extractStridedSlice S8192x512 ![0, 6736] p slices_S8192x12880_S8192x512_0_6736)) : (⟨S1x8192x512, .f32⟩ : BufTy).Contents (Elt Ideal))⟩,
    ⟨S1x8192x512, ((broadcastInDim S1x8192x512 ![1, 2] bcast_S8192x512_S1x8192x512_1_2
      (extractStridedSlice S8192x512 ![0, 8272] p slices_S8192x12880_S8192x512_0_8272)) : (⟨S1x8192x512, .f32⟩ : BufTy).Contents (Elt Ideal))⟩]
    concatenates_S1x8192x512_S1x8192x512_S1x8192x512_S3x8192x512_d0

/-- `stack` at an index of the queries. -/
theorem stack0 (p : FVec Ideal S8192x12880 .f32) (a : Fin 8192) (b : Fin 512) :
    stack p (ix3 0 a b) = third 0 (p (ix2 a ⟨5200 + b.val, by omega⟩)) := by
  unfold stack
  pointwise
  exact QueryRefIdeal.ProjValue.scaled _

/-- `stack` at an index of the keys. -/
theorem stack1 (p : FVec Ideal S8192x12880 .f32) (a : Fin 8192) (b : Fin 512) :
    stack p (ix3 1 a b) = third 1 (p (ix2 a ⟨6736 + b.val, by omega⟩)) := by
  unfold stack
  pointwise
  rfl

/-- `stack` at an index of the values. -/
theorem stack2 (p : FVec Ideal S8192x12880 .f32) (a : Fin 8192) (b : Fin 512) :
    stack p (ix3 2 a b) = third 2 (p (ix2 a ⟨8272 + b.val, by omega⟩)) := by
  unfold stack
  pointwise
  rfl

/-- `stack` at an index. -/
theorem stack_at (p : FVec Ideal S8192x12880 .f32) (w : Fin 3) (a : Fin 8192) (b : Fin 512) :
    stack p (ix3 w a b) = third w.val (p (ix2 a ⟨5200 + 1536 * w.val + b.val, by omega⟩)) := by
  fin_cases w
  · exact stack0 p a b
  · exact stack1 p a b
  · exact stack2 p a b

/-- The stack by remainder over 16. -/
def turned (s : FVec Ideal S3x8192x512 .f32) : FVec Ideal S3x16x512x512 .bf16 :=
  truncf .bf16 (transpose S3x16x512x512 [0, 2, 1, 3] (shapeCast S3x512x16x512 s shapeCasts_S3x8192x512_S3x512x16x512)
    transposes_S3x512x16x512_S3x16x512x512_0_2_1_3) bitsLt_bf16_f32

/-- `turned` at an index. -/
theorem turned_at (s : FVec Ideal S3x8192x512 .f32) (w : Fin 3) (r : Fin 16) (q : Fin 512) (b : Fin 512) :
    turned s (ix4 w r q b) = s (ix3 w ⟨q.val * 16 + r.val, by omega⟩ b) := by
  unfold turned
  pointwise

/-- The reference's result. -/
theorem ref_eq (x : FVec Ideal S8192x2048 .bf16) (w : FVec Ideal S2048x12880 .f32) :
    turned (stack (proj x w)) = Qkv16Ideal.ProjValue.result x w := by
  funext i
  idx_vars i
  rw [turned_at, stack_at, proj_at]
  rfl

end Cert.Qkv16RefIdeal.ProjValue

namespace Cert.Qkv16Claims

/-- The kernel runs, and leaves its arguments and its semaphores. -/
theorem frame_p : Cert.quiescent_Qkv16 := fun m ρ _ => Cert.Qkv16.Gen.frame m ρ

/-- So does its idealization. -/
theorem frame_pi : Cert.quiescent_Qkv16Ideal := fun m ρ _ => Cert.Qkv16Ideal.Gen.frame m ρ

/-- So does the reference. -/
theorem frame_ri : Cert.quiescent_Qkv16RefIdeal := fun m ρ _ =>
  (θ_run Cert.Qkv16RefIdeal.defs _ _).mono (fun r h => ⟨fun c => (h c).2, sem_eq_zero_of_no_sems (by decide) r.2⟩)
    (Cert.Qkv16RefIdeal.Value.run (F := Ideal) m ρ)

/-- The named constant is the reciprocal of the product of log 2 and √128. -/
theorem preserves : Cert.preserves_Qkv16_Qkv16Ideal :=
  IdealRules.named_const.statement Cert.Qkv16Ideal.κ "query_scale" .f32 0x3E0293EE#32 (((Real.log 2 * Real.sqrt 128)⁻¹ : ℝ) : EReal) rfl

/-- Kernel and reference end with the same array. -/
theorem algebraic : Cert.algebraic_Qkv16Ideal_Qkv16RefIdeal := fun m ρ m' ρ' _ hag => by
  refine ⟨fun c => Cert.Qkv16Ideal.ProjValue.result (m (c.tc.loc Cert.Qkv16Ideal.main_arg0)) (m (c.tc.loc Cert.Qkv16Ideal.main_arg1)), ?_, ?_⟩
  · exact (θ_run Cert.Qkv16Ideal.defs _ _).mono (fun r h c => ⟨(h c).1.trans (Cert.Qkv16Ideal.ProjValue.arr4 m c), (h c).2⟩)
      (Cert.Qkv16Ideal.Value.run_blocks m ρ)
  · refine (θ_run Cert.Qkv16RefIdeal.defs _ _).mono (fun r h c => ⟨(h c).1.trans ?_, (h c).2⟩) (Cert.Qkv16RefIdeal.Value.run m' ρ')
    rw [(hag c).1, (hag c).2]
    exact Cert.Qkv16RefIdeal.ProjValue.ref_eq _ _

end Cert.Qkv16Claims
end
-- ==== Proof.MergeMix.lean ====
module

public import proofs.«01_k».proof.Proof.Softmax
public import Idealize.ShloMosaic.Lib.Pointwise

@[expose] public section

/-!
# Three results weighed by powers of two, and by powers of e

Each of three results comes with the logarithm of its mass. The kernel takes that logarithm in base two, the reference in base e.
-/

noncomputable section

open Idealize.ShloMosaic

namespace Cert.MergeIdeal.MixValue
open Cert.DilIdeal.AttValue (ln2 ln2_pos pow_two log_two bits_bot)

/-- The weighted sum of three results, with weights from powers of two. -/
def mix (l1 l2 l3 o1 o2 o3 : EReal) : EReal :=
  let e (l : EReal) := Ideal.exp2 (l - max (max l1 l2) l3)
  let s := e l1 + e l2 + e l3
  Ideal.div (e l1) s * o1 + Ideal.div (e l2) s * o2 + Ideal.div (e l3) s * o3

/-- The weighted sum of three results, with weights from exponentials, the first operand in units of log 2. -/
def mixE (l o : Fin 3 → EReal) : EReal :=
  let M := Finset.univ.fold max (Ideal.ofBits .f32 0xFF800000#32) fun j => l j * Ideal.log (Ideal.ofBits .f32 0x40000000#32)
  let e (i : Fin 3) := Ideal.exp (l i * Ideal.log (Ideal.ofBits .f32 0x40000000#32) - M)
  ∑ i, Ideal.div (e i) (∑ j, e j) * o i

/-- A power of two is an exponential, of any extended real. -/
theorem exp2_eq (x : EReal) : Ideal.exp2 x = Ideal.exp (x * ((ln2 : ℝ) : EReal)) := by
  induction x using EReal.rec with
  | bot => rw [EReal.bot_mul_coe_of_pos ln2_pos]; rfl
  | top => rw [EReal.top_mul_coe_of_pos ln2_pos]; rfl
  | coe r => rw [Ideal.exp2_coe, ← EReal.coe_mul, Ideal.exp_coe, pow_two, mul_comm]

/-- A positive factor moves into a difference. -/
theorem sub_mul_ln2 (x y : EReal) : (x - y) * ((ln2 : ℝ) : EReal) = x * ((ln2 : ℝ) : EReal) - y * ((ln2 : ℝ) : EReal) := by
  have h := EReal.left_distrib_of_nonneg_of_ne_top (EReal.coe_nonneg.2 ln2_pos.le) (EReal.coe_ne_top ln2) x (-y)
  rw [sub_eq_add_neg, sub_eq_add_neg, mul_comm, h, mul_neg, mul_comm x, mul_comm y]

/-- A positive factor moves into a maximum. -/
theorem max_mul_ln2 (x y : EReal) : max x y * ((ln2 : ℝ) : EReal) = max (x * ((ln2 : ℝ) : EReal)) (y * ((ln2 : ℝ) : EReal)) := by
  have hmono : Monotone fun z : EReal => z * ((ln2 : ℝ) : EReal) := fun a b hab =>
    mul_le_mul_of_nonneg_right hab (EReal.coe_nonneg.2 ln2_pos.le)
  exact hmono.map_max

/-- The two weighted sums are one. -/
theorem mixE_eq (l o : Fin 3 → EReal) : mixE l o = mix (l 0) (l 1) (l 2) (o 0) (o 1) (o 2) := by
  have hM : (Finset.univ.fold max (Ideal.ofBits .f32 0xFF800000#32) fun j => l j * ((ln2 : ℝ) : EReal))
      = max (max (l 0) (l 1)) (l 2) * ((ln2 : ℝ) : EReal) := by
    rw [max_mul_ln2, max_mul_ln2, show Ideal.ofBits .f32 0xFF800000#32 = ⊥ from bits_bot]
    refine le_antisymm (Finset.fold_max_le _ |>.2 ⟨bot_le, fun j _ => ?_⟩) (max_le (max_le ?_ ?_) ?_)
    · fin_cases j
      · exact (le_max_left _ _).trans (le_max_left _ _)
      · exact (le_max_right _ _).trans (le_max_left _ _)
      · exact le_max_right _ _
    · exact (Finset.le_fold_max _).2 (Or.inr ⟨0, Finset.mem_univ _, le_rfl⟩)
    · exact (Finset.le_fold_max _).2 (Or.inr ⟨1, Finset.mem_univ _, le_rfl⟩)
    · exact (Finset.le_fold_max _).2 (Or.inr ⟨2, Finset.mem_univ _, le_rfl⟩)
  have hl : Ideal.log (Ideal.ofBits .f32 0x40000000#32) = ((ln2 : ℝ) : EReal) := log_two
  unfold mixE mix
  simp only [hl, hM, ← sub_mul_ln2, ← exp2_eq, Fin.sum_univ_three]

end Cert.MergeIdeal.MixValue
end
-- ==== Proof.MergeTile.lean ====
module

public import proofs.«01_k».proof.Defs
public import proofs.«01_k».proof.Proof.MergeMix
public import proofs.«01_k».proof.Proof.Down
public import proofs.«01_k».proof.Proof.Gen.Merge.Frame
public import proofs.«01_k».proof.Proof.Gen.MergeIdeal.Value
public import proofs.«01_k».proof.Proof.Gen.MergeRefIdeal.Run
public import Idealize.ShloMosaic.Lib.Pipeline.ValueKit
public import Idealize.ShloMosaic.Lib.Pointwise

@[expose] public section

/-!
# The merge of the attention results, and the first layer norm

The dilated attention's three results come with their rows ordered by remainder; the body stores them into a scratch at every 4-th and
16-th row and reads the rows back in order. It weighs the three by their masses, multiplies with the output weights, gates, adds the
residual and normalises.
-/

set_option maxRecDepth 16384
noncomputable section

open Idealize.ShloMosaic Idealize.ShloMosaic.TcCoe Idealize.SL.Sem
open Idealize.ShloMosaic.Pipeline (Dat)

namespace Cert.MergeIdeal.MixValue
open Cert.MergeIdeal Cert.MergeIdeal.Gen
open Cert.DownIdeal.NormValue (norm)

/-- The block that each window holds at each grid point. -/
theorem idx : ∀ t : Fin grid0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![t.val, 0] ∧ win0_8.index t = ![t.val, 1] ∧ win0_9.index t = ![t.val, 0] ∧ win0_10.index t = ![0, 0]
    ∧ win0_11.index t = ![0, 0] ∧ win0_12.index t = ![0, 0] ∧ win0_13.index t = ![0, 0] ∧ win0_14.index t = ![0, 0]
    ∧ win0_15.index t = ![t.val, 0] ∧ win0_16.index t = ![t.val, 0] := by
  decide +kernel

/-! ## What the result is -/

/-- A row of an array whose rows are ordered by remainder over 4. -/
def by4 (x : S4x2048x512.Idx → EReal) (R : Fin 8192) (k : Fin 512) : EReal := x (ix3 ⟨R.val % 4, by omega⟩ ⟨R.val / 4, by omega⟩ k)

/-- A row of an array whose rows are ordered by remainder over 16. -/
def by16 (x : S16x512x512.Idx → EReal) (R : Fin 8192) (k : Fin 512) : EReal := x (ix3 ⟨R.val % 16, by omega⟩ ⟨R.val / 16, by omega⟩ k)

/-- The weighed dilated attention, at a row and a column. -/
def mixAt (o1 l1 : S1x8192x512.Idx → EReal) (o2 l2 : S4x2048x512.Idx → EReal) (o3 l3 : S16x512x512.Idx → EReal) (R : Fin 8192) (k : Fin 512) : EReal :=
  mix (l1 (ix3 0 R k)) (by4 l2 R k) (by16 l3 R k) (o1 (ix3 0 R k)) (by4 o2 R k) (by16 o3 R k)

/-- The two gated products, at a row and a column. -/
def gatedAt (ob : Fin 8192 → Fin 512 → EReal) (oa : S8192x1024.Idx → EReal) (ga : S8192x4096.Idx → EReal) (wa : S1024x2048.Idx → EReal)
    (wb : S512x2048.Idx → EReal) (R : Fin 8192) (n : Fin 2048) : EReal :=
  ga (ix2 R ⟨n.val, by omega⟩) * (∑ e : Fin 1024, oa (ix2 R e) * wa (ix2 e n))
    + ga (ix2 R ⟨2048 + n.val, by omega⟩) * (∑ e : Fin 512, ob R e * wb (ix2 e n))

/-- A row before the norm. -/
def pre (gm : Fin 8192 → Fin 2048 → EReal) (x2 : S8192x2048.Idx → EReal) (wo : S2048x2048.Idx → EReal) (R : Fin 8192) (k : Fin 2048) : EReal :=
  Ideal.ofBits .f32 0x3F9837F0#32 * x2 (ix2 R k) + ∑ n : Fin 2048, gm R n * wo (ix2 n k)

/-- The result, at an index. -/
def result (oa : S8192x1024.Idx → EReal) (o1 l1 : S1x8192x512.Idx → EReal) (o2 l2 : S4x2048x512.Idx → EReal) (o3 l3 : S16x512x512.Idx → EReal)
    (ga : S8192x4096.Idx → EReal) (x2 : S8192x2048.Idx → EReal) (wa : S1024x2048.Idx → EReal) (wb : S512x2048.Idx → EReal)
    (wo : S2048x2048.Idx → EReal) (g b : S2048.Idx → EReal) (i : S8192x2048.Idx) : EReal :=
  norm (pre (gatedAt (mixAt o1 l1 o2 l2 o3 l3) oa ga wa wb) x2 wo (i 0)) (g (ix1 (i 1))) (b (ix1 (i 1))) (i 1)

/-! ## The body's arithmetic -/

/-- The weighed slab, at an index. -/
theorem slab_at (o1 l1 o2 l2 o3 l3 : FVec Ideal S256x128 .f32) (a : Fin 256) (j : Fin 128) :
    k0_pay209 o1 l1 o2 l2 o3 l3 (ix2 a j)
      = mix (l1 (ix2 a j)) (l2 (ix2 a j)) (l3 (ix2 a j)) (o1 (ix2 a j)) (o2 (ix2 a j)) (o3 (ix2 a j)) := by
  pointwise [k0_pay209]
  rfl

/-- Four slabs side by side. -/
def wide (s0 s1 s2 s3 : FVec Ideal S256x128 .f32) : FVec Ideal S256x512 .f32 :=
  concatenate S256x512 1 [⟨S256x128, s0⟩, ⟨S256x128, s1⟩, ⟨S256x128, s2⟩, ⟨S256x128, s3⟩] concatenates_S256x128_S256x128_S256x128_S256x128_S256x512_d1

/-- Four slabs side by side, at an index. -/
theorem wide_at (s0 s1 s2 s3 : FVec Ideal S256x128 .f32) (f : Fin 512 → EReal) (a : Fin 256) (e : Fin 512)
    (h0 : ∀ j : Fin 128, s0 (ix2 a j) = f ⟨128 * 0 + j.val, by omega⟩) (h1 : ∀ j : Fin 128, s1 (ix2 a j) = f ⟨128 * 1 + j.val, by omega⟩)
    (h2 : ∀ j : Fin 128, s2 (ix2 a j) = f ⟨128 * 2 + j.val, by omega⟩) (h3 : ∀ j : Fin 128, s3 (ix2 a j) = f ⟨128 * 3 + j.val, by omega⟩) :
    wide s0 s1 s2 s3 (ix2 a e) = f e := by
  unfold wide
  pointwise
  split_ifs
  all_goals first
    | exact (h0 _).trans (congrArg f (Fin.ext (by dsimp only; omega)))
    | exact (h1 _).trans (congrArg f (Fin.ext (by dsimp only; omega)))
    | exact (h2 _).trans (congrArg f (Fin.ext (by dsimp only; omega)))
    | exact (h3 _).trans (congrArg f (Fin.ext (by dsimp only; omega)))

/-- The rows before the norm, from the weighed attention. -/
def rows (w : FVec Ideal S256x512 .f32) (oa : FVec Ideal S256x1024 .bf16) (wa : FVec Ideal S1024x2048 .bf16) (wb : FVec Ideal S512x2048 .bf16)
    (ga gb : FVec Ideal S256x2048 .f32) (wo : FVec Ideal S2048x2048 .bf16) (x2 : FVec Ideal S256x2048 .f32) : FVec Ideal S256x2048 .f32 :=
  addf (mulf (broadcast S256x2048 (Scalar.ofBits .f32 0x3F9837F0#32)) x2)
    (matmul (F := Ideal) (φ₁ := .bf16) dot_S256x2048_S2048x2048_S256x2048_1_0_0_1_n_n none
      (truncf .bf16 (addf
        (mulf ga (matmul (F := Ideal) (φ₁ := .bf16) dot_S256x1024_S1024x2048_S256x2048_1_0_0_1_n_n none oa
          (shapeCast S1024x2048 wa shapeCasts_S1024x2048_S1024x2048) (constant S256x2048 .f32 0x00000000#32)))
        (mulf gb (matmul (F := Ideal) (φ₁ := .bf16) dot_S256x512_S512x2048_S256x2048_1_0_0_1_n_n none (truncf .bf16 w bitsLt_bf16_f32)
          (shapeCast S512x2048 wb shapeCasts_S512x2048_S512x2048) (constant S256x2048 .f32 0x00000000#32)))) bitsLt_bf16_f32)
      (shapeCast S2048x2048 wo shapeCasts_S2048x2048_S2048x2048) (constant S256x2048 .f32 0x00000000#32))

/-- The rows before the norm, at an index. -/
theorem rows_at (w : FVec Ideal S256x512 .f32) (oa : FVec Ideal S256x1024 .bf16) (wa : FVec Ideal S1024x2048 .bf16) (wb : FVec Ideal S512x2048 .bf16)
    (ga gb : FVec Ideal S256x2048 .f32) (wo : FVec Ideal S2048x2048 .bf16) (x2 : FVec Ideal S256x2048 .f32) (a : Fin 256) (k : Fin 2048) :
    rows w oa wa wb ga gb wo x2 (ix2 a k) = Ideal.ofBits .f32 0x3F9837F0#32 * x2 (ix2 a k)
      + ∑ n : Fin 2048, (ga (ix2 a n) * (∑ e : Fin 1024, oa (ix2 a e) * wa (ix2 e n)) + gb (ix2 a n) * (∑ e : Fin 512, w (ix2 a e) * wb (ix2 e n)))
        * wo (ix2 n k) := by
  unfold rows
  pointwise

/-- The normalised rows. -/
def normed (x : FVec Ideal S256x2048 .f32) (g b : FVec Ideal S1x2048 .f32) : FVec Ideal S256x2048 .f32 :=
  k0_pay1 (k0_pay220 x (k0_pay217 g) (shapeCast S256x1 (multiReduction .add [1] S256 x 0x00000000#32 reduces_S256x2048_S256 (.inl rfl) rfl) shapeCasts_S256_S256x1))
    (k0_pay221 (k0_pay218 b))

/-- The normalised rows, at an index. -/
theorem normed_at (x : FVec Ideal S256x2048 .f32) (g b : FVec Ideal S1x2048 .f32) (a : Fin 256) (k : Fin 2048) :
    normed x g b (ix2 a k) = norm (fun e => x (ix2 a e)) (g (ix2 0 k)) (b (ix2 0 k)) k := by
  unfold normed
  pointwise [k0_pay1, k0_pay220, k0_pay217, k0_pay221, k0_pay218]
  rfl

/-- What a step stores, from the slabs it reads. -/
theorem stored_eq (a0 a1 a2 a3 b0 b1 b2 b3 c0 c1 c2 c3 d0 d1 d2 d3 e0 e1 e2 e3 f1 f2 f3 : FVec Ideal S256x128 .f32) (r0 : FVec Ideal S1x1x256x128 .f32)
    (oa : FVec Ideal S256x1024 .bf16) (wa : FVec Ideal S1024x2048 .bf16) (wb : FVec Ideal S512x2048 .bf16)
    (ga gb : FVec Ideal S256x2048 .f32) (wo : FVec Ideal S2048x2048 .bf16) (x2 : FVec Ideal S256x2048 .f32) (g b : FVec Ideal S1x2048 .f32) :
    k0_pay1 (k0_pay220 (k0_pay216 a3 c3 e3
        (k0_pay208 a0 c0 d0 e0 (shapeCast S256x128 r0 shapeCasts_S1x1x256x128_S256x128) (k0_pay206 b0 d0 r0) (k0_pay207 b0 d0 r0))
        (k0_pay209 a1 b1 c1 d1 e1 f1) (k0_pay210 a2 b2 c2 d2 e2 f2) (k0_pay212 b3 d3 f3) (k0_pay213 b3 d3 f3) (k0_pay214 b3 d3 f3)
        (k0_pay215 b3 d3 f3) oa wa wb ga gb wo x2) (k0_pay217 g)
      (k0_pay219 a3 c3 e3
        (k0_pay208 a0 c0 d0 e0 (shapeCast S256x128 r0 shapeCasts_S1x1x256x128_S256x128) (k0_pay206 b0 d0 r0) (k0_pay207 b0 d0 r0))
        (k0_pay209 a1 b1 c1 d1 e1 f1) (k0_pay210 a2 b2 c2 d2 e2 f2) (k0_pay212 b3 d3 f3) (k0_pay213 b3 d3 f3) (k0_pay214 b3 d3 f3)
        (k0_pay215 b3 d3 f3) oa wa wb ga gb wo x2)) (k0_pay221 (k0_pay218 b))
      = normed (rows (wide (k0_pay209 a0 b0 c0 d0 e0 (shapeCast S256x128 r0 shapeCasts_S1x1x256x128_S256x128)) (k0_pay209 a1 b1 c1 d1 e1 f1)
          (k0_pay209 a2 b2 c2 d2 e2 f2) (k0_pay209 a3 b3 c3 d3 e3 f3)) oa wa wb ga gb wo x2) g b := rfl

/-! ## The scratch -/

/-- The latest of a list of stores decides where it holds the index, the earlier ones where it does not. -/
theorem latestAny (w : Rect S6x4x256x128) (P : w.shape.Idx → EReal) (L : List (Idealize.ShloMosaic.View.Piece (Elt Ideal) S6x4x256x128 .f32))
    (z : S6x4x256x128.Idx) (v : EReal) (hit : ∀ i : w.shape.Idx, (∀ a, (z a).val = w.off a + w.stride a * (i a).val) → P i = v)
    (miss : ¬ (∀ a, ∃ j < w.size a, (z a).val = w.off a + w.stride a * j) → View.canon L z = v) : View.canon (⟨w, P⟩ :: L) z = v := by
  by_cases hz : z ∈ w.set
  · obtain ⟨i, rfl⟩ := w.exists_idx_of_mem hz
    exact (View.canon_cons_emb w P L i).trans (hit i fun a => w.emb_apply i a)
  · exact (View.canon_cons_of_not_mem _ _ hz).trans (miss fun h => hz (w.mem_set.mpr h))

/-- The same for a strided store, its places spelled out. -/
theorem latest (z : S6x4x256x128.Idx) (v : EReal) (s c r d n : ℕ) (inb pos) (P : (⟨4, ![1, 1, n, 128]⟩ : Shape).Idx → EReal)
    (L : List (Idealize.ShloMosaic.View.Piece (Elt Ideal) S6x4x256x128 .f32)) (hn : 256 = d * n)
    (hit : ∀ i : (⟨4, ![1, 1, n, 128]⟩ : Shape).Idx, (z 1).val = c → (z 2).val = r + d * (i 2).val → (z 3).val = (i 3).val → P i = v)
    (miss : ¬ ((z 0).val = s ∧ (z 1).val = c ∧ (z 2).val % d = r) → View.canon L z = v) :
    View.canon (⟨{ off := ![s, c, r, 0], size := ![1, 1, n, 128], stride := ![1, 1, d, 1], inb := inb, stride_pos := pos }, P⟩ :: L) z = v := by
  refine latestAny { off := ![s, c, r, 0], size := ![1, 1, n, 128], stride := ![1, 1, d, 1], inb := inb, stride_pos := pos } P L z v (fun i h => hit i ?_ (h 2) ?_) fun h => miss fun g => h ?_
  · have l : (i 1).val < 1 := (i 1).isLt
    have e : (z 1).val = c + 1 * (i 1).val := h 1
    omega
  · have e : (z 3).val = 0 + 1 * (i 3).val := h 3
    omega
  · have l2 : (z 2).val < 256 := (z 2).isLt
    refine Fin.forall_fin_succ.mpr ⟨⟨0, Nat.one_pos, g.1⟩, Fin.forall_fin_succ.mpr ⟨⟨0, Nat.one_pos, g.2.1⟩, Fin.forall_fin_succ.mpr
      ⟨⟨(z 2).val / d, ?_, ?_⟩, Fin.forall_fin_one.mpr ⟨(z 3).val, (z 3).isLt, ?_⟩⟩⟩⟩
    · exact Nat.div_lt_of_lt_mul (hn ▸ l2)
    · show (z 2).val = r + d * ((z 2).val / d)
      rw [← g.2.2]
      exact (Nat.mod_add_div _ _).symm
    · show (z 3).val = 0 + 1 * (z 3).val
      omega

/-- The number of the store that decides about an index, among the stores of one block at every `d`-th row. -/
def number (d : ℕ) (z : S6x4x256x128.Idx) : ℕ := 4 * ((z 2).val % d) + (z 1).val

/-- What the scratch holds of a block with remainders over 4. -/
def held4 (x : S4x64x512.Idx → EReal) (z : S6x4x256x128.Idx) : EReal :=
  x (ix3 ⟨(z 2).val % 4, by omega⟩ ⟨(z 2).val / 4, by have : (z 2).val < 256 := (z 2).isLt; omega⟩
    ⟨128 * (z 1).val + (z 3).val, by have h1 : (z 1).val < 4 := (z 1).isLt; have h3 : (z 3).val < 128 := (z 3).isLt; omega⟩)

/-- A strip, whatever it is, as it is stored. -/
theorem cast4 (Y : FVec Ideal S1x64x128 .f32) (h : S1x64x128.ShapeCasts S64x128) (h' : S64x128.ShapeCasts S1x1x64x128) (i : S1x1x64x128.Idx) :
    shapeCast S1x1x64x128 (shapeCast S64x128 Y h) h' i = Y (ix3 0 (i 2) (i 3)) := by
  idx_vars i
  obtain rfl : i0 = 0 := Subsingleton.elim _ _
  obtain rfl : i1 = 0 := Subsingleton.elim _ _
  pointwise

/-- A strip of a block with remainders over 4, as it is stored. -/
theorem strip4 (x : FVec Ideal S4x64x512 .f32) (r o : ℕ) (hr : r < 4) (ho : o + 128 ≤ 512) (inb) (h : S1x64x128.ShapeCasts S64x128) (h' : S64x128.ShapeCasts S1x1x64x128)
    (i : S1x1x64x128.Idx) : shapeCast S1x1x64x128 (shapeCast S64x128 (View.ld (Val := Elt Ideal) (e' := .f32) (S := S4x64x512) x (Rect.unit (s := S4x64x512) ![r, 0, o] ![1, 64, 128] inb) : FVec Ideal S1x64x128 .f32) h) h' i
      = x (ix3 ⟨r, hr⟩ (i 2) ⟨o + (i 3).val, by have : (i 3).val < 128 := (i 3).isLt; omega⟩) := by
  refine (cast4 _ h h' i).trans ?_
  refine congrArg x (funext fun q => Fin.ext ?_)
  fin_cases q
  · show r + 1 * 0 = r; omega
  · show 0 + 1 * (i 2).val = (i 2).val; omega
  · show o + 1 * (i 3).val = o + (i 3).val; omega

/-- One more store of such a block on top of a list of stores. -/
theorem step4 (x : FVec Ideal S4x64x512 .f32) (z : S6x4x256x128.Idx) (s c r o : ℕ) (hs : (z 0).val = s) (hr : r < 4) (hc : c < 4)
    (hz : number 4 z < 4 * r + c + 1) (inb pos)
    (inb' : ∀ a : Fin 3, ![r, 0, o] a + ![1, 64, 128] a ≤ S4x64x512.size a) (h : S1x64x128.ShapeCasts S64x128) (h' : S64x128.ShapeCasts S1x1x64x128)
    (L : List (Idealize.ShloMosaic.View.Piece (Elt Ideal) S6x4x256x128 .f32)) (ho : o = 128 * c)
    (rest : number 4 z < 4 * r + c → View.canon L z = held4 x z) :
    View.canon (⟨{ off := ![s, c, r, 0], size := ![1, 1, 64, 128], stride := ![1, 1, 4, 1], inb := inb, stride_pos := pos },
      (shapeCast S1x1x64x128 (shapeCast S64x128 (View.ld (Val := Elt Ideal) (e' := .f32) (S := S4x64x512) x (Rect.unit (s := S4x64x512) ![r, 0, o] ![1, 64, 128] inb') : FVec Ideal S1x64x128 .f32) h : FVec Ideal S64x128 .f32) h' : FVec Ideal S1x1x64x128 .f32)⟩ :: L) z
      = held4 x z := by
  refine latest z _ s c r 4 64 inb pos _ L (by decide) (fun i h1 h2 h3 => ?_) fun hm => ?_
  · refine (strip4 x r o hr (by omega) inb' h h' i).trans ?_
    have l3 : (i 3).val < 128 := (i 3).isLt
    have l2 : (i 2).val < 64 := (i 2).isLt
    unfold held4
    refine congrArg x ?_
    refine congr (congr (congrArg (ix3 (n0 := 4) (n1 := 64) (n2 := 512)) (Fin.ext ?_)) (Fin.ext ?_)) (Fin.ext ?_)
    · show r = (z 2).val % 4
      omega
    · show (i 2).val = (z 2).val / 4
      omega
    · show o + (i 3).val = 128 * (z 1).val + (z 3).val
      omega
  · refine rest ?_
    have l1 : (z 1).val < 4 := (z 1).isLt
    have hne : ¬ ((z 1).val = c ∧ (z 2).val % 4 = r) := fun q => hm ⟨hs, q⟩
    unfold number at hz ⊢
    omega

/-- There is no store before the first of a block. -/
theorem first4 (x : FVec Ideal S4x64x512 .f32) (z : S6x4x256x128.Idx) (hz : number 4 z < 4 * 0 + 0)
    (L : List (Idealize.ShloMosaic.View.Piece (Elt Ideal) S6x4x256x128 .f32)) : View.canon L z = held4 x z := absurd hz (Nat.not_lt_zero _)

/-- An index's number is below the number of stores. -/
theorem number4 (z : S6x4x256x128.Idx) : number 4 z < 4 * 3 + 3 + 1 := by
  have l1 : (z 1).val < 4 := (z 1).isLt
  unfold number
  omega

/-- What the scratch holds of a block with remainders over 16. -/
def held16 (x : S16x16x512.Idx → EReal) (z : S6x4x256x128.Idx) : EReal :=
  x (ix3 ⟨(z 2).val % 16, by omega⟩ ⟨(z 2).val / 16, by have : (z 2).val < 256 := (z 2).isLt; omega⟩
    ⟨128 * (z 1).val + (z 3).val, by have h1 : (z 1).val < 4 := (z 1).isLt; have h3 : (z 3).val < 128 := (z 3).isLt; omega⟩)

/-- A strip, whatever it is, as it is stored. -/
theorem cast16 (Y : FVec Ideal S1x16x128 .f32) (h : S1x16x128.ShapeCasts S16x128) (h' : S16x128.ShapeCasts S1x1x16x128) (i : S1x1x16x128.Idx) :
    shapeCast S1x1x16x128 (shapeCast S16x128 Y h) h' i = Y (ix3 0 (i 2) (i 3)) := by
  idx_vars i
  obtain rfl : i0 = 0 := Subsingleton.elim _ _
  obtain rfl : i1 = 0 := Subsingleton.elim _ _
  pointwise

/-- A strip of a block with remainders over 16, as it is stored. -/
theorem strip16 (x : FVec Ideal S16x16x512 .f32) (r o : ℕ) (hr : r < 16) (ho : o + 128 ≤ 512) (inb) (h : S1x16x128.ShapeCasts S16x128) (h' : S16x128.ShapeCasts S1x1x16x128)
    (i : S1x1x16x128.Idx) : shapeCast S1x1x16x128 (shapeCast S16x128 (View.ld (Val := Elt Ideal) (e' := .f32) (S := S16x16x512) x (Rect.unit (s := S16x16x512) ![r, 0, o] ![1, 16, 128] inb) : FVec Ideal S1x16x128 .f32) h) h' i
      = x (ix3 ⟨r, hr⟩ (i 2) ⟨o + (i 3).val, by have : (i 3).val < 128 := (i 3).isLt; omega⟩) := by
  refine (cast16 _ h h' i).trans ?_
  refine congrArg x (funext fun q => Fin.ext ?_)
  fin_cases q
  · show r + 1 * 0 = r; omega
  · show 0 + 1 * (i 2).val = (i 2).val; omega
  · show o + 1 * (i 3).val = o + (i 3).val; omega

/-- One more store of such a block on top of a list of stores. -/
theorem step16 (x : FVec Ideal S16x16x512 .f32) (z : S6x4x256x128.Idx) (s c r o : ℕ) (hs : (z 0).val = s) (hr : r < 16) (hc : c < 4)
    (hz : number 16 z < 4 * r + c + 1) (inb pos)
    (inb' : ∀ a : Fin 3, ![r, 0, o] a + ![1, 16, 128] a ≤ S16x16x512.size a) (h : S1x16x128.ShapeCasts S16x128) (h' : S16x128.ShapeCasts S1x1x16x128)
    (L : List (Idealize.ShloMosaic.View.Piece (Elt Ideal) S6x4x256x128 .f32)) (ho : o = 128 * c)
    (rest : number 16 z < 4 * r + c → View.canon L z = held16 x z) :
    View.canon (⟨{ off := ![s, c, r, 0], size := ![1, 1, 16, 128], stride := ![1, 1, 16, 1], inb := inb, stride_pos := pos },
      (shapeCast S1x1x16x128 (shapeCast S16x128 (View.ld (Val := Elt Ideal) (e' := .f32) (S := S16x16x512) x (Rect.unit (s := S16x16x512) ![r, 0, o] ![1, 16, 128] inb') : FVec Ideal S1x16x128 .f32) h : FVec Ideal S16x128 .f32) h' : FVec Ideal S1x1x16x128 .f32)⟩ :: L) z
      = held16 x z := by
  refine latest z _ s c r 16 16 inb pos _ L (by decide) (fun i h1 h2 h3 => ?_) fun hm => ?_
  · refine (strip16 x r o hr (by omega) inb' h h' i).trans ?_
    have l3 : (i 3).val < 128 := (i 3).isLt
    have l2 : (i 2).val < 16 := (i 2).isLt
    unfold held16
    refine congrArg x ?_
    refine congr (congr (congrArg (ix3 (n0 := 16) (n1 := 16) (n2 := 512)) (Fin.ext ?_)) (Fin.ext ?_)) (Fin.ext ?_)
    · show r = (z 2).val % 16
      omega
    · show (i 2).val = (z 2).val / 16
      omega
    · show o + (i 3).val = 128 * (z 1).val + (z 3).val
      omega
  · refine rest ?_
    have l1 : (z 1).val < 4 := (z 1).isLt
    have hne : ¬ ((z 1).val = c ∧ (z 2).val % 16 = r) := fun q => hm ⟨hs, q⟩
    unfold number at hz ⊢
    omega

/-- There is no store before the first of a block. -/
theorem first16 (x : FVec Ideal S16x16x512 .f32) (z : S6x4x256x128.Idx) (hz : number 16 z < 4 * 0 + 0)
    (L : List (Idealize.ShloMosaic.View.Piece (Elt Ideal) S6x4x256x128 .f32)) : View.canon L z = held16 x z := absurd hz (Nat.not_lt_zero _)

/-- An index's number is below the number of stores. -/
theorem number16 (z : S6x4x256x128.Idx) : number 16 z < 4 * 15 + 3 + 1 := by
  have l1 : (z 1).val < 4 := (z 1).isLt
  unfold number
  omega

/-- A slab of the scratch, read back, at an index. -/
theorem slab_read (s c : ℕ) (L : List (Idealize.ShloMosaic.View.Piece (Elt Ideal) S6x4x256x128 .f32)) (inb) (h : S1x1x256x128.ShapeCasts S256x128)
    (a : Fin 256) (j : Fin 128) (v : EReal) (hv : ∀ z : S6x4x256x128.Idx, (z 0).val = s → (z 1).val = c → (z 2).val = a.val → (z 3).val = j.val →
      View.canon L z = v) :
    shapeCast S256x128 ((View.whole cc0_scratch0).readCov (Val := Elt Ideal) L (Rect.unit (s := S6x4x256x128) ![s, c, 0, 0] ![1, 1, 256, 128] inb).toLoadRect : FVec Ideal S1x1x256x128 .f32) h
      (ix2 a j) = v := by
  have e : ∀ R : FVec Ideal S1x1x256x128 .f32, shapeCast S256x128 R h (ix2 a j) = R (ix4 0 0 a j) := fun R => by pointwise
  refine (e _).trans ((congrFun (View.readCov_eq_canon' (View.whole cc0_scratch0) L
    (Rect.unit (s := S6x4x256x128) ![s, c, 0, 0] ![1, 1, 256, 128] inb).toLoadRect) (ix4 0 0 a j)).trans (hv _ ?_ ?_ ?_ ?_))
  · show s + 1 * 0 = s
    omega
  · show c + 1 * 0 = c
    omega
  · show 0 + 1 * a.val = a.val
    omega
  · show 0 + 1 * j.val = j.val
    omega

/-- A slab of a block in natural order, read, at an index. -/
theorem slab_load (x : FVec Ideal S1x256x512 .f32) (o : ℕ) (ho : o + 128 ≤ 512) (inb) (h : S1x256x128.ShapeCasts S256x128) (a : Fin 256) (j : Fin 128) :
    shapeCast S256x128 (View.ld (Val := Elt Ideal) (e' := .f32) (S := S1x256x512) x (Rect.unit (s := S1x256x512) ![0, 0, o] ![1, 256, 128] inb) : FVec Ideal S1x256x128 .f32) h (ix2 a j) = x (ix3 0 a ⟨o + j.val, by omega⟩) := by
  have e : ∀ Y : FVec Ideal S1x256x128 .f32, shapeCast S256x128 Y h (ix2 a j) = Y (ix3 0 a j) := fun Y => by pointwise
  refine (e _).trans ?_
  refine congrArg x (funext fun q => Fin.ext ?_)
  fin_cases q
  · rfl
  · show 0 + 1 * a.val = a.val; omega
  · show o + 1 * j.val = o + j.val; omega

/-! ## The blocks -/

variable (m : (ℓ : Loc nD τ sig) → Buf (Elt Ideal) ℓ)

/-- The row of the whole array that is row `a` of a point's blocks. -/
def row (t : Fin cfg0.N) (a : Fin 256) : Fin 8192 := ⟨t.val * 256 + a.val, by have : t.val < 32 := t.isLt; omega⟩

/-- The sparse attention block at a point. -/
theorem blk0 (c : Dev nD) (t : Fin cfg0.N) (a : Fin 256) (e : Fin 1024) :
    iblk m c 0 t (ix2 a e) = (m (c.tc.loc main_arg0) : S8192x1024.Idx → EReal) (ix2 (row t a) e) := by
  blk_ext [iblk, V, idx t, row]

/-- The first result's block at a point. -/
theorem blk1 (c : Dev nD) (t : Fin cfg0.N) (a : Fin 256) (k : Fin 512) :
    iblk m c 1 t (ix3 0 a k) = (m (c.tc.loc main_arg1) : S1x8192x512.Idx → EReal) (ix3 0 (row t a) k) := by
  blk_ext [iblk, V, idx t, row]

/-- The first masses' block at a point. -/
theorem blk4 (c : Dev nD) (t : Fin cfg0.N) (a : Fin 256) (k : Fin 512) :
    iblk m c 4 t (ix3 0 a k) = (m (c.tc.loc main_arg2) : S1x8192x512.Idx → EReal) (ix3 0 (row t a) k) := by
  blk_ext [iblk, V, idx t, row]

/-- The second result's block at a point. -/
theorem blk2 (c : Dev nD) (t : Fin cfg0.N) (r : Fin 4) (q : Fin 64) (k : Fin 512) :
    iblk m c 2 t (ix3 r q k) = (m (c.tc.loc main_arg3) : S4x2048x512.Idx → EReal) (ix3 r ⟨t.val * 64 + q.val, by have : t.val < 32 := t.isLt; omega⟩ k) := by
  blk_ext [iblk, V, idx t, row]

/-- The second masses' block at a point. -/
theorem blk5 (c : Dev nD) (t : Fin cfg0.N) (r : Fin 4) (q : Fin 64) (k : Fin 512) :
    iblk m c 5 t (ix3 r q k) = (m (c.tc.loc main_arg4) : S4x2048x512.Idx → EReal) (ix3 r ⟨t.val * 64 + q.val, by have : t.val < 32 := t.isLt; omega⟩ k) := by
  blk_ext [iblk, V, idx t, row]

/-- The third result's block at a point. -/
theorem blk3 (c : Dev nD) (t : Fin cfg0.N) (r q : Fin 16) (k : Fin 512) :
    iblk m c 3 t (ix3 r q k) = (m (c.tc.loc main_arg5) : S16x512x512.Idx → EReal) (ix3 r ⟨t.val * 16 + q.val, by have : t.val < 32 := t.isLt; omega⟩ k) := by
  blk_ext [iblk, V, idx t, row]

/-- The third masses' block at a point. -/
theorem blk6 (c : Dev nD) (t : Fin cfg0.N) (r q : Fin 16) (k : Fin 512) :
    iblk m c 6 t (ix3 r q k) = (m (c.tc.loc main_arg6) : S16x512x512.Idx → EReal) (ix3 r ⟨t.val * 16 + q.val, by have : t.val < 32 := t.isLt; omega⟩ k) := by
  blk_ext [iblk, V, idx t, row]

/-- The first gates' block at a point. -/
theorem blk7 (c : Dev nD) (t : Fin cfg0.N) (a : Fin 256) (n : Fin 2048) :
    iblk m c 7 t (ix2 a n) = (m (c.tc.loc main_arg7) : S8192x4096.Idx → EReal) (ix2 (row t a) ⟨n.val, by omega⟩) := by
  blk_ext [iblk, V, idx t, row]

/-- The second gates' block at a point. -/
theorem blk8 (c : Dev nD) (t : Fin cfg0.N) (a : Fin 256) (n : Fin 2048) :
    iblk m c 8 t (ix2 a n) = (m (c.tc.loc main_arg7) : S8192x4096.Idx → EReal) (ix2 (row t a) ⟨2048 + n.val, by omega⟩) := by
  blk_ext [iblk, V, idx t, row]

/-- The residual's block at a point. -/
theorem blk9 (c : Dev nD) (t : Fin cfg0.N) (a : Fin 256) (n : Fin 2048) :
    iblk m c 9 t (ix2 a n) = (m (c.tc.loc main_arg8) : S8192x2048.Idx → EReal) (ix2 (row t a) n) := by
  blk_ext [iblk, V, idx t, row]

/-- A host operand is the first weights cast. -/
theorem host10 (c : Dev nD) (a : Fin 1024) (n : Fin 2048) : V m c main_v0 (ix2 a n) = (m (c.tc.loc main_arg9) : S1024x2048.Idx → EReal) (ix2 a n) := by
  entry_read
  pointwise

/-- Its block at any point. -/
theorem blk10 (c : Dev nD) (t : Fin cfg0.N) (a : Fin 1024) (n : Fin 2048) :
    iblk m c 10 t (ix2 a n) = (m (c.tc.loc main_arg9) : S1024x2048.Idx → EReal) (ix2 a n) := by
  refine Eq.trans ?_ (host10 m c a n)
  blk_ext [iblk, idx t]

/-- A host operand is the second weights cast. -/
theorem host11 (c : Dev nD) (a : Fin 512) (n : Fin 2048) : V m c main_v1 (ix2 a n) = (m (c.tc.loc main_arg10) : S512x2048.Idx → EReal) (ix2 a n) := by
  entry_read
  pointwise

/-- Its block at any point. -/
theorem blk11 (c : Dev nD) (t : Fin cfg0.N) (a : Fin 512) (n : Fin 2048) :
    iblk m c 11 t (ix2 a n) = (m (c.tc.loc main_arg10) : S512x2048.Idx → EReal) (ix2 a n) := by
  refine Eq.trans ?_ (host11 m c a n)
  blk_ext [iblk, idx t]

/-- A host operand is the output weights cast. -/
theorem host12 (c : Dev nD) (a n : Fin 2048) : V m c main_v2 (ix2 a n) = (m (c.tc.loc main_arg11) : S2048x2048.Idx → EReal) (ix2 a n) := by
  entry_read
  pointwise

/-- Its block at any point. -/
theorem blk12 (c : Dev nD) (t : Fin cfg0.N) (a n : Fin 2048) :
    iblk m c 12 t (ix2 a n) = (m (c.tc.loc main_arg11) : S2048x2048.Idx → EReal) (ix2 a n) := by
  refine Eq.trans ?_ (host12 m c a n)
  blk_ext [iblk, idx t]

/-- A host operand is the scale as one row. -/
theorem host13 (c : Dev nD) (n : Fin 2048) : V m c main_v3 (ix2 0 n) = (m (c.tc.loc main_arg12) : S2048.Idx → EReal) (ix1 n) := by
  entry_read
  pointwise

/-- Its block at any point. -/
theorem blk13 (c : Dev nD) (t : Fin cfg0.N) (n : Fin 2048) :
    iblk m c 13 t (ix2 0 n) = (m (c.tc.loc main_arg12) : S2048.Idx → EReal) (ix1 n) := by
  refine Eq.trans ?_ (host13 m c n)
  blk_ext [iblk, idx t]

/-- A host operand is the shift as one row. -/
theorem host14 (c : Dev nD) (n : Fin 2048) : V m c main_v4 (ix2 0 n) = (m (c.tc.loc main_arg13) : S2048.Idx → EReal) (ix1 n) := by
  entry_read
  pointwise

/-- Its block at any point. -/
theorem blk14 (c : Dev nD) (t : Fin cfg0.N) (n : Fin 2048) :
    iblk m c 14 t (ix2 0 n) = (m (c.tc.loc main_arg13) : S2048.Idx → EReal) (ix1 n) := by
  refine Eq.trans ?_ (host14 m c n)
  blk_ext [iblk, idx t]

/-- The arguments' result. -/
def resultOf (c : Dev nD) : S8192x2048.Idx → EReal :=
  result (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12)) (m (c.tc.loc main_arg13))

/-- The arguments' weighed dilated attention. -/
def mixOf (c : Dev nD) : Fin 8192 → Fin 512 → EReal :=
  mixAt (m (c.tc.loc main_arg1)) (m (c.tc.loc main_arg2)) (m (c.tc.loc main_arg3)) (m (c.tc.loc main_arg4))
    (m (c.tc.loc main_arg5)) (m (c.tc.loc main_arg6))

/-- A weighed slab of a point, from what its six operands hold. -/
theorem slab_eq (c : Dev nD) (t : Fin cfg0.N) (a : Fin 256) (j : Fin 128) (k : Fin 512) (o1 l1 o2 l2 o3 l3 : FVec Ideal S256x128 .f32)
    (h1 : o1 (ix2 a j) = (m (c.tc.loc main_arg1) : S1x8192x512.Idx → EReal) (ix3 0 (row t a) k))
    (g1 : l1 (ix2 a j) = (m (c.tc.loc main_arg2) : S1x8192x512.Idx → EReal) (ix3 0 (row t a) k))
    (h2 : o2 (ix2 a j) = by4 (m (c.tc.loc main_arg3)) (row t a) k) (g2 : l2 (ix2 a j) = by4 (m (c.tc.loc main_arg4)) (row t a) k)
    (h3 : o3 (ix2 a j) = by16 (m (c.tc.loc main_arg5)) (row t a) k) (g3 : l3 (ix2 a j) = by16 (m (c.tc.loc main_arg6)) (row t a) k) :
    k0_pay209 o1 l1 o2 l2 o3 l3 (ix2 a j) = mixOf m c (row t a) k := by
  rw [slab_at, h1, h2, h3, g1, g2, g3]
  rfl

/-- What a step stores, at an index, from the slabs. -/
theorem tile_eq (c : Dev nD) (t : Fin cfg0.N) (a : Fin 256) (k : Fin 2048) (s0 s1 s2 s3 : FVec Ideal S256x128 .f32)
    (h0 : ∀ j : Fin 128, s0 (ix2 a j) = mixOf m c (row t a) ⟨128 * 0 + j.val, by omega⟩)
    (h1 : ∀ j : Fin 128, s1 (ix2 a j) = mixOf m c (row t a) ⟨128 * 1 + j.val, by omega⟩)
    (h2 : ∀ j : Fin 128, s2 (ix2 a j) = mixOf m c (row t a) ⟨128 * 2 + j.val, by omega⟩)
    (h3 : ∀ j : Fin 128, s3 (ix2 a j) = mixOf m c (row t a) ⟨128 * 3 + j.val, by omega⟩) :
    normed (rows (wide s0 s1 s2 s3) (iblk m c 0 t) (iblk m c 10 t) (iblk m c 11 t) (iblk m c 7 t) (iblk m c 8 t) (iblk m c 12 t) (iblk m c 9 t))
      (iblk m c 13 t) (iblk m c 14 t) (ix2 a k) = resultOf m c (ix2 (row t a) k) := by
  refine (normed_at _ _ _ a k).trans ?_
  have hr : ∀ e : Fin 2048, rows (wide s0 s1 s2 s3) (iblk m c 0 t) (iblk m c 10 t) (iblk m c 11 t) (iblk m c 7 t) (iblk m c 8 t) (iblk m c 12 t)
      (iblk m c 9 t) (ix2 a e) = pre (gatedAt (mixOf m c) (m (c.tc.loc main_arg0)) (m (c.tc.loc main_arg7)) (m (c.tc.loc main_arg9))
        (m (c.tc.loc main_arg10))) (m (c.tc.loc main_arg8)) (m (c.tc.loc main_arg11)) (row t a) e := by
    intro e
    refine (rows_at _ _ _ _ _ _ _ _ a e).trans ?_
    refine congrArg₂ (fun p q : EReal => p + q) (congrArg (fun q : EReal => Ideal.ofBits .f32 0x3F9837F0#32 * q) (blk9 m c t a e))
      (Finset.sum_congr rfl fun n _ => ?_)
    refine congrArg₂ (fun p q : EReal => p * q) ?_ (blk12 m c t n e)
    refine congrArg₂ (fun p q : EReal => p + q) ?_ ?_
    · refine congrArg₂ (fun p q : EReal => p * q) (blk7 m c t a n) (Finset.sum_congr rfl fun i _ => ?_)
      exact congrArg₂ (fun p q : EReal => p * q) (blk0 m c t a i) (blk10 m c t i n)
    · refine congrArg₂ (fun p q : EReal => p * q) (blk8 m c t a n) (Finset.sum_congr rfl fun i _ => ?_)
      exact congrArg₂ (fun p q : EReal => p * q) (wide_at s0 s1 s2 s3 (mixOf m c (row t a)) a i h0 h1 h2 h3) (blk11 m c t i n)
  simp only [hr]
  exact congrArg₂ (fun p q : EReal => norm _ p q k) (blk13 m c t k) (blk14 m c t k)

/-- What the scratch holds of the block is the array's row. -/
theorem held_blk2 (c : Dev nD) (t : Fin cfg0.N) (a : Fin 256) (k : Fin 512) (z : S6x4x256x128.Idx) (h2 : (z 2).val = a.val)
    (h3 : k.val = 128 * (z 1).val + (z 3).val) : held4 (iblk m c 2 t) z = by4 (m (c.tc.loc main_arg3)) (row t a) k := by
  refine (blk2 m c t _ _ _).trans ?_
  have ht : t.val < 32 := t.isLt
  unfold by4
  refine congrArg (m (c.tc.loc main_arg3) : S4x2048x512.Idx → EReal) ?_
  refine congr (congr (congrArg (ix3 (n0 := 4) (n1 := 2048) (n2 := 512)) (Fin.ext ?_)) (Fin.ext ?_)) (Fin.ext ?_)
  · show (z 2).val % 4 = (t.val * 256 + a.val) % 4
    omega
  · show t.val * 64 + (z 2).val / 4 = (t.val * 256 + a.val) / 4
    omega
  · exact h3.symm

/-- What the scratch holds of the block is the array's row. -/
theorem held_blk5 (c : Dev nD) (t : Fin cfg0.N) (a : Fin 256) (k : Fin 512) (z : S6x4x256x128.Idx) (h2 : (z 2).val = a.val)
    (h3 : k.val = 128 * (z 1).val + (z 3).val) : held4 (iblk m c 5 t) z = by4 (m (c.tc.loc main_arg4)) (row t a) k := by
  refine (blk5 m c t _ _ _).trans ?_
  have ht : t.val < 32 := t.isLt
  unfold by4
  refine congrArg (m (c.tc.loc main_arg4) : S4x2048x512.Idx → EReal) ?_
  refine congr (congr (congrArg (ix3 (n0 := 4) (n1 := 2048) (n2 := 512)) (Fin.ext ?_)) (Fin.ext ?_)) (Fin.ext ?_)
  · show (z 2).val % 4 = (t.val * 256 + a.val) % 4
    omega
  · show t.val * 64 + (z 2).val / 4 = (t.val * 256 + a.val) / 4
    omega
  · exact h3.symm

/-- What the scratch holds of the block is the array's row. -/
theorem held_blk3 (c : Dev nD) (t : Fin cfg0.N) (a : Fin 256) (k : Fin 512) (z : S6x4x256x128.Idx) (h2 : (z 2).val = a.val)
    (h3 : k.val = 128 * (z 1).val + (z 3).val) : held16 (iblk m c 3 t) z = by16 (m (c.tc.loc main_arg5)) (row t a) k := by
  refine (blk3 m c t _ _ _).trans ?_
  have ht : t.val < 32 := t.isLt
  unfold by16
  refine congrArg (m (c.tc.loc main_arg5) : S16x512x512.Idx → EReal) ?_
  refine congr (congr (congrArg (ix3 (n0 := 16) (n1 := 512) (n2 := 512)) (Fin.ext ?_)) (Fin.ext ?_)) (Fin.ext ?_)
  · show (z 2).val % 16 = (t.val * 256 + a.val) % 16
    omega
  · show t.val * 16 + (z 2).val / 16 = (t.val * 256 + a.val) / 16
    omega
  · exact h3.symm

/-- What the scratch holds of the block is the array's row. -/
theorem held_blk6 (c : Dev nD) (t : Fin cfg0.N) (a : Fin 256) (k : Fin 512) (z : S6x4x256x128.Idx) (h2 : (z 2).val = a.val)
    (h3 : k.val = 128 * (z 1).val + (z 3).val) : held16 (iblk m c 6 t) z = by16 (m (c.tc.loc main_arg6)) (row t a) k := by
  refine (blk6 m c t _ _ _).trans ?_
  have ht : t.val < 32 := t.isLt
  unfold by16
  refine congrArg (m (c.tc.loc main_arg6) : S16x512x512.Idx → EReal) ?_
  refine congr (congr (congrArg (ix3 (n0 := 16) (n1 := 512) (n2 := 512)) (Fin.ext ?_)) (Fin.ext ?_)) (Fin.ext ?_)
  · show (z 2).val % 16 = (t.val * 256 + a.val) % 16
    omega
  · show t.val * 16 + (z 2).val / 16 = (t.val * 256 + a.val) / 16
    omega
  · exact h3.symm

end Cert.MergeIdeal.MixValue
end
-- ==== Proof.MergeOut.lean ====
module

public import proofs.«01_k».proof.Proof.MergeTile

@[expose] public section

/-!
# What a step of the merge leaves

The stores and loads of the scratch, one after another.
-/

set_option maxRecDepth 16384
noncomputable section

open Idealize.ShloMosaic Idealize.ShloMosaic.TcCoe Idealize.SL.Sem
open Idealize.ShloMosaic.Pipeline (Dat)

namespace Cert.MergeIdeal.MixValue
open Cert.MergeIdeal Cert.MergeIdeal.Gen
open Cert.DownIdeal.NormValue (norm)

variable (m : (ℓ : Loc nD τ sig) → Buf (Elt Ideal) ℓ)

set_option maxHeartbeats 16000000 in
/-- What a step leaves in its first result's block. -/
theorem out15 (c : Dev nD) (t : Fin cfg0.N) (a : Fin 256) (k : Fin 2048) :
    (outsAt0 m c t).1 (ix2 a k) = resultOf m c (ix2 (row t a) k) := by
  unfold outsAt0
  dsimp only
  frame_out
  refine (congrFun (stored_eq ..) (ix2 a k)).trans ?_
  refine tile_eq m c t a k _ _ _ _ (fun j => slab_eq m c t a j _ _ _ _ _ _ _ ?_ ?_ ?_ ?_ ?_ ?_) (fun j => slab_eq m c t a j _ _ _ _ _ _ _ ?_ ?_ ?_ ?_ ?_ ?_)
    (fun j => slab_eq m c t a j _ _ _ _ _ _ _ ?_ ?_ ?_ ?_ ?_ ?_) (fun j => slab_eq m c t a j _ _ _ _ _ _ _ ?_ ?_ ?_ ?_ ?_ ?_)
  · exact (slab_load _ 0 (by decide) _ _ a j).trans (blk1 m c t a _)
  · exact (slab_load _ 0 (by decide) _ _ a j).trans (blk4 m c t a _)
  · refine slab_read 2 0 _ _ _ a j _ fun z h0 h1 h2 h3 => Eq.trans ?_ (held_blk2 m c t a _ z h2 (by dsimp only; omega))
    have hz := number4 z
    iterate 16 refine step4 _ z _ _ _ _ h0 (by decide) (by decide) (by exact hz) _ _ _ _ _ _ rfl fun hz => ?_
    exact first4 _ z hz _
  · refine slab_read 3 0 _ _ _ a j _ fun z h0 h1 h2 h3 => Eq.trans ?_ (held_blk5 m c t a _ z h2 (by dsimp only; omega))
    have hz := number4 z
    iterate 16 refine step4 _ z _ _ _ _ h0 (by decide) (by decide) (by exact hz) _ _ _ _ _ _ rfl fun hz => ?_
    exact first4 _ z hz _
  · refine slab_read 4 0 _ _ _ a j _ fun z h0 h1 h2 h3 => Eq.trans ?_ (held_blk3 m c t a _ z h2 (by dsimp only; omega))
    have hz := number16 z
    iterate 64 refine step16 _ z _ _ _ _ h0 (by decide) (by decide) (by exact hz) _ _ _ _ _ _ rfl fun hz => ?_
    exact first16 _ z hz _
  · refine slab_read 5 0 _ _ _ a j _ fun z h0 h1 h2 h3 => Eq.trans ?_ (held_blk6 m c t a _ z h2 (by dsimp only; omega))
    have hz := number16 z
    iterate 64 refine step16 _ z _ _ _ _ h0 (by decide) (by decide) (by exact hz) _ _ _ _ _ _ rfl fun hz => ?_
    exact first16 _ z hz _
  · exact (slab_load _ 128 (by decide) _ _ a j).trans (blk1 m c t a _)
  · exact (slab_load _ 128 (by decide) _ _ a j).trans (blk4 m c t a _)
  · refine slab_read 2 1 _ _ _ a j _ fun z h0 h1 h2 h3 => Eq.trans ?_ (held_blk2 m c t a _ z h2 (by dsimp only; omega))
    have hz := number4 z
    iterate 16 refine step4 _ z _ _ _ _ h0 (by decide) (by decide) (by exact hz) _ _ _ _ _ _ rfl fun hz => ?_
    exact first4 _ z hz _
  · refine slab_read 3 1 _ _ _ a j _ fun z h0 h1 h2 h3 => Eq.trans ?_ (held_blk5 m c t a _ z h2 (by dsimp only; omega))
    have hz := number4 z
    iterate 16 refine step4 _ z _ _ _ _ h0 (by decide) (by decide) (by exact hz) _ _ _ _ _ _ rfl fun hz => ?_
    exact first4 _ z hz _
  · refine slab_read 4 1 _ _ _ a j _ fun z h0 h1 h2 h3 => Eq.trans ?_ (held_blk3 m c t a _ z h2 (by dsimp only; omega))
    have hz := number16 z
    iterate 64 refine step16 _ z _ _ _ _ h0 (by decide) (by decide) (by exact hz) _ _ _ _ _ _ rfl fun hz => ?_
    exact first16 _ z hz _
  · refine slab_read 5 1 _ _ _ a j _ fun z h0 h1 h2 h3 => Eq.trans ?_ (held_blk6 m c t a _ z h2 (by dsimp only; omega))
    have hz := number16 z
    iterate 64 refine step16 _ z _ _ _ _ h0 (by decide) (by decide) (by exact hz) _ _ _ _ _ _ rfl fun hz => ?_
    exact first16 _ z hz _
  · exact (slab_load _ 256 (by decide) _ _ a j).trans (blk1 m c t a _)
  · exact (slab_load _ 256 (by decide) _ _ a j).trans (blk4 m c t a _)
  · refine slab_read 2 2 _ _ _ a j _ fun z h0 h1 h2 h3 => Eq.trans ?_ (held_blk2 m c t a _ z h2 (by dsimp only; omega))
    have hz := number4 z
    iterate 16 refine step4 _ z _ _ _ _ h0 (by decide) (by decide) (by exact hz) _ _ _ _ _ _ rfl fun hz => ?_
    exact first4 _ z hz _
  · refine slab_read 3 2 _ _ _ a j _ fun z h0 h1 h2 h3 => Eq.trans ?_ (held_blk5 m c t a _ z h2 (by dsimp only; omega))
    have hz := number4 z
    iterate 16 refine step4 _ z _ _ _ _ h0 (by decide) (by decide) (by exact hz) _ _ _ _ _ _ rfl fun hz => ?_
    exact first4 _ z hz _
  · refine slab_read 4 2 _ _ _ a j _ fun z h0 h1 h2 h3 => Eq.trans ?_ (held_blk3 m c t a _ z h2 (by dsimp only; omega))
    have hz := number16 z
    iterate 64 refine step16 _ z _ _ _ _ h0 (by decide) (by decide) (by exact hz) _ _ _ _ _ _ rfl fun hz => ?_
    exact first16 _ z hz _
  · refine slab_read 5 2 _ _ _ a j _ fun z h0 h1 h2 h3 => Eq.trans ?_ (held_blk6 m c t a _ z h2 (by dsimp only; omega))
    have hz := number16 z
    iterate 64 refine step16 _ z _ _ _ _ h0 (by decide) (by decide) (by exact hz) _ _ _ _ _ _ rfl fun hz => ?_
    exact first16 _ z hz _
  · exact (slab_load _ 384 (by decide) _ _ a j).trans (blk1 m c t a _)
  · exact (slab_load _ 384 (by decide) _ _ a j).trans (blk4 m c t a _)
  · refine slab_read 2 3 _ _ _ a j _ fun z h0 h1 h2 h3 => Eq.trans ?_ (held_blk2 m c t a _ z h2 (by dsimp only; omega))
    have hz := number4 z
    iterate 16 refine step4 _ z _ _ _ _ h0 (by decide) (by decide) (by exact hz) _ _ _ _ _ _ rfl fun hz => ?_
    exact first4 _ z hz _
  · refine slab_read 3 3 _ _ _ a j _ fun z h0 h1 h2 h3 => Eq.trans ?_ (held_blk5 m c t a _ z h2 (by dsimp only; omega))
    have hz := number4 z
    iterate 16 refine step4 _ z _ _ _ _ h0 (by decide) (by decide) (by exact hz) _ _ _ _ _ _ rfl fun hz => ?_
    exact first4 _ z hz _
  · refine slab_read 4 3 _ _ _ a j _ fun z h0 h1 h2 h3 => Eq.trans ?_ (held_blk3 m c t a _ z h2 (by dsimp only; omega))
    have hz := number16 z
    iterate 64 refine step16 _ z _ _ _ _ h0 (by decide) (by decide) (by exact hz) _ _ _ _ _ _ rfl fun hz => ?_
    exact first16 _ z hz _
  · refine slab_read 5 3 _ _ _ a j _ fun z h0 h1 h2 h3 => Eq.trans ?_ (held_blk6 m c t a _ z h2 (by dsimp only; omega))
    have hz := number16 z
    iterate 64 refine step16 _ z _ _ _ _ h0 (by decide) (by decide) (by exact hz) _ _ _ _ _ _ rfl fun hz => ?_
    exact first16 _ z hz _

set_option maxHeartbeats 16000000 in
/-- What a step leaves in its second result's block: the first result's block. -/
theorem out16 (c : Dev nD) (t : Fin cfg0.N) (a : Fin 256) (k : Fin 2048) : (outsAt0 m c t).2 (ix2 a k) = resultOf m c (ix2 (row t a) k) := by
  refine Eq.trans ?_ (out15 m c t a k)
  unfold outsAt0
  dsimp only
  frame_out
  rfl

/-- The normed rows after the run. -/
theorem arr15 (c : Dev nD) : (dats m 0 c).arrAt 15 cfg0.N = resultOf m c := by
  refine (dats m 0 c).arrAt_eq_of_covers 15 _ (by decide +kernel) fun t hf y => ?_
  blk_simp
  rw [after0_15]
  idx_vars y
  refine (out15 m c t y0 y1).trans ?_
  blk_ext [idx t, row]

/-- The normed rows' copy after the run. -/
theorem arr16 (c : Dev nD) : (dats m 0 c).arrAt 16 cfg0.N = (resultOf m c : S8192x2048.Idx → EReal) := by
  refine (dats m 0 c).arrAt_eq_of_covers 16 _ (by decide +kernel) fun t hf y => ?_
  blk_simp
  rw [after0_16]
  idx_vars y
  refine (out16 m c t y0 y1).trans ?_
  blk_ext [idx t, row]

end Cert.MergeIdeal.MixValue
end
-- ==== Proof.MergeRef.lean ====
module

public import proofs.«01_k».proof.Proof.MergeTile

@[expose] public section

/-!
# The merge's reference

The reference stacks the three masses and the three results, takes the softmax over the three, multiplies, gates, adds the residual and
normalises.
-/

set_option maxRecDepth 16384
noncomputable section

open Idealize.ShloMosaic Idealize.ShloMosaic.TcCoe Idealize.SL.Sem

namespace Cert.MergeRefIdeal.MixValue
open Cert.MergeRefIdeal Cert.MergeRefIdeal.Gen
open Cert.MergeIdeal.MixValue (by4 by16 mixE mixE_eq mixAt gatedAt pre result)
open Cert.DownRefIdeal.NormValue (whole whole_at)

/-- An array whose rows are in order, as one plane of a stack. -/
def nat1 (x : FVec Ideal S1x8192x512 .f32) : FVec Ideal S1x8192x512 .f32 :=
  broadcastInDim S1x8192x512 ![1, 2] bcast_S8192x512_S1x8192x512_1_2
    (shapeCast S8192x512 (transpose S8192x1x512 [1, 0, 2] x transposes_S1x8192x512_S8192x1x512_1_0_2) shapeCasts_S8192x1x512_S8192x512)

/-- An array whose rows are ordered by remainder over 4, put back in order, as one plane of a stack. -/
def nat4 (x : FVec Ideal S4x2048x512 .f32) : FVec Ideal S1x8192x512 .f32 :=
  broadcastInDim S1x8192x512 ![1, 2] bcast_S8192x512_S1x8192x512_1_2
    (shapeCast S8192x512 (transpose S2048x4x512 [1, 0, 2] x transposes_S4x2048x512_S2048x4x512_1_0_2) shapeCasts_S2048x4x512_S8192x512)

/-- An array whose rows are ordered by remainder over 16, put back in order, as one plane of a stack. -/
def nat16 (x : FVec Ideal S16x512x512 .f32) : FVec Ideal S1x8192x512 .f32 :=
  broadcastInDim S1x8192x512 ![1, 2] bcast_S8192x512_S1x8192x512_1_2
    (shapeCast S8192x512 (transpose S512x16x512 [1, 0, 2] x transposes_S16x512x512_S512x16x512_1_0_2) shapeCasts_S512x16x512_S8192x512)

/-- `nat1` at an index. -/
theorem nat1_at (x : FVec Ideal S1x8192x512 .f32) (R : Fin 8192) (k : Fin 512) : nat1 x (ix3 0 R k) = x (ix3 0 R k) := by
  unfold nat1
  pointwise

/-- `nat4` at an index. -/
theorem nat4_at (x : FVec Ideal S4x2048x512 .f32) (R : Fin 8192) (k : Fin 512) : nat4 x (ix3 0 R k) = by4 x R k := by
  unfold nat4 by4
  pointwise

/-- `nat16` at an index. -/
theorem nat16_at (x : FVec Ideal S16x512x512 .f32) (R : Fin 8192) (k : Fin 512) : nat16 x (ix3 0 R k) = by16 x R k := by
  unfold nat16 by16
  pointwise

/-- Three planes in a stack. -/
def stack (x y z : FVec Ideal S1x8192x512 .f32) : FVec Ideal S3x8192x512 .f32 :=
  concatenate S3x8192x512 0 [⟨S1x8192x512, x⟩, ⟨S1x8192x512, y⟩, ⟨S1x8192x512, z⟩] concatenates_S1x8192x512_S1x8192x512_S1x8192x512_S3x8192x512_d0

/-- The stack's first plane. -/
theorem stack_0 (x y z : FVec Ideal S1x8192x512 .f32) (R : Fin 8192) (k : Fin 512) : stack x y z (ix3 0 R k) = x (ix3 0 R k) := by
  unfold stack
  pointwise

/-- The stack's second plane. -/
theorem stack_1 (x y z : FVec Ideal S1x8192x512 .f32) (R : Fin 8192) (k : Fin 512) : stack x y z (ix3 1 R k) = y (ix3 0 R k) := by
  unfold stack
  pointwise

/-- The stack's third plane. -/
theorem stack_2 (x y z : FVec Ideal S1x8192x512 .f32) (R : Fin 8192) (k : Fin 512) : stack x y z (ix3 2 R k) = z (ix3 0 R k) := by
  unfold stack
  pointwise

/-- The stacked masses in natural units. -/
def mass (s : FVec Ideal S3x8192x512 .f32) : FVec Ideal S3x8192x512 .f32 :=
  mulf s (broadcastInDim S3x8192x512 ![] bcast_S_S3x8192x512 (Host.log (constant S_ .f32 0x40000000#32)))

/-- `mass` at an index. -/
theorem mass_at (s : FVec Ideal S3x8192x512 .f32) (i : Fin 3) (R : Fin 8192) (k : Fin 512) :
    mass s (ix3 i R k) = s (ix3 i R k) * Ideal.log (Ideal.ofBits .f32 0x40000000#32) := by
  unfold mass
  pointwise

/-- The masses less their maximum over the stack. -/
def less (s : FVec Ideal S3x8192x512 .f32) : FVec Ideal S3x8192x512 .f32 :=
  subf s (broadcastInDim S3x8192x512 ![0, 1, 2] bcast_S1x8192x512_S3x8192x512_0_1_2
    (broadcastInDim S1x8192x512 ![1, 2] bcast_S8192x512_S1x8192x512_1_2
      (Host.reduce FloatOps.maximumf s (constant S_ .f32 0xFF800000#32) reducesTo_S3x8192x512_S8192x512_d0 h_S_)))

/-- `less` at an index. -/
theorem less_at (s : FVec Ideal S3x8192x512 .f32) (i : Fin 3) (R : Fin 8192) (k : Fin 512) :
    less s (ix3 i R k) = s (ix3 i R k) - Finset.univ.fold max (Ideal.ofBits .f32 0xFF800000#32) fun j : Fin 3 => s (ix3 j R k) := by
  unfold less
  pointwise

/-- The sum over the stack. -/
def total (s : FVec Ideal S3x8192x512 .f32) : FVec Ideal S8192x512 .f32 :=
  Host.reduceAdd s (constant S_ .f32 0x00000000#32) reducesTo_S3x8192x512_S8192x512_d0 h_S_

/-- `total` at an index. -/
theorem total_at (s : FVec Ideal S3x8192x512 .f32) (R : Fin 8192) (k : Fin 512) : total s (ix2 R k) = ∑ i : Fin 3, s (ix3 i R k) := by
  unfold total
  pointwise

/-- The stack's shares of its sum. -/
def share (s : FVec Ideal S3x8192x512 .f32) : FVec Ideal S3x8192x512 .f32 :=
  Host.divf s (broadcastInDim S3x8192x512 ![0, 1, 2] bcast_S1x8192x512_S3x8192x512_0_1_2
    (broadcastInDim S1x8192x512 ![1, 2] bcast_S8192x512_S1x8192x512_1_2 (total s)))

/-- `share` at an index. -/
theorem share_at (s : FVec Ideal S3x8192x512 .f32) (i : Fin 3) (R : Fin 8192) (k : Fin 512) :
    share s (ix3 i R k) = Ideal.div (s (ix3 i R k)) (total s (ix2 R k)) := by
  unfold share
  pointwise

/-- The exponential of an array, at an index. -/
theorem exp_at (s : FVec Ideal S3x8192x512 .f32) (i : S3x8192x512.Idx) : Host.exp (F := Ideal) s i = Ideal.exp (s i) := rfl

/-- The stacked results weighed by the softmax of the stacked masses. -/
def weighed (l o : FVec Ideal S3x8192x512 .f32) : FVec Ideal S8192x512 .f32 :=
  total (mulf (share (Host.exp (less (mass l)))) o)

/-- `weighed` at an index. -/
theorem weighed_at (l o : FVec Ideal S3x8192x512 .f32) (R : Fin 8192) (k : Fin 512) :
    weighed l o (ix2 R k) = mixE (fun i => l (ix3 i R k)) (fun i => o (ix3 i R k)) := by
  unfold weighed
  rw [total_at]
  simp only [mulf_apply, share_at, total_at, exp_at, less_at, mass_at]
  rfl

/-- The three results weighed, from the arrays. -/
def merged (o1 l1 : FVec Ideal S1x8192x512 .f32) (o2 l2 : FVec Ideal S4x2048x512 .f32) (o3 l3 : FVec Ideal S16x512x512 .f32) : FVec Ideal S8192x512 .f32 :=
  weighed (stack (nat1 l1) (nat4 l2) (nat16 l3)) (stack (nat1 o1) (nat4 o2) (nat16 o3))

/-- `merged` at an index. -/
theorem merged_at (o1 l1 : FVec Ideal S1x8192x512 .f32) (o2 l2 : FVec Ideal S4x2048x512 .f32) (o3 l3 : FVec Ideal S16x512x512 .f32)
    (R : Fin 8192) (k : Fin 512) : merged o1 l1 o2 l2 o3 l3 (ix2 R k) = mixAt o1 l1 o2 l2 o3 l3 R k := by
  unfold merged mixAt
  rw [weighed_at, mixE_eq]
  simp only [stack_0, stack_1, stack_2, nat1_at, nat4_at, nat16_at]

/-- The first gated product's factor. -/
theorem dotA_at (x : FVec Ideal S8192x1024 .bf16) (w : FVec Ideal S1024x2048 .f32) (a : Fin 8192) (b : Fin 2048) :
    Host.dotGeneral (F := Ideal) dot_S8192x1024_S1024x2048_S8192x2048_1_0_0_1_n_n none (extf .f32 x bitsLt_bf16_f32) w (ix2 a b)
      = ∑ e : Fin 1024, x (ix2 a e) * w (ix2 e b) := by
  pointwise

/-- The second gated product's factor. -/
theorem dotB_at (x : FVec Ideal S8192x512 .f32) (w : FVec Ideal S512x2048 .f32) (a : Fin 8192) (b : Fin 2048) :
    Host.dotGeneral (F := Ideal) dot_S8192x512_S512x2048_S8192x2048_1_0_0_1_n_n none x w (ix2 a b) = ∑ e : Fin 512, x (ix2 a e) * w (ix2 e b) := by
  pointwise

/-- The output product. -/
theorem dotO_at (x : FVec Ideal S8192x2048 .f32) (w : FVec Ideal S2048x2048 .f32) (a : Fin 8192) (b : Fin 2048) :
    Host.dotGeneral (F := Ideal) dot_S8192x2048_S2048x2048_S8192x2048_1_0_0_1_n_n none x w (ix2 a b) = ∑ e : Fin 2048, x (ix2 a e) * w (ix2 e b) := by
  pointwise

/-- Two products under their gates. -/
def gate (ga : FVec Ideal S8192x4096 .f32) (p q : FVec Ideal S8192x2048 .f32) : FVec Ideal S8192x2048 .f32 :=
  addf (mulf (extractStridedSlice S8192x2048 ![0, 0] ga slices_S8192x4096_S8192x2048_0_0) p)
    (mulf (extractStridedSlice S8192x2048 ![0, 2048] ga slices_S8192x4096_S8192x2048_0_2048) q)

/-- `gate` at an index. -/
theorem gate_at (ga : FVec Ideal S8192x4096 .f32) (p q : FVec Ideal S8192x2048 .f32) (a : Fin 8192) (n : Fin 2048) :
    gate ga p q (ix2 a n) = ga (ix2 a ⟨n.val, by omega⟩) * p (ix2 a n) + ga (ix2 a ⟨2048 + n.val, by omega⟩) * q (ix2 a n) := by
  unfold gate
  pointwise

/-- The rows before the norm. -/
def rows (oa : FVec Ideal S8192x1024 .bf16) (ob : FVec Ideal S8192x512 .f32) (ga : FVec Ideal S8192x4096 .f32) (x2 : FVec Ideal S8192x2048 .f32)
    (wa : FVec Ideal S1024x2048 .f32) (wb : FVec Ideal S512x2048 .f32) (wo : FVec Ideal S2048x2048 .f32) : FVec Ideal S8192x2048 .f32 :=
  addf (mulf (broadcastInDim S8192x2048 ![] bcast_S_S8192x2048 (constant S_ .f32 0x3F9837F0#32)) x2)
    (Host.dotGeneral (F := Ideal) dot_S8192x2048_S2048x2048_S8192x2048_1_0_0_1_n_n none
      (gate ga (Host.dotGeneral (F := Ideal) dot_S8192x1024_S1024x2048_S8192x2048_1_0_0_1_n_n none (extf .f32 oa bitsLt_bf16_f32) wa)
        (Host.dotGeneral (F := Ideal) dot_S8192x512_S512x2048_S8192x2048_1_0_0_1_n_n none ob wb)) wo)

/-- The scaled residual plus a product, at an index. -/
theorem sum_at (h p : FVec Ideal S8192x2048 .f32) (i : S8192x2048.Idx) :
    addf (mulf (broadcastInDim S8192x2048 ![] bcast_S_S8192x2048 (constant S_ .f32 0x3F9837F0#32)) h) p i = Ideal.ofBits .f32 0x3F9837F0#32 * h i + p i := by
  pointwise

/-- `rows` at an index. -/
theorem rows_at (oa : FVec Ideal S8192x1024 .bf16) (ob : FVec Ideal S8192x512 .f32) (ga : FVec Ideal S8192x4096 .f32) (x2 : FVec Ideal S8192x2048 .f32)
    (wa : FVec Ideal S1024x2048 .f32) (wb : FVec Ideal S512x2048 .f32) (wo : FVec Ideal S2048x2048 .f32) (R : Fin 8192) (k : Fin 2048) :
    rows oa ob ga x2 wa wb wo (ix2 R k) = pre (gatedAt (fun a e => ob (ix2 a e)) oa ga wa wb) x2 wo R k := by
  unfold rows
  rw [sum_at, dotO_at]
  simp only [gate_at, dotA_at, dotB_at]
  rfl

/-- The reference's result, from the arguments. -/
theorem ref_eq (oa : FVec Ideal S8192x1024 .bf16) (o1 l1 : FVec Ideal S1x8192x512 .f32) (o2 l2 : FVec Ideal S4x2048x512 .f32)
    (o3 l3 : FVec Ideal S16x512x512 .f32) (ga : FVec Ideal S8192x4096 .f32) (x2 : FVec Ideal S8192x2048 .f32)
    (wa : FVec Ideal S1024x2048 .f32) (wb : FVec Ideal S512x2048 .f32) (wo : FVec Ideal S2048x2048 .f32) (g b : FVec Ideal S2048 .f32) :
    whole (rows oa (merged o1 l1 o2 l2 o3 l3) ga x2 wa wb wo) g b = result oa o1 l1 o2 l2 o3 l3 ga x2 wa wb wo g b := by
  funext i
  idx_vars i
  rw [whole_at]
  simp only [rows_at, merged_at]
  rfl

variable (m : (ℓ : Loc nD τ sig) → Buf (Elt Ideal) ℓ)

/-- The result, from the launch's arguments. -/
def resultOf (c : Dev nD) : S8192x2048.Idx → EReal :=
  result (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12)) (m (c.tc.loc main_arg13))

/-- The reference's first result. -/
theorem out0_eq (c : Dev nD) : Value.res_out0 m c = resultOf m c := by
  refine Eq.trans ?_ (ref_eq _ _ _ _ _ _ _ _ _ _ _ _ _ _)
  rfl

/-- The reference's second result. -/
theorem out1_eq (c : Dev nD) : (Value.res_out1 m c : S8192x2048.Idx → EReal) = resultOf m c := by
  refine Eq.trans ?_ (ref_eq _ _ _ _ _ _ _ _ _ _ _ _ _ _)
  rfl

end Cert.MergeRefIdeal.MixValue
end
-- ==== Proof.Merge.lean ====
module

public import proofs.«01_k».proof.Defs
public import proofs.«01_k».proof.Proof.MergeOut
public import proofs.«01_k».proof.Proof.MergeRef
public import proofs.«01_k».proof.Proof.Gen.Merge.Frame
public import proofs.«01_k».proof.Proof.Gen.MergeIdeal.Value
public import proofs.«01_k».proof.Proof.Gen.MergeRefIdeal.Run

@[expose] public section

/-!
# The claims of the merge and the first layer norm
-/

set_option maxRecDepth 16384
noncomputable section

open Idealize.ShloMosaic Idealize.ShloMosaic.TcCoe Idealize.SL.Sem

namespace Cert.MergeClaims

/-- The kernel runs, and leaves its arguments and its semaphores. -/
theorem frame_p : Cert.quiescent_Merge := fun m ρ _ => Cert.Merge.Gen.frame m ρ

/-- So does its idealization. -/
theorem frame_pi : Cert.quiescent_MergeIdeal := fun m ρ _ => Cert.MergeIdeal.Gen.frame m ρ

/-- So does the reference. -/
theorem frame_ri : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

/-- The idealization renames no constant. -/
theorem preserves : Cert.preserves_Merge_MergeIdeal := trivial

/-- Kernel and reference end with the same two arrays. -/
theorem algebraic : Cert.algebraic_MergeIdeal_MergeRefIdeal := fun m ρ m' ρ' _ hag => by
  have same : ∀ c, Cert.MergeRefIdeal.MixValue.resultOf m' c = Cert.MergeIdeal.MixValue.resultOf m c := fun c => by
    unfold Cert.MergeRefIdeal.MixValue.resultOf Cert.MergeIdeal.MixValue.resultOf
    rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2.1, (hag c).2.2.2.2.2.2.2.2.2.2.2.2.2]
  refine ⟨fun c => Cert.MergeIdeal.MixValue.resultOf m c, fun c => Cert.MergeIdeal.MixValue.resultOf m c, ?_, ?_⟩
  · exact (θ_run Cert.MergeIdeal.defs _ _).mono (fun r h c => ⟨(h c).1.trans (Cert.MergeIdeal.MixValue.arr15 m c),
      (h c).2.1.trans (Cert.MergeIdeal.MixValue.arr16 m c), (h c).2.2⟩) (Cert.MergeIdeal.Value.run_blocks m ρ)
  · exact (θ_run Cert.MergeRefIdeal.defs _ _).mono (fun r h c => ⟨(h c).1.trans ((Cert.MergeRefIdeal.MixValue.out0_eq m' c).trans (same c)),
      (h c).2.1.trans ((Cert.MergeRefIdeal.MixValue.out1_eq m' c).trans (same c)), (h c).2.2⟩) (Cert.MergeRefIdeal.Value.run m' ρ')

end Cert.MergeClaims
end
-- ==== Proof.Dil4Kernel.lean ====
module

public import proofs.«01_k».proof.Proof.DilKernel
public import proofs.«01_k».proof.Proof.Gen.Dil4Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Dil4Ideal.AttValue

open Cert.Dil4Ideal Cert.Dil4Ideal.Gen
open Cert.DilIdeal.AttValue (top mass attend lse2 col sum_halves)

/-! ## One block's attention as a function of the queries, keys, values and biases it reads -/

/-- Row `a` of block `b` of a residue's rows. -/
def row (b : Fin 16) (a : Fin 128) : Fin 2048 := ⟨b.val * 128 + a.val, by omega⟩

/-- Row `j` of the block before block `b`. Block 0 has none, and its own row stands there (its bias hides it). -/
def prevRow (b : Fin 16) (j : Fin 128) : Fin 2048 := ⟨(b.val - 1) * 128 + j.val, by omega⟩

/-- The row that key `j` of block `b` is read at: the 256 keys are the block before and the block itself. -/
def keyRow (b : Fin 16) (j : Fin 256) : Fin 2048 :=
  if h : j.val < 128 then prevRow b ⟨j.val, h⟩ else row b ⟨j.val - 128, by omega⟩

/-- The first 128 keys of a block are the block before. -/
theorem keyRow_lo (b : Fin 16) (j : Fin 128) : keyRow b ⟨j.val, by omega⟩ = prevRow b j := dif_pos j.isLt

/-- The others are the block itself. -/
theorem keyRow_hi (b : Fin 16) (j : Fin 128) : keyRow b ⟨128 + j.val, by omega⟩ = row b j := by
  refine (dif_neg (by simp)).trans (congrArg (row b) (Fin.ext ?_))
  show 128 + j.val - 128 = j.val
  omega

/-- Which of the two bias tables block `b` adds: the one that hides the keys before the start, at block 0. -/
def tab (b : Fin 16) : Fin 2 := if b.val = 0 then 1 else 0

/-- The score of query `a` at key `j`, in units of log 2: the product over the head's lanes, and the bias. -/
def score (X : S3x4x2048x512.Idx → EReal) (B : S2x4x128x256.Idx → EReal) (r : Fin 4) (b : Fin 16) (h : Fin 4) (a : Fin 128)
    (j : Fin 256) : EReal :=
  (∑ e : Fin 128, X (ix4 0 r (row b a) (col h e)) * X (ix4 1 r (keyRow b j) (col h e))) + B (ix4 (tab b) h a j)

section Tile

variable (q kp vp kc vc : Vec Ideal S1x1x128x128 .bf16) (bs : Vec Ideal S1x1x128x256 .f32)

/-- The first head's payload of the scores, at an index. -/
theorem score_at (a : Fin 128) (j : Fin 256) : k0_pay2 q kp kc bs (ix2 a j)
    = (∑ e, q (ix4 0 0 a e) * if h : j.val < 128 then kp (ix4 0 0 ⟨j.val, h⟩ e) else kc (ix4 0 0 ⟨j.val - 128, by omega⟩ e))
      + bs (ix4 0 0 a j) := by
  pointwise [k0_pay2]

/-- The largest score, at an index. -/
theorem top_at (s : Fin 128 → Fin 256 → EReal) (hs : ∀ a j, k0_pay2 q kp kc bs (ix2 a j) = s a j) (a : Fin 128) :
    k0_pay3 q kp kc bs (ix2 a 0) = top (s a) := by
  pointwise [k0_pay3]
  unfold top
  congr 1
  funext j
  exact hs a j

/-- The powers of two, at an index. -/
theorem pow_at (s : Fin 128 → Fin 256 → EReal) (hs : ∀ a j, k0_pay2 q kp kc bs (ix2 a j) = s a j) (a : Fin 128)
    (j : Fin 256) : k0_pay4 q kp kc bs (ix2 a j) = Ideal.exp2 (s a j - top (s a)) := by
  pointwise [k0_pay4]
  rw [hs, top_at q kp kc bs s hs]
  rfl

/-- Their sum, at an index. -/
theorem mass_at (s : Fin 128 → Fin 256 → EReal) (hs : ∀ a j, k0_pay2 q kp kc bs (ix2 a j) = s a j) (a : Fin 128) :
    k0_pay5 q kp kc bs (ix2 a 0) = mass (s a) := by
  pointwise [k0_pay5]
  exact Finset.sum_congr rfl fun j _ => pow_at q kp kc bs s hs a j

/-- What the body stores of the attention's output, at an index. -/
theorem out_at (s : Fin 128 → Fin 256 → EReal) (v : Fin 256 → Fin 128 → EReal)
    (hs : ∀ a j, k0_pay2 q kp kc bs (ix2 a j) = s a j)
    (hp : ∀ (j e : Fin 128), vp (ix4 0 0 j e) = v ⟨j.val, by omega⟩ e)
    (hc : ∀ (j e : Fin 128), vc (ix4 0 0 j e) = v ⟨128 + j.val, by omega⟩ e) (a e : Fin 128) :
    k0_pay7 (k0_pay5 q kp kc bs) (k0_pay6 q kp vp kc vc bs) (ix3 0 a e) = attend (s a) fun j => v j e := by
  pointwise [k0_pay7, k0_pay6]
  unfold attend
  rw [mass_at q kp kc bs s hs, sum_halves]
  simp only [pow_at q kp kc bs s hs, hp, hc]

/-- What the body stores of the denominator's logarithm, at an index. -/
theorem lse_at (s : Fin 128 → Fin 256 → EReal) (hs : ∀ a j, k0_pay2 q kp kc bs (ix2 a j) = s a j) (a e : Fin 128) :
    k0_pay8 (k0_pay3 q kp kc bs) (k0_pay5 q kp kc bs) (ix3 0 a e) = lse2 (s a) := by
  pointwise [k0_pay8]
  rw [mass_at q kp kc bs s hs, top_at q kp kc bs s hs]
  rfl

variable (X : S3x4x2048x512.Idx → EReal) (B : S2x4x128x256.Idx → EReal) (r : Fin 4) (b : Fin 16) (h : Fin 4)

/-- The scores of a tile whose operands are the array's block `b`, head `h`. -/
theorem score_tile (hq : ∀ a e : Fin 128, q (ix4 0 0 a e) = X (ix4 0 r (row b a) (col h e)))
    (hkp : ∀ j e : Fin 128, kp (ix4 0 0 j e) = X (ix4 1 r (prevRow b j) (col h e)))
    (hkc : ∀ j e : Fin 128, kc (ix4 0 0 j e) = X (ix4 1 r (row b j) (col h e)))
    (hbs : ∀ (a : Fin 128) (j : Fin 256), bs (ix4 0 0 a j) = B (ix4 (tab b) h a j)) (a : Fin 128) (j : Fin 256) :
    k0_pay2 q kp kc bs (ix2 a j) = score X B r b h a j := by
  rw [score_at, hbs]
  unfold score
  congr 1
  refine Finset.sum_congr rfl fun e _ => ?_
  rw [hq]
  congr 1
  unfold keyRow
  split
  · rw [hkp]
  · rw [hkc]

/-- The tile's output at index `x`. -/
theorem out_tile (hq : ∀ a e : Fin 128, q (ix4 0 0 a e) = X (ix4 0 r (row b a) (col h e)))
    (hkp : ∀ j e : Fin 128, kp (ix4 0 0 j e) = X (ix4 1 r (prevRow b j) (col h e)))
    (hkc : ∀ j e : Fin 128, kc (ix4 0 0 j e) = X (ix4 1 r (row b j) (col h e)))
    (hvp : ∀ j e : Fin 128, vp (ix4 0 0 j e) = X (ix4 2 r (prevRow b j) (col h e)))
    (hvc : ∀ j e : Fin 128, vc (ix4 0 0 j e) = X (ix4 2 r (row b j) (col h e)))
    (hbs : ∀ (a : Fin 128) (j : Fin 256), bs (ix4 0 0 a j) = B (ix4 (tab b) h a j)) (x : S1x128x128.Idx) :
    k0_pay7 (k0_pay5 q kp kc bs) (k0_pay6 q kp vp kc vc bs) x
      = attend (score X B r b h (x 1)) fun j => X (ix4 2 r (keyRow b j) (col h (x 2))) := by
  idx_vars x
  obtain rfl : x0 = 0 := Subsingleton.elim _ _
  exact out_at q kp vp kc vc bs _ (fun j e => X (ix4 2 r (keyRow b j) (col h e)))
    (score_tile q kp kc bs X B r b h hq hkp hkc hbs)
    (fun j e => by rw [hvp, keyRow_lo]) (fun j e => by rw [hvc, keyRow_hi]) x1 x2

/-- The tile's denominator at index `x`. -/
theorem lse_tile (hq : ∀ a e : Fin 128, q (ix4 0 0 a e) = X (ix4 0 r (row b a) (col h e)))
    (hkp : ∀ j e : Fin 128, kp (ix4 0 0 j e) = X (ix4 1 r (prevRow b j) (col h e)))
    (hkc : ∀ j e : Fin 128, kc (ix4 0 0 j e) = X (ix4 1 r (row b j) (col h e)))
    (hbs : ∀ (a : Fin 128) (j : Fin 256), bs (ix4 0 0 a j) = B (ix4 (tab b) h a j)) (x : S1x128x128.Idx) :
    k0_pay8 (k0_pay3 q kp kc bs) (k0_pay5 q kp kc bs) x = lse2 (score X B r b h (x 1)) := by
  idx_vars x
  obtain rfl : x0 = 0 := Subsingleton.elim _ _
  exact lse_at q kp kc bs _ (score_tile q kp kc bs X B r b h hq hkp hkc hbs) x1 x2

end Tile

/-! ## The two result arrays -/

variable (m : (ℓ : Loc nD τ sig) → Buf (Elt Ideal) ℓ)

/-- The residue whose rows a grid point works on. -/
def res (t : Fin grid0.N) : Fin 4 := t

/-- The block of that residue's rows that is a grid point's block `b`. -/
def blk (t : Fin grid0.N) (b : Fin 16) : Fin 16 := b

/-- Which block each window holds at each point, and which bias table a point's block 0 reads. -/
theorem idx : ∀ t : Fin grid0.N, win0_0.index t = ![0, 0, 0, 0] ∧ win0_1.index t = ![0, t.val, 0, 0] ∧ win0_2.index t = ![1, t.val, 0, 0]
    ∧ win0_3.index t = ![1, t.val, 0, 0] ∧ win0_4.index t = ![2, t.val, 0, 0] ∧ win0_5.index t = ![2, t.val, 0, 0]
    ∧ win0_6.index t = ![t.val, 0, 0] ∧ win0_7.index t = ![t.val, 0, 0] ∧ k0_off1 (grid0.coords t) = ![(tab (blk t 0)).val, 0, 0, 0]
    ∧ k0_off2 (grid0.coords t) = ![(tab (blk t 0)).val, 1, 0, 0] ∧ k0_off3 (grid0.coords t) = ![(tab (blk t 0)).val, 2, 0, 0]
    ∧ k0_off4 (grid0.coords t) = ![(tab (blk t 0)).val, 3, 0, 0] := by
  decide +kernel

/-- Every other block reads the table that hides nothing before the start. -/
theorem later (t : Fin grid0.N) (b : Fin 16) (hb : 1 ≤ b.val) (h : Fin 4) : (![0, h.val, 0, 0] : Fin 4 → Nat) = ![(tab (blk t b)).val, h.val, 0, 0] := by
  have e : (blk t b).val ≠ 0 := by
    simp only [blk]
    omega
  unfold tab
  rw [if_neg e]
  rfl

/-- The array of queries, keys and values. -/
abbrev qkv (c : Dev nD) : S3x4x2048x512.Idx → EReal := m (c.tc.loc main_arg0)

/-- The table of biases, as the launch finds it. -/
abbrev bias (c : Dev nD) : S2x4x128x256.Idx → EReal := V m c main_v50

/-- The attention's output, at an index. -/
def out (c : Dev nD) (i : S4x2048x512.Idx) : EReal :=
  attend (score (qkv m c) (bias m c) (i 0) ⟨(i 1).val / 128, by have : (i 1).val < 2048 := (i 1).isLt; omega⟩
      ⟨(i 2).val / 128, by have : (i 2).val < 512 := (i 2).isLt; omega⟩ ⟨(i 1).val % 128, by omega⟩)
    fun j => qkv m c (ix4 2 (i 0) (keyRow ⟨(i 1).val / 128, by have : (i 1).val < 2048 := (i 1).isLt; omega⟩ j) (i 2))

/-- The denominator's logarithm, at an index. -/
def lse (c : Dev nD) (i : S4x2048x512.Idx) : EReal :=
  lse2 (score (qkv m c) (bias m c) (i 0) ⟨(i 1).val / 128, by have : (i 1).val < 2048 := (i 1).isLt; omega⟩
      ⟨(i 2).val / 128, by have : (i 2).val < 512 := (i 2).isLt; omega⟩ ⟨(i 1).val % 128, by omega⟩)

/-- The outputs at an index given by its residue, block, head, row and lane. -/
theorem out_eq (c : Dev nD) (i : S4x2048x512.Idx) (r : Fin 4) (b : Fin 16) (h : Fin 4) (a e : Fin 128) (h0 : (i 0).val = r.val)
    (h1 : (i 1).val = b.val * 128 + a.val) (h2 : (i 2).val = h.val * 128 + e.val) :
    out m c i = attend (score (qkv m c) (bias m c) r b h a) fun j => qkv m c (ix4 2 r (keyRow b j) (col h e)) := by
  have e0 : i 0 = r := Fin.ext h0
  have e1 : (i 1).val / 128 = b.val := by omega
  have e2 : (i 2).val / 128 = h.val := by omega
  have e3 : (i 1).val % 128 = a.val := by omega
  have e4 : i 2 = col h e := Fin.ext h2
  unfold out
  have e5 : ∀ w j, (ix4 w r (keyRow b j) (i 2) : S3x4x2048x512.Idx) = ix4 w r (keyRow b j) (col h e) := fun w j => by rw [e4]
  simp only [e0, e1, e2, e3]
  simp only [e5]

/-- As `out_eq`, of the denominator's logarithm. -/
theorem lse_eq (c : Dev nD) (i : S4x2048x512.Idx) (r : Fin 4) (b : Fin 16) (h : Fin 4) (a e : Fin 128) (h0 : (i 0).val = r.val)
    (h1 : (i 1).val = b.val * 128 + a.val) (h2 : (i 2).val = h.val * 128 + e.val) :
    lse m c i = lse2 (score (qkv m c) (bias m c) r b h a) := by
  have e0 : i 0 = r := Fin.ext h0
  have e1 : (i 1).val / 128 = b.val := by omega
  have e2 : (i 2).val / 128 = h.val := by omega
  have e3 : (i 1).val % 128 = a.val := by omega
  unfold lse
  simp only [e0, e1, e2, e3]

/-- A load of 128 rows and 128 lanes of the block of queries. -/
theorem q_load (c : Dev nD) (t : Fin grid0.N) (b : Fin 16) (h : Fin 4) (off : Fin 4 → Nat) (inb)
    (ho : off = ![0, 0, b.val * 128, h.val * 128]) (a e : Fin 128) :
    View.ld (iblk m c 1 t) (Rect.unit (s := S1x1x2048x512) off ![1, 1, 128, 128] inb) (ix4 0 0 a e) = qkv m c (ix4 0 (res t) (row (blk t b) a) (col h e)) := by
  subst ho
  pointwise
  blk_ext [iblk, V, idx t, row, prevRow, col, res, blk]

/-- … of the block of keys. -/
theorem k_load (c : Dev nD) (t : Fin grid0.N) (b : Fin 16) (h : Fin 4) (off : Fin 4 → Nat) (inb)
    (ho : off = ![0, 0, b.val * 128, h.val * 128]) (a e : Fin 128) :
    View.ld (iblk m c 2 t) (Rect.unit (s := S1x1x2048x512) off ![1, 1, 128, 128] inb) (ix4 0 0 a e) = qkv m c (ix4 1 (res t) (row (blk t b) a) (col h e)) := by
  subst ho
  pointwise
  blk_ext [iblk, V, idx t, row, prevRow, col, res, blk]

/-- … of the block of values. -/
theorem v_load (c : Dev nD) (t : Fin grid0.N) (b : Fin 16) (h : Fin 4) (off : Fin 4 → Nat) (inb)
    (ho : off = ![0, 0, b.val * 128, h.val * 128]) (a e : Fin 128) :
    View.ld (iblk m c 4 t) (Rect.unit (s := S1x1x2048x512) off ![1, 1, 128, 128] inb) (ix4 0 0 a e) = qkv m c (ix4 2 (res t) (row (blk t b) a) (col h e)) := by
  subst ho
  pointwise
  blk_ext [iblk, V, idx t, row, prevRow, col, res, blk]

/-- … of the keys of the block before, inside the rows held. -/
theorem kp_load (c : Dev nD) (t : Fin grid0.N) (b : Fin 16) (hb : 1 ≤ b.val) (h : Fin 4) (off : Fin 4 → Nat) (inb)
    (ho : off = ![0, 0, (b.val - 1) * 128, h.val * 128]) (a e : Fin 128) :
    View.ld (iblk m c 2 t) (Rect.unit (s := S1x1x2048x512) off ![1, 1, 128, 128] inb) (ix4 0 0 a e) = qkv m c (ix4 1 (res t) (prevRow (blk t b) a) (col h e)) := by
  subst ho
  pointwise
  blk_ext [iblk, V, idx t, row, prevRow, col, res, blk]

/-- … of the values of the block before, inside the rows held. -/
theorem vp_load (c : Dev nD) (t : Fin grid0.N) (b : Fin 16) (hb : 1 ≤ b.val) (h : Fin 4) (off : Fin 4 → Nat) (inb)
    (ho : off = ![0, 0, (b.val - 1) * 128, h.val * 128]) (a e : Fin 128) :
    View.ld (iblk m c 4 t) (Rect.unit (s := S1x1x2048x512) off ![1, 1, 128, 128] inb) (ix4 0 0 a e) = qkv m c (ix4 2 (res t) (prevRow (blk t b) a) (col h e)) := by
  subst ho
  pointwise
  blk_ext [iblk, V, idx t, row, prevRow, col, res, blk]

/-- … of the keys that stand before the rows held (the window of the previous rows). -/
theorem kp_load0 (c : Dev nD) (t : Fin grid0.N) (h : Fin 4) (off : Fin 4 → Nat) (inb)
    (ho : off = ![0, 0, 0, h.val * 128]) (a e : Fin 128) :
    View.ld (iblk m c 3 t) (Rect.unit (s := S1x1x128x512) off ![1, 1, 128, 128] inb) (ix4 0 0 a e) = qkv m c (ix4 1 (res t) (prevRow (blk t 0) a) (col h e)) := by
  subst ho
  pointwise
  blk_ext [iblk, V, idx t, row, prevRow, col, res, blk]

/-- … of the values that stand before the rows held. -/
theorem vp_load0 (c : Dev nD) (t : Fin grid0.N) (h : Fin 4) (off : Fin 4 → Nat) (inb)
    (ho : off = ![0, 0, 0, h.val * 128]) (a e : Fin 128) :
    View.ld (iblk m c 5 t) (Rect.unit (s := S1x1x128x512) off ![1, 1, 128, 128] inb) (ix4 0 0 a e) = qkv m c (ix4 2 (res t) (prevRow (blk t 0) a) (col h e)) := by
  subst ho
  pointwise
  blk_ext [iblk, V, idx t, row, prevRow, col, res, blk]

/-- … of a head's biases. -/
theorem b_load (c : Dev nD) (t : Fin grid0.N) (b : Fin 16) (h : Fin 4) (off : Fin 4 → Nat) (inb)
    (ho : off = ![(tab b).val, h.val, 0, 0]) (a : Fin 128) (j : Fin 256) :
    View.ld (iblk m c 0 t) (Rect.unit (s := S2x4x128x256) off ![1, 1, 128, 256] inb) (ix4 0 0 a j) = bias m c (ix4 (tab b) h a j) := by
  subst ho
  unfold bias
  pointwise
  blk_ext [iblk, idx t]

/-- Where the write-back of point `t` puts element `y` of its block, `out` read there. -/
theorem out_put (c : Dev nD) (t : Fin grid0.N) (b : Fin 16) (h : Fin 4) (x : S1x128x128.Idx) (y : S1x2048x512.Idx)
    (h1 : (y 1).val = b.val * 128 + (x 1).val) (h2 : (y 2).val = h.val * 128 + (x 2).val) :
    out m c (((View.whole main_v51_0).slice (win0_6.rect t)).emb y)
      = attend (score (qkv m c) (bias m c) (res t) (blk t b) h (x 1)) fun j => qkv m c (ix4 2 (res t) (keyRow (blk t b) j) (col h (x 2))) := by
  have h0 : (y 0).val < 1 := (y 0).isLt
  refine out_eq m c _ (res t) (blk t b) h (x 1) (x 2) ?_ ?_ ?_
  · blk_simp [idx t]
    rfl
  · blk_simp [idx t]
    simp only [blk]
    omega
  · blk_simp [idx t]
    omega

/-- Where the write-back of point `t` puts element `y` of its block, `lse` read there. -/
theorem lse_put (c : Dev nD) (t : Fin grid0.N) (b : Fin 16) (h : Fin 4) (x : S1x128x128.Idx) (y : S1x2048x512.Idx)
    (h1 : (y 1).val = b.val * 128 + (x 1).val) (h2 : (y 2).val = h.val * 128 + (x 2).val) :
    lse m c (((View.whole main_v51_1).slice (win0_7.rect t)).emb y)
      = lse2 (score (qkv m c) (bias m c) (res t) (blk t b) h (x 1)) := by
  have h0 : (y 0).val < 1 := (y 0).isLt
  refine lse_eq m c _ (res t) (blk t b) h (x 1) (x 2) ?_ ?_ ?_
  · blk_simp [idx t]
    rfl
  · blk_simp [idx t]
    simp only [blk]
    omega
  · blk_simp [idx t]
    omega

end Cert.Dil4Ideal.AttValue
end
-- ==== Proof.Dil4Out.lean ====
module

public import proofs.«01_k».proof.Proof.Dil4Kernel
public import Idealize.ShloMosaic.Lib.Pipeline.ValueKit
public import Idealize.ShloMosaic.Lib.Pointwise

@[expose] public section

/-!
# The dilated attention's results, tile by tile
-/

set_option maxRecDepth 16384

noncomputable section

open Idealize.ShloMosaic Idealize.ShloMosaic.TcCoe Idealize.SL.Sem
open Idealize.ShloMosaic.Pipeline (Dat)

namespace Cert.Dil4Ideal.AttValue

open Cert.Dil4Ideal Cert.Dil4Ideal.Gen
open Cert.DilIdeal.AttValue (top mass attend lse2 col sum_halves)

variable (m : (ℓ : Loc nD τ sig) → Buf (Elt Ideal) ℓ)

set_option maxHeartbeats 2000000 in
/-- The first result array after the run. -/
theorem arr6 (c : Dev nD) : (dats m 0 c).arrAt 6 cfg0.N = out m c := by
  refine (dats m 0 c).arrAt_eq_of_covers 6 _ (by decide +kernel) fun t hf y => ?_
  blk_simp
  rw [after0_6]
  unfold outsAt0
  dsimp only
  frame_out
  canon_tiles x h
  case piece0 =>
    refine Eq.trans (out_tile _ _ _ _ _ _ (qkv m c) (bias m c) (res t) (blk t 15) 3 ?_ ?_ ?_ ?_ ?_ ?_ x) (out_put m c t 15 3 x y (by omega) (by omega)).symm
    all_goals intro a e
    all_goals try rw [Memref.IsWhole.read_unread]
    · exact q_load m c t 15 3 _ _ rfl a e
    · exact kp_load m c t 15 (by decide) 3 _ _ rfl a e
    · exact k_load m c t 15 3 _ _ rfl a e
    · exact vp_load m c t 15 (by decide) 3 _ _ rfl a e
    · exact v_load m c t 15 3 _ _ rfl a e
    · exact b_load m c t (blk t 15) 3 _ _ (later t 15 (by decide) 3) a e
  case piece1 =>
    refine Eq.trans (out_tile _ _ _ _ _ _ (qkv m c) (bias m c) (res t) (blk t 15) 2 ?_ ?_ ?_ ?_ ?_ ?_ x) (out_put m c t 15 2 x y (by omega) (by omega)).symm
    all_goals intro a e
    all_goals try rw [Memref.IsWhole.read_unread]
    · exact q_load m c t 15 2 _ _ rfl a e
    · exact kp_load m c t 15 (by decide) 2 _ _ rfl a e
    · exact k_load m c t 15 2 _ _ rfl a e
    · exact vp_load m c t 15 (by decide) 2 _ _ rfl a e
    · exact v_load m c t 15 2 _ _ rfl a e
    · exact b_load m c t (blk t 15) 2 _ _ (later t 15 (by decide) 2) a e
  case piece2 =>
    refine Eq.trans (out_tile _ _ _ _ _ _ (qkv m c) (bias m c) (res t) (blk t 15) 1 ?_ ?_ ?_ ?_ ?_ ?_ x) (out_put m c t 15 1 x y (by omega) (by omega)).symm
    all_goals intro a e
    all_goals try rw [Memref.IsWhole.read_unread]
    · exact q_load m c t 15 1 _ _ rfl a e
    · exact kp_load m c t 15 (by decide) 1 _ _ rfl a e
    · exact k_load m c t 15 1 _ _ rfl a e
    · exact vp_load m c t 15 (by decide) 1 _ _ rfl a e
    · exact v_load m c t 15 1 _ _ rfl a e
    · exact b_load m c t (blk t 15) 1 _ _ (later t 15 (by decide) 1) a e
  case piece3 =>
    refine Eq.trans (out_tile _ _ _ _ _ _ (qkv m c) (bias m c) (res t) (blk t 15) 0 ?_ ?_ ?_ ?_ ?_ ?_ x) (out_put m c t 15 0 x y (by omega) (by omega)).symm
    all_goals intro a e
    all_goals try rw [Memref.IsWhole.read_unread]
    · exact q_load m c t 15 0 _ _ rfl a e
    · exact kp_load m c t 15 (by decide) 0 _ _ rfl a e
    · exact k_load m c t 15 0 _ _ rfl a e
    · exact vp_load m c t 15 (by decide) 0 _ _ rfl a e
    · exact v_load m c t 15 0 _ _ rfl a e
    · exact b_load m c t (blk t 15) 0 _ _ (later t 15 (by decide) 0) a e
  case piece4 =>
    refine Eq.trans (out_tile _ _ _ _ _ _ (qkv m c) (bias m c) (res t) (blk t 14) 3 ?_ ?_ ?_ ?_ ?_ ?_ x) (out_put m c t 14 3 x y (by omega) (by omega)).symm
    all_goals intro a e
    all_goals try rw [Memref.IsWhole.read_unread]
    · exact q_load m c t 14 3 _ _ rfl a e
    · exact kp_load m c t 14 (by decide) 3 _ _ rfl a e
    · exact k_load m c t 14 3 _ _ rfl a e
    · exact vp_load m c t 14 (by decide) 3 _ _ rfl a e
    · exact v_load m c t 14 3 _ _ rfl a e
    · exact b_load m c t (blk t 14) 3 _ _ (later t 14 (by decide) 3) a e
  case piece5 =>
    refine Eq.trans (out_tile _ _ _ _ _ _ (qkv m c) (bias m c) (res t) (blk t 14) 2 ?_ ?_ ?_ ?_ ?_ ?_ x) (out_put m c t 14 2 x y (by omega) (by omega)).symm
    all_goals intro a e
    all_goals try rw [Memref.IsWhole.read_unread]
    · exact q_load m c t 14 2 _ _ rfl a e
    · exact kp_load m c t 14 (by decide) 2 _ _ rfl a e
    · exact k_load m c t 14 2 _ _ rfl a e
    · exact vp_load m c t 14 (by decide) 2 _ _ rfl a e
    · exact v_load m c t 14 2 _ _ rfl a e
    · exact b_load m c t (blk t 14) 2 _ _ (later t 14 (by decide) 2) a e
  case piece6 =>
    refine Eq.trans (out_tile _ _ _ _ _ _ (qkv m c) (bias m c) (res t) (blk t 14) 1 ?_ ?_ ?_ ?_ ?_ ?_ x) (out_put m c t 14 1 x y (by omega) (by omega)).symm
    all_goals intro a e
    all_goals try rw [Memref.IsWhole.read_unread]
    · exact q_load m c t 14 1 _ _ rfl a e
    · exact kp_load m c t 14 (by decide) 1 _ _ rfl a e
    · exact k_load m c t 14 1 _ _ rfl a e
    · exact vp_load m c t 14 (by decide) 1 _ _ rfl a e
    · exact v_load m c t 14 1 _ _ rfl a e
    · exact b_load m c t (blk t 14) 1 _ _ (later t 14 (by decide) 1) a e
  case piece7 =>
    refine Eq.trans (out_tile _ _ _ _ _ _ (qkv m c) (bias m c) (res t) (blk t 14) 0 ?_ ?_ ?_ ?_ ?_ ?_ x) (out_put m c t 14 0 x y (by omega) (by omega)).symm
    all_goals intro a e
    all_goals try rw [Memref.IsWhole.read_unread]
    · exact q_load m c t 14 0 _ _ rfl a e
    · exact kp_load m c t 14 (by decide) 0 _ _ rfl a e
    · exact k_load m c t 14 0 _ _ rfl a e
    · exact vp_load m c t 14 (by decide) 0 _ _ rfl a e
    · exact v_load m c t 14 0 _ _ rfl a e
    · exact b_load m c t (blk t 14) 0 _ _ (later t 14 (by decide) 0) a e
  case piece8 =>
    refine Eq.trans (out_tile _ _ _ _ _ _ (qkv m c) (bias m c) (res t) (blk t 13) 3 ?_ ?_ ?_ ?_ ?_ ?_ x) (out_put m c t 13 3 x y (by omega) (by omega)).symm
    all_goals intro a e
    all_goals try rw [Memref.IsWhole.read_unread]
    · exact q_load m c t 13 3 _ _ rfl a e
    · exact kp_load m c t 13 (by decide) 3 _ _ rfl a e
    · exact k_load m c t 13 3 _ _ rfl a e
    · exact vp_load m c t 13 (by decide) 3 _ _ rfl a e
    · exact v_load m c t 13 3 _ _ rfl a e
    · exact b_load m c t (blk t 13) 3 _ _ (later t 13 (by decide) 3) a e
  case piece9 =>
    refine Eq.trans (out_tile _ _ _ _ _ _ (qkv m c) (bias m c) (res t) (blk t 13) 2 ?_ ?_ ?_ ?_ ?_ ?_ x) (out_put m c t 13 2 x y (by omega) (by omega)).symm
    all_goals intro a e
    all_goals try rw [Memref.IsWhole.read_unread]
    · exact q_load m c t 13 2 _ _ rfl a e
    · exact kp_load m c t 13 (by decide) 2 _ _ rfl a e
    · exact k_load m c t 13 2 _ _ rfl a e
    · exact vp_load m c t 13 (by decide) 2 _ _ rfl a e
    · exact v_load m c t 13 2 _ _ rfl a e
    · exact b_load m c t (blk t 13) 2 _ _ (later t 13 (by decide) 2) a e
  case piece10 =>
    refine Eq.trans (out_tile _ _ _ _ _ _ (qkv m c) (bias m c) (res t) (blk t 13) 1 ?_ ?_ ?_ ?_ ?_ ?_ x) (out_put m c t 13 1 x y (by omega) (by omega)).symm
    all_goals intro a e
    all_goals try rw [Memref.IsWhole.read_unread]
    · exact q_load m c t 13 1 _ _ rfl a e
    · exact kp_load m c t 13 (by decide) 1 _ _ rfl a e
    · exact k_load m c t 13 1 _ _ rfl a e
    · exact vp_load m c t 13 (by decide) 1 _ _ rfl a e
    · exact v_load m c t 13 1 _ _ rfl a e
    · exact b_load m c t (blk t 13) 1 _ _ (later t 13 (by decide) 1) a e
  case piece11 =>
    refine Eq.trans (out_tile _ _ _ _ _ _ (qkv m c) (bias m c) (res t) (blk t 13) 0 ?_ ?_ ?_ ?_ ?_ ?_ x) (out_put m c t 13 0 x y (by omega) (by omega)).symm
    all_goals intro a e
    all_goals try rw [Memref.IsWhole.read_unread]
    · exact q_load m c t 13 0 _ _ rfl a e
    · exact kp_load m c t 13 (by decide) 0 _ _ rfl a e
    · exact k_load m c t 13 0 _ _ rfl a e
    · exact vp_load m c t 13 (by decide) 0 _ _ rfl a e
    · exact v_load m c t 13 0 _ _ rfl a e
    · exact b_load m c t (blk t 13) 0 _ _ (later t 13 (by decide) 0) a e
  case piece12 =>
    refine Eq.trans (out_tile _ _ _ _ _ _ (qkv m c) (bias m c) (res t) (blk t 12) 3 ?_ ?_ ?_ ?_ ?_ ?_ x) (out_put m c t 12 3 x y (by omega) (by omega)).symm
    all_goals intro a e
    all_goals try rw [Memref.IsWhole.read_unread]
    · exact q_load m c t 12 3 _ _ rfl a e
    · exact kp_load m c t 12 (by decide) 3 _ _ rfl a e
    · exact k_load m c t 12 3 _ _ rfl a e
    · exact vp_load m c t 12 (by decide) 3 _ _ rfl a e
    · exact v_load m c t 12 3 _ _ rfl a e
    · exact b_load m c t (blk t 12) 3 _ _ (later t 12 (by decide) 3) a e
  case piece13 =>
    refine Eq.trans (out_tile _ _ _ _ _ _ (qkv m c) (bias m c) (res t) (blk t 12) 2 ?_ ?_ ?_ ?_ ?_ ?_ x) (out_put m c t 12 2 x y (by omega) (by omega)).symm
    all_goals intro a e
    all_goals try rw [Memref.IsWhole.read_unread]
    · exact q_load m c t 12 2 _ _ rfl a e
    · exact kp_load m c t 12 (by decide) 2 _ _ rfl a e
    · exact k_load m c t 12 2 _ _ rfl a e
    · exact vp_load m c t 12 (by decide) 2 _ _ rfl a e
    · exact v_load m c t 12 2 _ _ rfl a e
    · exact b_load m c t (blk t 12) 2 _ _ (later t 12 (by decide) 2) a e
  case piece14 =>
    refine Eq.trans (out_tile _ _ _ _ _ _ (qkv m c) (bias m c) (res t) (blk t 12) 1 ?_ ?_ ?_ ?_ ?_ ?_ x) (out_put m c t 12 1 x y (by omega) (by omega)).symm
    all_goals intro a e
    all_goals try rw [Memref.IsWhole.read_unread]
    · exact q_load m c t 12 1 _ _ rfl a e
    · exact kp_load m c t 12 (by decide) 1 _ _ rfl a e
    · exact k_load m c t 12 1 _ _ rfl a e
    · exact vp_load m c t 12 (by decide) 1 _ _ rfl a e
    · exact v_load m c t 12 1 _ _ rfl a e
    · exact b_load m c t (blk t 12) 1 _ _ (later t 12 (by decide) 1) a e
  case piece15 =>
    refine Eq.trans (out_tile _ _ _ _ _ _ (qkv m c) (bias m c) (res t) (blk t 12) 0 ?_ ?_ ?_ ?_ ?_ ?_ x) (out_put m c t 12 0 x y (by omega) (by omega)).symm
    all_goals intro a e
    all_goals try rw [Memref.IsWhole.read_unread]
    · exact q_load m c t 12 0 _ _ rfl a e
    · exact kp_load m c t 12 (by decide) 0 _ _ rfl a e
    · exact k_load m c t 12 0 _ _ rfl a e
    · exact vp_load m c t 12 (by decide) 0 _ _ rfl a e
    · exact v_load m c t 12 0 _ _ rfl a e
    · exact b_load m c t (blk t 12) 0 _ _ (later t 12 (by decide) 0) a e
  case piece16 =>
    refine Eq.trans (out_tile _ _ _ _ _ _ (qkv m c) (bias m c) (res t) (blk t 11) 3 ?_ ?_ ?_ ?_ ?_ ?_ x) (out_put m c t 11 3 x y (by omega) (by omega)).symm
    all_goals intro a e
    all_goals try rw [Memref.IsWhole.read_unread]
    · exact q_load m c t 11 3 _ _ rfl a e
    · exact kp_load m c t 11 (by decide) 3 _ _ rfl a e
    · exact k_load m c t 11 3 _ _ rfl a e
    · exact vp_load m c t 11 (by decide) 3 _ _ rfl a e
    · exact v_load m c t 11 3 _ _ rfl a e
    · exact b_load m c t (blk t 11) 3 _ _ (later t 11 (by decide) 3) a e
  case piece17 =>
    refine Eq.trans (out_tile _ _ _ _ _ _ (qkv m c) (bias m c) (res t) (blk t 11) 2 ?_ ?_ ?_ ?_ ?_ ?_ x) (out_put m c t 11 2 x y (by omega) (by omega)).symm
    all_goals intro a e
    all_goals try rw [Memref.IsWhole.read_unread]
    · exact q_load m c t 11 2 _ _ rfl a e
    · exact kp_load m c t 11 (by decide) 2 _ _ rfl a e
    · exact k_load m c t 11 2 _ _ rfl a e
    · exact vp_load m c t 11 (by decide) 2 _ _ rfl a e
    · exact v_load m c t 11 2 _ _ rfl a e
    · exact b_load m c t (blk t 11) 2 _ _ (later t 11 (by decide) 2) a e
  case piece18 =>
    refine Eq.trans (out_tile _ _ _ _ _ _ (qkv m c) (bias m c) (res t) (blk t 11) 1 ?_ ?_ ?_ ?_ ?_ ?_ x) (out_put m c t 11 1 x y (by omega) (by omega)).symm
    all_goals intro a e
    all_goals try rw [Memref.IsWhole.read_unread]
    · exact q_load m c t 11 1 _ _ rfl a e
    · exact kp_load m c t 11 (by decide) 1 _ _ rfl a e
    · exact k_load m c t 11 1 _ _ rfl a e
    · exact vp_load m c t 11 (by decide) 1 _ _ rfl a e
    · exact v_load m c t 11 1 _ _ rfl a e
    · exact b_load m c t (blk t 11) 1 _ _ (later t 11 (by decide) 1) a e
  case piece19 =>
    refine Eq.trans (out_tile _ _ _ _ _ _ (qkv m c) (bias m c) (res t) (blk t 11) 0 ?_ ?_ ?_ ?_ ?_ ?_ x) (out_put m c t 11 0 x y (by omega) (by omega)).symm
    all_goals intro a e
    all_goals try rw [Memref.IsWhole.read_unread]
    · exact q_load m c t 11 0 _ _ rfl a e
    · exact kp_load m c t 11 (by decide) 0 _ _ rfl a e
    · exact k_load m c t 11 0 _ _ rfl a e
    · exact vp_load m c t 11 (by decide) 0 _ _ rfl a e
    · exact v_load m c t 11 0 _ _ rfl a e
    · exact b_load m c t (blk t 11) 0 _ _ (later t 11 (by decide) 0) a e
  case piece20 =>
    refine Eq.trans (out_tile _ _ _ _ _ _ (qkv m c) (bias m c) (res t) (blk t 10) 3 ?_ ?_ ?_ ?_ ?_ ?_ x) (out_put m c t 10 3 x y (by omega) (by omega)).symm
    all_goals intro a e
    all_goals try rw [Memref.IsWhole.read_unread]
    · exact q_load m c t 10 3 _ _ rfl a e
    · exact kp_load m c t 10 (by decide) 3 _ _ rfl a e
    · exact k_load m c t 10 3 _ _ rfl a e
    · exact vp_load m c t 10 (by decide) 3 _ _ rfl a e
    · exact v_load m c t 10 3 _ _ rfl a e
    · exact b_load m c t (blk t 10) 3 _ _ (later t 10 (by decide) 3) a e
  case piece21 =>
    refine Eq.trans (out_tile _ _ _ _ _ _ (qkv m c) (bias m c) (res t) (blk t 10) 2 ?_ ?_ ?_ ?_ ?_ ?_ x) (out_put m c t 10 2 x y (by omega) (by omega)).symm
    all_goals intro a e
    all_goals try rw [Memref.IsWhole.read_unread]
    · exact q_load m c t 10 2 _ _ rfl a e
    · exact kp_load m c t 10 (by decide) 2 _ _ rfl a e
    · exact k_load m c t 10 2 _ _ rfl a e
    · exact vp_load m c t 10 (by decide) 2 _ _ rfl a e
    · exact v_load m c t 10 2 _ _ rfl a e
    · exact b_load m c t (blk t 10) 2 _ _ (later t 10 (by decide) 2) a e
  case piece22 =>
    refine Eq.trans (out_tile _ _ _ _ _ _ (qkv m c) (bias m c) (res t) (blk t 10) 1 ?_ ?_ ?_ ?_ ?_ ?_ x) (out_put m c t 10 1 x y (by omega) (by omega)).symm
    all_goals intro a e
    all_goals try rw [Memref.IsWhole.read_unread]
    · exact q_load m c t 10 1 _ _ rfl a e
    · exact kp_load m c t 10 (by decide) 1 _ _ rfl a e
    · exact k_load m c t 10 1 _ _ rfl a e
    · exact vp_load m c t 10 (by decide) 1 _ _ rfl a e
    · exact v_load m c t 10 1 _ _ rfl a e
    · exact b_load m c t (blk t 10) 1 _ _ (later t 10 (by decide) 1) a e
  case piece23 =>
    refine Eq.trans (out_tile _ _ _ _ _ _ (qkv m c) (bias m c) (res t) (blk t 10) 0 ?_ ?_ ?_ ?_ ?_ ?_ x) (out_put m c t 10 0 x y (by omega) (by omega)).symm
    all_goals intro a e
    all_goals try rw [Memref.IsWhole.read_unread]
    · exact q_load m c t 10 0 _ _ rfl a e
    · exact kp_load m c t 10 (by decide) 0 _ _ rfl a e
    · exact k_load m c t 10 0 _ _ rfl a e
    · exact vp_load m c t 10 (by decide) 0 _ _ rfl a e
    · exact v_load m c t 10 0 _ _ rfl a e
    · exact b_load m c t (blk t 10) 0 _ _ (later t 10 (by decide) 0) a e
  case piece24 =>
    refine Eq.trans (out_tile _ _ _ _ _ _ (qkv m c) (bias m c) (res t) (blk t 9) 3 ?_ ?_ ?_ ?_ ?_ ?_ x) (out_put m c t 9 3 x y (by omega) (by omega)).symm
    all_goals intro a e
    all_goals try rw [Memref.IsWhole.read_unread]
    · exact q_load m c t 9 3 _ _ rfl a e
    · exact kp_load m c t 9 (by decide) 3 _ _ rfl a e
    · exact k_load m c t 9 3 _ _ rfl a e
    · exact vp_load m c t 9 (by decide) 3 _ _ rfl a e
    · exact v_load m c t 9 3 _ _ rfl a e
    · exact b_load m c t (blk t 9) 3 _ _ (later t 9 (by decide) 3) a e
  case piece25 =>
    refine Eq.trans (out_tile _ _ _ _ _ _ (qkv m c) (bias m c) (res t) (blk t 9) 2 ?_ ?_ ?_ ?_ ?_ ?_ x) (out_put m c t 9 2 x y (by omega) (by omega)).symm
    all_goals intro a e
    all_goals try rw [Memref.IsWhole.read_unread]
    · exact q_load m c t 9 2 _ _ rfl a e
    · exact kp_load m c t 9 (by decide) 2 _ _ rfl a e
    · exact k_load m c t 9 2 _ _ rfl a e
    · exact vp_load m c t 9 (by decide) 2 _ _ rfl a e
    · exact v_load m c t 9 2 _ _ rfl a e
    · exact b_load m c t (blk t 9) 2 _ _ (later t 9 (by decide) 2) a e
  case piece26 =>
    refine Eq.trans (out_tile _ _ _ _ _ _ (qkv m c) (bias m c) (res t) (blk t 9) 1 ?_ ?_ ?_ ?_ ?_ ?_ x) (out_put m c t 9 1 x y (by omega) (by omega)).symm
    all_goals intro a e
    all_goals try rw [Memref.IsWhole.read_unread]
    · exact q_load m c t 9 1 _ _ rfl a e
    · exact kp_load m c t 9 (by decide) 1 _ _ rfl a e
    · exact k_load m c t 9 1 _ _ rfl a e
    · exact vp_load m c t 9 (by decide) 1 _ _ rfl a e
    · exact v_load m c t 9 1 _ _ rfl a e
    · exact b_load m c t (blk t 9) 1 _ _ (later t 9 (by decide) 1) a e
  case piece27 =>
    refine Eq.trans (out_tile _ _ _ _ _ _ (qkv m c) (bias m c) (res t) (blk t 9) 0 ?_ ?_ ?_ ?_ ?_ ?_ x) (out_put m c t 9 0 x y (by omega) (by omega)).symm
    all_goals intro a e
    all_goals try rw [Memref.IsWhole.read_unread]
    · exact q_load m c t 9 0 _ _ rfl a e
    · exact kp_load m c t 9 (by decide) 0 _ _ rfl a e
    · exact k_load m c t 9 0 _ _ rfl a e
    · exact vp_load m c t 9 (by decide) 0 _ _ rfl a e
    · exact v_load m c t 9 0 _ _ rfl a e
    · exact b_load m c t (blk t 9) 0 _ _ (later t 9 (by decide) 0) a e
  case piece28 =>
    refine Eq.trans (out_tile _ _ _ _ _ _ (qkv m c) (bias m c) (res t) (blk t 8) 3 ?_ ?_ ?_ ?_ ?_ ?_ x) (out_put m c t 8 3 x y (by omega) (by omega)).symm
    all_goals intro a e
    all_goals try rw [Memref.IsWhole.read_unread]
    · exact q_load m c t 8 3 _ _ rfl a e
    · exact kp_load m c t 8 (by decide) 3 _ _ rfl a e
    · exact k_load m c t 8 3 _ _ rfl a e
    · exact vp_load m c t 8 (by decide) 3 _ _ rfl a e
    · exact v_load m c t 8 3 _ _ rfl a e
    · exact b_load m c t (blk t 8) 3 _ _ (later t 8 (by decide) 3) a e
  case piece29 =>
    refine Eq.trans (out_tile _ _ _ _ _ _ (qkv m c) (bias m c) (res t) (blk t 8) 2 ?_ ?_ ?_ ?_ ?_ ?_ x) (out_put m c t 8 2 x y (by omega) (by omega)).symm
    all_goals intro a e
    all_goals try rw [Memref.IsWhole.read_unread]
    · exact q_load m c t 8 2 _ _ rfl a e
    · exact kp_load m c t 8 (by decide) 2 _ _ rfl a e
    · exact k_load m c t 8 2 _ _ rfl a e
    · exact vp_load m c t 8 (by decide) 2 _ _ rfl a e
    · exact v_load m c t 8 2 _ _ rfl a e
    · exact b_load m c t (blk t 8) 2 _ _ (later t 8 (by decide) 2) a e
  case piece30 =>
    refine Eq.trans (out_tile _ _ _ _ _ _ (qkv m c) (bias m c) (res t) (blk t 8) 1 ?_ ?_ ?_ ?_ ?_ ?_ x) (out_put m c t 8 1 x y (by omega) (by omega)).symm
    all_goals intro a e
    all_goals try rw [Memref.IsWhole.read_unread]
    · exact q_load m c t 8 1 _ _ rfl a e
    · exact kp_load m c t 8 (by decide) 1 _ _ rfl a e
    · exact k_load m c t 8 1 _ _ rfl a e
    · exact vp_load m c t 8 (by decide) 1 _ _ rfl a e
    · exact v_load m c t 8 1 _ _ rfl a e
    · exact b_load m c t (blk t 8) 1 _ _ (later t 8 (by decide) 1) a e
  case piece31 =>
    refine Eq.trans (out_tile _ _ _ _ _ _ (qkv m c) (bias m c) (res t) (blk t 8) 0 ?_ ?_ ?_ ?_ ?_ ?_ x) (out_put m c t 8 0 x y (by omega) (by omega)).symm
    all_goals intro a e
    all_goals try rw [Memref.IsWhole.read_unread]
    · exact q_load m c t 8 0 _ _ rfl a e
    · exact kp_load m c t 8 (by decide) 0 _ _ rfl a e
    · exact k_load m c t 8 0 _ _ rfl a e
    · exact vp_load m c t 8 (by decide) 0 _ _ rfl a e
    · exact v_load m c t 8 0 _ _ rfl a e
    · exact b_load m c t (blk t 8) 0 _ _ (later t 8 (by decide) 0) a e
  case piece32 =>
    refine Eq.trans (out_tile _ _ _ _ _ _ (qkv m c) (bias m c) (res t) (blk t 7) 3 ?_ ?_ ?_ ?_ ?_ ?_ x) (out_put m c t 7 3 x y (by omega) (by omega)).symm
    all_goals intro a e
    all_goals try rw [Memref.IsWhole.read_unread]
    · exact q_load m c t 7 3 _ _ rfl a e
    · exact kp_load m c t 7 (by decide) 3 _ _ rfl a e
    · exact k_load m c t 7 3 _ _ rfl a e
    · exact vp_load m c t 7 (by decide) 3 _ _ rfl a e
    · exact v_load m c t 7 3 _ _ rfl a e
    · exact b_load m c t (blk t 7) 3 _ _ (later t 7 (by decide) 3) a e
  case piece33 =>
    refine Eq.trans (out_tile _ _ _ _ _ _ (qkv m c) (bias m c) (res t) (blk t 7) 2 ?_ ?_ ?_ ?_ ?_ ?_ x) (out_put m c t 7 2 x y (by omega) (by omega)).symm
    all_goals intro a e
    all_goals try rw [Memref.IsWhole.read_unread]
    · exact q_load m c t 7 2 _ _ rfl a e
    · exact kp_load m c t 7 (by decide) 2 _ _ rfl a e
    · exact k_load m c t 7 2 _ _ rfl a e
    · exact vp_load m c t 7 (by decide) 2 _ _ rfl a e
    · exact v_load m c t 7 2 _ _ rfl a e
    · exact b_load m c t (blk t 7) 2 _ _ (later t 7 (by decide) 2) a e
  case piece34 =>
    refine Eq.trans (out_tile _ _ _ _ _ _ (qkv m c) (bias m c) (res t) (blk t 7) 1 ?_ ?_ ?_ ?_ ?_ ?_ x) (out_put m c t 7 1 x y (by omega) (by omega)).symm
    all_goals intro a e
    all_goals try rw [Memref.IsWhole.read_unread]
    · exact q_load m c t 7 1 _ _ rfl a e
    · exact kp_load m c t 7 (by decide) 1 _ _ rfl a e
    · exact k_load m c t 7 1 _ _ rfl a e
    · exact vp_load m c t 7 (by decide) 1 _ _ rfl a e
    · exact v_load m c t 7 1 _ _ rfl a e
    · exact b_load m c t (blk t 7) 1 _ _ (later t 7 (by decide) 1) a e
  case piece35 =>
    refine Eq.trans (out_tile _ _ _ _ _ _ (qkv m c) (bias m c) (res t) (blk t 7) 0 ?_ ?_ ?_ ?_ ?_ ?_ x) (out_put m c t 7 0 x y (by omega) (by omega)).symm
    all_goals intro a e
    all_goals try rw [Memref.IsWhole.read_unread]
    · exact q_load m c t 7 0 _ _ rfl a e
    · exact kp_load m c t 7 (by decide) 0 _ _ rfl a e
    · exact k_load m c t 7 0 _ _ rfl a e
    · exact vp_load m c t 7 (by decide) 0 _ _ rfl a e
    · exact v_load m c t 7 0 _ _ rfl a e
    · exact b_load m c t (blk t 7) 0 _ _ (later t 7 (by decide) 0) a e
  case piece36 =>
    refine Eq.trans (out_tile _ _ _ _ _ _ (qkv m c) (bias m c) (res t) (blk t 6) 3 ?_ ?_ ?_ ?_ ?_ ?_ x) (out_put m c t 6 3 x y (by omega) (by omega)).symm
    all_goals intro a e
    all_goals try rw [Memref.IsWhole.read_unread]
    · exact q_load m c t 6 3 _ _ rfl a e
    · exact kp_load m c t 6 (by decide) 3 _ _ rfl a e
    · exact k_load m c t 6 3 _ _ rfl a e
    · exact vp_load m c t 6 (by decide) 3 _ _ rfl a e
    · exact v_load m c t 6 3 _ _ rfl a e
    · exact b_load m c t (blk t 6) 3 _ _ (later t 6 (by decide) 3) a e
  case piece37 =>
    refine Eq.trans (out_tile _ _ _ _ _ _ (qkv m c) (bias m c) (res t) (blk t 6) 2 ?_ ?_ ?_ ?_ ?_ ?_ x) (out_put m c t 6 2 x y (by omega) (by omega)).symm
    all_goals intro a e
    all_goals try rw [Memref.IsWhole.read_unread]
    · exact q_load m c t 6 2 _ _ rfl a e
    · exact kp_load m c t 6 (by decide) 2 _ _ rfl a e
    · exact k_load m c t 6 2 _ _ rfl a e
    · exact vp_load m c t 6 (by decide) 2 _ _ rfl a e
    · exact v_load m c t 6 2 _ _ rfl a e
    · exact b_load m c t (blk t 6) 2 _ _ (later t 6 (by decide) 2) a e
  case piece38 =>
    refine Eq.trans (out_tile _ _ _ _ _ _ (qkv m c) (bias m c) (res t) (blk t 6) 1 ?_ ?_ ?_ ?_ ?_ ?_ x) (out_put m c t 6 1 x y (by omega) (by omega)).symm
    all_goals intro a e
    all_goals try rw [Memref.IsWhole.read_unread]
    · exact q_load m c t 6 1 _ _ rfl a e
    · exact kp_load m c t 6 (by decide) 1 _ _ rfl a e
    · exact k_load m c t 6 1 _ _ rfl a e
    · exact vp_load m c t 6 (by decide) 1 _ _ rfl a e
    · exact v_load m c t 6 1 _ _ rfl a e
    · exact b_load m c t (blk t 6) 1 _ _ (later t 6 (by decide) 1) a e
  case piece39 =>
    refine Eq.trans (out_tile _ _ _ _ _ _ (qkv m c) (bias m c) (res t) (blk t 6) 0 ?_ ?_ ?_ ?_ ?_ ?_ x) (out_put m c t 6 0 x y (by omega) (by omega)).symm
    all_goals intro a e
    all_goals try rw [Memref.IsWhole.read_unread]
    · exact q_load m c t 6 0 _ _ rfl a e
    · exact kp_load m c t 6 (by decide) 0 _ _ rfl a e
    · exact k_load m c t 6 0 _ _ rfl a e
    · exact vp_load m c t 6 (by decide) 0 _ _ rfl a e
    · exact v_load m c t 6 0 _ _ rfl a e
    · exact b_load m c t (blk t 6) 0 _ _ (later t 6 (by decide) 0) a e
  case piece40 =>
    refine Eq.trans (out_tile _ _ _ _ _ _ (qkv m c) (bias m c) (res t) (blk t 5) 3 ?_ ?_ ?_ ?_ ?_ ?_ x) (out_put m c t 5 3 x y (by omega) (by omega)).symm
    all_goals intro a e
    all_goals try rw [Memref.IsWhole.read_unread]
    · exact q_load m c t 5 3 _ _ rfl a e
    · exact kp_load m c t 5 (by decide) 3 _ _ rfl a e
    · exact k_load m c t 5 3 _ _ rfl a e
    · exact vp_load m c t 5 (by decide) 3 _ _ rfl a e
    · exact v_load m c t 5 3 _ _ rfl a e
    · exact b_load m c t (blk t 5) 3 _ _ (later t 5 (by decide) 3) a e
  case piece41 =>
    refine Eq.trans (out_tile _ _ _ _ _ _ (qkv m c) (bias m c) (res t) (blk t 5) 2 ?_ ?_ ?_ ?_ ?_ ?_ x) (out_put m c t 5 2 x y (by omega) (by omega)).symm
    all_goals intro a e
    all_goals try rw [Memref.IsWhole.read_unread]
    · exact q_load m c t 5 2 _ _ rfl a e
    · exact kp_load m c t 5 (by decide) 2 _ _ rfl a e
    · exact k_load m c t 5 2 _ _ rfl a e
    · exact vp_load m c t 5 (by decide) 2 _ _ rfl a e
    · exact v_load m c t 5 2 _ _ rfl a e
    · exact b_load m c t (blk t 5) 2 _ _ (later t 5 (by decide) 2) a e
  case piece42 =>
    refine Eq.trans (out_tile _ _ _ _ _ _ (qkv m c) (bias m c) (res t) (blk t 5) 1 ?_ ?_ ?_ ?_ ?_ ?_ x) (out_put m c t 5 1 x y (by omega) (by omega)).symm
    all_goals intro a e
    all_goals try rw [Memref.IsWhole.read_unread]
    · exact q_load m c t 5 1 _ _ rfl a e
    · exact kp_load m c t 5 (by decide) 1 _ _ rfl a e
    · exact k_load m c t 5 1 _ _ rfl a e
    · exact vp_load m c t 5 (by decide) 1 _ _ rfl a e
    · exact v_load m c t 5 1 _ _ rfl a e
    · exact b_load m c t (blk t 5) 1 _ _ (later t 5 (by decide) 1) a e
  case piece43 =>
    refine Eq.trans (out_tile _ _ _ _ _ _ (qkv m c) (bias m c) (res t) (blk t 5) 0 ?_ ?_ ?_ ?_ ?_ ?_ x) (out_put m c t 5 0 x y (by omega) (by omega)).symm
    all_goals intro a e
    all_goals try rw [Memref.IsWhole.read_unread]
    · exact q_load m c t 5 0 _ _ rfl a e
    · exact kp_load m c t 5 (by decide) 0 _ _ rfl a e
    · exact k_load m c t 5 0 _ _ rfl a e
    · exact vp_load m c t 5 (by decide) 0 _ _ rfl a e
    · exact v_load m c t 5 0 _ _ rfl a e
    · exact b_load m c t (blk t 5) 0 _ _ (later t 5 (by decide) 0) a e
  case piece44 =>
    refine Eq.trans (out_tile _ _ _ _ _ _ (qkv m c) (bias m c) (res t) (blk t 4) 3 ?_ ?_ ?_ ?_ ?_ ?_ x) (out_put m c t 4 3 x y (by omega) (by omega)).symm
    all_goals intro a e
    all_goals try rw [Memref.IsWhole.read_unread]
    · exact q_load m c t 4 3 _ _ rfl a e
    · exact kp_load m c t 4 (by decide) 3 _ _ rfl a e
    · exact k_load m c t 4 3 _ _ rfl a e
    · exact vp_load m c t 4 (by decide) 3 _ _ rfl a e
    · exact v_load m c t 4 3 _ _ rfl a e
    · exact b_load m c t (blk t 4) 3 _ _ (later t 4 (by decide) 3) a e
  case piece45 =>
    refine Eq.trans (out_tile _ _ _ _ _ _ (qkv m c) (bias m c) (res t) (blk t 4) 2 ?_ ?_ ?_ ?_ ?_ ?_ x) (out_put m c t 4 2 x y (by omega) (by omega)).symm
    all_goals intro a e
    all_goals try rw [Memref.IsWhole.read_unread]
    · exact q_load m c t 4 2 _ _ rfl a e
    · exact kp_load m c t 4 (by decide) 2 _ _ rfl a e
    · exact k_load m c t 4 2 _ _ rfl a e
    · exact vp_load m c t 4 (by decide) 2 _ _ rfl a e
    · exact v_load m c t 4 2 _ _ rfl a e
    · exact b_load m c t (blk t 4) 2 _ _ (later t 4 (by decide) 2) a e
  case piece46 =>
    refine Eq.trans (out_tile _ _ _ _ _ _ (qkv m c) (bias m c) (res t) (blk t 4) 1 ?_ ?_ ?_ ?_ ?_ ?_ x) (out_put m c t 4 1 x y (by omega) (by omega)).symm
    all_goals intro a e
    all_goals try rw [Memref.IsWhole.read_unread]
    · exact q_load m c t 4 1 _ _ rfl a e
    · exact kp_load m c t 4 (by decide) 1 _ _ rfl a e
    · exact k_load m c t 4 1 _ _ rfl a e
    · exact vp_load m c t 4 (by decide) 1 _ _ rfl a e
    · exact v_load m c t 4 1 _ _ rfl a e
    · exact b_load m c t (blk t 4) 1 _ _ (later t 4 (by decide) 1) a e
  case piece47 =>
    refine Eq.trans (out_tile _ _ _ _ _ _ (qkv m c) (bias m c) (res t) (blk t 4) 0 ?_ ?_ ?_ ?_ ?_ ?_ x) (out_put m c t 4 0 x y (by omega) (by omega)).symm
    all_goals intro a e
    all_goals try rw [Memref.IsWhole.read_unread]
    · exact q_load m c t 4 0 _ _ rfl a e
    · exact kp_load m c t 4 (by decide) 0 _ _ rfl a e
    · exact k_load m c t 4 0 _ _ rfl a e
    · exact vp_load m c t 4 (by decide) 0 _ _ rfl a e
    · exact v_load m c t 4 0 _ _ rfl a e
    · exact b_load m c t (blk t 4) 0 _ _ (later t 4 (by decide) 0) a e
  case piece48 =>
    refine Eq.trans (out_tile _ _ _ _ _ _ (qkv m c) (bias m c) (res t) (blk t 3) 3 ?_ ?_ ?_ ?_ ?_ ?_ x) (out_put m c t 3 3 x y (by omega) (by omega)).symm
    all_goals intro a e
    all_goals try rw [Memref.IsWhole.read_unread]
    · exact q_load m c t 3 3 _ _ rfl a e
    · exact kp_load m c t 3 (by decide) 3 _ _ rfl a e
    · exact k_load m c t 3 3 _ _ rfl a e
    · exact vp_load m c t 3 (by decide) 3 _ _ rfl a e
    · exact v_load m c t 3 3 _ _ rfl a e
    · exact b_load m c t (blk t 3) 3 _ _ (later t 3 (by decide) 3) a e
  case piece49 =>
    refine Eq.trans (out_tile _ _ _ _ _ _ (qkv m c) (bias m c) (res t) (blk t 3) 2 ?_ ?_ ?_ ?_ ?_ ?_ x) (out_put m c t 3 2 x y (by omega) (by omega)).symm
    all_goals intro a e
    all_goals try rw [Memref.IsWhole.read_unread]
    · exact q_load m c t 3 2 _ _ rfl a e
    · exact kp_load m c t 3 (by decide) 2 _ _ rfl a e
    · exact k_load m c t 3 2 _ _ rfl a e
    · exact vp_load m c t 3 (by decide) 2 _ _ rfl a e
    · exact v_load m c t 3 2 _ _ rfl a e
    · exact b_load m c t (blk t 3) 2 _ _ (later t 3 (by decide) 2) a e
  case piece50 =>
    refine Eq.trans (out_tile _ _ _ _ _ _ (qkv m c) (bias m c) (res t) (blk t 3) 1 ?_ ?_ ?_ ?_ ?_ ?_ x) (out_put m c t 3 1 x y (by omega) (by omega)).symm
    all_goals intro a e
    all_goals try rw [Memref.IsWhole.read_unread]
    · exact q_load m c t 3 1 _ _ rfl a e
    · exact kp_load m c t 3 (by decide) 1 _ _ rfl a e
    · exact k_load m c t 3 1 _ _ rfl a e
    · exact vp_load m c t 3 (by decide) 1 _ _ rfl a e
    · exact v_load m c t 3 1 _ _ rfl a e
    · exact b_load m c t (blk t 3) 1 _ _ (later t 3 (by decide) 1) a e
  case piece51 =>
    refine Eq.trans (out_tile _ _ _ _ _ _ (qkv m c) (bias m c) (res t) (blk t 3) 0 ?_ ?_ ?_ ?_ ?_ ?_ x) (out_put m c t 3 0 x y (by omega) (by omega)).symm
    all_goals intro a e
    all_goals try rw [Memref.IsWhole.read_unread]
    · exact q_load m c t 3 0 _ _ rfl a e
    · exact kp_load m c t 3 (by decide) 0 _ _ rfl a e
    · exact k_load m c t 3 0 _ _ rfl a e
    · exact vp_load m c t 3 (by decide) 0 _ _ rfl a e
    · exact v_load m c t 3 0 _ _ rfl a e
    · exact b_load m c t (blk t 3) 0 _ _ (later t 3 (by decide) 0) a e
  case piece52 =>
    refine Eq.trans (out_tile _ _ _ _ _ _ (qkv m c) (bias m c) (res t) (blk t 2) 3 ?_ ?_ ?_ ?_ ?_ ?_ x) (out_put m c t 2 3 x y (by omega) (by omega)).symm
    all_goals intro a e
    all_goals try rw [Memref.IsWhole.read_unread]
    · exact q_load m c t 2 3 _ _ rfl a e
    · exact kp_load m c t 2 (by decide) 3 _ _ rfl a e
    · exact k_load m c t 2 3 _ _ rfl a e
    · exact vp_load m c t 2 (by decide) 3 _ _ rfl a e
    · exact v_load m c t 2 3 _ _ rfl a e
    · exact b_load m c t (blk t 2) 3 _ _ (later t 2 (by decide) 3) a e
  case piece53 =>
    refine Eq.trans (out_tile _ _ _ _ _ _ (qkv m c) (bias m c) (res t) (blk t 2) 2 ?_ ?_ ?_ ?_ ?_ ?_ x) (out_put m c t 2 2 x y (by omega) (by omega)).symm
    all_goals intro a e
    all_goals try rw [Memref.IsWhole.read_unread]
    · exact q_load m c t 2 2 _ _ rfl a e
    · exact kp_load m c t 2 (by decide) 2 _ _ rfl a e
    · exact k_load m c t 2 2 _ _ rfl a e
    · exact vp_load m c t 2 (by decide) 2 _ _ rfl a e
    · exact v_load m c t 2 2 _ _ rfl a e
    · exact b_load m c t (blk t 2) 2 _ _ (later t 2 (by decide) 2) a e
  case piece54 =>
    refine Eq.trans (out_tile _ _ _ _ _ _ (qkv m c) (bias m c) (res t) (blk t 2) 1 ?_ ?_ ?_ ?_ ?_ ?_ x) (out_put m c t 2 1 x y (by omega) (by omega)).symm
    all_goals intro a e
    all_goals try rw [Memref.IsWhole.read_unread]
    · exact q_load m c t 2 1 _ _ rfl a e
    · exact kp_load m c t 2 (by decide) 1 _ _ rfl a e
    · exact k_load m c t 2 1 _ _ rfl a e
    · exact vp_load m c t 2 (by decide) 1 _ _ rfl a e
    · exact v_load m c t 2 1 _ _ rfl a e
    · exact b_load m c t (blk t 2) 1 _ _ (later t 2 (by decide) 1) a e
  case piece55 =>
    refine Eq.trans (out_tile _ _ _ _ _ _ (qkv m c) (bias m c) (res t) (blk t 2) 0 ?_ ?_ ?_ ?_ ?_ ?_ x) (out_put m c t 2 0 x y (by omega) (by omega)).symm
    all_goals intro a e
    all_goals try rw [Memref.IsWhole.read_unread]
    · exact q_load m c t 2 0 _ _ rfl a e
    · exact kp_load m c t 2 (by decide) 0 _ _ rfl a e
    · exact k_load m c t 2 0 _ _ rfl a e
    · exact vp_load m c t 2 (by decide) 0 _ _ rfl a e
    · exact v_load m c t 2 0 _ _ rfl a e
    · exact b_load m c t (blk t 2) 0 _ _ (later t 2 (by decide) 0) a e
  case piece56 =>
    refine Eq.trans (out_tile _ _ _ _ _ _ (qkv m c) (bias m c) (res t) (blk t 1) 3 ?_ ?_ ?_ ?_ ?_ ?_ x) (out_put m c t 1 3 x y (by omega) (by omega)).symm
    all_goals intro a e
    all_goals try rw [Memref.IsWhole.read_unread]
    · exact q_load m c t 1 3 _ _ rfl a e
    · exact kp_load m c t 1 (by decide) 3 _ _ rfl a e
    · exact k_load m c t 1 3 _ _ rfl a e
    · exact vp_load m c t 1 (by decide) 3 _ _ rfl a e
    · exact v_load m c t 1 3 _ _ rfl a e
    · exact b_load m c t (blk t 1) 3 _ _ (later t 1 (by decide) 3) a e
  case piece57 =>
    refine Eq.trans (out_tile _ _ _ _ _ _ (qkv m c) (bias m c) (res t) (blk t 1) 2 ?_ ?_ ?_ ?_ ?_ ?_ x) (out_put m c t 1 2 x y (by omega) (by omega)).symm
    all_goals intro a e
    all_goals try rw [Memref.IsWhole.read_unread]
    · exact q_load m c t 1 2 _ _ rfl a e
    · exact kp_load m c t 1 (by decide) 2 _ _ rfl a e
    · exact k_load m c t 1 2 _ _ rfl a e
    · exact vp_load m c t 1 (by decide) 2 _ _ rfl a e
    · exact v_load m c t 1 2 _ _ rfl a e
    · exact b_load m c t (blk t 1) 2 _ _ (later t 1 (by decide) 2) a e
  case piece58 =>
    refine Eq.trans (out_tile _ _ _ _ _ _ (qkv m c) (bias m c) (res t) (blk t 1) 1 ?_ ?_ ?_ ?_ ?_ ?_ x) (out_put m c t 1 1 x y (by omega) (by omega)).symm
    all_goals intro a e
    all_goals try rw [Memref.IsWhole.read_unread]
    · exact q_load m c t 1 1 _ _ rfl a e
    · exact kp_load m c t 1 (by decide) 1 _ _ rfl a e
    · exact k_load m c t 1 1 _ _ rfl a e
    · exact vp_load m c t 1 (by decide) 1 _ _ rfl a e
    · exact v_load m c t 1 1 _ _ rfl a e
    · exact b_load m c t (blk t 1) 1 _ _ (later t 1 (by decide) 1) a e
  case piece59 =>
    refine Eq.trans (out_tile _ _ _ _ _ _ (qkv m c) (bias m c) (res t) (blk t 1) 0 ?_ ?_ ?_ ?_ ?_ ?_ x) (out_put m c t 1 0 x y (by omega) (by omega)).symm
    all_goals intro a e
    all_goals try rw [Memref.IsWhole.read_unread]
    · exact q_load m c t 1 0 _ _ rfl a e
    · exact kp_load m c t 1 (by decide) 0 _ _ rfl a e
    · exact k_load m c t 1 0 _ _ rfl a e
    · exact vp_load m c t 1 (by decide) 0 _ _ rfl a e
    · exact v_load m c t 1 0 _ _ rfl a e
    · exact b_load m c t (blk t 1) 0 _ _ (later t 1 (by decide) 0) a e
  case piece60 =>
    refine Eq.trans (out_tile _ _ _ _ _ _ (qkv m c) (bias m c) (res t) (blk t 0) 3 ?_ ?_ ?_ ?_ ?_ ?_ x) (out_put m c t 0 3 x y (by omega) (by omega)).symm
    all_goals intro a e
    all_goals try rw [Memref.IsWhole.read_unread]
    · exact q_load m c t 0 3 _ _ rfl a e
    · exact kp_load0 m c t 3 _ _ rfl a e
    · exact k_load m c t 0 3 _ _ rfl a e
    · exact vp_load0 m c t 3 _ _ rfl a e
    · exact v_load m c t 0 3 _ _ rfl a e
    · exact b_load m c t (blk t 0) 3 _ _ (idx t).2.2.2.2.2.2.2.2.2.2.2 a e
  case piece61 =>
    refine Eq.trans (out_tile _ _ _ _ _ _ (qkv m c) (bias m c) (res t) (blk t 0) 2 ?_ ?_ ?_ ?_ ?_ ?_ x) (out_put m c t 0 2 x y (by omega) (by omega)).symm
    all_goals intro a e
    all_goals try rw [Memref.IsWhole.read_unread]
    · exact q_load m c t 0 2 _ _ rfl a e
    · exact kp_load0 m c t 2 _ _ rfl a e
    · exact k_load m c t 0 2 _ _ rfl a e
    · exact vp_load0 m c t 2 _ _ rfl a e
    · exact v_load m c t 0 2 _ _ rfl a e
    · exact b_load m c t (blk t 0) 2 _ _ (idx t).2.2.2.2.2.2.2.2.2.2.1 a e
  case piece62 =>
    refine Eq.trans (out_tile _ _ _ _ _ _ (qkv m c) (bias m c) (res t) (blk t 0) 1 ?_ ?_ ?_ ?_ ?_ ?_ x) (out_put m c t 0 1 x y (by omega) (by omega)).symm
    all_goals intro a e
    all_goals try rw [Memref.IsWhole.read_unread]
    · exact q_load m c t 0 1 _ _ rfl a e
    · exact kp_load0 m c t 1 _ _ rfl a e
    · exact k_load m c t 0 1 _ _ rfl a e
    · exact vp_load0 m c t 1 _ _ rfl a e
    · exact v_load m c t 0 1 _ _ rfl a e
    · exact b_load m c t (blk t 0) 1 _ _ (idx t).2.2.2.2.2.2.2.2.2.1 a e
  case piece63 =>
    refine Eq.trans (out_tile _ _ _ _ _ _ (qkv m c) (bias m c) (res t) (blk t 0) 0 ?_ ?_ ?_ ?_ ?_ ?_ x) (out_put m c t 0 0 x y (by omega) (by omega)).symm
    all_goals intro a e
    all_goals try rw [Memref.IsWhole.read_unread]
    · exact q_load m c t 0 0 _ _ rfl a e
    · exact kp_load0 m c t 0 _ _ rfl a e
    · exact k_load m c t 0 0 _ _ rfl a e
    · exact vp_load0 m c t 0 _ _ rfl a e
    · exact v_load m c t 0 0 _ _ rfl a e
    · exact b_load m c t (blk t 0) 0 _ _ (idx t).2.2.2.2.2.2.2.2.1 a e

end Cert.Dil4Ideal.AttValue
end
-- ==== Proof.Dil4Lse.lean ====
module

public import proofs.«01_k».proof.Proof.Dil4Kernel
public import Idealize.ShloMosaic.Lib.Pipeline.ValueKit
public import Idealize.ShloMosaic.Lib.Pointwise

@[expose] public section

/-!
# The dilated attention's log-sum-exps, tile by tile
-/

set_option maxRecDepth 16384

noncomputable section

open Idealize.ShloMosaic Idealize.ShloMosaic.TcCoe Idealize.SL.Sem
open Idealize.ShloMosaic.Pipeline (Dat)

namespace Cert.Dil4Ideal.AttValue

open Cert.Dil4Ideal Cert.Dil4Ideal.Gen
open Cert.DilIdeal.AttValue (top mass attend lse2 col sum_halves)

variable (m : (ℓ : Loc nD τ sig) → Buf (Elt Ideal) ℓ)

set_option maxHeartbeats 2000000 in
/-- The second result array after the run. -/
theorem arr7 (c : Dev nD) : (dats m 0 c).arrAt 7 cfg0.N = lse m c := by
  refine (dats m 0 c).arrAt_eq_of_covers 7 _ (by decide +kernel) fun t hf y => ?_
  blk_simp
  rw [after0_7]
  unfold outsAt0
  dsimp only
  frame_out
  canon_tiles x h
  case piece0 =>
    refine Eq.trans (lse_tile _ _ _ _ (qkv m c) (bias m c) (res t) (blk t 15) 3 ?_ ?_ ?_ ?_ x) (lse_put m c t 15 3 x y (by omega) (by omega)).symm
    all_goals intro a e
    all_goals try rw [Memref.IsWhole.read_unread]
    · exact q_load m c t 15 3 _ _ rfl a e
    · exact kp_load m c t 15 (by decide) 3 _ _ rfl a e
    · exact k_load m c t 15 3 _ _ rfl a e
    · exact b_load m c t (blk t 15) 3 _ _ (later t 15 (by decide) 3) a e
  case piece1 =>
    refine Eq.trans (lse_tile _ _ _ _ (qkv m c) (bias m c) (res t) (blk t 15) 2 ?_ ?_ ?_ ?_ x) (lse_put m c t 15 2 x y (by omega) (by omega)).symm
    all_goals intro a e
    all_goals try rw [Memref.IsWhole.read_unread]
    · exact q_load m c t 15 2 _ _ rfl a e
    · exact kp_load m c t 15 (by decide) 2 _ _ rfl a e
    · exact k_load m c t 15 2 _ _ rfl a e
    · exact b_load m c t (blk t 15) 2 _ _ (later t 15 (by decide) 2) a e
  case piece2 =>
    refine Eq.trans (lse_tile _ _ _ _ (qkv m c) (bias m c) (res t) (blk t 15) 1 ?_ ?_ ?_ ?_ x) (lse_put m c t 15 1 x y (by omega) (by omega)).symm
    all_goals intro a e
    all_goals try rw [Memref.IsWhole.read_unread]
    · exact q_load m c t 15 1 _ _ rfl a e
    · exact kp_load m c t 15 (by decide) 1 _ _ rfl a e
    · exact k_load m c t 15 1 _ _ rfl a e
    · exact b_load m c t (blk t 15) 1 _ _ (later t 15 (by decide) 1) a e
  case piece3 =>
    refine Eq.trans (lse_tile _ _ _ _ (qkv m c) (bias m c) (res t) (blk t 15) 0 ?_ ?_ ?_ ?_ x) (lse_put m c t 15 0 x y (by omega) (by omega)).symm
    all_goals intro a e
    all_goals try rw [Memref.IsWhole.read_unread]
    · exact q_load m c t 15 0 _ _ rfl a e
    · exact kp_load m c t 15 (by decide) 0 _ _ rfl a e
    · exact k_load m c t 15 0 _ _ rfl a e
    · exact b_load m c t (blk t 15) 0 _ _ (later t 15 (by decide) 0) a e
  case piece4 =>
    refine Eq.trans (lse_tile _ _ _ _ (qkv m c) (bias m c) (res t) (blk t 14) 3 ?_ ?_ ?_ ?_ x) (lse_put m c t 14 3 x y (by omega) (by omega)).symm
    all_goals intro a e
    all_goals try rw [Memref.IsWhole.read_unread]
    · exact q_load m c t 14 3 _ _ rfl a e
    · exact kp_load m c t 14 (by decide) 3 _ _ rfl a e
    · exact k_load m c t 14 3 _ _ rfl a e
    · exact b_load m c t (blk t 14) 3 _ _ (later t 14 (by decide) 3) a e
  case piece5 =>
    refine Eq.trans (lse_tile _ _ _ _ (qkv m c) (bias m c) (res t) (blk t 14) 2 ?_ ?_ ?_ ?_ x) (lse_put m c t 14 2 x y (by omega) (by omega)).symm
    all_goals intro a e
    all_goals try rw [Memref.IsWhole.read_unread]
    · exact q_load m c t 14 2 _ _ rfl a e
    · exact kp_load m c t 14 (by decide) 2 _ _ rfl a e
    · exact k_load m c t 14 2 _ _ rfl a e
    · exact b_load m c t (blk t 14) 2 _ _ (later t 14 (by decide) 2) a e
  case piece6 =>
    refine Eq.trans (lse_tile _ _ _ _ (qkv m c) (bias m c) (res t) (blk t 14) 1 ?_ ?_ ?_ ?_ x) (lse_put m c t 14 1 x y (by omega) (by omega)).symm
    all_goals intro a e
    all_goals try rw [Memref.IsWhole.read_unread]
    · exact q_load m c t 14 1 _ _ rfl a e
    · exact kp_load m c t 14 (by decide) 1 _ _ rfl a e
    · exact k_load m c t 14 1 _ _ rfl a e
    · exact b_load m c t (blk t 14) 1 _ _ (later t 14 (by decide) 1) a e
  case piece7 =>
    refine Eq.trans (lse_tile _ _ _ _ (qkv m c) (bias m c) (res t) (blk t 14) 0 ?_ ?_ ?_ ?_ x) (lse_put m c t 14 0 x y (by omega) (by omega)).symm
    all_goals intro a e
    all_goals try rw [Memref.IsWhole.read_unread]
    · exact q_load m c t 14 0 _ _ rfl a e
    · exact kp_load m c t 14 (by decide) 0 _ _ rfl a e
    · exact k_load m c t 14 0 _ _ rfl a e
    · exact b_load m c t (blk t 14) 0 _ _ (later t 14 (by decide) 0) a e
  case piece8 =>
    refine Eq.trans (lse_tile _ _ _ _ (qkv m c) (bias m c) (res t) (blk t 13) 3 ?_ ?_ ?_ ?_ x) (lse_put m c t 13 3 x y (by omega) (by omega)).symm
    all_goals intro a e
    all_goals try rw [Memref.IsWhole.read_unread]
    · exact q_load m c t 13 3 _ _ rfl a e
    · exact kp_load m c t 13 (by decide) 3 _ _ rfl a e
    · exact k_load m c t 13 3 _ _ rfl a e
    · exact b_load m c t (blk t 13) 3 _ _ (later t 13 (by decide) 3) a e
  case piece9 =>
    refine Eq.trans (lse_tile _ _ _ _ (qkv m c) (bias m c) (res t) (blk t 13) 2 ?_ ?_ ?_ ?_ x) (lse_put m c t 13 2 x y (by omega) (by omega)).symm
    all_goals intro a e
    all_goals try rw [Memref.IsWhole.read_unread]
    · exact q_load m c t 13 2 _ _ rfl a e
    · exact kp_load m c t 13 (by decide) 2 _ _ rfl a e
    · exact k_load m c t 13 2 _ _ rfl a e
    · exact b_load m c t (blk t 13) 2 _ _ (later t 13 (by decide) 2) a e
  case piece10 =>
    refine Eq.trans (lse_tile _ _ _ _ (qkv m c) (bias m c) (res t) (blk t 13) 1 ?_ ?_ ?_ ?_ x) (lse_put m c t 13 1 x y (by omega) (by omega)).symm
    all_goals intro a e
    all_goals try rw [Memref.IsWhole.read_unread]
    · exact q_load m c t 13 1 _ _ rfl a e
    · exact kp_load m c t 13 (by decide) 1 _ _ rfl a e
    · exact k_load m c t 13 1 _ _ rfl a e
    · exact b_load m c t (blk t 13) 1 _ _ (later t 13 (by decide) 1) a e
  case piece11 =>
    refine Eq.trans (lse_tile _ _ _ _ (qkv m c) (bias m c) (res t) (blk t 13) 0 ?_ ?_ ?_ ?_ x) (lse_put m c t 13 0 x y (by omega) (by omega)).symm
    all_goals intro a e
    all_goals try rw [Memref.IsWhole.read_unread]
    · exact q_load m c t 13 0 _ _ rfl a e
    · exact kp_load m c t 13 (by decide) 0 _ _ rfl a e
    · exact k_load m c t 13 0 _ _ rfl a e
    · exact b_load m c t (blk t 13) 0 _ _ (later t 13 (by decide) 0) a e
  case piece12 =>
    refine Eq.trans (lse_tile _ _ _ _ (qkv m c) (bias m c) (res t) (blk t 12) 3 ?_ ?_ ?_ ?_ x) (lse_put m c t 12 3 x y (by omega) (by omega)).symm
    all_goals intro a e
    all_goals try rw [Memref.IsWhole.read_unread]
    · exact q_load m c t 12 3 _ _ rfl a e
    · exact kp_load m c t 12 (by decide) 3 _ _ rfl a e
    · exact k_load m c t 12 3 _ _ rfl a e
    · exact b_load m c t (blk t 12) 3 _ _ (later t 12 (by decide) 3) a e
  case piece13 =>
    refine Eq.trans (lse_tile _ _ _ _ (qkv m c) (bias m c) (res t) (blk t 12) 2 ?_ ?_ ?_ ?_ x) (lse_put m c t 12 2 x y (by omega) (by omega)).symm
    all_goals intro a e
    all_goals try rw [Memref.IsWhole.read_unread]
    · exact q_load m c t 12 2 _ _ rfl a e
    · exact kp_load m c t 12 (by decide) 2 _ _ rfl a e
    · exact k_load m c t 12 2 _ _ rfl a e
    · exact b_load m c t (blk t 12) 2 _ _ (later t 12 (by decide) 2) a e
  case piece14 =>
    refine Eq.trans (lse_tile _ _ _ _ (qkv m c) (bias m c) (res t) (blk t 12) 1 ?_ ?_ ?_ ?_ x) (lse_put m c t 12 1 x y (by omega) (by omega)).symm
    all_goals intro a e
    all_goals try rw [Memref.IsWhole.read_unread]
    · exact q_load m c t 12 1 _ _ rfl a e
    · exact kp_load m c t 12 (by decide) 1 _ _ rfl a e
    · exact k_load m c t 12 1 _ _ rfl a e
    · exact b_load m c t (blk t 12) 1 _ _ (later t 12 (by decide) 1) a e
  case piece15 =>
    refine Eq.trans (lse_tile _ _ _ _ (qkv m c) (bias m c) (res t) (blk t 12) 0 ?_ ?_ ?_ ?_ x) (lse_put m c t 12 0 x y (by omega) (by omega)).symm
    all_goals intro a e
    all_goals try rw [Memref.IsWhole.read_unread]
    · exact q_load m c t 12 0 _ _ rfl a e
    · exact kp_load m c t 12 (by decide) 0 _ _ rfl a e
    · exact k_load m c t 12 0 _ _ rfl a e
    · exact b_load m c t (blk t 12) 0 _ _ (later t 12 (by decide) 0) a e
  case piece16 =>
    refine Eq.trans (lse_tile _ _ _ _ (qkv m c) (bias m c) (res t) (blk t 11) 3 ?_ ?_ ?_ ?_ x) (lse_put m c t 11 3 x y (by omega) (by omega)).symm
    all_goals intro a e
    all_goals try rw [Memref.IsWhole.read_unread]
    · exact q_load m c t 11 3 _ _ rfl a e
    · exact kp_load m c t 11 (by decide) 3 _ _ rfl a e
    · exact k_load m c t 11 3 _ _ rfl a e
    · exact b_load m c t (blk t 11) 3 _ _ (later t 11 (by decide) 3) a e
  case piece17 =>
    refine Eq.trans (lse_tile _ _ _ _ (qkv m c) (bias m c) (res t) (blk t 11) 2 ?_ ?_ ?_ ?_ x) (lse_put m c t 11 2 x y (by omega) (by omega)).symm
    all_goals intro a e
    all_goals try rw [Memref.IsWhole.read_unread]
    · exact q_load m c t 11 2 _ _ rfl a e
    · exact kp_load m c t 11 (by decide) 2 _ _ rfl a e
    · exact k_load m c t 11 2 _ _ rfl a e
    · exact b_load m c t (blk t 11) 2 _ _ (later t 11 (by decide) 2) a e
  case piece18 =>
    refine Eq.trans (lse_tile _ _ _ _ (qkv m c) (bias m c) (res t) (blk t 11) 1 ?_ ?_ ?_ ?_ x) (lse_put m c t 11 1 x y (by omega) (by omega)).symm
    all_goals intro a e
    all_goals try rw [Memref.IsWhole.read_unread]
    · exact q_load m c t 11 1 _ _ rfl a e
    · exact kp_load m c t 11 (by decide) 1 _ _ rfl a e
    · exact k_load m c t 11 1 _ _ rfl a e
    · exact b_load m c t (blk t 11) 1 _ _ (later t 11 (by decide) 1) a e
  case piece19 =>
    refine Eq.trans (lse_tile _ _ _ _ (qkv m c) (bias m c) (res t) (blk t 11) 0 ?_ ?_ ?_ ?_ x) (lse_put m c t 11 0 x y (by omega) (by omega)).symm
    all_goals intro a e
    all_goals try rw [Memref.IsWhole.read_unread]
    · exact q_load m c t 11 0 _ _ rfl a e
    · exact kp_load m c t 11 (by decide) 0 _ _ rfl a e
    · exact k_load m c t 11 0 _ _ rfl a e
    · exact b_load m c t (blk t 11) 0 _ _ (later t 11 (by decide) 0) a e
  case piece20 =>
    refine Eq.trans (lse_tile _ _ _ _ (qkv m c) (bias m c) (res t) (blk t 10) 3 ?_ ?_ ?_ ?_ x) (lse_put m c t 10 3 x y (by omega) (by omega)).symm
    all_goals intro a e
    all_goals try rw [Memref.IsWhole.read_unread]
    · exact q_load m c t 10 3 _ _ rfl a e
    · exact kp_load m c t 10 (by decide) 3 _ _ rfl a e
    · exact k_load m c t 10 3 _ _ rfl a e
    · exact b_load m c t (blk t 10) 3 _ _ (later t 10 (by decide) 3) a e
  case piece21 =>
    refine Eq.trans (lse_tile _ _ _ _ (qkv m c) (bias m c) (res t) (blk t 10) 2 ?_ ?_ ?_ ?_ x) (lse_put m c t 10 2 x y (by omega) (by omega)).symm
    all_goals intro a e
    all_goals try rw [Memref.IsWhole.read_unread]
    · exact q_load m c t 10 2 _ _ rfl a e
    · exact kp_load m c t 10 (by decide) 2 _ _ rfl a e
    · exact k_load m c t 10 2 _ _ rfl a e
    · exact b_load m c t (blk t 10) 2 _ _ (later t 10 (by decide) 2) a e
  case piece22 =>
    refine Eq.trans (lse_tile _ _ _ _ (qkv m c) (bias m c) (res t) (blk t 10) 1 ?_ ?_ ?_ ?_ x) (lse_put m c t 10 1 x y (by omega) (by omega)).symm
    all_goals intro a e
    all_goals try rw [Memref.IsWhole.read_unread]
    · exact q_load m c t 10 1 _ _ rfl a e
    · exact kp_load m c t 10 (by decide) 1 _ _ rfl a e
    · exact k_load m c t 10 1 _ _ rfl a e
    · exact b_load m c t (blk t 10) 1 _ _ (later t 10 (by decide) 1) a e
  case piece23 =>
    refine Eq.trans (lse_tile _ _ _ _ (qkv m c) (bias m c) (res t) (blk t 10) 0 ?_ ?_ ?_ ?_ x) (lse_put m c t 10 0 x y (by omega) (by omega)).symm
    all_goals intro a e
    all_goals try rw [Memref.IsWhole.read_unread]
    · exact q_load m c t 10 0 _ _ rfl a e
    · exact kp_load m c t 10 (by decide) 0 _ _ rfl a e
    · exact k_load m c t 10 0 _ _ rfl a e
    · exact b_load m c t (blk t 10) 0 _ _ (later t 10 (by decide) 0) a e
  case piece24 =>
    refine Eq.trans (lse_tile _ _ _ _ (qkv m c) (bias m c) (res t) (blk t 9) 3 ?_ ?_ ?_ ?_ x) (lse_put m c t 9 3 x y (by omega) (by omega)).symm
    all_goals intro a e
    all_goals try rw [Memref.IsWhole.read_unread]
    · exact q_load m c t 9 3 _ _ rfl a e
    · exact kp_load m c t 9 (by decide) 3 _ _ rfl a e
    · exact k_load m c t 9 3 _ _ rfl a e
    · exact b_load m c t (blk t 9) 3 _ _ (later t 9 (by decide) 3) a e
  case piece25 =>
    refine Eq.trans (lse_tile _ _ _ _ (qkv m c) (bias m c) (res t) (blk t 9) 2 ?_ ?_ ?_ ?_ x) (lse_put m c t 9 2 x y (by omega) (by omega)).symm
    all_goals intro a e
    all_goals try rw [Memref.IsWhole.read_unread]
    · exact q_load m c t 9 2 _ _ rfl a e
    · exact kp_load m c t 9 (by decide) 2 _ _ rfl a e
    · exact k_load m c t 9 2 _ _ rfl a e
    · exact b_load m c t (blk t 9) 2 _ _ (later t 9 (by decide) 2) a e
  case piece26 =>
    refine Eq.trans (lse_tile _ _ _ _ (qkv m c) (bias m c) (res t) (blk t 9) 1 ?_ ?_ ?_ ?_ x) (lse_put m c t 9 1 x y (by omega) (by omega)).symm
    all_goals intro a e
    all_goals try rw [Memref.IsWhole.read_unread]
    · exact q_load m c t 9 1 _ _ rfl a e
    · exact kp_load m c t 9 (by decide) 1 _ _ rfl a e
    · exact k_load m c t 9 1 _ _ rfl a e
    · exact b_load m c t (blk t 9) 1 _ _ (later t 9 (by decide) 1) a e
  case piece27 =>
    refine Eq.trans (lse_tile _ _ _ _ (qkv m c) (bias m c) (res t) (blk t 9) 0 ?_ ?_ ?_ ?_ x) (lse_put m c t 9 0 x y (by omega) (by omega)).symm
    all_goals intro a e
    all_goals try rw [Memref.IsWhole.read_unread]
    · exact q_load m c t 9 0 _ _ rfl a e
    · exact kp_load m c t 9 (by decide) 0 _ _ rfl a e
    · exact k_load m c t 9 0 _ _ rfl a e
    · exact b_load m c t (blk t 9) 0 _ _ (later t 9 (by decide) 0) a e
  case piece28 =>
    refine Eq.trans (lse_tile _ _ _ _ (qkv m c) (bias m c) (res t) (blk t 8) 3 ?_ ?_ ?_ ?_ x) (lse_put m c t 8 3 x y (by omega) (by omega)).symm
    all_goals intro a e
    all_goals try rw [Memref.IsWhole.read_unread]
    · exact q_load m c t 8 3 _ _ rfl a e
    · exact kp_load m c t 8 (by decide) 3 _ _ rfl a e
    · exact k_load m c t 8 3 _ _ rfl a e
    · exact b_load m c t (blk t 8) 3 _ _ (later t 8 (by decide) 3) a e
  case piece29 =>
    refine Eq.trans (lse_tile _ _ _ _ (qkv m c) (bias m c) (res t) (blk t 8) 2 ?_ ?_ ?_ ?_ x) (lse_put m c t 8 2 x y (by omega) (by omega)).symm
    all_goals intro a e
    all_goals try rw [Memref.IsWhole.read_unread]
    · exact q_load m c t 8 2 _ _ rfl a e
    · exact kp_load m c t 8 (by decide) 2 _ _ rfl a e
    · exact k_load m c t 8 2 _ _ rfl a e
    · exact b_load m c t (blk t 8) 2 _ _ (later t 8 (by decide) 2) a e
  case piece30 =>
    refine Eq.trans (lse_tile _ _ _ _ (qkv m c) (bias m c) (res t) (blk t 8) 1 ?_ ?_ ?_ ?_ x) (lse_put m c t 8 1 x y (by omega) (by omega)).symm
    all_goals intro a e
    all_goals try rw [Memref.IsWhole.read_unread]
    · exact q_load m c t 8 1 _ _ rfl a e
    · exact kp_load m c t 8 (by decide) 1 _ _ rfl a e
    · exact k_load m c t 8 1 _ _ rfl a e
    · exact b_load m c t (blk t 8) 1 _ _ (later t 8 (by decide) 1) a e
  case piece31 =>
    refine Eq.trans (lse_tile _ _ _ _ (qkv m c) (bias m c) (res t) (blk t 8) 0 ?_ ?_ ?_ ?_ x) (lse_put m c t 8 0 x y (by omega) (by omega)).symm
    all_goals intro a e
    all_goals try rw [Memref.IsWhole.read_unread]
    · exact q_load m c t 8 0 _ _ rfl a e
    · exact kp_load m c t 8 (by decide) 0 _ _ rfl a e
    · exact k_load m c t 8 0 _ _ rfl a e
    · exact b_load m c t (blk t 8) 0 _ _ (later t 8 (by decide) 0) a e
  case piece32 =>
    refine Eq.trans (lse_tile _ _ _ _ (qkv m c) (bias m c) (res t) (blk t 7) 3 ?_ ?_ ?_ ?_ x) (lse_put m c t 7 3 x y (by omega) (by omega)).symm
    all_goals intro a e
    all_goals try rw [Memref.IsWhole.read_unread]
    · exact q_load m c t 7 3 _ _ rfl a e
    · exact kp_load m c t 7 (by decide) 3 _ _ rfl a e
    · exact k_load m c t 7 3 _ _ rfl a e
    · exact b_load m c t (blk t 7) 3 _ _ (later t 7 (by decide) 3) a e
  case piece33 =>
    refine Eq.trans (lse_tile _ _ _ _ (qkv m c) (bias m c) (res t) (blk t 7) 2 ?_ ?_ ?_ ?_ x) (lse_put m c t 7 2 x y (by omega) (by omega)).symm
    all_goals intro a e
    all_goals try rw [Memref.IsWhole.read_unread]
    · exact q_load m c t 7 2 _ _ rfl a e
    · exact kp_load m c t 7 (by decide) 2 _ _ rfl a e
    · exact k_load m c t 7 2 _ _ rfl a e
    · exact b_load m c t (blk t 7) 2 _ _ (later t 7 (by decide) 2) a e
  case piece34 =>
    refine Eq.trans (lse_tile _ _ _ _ (qkv m c) (bias m c) (res t) (blk t 7) 1 ?_ ?_ ?_ ?_ x) (lse_put m c t 7 1 x y (by omega) (by omega)).symm
    all_goals intro a e
    all_goals try rw [Memref.IsWhole.read_unread]
    · exact q_load m c t 7 1 _ _ rfl a e
    · exact kp_load m c t 7 (by decide) 1 _ _ rfl a e
    · exact k_load m c t 7 1 _ _ rfl a e
    · exact b_load m c t (blk t 7) 1 _ _ (later t 7 (by decide) 1) a e
  case piece35 =>
    refine Eq.trans (lse_tile _ _ _ _ (qkv m c) (bias m c) (res t) (blk t 7) 0 ?_ ?_ ?_ ?_ x) (lse_put m c t 7 0 x y (by omega) (by omega)).symm
    all_goals intro a e
    all_goals try rw [Memref.IsWhole.read_unread]
    · exact q_load m c t 7 0 _ _ rfl a e
    · exact kp_load m c t 7 (by decide) 0 _ _ rfl a e
    · exact k_load m c t 7 0 _ _ rfl a e
    · exact b_load m c t (blk t 7) 0 _ _ (later t 7 (by decide) 0) a e
  case piece36 =>
    refine Eq.trans (lse_tile _ _ _ _ (qkv m c) (bias m c) (res t) (blk t 6) 3 ?_ ?_ ?_ ?_ x) (lse_put m c t 6 3 x y (by omega) (by omega)).symm
    all_goals intro a e
    all_goals try rw [Memref.IsWhole.read_unread]
    · exact q_load m c t 6 3 _ _ rfl a e
    · exact kp_load m c t 6 (by decide) 3 _ _ rfl a e
    · exact k_load m c t 6 3 _ _ rfl a e
    · exact b_load m c t (blk t 6) 3 _ _ (later t 6 (by decide) 3) a e
  case piece37 =>
    refine Eq.trans (lse_tile _ _ _ _ (qkv m c) (bias m c) (res t) (blk t 6) 2 ?_ ?_ ?_ ?_ x) (lse_put m c t 6 2 x y (by omega) (by omega)).symm
    all_goals intro a e
    all_goals try rw [Memref.IsWhole.read_unread]
    · exact q_load m c t 6 2 _ _ rfl a e
    · exact kp_load m c t 6 (by decide) 2 _ _ rfl a e
    · exact k_load m c t 6 2 _ _ rfl a e
    · exact b_load m c t (blk t 6) 2 _ _ (later t 6 (by decide) 2) a e
  case piece38 =>
    refine Eq.trans (lse_tile _ _ _ _ (qkv m c) (bias m c) (res t) (blk t 6) 1 ?_ ?_ ?_ ?_ x) (lse_put m c t 6 1 x y (by omega) (by omega)).symm
    all_goals intro a e
    all_goals try rw [Memref.IsWhole.read_unread]
    · exact q_load m c t 6 1 _ _ rfl a e
    · exact kp_load m c t 6 (by decide) 1 _ _ rfl a e
    · exact k_load m c t 6 1 _ _ rfl a e
    · exact b_load m c t (blk t 6) 1 _ _ (later t 6 (by decide) 1) a e
  case piece39 =>
    refine Eq.trans (lse_tile _ _ _ _ (qkv m c) (bias m c) (res t) (blk t 6) 0 ?_ ?_ ?_ ?_ x) (lse_put m c t 6 0 x y (by omega) (by omega)).symm
    all_goals intro a e
    all_goals try rw [Memref.IsWhole.read_unread]
    · exact q_load m c t 6 0 _ _ rfl a e
    · exact kp_load m c t 6 (by decide) 0 _ _ rfl a e
    · exact k_load m c t 6 0 _ _ rfl a e
    · exact b_load m c t (blk t 6) 0 _ _ (later t 6 (by decide) 0) a e
  case piece40 =>
    refine Eq.trans (lse_tile _ _ _ _ (qkv m c) (bias m c) (res t) (blk t 5) 3 ?_ ?_ ?_ ?_ x) (lse_put m c t 5 3 x y (by omega) (by omega)).symm
    all_goals intro a e
    all_goals try rw [Memref.IsWhole.read_unread]
    · exact q_load m c t 5 3 _ _ rfl a e
    · exact kp_load m c t 5 (by decide) 3 _ _ rfl a e
    · exact k_load m c t 5 3 _ _ rfl a e
    · exact b_load m c t (blk t 5) 3 _ _ (later t 5 (by decide) 3) a e
  case piece41 =>
    refine Eq.trans (lse_tile _ _ _ _ (qkv m c) (bias m c) (res t) (blk t 5) 2 ?_ ?_ ?_ ?_ x) (lse_put m c t 5 2 x y (by omega) (by omega)).symm
    all_goals intro a e
    all_goals try rw [Memref.IsWhole.read_unread]
    · exact q_load m c t 5 2 _ _ rfl a e
    · exact kp_load m c t 5 (by decide) 2 _ _ rfl a e
    · exact k_load m c t 5 2 _ _ rfl a e
    · exact b_load m c t (blk t 5) 2 _ _ (later t 5 (by decide) 2) a e
  case piece42 =>
    refine Eq.trans (lse_tile _ _ _ _ (qkv m c) (bias m c) (res t) (blk t 5) 1 ?_ ?_ ?_ ?_ x) (lse_put m c t 5 1 x y (by omega) (by omega)).symm
    all_goals intro a e
    all_goals try rw [Memref.IsWhole.read_unread]
    · exact q_load m c t 5 1 _ _ rfl a e
    · exact kp_load m c t 5 (by decide) 1 _ _ rfl a e
    · exact k_load m c t 5 1 _ _ rfl a e
    · exact b_load m c t (blk t 5) 1 _ _ (later t 5 (by decide) 1) a e
  case piece43 =>
    refine Eq.trans (lse_tile _ _ _ _ (qkv m c) (bias m c) (res t) (blk t 5) 0 ?_ ?_ ?_ ?_ x) (lse_put m c t 5 0 x y (by omega) (by omega)).symm
    all_goals intro a e
    all_goals try rw [Memref.IsWhole.read_unread]
    · exact q_load m c t 5 0 _ _ rfl a e
    · exact kp_load m c t 5 (by decide) 0 _ _ rfl a e
    · exact k_load m c t 5 0 _ _ rfl a e
    · exact b_load m c t (blk t 5) 0 _ _ (later t 5 (by decide) 0) a e
  case piece44 =>
    refine Eq.trans (lse_tile _ _ _ _ (qkv m c) (bias m c) (res t) (blk t 4) 3 ?_ ?_ ?_ ?_ x) (lse_put m c t 4 3 x y (by omega) (by omega)).symm
    all_goals intro a e
    all_goals try rw [Memref.IsWhole.read_unread]
    · exact q_load m c t 4 3 _ _ rfl a e
    · exact kp_load m c t 4 (by decide) 3 _ _ rfl a e
    · exact k_load m c t 4 3 _ _ rfl a e
    · exact b_load m c t (blk t 4) 3 _ _ (later t 4 (by decide) 3) a e
  case piece45 =>
    refine Eq.trans (lse_tile _ _ _ _ (qkv m c) (bias m c) (res t) (blk t 4) 2 ?_ ?_ ?_ ?_ x) (lse_put m c t 4 2 x y (by omega) (by omega)).symm
    all_goals intro a e
    all_goals try rw [Memref.IsWhole.read_unread]
    · exact q_load m c t 4 2 _ _ rfl a e
    · exact kp_load m c t 4 (by decide) 2 _ _ rfl a e
    · exact k_load m c t 4 2 _ _ rfl a e
    · exact b_load m c t (blk t 4) 2 _ _ (later t 4 (by decide) 2) a e
  case piece46 =>
    refine Eq.trans (lse_tile _ _ _ _ (qkv m c) (bias m c) (res t) (blk t 4) 1 ?_ ?_ ?_ ?_ x) (lse_put m c t 4 1 x y (by omega) (by omega)).symm
    all_goals intro a e
    all_goals try rw [Memref.IsWhole.read_unread]
    · exact q_load m c t 4 1 _ _ rfl a e
    · exact kp_load m c t 4 (by decide) 1 _ _ rfl a e
    · exact k_load m c t 4 1 _ _ rfl a e
    · exact b_load m c t (blk t 4) 1 _ _ (later t 4 (by decide) 1) a e
  case piece47 =>
    refine Eq.trans (lse_tile _ _ _ _ (qkv m c) (bias m c) (res t) (blk t 4) 0 ?_ ?_ ?_ ?_ x) (lse_put m c t 4 0 x y (by omega) (by omega)).symm
    all_goals intro a e
    all_goals try rw [Memref.IsWhole.read_unread]
    · exact q_load m c t 4 0 _ _ rfl a e
    · exact kp_load m c t 4 (by decide) 0 _ _ rfl a e
    · exact k_load m c t 4 0 _ _ rfl a e
    · exact b_load m c t (blk t 4) 0 _ _ (later t 4 (by decide) 0) a e
  case piece48 =>
    refine Eq.trans (lse_tile _ _ _ _ (qkv m c) (bias m c) (res t) (blk t 3) 3 ?_ ?_ ?_ ?_ x) (lse_put m c t 3 3 x y (by omega) (by omega)).symm
    all_goals intro a e
    all_goals try rw [Memref.IsWhole.read_unread]
    · exact q_load m c t 3 3 _ _ rfl a e
    · exact kp_load m c t 3 (by decide) 3 _ _ rfl a e
    · exact k_load m c t 3 3 _ _ rfl a e
    · exact b_load m c t (blk t 3) 3 _ _ (later t 3 (by decide) 3) a e
  case piece49 =>
    refine Eq.trans (lse_tile _ _ _ _ (qkv m c) (bias m c) (res t) (blk t 3) 2 ?_ ?_ ?_ ?_ x) (lse_put m c t 3 2 x y (by omega) (by omega)).symm
    all_goals intro a e
    all_goals try rw [Memref.IsWhole.read_unread]
    · exact q_load m c t 3 2 _ _ rfl a e
    · exact kp_load m c t 3 (by decide) 2 _ _ rfl a e
    · exact k_load m c t 3 2 _ _ rfl a e
    · exact b_load m c t (blk t 3) 2 _ _ (later t 3 (by decide) 2) a e
  case piece50 =>
    refine Eq.trans (lse_tile _ _ _ _ (qkv m c) (bias m c) (res t) (blk t 3) 1 ?_ ?_ ?_ ?_ x) (lse_put m c t 3 1 x y (by omega) (by omega)).symm
    all_goals intro a e
    all_goals try rw [Memref.IsWhole.read_unread]
    · exact q_load m c t 3 1 _ _ rfl a e
    · exact kp_load m c t 3 (by decide) 1 _ _ rfl a e
    · exact k_load m c t 3 1 _ _ rfl a e
    · exact b_load m c t (blk t 3) 1 _ _ (later t 3 (by decide) 1) a e
  case piece51 =>
    refine Eq.trans (lse_tile _ _ _ _ (qkv m c) (bias m c) (res t) (blk t 3) 0 ?_ ?_ ?_ ?_ x) (lse_put m c t 3 0 x y (by omega) (by omega)).symm
    all_goals intro a e
    all_goals try rw [Memref.IsWhole.read_unread]
    · exact q_load m c t 3 0 _ _ rfl a e
    · exact kp_load m c t 3 (by decide) 0 _ _ rfl a e
    · exact k_load m c t 3 0 _ _ rfl a e
    · exact b_load m c t (blk t 3) 0 _ _ (later t 3 (by decide) 0) a e
  case piece52 =>
    refine Eq.trans (lse_tile _ _ _ _ (qkv m c) (bias m c) (res t) (blk t 2) 3 ?_ ?_ ?_ ?_ x) (lse_put m c t 2 3 x y (by omega) (by omega)).symm
    all_goals intro a e
    all_goals try rw [Memref.IsWhole.read_unread]
    · exact q_load m c t 2 3 _ _ rfl a e
    · exact kp_load m c t 2 (by decide) 3 _ _ rfl a e
    · exact k_load m c t 2 3 _ _ rfl a e
    · exact b_load m c t (blk t 2) 3 _ _ (later t 2 (by decide) 3) a e
  case piece53 =>
    refine Eq.trans (lse_tile _ _ _ _ (qkv m c) (bias m c) (res t) (blk t 2) 2 ?_ ?_ ?_ ?_ x) (lse_put m c t 2 2 x y (by omega) (by omega)).symm
    all_goals intro a e
    all_goals try rw [Memref.IsWhole.read_unread]
    · exact q_load m c t 2 2 _ _ rfl a e
    · exact kp_load m c t 2 (by decide) 2 _ _ rfl a e
    · exact k_load m c t 2 2 _ _ rfl a e
    · exact b_load m c t (blk t 2) 2 _ _ (later t 2 (by decide) 2) a e
  case piece54 =>
    refine Eq.trans (lse_tile _ _ _ _ (qkv m c) (bias m c) (res t) (blk t 2) 1 ?_ ?_ ?_ ?_ x) (lse_put m c t 2 1 x y (by omega) (by omega)).symm
    all_goals intro a e
    all_goals try rw [Memref.IsWhole.read_unread]
    · exact q_load m c t 2 1 _ _ rfl a e
    · exact kp_load m c t 2 (by decide) 1 _ _ rfl a e
    · exact k_load m c t 2 1 _ _ rfl a e
    · exact b_load m c t (blk t 2) 1 _ _ (later t 2 (by decide) 1) a e
  case piece55 =>
    refine Eq.trans (lse_tile _ _ _ _ (qkv m c) (bias m c) (res t) (blk t 2) 0 ?_ ?_ ?_ ?_ x) (lse_put m c t 2 0 x y (by omega) (by omega)).symm
    all_goals intro a e
    all_goals try rw [Memref.IsWhole.read_unread]
    · exact q_load m c t 2 0 _ _ rfl a e
    · exact kp_load m c t 2 (by decide) 0 _ _ rfl a e
    · exact k_load m c t 2 0 _ _ rfl a e
    · exact b_load m c t (blk t 2) 0 _ _ (later t 2 (by decide) 0) a e
  case piece56 =>
    refine Eq.trans (lse_tile _ _ _ _ (qkv m c) (bias m c) (res t) (blk t 1) 3 ?_ ?_ ?_ ?_ x) (lse_put m c t 1 3 x y (by omega) (by omega)).symm
    all_goals intro a e
    all_goals try rw [Memref.IsWhole.read_unread]
    · exact q_load m c t 1 3 _ _ rfl a e
    · exact kp_load m c t 1 (by decide) 3 _ _ rfl a e
    · exact k_load m c t 1 3 _ _ rfl a e
    · exact b_load m c t (blk t 1) 3 _ _ (later t 1 (by decide) 3) a e
  case piece57 =>
    refine Eq.trans (lse_tile _ _ _ _ (qkv m c) (bias m c) (res t) (blk t 1) 2 ?_ ?_ ?_ ?_ x) (lse_put m c t 1 2 x y (by omega) (by omega)).symm
    all_goals intro a e
    all_goals try rw [Memref.IsWhole.read_unread]
    · exact q_load m c t 1 2 _ _ rfl a e
    · exact kp_load m c t 1 (by decide) 2 _ _ rfl a e
    · exact k_load m c t 1 2 _ _ rfl a e
    · exact b_load m c t (blk t 1) 2 _ _ (later t 1 (by decide) 2) a e
  case piece58 =>
    refine Eq.trans (lse_tile _ _ _ _ (qkv m c) (bias m c) (res t) (blk t 1) 1 ?_ ?_ ?_ ?_ x) (lse_put m c t 1 1 x y (by omega) (by omega)).symm
    all_goals intro a e
    all_goals try rw [Memref.IsWhole.read_unread]
    · exact q_load m c t 1 1 _ _ rfl a e
    · exact kp_load m c t 1 (by decide) 1 _ _ rfl a e
    · exact k_load m c t 1 1 _ _ rfl a e
    · exact b_load m c t (blk t 1) 1 _ _ (later t 1 (by decide) 1) a e
  case piece59 =>
    refine Eq.trans (lse_tile _ _ _ _ (qkv m c) (bias m c) (res t) (blk t 1) 0 ?_ ?_ ?_ ?_ x) (lse_put m c t 1 0 x y (by omega) (by omega)).symm
    all_goals intro a e
    all_goals try rw [Memref.IsWhole.read_unread]
    · exact q_load m c t 1 0 _ _ rfl a e
    · exact kp_load m c t 1 (by decide) 0 _ _ rfl a e
    · exact k_load m c t 1 0 _ _ rfl a e
    · exact b_load m c t (blk t 1) 0 _ _ (later t 1 (by decide) 0) a e
  case piece60 =>
    refine Eq.trans (lse_tile _ _ _ _ (qkv m c) (bias m c) (res t) (blk t 0) 3 ?_ ?_ ?_ ?_ x) (lse_put m c t 0 3 x y (by omega) (by omega)).symm
    all_goals intro a e
    all_goals try rw [Memref.IsWhole.read_unread]
    · exact q_load m c t 0 3 _ _ rfl a e
    · exact kp_load0 m c t 3 _ _ rfl a e
    · exact k_load m c t 0 3 _ _ rfl a e
    · exact b_load m c t (blk t 0) 3 _ _ (idx t).2.2.2.2.2.2.2.2.2.2.2 a e
  case piece61 =>
    refine Eq.trans (lse_tile _ _ _ _ (qkv m c) (bias m c) (res t) (blk t 0) 2 ?_ ?_ ?_ ?_ x) (lse_put m c t 0 2 x y (by omega) (by omega)).symm
    all_goals intro a e
    all_goals try rw [Memref.IsWhole.read_unread]
    · exact q_load m c t 0 2 _ _ rfl a e
    · exact kp_load0 m c t 2 _ _ rfl a e
    · exact k_load m c t 0 2 _ _ rfl a e
    · exact b_load m c t (blk t 0) 2 _ _ (idx t).2.2.2.2.2.2.2.2.2.2.1 a e
  case piece62 =>
    refine Eq.trans (lse_tile _ _ _ _ (qkv m c) (bias m c) (res t) (blk t 0) 1 ?_ ?_ ?_ ?_ x) (lse_put m c t 0 1 x y (by omega) (by omega)).symm
    all_goals intro a e
    all_goals try rw [Memref.IsWhole.read_unread]
    · exact q_load m c t 0 1 _ _ rfl a e
    · exact kp_load0 m c t 1 _ _ rfl a e
    · exact k_load m c t 0 1 _ _ rfl a e
    · exact b_load m c t (blk t 0) 1 _ _ (idx t).2.2.2.2.2.2.2.2.2.1 a e
  case piece63 =>
    refine Eq.trans (lse_tile _ _ _ _ (qkv m c) (bias m c) (res t) (blk t 0) 0 ?_ ?_ ?_ ?_ x) (lse_put m c t 0 0 x y (by omega) (by omega)).symm
    all_goals intro a e
    all_goals try rw [Memref.IsWhole.read_unread]
    · exact q_load m c t 0 0 _ _ rfl a e
    · exact kp_load0 m c t 0 _ _ rfl a e
    · exact k_load m c t 0 0 _ _ rfl a e
    · exact b_load m c t (blk t 0) 0 _ _ (idx t).2.2.2.2.2.2.2.2.1 a e

end Cert.Dil4Ideal.AttValue
end
-- ==== Proof.Dil4Bias.lean ====
module

public import proofs.«01_k».proof.Proof.Dil4Kernel
public import proofs.«01_k».proof.Proof.DilBias
public import Idealize.ShloMosaic.Lib.Claim
public import Idealize.ShloMosaic.Lib.Tactic.CleanTypes
public import Idealize.ShloMosaic.Lib.StableHlo.ReadAt

@[expose] public section

/-!
# The bias table that the kernel's host code prepares

A bias is a head's slope times the distance to the key, less than nothing where the query does not see the key.
-/

set_option maxRecDepth 16384
noncomputable section

open Idealize.ShloMosaic Idealize.ShloMosaic.TcCoe Idealize.SL.Sem

namespace Cert.Dil4Ideal.AttValue
open Cert.Dil4Ideal Cert.Dil4Ideal.Gen
open Cert.DilIdeal.AttValue (stepWord)

/-- The distance from query `a` to key `j`, in positions of the whole sequence. -/
def gap (a : Fin 128) (j : Fin 256) : EReal := FloatOps.sitofp (F := Ideal) .f32 (IntOp.muli (stepWord a j) 4#32)

/-- The slope of head `h`. -/
def slope (h : Fin 4) : EReal :=
  Ideal.exp (Ideal.ofBits .f32 1060205080#32 * Ideal.div (Ideal.ofBits .f32 3238002688#32
    * (FloatOps.sitofp (F := Ideal) .f32 (BitVec.ofNat 32 (4 + h.val)) + 1)) (Ideal.ofBits .f32 1101004800#32))

/-- Whether query `a` of block `b` sees key `j`. -/
def seen (b : Fin 16) (a : Fin 128) (j : Fin 256) : BitVec 1 :=
  IntOp.andi (IntOp.andi (IntOp.cmpi CmpIPredicate.sge (stepWord a j) 0#32) (IntOp.cmpi CmpIPredicate.sle (stepWord a j) 128#32))
    (IntOp.cmpi CmpIPredicate.sge
      (IntOp.addi (IntOp.subi (IntOp.muli (BitVec.ofNat 32 b.val) 128#32) 128#32) (BitVec.ofNat 32 j.val)) 0#32)

/-- The key that is the query itself is seen. -/
theorem seen_self : ∀ (b : Fin 16) (a : Fin 128), seen b a ⟨128 + a.val, by omega⟩ = 1#1 := by
  decide +kernel

/-- The first block's queries see no key before the start. -/
theorem not_seen : ∀ (a : Fin 128) (j : Fin 128), seen 0 a ⟨j.val, by omega⟩ = 0#1 := by
  decide +kernel

/-- The bias table of a block hides the keys before the start exactly as the reference's test does. -/
theorem start_word : ∀ (b : Fin 16) (j : Fin 256),
    (if (tab b).val < 1 then 1#1 else IntOp.cmpi CmpIPredicate.sge (BitVec.ofNat 32 j.val) 128#32)
      = IntOp.cmpi CmpIPredicate.sge
          (IntOp.addi (IntOp.subi (IntOp.muli (BitVec.ofNat 32 b.val) 128#32) 128#32) (BitVec.ofNat 32 j.val)) 0#32 := by
  decide +kernel

set_option maxHeartbeats 4000000 in
/-- The bias a block adds, at an index. -/
theorem bias_at (m : (ℓ : Loc nD τ sig) → Buf (Elt Ideal) ℓ) (c : Dev nD) (b : Fin 16) (h : Fin 4) (a : Fin 128) (j : Fin 256) :
    bias m c (ix4 (tab b) h a j) = Scalar.select (seen b a j)
      (-Ideal.div (slope h) (Ideal.log (Ideal.ofBits .f32 1073741824#32)) * gap a j) (Ideal.ofBits .f32 4286578688#32) := by
  unfold seen
  rw [← start_word b j]
  unfold bias V
  simp only [hostOps0, hostOps0_1, List.flatten_cons, List.flatten_nil, List.cons_append, List.nil_append, List.append_nil]
  after_reads_at
  after_reads_at
  rfl

end Cert.Dil4Ideal.AttValue
end
-- ==== Proof.Dil4Ref.lean ====
module

public import proofs.«01_k».proof.Proof.Dil4Bias
public import proofs.«01_k».proof.Proof.Gen.Dil4RefIdeal.Run
public import Idealize.ShloMosaic.Lib.Claim
public import Idealize.ShloMosaic.Lib.Pointwise
public import Idealize.ShloMosaic.Lib.Tactic.CleanTypes

@[expose] public section

/-!
# The reference's block attention, read entry by entry

The reference computes its logits once and uses them four times. Each stage gets a name here; the two results are
these stages by definition, and each stage is read at an index from the stage before it.
-/

set_option maxRecDepth 16384
noncomputable section

open Idealize.ShloMosaic Idealize.ShloMosaic.TcCoe Idealize.SL.Sem

namespace Cert.Dil4RefIdeal.AttValue
open Cert.Dil4RefIdeal Cert.Dil4RefIdeal.Gen

/-- The argument in its natural order: `[3, 1, 8192, 4, 128]`. -/
def nat (X : FVec Ideal S3x4x2048x512 .bf16) : FVec Ideal S3x1x8192x4x128 .f32 :=
  shapeCast _ (transpose S3x2048x4x4x128 [0, 2, 1, 3, 4]
    (shapeCast _ (extf .f32 X bitsLt_bf16_f32) shapeCasts_S3x4x2048x512_S3x4x2048x4x128)
    transposes_S3x4x2048x4x128_S3x2048x4x4x128_0_2_1_3_4) shapeCasts_S3x2048x4x4x128_S3x1x8192x4x128

/-- One of queries, keys, values as dilated subsequences in blocks of 128. -/
def sub (y : FVec Ideal S1x1x8192x4x128 .f32) : FVec Ideal S4x16x128x4x128 .f32 :=
  shapeCast _ (transpose S1x4x2048x4x128 [0, 2, 1, 3, 4]
    (shapeCast _ (shapeCast _ y shapeCasts_S1x1x8192x4x128_S1x8192x4x128) shapeCasts_S1x8192x4x128_S1x2048x4x4x128)
    transposes_S1x2048x4x4x128_S1x4x2048x4x128_0_2_1_3_4) shapeCasts_S1x4x2048x4x128_S4x16x128x4x128

/-- Each block with the block before it in front (zeros before the first). -/
def withPrev (y : FVec Ideal S4x16x128x4x128 .f32) : FVec Ideal S4x16x256x4x128 .f32 :=
  concatenate S4x16x256x4x128 2
    [⟨S4x16x128x4x128, extractStridedSlice S4x16x128x4x128 ![0, 0, 0, 0, 0]
      (pad S4x17x128x4x128 ![0, 1, 0, 0, 0] ![0, 0, 0, 0, 0] ![0, 0, 0, 0, 0] y (sitofp .f32 (constantI S_ 32 0#32))
        pads_S4x16x128x4x128_S4x17x128x4x128_000_100_000_000_000 h_S_) slices_S4x17x128x4x128_S4x16x128x4x128_0_0_0_0_0⟩,
     ⟨S4x16x128x4x128, y⟩] concatenates_S4x16x128x4x128_S4x16x128x4x128_S4x16x256x4x128_d2

/-- The queries. -/
def qs (X : FVec Ideal S3x4x2048x512 .bf16) := sub (extractStridedSlice S1x1x8192x4x128 ![0, 0, 0, 0, 0] (nat X) slices_S3x1x8192x4x128_S1x1x8192x4x128_0_0_0_0_0)
/-- The keys a block sees. -/
def ks (X : FVec Ideal S3x4x2048x512 .bf16) := withPrev (sub (extractStridedSlice S1x1x8192x4x128 ![1, 0, 0, 0, 0] (nat X) slices_S3x1x8192x4x128_S1x1x8192x4x128_1_0_0_0_0))
/-- The values a block sees. -/
def vs (X : FVec Ideal S3x4x2048x512 .bf16) := withPrev (sub (extractStridedSlice S1x1x8192x4x128 ![2, 0, 0, 0, 0] (nat X) slices_S3x1x8192x4x128_S1x1x8192x4x128_2_0_0_0_0))

/-- How many steps of the subsequence a key lies behind its query. -/
def steps : IVec S128x256 32 :=
  subi (broadcastInDim S128x256 ![0, 1] bcast_S128x1_S128x256_0_1
      (addi (broadcastInDim S128x1 ![] bcast_S_S128x1 (constantI S_ 32 128#32)) (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

/-- The slopes of the four heads. -/
def slopes : FVec Ideal S4 .f32 :=
  extractStridedSlice S4 ![4] (Host.exp (mulf (broadcastInDim S20 ![] bcast_S_S20 (constant S_ .f32 0x3F317218#32))
    (Host.divf (mulf (broadcastInDim S20 ![] bcast_S_S20 (constant S_ .f32 0xC1000000#32))
        (addf (broadcastInDim S20 ![] bcast_S_S20 (constant S_ .f32 0x3F800000#32)) (sitofp .f32 (iotaInDim S20 32 0))))
      (broadcastInDim S20 ![] bcast_S_S20 (constant S_ .f32 0x41A00000#32))))) slices_S20_S4_4

/-- Which keys a query sees. -/
def keep : IVec S16x128x256 1 :=
  andi (broadcastInDim S16x128x256 ![0, 1, 2] bcast_S1x128x256_S16x128x256_0_1_2 (broadcastInDim S1x128x256 ![1, 2] bcast_S128x256_S1x128x256_1_2
      (andi (cmpi .sge steps (broadcastInDim S128x256 ![] bcast_S_S128x256 (constantI S_ 32 0#32)))
        (cmpi .sle steps (broadcastInDim S128x256 ![] bcast_S_S128x256 (constantI S_ 32 128#32))))))
    (broadcastInDim S16x128x256 ![0, 1, 2] bcast_S16x1x256_S16x128x256_0_1_2 (broadcastInDim S16x1x256 ![0, 2] bcast_S16x256_S16x1x256_0_2
      (cmpi .sge (addi (broadcastInDim S16x256 ![0, 1] bcast_S16x1_S16x256_0_1
          (subi (muli (broadcastInDim S16x1 ![0] bcast_S16_S16x1_0 (iotaInDim S16 32 0)) (broadcastInDim S16x1 ![] bcast_S_S16x1 (constantI S_ 32 128#32)))
            (broadcastInDim S16x1 ![] bcast_S_S16x1 (constantI S_ 32 128#32))))
          (broadcastInDim S16x256 ![0, 1] bcast_S1x256_S16x256_0_1 (broadcastInDim S1x256 ![1] bcast_S256_S1x256_1 (iotaInDim S256 32 0))))
        (broadcastInDim S16x256 ![] bcast_S_S16x256 (constantI S_ 32 0#32)))))

/-- The masked logits `[r, h, b, a, j]` from the queries and the keys. -/
def logitsOf (Q : FVec Ideal S4x16x128x4x128 .f32) (K : FVec Ideal S4x16x256x4x128 .f32) : FVec Ideal S4x4x16x128x256 .f32 :=
  select (broadcastInDim S4x4x16x128x256 ![0, 1, 2, 3, 4] bcast_S1x1x16x128x256_S4x4x16x128x256_0_1_2_3_4
      (broadcastInDim S1x1x16x128x256 ![2, 3, 4] bcast_S16x128x256_S1x1x16x128x256_2_3_4 keep))
    (subf (mulf (Host.dotGeneral dot_S4x16x128x4x128_S4x16x256x4x128_S4x4x16x128x256_4_4_2_2_031_031 none Q K)
        (broadcastInDim S4x4x16x128x256 ![] bcast_S_S4x4x16x128x256 (Host.log (constant S_ .f32 0x40000000#32))))
      (broadcastInDim S4x4x16x128x256 ![0, 1, 2, 3, 4] bcast_S1x4x1x128x256_S4x4x16x128x256_0_1_2_3_4
        (mulf (broadcastInDim S1x4x1x128x256 ![0, 1, 2, 3, 4] bcast_S1x4x1x1x1_S1x4x1x128x256_0_1_2_3_4
            (broadcastInDim S1x4x1x1x1 ![1] bcast_S4_S1x4x1x1x1_1 slopes))
          (broadcastInDim S1x4x1x128x256 ![0, 1, 2, 3, 4] bcast_S1x1x1x128x256_S1x4x1x128x256_0_1_2_3_4
            (broadcastInDim S1x1x1x128x256 ![3, 4] bcast_S128x256_S1x1x1x128x256_3_4
              (sitofp .f32 (muli steps (broadcastInDim S128x256 ![] bcast_S_S128x256 (constantI S_ 32 4#32)))))))))
    (broadcastInDim S4x4x16x128x256 ![] bcast_S_S4x4x16x128x256 (id (constant S_ .f32 0xFF800000#32)))

/-- The masked logits. -/
def logits (X : FVec Ideal S3x4x2048x512 .bf16) : FVec Ideal S4x4x16x128x256 .f32 := logitsOf (qs X) (ks X)

/-- A value per query repeated over the keys. -/
def perQuery (y : FVec Ideal S4x4x16x128 .f32) : FVec Ideal S4x4x16x128x256 .f32 :=
  broadcastInDim S4x4x16x128x256 ![0, 1, 2, 3, 4] bcast_S4x4x16x128x1_S4x4x16x128x256_0_1_2_3_4
    (broadcastInDim S4x4x16x128x1 ![0, 1, 2, 3] bcast_S4x4x16x128_S4x4x16x128x1_0_1_2_3 y)

/-- The largest logit of each query. -/
def best (L : FVec Ideal S4x4x16x128x256 .f32) : FVec Ideal S4x4x16x128 .f32 :=
  Host.reduce FloatOps.maximumf L (constant S_ .f32 0xFF800000#32) reducesTo_S4x4x16x128x256_S4x4x16x128_d4 h_S_

/-- The sum over the keys. -/
def total (L : FVec Ideal S4x4x16x128x256 .f32) : FVec Ideal S4x4x16x128 .f32 :=
  Host.reduceAdd L (constant S_ .f32 0x00000000#32) reducesTo_S4x4x16x128x256_S4x4x16x128_d4 h_S_

/-- The logarithm of each query's sum of exponentials. -/
def logSum (L : FVec Ideal S4x4x16x128x256 .f32) : FVec Ideal S4x4x16x128 .f32 :=
  addf (best L) (Host.log (total (Host.exp (subf L (perQuery (best L))))))

/-- The first result from the logits and the values. -/
def outOf (L : FVec Ideal S4x4x16x128x256 .f32) (v : FVec Ideal S4x16x256x4x128 .f32) : FVec Ideal S4x2048x512 .f32 :=
  shapeCast _ (transpose S4x16x128x4x128 [0, 1, 4, 2, 3]
    (Host.dotGeneral dot_S4x16x256x4x128_S4x4x16x128x256_S4x16x4x128x128_2_4_4_3_013_021 none v
      (Host.exp (subf L (perQuery (logSum L)))))
    transposes_S4x16x4x128x128_S4x16x128x4x128_0_1_4_2_3) shapeCasts_S4x16x128x4x128_S4x2048x512

/-- The second result from the logits. -/
def lseOf (L : FVec Ideal S4x4x16x128x256 .f32) : FVec Ideal S4x2048x512 .f32 :=
  shapeCast _ (broadcastInDim S4x2048x4x128 ![0, 1, 2, 3] bcast_S4x2048x4x1_S4x2048x4x128_0_1_2_3
    (broadcastInDim S4x2048x4x1 ![0, 1, 2] bcast_S4x2048x4_S4x2048x4x1_0_1_2
      (Host.divf (shapeCast _ (transpose S4x16x128x4 [0, 2, 3, 1] (logSum L) transposes_S4x4x16x128_S4x16x128x4_0_2_3_1)
          shapeCasts_S4x16x128x4_S4x2048x4)
        (broadcastInDim S4x2048x4 ![] bcast_S_S4x2048x4 (Host.log (constant S_ .f32 0x40000000#32))))))
    shapeCasts_S4x2048x4x128_S4x2048x512

/-- The first result is its stages. -/
theorem out_stages (m : (ℓ : Loc nD τ sig) → Buf (Elt Ideal) ℓ) (c : Dev nD) :
    Value.res_out0 m c = outOf (logits (m ((c.tc : Thread nD τ).loc main_arg0))) (vs (m ((c.tc : Thread nD τ).loc main_arg0))) := rfl

/-- The second result is its stages. -/
theorem lse_stages (m : (ℓ : Loc nD τ sig) → Buf (Elt Ideal) ℓ) (c : Dev nD) :
    Value.res_out1 m c = lseOf (logits (m ((c.tc : Thread nD τ).loc main_arg0))) := rfl

open Cert.Dil4Ideal.AttValue (row prevRow keyRow keyRow_lo keyRow_hi gap slope seen not_seen)
open Cert.DilIdeal.AttValue (col stepWord)

/-- The natural order read back at a step of a subsequence. -/
theorem nat_at (X : FVec Ideal S3x4x2048x512 .bf16) (w : Fin 3) (r : Fin 4) (n : Fin 2048) (k : Fin 8192) (h : Fin 4) (e : Fin 128)
    (hk : k.val = n.val * 4 + r.val) : nat X (ix5 w 0 k h e) = X (ix4 w r n (col h e)) := by
  unfold nat
  pointwise
  exact congrArg₂ (fun x y => X (ix4 w x y (col h e))) (Fin.ext (by show k.val % 4 = r.val; omega))
    (Fin.ext (by show k.val / 4 = n.val; omega))

/-- A blocked subsequence at an index. -/
theorem sub_at (y : FVec Ideal S1x1x8192x4x128 .f32) (r : Fin 4) (b : Fin 16) (a : Fin 128) (h : Fin 4) (e : Fin 128) (k : Fin 8192)
    (hk : k.val = (b.val * 128 + a.val) * 4 + r.val) : sub y (ix5 r b a h e) = y (ix5 0 0 k h e) := by
  unfold sub
  pointwise
  exact congrArg (fun x => y (ix5 0 0 x h e)) (Fin.ext hk.symm)

/-- A block with its predecessor at an index. -/
theorem withPrev_at (y : FVec Ideal S4x16x128x4x128 .f32) (r : Fin 4) (b : Fin 16) (j : Fin 256) (h : Fin 4) (e : Fin 128) :
    withPrev y (ix5 r b j h e) = if h1 : j.val < 128 then
        if h2 : 1 ≤ b.val then y (ix5 r ⟨b.val - 1, by omega⟩ ⟨j.val, h1⟩ h e) else FloatOps.sitofp (F := Ideal) .f32 0#32
      else y (ix5 r b ⟨j.val - 128, by omega⟩ h e) := by
  unfold withPrev
  pointwise
  by_cases h1 : j.val < 128
  · rw [dif_pos h1, dif_pos h1]
    by_cases h2 : 1 ≤ b.val
    · rw [dif_pos ⟨⟨h2, by omega⟩, h1⟩, dif_pos h2]
    · rw [dif_neg (fun t => h2 t.1.1), dif_neg h2]
  · rw [dif_neg h1, dif_neg h1]

/-- A query at an index. -/
theorem qs_at (X : FVec Ideal S3x4x2048x512 .bf16) (r : Fin 4) (b : Fin 16) (a : Fin 128) (h : Fin 4) (e : Fin 128) :
    qs X (ix5 r b a h e) = X (ix4 0 r (row b a) (col h e)) := by
  unfold qs
  rw [sub_at _ r b a h e ⟨(b.val * 128 + a.val) * 4 + r.val, by omega⟩ rfl]
  pointwise
  exact nat_at X 0 r (row b a) _ h e rfl

/-- Keys or values `w` that a block reads: at a key it has, the argument's row. -/
theorem keys_at (X : FVec Ideal S3x4x2048x512 .bf16) (w : Fin 3) (y : FVec Ideal S1x1x8192x4x128 .f32)
    (hy : ∀ k h e, y (ix5 0 0 k h e) = nat X (ix5 w 0 k h e)) (r : Fin 4) (b : Fin 16) (j : Fin 256) (h : Fin 4) (e : Fin 128)
    (hj : 1 ≤ b.val ∨ 128 ≤ j.val) :
    withPrev (sub y) (ix5 r b j h e) = X (ix4 w r (keyRow b j) (col h e)) := by
  rw [withPrev_at]
  by_cases h1 : j.val < 128
  · have h2 : 1 ≤ b.val := by omega
    rw [dif_pos h1, dif_pos h2, sub_at _ r ⟨b.val - 1, by omega⟩ ⟨j.val, h1⟩ h e
      ⟨((b.val - 1) * 128 + j.val) * 4 + r.val, by omega⟩ rfl, hy, nat_at X w r (keyRow b j) _ h e]
    rw [show keyRow b j = prevRow b ⟨j.val, h1⟩ from dif_pos h1]
    rfl
  · rw [dif_neg h1, sub_at _ r b ⟨j.val - 128, by omega⟩ h e ⟨(b.val * 128 + (j.val - 128)) * 4 + r.val, by omega⟩ rfl, hy,
      nat_at X w r (keyRow b j) _ h e]
    rw [show keyRow b j = row b ⟨j.val - 128, by omega⟩ from dif_neg h1]
    rfl

/-- A key at an index. -/
theorem ks_at (X : FVec Ideal S3x4x2048x512 .bf16) (r : Fin 4) (b : Fin 16) (j : Fin 256) (h : Fin 4) (e : Fin 128)
    (hj : 1 ≤ b.val ∨ 128 ≤ j.val) : ks X (ix5 r b j h e) = X (ix4 1 r (keyRow b j) (col h e)) :=
  keys_at X 1 _ (fun k h e => by pointwise) r b j h e hj

/-- A value at an index. -/
theorem vs_at (X : FVec Ideal S3x4x2048x512 .bf16) (r : Fin 4) (b : Fin 16) (j : Fin 256) (h : Fin 4) (e : Fin 128)
    (hj : 1 ≤ b.val ∨ 128 ≤ j.val) : vs X (ix5 r b j h e) = X (ix4 2 r (keyRow b j) (col h e)) :=
  keys_at X 2 _ (fun k h e => by pointwise) r b j h e hj

/-- A key that is seen is one the block has. -/
theorem has_of_seen {b : Fin 16} {a : Fin 128} {j : Fin 256} (hs : seen b a j = 1#1) : 1 ≤ b.val ∨ 128 ≤ j.val := by
  by_contra hn
  obtain ⟨h0, h1⟩ := not_or.1 hn
  have hb : b = 0 := Fin.ext (by show b.val = 0; omega)
  subst hb
  rw [not_seen a ⟨j.val, by omega⟩] at hs
  exact absurd hs (by decide)

end Cert.Dil4RefIdeal.AttValue
end
-- ==== Proof.Dil4RefAt.lean ====
module

public import proofs.«01_k».proof.Proof.Dil4Ref
public import proofs.«01_k».proof.Proof.DilRefAt
public import proofs.«01_k».proof.Proof.Gen.Dil4RefIdeal.Run
public import Idealize.ShloMosaic.Lib.Claim
public import Idealize.ShloMosaic.Lib.Pointwise
public import Idealize.ShloMosaic.Lib.Tactic.CleanTypes

@[expose] public section

set_option maxRecDepth 16384
noncomputable section

open Idealize.ShloMosaic Idealize.ShloMosaic.TcCoe Idealize.SL.Sem

namespace Cert.Dil4RefIdeal.AttValue
open Cert.Dil4RefIdeal Cert.Dil4RefIdeal.Gen

open Cert.Dil4Ideal.AttValue (row prevRow keyRow keyRow_lo keyRow_hi gap slope seen not_seen)
open Cert.DilIdeal.AttValue (col stepWord)

/-- The logits of one query. -/
def logit (X : S3x4x2048x512.Idx → EReal) (r : Fin 4) (b : Fin 16) (h : Fin 4) (a : Fin 128) (j : Fin 256) : EReal :=
  Scalar.select (seen b a j)
    ((∑ e : Fin 128, X (ix4 0 r (row b a) (col h e)) * X (ix4 1 r (keyRow b j) (col h e)))
        * Ideal.log (Ideal.ofBits .f32 1073741824#32) - slope h * gap a j) (Ideal.ofBits .f32 4286578688#32)

/-- The masked logits at an index, from the queries and keys. -/
theorem logitsOf_at (Q : FVec Ideal S4x16x128x4x128 .f32) (K : FVec Ideal S4x16x256x4x128 .f32) (r : Fin 4) (h : Fin 4) (b : Fin 16)
    (a : Fin 128) (j : Fin 256) : logitsOf Q K (ix5 r h b a j) = Scalar.select (seen b a j)
      ((∑ e, Q (ix5 r b a h e) * K (ix5 r b j h e)) * Ideal.log (Ideal.ofBits .f32 1073741824#32) - slope h * gap a j)
      (Ideal.ofBits .f32 4286578688#32) := by
  unfold logitsOf
  pointwise [keep, steps, slopes]
  rw [add_comm (1 : EReal)]
  rfl

/-- The logits at an index. -/
theorem logits_at (X : FVec Ideal S3x4x2048x512 .bf16) (r : Fin 4) (h : Fin 4) (b : Fin 16) (a : Fin 128) (j : Fin 256) :
    logits X (ix5 r h b a j) = logit X r b h a j := by
  unfold logits
  rw [logitsOf_at]
  unfold logit
  by_cases hs : seen b a j = 1#1
  · rw [Finset.sum_congr rfl fun e _ => by rw [qs_at X r b a h e, ks_at X r b j h e (has_of_seen hs)]]
  · have h0 : seen b a j = 0#1 := by
      generalize seen b a j = w at hs ⊢
      revert w; decide
    rw [h0, Cert.DilRefIdeal.AttValue.select_zero, Cert.DilRefIdeal.AttValue.select_zero]

/-- The largest logit at an index. -/
theorem best_at (L : FVec Ideal S4x4x16x128x256 .f32) (r : Fin 4) (h : Fin 4) (b : Fin 16) (a : Fin 128) :
    best L (ix4 r h b a) = Finset.univ.fold max (Ideal.ofBits .f32 0xFF800000#32) fun j => L (ix5 r h b a j) := by
  unfold best
  pointwise

/-- The sum over the keys at an index. -/
theorem total_at (L : FVec Ideal S4x4x16x128x256 .f32) (r : Fin 4) (h : Fin 4) (b : Fin 16) (a : Fin 128) :
    total L (ix4 r h b a) = ∑ j, L (ix5 r h b a j) := by
  unfold total
  pointwise

/-- A sum of two arrays of which the second is a logarithm, at an index. -/
theorem addLog_at (B T : FVec Ideal S4x4x16x128 .f32) (i : S4x4x16x128.Idx) : addf B (Host.log T) i = B i + Ideal.log (T i) := rfl

/-- The exponentials of the logits less a value per query, at an index. -/
theorem expSub_at (L : FVec Ideal S4x4x16x128x256 .f32) (B : FVec Ideal S4x4x16x128 .f32) (r : Fin 4) (h : Fin 4) (b : Fin 16) (a : Fin 128)
    (j : Fin 256) : Host.exp (subf L (perQuery B)) (ix5 r h b a j) = Ideal.exp (L (ix5 r h b a j) - B (ix4 r h b a)) := by
  pointwise [perQuery]

/-- The logarithm of the sum of exponentials at an index. -/
theorem logSum_at (L : FVec Ideal S4x4x16x128x256 .f32) (r : Fin 4) (h : Fin 4) (b : Fin 16) (a : Fin 128) :
    logSum L (ix4 r h b a) = best L (ix4 r h b a) + Ideal.log (∑ j, Ideal.exp (L (ix5 r h b a j) - best L (ix4 r h b a))) := by
  rw [logSum, addLog_at, total_at]
  simp only [expSub_at]

/-- The first result at an index. -/
theorem outOf_at (L : FVec Ideal S4x4x16x128x256 .f32) (v : FVec Ideal S4x16x256x4x128 .f32) (r : Fin 4) (b : Fin 16) (h : Fin 4) (a e : Fin 128) :
    outOf L v (ix3 r (row b a) (col h e)) = ∑ j, v (ix5 r b j h e) * Ideal.exp (L (ix5 r h b a j) - logSum L (ix4 r h b a)) := by
  unfold outOf
  generalize logSum L = B
  pointwise [perQuery]
  have e1 : (⟨(row b a).val / 128, by omega⟩ : Fin 16) = b := Fin.ext (by show (b.val * 128 + a.val) / 128 = b.val; omega)
  have e2 : (⟨(col h e).val / 128, by omega⟩ : Fin 4) = h := Fin.ext (by show (h.val * 128 + e.val) / 128 = h.val; omega)
  have e3 : (⟨(row b a).val % 128, by omega⟩ : Fin 128) = a := Fin.ext (by show (b.val * 128 + a.val) % 128 = a.val; omega)
  have e4 : (⟨(col h e).val % 128, by omega⟩ : Fin 128) = e := Fin.ext (by show (h.val * 128 + e.val) % 128 = e.val; omega)
  simp only [e1, e2, e3, e4]

/-- The second result at an index. -/
theorem lseOf_at (L : FVec Ideal S4x4x16x128x256 .f32) (r : Fin 4) (b : Fin 16) (h : Fin 4) (a e : Fin 128) :
    lseOf L (ix3 r (row b a) (col h e)) = Ideal.div (logSum L (ix4 r h b a)) (Ideal.log (Ideal.ofBits .f32 1073741824#32)) := by
  unfold lseOf
  generalize logSum L = B
  pointwise
  have e1 : (⟨(row b a).val / 128, by omega⟩ : Fin 16) = b := Fin.ext (by show (b.val * 128 + a.val) / 128 = b.val; omega)
  have e2 : (⟨(col h e).val / 128, by omega⟩ : Fin 4) = h := Fin.ext (by show (h.val * 128 + e.val) / 128 = h.val; omega)
  have e3 : (⟨(row b a).val % 128, by omega⟩ : Fin 128) = a := Fin.ext (by show (b.val * 128 + a.val) % 128 = a.val; omega)
  simp only [e1, e2, e3]

end Cert.Dil4RefIdeal.AttValue
end
-- ==== Proof.Dil4.lean ====
module

public import proofs.«01_k».proof.Defs
public import proofs.«01_k».proof.Proof.Dil
public import proofs.«01_k».proof.Proof.Dil4Out
public import proofs.«01_k».proof.Proof.Dil4Lse
public import proofs.«01_k».proof.Proof.Gen.Dil4Ideal.Value
public import proofs.«01_k».proof.Proof.Gen.Dil4RefIdeal.Run
public import proofs.«01_k».proof.Proof.Dil4Bias
public import proofs.«01_k».proof.Proof.Dil4RefAt
public import proofs.«01_k».proof.Proof.Softmax
public import proofs.«01_k».proof.Proof.Gen.Dil4.Frame
public import proofs.«01_k».proof.Proof.Gen.Pre_finite4
public import Idealize.ShloMosaic.Lib.ReduceAll

@[expose] public section

/-!
# The dilated attention: the kernel against the reference

Under the precondition queries and keys are real numbers. Then a score of the kernel and the reference's logit of the same
query and key are both hidden, or both real and a factor log 2 apart, and the two softmaxes are equal.
-/

set_option maxRecDepth 16384
noncomputable section

open Idealize.ShloMosaic Idealize.ShloMosaic.TcCoe Idealize.SL.Sem

namespace Cert.Dil4Ideal.AttValue
open Cert.Dil4Ideal Cert.Dil4Ideal.Gen
open Cert.DilIdeal.AttValue (top mass attend lse2 col sum_halves stepWord real_of_abs div_log_two select_one select_zero ln2 ln2_pos bits_bot bits_two log_two Tied coe_sum attend_eq lse_ofs)

/-! ## The precondition -/

instance : Subsingleton Cert.Pre_finite4.S_.Idx := ⟨fun a b => funext fun i => i.elim0⟩

set_option maxHeartbeats 1000000 in
/-- Under the precondition every query and key is a real number. -/
theorem real_of_pre (X : FVec Ideal S3x4x2048x512 .bf16) (h : Cert.Pre_finite4.fn (F := Ideal) X = fun _ => 1#1) (w : Fin 2)
    (r : Fin 4) (n : Fin 2048) (k : Fin 512) : ∃ x : ℝ, X (ix4 ⟨w.val, by omega⟩ r n k) = (x : EReal) := by
  have h1 := congrFun h ix0
  unfold Cert.Pre_finite4.fn at h1
  dsimp only at h1
  have h2 := Host.reduce_andi_all _ _ _ _ _ h1 (ix4 w r n k)
  pointwise at h2
  refine real_of_abs _ (Eq.trans ?_ h2)
  rfl

/-! ## The scores and the logits -/

/-- A slope is a real number. -/
theorem slope_real (h : Fin 4) : ∃ σ : ℝ, slope h = (σ : EReal) := by
  have e1 : ∃ x : ℝ, Ideal.ofBits .f32 1060205080#32 = (x : EReal) := by
    simp only [Ideal.ofBits, Ideal.ieee]
    rw [if_neg (by decide), if_neg (by decide)]
    exact ⟨_, rfl⟩
  have e2 : ∃ x : ℝ, Ideal.ofBits .f32 3238002688#32 = (x : EReal) := by
    simp only [Ideal.ofBits, Ideal.ieee]
    rw [if_neg (by decide), if_neg (by decide)]
    exact ⟨_, rfl⟩
  have e3 : Ideal.ofBits .f32 1101004800#32 = ((20 : ℝ) : EReal) := by
    simp [Ideal.ofBits, Ideal.ieee, -EReal.coe_mul]; norm_num
  obtain ⟨x, hx⟩ := e1
  obtain ⟨y, hy⟩ := e2
  refine ⟨Real.exp (x * (y * (((BitVec.ofNat 32 (4 + h.val)).toInt : ℝ) + 1) * (1 / 20))), ?_⟩
  unfold slope
  rw [hx, hy, e3, Ideal.div_coe (by norm_num)]
  show Ideal.exp ((x : EReal) * ((y : EReal) * ((((BitVec.ofNat 32 (4 + h.val)).toInt : ℝ) : EReal) + ((1 : ℝ) : EReal)) * ((1 / 20 : ℝ) : EReal))) = _
  rw [← EReal.coe_add, ← EReal.coe_mul, ← EReal.coe_mul, ← EReal.coe_mul, Ideal.exp_coe]

variable (m : (ℓ : Loc nD τ sig) → Buf (Elt Ideal) ℓ) (c : Dev nD)

/-- A product of a query and a key is a real number. -/
theorem dot_real (hX : ∀ (w : Fin 2) (r : Fin 4) (n : Fin 2048) (k : Fin 512), ∃ x : ℝ, qkv m c (ix4 ⟨w.val, by omega⟩ r n k) = (x : EReal))
    (r : Fin 4) (n n' : Fin 2048) (h : Fin 4) :
    ∃ d : ℝ, (∑ e : Fin 128, qkv m c (ix4 0 r n (col h e)) * qkv m c (ix4 1 r n' (col h e))) = (d : EReal) := by
  choose q hq using fun e => hX 0 r n (col h e)
  choose k hk using fun e => hX 1 r n' (col h e)
  refine ⟨∑ e, q e * k e, ?_⟩
  rw [coe_sum]
  refine Finset.sum_congr rfl fun e _ => ?_
  rw [EReal.coe_mul, ← hq, ← hk]
  rfl

open Cert.Dil4RefIdeal.AttValue (logit) in
/-- A score and its logit belong together, and the score of a key that is seen is not hidden. -/
theorem tied_at (hX : ∀ (w : Fin 2) (r : Fin 4) (n : Fin 2048) (k : Fin 512), ∃ x : ℝ, qkv m c (ix4 ⟨w.val, by omega⟩ r n k) = (x : EReal))
    (r : Fin 4) (b : Fin 16) (h : Fin 4) (a : Fin 128) (j : Fin 256) :
    Tied (score (qkv m c) (bias m c) r b h a j) (logit (qkv m c) r b h a j)
      ∧ (seen b a j = 1#1 → score (qkv m c) (bias m c) r b h a j ≠ ⊥) ∧ (seen b a j ≠ 1#1 → logit (qkv m c) r b h a j = ⊥) := by
  obtain ⟨d, hd⟩ := dot_real m c hX r (row b a) (keyRow b j) h
  obtain ⟨σ, hσ⟩ := slope_real h
  have hg : gap a j = (((IntOp.muli (stepWord a j) 4#32).toInt : ℝ) : EReal) := rfl
  generalize ((IntOp.muli (stepWord a j) 4#32).toInt : ℝ) = g at hg
  unfold score logit
  rw [bias_at, hd, log_two, hg]
  by_cases hs : seen b a j = 1#1
  · rw [hs, select_one, select_one]
    rw [← log_two, hσ, div_log_two, log_two, ← EReal.coe_neg, ← EReal.coe_mul, ← EReal.coe_add, ← EReal.coe_mul, ← EReal.coe_mul,
      ← EReal.coe_sub]
    refine ⟨Or.inr ⟨_, rfl, congrArg _ ?_⟩, fun _ => EReal.coe_ne_bot _, fun hn => absurd rfl hn⟩
    have := ln2_pos.ne'
    field_simp
    ring
  · have h0 : seen b a j = 0#1 := by
      generalize seen b a j = w at hs ⊢
      revert w; decide
    rw [h0, select_zero, select_zero, bits_bot, EReal.add_bot]
    exact ⟨Or.inl ⟨rfl, rfl⟩, fun hn => absurd hn (by decide), fun _ => rfl⟩

/-! ## The results -/

section Results

open Cert.Dil4RefIdeal.AttValue

variable (hX : ∀ (w : Fin 2) (r : Fin 4) (n : Fin 2048) (k : Fin 512), ∃ x : ℝ, qkv m c (ix4 ⟨w.val, by omega⟩ r n k) = (x : EReal))

include hX

omit hX in
/-- Two arrays equal at every residue, block, query, head and lane are equal. -/
theorem by_rows (f g : S4x2048x512.Idx → EReal)
    (hfg : ∀ (r : Fin 4) (b : Fin 16) (h : Fin 4) (a e : Fin 128), f (ix3 r (row b a) (col h e)) = g (ix3 r (row b a) (col h e))) : f = g := by
  funext i
  idx_vars i
  have := hfg i0 ⟨i1.val / 128, by omega⟩ ⟨i2.val / 128, by omega⟩ ⟨i1.val % 128, by omega⟩ ⟨i2.val % 128, by omega⟩
  have e1 : row ⟨i1.val / 128, by omega⟩ ⟨i1.val % 128, by omega⟩ = i1 :=
    Fin.ext (by show i1.val / 128 * 128 + i1.val % 128 = i1.val; omega)
  have e2 : col ⟨i2.val / 128, by omega⟩ ⟨i2.val % 128, by omega⟩ = i2 :=
    Fin.ext (by show i2.val / 128 * 128 + i2.val % 128 = i2.val; omega)
  rwa [e1, e2] at this

/-- The reference's first result is the kernel's. -/
theorem out_ref : outOf (logits (qkv m c)) (vs (qkv m c)) = out m c := by
  refine by_rows _ _ fun r b h a e => ?_
  rw [out_eq m c (ix3 r (row b a) (col h e)) r b h a e rfl rfl rfl, outOf_at, logSum_at, best_at]
  simp only [logits_at]
  symm
  refine (attend_eq _ (logit (qkv m c) r b h a) _ (fun j => vs (qkv m c) (ix5 r b j h e)) (fun j => (tied_at m c hX r b h a j).1)
    ⟨128 + a.val, by omega⟩ ((tied_at m c hX r b h a _).2.1 (seen_self b a)) fun j hj => ?_).trans rfl
  by_cases hs : seen b a j = 1#1
  · exact (vs_at (qkv m c) r b j h e (has_of_seen hs)).symm
  · exact absurd ((tied_at m c hX r b h a j).2.2 hs) hj

/-- The reference's second result is the kernel's. -/
theorem lse_ref : lseOf (logits (qkv m c)) = lse m c := by
  refine by_rows _ _ fun r b h a e => ?_
  rw [lse_eq m c (ix3 r (row b a) (col h e)) r b h a e rfl rfl rfl, lseOf_at, logSum_at, best_at]
  simp only [logits_at]
  symm
  exact (lse_ofs _ (logit (qkv m c) r b h a) (fun j => (tied_at m c hX r b h a j).1)
    ⟨128 + a.val, by omega⟩ ((tied_at m c hX r b h a _).2.1 (seen_self b a))).trans rfl

end Results

end Cert.Dil4Ideal.AttValue

namespace Cert.Dil4Claims

/-- The kernel runs, and leaves its arguments and its semaphores. -/
theorem frame_p : Cert.quiescent_Dil4 := fun m ρ _ => Cert.Dil4.Gen.frame m ρ

/-- So does its idealization. -/
theorem frame_pi : Cert.quiescent_Dil4Ideal := fun m ρ _ => Cert.Dil4Ideal.Gen.frame m ρ

/-- And under the precondition. -/
theorem frame_pi_pre : Cert.quiescent_Dil4Ideal_pre_finite4 := fun m ρ _ => Cert.Dil4Ideal.Gen.frame m ρ

/-- The reference's run leaves its argument and has no semaphore. -/
theorem frame_ref (m : (ℓ : Loc Cert.Dil4RefIdeal.nD Cert.Dil4RefIdeal.τ Cert.Dil4RefIdeal.sig) → Buf (Elt Ideal) ℓ) (ρ) :
    θ_run Cert.Dil4RefIdeal.defs (onTc (τ := Cert.Dil4RefIdeal.τ) (Cert.Dil4RefIdeal.main (F := Ideal))) ⟨m, fun _ => 0, ρ⟩ (fun r =>
      (∀ c : Dev Cert.Dil4RefIdeal.nD, r.2.mem ((c.tc : Thread Cert.Dil4RefIdeal.nD Cert.Dil4RefIdeal.τ).loc Cert.Dil4RefIdeal.main_arg0)
        = m ((c.tc : Thread Cert.Dil4RefIdeal.nD Cert.Dil4RefIdeal.τ).loc Cert.Dil4RefIdeal.main_arg0)) ∧ r.2.sem = fun _ => 0) :=
  (θ_run Cert.Dil4RefIdeal.defs _ _).mono (fun r h => ⟨fun c => (h c).2.2, sem_eq_zero_of_no_sems (by decide) r.2⟩)
    (Cert.Dil4RefIdeal.Value.run (F := Ideal) m ρ)

/-- So does the reference. -/
theorem frame_ri : Cert.quiescent_Dil4RefIdeal := fun m ρ _ => frame_ref m ρ

/-- And under the precondition. -/
theorem frame_ri_pre : Cert.quiescent_Dil4RefIdeal_pre_finite4 := fun m ρ _ => frame_ref m ρ

/-- The named constant is the reciprocal of the logarithm of two. -/
theorem preserves : Cert.preserves_Dil4_Dil4Ideal :=
  IdealRules.named_const.statement Cert.Dil4Ideal.κ "log2e" .f32 0x3FB8AA3B#32 (((Real.log 2)⁻¹ : ℝ) : EReal) rfl

/-- Kernel and reference end with the same two arrays. -/
theorem algebraic : Cert.algebraic_Dil4Ideal_Dil4RefIdeal_pre_finite4 := fun m ρ m' ρ' hp hag => by
  have hX := fun c => Cert.Dil4Ideal.AttValue.real_of_pre _ (hp c)
  refine ⟨fun c => Cert.Dil4Ideal.AttValue.out m c, fun c => Cert.Dil4Ideal.AttValue.lse m c, ?_, ?_⟩
  · exact (θ_run Cert.Dil4Ideal.defs _ _).mono (fun r h c => ⟨(h c).1.trans (Cert.Dil4Ideal.AttValue.arr6 m c),
      (h c).2.1.trans (Cert.Dil4Ideal.AttValue.arr7 m c), (h c).2.2⟩) (Cert.Dil4Ideal.Value.run_blocks m ρ)
  · refine (θ_run Cert.Dil4RefIdeal.defs _ _).mono (fun r h c => ⟨(h c).1.trans ?_, (h c).2.1.trans ?_, (h c).2.2⟩)
      (Cert.Dil4RefIdeal.Value.run m' ρ')
    · refine (Cert.Dil4RefIdeal.AttValue.out_stages m' c).trans ?_
      rw [hag c]
      exact Cert.Dil4Ideal.AttValue.out_ref m c (hX c)
    · refine (Cert.Dil4RefIdeal.AttValue.lse_stages m' c).trans ?_
      rw [hag c]
      exact Cert.Dil4Ideal.AttValue.lse_ref m c (hX c)

end Cert.Dil4Claims
end
-- ==== Proof.Dil1Kernel.lean ====
module

public import proofs.«01_k».proof.Proof.DilKernel
public import proofs.«01_k».proof.Proof.Gen.Dil1Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Dil1Ideal.AttValue

open Cert.Dil1Ideal Cert.Dil1Ideal.Gen
open Cert.DilIdeal.AttValue (top mass attend lse2 col sum_halves)

/-! ## One block's attention as a function of the queries, keys, values and biases it reads -/

/-- Row `a` of block `b` of a residue's rows. -/
def row (b : Fin 64) (a : Fin 128) : Fin 8192 := ⟨b.val * 128 + a.val, by omega⟩

/-- Row `j` of the block before block `b`. Block 0 has none, and its own row stands there (its bias hides it). -/
def prevRow (b : Fin 64) (j : Fin 128) : Fin 8192 := ⟨(b.val - 1) * 128 + j.val, by omega⟩

/-- The row that key `j` of block `b` is read at: the 256 keys are the block before and the block itself. -/
def keyRow (b : Fin 64) (j : Fin 256) : Fin 8192 :=
  if h : j.val < 128 then prevRow b ⟨j.val, h⟩ else row b ⟨j.val - 128, by omega⟩

/-- The first 128 keys of a block are the block before. -/
theorem keyRow_lo (b : Fin 64) (j : Fin 128) : keyRow b ⟨j.val, by omega⟩ = prevRow b j := dif_pos j.isLt

/-- The others are the block itself. -/
theorem keyRow_hi (b : Fin 64) (j : Fin 128) : keyRow b ⟨128 + j.val, by omega⟩ = row b j := by
  refine (dif_neg (by simp)).trans (congrArg (row b) (Fin.ext ?_))
  show 128 + j.val - 128 = j.val
  omega

/-- Which of the two bias tables block `b` adds: the one that hides the keys before the start, at block 0. -/
def tab (b : Fin 64) : Fin 2 := if b.val = 0 then 1 else 0

/-- The score of query `a` at key `j`, in units of log 2: the product over the head's lanes, and the bias. -/
def score (X : S3x1x8192x512.Idx → EReal) (B : S2x4x128x256.Idx → EReal) (r : Fin 1) (b : Fin 64) (h : Fin 4) (a : Fin 128)
    (j : Fin 256) : EReal :=
  (∑ e : Fin 128, X (ix4 0 r (row b a) (col h e)) * X (ix4 1 r (keyRow b j) (col h e))) + B (ix4 (tab b) h a j)

section Tile

variable (q kp vp kc vc : Vec Ideal S1x1x128x128 .bf16) (bs : Vec Ideal S1x1x128x256 .f32)

/-- The first head's payload of the scores, at an index. -/
theorem score_at (a : Fin 128) (j : Fin 256) : k0_pay2 q kp kc bs (ix2 a j)
    = (∑ e, q (ix4 0 0 a e) * if h : j.val < 128 then kp (ix4 0 0 ⟨j.val, h⟩ e) else kc (ix4 0 0 ⟨j.val - 128, by omega⟩ e))
      + bs (ix4 0 0 a j) := by
  pointwise [k0_pay2]

/-- The largest score, at an index. -/
theorem top_at (s : Fin 128 → Fin 256 → EReal) (hs : ∀ a j, k0_pay2 q kp kc bs (ix2 a j) = s a j) (a : Fin 128) :
    k0_pay3 q kp kc bs (ix2 a 0) = top (s a) := by
  pointwise [k0_pay3]
  unfold top
  congr 1
  funext j
  exact hs a j

/-- The powers of two, at an index. -/
theorem pow_at (s : Fin 128 → Fin 256 → EReal) (hs : ∀ a j, k0_pay2 q kp kc bs (ix2 a j) = s a j) (a : Fin 128)
    (j : Fin 256) : k0_pay4 q kp kc bs (ix2 a j) = Ideal.exp2 (s a j - top (s a)) := by
  pointwise [k0_pay4]
  rw [hs, top_at q kp kc bs s hs]
  rfl

/-- Their sum, at an index. -/
theorem mass_at (s : Fin 128 → Fin 256 → EReal) (hs : ∀ a j, k0_pay2 q kp kc bs (ix2 a j) = s a j) (a : Fin 128) :
    k0_pay5 q kp kc bs (ix2 a 0) = mass (s a) := by
  pointwise [k0_pay5]
  exact Finset.sum_congr rfl fun j _ => pow_at q kp kc bs s hs a j

/-- What the body stores of the attention's output, at an index. -/
theorem out_at (s : Fin 128 → Fin 256 → EReal) (v : Fin 256 → Fin 128 → EReal)
    (hs : ∀ a j, k0_pay2 q kp kc bs (ix2 a j) = s a j)
    (hp : ∀ (j e : Fin 128), vp (ix4 0 0 j e) = v ⟨j.val, by omega⟩ e)
    (hc : ∀ (j e : Fin 128), vc (ix4 0 0 j e) = v ⟨128 + j.val, by omega⟩ e) (a e : Fin 128) :
    k0_pay7 (k0_pay5 q kp kc bs) (k0_pay6 q kp vp kc vc bs) (ix3 0 a e) = attend (s a) fun j => v j e := by
  pointwise [k0_pay7, k0_pay6]
  unfold attend
  rw [mass_at q kp kc bs s hs, sum_halves]
  simp only [pow_at q kp kc bs s hs, hp, hc]

/-- What the body stores of the denominator's logarithm, at an index. -/
theorem lse_at (s : Fin 128 → Fin 256 → EReal) (hs : ∀ a j, k0_pay2 q kp kc bs (ix2 a j) = s a j) (a e : Fin 128) :
    k0_pay8 (k0_pay3 q kp kc bs) (k0_pay5 q kp kc bs) (ix3 0 a e) = lse2 (s a) := by
  pointwise [k0_pay8]
  rw [mass_at q kp kc bs s hs, top_at q kp kc bs s hs]
  rfl

variable (X : S3x1x8192x512.Idx → EReal) (B : S2x4x128x256.Idx → EReal) (r : Fin 1) (b : Fin 64) (h : Fin 4)

/-- The scores of a tile whose operands are the array's block `b`, head `h`. -/
theorem score_tile (hq : ∀ a e : Fin 128, q (ix4 0 0 a e) = X (ix4 0 r (row b a) (col h e)))
    (hkp : ∀ j e : Fin 128, kp (ix4 0 0 j e) = X (ix4 1 r (prevRow b j) (col h e)))
    (hkc : ∀ j e : Fin 128, kc (ix4 0 0 j e) = X (ix4 1 r (row b j) (col h e)))
    (hbs : ∀ (a : Fin 128) (j : Fin 256), bs (ix4 0 0 a j) = B (ix4 (tab b) h a j)) (a : Fin 128) (j : Fin 256) :
    k0_pay2 q kp kc bs (ix2 a j) = score X B r b h a j := by
  rw [score_at, hbs]
  unfold score
  congr 1
  refine Finset.sum_congr rfl fun e _ => ?_
  rw [hq]
  congr 1
  unfold keyRow
  split
  · rw [hkp]
  · rw [hkc]

/-- The tile's output at index `x`. -/
theorem out_tile (hq : ∀ a e : Fin 128, q (ix4 0 0 a e) = X (ix4 0 r (row b a) (col h e)))
    (hkp : ∀ j e : Fin 128, kp (ix4 0 0 j e) = X (ix4 1 r (prevRow b j) (col h e)))
    (hkc : ∀ j e : Fin 128, kc (ix4 0 0 j e) = X (ix4 1 r (row b j) (col h e)))
    (hvp : ∀ j e : Fin 128, vp (ix4 0 0 j e) = X (ix4 2 r (prevRow b j) (col h e)))
    (hvc : ∀ j e : Fin 128, vc (ix4 0 0 j e) = X (ix4 2 r (row b j) (col h e)))
    (hbs : ∀ (a : Fin 128) (j : Fin 256), bs (ix4 0 0 a j) = B (ix4 (tab b) h a j)) (x : S1x128x128.Idx) :
    k0_pay7 (k0_pay5 q kp kc bs) (k0_pay6 q kp vp kc vc bs) x
      = attend (score X B r b h (x 1)) fun j => X (ix4 2 r (keyRow b j) (col h (x 2))) := by
  idx_vars x
  obtain rfl : x0 = 0 := Subsingleton.elim _ _
  exact out_at q kp vp kc vc bs _ (fun j e => X (ix4 2 r (keyRow b j) (col h e)))
    (score_tile q kp kc bs X B r b h hq hkp hkc hbs)
    (fun j e => by rw [hvp, keyRow_lo]) (fun j e => by rw [hvc, keyRow_hi]) x1 x2

/-- The tile's denominator at index `x`. -/
theorem lse_tile (hq : ∀ a e : Fin 128, q (ix4 0 0 a e) = X (ix4 0 r (row b a) (col h e)))
    (hkp : ∀ j e : Fin 128, kp (ix4 0 0 j e) = X (ix4 1 r (prevRow b j) (col h e)))
    (hkc : ∀ j e : Fin 128, kc (ix4 0 0 j e) = X (ix4 1 r (row b j) (col h e)))
    (hbs : ∀ (a : Fin 128) (j : Fin 256), bs (ix4 0 0 a j) = B (ix4 (tab b) h a j)) (x : S1x128x128.Idx) :
    k0_pay8 (k0_pay3 q kp kc bs) (k0_pay5 q kp kc bs) x = lse2 (score X B r b h (x 1)) := by
  idx_vars x
  obtain rfl : x0 = 0 := Subsingleton.elim _ _
  exact lse_at q kp kc bs _ (score_tile q kp kc bs X B r b h hq hkp hkc hbs) x1 x2

end Tile

/-! ## The two result arrays -/

variable (m : (ℓ : Loc nD τ sig) → Buf (Elt Ideal) ℓ)

/-- The residue whose rows a grid point works on. -/
def res (t : Fin grid0.N) : Fin 1 := 0

/-- The block of that residue's rows that is a grid point's block `b`. -/
def blk (t : Fin grid0.N) (b : Fin 16) : Fin 64 := ⟨t.val * 16 + b.val, by have : t.val < 4 := t.isLt; omega⟩

/-- Which block each window holds at each point, and which bias table a point's block 0 reads. -/
theorem idx : ∀ t : Fin grid0.N, win0_0.index t = ![0, 0, 0, 0] ∧ win0_1.index t = ![0, 0, t.val, 0] ∧ win0_2.index t = ![1, 0, t.val, 0]
    ∧ win0_3.index t = ![1, 0, (t.val * 16 - 1), 0] ∧ win0_4.index t = ![2, 0, t.val, 0] ∧ win0_5.index t = ![2, 0, (t.val * 16 - 1), 0]
    ∧ win0_6.index t = ![0, t.val, 0] ∧ win0_7.index t = ![0, t.val, 0] ∧ k0_off1 (grid0.coords t) = ![(tab (blk t 0)).val, 0, 0, 0]
    ∧ k0_off2 (grid0.coords t) = ![(tab (blk t 0)).val, 1, 0, 0] ∧ k0_off3 (grid0.coords t) = ![(tab (blk t 0)).val, 2, 0, 0]
    ∧ k0_off4 (grid0.coords t) = ![(tab (blk t 0)).val, 3, 0, 0] := by
  decide +kernel

/-- Every other block reads the table that hides nothing before the start. -/
theorem later (t : Fin grid0.N) (b : Fin 16) (hb : 1 ≤ b.val) (h : Fin 4) : (![0, h.val, 0, 0] : Fin 4 → Nat) = ![(tab (blk t b)).val, h.val, 0, 0] := by
  have e : (blk t b).val ≠ 0 := by
    simp only [blk]
    omega
  unfold tab
  rw [if_neg e]
  rfl

/-- The array of queries, keys and values. -/
abbrev qkv (c : Dev nD) : S3x1x8192x512.Idx → EReal := m (c.tc.loc main_arg0)

/-- The table of biases, as the launch finds it. -/
abbrev bias (c : Dev nD) : S2x4x128x256.Idx → EReal := V m c main_v50

/-- The attention's output, at an index. -/
def out (c : Dev nD) (i : S1x8192x512.Idx) : EReal :=
  attend (score (qkv m c) (bias m c) (i 0) ⟨(i 1).val / 128, by have : (i 1).val < 8192 := (i 1).isLt; omega⟩
      ⟨(i 2).val / 128, by have : (i 2).val < 512 := (i 2).isLt; omega⟩ ⟨(i 1).val % 128, by omega⟩)
    fun j => qkv m c (ix4 2 (i 0) (keyRow ⟨(i 1).val / 128, by have : (i 1).val < 8192 := (i 1).isLt; omega⟩ j) (i 2))

/-- The denominator's logarithm, at an index. -/
def lse (c : Dev nD) (i : S1x8192x512.Idx) : EReal :=
  lse2 (score (qkv m c) (bias m c) (i 0) ⟨(i 1).val / 128, by have : (i 1).val < 8192 := (i 1).isLt; omega⟩
      ⟨(i 2).val / 128, by have : (i 2).val < 512 := (i 2).isLt; omega⟩ ⟨(i 1).val % 128, by omega⟩)

/-- The outputs at an index given by its residue, block, head, row and lane. -/
theorem out_eq (c : Dev nD) (i : S1x8192x512.Idx) (r : Fin 1) (b : Fin 64) (h : Fin 4) (a e : Fin 128) (h0 : (i 0).val = r.val)
    (h1 : (i 1).val = b.val * 128 + a.val) (h2 : (i 2).val = h.val * 128 + e.val) :
    out m c i = attend (score (qkv m c) (bias m c) r b h a) fun j => qkv m c (ix4 2 r (keyRow b j) (col h e)) := by
  have e0 : i 0 = r := Fin.ext h0
  have e1 : (i 1).val / 128 = b.val := by omega
  have e2 : (i 2).val / 128 = h.val := by omega
  have e3 : (i 1).val % 128 = a.val := by omega
  have e4 : i 2 = col h e := Fin.ext h2
  unfold out
  have e5 : ∀ w j, (ix4 w r (keyRow b j) (i 2) : S3x1x8192x512.Idx) = ix4 w r (keyRow b j) (col h e) := fun w j => by rw [e4]
  simp only [e0, e1, e2, e3]
  simp only [e5]

/-- As `out_eq`, of the denominator's logarithm. -/
theorem lse_eq (c : Dev nD) (i : S1x8192x512.Idx) (r : Fin 1) (b : Fin 64) (h : Fin 4) (a e : Fin 128) (h0 : (i 0).val = r.val)
    (h1 : (i 1).val = b.val * 128 + a.val) (h2 : (i 2).val = h.val * 128 + e.val) :
    lse m c i = lse2 (score (qkv m c) (bias m c) r b h a) := by
  have e0 : i 0 = r := Fin.ext h0
  have e1 : (i 1).val / 128 = b.val := by omega
  have e2 : (i 2).val / 128 = h.val := by omega
  have e3 : (i 1).val % 128 = a.val := by omega
  unfold lse
  simp only [e0, e1, e2, e3]

/-- A load of 128 rows and 128 lanes of the block of queries. -/
theorem q_load (c : Dev nD) (t : Fin grid0.N) (b : Fin 16) (h : Fin 4) (off : Fin 4 → Nat) (inb)
    (ho : off = ![0, 0, b.val * 128, h.val * 128]) (a e : Fin 128) :
    View.ld (iblk m c 1 t) (Rect.unit (s := S1x1x2048x512) off ![1, 1, 128, 128] inb) (ix4 0 0 a e) = qkv m c (ix4 0 (res t) (row (blk t b) a) (col h e)) := by
  subst ho
  pointwise
  blk_ext [iblk, V, idx t, row, prevRow, col, res, blk]

/-- … of the block of keys. -/
theorem k_load (c : Dev nD) (t : Fin grid0.N) (b : Fin 16) (h : Fin 4) (off : Fin 4 → Nat) (inb)
    (ho : off = ![0, 0, b.val * 128, h.val * 128]) (a e : Fin 128) :
    View.ld (iblk m c 2 t) (Rect.unit (s := S1x1x2048x512) off ![1, 1, 128, 128] inb) (ix4 0 0 a e) = qkv m c (ix4 1 (res t) (row (blk t b) a) (col h e)) := by
  subst ho
  pointwise
  blk_ext [iblk, V, idx t, row, prevRow, col, res, blk]

/-- … of the block of values. -/
theorem v_load (c : Dev nD) (t : Fin grid0.N) (b : Fin 16) (h : Fin 4) (off : Fin 4 → Nat) (inb)
    (ho : off = ![0, 0, b.val * 128, h.val * 128]) (a e : Fin 128) :
    View.ld (iblk m c 4 t) (Rect.unit (s := S1x1x2048x512) off ![1, 1, 128, 128] inb) (ix4 0 0 a e) = qkv m c (ix4 2 (res t) (row (blk t b) a) (col h e)) := by
  subst ho
  pointwise
  blk_ext [iblk, V, idx t, row, prevRow, col, res, blk]

/-- … of the keys of the block before, inside the rows held. -/
theorem kp_load (c : Dev nD) (t : Fin grid0.N) (b : Fin 16) (hb : 1 ≤ b.val) (h : Fin 4) (off : Fin 4 → Nat) (inb)
    (ho : off = ![0, 0, (b.val - 1) * 128, h.val * 128]) (a e : Fin 128) :
    View.ld (iblk m c 2 t) (Rect.unit (s := S1x1x2048x512) off ![1, 1, 128, 128] inb) (ix4 0 0 a e) = qkv m c (ix4 1 (res t) (prevRow (blk t b) a) (col h e)) := by
  subst ho
  pointwise
  blk_ext [iblk, V, idx t, row, prevRow, col, res, blk]

/-- … of the values of the block before, inside the rows held. -/
theorem vp_load (c : Dev nD) (t : Fin grid0.N) (b : Fin 16) (hb : 1 ≤ b.val) (h : Fin 4) (off : Fin 4 → Nat) (inb)
    (ho : off = ![0, 0, (b.val - 1) * 128, h.val * 128]) (a e : Fin 128) :
    View.ld (iblk m c 4 t) (Rect.unit (s := S1x1x2048x512) off ![1, 1, 128, 128] inb) (ix4 0 0 a e) = qkv m c (ix4 2 (res t) (prevRow (blk t b) a) (col h e)) := by
  subst ho
  pointwise
  blk_ext [iblk, V, idx t, row, prevRow, col, res, blk]

/-- … of the keys that stand before the rows held (the window of the previous rows). -/
theorem kp_load0 (c : Dev nD) (t : Fin grid0.N) (h : Fin 4) (off : Fin 4 → Nat) (inb)
    (ho : off = ![0, 0, 0, h.val * 128]) (a e : Fin 128) :
    View.ld (iblk m c 3 t) (Rect.unit (s := S1x1x128x512) off ![1, 1, 128, 128] inb) (ix4 0 0 a e) = qkv m c (ix4 1 (res t) (prevRow (blk t 0) a) (col h e)) := by
  subst ho
  pointwise
  blk_ext [iblk, V, idx t, row, prevRow, col, res, blk]

/-- … of the values that stand before the rows held. -/
theorem vp_load0 (c : Dev nD) (t : Fin grid0.N) (h : Fin 4) (off : Fin 4 → Nat) (inb)
    (ho : off = ![0, 0, 0, h.val * 128]) (a e : Fin 128) :
    View.ld (iblk m c 5 t) (Rect.unit (s := S1x1x128x512) off ![1, 1, 128, 128] inb) (ix4 0 0 a e) = qkv m c (ix4 2 (res t) (prevRow (blk t 0) a) (col h e)) := by
  subst ho
  pointwise
  blk_ext [iblk, V, idx t, row, prevRow, col, res, blk]

/-- … of a head's biases. -/
theorem b_load (c : Dev nD) (t : Fin grid0.N) (b : Fin 64) (h : Fin 4) (off : Fin 4 → Nat) (inb)
    (ho : off = ![(tab b).val, h.val, 0, 0]) (a : Fin 128) (j : Fin 256) :
    View.ld (iblk m c 0 t) (Rect.unit (s := S2x4x128x256) off ![1, 1, 128, 256] inb) (ix4 0 0 a j) = bias m c (ix4 (tab b) h a j) := by
  subst ho
  unfold bias
  pointwise
  blk_ext [iblk, idx t]

/-- Where the write-back of point `t` puts element `y` of its block, `out` read there. -/
theorem out_put (c : Dev nD) (t : Fin grid0.N) (b : Fin 16) (h : Fin 4) (x : S1x128x128.Idx) (y : S1x2048x512.Idx)
    (h1 : (y 1).val = b.val * 128 + (x 1).val) (h2 : (y 2).val = h.val * 128 + (x 2).val) :
    out m c (((View.whole main_v51_0).slice (win0_6.rect t)).emb y)
      = attend (score (qkv m c) (bias m c) (res t) (blk t b) h (x 1)) fun j => qkv m c (ix4 2 (res t) (keyRow (blk t b) j) (col h (x 2))) := by
  have h0 : (y 0).val < 1 := (y 0).isLt
  refine out_eq m c _ (res t) (blk t b) h (x 1) (x 2) ?_ ?_ ?_
  · blk_simp [idx t]
  · blk_simp [idx t]
    simp only [blk]
    omega
  · blk_simp [idx t]
    omega

/-- Where the write-back of point `t` puts element `y` of its block, `lse` read there. -/
theorem lse_put (c : Dev nD) (t : Fin grid0.N) (b : Fin 16) (h : Fin 4) (x : S1x128x128.Idx) (y : S1x2048x512.Idx)
    (h1 : (y 1).val = b.val * 128 + (x 1).val) (h2 : (y 2).val = h.val * 128 + (x 2).val) :
    lse m c (((View.whole main_v51_1).slice (win0_7.rect t)).emb y)
      = lse2 (score (qkv m c) (bias m c) (res t) (blk t b) h (x 1)) := by
  have h0 : (y 0).val < 1 := (y 0).isLt
  refine lse_eq m c _ (res t) (blk t b) h (x 1) (x 2) ?_ ?_ ?_
  · blk_simp [idx t]
  · blk_simp [idx t]
    simp only [blk]
    omega
  · blk_simp [idx t]
    omega

end Cert.Dil1Ideal.AttValue
end
-- ==== Proof.Dil1Out.lean ====
module

public import proofs.«01_k».proof.Proof.Dil1Kernel
public import Idealize.ShloMosaic.Lib.Pipeline.ValueKit
public import Idealize.ShloMosaic.Lib.Pointwise

@[expose] public section

/-!
# The dilated attention's results, tile by tile
-/

set_option maxRecDepth 16384

noncomputable section

open Idealize.ShloMosaic Idealize.ShloMosaic.TcCoe Idealize.SL.Sem
open Idealize.ShloMosaic.Pipeline (Dat)

namespace Cert.Dil1Ideal.AttValue

open Cert.Dil1Ideal Cert.Dil1Ideal.Gen
open Cert.DilIdeal.AttValue (top mass attend lse2 col sum_halves)

variable (m : (ℓ : Loc nD τ sig) → Buf (Elt Ideal) ℓ)

set_option maxHeartbeats 2000000 in
/-- The first result array after the run. -/
theorem arr6 (c : Dev nD) : (dats m 0 c).arrAt 6 cfg0.N = out m c := by
  refine (dats m 0 c).arrAt_eq_of_covers 6 _ (by decide +kernel) fun t hf y => ?_
  blk_simp
  rw [after0_6]
  unfold outsAt0
  dsimp only
  frame_out
  canon_tiles x h
  case piece0 =>
    refine Eq.trans (out_tile _ _ _ _ _ _ (qkv m c) (bias m c) (res t) (blk t 15) 3 ?_ ?_ ?_ ?_ ?_ ?_ x) (out_put m c t 15 3 x y (by omega) (by omega)).symm
    all_goals intro a e
    all_goals try rw [Memref.IsWhole.read_unread]
    · exact q_load m c t 15 3 _ _ rfl a e
    · exact kp_load m c t 15 (by decide) 3 _ _ rfl a e
    · exact k_load m c t 15 3 _ _ rfl a e
    · exact vp_load m c t 15 (by decide) 3 _ _ rfl a e
    · exact v_load m c t 15 3 _ _ rfl a e
    · exact b_load m c t (blk t 15) 3 _ _ (later t 15 (by decide) 3) a e
  case piece1 =>
    refine Eq.trans (out_tile _ _ _ _ _ _ (qkv m c) (bias m c) (res t) (blk t 15) 2 ?_ ?_ ?_ ?_ ?_ ?_ x) (out_put m c t 15 2 x y (by omega) (by omega)).symm
    all_goals intro a e
    all_goals try rw [Memref.IsWhole.read_unread]
    · exact q_load m c t 15 2 _ _ rfl a e
    · exact kp_load m c t 15 (by decide) 2 _ _ rfl a e
    · exact k_load m c t 15 2 _ _ rfl a e
    · exact vp_load m c t 15 (by decide) 2 _ _ rfl a e
    · exact v_load m c t 15 2 _ _ rfl a e
    · exact b_load m c t (blk t 15) 2 _ _ (later t 15 (by decide) 2) a e
  case piece2 =>
    refine Eq.trans (out_tile _ _ _ _ _ _ (qkv m c) (bias m c) (res t) (blk t 15) 1 ?_ ?_ ?_ ?_ ?_ ?_ x) (out_put m c t 15 1 x y (by omega) (by omega)).symm
    all_goals intro a e
    all_goals try rw [Memref.IsWhole.read_unread]
    · exact q_load m c t 15 1 _ _ rfl a e
    · exact kp_load m c t 15 (by decide) 1 _ _ rfl a e
    · exact k_load m c t 15 1 _ _ rfl a e
    · exact vp_load m c t 15 (by decide) 1 _ _ rfl a e
    · exact v_load m c t 15 1 _ _ rfl a e
    · exact b_load m c t (blk t 15) 1 _ _ (later t 15 (by decide) 1) a e
  case piece3 =>
    refine Eq.trans (out_tile _ _ _ _ _ _ (qkv m c) (bias m c) (res t) (blk t 15) 0 ?_ ?_ ?_ ?_ ?_ ?_ x) (out_put m c t 15 0 x y (by omega) (by omega)).symm
    all_goals intro a e
    all_goals try rw [Memref.IsWhole.read_unread]
    · exact q_load m c t 15 0 _ _ rfl a e
    · exact kp_load m c t 15 (by decide) 0 _ _ rfl a e
    · exact k_load m c t 15 0 _ _ rfl a e
    · exact vp_load m c t 15 (by decide) 0 _ _ rfl a e
    · exact v_load m c t 15 0 _ _ rfl a e
    · exact b_load m c t (blk t 15) 0 _ _ (later t 15 (by decide) 0) a e
  case piece4 =>
    refine Eq.trans (out_tile _ _ _ _ _ _ (qkv m c) (bias m c) (res t) (blk t 14) 3 ?_ ?_ ?_ ?_ ?_ ?_ x) (out_put m c t 14 3 x y (by omega) (by omega)).symm
    all_goals intro a e
    all_goals try rw [Memref.IsWhole.read_unread]
    · exact q_load m c t 14 3 _ _ rfl a e
    · exact kp_load m c t 14 (by decide) 3 _ _ rfl a e
    · exact k_load m c t 14 3 _ _ rfl a e
    · exact vp_load m c t 14 (by decide) 3 _ _ rfl a e
    · exact v_load m c t 14 3 _ _ rfl a e
    · exact b_load m c t (blk t 14) 3 _ _ (later t 14 (by decide) 3) a e
  case piece5 =>
    refine Eq.trans (out_tile _ _ _ _ _ _ (qkv m c) (bias m c) (res t) (blk t 14) 2 ?_ ?_ ?_ ?_ ?_ ?_ x) (out_put m c t 14 2 x y (by omega) (by omega)).symm
    all_goals intro a e
    all_goals try rw [Memref.IsWhole.read_unread]
    · exact q_load m c t 14 2 _ _ rfl a e
    · exact kp_load m c t 14 (by decide) 2 _ _ rfl a e
    · exact k_load m c t 14 2 _ _ rfl a e
    · exact vp_load m c t 14 (by decide) 2 _ _ rfl a e
    · exact v_load m c t 14 2 _ _ rfl a e
    · exact b_load m c t (blk t 14) 2 _ _ (later t 14 (by decide) 2) a e
  case piece6 =>
    refine Eq.trans (out_tile _ _ _ _ _ _ (qkv m c) (bias m c) (res t) (blk t 14) 1 ?_ ?_ ?_ ?_ ?_ ?_ x) (out_put m c t 14 1 x y (by omega) (by omega)).symm
    all_goals intro a e
    all_goals try rw [Memref.IsWhole.read_unread]
    · exact q_load m c t 14 1 _ _ rfl a e
    · exact kp_load m c t 14 (by decide) 1 _ _ rfl a e
    · exact k_load m c t 14 1 _ _ rfl a e
    · exact vp_load m c t 14 (by decide) 1 _ _ rfl a e
    · exact v_load m c t 14 1 _ _ rfl a e
    · exact b_load m c t (blk t 14) 1 _ _ (later t 14 (by decide) 1) a e
  case piece7 =>
    refine Eq.trans (out_tile _ _ _ _ _ _ (qkv m c) (bias m c) (res t) (blk t 14) 0 ?_ ?_ ?_ ?_ ?_ ?_ x) (out_put m c t 14 0 x y (by omega) (by omega)).symm
    all_goals intro a e
    all_goals try rw [Memref.IsWhole.read_unread]
    · exact q_load m c t 14 0 _ _ rfl a e
    · exact kp_load m c t 14 (by decide) 0 _ _ rfl a e
    · exact k_load m c t 14 0 _ _ rfl a e
    · exact vp_load m c t 14 (by decide) 0 _ _ rfl a e
    · exact v_load m c t 14 0 _ _ rfl a e
    · exact b_load m c t (blk t 14) 0 _ _ (later t 14 (by decide) 0) a e
  case piece8 =>
    refine Eq.trans (out_tile _ _ _ _ _ _ (qkv m c) (bias m c) (res t) (blk t 13) 3 ?_ ?_ ?_ ?_ ?_ ?_ x) (out_put m c t 13 3 x y (by omega) (by omega)).symm
    all_goals intro a e
    all_goals try rw [Memref.IsWhole.read_unread]
    · exact q_load m c t 13 3 _ _ rfl a e
    · exact kp_load m c t 13 (by decide) 3 _ _ rfl a e
    · exact k_load m c t 13 3 _ _ rfl a e
    · exact vp_load m c t 13 (by decide) 3 _ _ rfl a e
    · exact v_load m c t 13 3 _ _ rfl a e
    · exact b_load m c t (blk t 13) 3 _ _ (later t 13 (by decide) 3) a e
  case piece9 =>
    refine Eq.trans (out_tile _ _ _ _ _ _ (qkv m c) (bias m c) (res t) (blk t 13) 2 ?_ ?_ ?_ ?_ ?_ ?_ x) (out_put m c t 13 2 x y (by omega) (by omega)).symm
    all_goals intro a e
    all_goals try rw [Memref.IsWhole.read_unread]
    · exact q_load m c t 13 2 _ _ rfl a e
    · exact kp_load m c t 13 (by decide) 2 _ _ rfl a e
    · exact k_load m c t 13 2 _ _ rfl a e
    · exact vp_load m c t 13 (by decide) 2 _ _ rfl a e
    · exact v_load m c t 13 2 _ _ rfl a e
    · exact b_load m c t (blk t 13) 2 _ _ (later t 13 (by decide) 2) a e
  case piece10 =>
    refine Eq.trans (out_tile _ _ _ _ _ _ (qkv m c) (bias m c) (res t) (blk t 13) 1 ?_ ?_ ?_ ?_ ?_ ?_ x) (out_put m c t 13 1 x y (by omega) (by omega)).symm
    all_goals intro a e
    all_goals try rw [Memref.IsWhole.read_unread]
    · exact q_load m c t 13 1 _ _ rfl a e
    · exact kp_load m c t 13 (by decide) 1 _ _ rfl a e
    · exact k_load m c t 13 1 _ _ rfl a e
    · exact vp_load m c t 13 (by decide) 1 _ _ rfl a e
    · exact v_load m c t 13 1 _ _ rfl a e
    · exact b_load m c t (blk t 13) 1 _ _ (later t 13 (by decide) 1) a e
  case piece11 =>
    refine Eq.trans (out_tile _ _ _ _ _ _ (qkv m c) (bias m c) (res t) (blk t 13) 0 ?_ ?_ ?_ ?_ ?_ ?_ x) (out_put m c t 13 0 x y (by omega) (by omega)).symm
    all_goals intro a e
    all_goals try rw [Memref.IsWhole.read_unread]
    · exact q_load m c t 13 0 _ _ rfl a e
    · exact kp_load m c t 13 (by decide) 0 _ _ rfl a e
    · exact k_load m c t 13 0 _ _ rfl a e
    · exact vp_load m c t 13 (by decide) 0 _ _ rfl a e
    · exact v_load m c t 13 0 _ _ rfl a e
    · exact b_load m c t (blk t 13) 0 _ _ (later t 13 (by decide) 0) a e
  case piece12 =>
    refine Eq.trans (out_tile _ _ _ _ _ _ (qkv m c) (bias m c) (res t) (blk t 12) 3 ?_ ?_ ?_ ?_ ?_ ?_ x) (out_put m c t 12 3 x y (by omega) (by omega)).symm
    all_goals intro a e
    all_goals try rw [Memref.IsWhole.read_unread]
    · exact q_load m c t 12 3 _ _ rfl a e
    · exact kp_load m c t 12 (by decide) 3 _ _ rfl a e
    · exact k_load m c t 12 3 _ _ rfl a e
    · exact vp_load m c t 12 (by decide) 3 _ _ rfl a e
    · exact v_load m c t 12 3 _ _ rfl a e
    · exact b_load m c t (blk t 12) 3 _ _ (later t 12 (by decide) 3) a e
  case piece13 =>
    refine Eq.trans (out_tile _ _ _ _ _ _ (qkv m c) (bias m c) (res t) (blk t 12) 2 ?_ ?_ ?_ ?_ ?_ ?_ x) (out_put m c t 12 2 x y (by omega) (by omega)).symm
    all_goals intro a e
    all_goals try rw [Memref.IsWhole.read_unread]
    · exact q_load m c t 12 2 _ _ rfl a e
    · exact kp_load m c t 12 (by decide) 2 _ _ rfl a e
    · exact k_load m c t 12 2 _ _ rfl a e
    · exact vp_load m c t 12 (by decide) 2 _ _ rfl a e
    · exact v_load m c t 12 2 _ _ rfl a e
    · exact b_load m c t (blk t 12) 2 _ _ (later t 12 (by decide) 2) a e
  case piece14 =>
    refine Eq.trans (out_tile _ _ _ _ _ _ (qkv m c) (bias m c) (res t) (blk t 12) 1 ?_ ?_ ?_ ?_ ?_ ?_ x) (out_put m c t 12 1 x y (by omega) (by omega)).symm
    all_goals intro a e
    all_goals try rw [Memref.IsWhole.read_unread]
    · exact q_load m c t 12 1 _ _ rfl a e
    · exact kp_load m c t 12 (by decide) 1 _ _ rfl a e
    · exact k_load m c t 12 1 _ _ rfl a e
    · exact vp_load m c t 12 (by decide) 1 _ _ rfl a e
    · exact v_load m c t 12 1 _ _ rfl a e
    · exact b_load m c t (blk t 12) 1 _ _ (later t 12 (by decide) 1) a e
  case piece15 =>
    refine Eq.trans (out_tile _ _ _ _ _ _ (qkv m c) (bias m c) (res t) (blk t 12) 0 ?_ ?_ ?_ ?_ ?_ ?_ x) (out_put m c t 12 0 x y (by omega) (by omega)).symm
    all_goals intro a e
    all_goals try rw [Memref.IsWhole.read_unread]
    · exact q_load m c t 12 0 _ _ rfl a e
    · exact kp_load m c t 12 (by decide) 0 _ _ rfl a e
    · exact k_load m c t 12 0 _ _ rfl a e
    · exact vp_load m c t 12 (by decide) 0 _ _ rfl a e
    · exact v_load m c t 12 0 _ _ rfl a e
    · exact b_load m c t (blk t 12) 0 _ _ (later t 12 (by decide) 0) a e
  case piece16 =>
    refine Eq.trans (out_tile _ _ _ _ _ _ (qkv m c) (bias m c) (res t) (blk t 11) 3 ?_ ?_ ?_ ?_ ?_ ?_ x) (out_put m c t 11 3 x y (by omega) (by omega)).symm
    all_goals intro a e
    all_goals try rw [Memref.IsWhole.read_unread]
    · exact q_load m c t 11 3 _ _ rfl a e
    · exact kp_load m c t 11 (by decide) 3 _ _ rfl a e
    · exact k_load m c t 11 3 _ _ rfl a e
    · exact vp_load m c t 11 (by decide) 3 _ _ rfl a e
    · exact v_load m c t 11 3 _ _ rfl a e
    · exact b_load m c t (blk t 11) 3 _ _ (later t 11 (by decide) 3) a e
  case piece17 =>
    refine Eq.trans (out_tile _ _ _ _ _ _ (qkv m c) (bias m c) (res t) (blk t 11) 2 ?_ ?_ ?_ ?_ ?_ ?_ x) (out_put m c t 11 2 x y (by omega) (by omega)).symm
    all_goals intro a e
    all_goals try rw [Memref.IsWhole.read_unread]
    · exact q_load m c t 11 2 _ _ rfl a e
    · exact kp_load m c t 11 (by decide) 2 _ _ rfl a e
    · exact k_load m c t 11 2 _ _ rfl a e
    · exact vp_load m c t 11 (by decide) 2 _ _ rfl a e
    · exact v_load m c t 11 2 _ _ rfl a e
    · exact b_load m c t (blk t 11) 2 _ _ (later t 11 (by decide) 2) a e
  case piece18 =>
    refine Eq.trans (out_tile _ _ _ _ _ _ (qkv m c) (bias m c) (res t) (blk t 11) 1 ?_ ?_ ?_ ?_ ?_ ?_ x) (out_put m c t 11 1 x y (by omega) (by omega)).symm
    all_goals intro a e
    all_goals try rw [Memref.IsWhole.read_unread]
    · exact q_load m c t 11 1 _ _ rfl a e
    · exact kp_load m c t 11 (by decide) 1 _ _ rfl a e
    · exact k_load m c t 11 1 _ _ rfl a e
    · exact vp_load m c t 11 (by decide) 1 _ _ rfl a e
    · exact v_load m c t 11 1 _ _ rfl a e
    · exact b_load m c t (blk t 11) 1 _ _ (later t 11 (by decide) 1) a e
  case piece19 =>
    refine Eq.trans (out_tile _ _ _ _ _ _ (qkv m c) (bias m c) (res t) (blk t 11) 0 ?_ ?_ ?_ ?_ ?_ ?_ x) (out_put m c t 11 0 x y (by omega) (by omega)).symm
    all_goals intro a e
    all_goals try rw [Memref.IsWhole.read_unread]
    · exact q_load m c t 11 0 _ _ rfl a e
    · exact kp_load m c t 11 (by decide) 0 _ _ rfl a e
    · exact k_load m c t 11 0 _ _ rfl a e
    · exact vp_load m c t 11 (by decide) 0 _ _ rfl a e
    · exact v_load m c t 11 0 _ _ rfl a e
    · exact b_load m c t (blk t 11) 0 _ _ (later t 11 (by decide) 0) a e
  case piece20 =>
    refine Eq.trans (out_tile _ _ _ _ _ _ (qkv m c) (bias m c) (res t) (blk t 10) 3 ?_ ?_ ?_ ?_ ?_ ?_ x) (out_put m c t 10 3 x y (by omega) (by omega)).symm
    all_goals intro a e
    all_goals try rw [Memref.IsWhole.read_unread]
    · exact q_load m c t 10 3 _ _ rfl a e
    · exact kp_load m c t 10 (by decide) 3 _ _ rfl a e
    · exact k_load m c t 10 3 _ _ rfl a e
    · exact vp_load m c t 10 (by decide) 3 _ _ rfl a e
    · exact v_load m c t 10 3 _ _ rfl a e
    · exact b_load m c t (blk t 10) 3 _ _ (later t 10 (by decide) 3) a e
  case piece21 =>
    refine Eq.trans (out_tile _ _ _ _ _ _ (qkv m c) (bias m c) (res t) (blk t 10) 2 ?_ ?_ ?_ ?_ ?_ ?_ x) (out_put m c t 10 2 x y (by omega) (by omega)).symm
    all_goals intro a e
    all_goals try rw [Memref.IsWhole.read_unread]
    · exact q_load m c t 10 2 _ _ rfl a e
    · exact kp_load m c t 10 (by decide) 2 _ _ rfl a e
    · exact k_load m c t 10 2 _ _ rfl a e
    · exact vp_load m c t 10 (by decide) 2 _ _ rfl a e
    · exact v_load m c t 10 2 _ _ rfl a e
    · exact b_load m c t (blk t 10) 2 _ _ (later t 10 (by decide) 2) a e
  case piece22 =>
    refine Eq.trans (out_tile _ _ _ _ _ _ (qkv m c) (bias m c) (res t) (blk t 10) 1 ?_ ?_ ?_ ?_ ?_ ?_ x) (out_put m c t 10 1 x y (by omega) (by omega)).symm
    all_goals intro a e
    all_goals try rw [Memref.IsWhole.read_unread]
    · exact q_load m c t 10 1 _ _ rfl a e
    · exact kp_load m c t 10 (by decide) 1 _ _ rfl a e
    · exact k_load m c t 10 1 _ _ rfl a e
    · exact vp_load m c t 10 (by decide) 1 _ _ rfl a e
    · exact v_load m c t 10 1 _ _ rfl a e
    · exact b_load m c t (blk t 10) 1 _ _ (later t 10 (by decide) 1) a e
  case piece23 =>
    refine Eq.trans (out_tile _ _ _ _ _ _ (qkv m c) (bias m c) (res t) (blk t 10) 0 ?_ ?_ ?_ ?_ ?_ ?_ x) (out_put m c t 10 0 x y (by omega) (by omega)).symm
    all_goals intro a e
    all_goals try rw [Memref.IsWhole.read_unread]
    · exact q_load m c t 10 0 _ _ rfl a e
    · exact kp_load m c t 10 (by decide) 0 _ _ rfl a e
    · exact k_load m c t 10 0 _ _ rfl a e
    · exact vp_load m c t 10 (by decide) 0 _ _ rfl a e
    · exact v_load m c t 10 0 _ _ rfl a e
    · exact b_load m c t (blk t 10) 0 _ _ (later t 10 (by decide) 0) a e
  case piece24 =>
    refine Eq.trans (out_tile _ _ _ _ _ _ (qkv m c) (bias m c) (res t) (blk t 9) 3 ?_ ?_ ?_ ?_ ?_ ?_ x) (out_put m c t 9 3 x y (by omega) (by omega)).symm
    all_goals intro a e
    all_goals try rw [Memref.IsWhole.read_unread]
    · exact q_load m c t 9 3 _ _ rfl a e
    · exact kp_load m c t 9 (by decide) 3 _ _ rfl a e
    · exact k_load m c t 9 3 _ _ rfl a e
    · exact vp_load m c t 9 (by decide) 3 _ _ rfl a e
    · exact v_load m c t 9 3 _ _ rfl a e
    · exact b_load m c t (blk t 9) 3 _ _ (later t 9 (by decide) 3) a e
  case piece25 =>
    refine Eq.trans (out_tile _ _ _ _ _ _ (qkv m c) (bias m c) (res t) (blk t 9) 2 ?_ ?_ ?_ ?_ ?_ ?_ x) (out_put m c t 9 2 x y (by omega) (by omega)).symm
    all_goals intro a e
    all_goals try rw [Memref.IsWhole.read_unread]
    · exact q_load m c t 9 2 _ _ rfl a e
    · exact kp_load m c t 9 (by decide) 2 _ _ rfl a e
    · exact k_load m c t 9 2 _ _ rfl a e
    · exact vp_load m c t 9 (by decide) 2 _ _ rfl a e
    · exact v_load m c t 9 2 _ _ rfl a e
    · exact b_load m c t (blk t 9) 2 _ _ (later t 9 (by decide) 2) a e
  case piece26 =>
    refine Eq.trans (out_tile _ _ _ _ _ _ (qkv m c) (bias m c) (res t) (blk t 9) 1 ?_ ?_ ?_ ?_ ?_ ?_ x) (out_put m c t 9 1 x y (by omega) (by omega)).symm
    all_goals intro a e
    all_goals try rw [Memref.IsWhole.read_unread]
    · exact q_load m c t 9 1 _ _ rfl a e
    · exact kp_load m c t 9 (by decide) 1 _ _ rfl a e
    · exact k_load m c t 9 1 _ _ rfl a e
    · exact vp_load m c t 9 (by decide) 1 _ _ rfl a e
    · exact v_load m c t 9 1 _ _ rfl a e
    · exact b_load m c t (blk t 9) 1 _ _ (later t 9 (by decide) 1) a e
  case piece27 =>
    refine Eq.trans (out_tile _ _ _ _ _ _ (qkv m c) (bias m c) (res t) (blk t 9) 0 ?_ ?_ ?_ ?_ ?_ ?_ x) (out_put m c t 9 0 x y (by omega) (by omega)).symm
    all_goals intro a e
    all_goals try rw [Memref.IsWhole.read_unread]
    · exact q_load m c t 9 0 _ _ rfl a e
    · exact kp_load m c t 9 (by decide) 0 _ _ rfl a e
    · exact k_load m c t 9 0 _ _ rfl a e
    · exact vp_load m c t 9 (by decide) 0 _ _ rfl a e
    · exact v_load m c t 9 0 _ _ rfl a e
    · exact b_load m c t (blk t 9) 0 _ _ (later t 9 (by decide) 0) a e
  case piece28 =>
    refine Eq.trans (out_tile _ _ _ _ _ _ (qkv m c) (bias m c) (res t) (blk t 8) 3 ?_ ?_ ?_ ?_ ?_ ?_ x) (out_put m c t 8 3 x y (by omega) (by omega)).symm
    all_goals intro a e
    all_goals try rw [Memref.IsWhole.read_unread]
    · exact q_load m c t 8 3 _ _ rfl a e
    · exact kp_load m c t 8 (by decide) 3 _ _ rfl a e
    · exact k_load m c t 8 3 _ _ rfl a e
    · exact vp_load m c t 8 (by decide) 3 _ _ rfl a e
    · exact v_load m c t 8 3 _ _ rfl a e
    · exact b_load m c t (blk t 8) 3 _ _ (later t 8 (by decide) 3) a e
  case piece29 =>
    refine Eq.trans (out_tile _ _ _ _ _ _ (qkv m c) (bias m c) (res t) (blk t 8) 2 ?_ ?_ ?_ ?_ ?_ ?_ x) (out_put m c t 8 2 x y (by omega) (by omega)).symm
    all_goals intro a e
    all_goals try rw [Memref.IsWhole.read_unread]
    · exact q_load m c t 8 2 _ _ rfl a e
    · exact kp_load m c t 8 (by decide) 2 _ _ rfl a e
    · exact k_load m c t 8 2 _ _ rfl a e
    · exact vp_load m c t 8 (by decide) 2 _ _ rfl a e
    · exact v_load m c t 8 2 _ _ rfl a e
    · exact b_load m c t (blk t 8) 2 _ _ (later t 8 (by decide) 2) a e
  case piece30 =>
    refine Eq.trans (out_tile _ _ _ _ _ _ (qkv m c) (bias m c) (res t) (blk t 8) 1 ?_ ?_ ?_ ?_ ?_ ?_ x) (out_put m c t 8 1 x y (by omega) (by omega)).symm
    all_goals intro a e
    all_goals try rw [Memref.IsWhole.read_unread]
    · exact q_load m c t 8 1 _ _ rfl a e
    · exact kp_load m c t 8 (by decide) 1 _ _ rfl a e
    · exact k_load m c t 8 1 _ _ rfl a e
    · exact vp_load m c t 8 (by decide) 1 _ _ rfl a e
    · exact v_load m c t 8 1 _ _ rfl a e
    · exact b_load m c t (blk t 8) 1 _ _ (later t 8 (by decide) 1) a e
  case piece31 =>
    refine Eq.trans (out_tile _ _ _ _ _ _ (qkv m c) (bias m c) (res t) (blk t 8) 0 ?_ ?_ ?_ ?_ ?_ ?_ x) (out_put m c t 8 0 x y (by omega) (by omega)).symm
    all_goals intro a e
    all_goals try rw [Memref.IsWhole.read_unread]
    · exact q_load m c t 8 0 _ _ rfl a e
    · exact kp_load m c t 8 (by decide) 0 _ _ rfl a e
    · exact k_load m c t 8 0 _ _ rfl a e
    · exact vp_load m c t 8 (by decide) 0 _ _ rfl a e
    · exact v_load m c t 8 0 _ _ rfl a e
    · exact b_load m c t (blk t 8) 0 _ _ (later t 8 (by decide) 0) a e
  case piece32 =>
    refine Eq.trans (out_tile _ _ _ _ _ _ (qkv m c) (bias m c) (res t) (blk t 7) 3 ?_ ?_ ?_ ?_ ?_ ?_ x) (out_put m c t 7 3 x y (by omega) (by omega)).symm
    all_goals intro a e
    all_goals try rw [Memref.IsWhole.read_unread]
    · exact q_load m c t 7 3 _ _ rfl a e
    · exact kp_load m c t 7 (by decide) 3 _ _ rfl a e
    · exact k_load m c t 7 3 _ _ rfl a e
    · exact vp_load m c t 7 (by decide) 3 _ _ rfl a e
    · exact v_load m c t 7 3 _ _ rfl a e
    · exact b_load m c t (blk t 7) 3 _ _ (later t 7 (by decide) 3) a e
  case piece33 =>
    refine Eq.trans (out_tile _ _ _ _ _ _ (qkv m c) (bias m c) (res t) (blk t 7) 2 ?_ ?_ ?_ ?_ ?_ ?_ x) (out_put m c t 7 2 x y (by omega) (by omega)).symm
    all_goals intro a e
    all_goals try rw [Memref.IsWhole.read_unread]
    · exact q_load m c t 7 2 _ _ rfl a e
    · exact kp_load m c t 7 (by decide) 2 _ _ rfl a e
    · exact k_load m c t 7 2 _ _ rfl a e
    · exact vp_load m c t 7 (by decide) 2 _ _ rfl a e
    · exact v_load m c t 7 2 _ _ rfl a e
    · exact b_load m c t (blk t 7) 2 _ _ (later t 7 (by decide) 2) a e
  case piece34 =>
    refine Eq.trans (out_tile _ _ _ _ _ _ (qkv m c) (bias m c) (res t) (blk t 7) 1 ?_ ?_ ?_ ?_ ?_ ?_ x) (out_put m c t 7 1 x y (by omega) (by omega)).symm
    all_goals intro a e
    all_goals try rw [Memref.IsWhole.read_unread]
    · exact q_load m c t 7 1 _ _ rfl a e
    · exact kp_load m c t 7 (by decide) 1 _ _ rfl a e
    · exact k_load m c t 7 1 _ _ rfl a e
    · exact vp_load m c t 7 (by decide) 1 _ _ rfl a e
    · exact v_load m c t 7 1 _ _ rfl a e
    · exact b_load m c t (blk t 7) 1 _ _ (later t 7 (by decide) 1) a e
  case piece35 =>
    refine Eq.trans (out_tile _ _ _ _ _ _ (qkv m c) (bias m c) (res t) (blk t 7) 0 ?_ ?_ ?_ ?_ ?_ ?_ x) (out_put m c t 7 0 x y (by omega) (by omega)).symm
    all_goals intro a e
    all_goals try rw [Memref.IsWhole.read_unread]
    · exact q_load m c t 7 0 _ _ rfl a e
    · exact kp_load m c t 7 (by decide) 0 _ _ rfl a e
    · exact k_load m c t 7 0 _ _ rfl a e
    · exact vp_load m c t 7 (by decide) 0 _ _ rfl a e
    · exact v_load m c t 7 0 _ _ rfl a e
    · exact b_load m c t (blk t 7) 0 _ _ (later t 7 (by decide) 0) a e
  case piece36 =>
    refine Eq.trans (out_tile _ _ _ _ _ _ (qkv m c) (bias m c) (res t) (blk t 6) 3 ?_ ?_ ?_ ?_ ?_ ?_ x) (out_put m c t 6 3 x y (by omega) (by omega)).symm
    all_goals intro a e
    all_goals try rw [Memref.IsWhole.read_unread]
    · exact q_load m c t 6 3 _ _ rfl a e
    · exact kp_load m c t 6 (by decide) 3 _ _ rfl a e
    · exact k_load m c t 6 3 _ _ rfl a e
    · exact vp_load m c t 6 (by decide) 3 _ _ rfl a e
    · exact v_load m c t 6 3 _ _ rfl a e
    · exact b_load m c t (blk t 6) 3 _ _ (later t 6 (by decide) 3) a e
  case piece37 =>
    refine Eq.trans (out_tile _ _ _ _ _ _ (qkv m c) (bias m c) (res t) (blk t 6) 2 ?_ ?_ ?_ ?_ ?_ ?_ x) (out_put m c t 6 2 x y (by omega) (by omega)).symm
    all_goals intro a e
    all_goals try rw [Memref.IsWhole.read_unread]
    · exact q_load m c t 6 2 _ _ rfl a e
    · exact kp_load m c t 6 (by decide) 2 _ _ rfl a e
    · exact k_load m c t 6 2 _ _ rfl a e
    · exact vp_load m c t 6 (by decide) 2 _ _ rfl a e
    · exact v_load m c t 6 2 _ _ rfl a e
    · exact b_load m c t (blk t 6) 2 _ _ (later t 6 (by decide) 2) a e
  case piece38 =>
    refine Eq.trans (out_tile _ _ _ _ _ _ (qkv m c) (bias m c) (res t) (blk t 6) 1 ?_ ?_ ?_ ?_ ?_ ?_ x) (out_put m c t 6 1 x y (by omega) (by omega)).symm
    all_goals intro a e
    all_goals try rw [Memref.IsWhole.read_unread]
    · exact q_load m c t 6 1 _ _ rfl a e
    · exact kp_load m c t 6 (by decide) 1 _ _ rfl a e
    · exact k_load m c t 6 1 _ _ rfl a e
    · exact vp_load m c t 6 (by decide) 1 _ _ rfl a e
    · exact v_load m c t 6 1 _ _ rfl a e
    · exact b_load m c t (blk t 6) 1 _ _ (later t 6 (by decide) 1) a e
  case piece39 =>
    refine Eq.trans (out_tile _ _ _ _ _ _ (qkv m c) (bias m c) (res t) (blk t 6) 0 ?_ ?_ ?_ ?_ ?_ ?_ x) (out_put m c t 6 0 x y (by omega) (by omega)).symm
    all_goals intro a e
    all_goals try rw [Memref.IsWhole.read_unread]
    · exact q_load m c t 6 0 _ _ rfl a e
    · exact kp_load m c t 6 (by decide) 0 _ _ rfl a e
    · exact k_load m c t 6 0 _ _ rfl a e
    · exact vp_load m c t 6 (by decide) 0 _ _ rfl a e
    · exact v_load m c t 6 0 _ _ rfl a e
    · exact b_load m c t (blk t 6) 0 _ _ (later t 6 (by decide) 0) a e
  case piece40 =>
    refine Eq.trans (out_tile _ _ _ _ _ _ (qkv m c) (bias m c) (res t) (blk t 5) 3 ?_ ?_ ?_ ?_ ?_ ?_ x) (out_put m c t 5 3 x y (by omega) (by omega)).symm
    all_goals intro a e
    all_goals try rw [Memref.IsWhole.read_unread]
    · exact q_load m c t 5 3 _ _ rfl a e
    · exact kp_load m c t 5 (by decide) 3 _ _ rfl a e
    · exact k_load m c t 5 3 _ _ rfl a e
    · exact vp_load m c t 5 (by decide) 3 _ _ rfl a e
    · exact v_load m c t 5 3 _ _ rfl a e
    · exact b_load m c t (blk t 5) 3 _ _ (later t 5 (by decide) 3) a e
  case piece41 =>
    refine Eq.trans (out_tile _ _ _ _ _ _ (qkv m c) (bias m c) (res t) (blk t 5) 2 ?_ ?_ ?_ ?_ ?_ ?_ x) (out_put m c t 5 2 x y (by omega) (by omega)).symm
    all_goals intro a e
    all_goals try rw [Memref.IsWhole.read_unread]
    · exact q_load m c t 5 2 _ _ rfl a e
    · exact kp_load m c t 5 (by decide) 2 _ _ rfl a e
    · exact k_load m c t 5 2 _ _ rfl a e
    · exact vp_load m c t 5 (by decide) 2 _ _ rfl a e
    · exact v_load m c t 5 2 _ _ rfl a e
    · exact b_load m c t (blk t 5) 2 _ _ (later t 5 (by decide) 2) a e
  case piece42 =>
    refine Eq.trans (out_tile _ _ _ _ _ _ (qkv m c) (bias m c) (res t) (blk t 5) 1 ?_ ?_ ?_ ?_ ?_ ?_ x) (out_put m c t 5 1 x y (by omega) (by omega)).symm
    all_goals intro a e
    all_goals try rw [Memref.IsWhole.read_unread]
    · exact q_load m c t 5 1 _ _ rfl a e
    · exact kp_load m c t 5 (by decide) 1 _ _ rfl a e
    · exact k_load m c t 5 1 _ _ rfl a e
    · exact vp_load m c t 5 (by decide) 1 _ _ rfl a e
    · exact v_load m c t 5 1 _ _ rfl a e
    · exact b_load m c t (blk t 5) 1 _ _ (later t 5 (by decide) 1) a e
  case piece43 =>
    refine Eq.trans (out_tile _ _ _ _ _ _ (qkv m c) (bias m c) (res t) (blk t 5) 0 ?_ ?_ ?_ ?_ ?_ ?_ x) (out_put m c t 5 0 x y (by omega) (by omega)).symm
    all_goals intro a e
    all_goals try rw [Memref.IsWhole.read_unread]
    · exact q_load m c t 5 0 _ _ rfl a e
    · exact kp_load m c t 5 (by decide) 0 _ _ rfl a e
    · exact k_load m c t 5 0 _ _ rfl a e
    · exact vp_load m c t 5 (by decide) 0 _ _ rfl a e
    · exact v_load m c t 5 0 _ _ rfl a e
    · exact b_load m c t (blk t 5) 0 _ _ (later t 5 (by decide) 0) a e
  case piece44 =>
    refine Eq.trans (out_tile _ _ _ _ _ _ (qkv m c) (bias m c) (res t) (blk t 4) 3 ?_ ?_ ?_ ?_ ?_ ?_ x) (out_put m c t 4 3 x y (by omega) (by omega)).symm
    all_goals intro a e
    all_goals try rw [Memref.IsWhole.read_unread]
    · exact q_load m c t 4 3 _ _ rfl a e
    · exact kp_load m c t 4 (by decide) 3 _ _ rfl a e
    · exact k_load m c t 4 3 _ _ rfl a e
    · exact vp_load m c t 4 (by decide) 3 _ _ rfl a e
    · exact v_load m c t 4 3 _ _ rfl a e
    · exact b_load m c t (blk t 4) 3 _ _ (later t 4 (by decide) 3) a e
  case piece45 =>
    refine Eq.trans (out_tile _ _ _ _ _ _ (qkv m c) (bias m c) (res t) (blk t 4) 2 ?_ ?_ ?_ ?_ ?_ ?_ x) (out_put m c t 4 2 x y (by omega) (by omega)).symm
    all_goals intro a e
    all_goals try rw [Memref.IsWhole.read_unread]
    · exact q_load m c t 4 2 _ _ rfl a e
    · exact kp_load m c t 4 (by decide) 2 _ _ rfl a e
    · exact k_load m c t 4 2 _ _ rfl a e
    · exact vp_load m c t 4 (by decide) 2 _ _ rfl a e
    · exact v_load m c t 4 2 _ _ rfl a e
    · exact b_load m c t (blk t 4) 2 _ _ (later t 4 (by decide) 2) a e
  case piece46 =>
    refine Eq.trans (out_tile _ _ _ _ _ _ (qkv m c) (bias m c) (res t) (blk t 4) 1 ?_ ?_ ?_ ?_ ?_ ?_ x) (out_put m c t 4 1 x y (by omega) (by omega)).symm
    all_goals intro a e
    all_goals try rw [Memref.IsWhole.read_unread]
    · exact q_load m c t 4 1 _ _ rfl a e
    · exact kp_load m c t 4 (by decide) 1 _ _ rfl a e
    · exact k_load m c t 4 1 _ _ rfl a e
    · exact vp_load m c t 4 (by decide) 1 _ _ rfl a e
    · exact v_load m c t 4 1 _ _ rfl a e
    · exact b_load m c t (blk t 4) 1 _ _ (later t 4 (by decide) 1) a e
  case piece47 =>
    refine Eq.trans (out_tile _ _ _ _ _ _ (qkv m c) (bias m c) (res t) (blk t 4) 0 ?_ ?_ ?_ ?_ ?_ ?_ x) (out_put m c t 4 0 x y (by omega) (by omega)).symm
    all_goals intro a e
    all_goals try rw [Memref.IsWhole.read_unread]
    · exact q_load m c t 4 0 _ _ rfl a e
    · exact kp_load m c t 4 (by decide) 0 _ _ rfl a e
    · exact k_load m c t 4 0 _ _ rfl a e
    · exact vp_load m c t 4 (by decide) 0 _ _ rfl a e
    · exact v_load m c t 4 0 _ _ rfl a e
    · exact b_load m c t (blk t 4) 0 _ _ (later t 4 (by decide) 0) a e
  case piece48 =>
    refine Eq.trans (out_tile _ _ _ _ _ _ (qkv m c) (bias m c) (res t) (blk t 3) 3 ?_ ?_ ?_ ?_ ?_ ?_ x) (out_put m c t 3 3 x y (by omega) (by omega)).symm
    all_goals intro a e
    all_goals try rw [Memref.IsWhole.read_unread]
    · exact q_load m c t 3 3 _ _ rfl a e
    · exact kp_load m c t 3 (by decide) 3 _ _ rfl a e
    · exact k_load m c t 3 3 _ _ rfl a e
    · exact vp_load m c t 3 (by decide) 3 _ _ rfl a e
    · exact v_load m c t 3 3 _ _ rfl a e
    · exact b_load m c t (blk t 3) 3 _ _ (later t 3 (by decide) 3) a e
  case piece49 =>
    refine Eq.trans (out_tile _ _ _ _ _ _ (qkv m c) (bias m c) (res t) (blk t 3) 2 ?_ ?_ ?_ ?_ ?_ ?_ x) (out_put m c t 3 2 x y (by omega) (by omega)).symm
    all_goals intro a e
    all_goals try rw [Memref.IsWhole.read_unread]
    · exact q_load m c t 3 2 _ _ rfl a e
    · exact kp_load m c t 3 (by decide) 2 _ _ rfl a e
    · exact k_load m c t 3 2 _ _ rfl a e
    · exact vp_load m c t 3 (by decide) 2 _ _ rfl a e
    · exact v_load m c t 3 2 _ _ rfl a e
    · exact b_load m c t (blk t 3) 2 _ _ (later t 3 (by decide) 2) a e
  case piece50 =>
    refine Eq.trans (out_tile _ _ _ _ _ _ (qkv m c) (bias m c) (res t) (blk t 3) 1 ?_ ?_ ?_ ?_ ?_ ?_ x) (out_put m c t 3 1 x y (by omega) (by omega)).symm
    all_goals intro a e
    all_goals try rw [Memref.IsWhole.read_unread]
    · exact q_load m c t 3 1 _ _ rfl a e
    · exact kp_load m c t 3 (by decide) 1 _ _ rfl a e
    · exact k_load m c t 3 1 _ _ rfl a e
    · exact vp_load m c t 3 (by decide) 1 _ _ rfl a e
    · exact v_load m c t 3 1 _ _ rfl a e
    · exact b_load m c t (blk t 3) 1 _ _ (later t 3 (by decide) 1) a e
  case piece51 =>
    refine Eq.trans (out_tile _ _ _ _ _ _ (qkv m c) (bias m c) (res t) (blk t 3) 0 ?_ ?_ ?_ ?_ ?_ ?_ x) (out_put m c t 3 0 x y (by omega) (by omega)).symm
    all_goals intro a e
    all_goals try rw [Memref.IsWhole.read_unread]
    · exact q_load m c t 3 0 _ _ rfl a e
    · exact kp_load m c t 3 (by decide) 0 _ _ rfl a e
    · exact k_load m c t 3 0 _ _ rfl a e
    · exact vp_load m c t 3 (by decide) 0 _ _ rfl a e
    · exact v_load m c t 3 0 _ _ rfl a e
    · exact b_load m c t (blk t 3) 0 _ _ (later t 3 (by decide) 0) a e
  case piece52 =>
    refine Eq.trans (out_tile _ _ _ _ _ _ (qkv m c) (bias m c) (res t) (blk t 2) 3 ?_ ?_ ?_ ?_ ?_ ?_ x) (out_put m c t 2 3 x y (by omega) (by omega)).symm
    all_goals intro a e
    all_goals try rw [Memref.IsWhole.read_unread]
    · exact q_load m c t 2 3 _ _ rfl a e
    · exact kp_load m c t 2 (by decide) 3 _ _ rfl a e
    · exact k_load m c t 2 3 _ _ rfl a e
    · exact vp_load m c t 2 (by decide) 3 _ _ rfl a e
    · exact v_load m c t 2 3 _ _ rfl a e
    · exact b_load m c t (blk t 2) 3 _ _ (later t 2 (by decide) 3) a e
  case piece53 =>
    refine Eq.trans (out_tile _ _ _ _ _ _ (qkv m c) (bias m c) (res t) (blk t 2) 2 ?_ ?_ ?_ ?_ ?_ ?_ x) (out_put m c t 2 2 x y (by omega) (by omega)).symm
    all_goals intro a e
    all_goals try rw [Memref.IsWhole.read_unread]
    · exact q_load m c t 2 2 _ _ rfl a e
    · exact kp_load m c t 2 (by decide) 2 _ _ rfl a e
    · exact k_load m c t 2 2 _ _ rfl a e
    · exact vp_load m c t 2 (by decide) 2 _ _ rfl a e
    · exact v_load m c t 2 2 _ _ rfl a e
    · exact b_load m c t (blk t 2) 2 _ _ (later t 2 (by decide) 2) a e
  case piece54 =>
    refine Eq.trans (out_tile _ _ _ _ _ _ (qkv m c) (bias m c) (res t) (blk t 2) 1 ?_ ?_ ?_ ?_ ?_ ?_ x) (out_put m c t 2 1 x y (by omega) (by omega)).symm
    all_goals intro a e
    all_goals try rw [Memref.IsWhole.read_unread]
    · exact q_load m c t 2 1 _ _ rfl a e
    · exact kp_load m c t 2 (by decide) 1 _ _ rfl a e
    · exact k_load m c t 2 1 _ _ rfl a e
    · exact vp_load m c t 2 (by decide) 1 _ _ rfl a e
    · exact v_load m c t 2 1 _ _ rfl a e
    · exact b_load m c t (blk t 2) 1 _ _ (later t 2 (by decide) 1) a e
  case piece55 =>
    refine Eq.trans (out_tile _ _ _ _ _ _ (qkv m c) (bias m c) (res t) (blk t 2) 0 ?_ ?_ ?_ ?_ ?_ ?_ x) (out_put m c t 2 0 x y (by omega) (by omega)).symm
    all_goals intro a e
    all_goals try rw [Memref.IsWhole.read_unread]
    · exact q_load m c t 2 0 _ _ rfl a e
    · exact kp_load m c t 2 (by decide) 0 _ _ rfl a e
    · exact k_load m c t 2 0 _ _ rfl a e
    · exact vp_load m c t 2 (by decide) 0 _ _ rfl a e
    · exact v_load m c t 2 0 _ _ rfl a e
    · exact b_load m c t (blk t 2) 0 _ _ (later t 2 (by decide) 0) a e
  case piece56 =>
    refine Eq.trans (out_tile _ _ _ _ _ _ (qkv m c) (bias m c) (res t) (blk t 1) 3 ?_ ?_ ?_ ?_ ?_ ?_ x) (out_put m c t 1 3 x y (by omega) (by omega)).symm
    all_goals intro a e
    all_goals try rw [Memref.IsWhole.read_unread]
    · exact q_load m c t 1 3 _ _ rfl a e
    · exact kp_load m c t 1 (by decide) 3 _ _ rfl a e
    · exact k_load m c t 1 3 _ _ rfl a e
    · exact vp_load m c t 1 (by decide) 3 _ _ rfl a e
    · exact v_load m c t 1 3 _ _ rfl a e
    · exact b_load m c t (blk t 1) 3 _ _ (later t 1 (by decide) 3) a e
  case piece57 =>
    refine Eq.trans (out_tile _ _ _ _ _ _ (qkv m c) (bias m c) (res t) (blk t 1) 2 ?_ ?_ ?_ ?_ ?_ ?_ x) (out_put m c t 1 2 x y (by omega) (by omega)).symm
    all_goals intro a e
    all_goals try rw [Memref.IsWhole.read_unread]
    · exact q_load m c t 1 2 _ _ rfl a e
    · exact kp_load m c t 1 (by decide) 2 _ _ rfl a e
    · exact k_load m c t 1 2 _ _ rfl a e
    · exact vp_load m c t 1 (by decide) 2 _ _ rfl a e
    · exact v_load m c t 1 2 _ _ rfl a e
    · exact b_load m c t (blk t 1) 2 _ _ (later t 1 (by decide) 2) a e
  case piece58 =>
    refine Eq.trans (out_tile _ _ _ _ _ _ (qkv m c) (bias m c) (res t) (blk t 1) 1 ?_ ?_ ?_ ?_ ?_ ?_ x) (out_put m c t 1 1 x y (by omega) (by omega)).symm
    all_goals intro a e
    all_goals try rw [Memref.IsWhole.read_unread]
    · exact q_load m c t 1 1 _ _ rfl a e
    · exact kp_load m c t 1 (by decide) 1 _ _ rfl a e
    · exact k_load m c t 1 1 _ _ rfl a e
    · exact vp_load m c t 1 (by decide) 1 _ _ rfl a e
    · exact v_load m c t 1 1 _ _ rfl a e
    · exact b_load m c t (blk t 1) 1 _ _ (later t 1 (by decide) 1) a e
  case piece59 =>
    refine Eq.trans (out_tile _ _ _ _ _ _ (qkv m c) (bias m c) (res t) (blk t 1) 0 ?_ ?_ ?_ ?_ ?_ ?_ x) (out_put m c t 1 0 x y (by omega) (by omega)).symm
    all_goals intro a e
    all_goals try rw [Memref.IsWhole.read_unread]
    · exact q_load m c t 1 0 _ _ rfl a e
    · exact kp_load m c t 1 (by decide) 0 _ _ rfl a e
    · exact k_load m c t 1 0 _ _ rfl a e
    · exact vp_load m c t 1 (by decide) 0 _ _ rfl a e
    · exact v_load m c t 1 0 _ _ rfl a e
    · exact b_load m c t (blk t 1) 0 _ _ (later t 1 (by decide) 0) a e
  case piece60 =>
    refine Eq.trans (out_tile _ _ _ _ _ _ (qkv m c) (bias m c) (res t) (blk t 0) 3 ?_ ?_ ?_ ?_ ?_ ?_ x) (out_put m c t 0 3 x y (by omega) (by omega)).symm
    all_goals intro a e
    all_goals try rw [Memref.IsWhole.read_unread]
    · exact q_load m c t 0 3 _ _ rfl a e
    · exact kp_load0 m c t 3 _ _ rfl a e
    · exact k_load m c t 0 3 _ _ rfl a e
    · exact vp_load0 m c t 3 _ _ rfl a e
    · exact v_load m c t 0 3 _ _ rfl a e
    · exact b_load m c t (blk t 0) 3 _ _ (idx t).2.2.2.2.2.2.2.2.2.2.2 a e
  case piece61 =>
    refine Eq.trans (out_tile _ _ _ _ _ _ (qkv m c) (bias m c) (res t) (blk t 0) 2 ?_ ?_ ?_ ?_ ?_ ?_ x) (out_put m c t 0 2 x y (by omega) (by omega)).symm
    all_goals intro a e
    all_goals try rw [Memref.IsWhole.read_unread]
    · exact q_load m c t 0 2 _ _ rfl a e
    · exact kp_load0 m c t 2 _ _ rfl a e
    · exact k_load m c t 0 2 _ _ rfl a e
    · exact vp_load0 m c t 2 _ _ rfl a e
    · exact v_load m c t 0 2 _ _ rfl a e
    · exact b_load m c t (blk t 0) 2 _ _ (idx t).2.2.2.2.2.2.2.2.2.2.1 a e
  case piece62 =>
    refine Eq.trans (out_tile _ _ _ _ _ _ (qkv m c) (bias m c) (res t) (blk t 0) 1 ?_ ?_ ?_ ?_ ?_ ?_ x) (out_put m c t 0 1 x y (by omega) (by omega)).symm
    all_goals intro a e
    all_goals try rw [Memref.IsWhole.read_unread]
    · exact q_load m c t 0 1 _ _ rfl a e
    · exact kp_load0 m c t 1 _ _ rfl a e
    · exact k_load m c t 0 1 _ _ rfl a e
    · exact vp_load0 m c t 1 _ _ rfl a e
    · exact v_load m c t 0 1 _ _ rfl a e
    · exact b_load m c t (blk t 0) 1 _ _ (idx t).2.2.2.2.2.2.2.2.2.1 a e
  case piece63 =>
    refine Eq.trans (out_tile _ _ _ _ _ _ (qkv m c) (bias m c) (res t) (blk t 0) 0 ?_ ?_ ?_ ?_ ?_ ?_ x) (out_put m c t 0 0 x y (by omega) (by omega)).symm
    all_goals intro a e
    all_goals try rw [Memref.IsWhole.read_unread]
    · exact q_load m c t 0 0 _ _ rfl a e
    · exact kp_load0 m c t 0 _ _ rfl a e
    · exact k_load m c t 0 0 _ _ rfl a e
    · exact vp_load0 m c t 0 _ _ rfl a e
    · exact v_load m c t 0 0 _ _ rfl a e
    · exact b_load m c t (blk t 0) 0 _ _ (idx t).2.2.2.2.2.2.2.2.1 a e

end Cert.Dil1Ideal.AttValue
end
-- ==== Proof.Dil1Lse.lean ====
module

public import proofs.«01_k».proof.Proof.Dil1Kernel
public import Idealize.ShloMosaic.Lib.Pipeline.ValueKit
public import Idealize.ShloMosaic.Lib.Pointwise

@[expose] public section

/-!
# The dilated attention's log-sum-exps, tile by tile
-/

set_option maxRecDepth 16384

noncomputable section

open Idealize.ShloMosaic Idealize.ShloMosaic.TcCoe Idealize.SL.Sem
open Idealize.ShloMosaic.Pipeline (Dat)

namespace Cert.Dil1Ideal.AttValue

open Cert.Dil1Ideal Cert.Dil1Ideal.Gen
open Cert.DilIdeal.AttValue (top mass attend lse2 col sum_halves)

variable (m : (ℓ : Loc nD τ sig) → Buf (Elt Ideal) ℓ)

set_option maxHeartbeats 2000000 in
/-- The second result array after the run. -/
theorem arr7 (c : Dev nD) : (dats m 0 c).arrAt 7 cfg0.N = lse m c := by
  refine (dats m 0 c).arrAt_eq_of_covers 7 _ (by decide +kernel) fun t hf y => ?_
  blk_simp
  rw [after0_7]
  unfold outsAt0
  dsimp only
  frame_out
  canon_tiles x h
  case piece0 =>
    refine Eq.trans (lse_tile _ _ _ _ (qkv m c) (bias m c) (res t) (blk t 15) 3 ?_ ?_ ?_ ?_ x) (lse_put m c t 15 3 x y (by omega) (by omega)).symm
    all_goals intro a e
    all_goals try rw [Memref.IsWhole.read_unread]
    · exact q_load m c t 15 3 _ _ rfl a e
    · exact kp_load m c t 15 (by decide) 3 _ _ rfl a e
    · exact k_load m c t 15 3 _ _ rfl a e
    · exact b_load m c t (blk t 15) 3 _ _ (later t 15 (by decide) 3) a e
  case piece1 =>
    refine Eq.trans (lse_tile _ _ _ _ (qkv m c) (bias m c) (res t) (blk t 15) 2 ?_ ?_ ?_ ?_ x) (lse_put m c t 15 2 x y (by omega) (by omega)).symm
    all_goals intro a e
    all_goals try rw [Memref.IsWhole.read_unread]
    · exact q_load m c t 15 2 _ _ rfl a e
    · exact kp_load m c t 15 (by decide) 2 _ _ rfl a e
    · exact k_load m c t 15 2 _ _ rfl a e
    · exact b_load m c t (blk t 15) 2 _ _ (later t 15 (by decide) 2) a e
  case piece2 =>
    refine Eq.trans (lse_tile _ _ _ _ (qkv m c) (bias m c) (res t) (blk t 15) 1 ?_ ?_ ?_ ?_ x) (lse_put m c t 15 1 x y (by omega) (by omega)).symm
    all_goals intro a e
    all_goals try rw [Memref.IsWhole.read_unread]
    · exact q_load m c t 15 1 _ _ rfl a e
    · exact kp_load m c t 15 (by decide) 1 _ _ rfl a e
    · exact k_load m c t 15 1 _ _ rfl a e
    · exact b_load m c t (blk t 15) 1 _ _ (later t 15 (by decide) 1) a e
  case piece3 =>
    refine Eq.trans (lse_tile _ _ _ _ (qkv m c) (bias m c) (res t) (blk t 15) 0 ?_ ?_ ?_ ?_ x) (lse_put m c t 15 0 x y (by omega) (by omega)).symm
    all_goals intro a e
    all_goals try rw [Memref.IsWhole.read_unread]
    · exact q_load m c t 15 0 _ _ rfl a e
    · exact kp_load m c t 15 (by decide) 0 _ _ rfl a e
    · exact k_load m c t 15 0 _ _ rfl a e
    · exact b_load m c t (blk t 15) 0 _ _ (later t 15 (by decide) 0) a e
  case piece4 =>
    refine Eq.trans (lse_tile _ _ _ _ (qkv m c) (bias m c) (res t) (blk t 14) 3 ?_ ?_ ?_ ?_ x) (lse_put m c t 14 3 x y (by omega) (by omega)).symm
    all_goals intro a e
    all_goals try rw [Memref.IsWhole.read_unread]
    · exact q_load m c t 14 3 _ _ rfl a e
    · exact kp_load m c t 14 (by decide) 3 _ _ rfl a e
    · exact k_load m c t 14 3 _ _ rfl a e
    · exact b_load m c t (blk t 14) 3 _ _ (later t 14 (by decide) 3) a e
  case piece5 =>
    refine Eq.trans (lse_tile _ _ _ _ (qkv m c) (bias m c) (res t) (blk t 14) 2 ?_ ?_ ?_ ?_ x) (lse_put m c t 14 2 x y (by omega) (by omega)).symm
    all_goals intro a e
    all_goals try rw [Memref.IsWhole.read_unread]
    · exact q_load m c t 14 2 _ _ rfl a e
    · exact kp_load m c t 14 (by decide) 2 _ _ rfl a e
    · exact k_load m c t 14 2 _ _ rfl a e
    · exact b_load m c t (blk t 14) 2 _ _ (later t 14 (by decide) 2) a e
  case piece6 =>
    refine Eq.trans (lse_tile _ _ _ _ (qkv m c) (bias m c) (res t) (blk t 14) 1 ?_ ?_ ?_ ?_ x) (lse_put m c t 14 1 x y (by omega) (by omega)).symm
    all_goals intro a e
    all_goals try rw [Memref.IsWhole.read_unread]
    · exact q_load m c t 14 1 _ _ rfl a e
    · exact kp_load m c t 14 (by decide) 1 _ _ rfl a e
    · exact k_load m c t 14 1 _ _ rfl a e
    · exact b_load m c t (blk t 14) 1 _ _ (later t 14 (by decide) 1) a e
  case piece7 =>
    refine Eq.trans (lse_tile _ _ _ _ (qkv m c) (bias m c) (res t) (blk t 14) 0 ?_ ?_ ?_ ?_ x) (lse_put m c t 14 0 x y (by omega) (by omega)).symm
    all_goals intro a e
    all_goals try rw [Memref.IsWhole.read_unread]
    · exact q_load m c t 14 0 _ _ rfl a e
    · exact kp_load m c t 14 (by decide) 0 _ _ rfl a e
    · exact k_load m c t 14 0 _ _ rfl a e
    · exact b_load m c t (blk t 14) 0 _ _ (later t 14 (by decide) 0) a e
  case piece8 =>
    refine Eq.trans (lse_tile _ _ _ _ (qkv m c) (bias m c) (res t) (blk t 13) 3 ?_ ?_ ?_ ?_ x) (lse_put m c t 13 3 x y (by omega) (by omega)).symm
    all_goals intro a e
    all_goals try rw [Memref.IsWhole.read_unread]
    · exact q_load m c t 13 3 _ _ rfl a e
    · exact kp_load m c t 13 (by decide) 3 _ _ rfl a e
    · exact k_load m c t 13 3 _ _ rfl a e
    · exact b_load m c t (blk t 13) 3 _ _ (later t 13 (by decide) 3) a e
  case piece9 =>
    refine Eq.trans (lse_tile _ _ _ _ (qkv m c) (bias m c) (res t) (blk t 13) 2 ?_ ?_ ?_ ?_ x) (lse_put m c t 13 2 x y (by omega) (by omega)).symm
    all_goals intro a e
    all_goals try rw [Memref.IsWhole.read_unread]
    · exact q_load m c t 13 2 _ _ rfl a e
    · exact kp_load m c t 13 (by decide) 2 _ _ rfl a e
    · exact k_load m c t 13 2 _ _ rfl a e
    · exact b_load m c t (blk t 13) 2 _ _ (later t 13 (by decide) 2) a e
  case piece10 =>
    refine Eq.trans (lse_tile _ _ _ _ (qkv m c) (bias m c) (res t) (blk t 13) 1 ?_ ?_ ?_ ?_ x) (lse_put m c t 13 1 x y (by omega) (by omega)).symm
    all_goals intro a e
    all_goals try rw [Memref.IsWhole.read_unread]
    · exact q_load m c t 13 1 _ _ rfl a e
    · exact kp_load m c t 13 (by decide) 1 _ _ rfl a e
    · exact k_load m c t 13 1 _ _ rfl a e
    · exact b_load m c t (blk t 13) 1 _ _ (later t 13 (by decide) 1) a e
  case piece11 =>
    refine Eq.trans (lse_tile _ _ _ _ (qkv m c) (bias m c) (res t) (blk t 13) 0 ?_ ?_ ?_ ?_ x) (lse_put m c t 13 0 x y (by omega) (by omega)).symm
    all_goals intro a e
    all_goals try rw [Memref.IsWhole.read_unread]
    · exact q_load m c t 13 0 _ _ rfl a e
    · exact kp_load m c t 13 (by decide) 0 _ _ rfl a e
    · exact k_load m c t 13 0 _ _ rfl a e
    · exact b_load m c t (blk t 13) 0 _ _ (later t 13 (by decide) 0) a e
  case piece12 =>
    refine Eq.trans (lse_tile _ _ _ _ (qkv m c) (bias m c) (res t) (blk t 12) 3 ?_ ?_ ?_ ?_ x) (lse_put m c t 12 3 x y (by omega) (by omega)).symm
    all_goals intro a e
    all_goals try rw [Memref.IsWhole.read_unread]
    · exact q_load m c t 12 3 _ _ rfl a e
    · exact kp_load m c t 12 (by decide) 3 _ _ rfl a e
    · exact k_load m c t 12 3 _ _ rfl a e
    · exact b_load m c t (blk t 12) 3 _ _ (later t 12 (by decide) 3) a e
  case piece13 =>
    refine Eq.trans (lse_tile _ _ _ _ (qkv m c) (bias m c) (res t) (blk t 12) 2 ?_ ?_ ?_ ?_ x) (lse_put m c t 12 2 x y (by omega) (by omega)).symm
    all_goals intro a e
    all_goals try rw [Memref.IsWhole.read_unread]
    · exact q_load m c t 12 2 _ _ rfl a e
    · exact kp_load m c t 12 (by decide) 2 _ _ rfl a e
    · exact k_load m c t 12 2 _ _ rfl a e
    · exact b_load m c t (blk t 12) 2 _ _ (later t 12 (by decide) 2) a e
  case piece14 =>
    refine Eq.trans (lse_tile _ _ _ _ (qkv m c) (bias m c) (res t) (blk t 12) 1 ?_ ?_ ?_ ?_ x) (lse_put m c t 12 1 x y (by omega) (by omega)).symm
    all_goals intro a e
    all_goals try rw [Memref.IsWhole.read_unread]
    · exact q_load m c t 12 1 _ _ rfl a e
    · exact kp_load m c t 12 (by decide) 1 _ _ rfl a e
    · exact k_load m c t 12 1 _ _ rfl a e
    · exact b_load m c t (blk t 12) 1 _ _ (later t 12 (by decide) 1) a e
  case piece15 =>
    refine Eq.trans (lse_tile _ _ _ _ (qkv m c) (bias m c) (res t) (blk t 12) 0 ?_ ?_ ?_ ?_ x) (lse_put m c t 12 0 x y (by omega) (by omega)).symm
    all_goals intro a e
    all_goals try rw [Memref.IsWhole.read_unread]
    · exact q_load m c t 12 0 _ _ rfl a e
    · exact kp_load m c t 12 (by decide) 0 _ _ rfl a e
    · exact k_load m c t 12 0 _ _ rfl a e
    · exact b_load m c t (blk t 12) 0 _ _ (later t 12 (by decide) 0) a e
  case piece16 =>
    refine Eq.trans (lse_tile _ _ _ _ (qkv m c) (bias m c) (res t) (blk t 11) 3 ?_ ?_ ?_ ?_ x) (lse_put m c t 11 3 x y (by omega) (by omega)).symm
    all_goals intro a e
    all_goals try rw [Memref.IsWhole.read_unread]
    · exact q_load m c t 11 3 _ _ rfl a e
    · exact kp_load m c t 11 (by decide) 3 _ _ rfl a e
    · exact k_load m c t 11 3 _ _ rfl a e
    · exact b_load m c t (blk t 11) 3 _ _ (later t 11 (by decide) 3) a e
  case piece17 =>
    refine Eq.trans (lse_tile _ _ _ _ (qkv m c) (bias m c) (res t) (blk t 11) 2 ?_ ?_ ?_ ?_ x) (lse_put m c t 11 2 x y (by omega) (by omega)).symm
    all_goals intro a e
    all_goals try rw [Memref.IsWhole.read_unread]
    · exact q_load m c t 11 2 _ _ rfl a e
    · exact kp_load m c t 11 (by decide) 2 _ _ rfl a e
    · exact k_load m c t 11 2 _ _ rfl a e
    · exact b_load m c t (blk t 11) 2 _ _ (later t 11 (by decide) 2) a e
  case piece18 =>
    refine Eq.trans (lse_tile _ _ _ _ (qkv m c) (bias m c) (res t) (blk t 11) 1 ?_ ?_ ?_ ?_ x) (lse_put m c t 11 1 x y (by omega) (by omega)).symm
    all_goals intro a e
    all_goals try rw [Memref.IsWhole.read_unread]
    · exact q_load m c t 11 1 _ _ rfl a e
    · exact kp_load m c t 11 (by decide) 1 _ _ rfl a e
    · exact k_load m c t 11 1 _ _ rfl a e
    · exact b_load m c t (blk t 11) 1 _ _ (later t 11 (by decide) 1) a e
  case piece19 =>
    refine Eq.trans (lse_tile _ _ _ _ (qkv m c) (bias m c) (res t) (blk t 11) 0 ?_ ?_ ?_ ?_ x) (lse_put m c t 11 0 x y (by omega) (by omega)).symm
    all_goals intro a e
    all_goals try rw [Memref.IsWhole.read_unread]
    · exact q_load m c t 11 0 _ _ rfl a e
    · exact kp_load m c t 11 (by decide) 0 _ _ rfl a e
    · exact k_load m c t 11 0 _ _ rfl a e
    · exact b_load m c t (blk t 11) 0 _ _ (later t 11 (by decide) 0) a e
  case piece20 =>
    refine Eq.trans (lse_tile _ _ _ _ (qkv m c) (bias m c) (res t) (blk t 10) 3 ?_ ?_ ?_ ?_ x) (lse_put m c t 10 3 x y (by omega) (by omega)).symm
    all_goals intro a e
    all_goals try rw [Memref.IsWhole.read_unread]
    · exact q_load m c t 10 3 _ _ rfl a e
    · exact kp_load m c t 10 (by decide) 3 _ _ rfl a e
    · exact k_load m c t 10 3 _ _ rfl a e
    · exact b_load m c t (blk t 10) 3 _ _ (later t 10 (by decide) 3) a e
  case piece21 =>
    refine Eq.trans (lse_tile _ _ _ _ (qkv m c) (bias m c) (res t) (blk t 10) 2 ?_ ?_ ?_ ?_ x) (lse_put m c t 10 2 x y (by omega) (by omega)).symm
    all_goals intro a e
    all_goals try rw [Memref.IsWhole.read_unread]
    · exact q_load m c t 10 2 _ _ rfl a e
    · exact kp_load m c t 10 (by decide) 2 _ _ rfl a e
    · exact k_load m c t 10 2 _ _ rfl a e
    · exact b_load m c t (blk t 10) 2 _ _ (later t 10 (by decide) 2) a e
  case piece22 =>
    refine Eq.trans (lse_tile _ _ _ _ (qkv m c) (bias m c) (res t) (blk t 10) 1 ?_ ?_ ?_ ?_ x) (lse_put m c t 10 1 x y (by omega) (by omega)).symm
    all_goals intro a e
    all_goals try rw [Memref.IsWhole.read_unread]
    · exact q_load m c t 10 1 _ _ rfl a e
    · exact kp_load m c t 10 (by decide) 1 _ _ rfl a e
    · exact k_load m c t 10 1 _ _ rfl a e
    · exact b_load m c t (blk t 10) 1 _ _ (later t 10 (by decide) 1) a e
  case piece23 =>
    refine Eq.trans (lse_tile _ _ _ _ (qkv m c) (bias m c) (res t) (blk t 10) 0 ?_ ?_ ?_ ?_ x) (lse_put m c t 10 0 x y (by omega) (by omega)).symm
    all_goals intro a e
    all_goals try rw [Memref.IsWhole.read_unread]
    · exact q_load m c t 10 0 _ _ rfl a e
    · exact kp_load m c t 10 (by decide) 0 _ _ rfl a e
    · exact k_load m c t 10 0 _ _ rfl a e
    · exact b_load m c t (blk t 10) 0 _ _ (later t 10 (by decide) 0) a e
  case piece24 =>
    refine Eq.trans (lse_tile _ _ _ _ (qkv m c) (bias m c) (res t) (blk t 9) 3 ?_ ?_ ?_ ?_ x) (lse_put m c t 9 3 x y (by omega) (by omega)).symm
    all_goals intro a e
    all_goals try rw [Memref.IsWhole.read_unread]
    · exact q_load m c t 9 3 _ _ rfl a e
    · exact kp_load m c t 9 (by decide) 3 _ _ rfl a e
    · exact k_load m c t 9 3 _ _ rfl a e
    · exact b_load m c t (blk t 9) 3 _ _ (later t 9 (by decide) 3) a e
  case piece25 =>
    refine Eq.trans (lse_tile _ _ _ _ (qkv m c) (bias m c) (res t) (blk t 9) 2 ?_ ?_ ?_ ?_ x) (lse_put m c t 9 2 x y (by omega) (by omega)).symm
    all_goals intro a e
    all_goals try rw [Memref.IsWhole.read_unread]
    · exact q_load m c t 9 2 _ _ rfl a e
    · exact kp_load m c t 9 (by decide) 2 _ _ rfl a e
    · exact k_load m c t 9 2 _ _ rfl a e
    · exact b_load m c t (blk t 9) 2 _ _ (later t 9 (by decide) 2) a e
  case piece26 =>
    refine Eq.trans (lse_tile _ _ _ _ (qkv m c) (bias m c) (res t) (blk t 9) 1 ?_ ?_ ?_ ?_ x) (lse_put m c t 9 1 x y (by omega) (by omega)).symm
    all_goals intro a e
    all_goals try rw [Memref.IsWhole.read_unread]
    · exact q_load m c t 9 1 _ _ rfl a e
    · exact kp_load m c t 9 (by decide) 1 _ _ rfl a e
    · exact k_load m c t 9 1 _ _ rfl a e
    · exact b_load m c t (blk t 9) 1 _ _ (later t 9 (by decide) 1) a e
  case piece27 =>
    refine Eq.trans (lse_tile _ _ _ _ (qkv m c) (bias m c) (res t) (blk t 9) 0 ?_ ?_ ?_ ?_ x) (lse_put m c t 9 0 x y (by omega) (by omega)).symm
    all_goals intro a e
    all_goals try rw [Memref.IsWhole.read_unread]
    · exact q_load m c t 9 0 _ _ rfl a e
    · exact kp_load m c t 9 (by decide) 0 _ _ rfl a e
    · exact k_load m c t 9 0 _ _ rfl a e
    · exact b_load m c t (blk t 9) 0 _ _ (later t 9 (by decide) 0) a e
  case piece28 =>
    refine Eq.trans (lse_tile _ _ _ _ (qkv m c) (bias m c) (res t) (blk t 8) 3 ?_ ?_ ?_ ?_ x) (lse_put m c t 8 3 x y (by omega) (by omega)).symm
    all_goals intro a e
    all_goals try rw [Memref.IsWhole.read_unread]
    · exact q_load m c t 8 3 _ _ rfl a e
    · exact kp_load m c t 8 (by decide) 3 _ _ rfl a e
    · exact k_load m c t 8 3 _ _ rfl a e
    · exact b_load m c t (blk t 8) 3 _ _ (later t 8 (by decide) 3) a e
  case piece29 =>
    refine Eq.trans (lse_tile _ _ _ _ (qkv m c) (bias m c) (res t) (blk t 8) 2 ?_ ?_ ?_ ?_ x) (lse_put m c t 8 2 x y (by omega) (by omega)).symm
    all_goals intro a e
    all_goals try rw [Memref.IsWhole.read_unread]
    · exact q_load m c t 8 2 _ _ rfl a e
    · exact kp_load m c t 8 (by decide) 2 _ _ rfl a e
    · exact k_load m c t 8 2 _ _ rfl a e
    · exact b_load m c t (blk t 8) 2 _ _ (later t 8 (by decide) 2) a e
  case piece30 =>
    refine Eq.trans (lse_tile _ _ _ _ (qkv m c) (bias m c) (res t) (blk t 8) 1 ?_ ?_ ?_ ?_ x) (lse_put m c t 8 1 x y (by omega) (by omega)).symm
    all_goals intro a e
    all_goals try rw [Memref.IsWhole.read_unread]
    · exact q_load m c t 8 1 _ _ rfl a e
    · exact kp_load m c t 8 (by decide) 1 _ _ rfl a e
    · exact k_load m c t 8 1 _ _ rfl a e
    · exact b_load m c t (blk t 8) 1 _ _ (later t 8 (by decide) 1) a e
  case piece31 =>
    refine Eq.trans (lse_tile _ _ _ _ (qkv m c) (bias m c) (res t) (blk t 8) 0 ?_ ?_ ?_ ?_ x) (lse_put m c t 8 0 x y (by omega) (by omega)).symm
    all_goals intro a e
    all_goals try rw [Memref.IsWhole.read_unread]
    · exact q_load m c t 8 0 _ _ rfl a e
    · exact kp_load m c t 8 (by decide) 0 _ _ rfl a e
    · exact k_load m c t 8 0 _ _ rfl a e
    · exact b_load m c t (blk t 8) 0 _ _ (later t 8 (by decide) 0) a e
  case piece32 =>
    refine Eq.trans (lse_tile _ _ _ _ (qkv m c) (bias m c) (res t) (blk t 7) 3 ?_ ?_ ?_ ?_ x) (lse_put m c t 7 3 x y (by omega) (by omega)).symm
    all_goals intro a e
    all_goals try rw [Memref.IsWhole.read_unread]
    · exact q_load m c t 7 3 _ _ rfl a e
    · exact kp_load m c t 7 (by decide) 3 _ _ rfl a e
    · exact k_load m c t 7 3 _ _ rfl a e
    · exact b_load m c t (blk t 7) 3 _ _ (later t 7 (by decide) 3) a e
  case piece33 =>
    refine Eq.trans (lse_tile _ _ _ _ (qkv m c) (bias m c) (res t) (blk t 7) 2 ?_ ?_ ?_ ?_ x) (lse_put m c t 7 2 x y (by omega) (by omega)).symm
    all_goals intro a e
    all_goals try rw [Memref.IsWhole.read_unread]
    · exact q_load m c t 7 2 _ _ rfl a e
    · exact kp_load m c t 7 (by decide) 2 _ _ rfl a e
    · exact k_load m c t 7 2 _ _ rfl a e
    · exact b_load m c t (blk t 7) 2 _ _ (later t 7 (by decide) 2) a e
  case piece34 =>
    refine Eq.trans (lse_tile _ _ _ _ (qkv m c) (bias m c) (res t) (blk t 7) 1 ?_ ?_ ?_ ?_ x) (lse_put m c t 7 1 x y (by omega) (by omega)).symm
    all_goals intro a e
    all_goals try rw [Memref.IsWhole.read_unread]
    · exact q_load m c t 7 1 _ _ rfl a e
    · exact kp_load m c t 7 (by decide) 1 _ _ rfl a e
    · exact k_load m c t 7 1 _ _ rfl a e
    · exact b_load m c t (blk t 7) 1 _ _ (later t 7 (by decide) 1) a e
  case piece35 =>
    refine Eq.trans (lse_tile _ _ _ _ (qkv m c) (bias m c) (res t) (blk t 7) 0 ?_ ?_ ?_ ?_ x) (lse_put m c t 7 0 x y (by omega) (by omega)).symm
    all_goals intro a e
    all_goals try rw [Memref.IsWhole.read_unread]
    · exact q_load m c t 7 0 _ _ rfl a e
    · exact kp_load m c t 7 (by decide) 0 _ _ rfl a e
    · exact k_load m c t 7 0 _ _ rfl a e
    · exact b_load m c t (blk t 7) 0 _ _ (later t 7 (by decide) 0) a e
  case piece36 =>
    refine Eq.trans (lse_tile _ _ _ _ (qkv m c) (bias m c) (res t) (blk t 6) 3 ?_ ?_ ?_ ?_ x) (lse_put m c t 6 3 x y (by omega) (by omega)).symm
    all_goals intro a e
    all_goals try rw [Memref.IsWhole.read_unread]
    · exact q_load m c t 6 3 _ _ rfl a e
    · exact kp_load m c t 6 (by decide) 3 _ _ rfl a e
    · exact k_load m c t 6 3 _ _ rfl a e
    · exact b_load m c t (blk t 6) 3 _ _ (later t 6 (by decide) 3) a e
  case piece37 =>
    refine Eq.trans (lse_tile _ _ _ _ (qkv m c) (bias m c) (res t) (blk t 6) 2 ?_ ?_ ?_ ?_ x) (lse_put m c t 6 2 x y (by omega) (by omega)).symm
    all_goals intro a e
    all_goals try rw [Memref.IsWhole.read_unread]
    · exact q_load m c t 6 2 _ _ rfl a e
    · exact kp_load m c t 6 (by decide) 2 _ _ rfl a e
    · exact k_load m c t 6 2 _ _ rfl a e
    · exact b_load m c t (blk t 6) 2 _ _ (later t 6 (by decide) 2) a e
  case piece38 =>
    refine Eq.trans (lse_tile _ _ _ _ (qkv m c) (bias m c) (res t) (blk t 6) 1 ?_ ?_ ?_ ?_ x) (lse_put m c t 6 1 x y (by omega) (by omega)).symm
    all_goals intro a e
    all_goals try rw [Memref.IsWhole.read_unread]
    · exact q_load m c t 6 1 _ _ rfl a e
    · exact kp_load m c t 6 (by decide) 1 _ _ rfl a e
    · exact k_load m c t 6 1 _ _ rfl a e
    · exact b_load m c t (blk t 6) 1 _ _ (later t 6 (by decide) 1) a e
  case piece39 =>
    refine Eq.trans (lse_tile _ _ _ _ (qkv m c) (bias m c) (res t) (blk t 6) 0 ?_ ?_ ?_ ?_ x) (lse_put m c t 6 0 x y (by omega) (by omega)).symm
    all_goals intro a e
    all_goals try rw [Memref.IsWhole.read_unread]
    · exact q_load m c t 6 0 _ _ rfl a e
    · exact kp_load m c t 6 (by decide) 0 _ _ rfl a e
    · exact k_load m c t 6 0 _ _ rfl a e
    · exact b_load m c t (blk t 6) 0 _ _ (later t 6 (by decide) 0) a e
  case piece40 =>
    refine Eq.trans (lse_tile _ _ _ _ (qkv m c) (bias m c) (res t) (blk t 5) 3 ?_ ?_ ?_ ?_ x) (lse_put m c t 5 3 x y (by omega) (by omega)).symm
    all_goals intro a e
    all_goals try rw [Memref.IsWhole.read_unread]
    · exact q_load m c t 5 3 _ _ rfl a e
    · exact kp_load m c t 5 (by decide) 3 _ _ rfl a e
    · exact k_load m c t 5 3 _ _ rfl a e
    · exact b_load m c t (blk t 5) 3 _ _ (later t 5 (by decide) 3) a e
  case piece41 =>
    refine Eq.trans (lse_tile _ _ _ _ (qkv m c) (bias m c) (res t) (blk t 5) 2 ?_ ?_ ?_ ?_ x) (lse_put m c t 5 2 x y (by omega) (by omega)).symm
    all_goals intro a e
    all_goals try rw [Memref.IsWhole.read_unread]
    · exact q_load m c t 5 2 _ _ rfl a e
    · exact kp_load m c t 5 (by decide) 2 _ _ rfl a e
    · exact k_load m c t 5 2 _ _ rfl a e
    · exact b_load m c t (blk t 5) 2 _ _ (later t 5 (by decide) 2) a e
  case piece42 =>
    refine Eq.trans (lse_tile _ _ _ _ (qkv m c) (bias m c) (res t) (blk t 5) 1 ?_ ?_ ?_ ?_ x) (lse_put m c t 5 1 x y (by omega) (by omega)).symm
    all_goals intro a e
    all_goals try rw [Memref.IsWhole.read_unread]
    · exact q_load m c t 5 1 _ _ rfl a e
    · exact kp_load m c t 5 (by decide) 1 _ _ rfl a e
    · exact k_load m c t 5 1 _ _ rfl a e
    · exact b_load m c t (blk t 5) 1 _ _ (later t 5 (by decide) 1) a e
  case piece43 =>
    refine Eq.trans (lse_tile _ _ _ _ (qkv m c) (bias m c) (res t) (blk t 5) 0 ?_ ?_ ?_ ?_ x) (lse_put m c t 5 0 x y (by omega) (by omega)).symm
    all_goals intro a e
    all_goals try rw [Memref.IsWhole.read_unread]
    · exact q_load m c t 5 0 _ _ rfl a e
    · exact kp_load m c t 5 (by decide) 0 _ _ rfl a e
    · exact k_load m c t 5 0 _ _ rfl a e
    · exact b_load m c t (blk t 5) 0 _ _ (later t 5 (by decide) 0) a e
  case piece44 =>
    refine Eq.trans (lse_tile _ _ _ _ (qkv m c) (bias m c) (res t) (blk t 4) 3 ?_ ?_ ?_ ?_ x) (lse_put m c t 4 3 x y (by omega) (by omega)).symm
    all_goals intro a e
    all_goals try rw [Memref.IsWhole.read_unread]
    · exact q_load m c t 4 3 _ _ rfl a e
    · exact kp_load m c t 4 (by decide) 3 _ _ rfl a e
    · exact k_load m c t 4 3 _ _ rfl a e
    · exact b_load m c t (blk t 4) 3 _ _ (later t 4 (by decide) 3) a e
  case piece45 =>
    refine Eq.trans (lse_tile _ _ _ _ (qkv m c) (bias m c) (res t) (blk t 4) 2 ?_ ?_ ?_ ?_ x) (lse_put m c t 4 2 x y (by omega) (by omega)).symm
    all_goals intro a e
    all_goals try rw [Memref.IsWhole.read_unread]
    · exact q_load m c t 4 2 _ _ rfl a e
    · exact kp_load m c t 4 (by decide) 2 _ _ rfl a e
    · exact k_load m c t 4 2 _ _ rfl a e
    · exact b_load m c t (blk t 4) 2 _ _ (later t 4 (by decide) 2) a e
  case piece46 =>
    refine Eq.trans (lse_tile _ _ _ _ (qkv m c) (bias m c) (res t) (blk t 4) 1 ?_ ?_ ?_ ?_ x) (lse_put m c t 4 1 x y (by omega) (by omega)).symm
    all_goals intro a e
    all_goals try rw [Memref.IsWhole.read_unread]
    · exact q_load m c t 4 1 _ _ rfl a e
    · exact kp_load m c t 4 (by decide) 1 _ _ rfl a e
    · exact k_load m c t 4 1 _ _ rfl a e
    · exact b_load m c t (blk t 4) 1 _ _ (later t 4 (by decide) 1) a e
  case piece47 =>
    refine Eq.trans (lse_tile _ _ _ _ (qkv m c) (bias m c) (res t) (blk t 4) 0 ?_ ?_ ?_ ?_ x) (lse_put m c t 4 0 x y (by omega) (by omega)).symm
    all_goals intro a e
    all_goals try rw [Memref.IsWhole.read_unread]
    · exact q_load m c t 4 0 _ _ rfl a e
    · exact kp_load m c t 4 (by decide) 0 _ _ rfl a e
    · exact k_load m c t 4 0 _ _ rfl a e
    · exact b_load m c t (blk t 4) 0 _ _ (later t 4 (by decide) 0) a e
  case piece48 =>
    refine Eq.trans (lse_tile _ _ _ _ (qkv m c) (bias m c) (res t) (blk t 3) 3 ?_ ?_ ?_ ?_ x) (lse_put m c t 3 3 x y (by omega) (by omega)).symm
    all_goals intro a e
    all_goals try rw [Memref.IsWhole.read_unread]
    · exact q_load m c t 3 3 _ _ rfl a e
    · exact kp_load m c t 3 (by decide) 3 _ _ rfl a e
    · exact k_load m c t 3 3 _ _ rfl a e
    · exact b_load m c t (blk t 3) 3 _ _ (later t 3 (by decide) 3) a e
  case piece49 =>
    refine Eq.trans (lse_tile _ _ _ _ (qkv m c) (bias m c) (res t) (blk t 3) 2 ?_ ?_ ?_ ?_ x) (lse_put m c t 3 2 x y (by omega) (by omega)).symm
    all_goals intro a e
    all_goals try rw [Memref.IsWhole.read_unread]
    · exact q_load m c t 3 2 _ _ rfl a e
    · exact kp_load m c t 3 (by decide) 2 _ _ rfl a e
    · exact k_load m c t 3 2 _ _ rfl a e
    · exact b_load m c t (blk t 3) 2 _ _ (later t 3 (by decide) 2) a e
  case piece50 =>
    refine Eq.trans (lse_tile _ _ _ _ (qkv m c) (bias m c) (res t) (blk t 3) 1 ?_ ?_ ?_ ?_ x) (lse_put m c t 3 1 x y (by omega) (by omega)).symm
    all_goals intro a e
    all_goals try rw [Memref.IsWhole.read_unread]
    · exact q_load m c t 3 1 _ _ rfl a e
    · exact kp_load m c t 3 (by decide) 1 _ _ rfl a e
    · exact k_load m c t 3 1 _ _ rfl a e
    · exact b_load m c t (blk t 3) 1 _ _ (later t 3 (by decide) 1) a e
  case piece51 =>
    refine Eq.trans (lse_tile _ _ _ _ (qkv m c) (bias m c) (res t) (blk t 3) 0 ?_ ?_ ?_ ?_ x) (lse_put m c t 3 0 x y (by omega) (by omega)).symm
    all_goals intro a e
    all_goals try rw [Memref.IsWhole.read_unread]
    · exact q_load m c t 3 0 _ _ rfl a e
    · exact kp_load m c t 3 (by decide) 0 _ _ rfl a e
    · exact k_load m c t 3 0 _ _ rfl a e
    · exact b_load m c t (blk t 3) 0 _ _ (later t 3 (by decide) 0) a e
  case piece52 =>
    refine Eq.trans (lse_tile _ _ _ _ (qkv m c) (bias m c) (res t) (blk t 2) 3 ?_ ?_ ?_ ?_ x) (lse_put m c t 2 3 x y (by omega) (by omega)).symm
    all_goals intro a e
    all_goals try rw [Memref.IsWhole.read_unread]
    · exact q_load m c t 2 3 _ _ rfl a e
    · exact kp_load m c t 2 (by decide) 3 _ _ rfl a e
    · exact k_load m c t 2 3 _ _ rfl a e
    · exact b_load m c t (blk t 2) 3 _ _ (later t 2 (by decide) 3) a e
  case piece53 =>
    refine Eq.trans (lse_tile _ _ _ _ (qkv m c) (bias m c) (res t) (blk t 2) 2 ?_ ?_ ?_ ?_ x) (lse_put m c t 2 2 x y (by omega) (by omega)).symm
    all_goals intro a e
    all_goals try rw [Memref.IsWhole.read_unread]
    · exact q_load m c t 2 2 _ _ rfl a e
    · exact kp_load m c t 2 (by decide) 2 _ _ rfl a e
    · exact k_load m c t 2 2 _ _ rfl a e
    · exact b_load m c t (blk t 2) 2 _ _ (later t 2 (by decide) 2) a e
  case piece54 =>
    refine Eq.trans (lse_tile _ _ _ _ (qkv m c) (bias m c) (res t) (blk t 2) 1 ?_ ?_ ?_ ?_ x) (lse_put m c t 2 1 x y (by omega) (by omega)).symm
    all_goals intro a e
    all_goals try rw [Memref.IsWhole.read_unread]
    · exact q_load m c t 2 1 _ _ rfl a e
    · exact kp_load m c t 2 (by decide) 1 _ _ rfl a e
    · exact k_load m c t 2 1 _ _ rfl a e
    · exact b_load m c t (blk t 2) 1 _ _ (later t 2 (by decide) 1) a e
  case piece55 =>
    refine Eq.trans (lse_tile _ _ _ _ (qkv m c) (bias m c) (res t) (blk t 2) 0 ?_ ?_ ?_ ?_ x) (lse_put m c t 2 0 x y (by omega) (by omega)).symm
    all_goals intro a e
    all_goals try rw [Memref.IsWhole.read_unread]
    · exact q_load m c t 2 0 _ _ rfl a e
    · exact kp_load m c t 2 (by decide) 0 _ _ rfl a e
    · exact k_load m c t 2 0 _ _ rfl a e
    · exact b_load m c t (blk t 2) 0 _ _ (later t 2 (by decide) 0) a e
  case piece56 =>
    refine Eq.trans (lse_tile _ _ _ _ (qkv m c) (bias m c) (res t) (blk t 1) 3 ?_ ?_ ?_ ?_ x) (lse_put m c t 1 3 x y (by omega) (by omega)).symm
    all_goals intro a e
    all_goals try rw [Memref.IsWhole.read_unread]
    · exact q_load m c t 1 3 _ _ rfl a e
    · exact kp_load m c t 1 (by decide) 3 _ _ rfl a e
    · exact k_load m c t 1 3 _ _ rfl a e
    · exact b_load m c t (blk t 1) 3 _ _ (later t 1 (by decide) 3) a e
  case piece57 =>
    refine Eq.trans (lse_tile _ _ _ _ (qkv m c) (bias m c) (res t) (blk t 1) 2 ?_ ?_ ?_ ?_ x) (lse_put m c t 1 2 x y (by omega) (by omega)).symm
    all_goals intro a e
    all_goals try rw [Memref.IsWhole.read_unread]
    · exact q_load m c t 1 2 _ _ rfl a e
    · exact kp_load m c t 1 (by decide) 2 _ _ rfl a e
    · exact k_load m c t 1 2 _ _ rfl a e
    · exact b_load m c t (blk t 1) 2 _ _ (later t 1 (by decide) 2) a e
  case piece58 =>
    refine Eq.trans (lse_tile _ _ _ _ (qkv m c) (bias m c) (res t) (blk t 1) 1 ?_ ?_ ?_ ?_ x) (lse_put m c t 1 1 x y (by omega) (by omega)).symm
    all_goals intro a e
    all_goals try rw [Memref.IsWhole.read_unread]
    · exact q_load m c t 1 1 _ _ rfl a e
    · exact kp_load m c t 1 (by decide) 1 _ _ rfl a e
    · exact k_load m c t 1 1 _ _ rfl a e
    · exact b_load m c t (blk t 1) 1 _ _ (later t 1 (by decide) 1) a e
  case piece59 =>
    refine Eq.trans (lse_tile _ _ _ _ (qkv m c) (bias m c) (res t) (blk t 1) 0 ?_ ?_ ?_ ?_ x) (lse_put m c t 1 0 x y (by omega) (by omega)).symm
    all_goals intro a e
    all_goals try rw [Memref.IsWhole.read_unread]
    · exact q_load m c t 1 0 _ _ rfl a e
    · exact kp_load m c t 1 (by decide) 0 _ _ rfl a e
    · exact k_load m c t 1 0 _ _ rfl a e
    · exact b_load m c t (blk t 1) 0 _ _ (later t 1 (by decide) 0) a e
  case piece60 =>
    refine Eq.trans (lse_tile _ _ _ _ (qkv m c) (bias m c) (res t) (blk t 0) 3 ?_ ?_ ?_ ?_ x) (lse_put m c t 0 3 x y (by omega) (by omega)).symm
    all_goals intro a e
    all_goals try rw [Memref.IsWhole.read_unread]
    · exact q_load m c t 0 3 _ _ rfl a e
    · exact kp_load0 m c t 3 _ _ rfl a e
    · exact k_load m c t 0 3 _ _ rfl a e
    · exact b_load m c t (blk t 0) 3 _ _ (idx t).2.2.2.2.2.2.2.2.2.2.2 a e
  case piece61 =>
    refine Eq.trans (lse_tile _ _ _ _ (qkv m c) (bias m c) (res t) (blk t 0) 2 ?_ ?_ ?_ ?_ x) (lse_put m c t 0 2 x y (by omega) (by omega)).symm
    all_goals intro a e
    all_goals try rw [Memref.IsWhole.read_unread]
    · exact q_load m c t 0 2 _ _ rfl a e
    · exact kp_load0 m c t 2 _ _ rfl a e
    · exact k_load m c t 0 2 _ _ rfl a e
    · exact b_load m c t (blk t 0) 2 _ _ (idx t).2.2.2.2.2.2.2.2.2.2.1 a e
  case piece62 =>
    refine Eq.trans (lse_tile _ _ _ _ (qkv m c) (bias m c) (res t) (blk t 0) 1 ?_ ?_ ?_ ?_ x) (lse_put m c t 0 1 x y (by omega) (by omega)).symm
    all_goals intro a e
    all_goals try rw [Memref.IsWhole.read_unread]
    · exact q_load m c t 0 1 _ _ rfl a e
    · exact kp_load0 m c t 1 _ _ rfl a e
    · exact k_load m c t 0 1 _ _ rfl a e
    · exact b_load m c t (blk t 0) 1 _ _ (idx t).2.2.2.2.2.2.2.2.2.1 a e
  case piece63 =>
    refine Eq.trans (lse_tile _ _ _ _ (qkv m c) (bias m c) (res t) (blk t 0) 0 ?_ ?_ ?_ ?_ x) (lse_put m c t 0 0 x y (by omega) (by omega)).symm
    all_goals intro a e
    all_goals try rw [Memref.IsWhole.read_unread]
    · exact q_load m c t 0 0 _ _ rfl a e
    · exact kp_load0 m c t 0 _ _ rfl a e
    · exact k_load m c t 0 0 _ _ rfl a e
    · exact b_load m c t (blk t 0) 0 _ _ (idx t).2.2.2.2.2.2.2.2.1 a e

end Cert.Dil1Ideal.AttValue
end
-- ==== Proof.Dil1Bias.lean ====
module

public import proofs.«01_k».proof.Proof.Dil1Kernel
public import proofs.«01_k».proof.Proof.DilBias
public import Idealize.ShloMosaic.Lib.Claim
public import Idealize.ShloMosaic.Lib.Tactic.CleanTypes
public import Idealize.ShloMosaic.Lib.StableHlo.ReadAt

@[expose] public section

/-!
# The bias table that the kernel's host code prepares

A bias is a head's slope times the distance to the key, less than nothing where the query does not see the key.
-/

set_option maxRecDepth 16384
noncomputable section

open Idealize.ShloMosaic Idealize.ShloMosaic.TcCoe Idealize.SL.Sem

namespace Cert.Dil1Ideal.AttValue
open Cert.Dil1Ideal Cert.Dil1Ideal.Gen
open Cert.DilIdeal.AttValue (stepWord)

/-- The distance from query `a` to key `j`, in positions of the whole sequence. -/
def gap (a : Fin 128) (j : Fin 256) : EReal := FloatOps.sitofp (F := Ideal) .f32 (IntOp.muli (stepWord a j) 1#32)

/-- The slope of head `h`. -/
def slope (h : Fin 4) : EReal :=
  Ideal.exp (Ideal.ofBits .f32 1060205080#32 * Ideal.div (Ideal.ofBits .f32 3238002688#32
    * (FloatOps.sitofp (F := Ideal) .f32 (BitVec.ofNat 32 (h.val)) + 1)) (Ideal.ofBits .f32 1101004800#32))

/-- Whether query `a` of block `b` sees key `j`. -/
def seen (b : Fin 64) (a : Fin 128) (j : Fin 256) : BitVec 1 :=
  IntOp.andi (IntOp.andi (IntOp.cmpi CmpIPredicate.sge (stepWord a j) 0#32) (IntOp.cmpi CmpIPredicate.sle (stepWord a j) 128#32))
    (IntOp.cmpi CmpIPredicate.sge
      (IntOp.addi (IntOp.subi (IntOp.muli (BitVec.ofNat 32 b.val) 128#32) 128#32) (BitVec.ofNat 32 j.val)) 0#32)

/-- The key that is the query itself is seen. -/
theorem seen_self : ∀ (b : Fin 64) (a : Fin 128), seen b a ⟨128 + a.val, by omega⟩ = 1#1 := by
  decide +kernel

/-- The first block's queries see no key before the start. -/
theorem not_seen : ∀ (a : Fin 128) (j : Fin 128), seen 0 a ⟨j.val, by omega⟩ = 0#1 := by
  decide +kernel

/-- The bias table of a block hides the keys before the start exactly as the reference's test does. -/
theorem start_word : ∀ (b : Fin 64) (j : Fin 256),
    (if (tab b).val < 1 then 1#1 else IntOp.cmpi CmpIPredicate.sge (BitVec.ofNat 32 j.val) 128#32)
      = IntOp.cmpi CmpIPredicate.sge
          (IntOp.addi (IntOp.subi (IntOp.muli (BitVec.ofNat 32 b.val) 128#32) 128#32) (BitVec.ofNat 32 j.val)) 0#32 := by
  decide +kernel

set_option maxHeartbeats 4000000 in
/-- The bias a block adds, at an index. -/
theorem bias_at (m : (ℓ : Loc nD τ sig) → Buf (Elt Ideal) ℓ) (c : Dev nD) (b : Fin 64) (h : Fin 4) (a : Fin 128) (j : Fin 256) :
    bias m c (ix4 (tab b) h a j) = Scalar.select (seen b a j)
      (-Ideal.div (slope h) (Ideal.log (Ideal.ofBits .f32 1073741824#32)) * gap a j) (Ideal.ofBits .f32 4286578688#32) := by
  unfold seen
  rw [← start_word b j]
  unfold bias V
  simp only [hostOps0, hostOps0_1, List.flatten_cons, List.flatten_nil, List.cons_append, List.nil_append, List.append_nil]
  after_reads_at
  after_reads_at
  rfl

end Cert.Dil1Ideal.AttValue
end
-- ==== Proof.Dil1Ref.lean ====
module

public import proofs.«01_k».proof.Proof.Dil1Bias
public import proofs.«01_k».proof.Proof.Gen.Dil1RefIdeal.Run
public import Idealize.ShloMosaic.Lib.Claim
public import Idealize.ShloMosaic.Lib.Pointwise
public import Idealize.ShloMosaic.Lib.Tactic.CleanTypes

@[expose] public section

/-!
# The reference's block attention, read entry by entry

The reference computes its logits once and uses them four times. Each stage gets a name here; the two results are
these stages by definition, and each stage is read at an index from the stage before it.
-/

set_option maxRecDepth 16384
noncomputable section

open Idealize.ShloMosaic Idealize.ShloMosaic.TcCoe Idealize.SL.Sem

namespace Cert.Dil1RefIdeal.AttValue
open Cert.Dil1RefIdeal Cert.Dil1RefIdeal.Gen

/-- The argument in its natural order: `[3, 1, 8192, 4, 128]`. -/
def nat (X : FVec Ideal S3x1x8192x512 .bf16) : FVec Ideal S3x1x8192x4x128 .f32 :=
  shapeCast _ (transpose S3x8192x1x4x128 [0, 2, 1, 3, 4]
    (shapeCast _ (extf .f32 X bitsLt_bf16_f32) shapeCasts_S3x1x8192x512_S3x1x8192x4x128)
    transposes_S3x1x8192x4x128_S3x8192x1x4x128_0_2_1_3_4) shapeCasts_S3x8192x1x4x128_S3x1x8192x4x128

/-- One of queries, keys, values as dilated subsequences in blocks of 128. -/
def sub (y : FVec Ideal S1x1x8192x4x128 .f32) : FVec Ideal S1x64x128x4x128 .f32 :=
  shapeCast _ (transpose S1x1x8192x4x128 [0, 2, 1, 3, 4]
    (shapeCast _ (shapeCast _ y shapeCasts_S1x1x8192x4x128_S1x8192x4x128) shapeCasts_S1x8192x4x128_S1x8192x1x4x128)
    transposes_S1x8192x1x4x128_S1x1x8192x4x128_0_2_1_3_4) shapeCasts_S1x1x8192x4x128_S1x64x128x4x128

/-- Each block with the block before it in front (zeros before the first). -/
def withPrev (y : FVec Ideal S1x64x128x4x128 .f32) : FVec Ideal S1x64x256x4x128 .f32 :=
  concatenate S1x64x256x4x128 2
    [⟨S1x64x128x4x128, extractStridedSlice S1x64x128x4x128 ![0, 0, 0, 0, 0]
      (pad S1x65x128x4x128 ![0, 1, 0, 0, 0] ![0, 0, 0, 0, 0] ![0, 0, 0, 0, 0] y (sitofp .f32 (constantI S_ 32 0#32))
        pads_S1x64x128x4x128_S1x65x128x4x128_000_100_000_000_000 h_S_) slices_S1x65x128x4x128_S1x64x128x4x128_0_0_0_0_0⟩,
     ⟨S1x64x128x4x128, y⟩] concatenates_S1x64x128x4x128_S1x64x128x4x128_S1x64x256x4x128_d2

/-- The queries. -/
def qs (X : FVec Ideal S3x1x8192x512 .bf16) := sub (extractStridedSlice S1x1x8192x4x128 ![0, 0, 0, 0, 0] (nat X) slices_S3x1x8192x4x128_S1x1x8192x4x128_0_0_0_0_0)
/-- The keys a block sees. -/
def ks (X : FVec Ideal S3x1x8192x512 .bf16) := withPrev (sub (extractStridedSlice S1x1x8192x4x128 ![1, 0, 0, 0, 0] (nat X) slices_S3x1x8192x4x128_S1x1x8192x4x128_1_0_0_0_0))
/-- The values a block sees. -/
def vs (X : FVec Ideal S3x1x8192x512 .bf16) := withPrev (sub (extractStridedSlice S1x1x8192x4x128 ![2, 0, 0, 0, 0] (nat X) slices_S3x1x8192x4x128_S1x1x8192x4x128_2_0_0_0_0))

/-- How many steps of the subsequence a key lies behind its query. -/
def steps : IVec S128x256 32 :=
  subi (broadcastInDim S128x256 ![0, 1] bcast_S128x1_S128x256_0_1
      (addi (broadcastInDim S128x1 ![] bcast_S_S128x1 (constantI S_ 32 128#32)) (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

/-- The slopes of the four heads. -/
def slopes : FVec Ideal S4 .f32 :=
  extractStridedSlice S4 ![0] (Host.exp (mulf (broadcastInDim S20 ![] bcast_S_S20 (constant S_ .f32 0x3F317218#32))
    (Host.divf (mulf (broadcastInDim S20 ![] bcast_S_S20 (constant S_ .f32 0xC1000000#32))
        (addf (broadcastInDim S20 ![] bcast_S_S20 (constant S_ .f32 0x3F800000#32)) (sitofp .f32 (iotaInDim S20 32 0))))
      (broadcastInDim S20 ![] bcast_S_S20 (constant S_ .f32 0x41A00000#32))))) slices_S20_S4_0

/-- Which keys a query sees. -/
def keep : IVec S64x128x256 1 :=
  andi (broadcastInDim S64x128x256 ![0, 1, 2] bcast_S1x128x256_S64x128x256_0_1_2 (broadcastInDim S1x128x256 ![1, 2] bcast_S128x256_S1x128x256_1_2
      (andi (cmpi .sge steps (broadcastInDim S128x256 ![] bcast_S_S128x256 (constantI S_ 32 0#32)))
        (cmpi .sle steps (broadcastInDim S128x256 ![] bcast_S_S128x256 (constantI S_ 32 128#32))))))
    (broadcastInDim S64x128x256 ![0, 1, 2] bcast_S64x1x256_S64x128x256_0_1_2 (broadcastInDim S64x1x256 ![0, 2] bcast_S64x256_S64x1x256_0_2
      (cmpi .sge (addi (broadcastInDim S64x256 ![0, 1] bcast_S64x1_S64x256_0_1
          (subi (muli (broadcastInDim S64x1 ![0] bcast_S64_S64x1_0 (iotaInDim S64 32 0)) (broadcastInDim S64x1 ![] bcast_S_S64x1 (constantI S_ 32 128#32)))
            (broadcastInDim S64x1 ![] bcast_S_S64x1 (constantI S_ 32 128#32))))
          (broadcastInDim S64x256 ![0, 1] bcast_S1x256_S64x256_0_1 (broadcastInDim S1x256 ![1] bcast_S256_S1x256_1 (iotaInDim S256 32 0))))
        (broadcastInDim S64x256 ![] bcast_S_S64x256 (constantI S_ 32 0#32)))))

/-- The masked logits `[r, h, b, a, j]` from the queries and the keys. -/
def logitsOf (Q : FVec Ideal S1x64x128x4x128 .f32) (K : FVec Ideal S1x64x256x4x128 .f32) : FVec Ideal S1x4x64x128x256 .f32 :=
  select (broadcastInDim S1x4x64x128x256 ![0, 1, 2, 3, 4] bcast_S1x1x64x128x256_S1x4x64x128x256_0_1_2_3_4
      (broadcastInDim S1x1x64x128x256 ![2, 3, 4] bcast_S64x128x256_S1x1x64x128x256_2_3_4 keep))
    (subf (mulf (Host.dotGeneral dot_S1x64x128x4x128_S1x64x256x4x128_S1x4x64x128x256_4_4_2_2_031_031 none Q K)
        (broadcastInDim S1x4x64x128x256 ![] bcast_S_S1x4x64x128x256 (Host.log (constant S_ .f32 0x40000000#32))))
      (broadcastInDim S1x4x64x128x256 ![0, 1, 2, 3, 4] bcast_S1x4x1x128x256_S1x4x64x128x256_0_1_2_3_4
        (mulf (broadcastInDim S1x4x1x128x256 ![0, 1, 2, 3, 4] bcast_S1x4x1x1x1_S1x4x1x128x256_0_1_2_3_4
            (broadcastInDim S1x4x1x1x1 ![1] bcast_S4_S1x4x1x1x1_1 slopes))
          (broadcastInDim S1x4x1x128x256 ![0, 1, 2, 3, 4] bcast_S1x1x1x128x256_S1x4x1x128x256_0_1_2_3_4
            (broadcastInDim S1x1x1x128x256 ![3, 4] bcast_S128x256_S1x1x1x128x256_3_4
              (sitofp .f32 (muli steps (broadcastInDim S128x256 ![] bcast_S_S128x256 (constantI S_ 32 1#32)))))))))
    (broadcastInDim S1x4x64x128x256 ![] bcast_S_S1x4x64x128x256 (id (constant S_ .f32 0xFF800000#32)))

/-- The masked logits. -/
def logits (X : FVec Ideal S3x1x8192x512 .bf16) : FVec Ideal S1x4x64x128x256 .f32 := logitsOf (qs X) (ks X)

/-- A value per query repeated over the keys. -/
def perQuery (y : FVec Ideal S1x4x64x128 .f32) : FVec Ideal S1x4x64x128x256 .f32 :=
  broadcastInDim S1x4x64x128x256 ![0, 1, 2, 3, 4] bcast_S1x4x64x128x1_S1x4x64x128x256_0_1_2_3_4
    (broadcastInDim S1x4x64x128x1 ![0, 1, 2, 3] bcast_S1x4x64x128_S1x4x64x128x1_0_1_2_3 y)

/-- The largest logit of each query. -/
def best (L : FVec Ideal S1x4x64x128x256 .f32) : FVec Ideal S1x4x64x128 .f32 :=
  Host.reduce FloatOps.maximumf L (constant S_ .f32 0xFF800000#32) reducesTo_S1x4x64x128x256_S1x4x64x128_d4 h_S_

/-- The sum over the keys. -/
def total (L : FVec Ideal S1x4x64x128x256 .f32) : FVec Ideal S1x4x64x128 .f32 :=
  Host.reduceAdd L (constant S_ .f32 0x00000000#32) reducesTo_S1x4x64x128x256_S1x4x64x128_d4 h_S_

/-- The logarithm of each query's sum of exponentials. -/
def logSum (L : FVec Ideal S1x4x64x128x256 .f32) : FVec Ideal S1x4x64x128 .f32 :=
  addf (best L) (Host.log (total (Host.exp (subf L (perQuery (best L))))))

/-- The first result from the logits and the values. -/
def outOf (L : FVec Ideal S1x4x64x128x256 .f32) (v : FVec Ideal S1x64x256x4x128 .f32) : FVec Ideal S1x8192x512 .f32 :=
  shapeCast _ (transpose S1x64x128x4x128 [0, 1, 4, 2, 3]
    (Host.dotGeneral dot_S1x64x256x4x128_S1x4x64x128x256_S1x64x4x128x128_2_4_4_3_013_021 none v
      (Host.exp (subf L (perQuery (logSum L)))))
    transposes_S1x64x4x128x128_S1x64x128x4x128_0_1_4_2_3) shapeCasts_S1x64x128x4x128_S1x8192x512

/-- The second result from the logits. -/
def lseOf (L : FVec Ideal S1x4x64x128x256 .f32) : FVec Ideal S1x8192x512 .f32 :=
  shapeCast _ (broadcastInDim S1x8192x4x128 ![0, 1, 2, 3] bcast_S1x8192x4x1_S1x8192x4x128_0_1_2_3
    (broadcastInDim S1x8192x4x1 ![0, 1, 2] bcast_S1x8192x4_S1x8192x4x1_0_1_2
      (Host.divf (shapeCast _ (transpose S1x64x128x4 [0, 2, 3, 1] (logSum L) transposes_S1x4x64x128_S1x64x128x4_0_2_3_1)
          shapeCasts_S1x64x128x4_S1x8192x4)
        (broadcastInDim S1x8192x4 ![] bcast_S_S1x8192x4 (Host.log (constant S_ .f32 0x40000000#32))))))
    shapeCasts_S1x8192x4x128_S1x8192x512

/-- The first result is its stages. -/
theorem out_stages (m : (ℓ : Loc nD τ sig) → Buf (Elt Ideal) ℓ) (c : Dev nD) :
    Value.res_out0 m c = outOf (logits (m ((c.tc : Thread nD τ).loc main_arg0))) (vs (m ((c.tc : Thread nD τ).loc main_arg0))) := rfl

/-- The second result is its stages. -/
theorem lse_stages (m : (ℓ : Loc nD τ sig) → Buf (Elt Ideal) ℓ) (c : Dev nD) :
    Value.res_out1 m c = lseOf (logits (m ((c.tc : Thread nD τ).loc main_arg0))) := rfl

open Cert.Dil1Ideal.AttValue (row prevRow keyRow keyRow_lo keyRow_hi gap slope seen not_seen)
open Cert.DilIdeal.AttValue (col stepWord)

/-- The natural order read back at a step of a subsequence. -/
theorem nat_at (X : FVec Ideal S3x1x8192x512 .bf16) (w : Fin 3) (r : Fin 1) (n : Fin 8192) (k : Fin 8192) (h : Fin 4) (e : Fin 128)
    (hk : k.val = n.val * 1 + r.val) : nat X (ix5 w 0 k h e) = X (ix4 w r n (col h e)) := by
  unfold nat
  pointwise
  exact congrArg₂ (fun x y => X (ix4 w x y (col h e))) (Fin.ext (by show 0 = r.val; omega))
    (Fin.ext (by show k.val = n.val; omega))

/-- A blocked subsequence at an index. -/
theorem sub_at (y : FVec Ideal S1x1x8192x4x128 .f32) (r : Fin 1) (b : Fin 64) (a : Fin 128) (h : Fin 4) (e : Fin 128) (k : Fin 8192)
    (hk : k.val = (b.val * 128 + a.val) * 1 + r.val) : sub y (ix5 r b a h e) = y (ix5 0 0 k h e) := by
  unfold sub
  pointwise
  exact congrArg (fun x => y (ix5 0 0 x h e)) (Fin.ext (by show b.val * 128 + a.val = k.val; omega))

/-- A block with its predecessor at an index. -/
theorem withPrev_at (y : FVec Ideal S1x64x128x4x128 .f32) (r : Fin 1) (b : Fin 64) (j : Fin 256) (h : Fin 4) (e : Fin 128) :
    withPrev y (ix5 r b j h e) = if h1 : j.val < 128 then
        if h2 : 1 ≤ b.val then y (ix5 r ⟨b.val - 1, by omega⟩ ⟨j.val, h1⟩ h e) else FloatOps.sitofp (F := Ideal) .f32 0#32
      else y (ix5 r b ⟨j.val - 128, by omega⟩ h e) := by
  obtain rfl : r = 0 := Subsingleton.elim _ _
  unfold withPrev
  pointwise
  by_cases h1 : j.val < 128
  · rw [dif_pos h1, dif_pos h1]
    by_cases h2 : 1 ≤ b.val
    · rw [dif_pos ⟨⟨h2, by omega⟩, h1⟩, dif_pos h2]
    · rw [dif_neg (fun t => h2 t.1.1), dif_neg h2]
  · rw [dif_neg h1, dif_neg h1]

/-- A query at an index. -/
theorem qs_at (X : FVec Ideal S3x1x8192x512 .bf16) (r : Fin 1) (b : Fin 64) (a : Fin 128) (h : Fin 4) (e : Fin 128) :
    qs X (ix5 r b a h e) = X (ix4 0 r (row b a) (col h e)) := by
  unfold qs
  rw [sub_at _ r b a h e ⟨(b.val * 128 + a.val) * 1 + r.val, by omega⟩ rfl]
  pointwise
  exact nat_at X 0 r (row b a) _ h e (by show b.val * 128 + a.val = (b.val * 128 + a.val) * 1 + r.val; omega)

/-- Keys or values `w` that a block reads: at a key it has, the argument's row. -/
theorem keys_at (X : FVec Ideal S3x1x8192x512 .bf16) (w : Fin 3) (y : FVec Ideal S1x1x8192x4x128 .f32)
    (hy : ∀ k h e, y (ix5 0 0 k h e) = nat X (ix5 w 0 k h e)) (r : Fin 1) (b : Fin 64) (j : Fin 256) (h : Fin 4) (e : Fin 128)
    (hj : 1 ≤ b.val ∨ 128 ≤ j.val) :
    withPrev (sub y) (ix5 r b j h e) = X (ix4 w r (keyRow b j) (col h e)) := by
  rw [withPrev_at]
  by_cases h1 : j.val < 128
  · have h2 : 1 ≤ b.val := by omega
    rw [dif_pos h1, dif_pos h2, sub_at _ r ⟨b.val - 1, by omega⟩ ⟨j.val, h1⟩ h e
      ⟨((b.val - 1) * 128 + j.val) * 1 + r.val, by omega⟩ rfl, hy, nat_at X w r (keyRow b j) _ h e]
    rw [show keyRow b j = prevRow b ⟨j.val, h1⟩ from dif_pos h1]
    rfl
  · rw [dif_neg h1, sub_at _ r b ⟨j.val - 128, by omega⟩ h e ⟨(b.val * 128 + (j.val - 128)) * 1 + r.val, by omega⟩ rfl, hy,
      nat_at X w r (keyRow b j) _ h e]
    rw [show keyRow b j = row b ⟨j.val - 128, by omega⟩ from dif_neg h1]
    rfl

/-- A key at an index. -/
theorem ks_at (X : FVec Ideal S3x1x8192x512 .bf16) (r : Fin 1) (b : Fin 64) (j : Fin 256) (h : Fin 4) (e : Fin 128)
    (hj : 1 ≤ b.val ∨ 128 ≤ j.val) : ks X (ix5 r b j h e) = X (ix4 1 r (keyRow b j) (col h e)) :=
  keys_at X 1 _ (fun k h e => by pointwise) r b j h e hj

/-- A value at an index. -/
theorem vs_at (X : FVec Ideal S3x1x8192x512 .bf16) (r : Fin 1) (b : Fin 64) (j : Fin 256) (h : Fin 4) (e : Fin 128)
    (hj : 1 ≤ b.val ∨ 128 ≤ j.val) : vs X (ix5 r b j h e) = X (ix4 2 r (keyRow b j) (col h e)) :=
  keys_at X 2 _ (fun k h e => by pointwise) r b j h e hj

/-- A key that is seen is one the block has. -/
theorem has_of_seen {b : Fin 64} {a : Fin 128} {j : Fin 256} (hs : seen b a j = 1#1) : 1 ≤ b.val ∨ 128 ≤ j.val := by
  by_contra hn
  obtain ⟨h0, h1⟩ := not_or.1 hn
  have hb : b = 0 := Fin.ext (by show b.val = 0; omega)
  subst hb
  rw [not_seen a ⟨j.val, by omega⟩] at hs
  exact absurd hs (by decide)

end Cert.Dil1RefIdeal.AttValue
end
-- ==== Proof.Dil1RefAt.lean ====
module

public import proofs.«01_k».proof.Proof.Dil1Ref
public import proofs.«01_k».proof.Proof.DilRefAt
public import proofs.«01_k».proof.Proof.Gen.Dil1RefIdeal.Run
public import Idealize.ShloMosaic.Lib.Claim
public import Idealize.ShloMosaic.Lib.Pointwise
public import Idealize.ShloMosaic.Lib.Tactic.CleanTypes

@[expose] public section

set_option maxRecDepth 16384
noncomputable section

open Idealize.ShloMosaic Idealize.ShloMosaic.TcCoe Idealize.SL.Sem

namespace Cert.Dil1RefIdeal.AttValue
open Cert.Dil1RefIdeal Cert.Dil1RefIdeal.Gen

open Cert.Dil1Ideal.AttValue (row prevRow keyRow keyRow_lo keyRow_hi gap slope seen not_seen)
open Cert.DilIdeal.AttValue (col stepWord)

/-- The logits of one query. -/
def logit (X : S3x1x8192x512.Idx → EReal) (r : Fin 1) (b : Fin 64) (h : Fin 4) (a : Fin 128) (j : Fin 256) : EReal :=
  Scalar.select (seen b a j)
    ((∑ e : Fin 128, X (ix4 0 r (row b a) (col h e)) * X (ix4 1 r (keyRow b j) (col h e)))
        * Ideal.log (Ideal.ofBits .f32 1073741824#32) - slope h * gap a j) (Ideal.ofBits .f32 4286578688#32)

/-- The masked logits at an index, from the queries and keys. -/
theorem logitsOf_at (Q : FVec Ideal S1x64x128x4x128 .f32) (K : FVec Ideal S1x64x256x4x128 .f32) (r : Fin 1) (h : Fin 4) (b : Fin 64)
    (a : Fin 128) (j : Fin 256) : logitsOf Q K (ix5 r h b a j) = Scalar.select (seen b a j)
      ((∑ e, Q (ix5 r b a h e) * K (ix5 r b j h e)) * Ideal.log (Ideal.ofBits .f32 1073741824#32) - slope h * gap a j)
      (Ideal.ofBits .f32 4286578688#32) := by
  unfold logitsOf
  pointwise [keep, steps, slopes]
  rw [add_comm (1 : EReal)]
  rfl

/-- The logits at an index. -/
theorem logits_at (X : FVec Ideal S3x1x8192x512 .bf16) (r : Fin 1) (h : Fin 4) (b : Fin 64) (a : Fin 128) (j : Fin 256) :
    logits X (ix5 r h b a j) = logit X r b h a j := by
  unfold logits
  rw [logitsOf_at]
  unfold logit
  by_cases hs : seen b a j = 1#1
  · rw [Finset.sum_congr rfl fun e _ => by rw [qs_at X r b a h e, ks_at X r b j h e (has_of_seen hs)]]
  · have h0 : seen b a j = 0#1 := by
      generalize seen b a j = w at hs ⊢
      revert w; decide
    rw [h0, Cert.DilRefIdeal.AttValue.select_zero, Cert.DilRefIdeal.AttValue.select_zero]

/-- The largest logit at an index. -/
theorem best_at (L : FVec Ideal S1x4x64x128x256 .f32) (r : Fin 1) (h : Fin 4) (b : Fin 64) (a : Fin 128) :
    best L (ix4 r h b a) = Finset.univ.fold max (Ideal.ofBits .f32 0xFF800000#32) fun j => L (ix5 r h b a j) := by
  obtain rfl : r = 0 := Subsingleton.elim _ _
  unfold best
  pointwise

/-- The sum over the keys at an index. -/
theorem total_at (L : FVec Ideal S1x4x64x128x256 .f32) (r : Fin 1) (h : Fin 4) (b : Fin 64) (a : Fin 128) :
    total L (ix4 r h b a) = ∑ j, L (ix5 r h b a j) := by
  obtain rfl : r = 0 := Subsingleton.elim _ _
  unfold total
  pointwise

/-- A sum of two arrays of which the second is a logarithm, at an index. -/
theorem addLog_at (B T : FVec Ideal S1x4x64x128 .f32) (i : S1x4x64x128.Idx) : addf B (Host.log T) i = B i + Ideal.log (T i) := rfl

/-- The exponentials of the logits less a value per query, at an index. -/
theorem expSub_at (L : FVec Ideal S1x4x64x128x256 .f32) (B : FVec Ideal S1x4x64x128 .f32) (r : Fin 1) (h : Fin 4) (b : Fin 64) (a : Fin 128)
    (j : Fin 256) : Host.exp (subf L (perQuery B)) (ix5 r h b a j) = Ideal.exp (L (ix5 r h b a j) - B (ix4 r h b a)) := by
  obtain rfl : r = 0 := Subsingleton.elim _ _
  pointwise [perQuery]

/-- The logarithm of the sum of exponentials at an index. -/
theorem logSum_at (L : FVec Ideal S1x4x64x128x256 .f32) (r : Fin 1) (h : Fin 4) (b : Fin 64) (a : Fin 128) :
    logSum L (ix4 r h b a) = best L (ix4 r h b a) + Ideal.log (∑ j, Ideal.exp (L (ix5 r h b a j) - best L (ix4 r h b a))) := by
  rw [logSum, addLog_at, total_at]
  simp only [expSub_at]

/-- The first result at an index. -/
theorem outOf_at (L : FVec Ideal S1x4x64x128x256 .f32) (v : FVec Ideal S1x64x256x4x128 .f32) (r : Fin 1) (b : Fin 64) (h : Fin 4) (a e : Fin 128) :
    outOf L v (ix3 r (row b a) (col h e)) = ∑ j, v (ix5 r b j h e) * Ideal.exp (L (ix5 r h b a j) - logSum L (ix4 r h b a)) := by
  obtain rfl : r = 0 := Subsingleton.elim _ _
  unfold outOf
  generalize logSum L = B
  pointwise [perQuery]
  have e1 : (⟨(row b a).val / 128, by omega⟩ : Fin 64) = b := Fin.ext (by show (b.val * 128 + a.val) / 128 = b.val; omega)
  have e2 : (⟨(col h e).val / 128, by omega⟩ : Fin 4) = h := Fin.ext (by show (h.val * 128 + e.val) / 128 = h.val; omega)
  have e3 : (⟨(row b a).val % 128, by omega⟩ : Fin 128) = a := Fin.ext (by show (b.val * 128 + a.val) % 128 = a.val; omega)
  have e4 : (⟨(col h e).val % 128, by omega⟩ : Fin 128) = e := Fin.ext (by show (h.val * 128 + e.val) % 128 = e.val; omega)
  simp only [e1, e2, e3, e4]

/-- The second result at an index. -/
theorem lseOf_at (L : FVec Ideal S1x4x64x128x256 .f32) (r : Fin 1) (b : Fin 64) (h : Fin 4) (a e : Fin 128) :
    lseOf L (ix3 r (row b a) (col h e)) = Ideal.div (logSum L (ix4 r h b a)) (Ideal.log (Ideal.ofBits .f32 1073741824#32)) := by
  obtain rfl : r = 0 := Subsingleton.elim _ _
  unfold lseOf
  generalize logSum L = B
  pointwise
  have e1 : (⟨(row b a).val / 128, by omega⟩ : Fin 64) = b := Fin.ext (by show (b.val * 128 + a.val) / 128 = b.val; omega)
  have e2 : (⟨(col h e).val / 128, by omega⟩ : Fin 4) = h := Fin.ext (by show (h.val * 128 + e.val) / 128 = h.val; omega)
  have e3 : (⟨(row b a).val % 128, by omega⟩ : Fin 128) = a := Fin.ext (by show (b.val * 128 + a.val) % 128 = a.val; omega)
  simp only [e1, e2, e3]

end Cert.Dil1RefIdeal.AttValue
end
-- ==== Proof.Dil1.lean ====
module

public import proofs.«01_k».proof.Defs
public import proofs.«01_k».proof.Proof.Dil
public import proofs.«01_k».proof.Proof.Dil1Out
public import proofs.«01_k».proof.Proof.Dil1Lse
public import proofs.«01_k».proof.Proof.Gen.Dil1Ideal.Value
public import proofs.«01_k».proof.Proof.Gen.Dil1RefIdeal.Run
public import proofs.«01_k».proof.Proof.Dil1Bias
public import proofs.«01_k».proof.Proof.Dil1RefAt
public import proofs.«01_k».proof.Proof.Softmax
public import proofs.«01_k».proof.Proof.Gen.Dil1.Frame
public import proofs.«01_k».proof.Proof.Gen.Pre_finite1
public import Idealize.ShloMosaic.Lib.ReduceAll

@[expose] public section

/-!
# The dilated attention: the kernel against the reference

Under the precondition queries and keys are real numbers. Then a score of the kernel and the reference's logit of the same
query and key are both hidden, or both real and a factor log 2 apart, and the two softmaxes are equal.
-/

set_option maxRecDepth 16384
noncomputable section

open Idealize.ShloMosaic Idealize.ShloMosaic.TcCoe Idealize.SL.Sem

namespace Cert.Dil1Ideal.AttValue
open Cert.Dil1Ideal Cert.Dil1Ideal.Gen
open Cert.DilIdeal.AttValue (top mass attend lse2 col sum_halves stepWord real_of_abs div_log_two select_one select_zero ln2 ln2_pos bits_bot bits_two log_two Tied coe_sum attend_eq lse_ofs)

/-! ## The precondition -/

instance : Subsingleton Cert.Pre_finite1.S_.Idx := ⟨fun a b => funext fun i => i.elim0⟩

set_option maxHeartbeats 1000000 in
/-- Under the precondition every query and key is a real number. -/
theorem real_of_pre (X : FVec Ideal S3x1x8192x512 .bf16) (h : Cert.Pre_finite1.fn (F := Ideal) X = fun _ => 1#1) (w : Fin 2)
    (r : Fin 1) (n : Fin 8192) (k : Fin 512) : ∃ x : ℝ, X (ix4 ⟨w.val, by omega⟩ r n k) = (x : EReal) := by
  obtain rfl : r = 0 := Subsingleton.elim _ _
  have h1 := congrFun h ix0
  unfold Cert.Pre_finite1.fn at h1
  dsimp only at h1
  have h2 := Host.reduce_andi_all _ _ _ _ _ h1 (ix4 w 0 n k)
  pointwise at h2
  refine real_of_abs _ (Eq.trans ?_ h2)
  rfl

/-! ## The scores and the logits -/

/-- A slope is a real number. -/
theorem slope_real (h : Fin 4) : ∃ σ : ℝ, slope h = (σ : EReal) := by
  have e1 : ∃ x : ℝ, Ideal.ofBits .f32 1060205080#32 = (x : EReal) := by
    simp only [Ideal.ofBits, Ideal.ieee]
    rw [if_neg (by decide), if_neg (by decide)]
    exact ⟨_, rfl⟩
  have e2 : ∃ x : ℝ, Ideal.ofBits .f32 3238002688#32 = (x : EReal) := by
    simp only [Ideal.ofBits, Ideal.ieee]
    rw [if_neg (by decide), if_neg (by decide)]
    exact ⟨_, rfl⟩
  have e3 : Ideal.ofBits .f32 1101004800#32 = ((20 : ℝ) : EReal) := by
    simp [Ideal.ofBits, Ideal.ieee, -EReal.coe_mul]; norm_num
  obtain ⟨x, hx⟩ := e1
  obtain ⟨y, hy⟩ := e2
  refine ⟨Real.exp (x * (y * (((BitVec.ofNat 32 (h.val)).toInt : ℝ) + 1) * (1 / 20))), ?_⟩
  unfold slope
  rw [hx, hy, e3, Ideal.div_coe (by norm_num)]
  show Ideal.exp ((x : EReal) * ((y : EReal) * ((((BitVec.ofNat 32 (h.val)).toInt : ℝ) : EReal) + ((1 : ℝ) : EReal)) * ((1 / 20 : ℝ) : EReal))) = _
  rw [← EReal.coe_add, ← EReal.coe_mul, ← EReal.coe_mul, ← EReal.coe_mul, Ideal.exp_coe]

variable (m : (ℓ : Loc nD τ sig) → Buf (Elt Ideal) ℓ) (c : Dev nD)

/-- A product of a query and a key is a real number. -/
theorem dot_real (hX : ∀ (w : Fin 2) (r : Fin 1) (n : Fin 8192) (k : Fin 512), ∃ x : ℝ, qkv m c (ix4 ⟨w.val, by omega⟩ r n k) = (x : EReal))
    (r : Fin 1) (n n' : Fin 8192) (h : Fin 4) :
    ∃ d : ℝ, (∑ e : Fin 128, qkv m c (ix4 0 r n (col h e)) * qkv m c (ix4 1 r n' (col h e))) = (d : EReal) := by
  choose q hq using fun e => hX 0 r n (col h e)
  choose k hk using fun e => hX 1 r n' (col h e)
  refine ⟨∑ e, q e * k e, ?_⟩
  rw [coe_sum]
  refine Finset.sum_congr rfl fun e _ => ?_
  rw [EReal.coe_mul, ← hq, ← hk]
  rfl

open Cert.Dil1RefIdeal.AttValue (logit) in
/-- A score and its logit belong together, and the score of a key that is seen is not hidden. -/
theorem tied_at (hX : ∀ (w : Fin 2) (r : Fin 1) (n : Fin 8192) (k : Fin 512), ∃ x : ℝ, qkv m c (ix4 ⟨w.val, by omega⟩ r n k) = (x : EReal))
    (r : Fin 1) (b : Fin 64) (h : Fin 4) (a : Fin 128) (j : Fin 256) :
    Tied (score (qkv m c) (bias m c) r b h a j) (logit (qkv m c) r b h a j)
      ∧ (seen b a j = 1#1 → score (qkv m c) (bias m c) r b h a j ≠ ⊥) ∧ (seen b a j ≠ 1#1 → logit (qkv m c) r b h a j = ⊥) := by
  obtain ⟨d, hd⟩ := dot_real m c hX r (row b a) (keyRow b j) h
  obtain ⟨σ, hσ⟩ := slope_real h
  have hg : gap a j = (((IntOp.muli (stepWord a j) 1#32).toInt : ℝ) : EReal) := rfl
  generalize ((IntOp.muli (stepWord a j) 1#32).toInt : ℝ) = g at hg
  unfold score logit
  rw [bias_at, hd, log_two, hg]
  by_cases hs : seen b a j = 1#1
  · rw [hs, select_one, select_one]
    rw [← log_two, hσ, div_log_two, log_two, ← EReal.coe_neg, ← EReal.coe_mul, ← EReal.coe_add, ← EReal.coe_mul, ← EReal.coe_mul,
      ← EReal.coe_sub]
    refine ⟨Or.inr ⟨_, rfl, congrArg _ ?_⟩, fun _ => EReal.coe_ne_bot _, fun hn => absurd rfl hn⟩
    have := ln2_pos.ne'
    field_simp
    ring
  · have h0 : seen b a j = 0#1 := by
      generalize seen b a j = w at hs ⊢
      revert w; decide
    rw [h0, select_zero, select_zero, bits_bot, EReal.add_bot]
    exact ⟨Or.inl ⟨rfl, rfl⟩, fun hn => absurd hn (by decide), fun _ => rfl⟩

/-! ## The results -/

section Results

open Cert.Dil1RefIdeal.AttValue

variable (hX : ∀ (w : Fin 2) (r : Fin 1) (n : Fin 8192) (k : Fin 512), ∃ x : ℝ, qkv m c (ix4 ⟨w.val, by omega⟩ r n k) = (x : EReal))

include hX

omit hX in
/-- Two arrays equal at every residue, block, query, head and lane are equal. -/
theorem by_rows (f g : S1x8192x512.Idx → EReal)
    (hfg : ∀ (r : Fin 1) (b : Fin 64) (h : Fin 4) (a e : Fin 128), f (ix3 r (row b a) (col h e)) = g (ix3 r (row b a) (col h e))) : f = g := by
  funext i
  idx_vars i
  have := hfg i0 ⟨i1.val / 128, by omega⟩ ⟨i2.val / 128, by omega⟩ ⟨i1.val % 128, by omega⟩ ⟨i2.val % 128, by omega⟩
  have e1 : row ⟨i1.val / 128, by omega⟩ ⟨i1.val % 128, by omega⟩ = i1 :=
    Fin.ext (by show i1.val / 128 * 128 + i1.val % 128 = i1.val; omega)
  have e2 : col ⟨i2.val / 128, by omega⟩ ⟨i2.val % 128, by omega⟩ = i2 :=
    Fin.ext (by show i2.val / 128 * 128 + i2.val % 128 = i2.val; omega)
  rwa [e1, e2] at this

/-- The reference's first result is the kernel's. -/
theorem out_ref : outOf (logits (qkv m c)) (vs (qkv m c)) = out m c := by
  refine by_rows _ _ fun r b h a e => ?_
  rw [out_eq m c (ix3 r (row b a) (col h e)) r b h a e rfl rfl rfl, outOf_at, logSum_at, best_at]
  simp only [logits_at]
  symm
  refine (attend_eq _ (logit (qkv m c) r b h a) _ (fun j => vs (qkv m c) (ix5 r b j h e)) (fun j => (tied_at m c hX r b h a j).1)
    ⟨128 + a.val, by omega⟩ ((tied_at m c hX r b h a _).2.1 (seen_self b a)) fun j hj => ?_).trans rfl
  by_cases hs : seen b a j = 1#1
  · exact (vs_at (qkv m c) r b j h e (has_of_seen hs)).symm
  · exact absurd ((tied_at m c hX r b h a j).2.2 hs) hj

/-- The reference's second result is the kernel's. -/
theorem lse_ref : lseOf (logits (qkv m c)) = lse m c := by
  refine by_rows _ _ fun r b h a e => ?_
  rw [lse_eq m c (ix3 r (row b a) (col h e)) r b h a e rfl rfl rfl, lseOf_at, logSum_at, best_at]
  simp only [logits_at]
  symm
  exact (lse_ofs _ (logit (qkv m c) r b h a) (fun j => (tied_at m c hX r b h a j).1)
    ⟨128 + a.val, by omega⟩ ((tied_at m c hX r b h a _).2.1 (seen_self b a))).trans rfl

end Results

end Cert.Dil1Ideal.AttValue

namespace Cert.Dil1Claims

/-- The kernel runs, and leaves its arguments and its semaphores. -/
theorem frame_p : Cert.quiescent_Dil1 := fun m ρ _ => Cert.Dil1.Gen.frame m ρ

/-- So does its idealization. -/
theorem frame_pi : Cert.quiescent_Dil1Ideal := fun m ρ _ => Cert.Dil1Ideal.Gen.frame m ρ

/-- And under the precondition. -/
theorem frame_pi_pre : Cert.quiescent_Dil1Ideal_pre_finite1 := fun m ρ _ => Cert.Dil1Ideal.Gen.frame m ρ

/-- The reference's run leaves its argument and has no semaphore. -/
theorem frame_ref (m : (ℓ : Loc Cert.Dil1RefIdeal.nD Cert.Dil1RefIdeal.τ Cert.Dil1RefIdeal.sig) → Buf (Elt Ideal) ℓ) (ρ) :
    θ_run Cert.Dil1RefIdeal.defs (onTc (τ := Cert.Dil1RefIdeal.τ) (Cert.Dil1RefIdeal.main (F := Ideal))) ⟨m, fun _ => 0, ρ⟩ (fun r =>
      (∀ c : Dev Cert.Dil1RefIdeal.nD, r.2.mem ((c.tc : Thread Cert.Dil1RefIdeal.nD Cert.Dil1RefIdeal.τ).loc Cert.Dil1RefIdeal.main_arg0)
        = m ((c.tc : Thread Cert.Dil1RefIdeal.nD Cert.Dil1RefIdeal.τ).loc Cert.Dil1RefIdeal.main_arg0)) ∧ r.2.sem = fun _ => 0) :=
  (θ_run Cert.Dil1RefIdeal.defs _ _).mono (fun r h => ⟨fun c => (h c).2.2, sem_eq_zero_of_no_sems (by decide) r.2⟩)
    (Cert.Dil1RefIdeal.Value.run (F := Ideal) m ρ)

/-- So does the reference. -/
theorem frame_ri : Cert.quiescent_Dil1RefIdeal := fun m ρ _ => frame_ref m ρ

/-- And under the precondition. -/
theorem frame_ri_pre : Cert.quiescent_Dil1RefIdeal_pre_finite1 := fun m ρ _ => frame_ref m ρ

/-- The named constant is the reciprocal of the logarithm of two. -/
theorem preserves : Cert.preserves_Dil1_Dil1Ideal :=
  IdealRules.named_const.statement Cert.Dil1Ideal.κ "log2e" .f32 0x3FB8AA3B#32 (((Real.log 2)⁻¹ : ℝ) : EReal) rfl

/-- Kernel and reference end with the same two arrays. -/
theorem algebraic : Cert.algebraic_Dil1Ideal_Dil1RefIdeal_pre_finite1 := fun m ρ m' ρ' hp hag => by
  have hX := fun c => Cert.Dil1Ideal.AttValue.real_of_pre _ (hp c)
  refine ⟨fun c => Cert.Dil1Ideal.AttValue.out m c, fun c => Cert.Dil1Ideal.AttValue.lse m c, ?_, ?_⟩
  · exact (θ_run Cert.Dil1Ideal.defs _ _).mono (fun r h c => ⟨(h c).1.trans (Cert.Dil1Ideal.AttValue.arr6 m c),
      (h c).2.1.trans (Cert.Dil1Ideal.AttValue.arr7 m c), (h c).2.2⟩) (Cert.Dil1Ideal.Value.run_blocks m ρ)
  · refine (θ_run Cert.Dil1RefIdeal.defs _ _).mono (fun r h c => ⟨(h c).1.trans ?_, (h c).2.1.trans ?_, (h c).2.2⟩)
      (Cert.Dil1RefIdeal.Value.run m' ρ')
    · refine (Cert.Dil1RefIdeal.AttValue.out_stages m' c).trans ?_
      rw [hag c]
      exact Cert.Dil1Ideal.AttValue.out_ref m c (hX c)
    · refine (Cert.Dil1RefIdeal.AttValue.lse_stages m' c).trans ?_
      rw [hag c]
      exact Cert.Dil1Ideal.AttValue.lse_ref m c (hX c)

end Cert.Dil1Claims
end
-- ==== Proof.lean ====
module

public import proofs.«01_k».proof.Defs
public import proofs.«01_k».proof.Proof.Gen.Dil
public import proofs.«01_k».proof.Proof.Gen.DilIdeal
public import proofs.«01_k».proof.Proof.Gen.DilRefIdeal
public import proofs.«01_k».proof.Proof.Gen.Up
public import proofs.«01_k».proof.Proof.Gen.UpIdeal
public import proofs.«01_k».proof.Proof.Gen.UpRefIdeal
public import proofs.«01_k».proof.Proof.Gen.Down
public import proofs.«01_k».proof.Proof.Gen.DownIdeal
public import proofs.«01_k».proof.Proof.Gen.DownRefIdeal
public import proofs.«01_k».proof.Proof.Gen.Gates
public import proofs.«01_k».proof.Proof.Gen.GatesIdeal
public import proofs.«01_k».proof.Proof.Gen.GatesRefIdeal
public import proofs.«01_k».proof.Proof.Gen.Query
public import proofs.«01_k».proof.Proof.Gen.QueryIdeal
public import proofs.«01_k».proof.Proof.Gen.QueryRefIdeal
public import proofs.«01_k».proof.Proof.Gen.Vals
public import proofs.«01_k».proof.Proof.Gen.ValsIdeal
public import proofs.«01_k».proof.Proof.Gen.ValsRefIdeal
public import proofs.«01_k».proof.Proof.Gen.Keys
public import proofs.«01_k».proof.Proof.Gen.KeysIdeal
public import proofs.«01_k».proof.Proof.Gen.KeysRefIdeal
public import proofs.«01_k».proof.Proof.Gen.Idx
public import proofs.«01_k».proof.Proof.Gen.IdxIdeal
public import proofs.«01_k».proof.Proof.Gen.IdxRefIdeal
public import proofs.«01_k».proof.Proof.Gen.Qkv1
public import proofs.«01_k».proof.Proof.Gen.Qkv1Ideal
public import proofs.«01_k».proof.Proof.Gen.Qkv1RefIdeal
public import proofs.«01_k».proof.Proof.Gen.Qkv4
public import proofs.«01_k».proof.Proof.Gen.Qkv4Ideal
public import proofs.«01_k».proof.Proof.Gen.Qkv4RefIdeal
public import proofs.«01_k».proof.Proof.Gen.Qkv16
public import proofs.«01_k».proof.Proof.Gen.Qkv16Ideal
public import proofs.«01_k».proof.Proof.Gen.Qkv16RefIdeal
public import proofs.«01_k».proof.Proof.Gen.Merge
public import proofs.«01_k».proof.Proof.Gen.MergeIdeal
public import proofs.«01_k».proof.Proof.Gen.MergeRefIdeal
public import proofs.«01_k».proof.Proof.Gen.Dil4
public import proofs.«01_k».proof.Proof.Gen.Dil4Ideal
public import proofs.«01_k».proof.Proof.Gen.Dil4RefIdeal
public import proofs.«01_k».proof.Proof.Gen.Dil1
public import proofs.«01_k».proof.Proof.Gen.Dil1Ideal
public import proofs.«01_k».proof.Proof.Gen.Dil1RefIdeal
public import proofs.«01_k».proof.Proof.Gen.Pre_finite
public import proofs.«01_k».proof.Proof.Gen.Pre_finite4
public import proofs.«01_k».proof.Proof.Gen.Pre_finite1
public import proofs.«01_k».proof.Proof.Dil
public import proofs.«01_k».proof.Proof.Up
public import proofs.«01_k».proof.Proof.Down
public import proofs.«01_k».proof.Proof.Gates
public import proofs.«01_k».proof.Proof.Query
public import proofs.«01_k».proof.Proof.Vals
public import proofs.«01_k».proof.Proof.Keys
public import proofs.«01_k».proof.Proof.Idx
public import proofs.«01_k».proof.Proof.Qkv1
public import proofs.«01_k».proof.Proof.Qkv4
public import proofs.«01_k».proof.Proof.Qkv16
public import proofs.«01_k».proof.Proof.Merge
public import proofs.«01_k».proof.Proof.Dil4
public import proofs.«01_k».proof.Proof.Dil1
public import Idealize.ShloMosaic.Adequacy
public import Idealize.ShloMosaic.Init

@[expose] public section

/-!
# The claim

The programs' stated facts, then the frames of every program, then for each kernel that its idealization is allowed and that it ends
with the arrays its reference ends with.
-/

noncomputable section

namespace Cert.Proof

open Idealize.ShloMosaic Idealize.SL.Sem

/-- Everything this certificate claims. -/
theorem claim : Cert.Claim :=
  ⟨Cert.Dil.Gen.facts,
    Cert.DilIdeal.Gen.facts,
    Cert.DilRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Gates.Gen.facts,
    Cert.GatesIdeal.Gen.facts,
    Cert.GatesRefIdeal.Gen.facts,
    Cert.Query.Gen.facts,
    Cert.QueryIdeal.Gen.facts,
    Cert.QueryRefIdeal.Gen.facts,
    Cert.Vals.Gen.facts,
    Cert.ValsIdeal.Gen.facts,
    Cert.ValsRefIdeal.Gen.facts,
    Cert.Keys.Gen.facts,
    Cert.KeysIdeal.Gen.facts,
    Cert.KeysRefIdeal.Gen.facts,
    Cert.Idx.Gen.facts,
    Cert.IdxIdeal.Gen.facts,
    Cert.IdxRefIdeal.Gen.facts,
    Cert.Qkv1.Gen.facts,
    Cert.Qkv1Ideal.Gen.facts,
    Cert.Qkv1RefIdeal.Gen.facts,
    Cert.Qkv4.Gen.facts,
    Cert.Qkv4Ideal.Gen.facts,
    Cert.Qkv4RefIdeal.Gen.facts,
    Cert.Qkv16.Gen.facts,
    Cert.Qkv16Ideal.Gen.facts,
    Cert.Qkv16RefIdeal.Gen.facts,
    Cert.Merge.Gen.facts,
    Cert.MergeIdeal.Gen.facts,
    Cert.MergeRefIdeal.Gen.facts,
    Cert.Dil4.Gen.facts,
    Cert.Dil4Ideal.Gen.facts,
    Cert.Dil4RefIdeal.Gen.facts,
    Cert.Dil1.Gen.facts,
    Cert.Dil1Ideal.Gen.facts,
    Cert.Dil1RefIdeal.Gen.facts,
    Cert.Pre_finite.Gen.facts,
    Cert.Pre_finite4.Gen.facts,
    Cert.Pre_finite1.Gen.facts,
    Cert.DilClaims.frame_p,
    Cert.DilClaims.frame_pi,
    Cert.DilClaims.frame_pi_pre,
    Cert.DilClaims.frame_ri,
    Cert.DilClaims.frame_ri_pre,
    Cert.UpClaims.frame_p,
    Cert.UpClaims.frame_pi,
    Cert.UpClaims.frame_ri,
    Cert.DownClaims.frame_p,
    Cert.DownClaims.frame_pi,
    Cert.DownClaims.frame_ri,
    Cert.GatesClaims.frame_p,
    Cert.GatesClaims.frame_pi,
    Cert.GatesClaims.frame_ri,
    Cert.QueryClaims.frame_p,
    Cert.QueryClaims.frame_pi,
    Cert.QueryClaims.frame_ri,
    Cert.ValsClaims.frame_p,
    Cert.ValsClaims.frame_pi,
    Cert.ValsClaims.frame_ri,
    Cert.KeysClaims.frame_p,
    Cert.KeysClaims.frame_pi,
    Cert.KeysClaims.frame_ri,
    Cert.IdxClaims.frame_p,
    Cert.IdxClaims.frame_pi,
    Cert.IdxClaims.frame_ri,
    Cert.Qkv1Claims.frame_p,
    Cert.Qkv1Claims.frame_pi,
    Cert.Qkv1Claims.frame_ri,
    Cert.Qkv4Claims.frame_p,
    Cert.Qkv4Claims.frame_pi,
    Cert.Qkv4Claims.frame_ri,
    Cert.Qkv16Claims.frame_p,
    Cert.Qkv16Claims.frame_pi,
    Cert.Qkv16Claims.frame_ri,
    Cert.MergeClaims.frame_p,
    Cert.MergeClaims.frame_pi,
    Cert.MergeClaims.frame_ri,
    Cert.Dil4Claims.frame_p,
    Cert.Dil4Claims.frame_pi,
    Cert.Dil4Claims.frame_pi_pre,
    Cert.Dil4Claims.frame_ri,
    Cert.Dil4Claims.frame_ri_pre,
    Cert.Dil1Claims.frame_p,
    Cert.Dil1Claims.frame_pi,
    Cert.Dil1Claims.frame_pi_pre,
    Cert.Dil1Claims.frame_ri,
    Cert.Dil1Claims.frame_ri_pre,
    Cert.DilClaims.preserves,
    Cert.DilClaims.algebraic,
    Cert.UpClaims.preserves,
    Cert.UpClaims.algebraic,
    Cert.DownClaims.preserves,
    Cert.DownClaims.algebraic,
    Cert.GatesClaims.preserves,
    Cert.GatesClaims.algebraic,
    Cert.QueryClaims.preserves,
    Cert.QueryClaims.algebraic,
    Cert.ValsClaims.preserves,
    Cert.ValsClaims.algebraic,
    Cert.KeysClaims.preserves,
    Cert.KeysClaims.algebraic,
    Cert.IdxClaims.preserves,
    Cert.IdxClaims.algebraic,
    Cert.Qkv1Claims.preserves,
    Cert.Qkv1Claims.algebraic,
    Cert.Qkv4Claims.preserves,
    Cert.Qkv4Claims.algebraic,
    Cert.Qkv16Claims.preserves,
    Cert.Qkv16Claims.algebraic,
    Cert.MergeClaims.preserves,
    Cert.MergeClaims.algebraic,
    Cert.Dil4Claims.preserves,
    Cert.Dil4Claims.algebraic,
    Cert.Dil1Claims.preserves,
    Cert.Dil1Claims.algebraic⟩

end Cert.Proof

end
